-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_finite27 [hPre_finite27 : Cert.Pre_finite27.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_finite27.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2))) = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_finite27 [hPre_finite27 : Cert.Pre_finite27.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_finite27.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2))) = (fun _ => 1#1)

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite27 [hPre_finite27 : Cert.Pre_finite27.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite27.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite27 [hPre_finite27 : Cert.Pre_finite27.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite27.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Kernel27Ideal_pre_finite27 [hKernel27Ideal : Cert.Kernel27Ideal.Facts] [hPre_finite27 : Cert.Pre_finite27.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_finite27 m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Reference27Ideal_pre_finite27 [hReference27Ideal : Cert.Reference27Ideal.Facts] [hPre_finite27 : Cert.Pre_finite27.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_finite27 m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Kernel28Ideal_pre_finite27 [hKernel28Ideal : Cert.Kernel28Ideal.Facts] [hPre_finite27 : Cert.Pre_finite27.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite27 m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Reference28Ideal_pre_finite27 [hReference28Ideal : Cert.Reference28Ideal.Facts] [hPre_finite27 : Cert.Pre_finite27.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite27 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_v12) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v7) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v7) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  IdealRules.named_const.Statement Cert.Kernel27Ideal.κ "mask" .f32 0xF149F2CA#32 ⊥

def algebraic_Kernel27Ideal_Reference27Ideal_pre_finite27 [hKernel27Ideal : Cert.Kernel27Ideal.Facts] [hReference27Ideal : Cert.Reference27Ideal.Facts] [hPre_finite27 : Cert.Pre_finite27.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_finite27 m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v53_0)) (v1 : (c : Dev Cert.Kernel27Ideal.nD) → Buf (Elt Ideal) ((c.tc : Thread Cert.Kernel27Ideal.nD Cert.Kernel27Ideal.τ).loc Cert.Kernel27Ideal.main_v53_1)) (v2 : (c : Dev Cert.Kernel27Ideal.nD) → Buf (Elt Ideal) ((c.tc : Thread Cert.Kernel27Ideal.nD Cert.Kernel27Ideal.τ).loc Cert.Kernel27Ideal.main_v53_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v53_0) = v0 c
          ∧ r.2.mem ((c.tc : Thread Cert.Kernel27Ideal.nD Cert.Kernel27Ideal.τ).loc Cert.Kernel27Ideal.main_v53_1) = v1 c
          ∧ r.2.mem ((c.tc : Thread Cert.Kernel27Ideal.nD Cert.Kernel27Ideal.τ).loc Cert.Kernel27Ideal.main_v53_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v87) = v0 c
          ∧ r.2.mem ((c.tc : Thread Cert.Reference27Ideal.nD Cert.Reference27Ideal.τ).loc Cert.Reference27Ideal.main_v90) = v1 c
          ∧ r.2.mem ((c.tc : Thread Cert.Reference27Ideal.nD Cert.Reference27Ideal.τ).loc Cert.Reference27Ideal.main_v92) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  IdealRules.named_const.Statement Cert.Kernel28Ideal.κ "mask" .f32 0xF149F2CA#32 ⊥

def algebraic_Kernel28Ideal_Reference28Ideal_pre_finite27 [hKernel28Ideal : Cert.Kernel28Ideal.Facts] [hReference28Ideal : Cert.Reference28Ideal.Facts] [hPre_finite27 : Cert.Pre_finite27.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite27 m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v39_0)) (v1 : (c : Dev Cert.Kernel28Ideal.nD) → Buf (Elt Ideal) ((c.tc : Thread Cert.Kernel28Ideal.nD Cert.Kernel28Ideal.τ).loc Cert.Kernel28Ideal.main_v39_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v39_0) = v0 c
          ∧ r.2.mem ((c.tc : Thread Cert.Kernel28Ideal.nD Cert.Kernel28Ideal.τ).loc Cert.Kernel28Ideal.main_v39_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v79) = v0 c
          ∧ r.2.mem ((c.tc : Thread Cert.Reference28Ideal.nD Cert.Reference28Ideal.τ).loc Cert.Reference28Ideal.main_v81) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts) (hPre_finite5 : Cert.Pre_finite5.Facts) (hPre_finite27 : Cert.Pre_finite27.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Kernel27Ideal_pre_finite27 (hKernel27Ideal := hKernel27Ideal) (hPre_finite27 := hPre_finite27)
    ∧ quiescent_Reference27Ideal (hReference27Ideal := hReference27Ideal)
    ∧ quiescent_Reference27Ideal_pre_finite27 (hReference27Ideal := hReference27Ideal) (hPre_finite27 := hPre_finite27)
    ∧ quiescent_Kernel28 (hKernel28 := hKernel28)
    ∧ quiescent_Kernel28Ideal (hKernel28Ideal := hKernel28Ideal)
    ∧ quiescent_Kernel28Ideal_pre_finite27 (hKernel28Ideal := hKernel28Ideal) (hPre_finite27 := hPre_finite27)
    ∧ quiescent_Reference28Ideal (hReference28Ideal := hReference28Ideal)
    ∧ quiescent_Reference28Ideal_pre_finite27 (hReference28Ideal := hReference28Ideal) (hPre_finite27 := hPre_finite27)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal_pre_finite27 (hKernel27Ideal := hKernel27Ideal) (hReference27Ideal := hReference27Ideal) (hPre_finite27 := hPre_finite27)
    ∧ preserves_Kernel28_Kernel28Ideal
    ∧ algebraic_Kernel28Ideal_Reference28Ideal_pre_finite27 (hKernel28Ideal := hKernel28Ideal) (hReference28Ideal := hReference28Ideal) (hPre_finite27 := hPre_finite27)
-- ==== Pre_finite.lean ====
abbrev S8192x6144 : Shape := ⟨2, ![8192, 6144]⟩
abbrev S256x1024 : Shape := ⟨2, ![256, 1024]⟩
abbrev S8192x512 : Shape := ⟨2, ![8192, 512]⟩
abbrev S_ : Shape := ⟨0, ![]⟩
abbrev S256x512 : Shape := ⟨2, ![256, 512]⟩

class Facts : Prop where
  slices_S8192x6144_S8192x512_0_5504 : S8192x6144.Slices ![0, 5504] S8192x512
  bcast_S_S8192x512 : S_.BroadcastsInDim S8192x512 (![] : Fin 0 → Fin S8192x512.rank)
  reducesTo_S8192x512_S_d0_1 : S8192x512.ReducesTo [0, 1] S_
  h_S_ : 0 < S_.numel
  slices_S256x1024_S256x512_0_0 : S256x1024.Slices ![0, 0] S256x512
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x6144 .f32) (main_arg1 : FVec F S256x1024 .f32) (main_arg2 : FVec F S8192x512 .f32) : IVec S_ 1 :=
  let main_v0 : FVec F S8192x512 .f32 := (extractStridedSlice S8192x512 ![0, 5504] · slices_S8192x6144_S8192x512_0_5504) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S256x512 .f32 := (extractStridedSlice S256x512 ![0, 0] · slices_S256x1024_S256x512_0_0) main_arg1
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  let main_c_1 : IVec S_ 1 := constantI S_ 1 1#1
  let main_v9 : IVec S_ 1 := (fun x v => Host.reduce IntOp.andi x v reducesTo_S256x512_S_d0_1 h_S_) main_v8 main_c_1
  let main_v10 : IVec S_ 1 := andi main_v4 main_v9
  main_v10
-- ==== Pre_finite27.lean ====
abbrev S8192x6144 : Shape := ⟨2, ![8192, 6144]⟩
abbrev S6x8192 : Shape := ⟨2, ![6, 8192]⟩
abbrev S8192x768 : Shape := ⟨2, ![8192, 768]⟩
abbrev S8192x2304 : Shape := ⟨2, ![8192, 2304]⟩
abbrev S_ : Shape := ⟨0, ![]⟩

class Facts : Prop where
  slices_S8192x6144_S8192x2304_0_3072 : S8192x6144.Slices ![0, 3072] S8192x2304
  bcast_S_S8192x2304 : S_.BroadcastsInDim S8192x2304 (![] : Fin 0 → Fin S8192x2304.rank)
  reducesTo_S8192x2304_S_d0_1 : S8192x2304.ReducesTo [0, 1] S_
  h_S_ : 0 < S_.numel
  bcast_S_S6x8192 : S_.BroadcastsInDim S6x8192 (![] : Fin 0 → Fin S6x8192.rank)
  reducesTo_S6x8192_S_d0_1 : S6x8192.ReducesTo [0, 1] S_
  bcast_S_S8192x768 : S_.BroadcastsInDim S8192x768 (![] : Fin 0 → Fin S8192x768.rank)
  reducesTo_S8192x768_S_d0_1 : S8192x768.ReducesTo [0, 1] S_

variable [Facts]

def fn {F : FTy → Type} [FloatOps F] (main_arg0 : FVec F S8192x6144 .f32) (main_arg1 : FVec F S6x8192 .f32) (main_arg2 : FVec F S8192x768 .f32) : IVec S_ 1 :=
  let main_v0 : FVec F S8192x2304 .f32 := (extractStridedSlice S8192x2304 ![0, 3072] · slices_S8192x6144_S8192x2304_0_3072) main_arg0
  let main_v1 : FVec F S8192x2304 .f32 := Host.absf main_v0
  let main_cst : FVec F S_ .f32 := constant S_ .f32 0x7F800000#32
  let main_v2 : FVec F S8192x2304 .f32 := broadcastInDim S8192x2304 ![] bcast_S_S8192x2304 main_cst
  let main_v3 : IVec S8192x2304 1 := cmpf .olt main_v1 main_v2
  let main_c : IVec S_ 1 := constantI S_ 1 1#1
  let main_v4 : IVec S_ 1 := (fun x v => Host.reduce IntOp.andi x v reducesTo_S8192x2304_S_d0_1 h_S_) main_v3 main_c
  let main_v5 : FVec F S6x8192 .f32 := Host.absf main_arg1
  let main_cst_0 : FVec F S_ .f32 := constant S_ .f32 0x7F800000#32
  let main_v6 : FVec F S6x8192 .f32 := broadcastInDim S6x8192 ![] bcast_S_S6x8192 main_cst_0
  let main_v7 : IVec S6x8192 1 := cmpf .olt main_v5 main_v6
  let main_c_1 : IVec S_ 1 := constantI S_ 1 1#1
  let main_v8 : IVec S_ 1 := (fun x v => Host.reduce IntOp.andi x v reducesTo_S6x8192_S_d0_1 h_S_) main_v7 main_c_1
  let main_v9 : IVec S_ 1 := andi main_v4 main_v8
  let main_v10 : FVec F S8192x768 .f32 := Host.absf main_arg2
  let main_cst_2 : FVec F S_ .f32 := constant S_ .f32 0x7F800000#32
  let main_v11 : FVec F S8192x768 .f32 := broadcastInDim S8192x768 ![] bcast_S_S8192x768 main_cst_2
  let main_v12 : IVec S8192x768 1 := cmpf .olt main_v10 main_v11
  let main_c_3 : IVec S_ 1 := constantI S_ 1 1#1
  let main_v13 : IVec S_ 1 := (fun x v => Host.reduce IntOp.andi x v reducesTo_S8192x768_S_d0_1 h_S_) main_v12 main_c_3
  let main_v14 : IVec S_ 1 := andi main_v9 main_v13
  main_v14
-- ==== Pre_finite5.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x2048 .bf16) (main_arg1 : FVec F S5632x2048 .bf16) (main_arg2 : FVec F S8192x5632 .bf16) (main_arg3 : FVec F S8192x5632 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S8192x5632 .f32 := (extf .f32 · bitsLt_bf16_f32) main_arg3
  let main_v12 : FVec F S8192x5632 .f32 := Host.absf main_v11
  let main_cst_2 : FVec F S_ .f32 := constant S_ .f32 0x7F800000#32
  let main_v13 : FVec F S8192x5632 .f32 := broadcastInDim S8192x5632 ![] bcast_S_S8192x5632 main_cst_2
  let main_v14 : IVec S8192x5632 1 := cmpf .olt main_v12 main_v13
  let main_c_3 : IVec S_ 1 := constantI S_ 1 1#1
  let main_v15 : IVec S_ 1 := (fun x v => Host.reduce IntOp.andi x v reducesTo_S8192x5632_S_d0_1 h_S_) main_v14 main_c_3
  let main_v16 : IVec S_ 1 := andi main_v10 main_v15
  main_v16
-- ==== Kernel.lean ====
abbrev S8192x6144 : Shape := ⟨2, ![8192, 6144]⟩
abbrev S256x1024 : Shape := ⟨2, ![256, 1024]⟩
abbrev S8192x512 : Shape := ⟨2, ![8192, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x6144, .f32⟩
  | .hbm, ⟨1, _⟩ => ⟨S256x1024, .f32⟩
  | .hbm, ⟨2, _⟩ => ⟨S8192x512, .f32⟩
  | .hbm, ⟨3, _⟩ => ⟨S8192x512, .bf16⟩
  | .hbm, ⟨4, _⟩ => ⟨S256x512, .f32⟩
  | .hbm, ⟨5, _⟩ => ⟨S256x512, .f32⟩
  | .local _ .vmem, ⟨0, _⟩ => ⟨S512x128, .f32⟩
  | .local _ .vmem, ⟨1, _⟩ => ⟨S512x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8192x6144 : Shape := ⟨2, ![8192, 6144]⟩
abbrev S256x1024 : Shape := ⟨2, ![256, 1024]⟩
abbrev S8192x512 : Shape := ⟨2, ![8192, 512]⟩
abbrev S256x512 : Shape := ⟨2, ![256, 512]⟩
abbrev S8192x4x128 : Shape := ⟨3, ![8192, 4, 128]⟩
abbrev S4x8192x128 : Shape := ⟨3, ![4, 8192, 128]⟩
abbrev S256x4x128 : Shape := ⟨3, ![256, 4, 128]⟩
abbrev S4x256x128 : Shape := ⟨3, ![4, 256, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x256 : Shape := ⟨3, ![4, 128, 256]⟩

abbrev nBuf : Space → Nat
  | .hbm => 88
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S256x1024, .f32⟩
  | .hbm, ⟨2, _⟩ => ⟨S8192x512, .f32⟩
  | .hbm, ⟨3, _⟩ => ⟨S8192x512, .f32⟩
  | .hbm, ⟨4, _⟩ => ⟨S256x512, .f32⟩
  | .hbm, ⟨5, _⟩ => ⟨S256x512, .f32⟩
  | .hbm, ⟨6, _⟩ => ⟨S8192x4x128, .f32⟩
  | .hbm, ⟨7, _⟩ => ⟨S4x8192x128, .f32⟩
  | .hbm, ⟨8, _⟩ => ⟨S256x4x128, .f32⟩
  | .hbm, ⟨9, _⟩ => ⟨S4x256x128, .f32⟩
  | .hbm, ⟨10, _⟩ => ⟨S256x4x128, .f32⟩
  | .hbm, ⟨11, _⟩ => ⟨S4x256x128, .f32⟩
  | .hbm, ⟨12, _⟩ => ⟨S4x8192x256, .f32⟩
  | .hbm, ⟨13, _⟩ => ⟨S_, .f32⟩
  | .hbm, ⟨14, _⟩ => ⟨S4x8192x256, .f32⟩
  | .hbm, ⟨15, _⟩ => ⟨S4x8192x256, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .i1⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S4x8192, .i1⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S_, .f32⟩
  | .hbm, ⟨38, _⟩ => ⟨S4x8192, .f32⟩
  | .hbm, ⟨39, _⟩ => ⟨S4x8192, .f32⟩
  | .hbm, ⟨40, _⟩ => ⟨S4x8192, .f32⟩
  | .hbm, ⟨41, _⟩ => ⟨S4x8192x1, .f32⟩
  | .hbm, ⟨42, _⟩ => ⟨S4x8192x256, .f32⟩
  | .hbm, ⟨43, _⟩ => ⟨S4x8192x256, .f32⟩
  | .hbm, ⟨44, _⟩ => ⟨S4x8192x256, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S4x8192x256, .f32⟩
  | .hbm, ⟨49, _⟩ => ⟨S4x8192x256, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x8192x128, .f32⟩
  | .hbm, ⟨55, _⟩ => ⟨S8192x4x128, .f32⟩
  | .hbm, ⟨56, _⟩ => ⟨S8192x512, .f32⟩
  | .hbm, ⟨57, _⟩ => ⟨S8192x4x128, .f32⟩
  | .hbm, ⟨58, _⟩ => ⟨S4x8192x128, .f32⟩
  | .hbm, ⟨59, _⟩ => ⟨S4x128x256, .f32⟩
  | .hbm, ⟨60, _⟩ => ⟨S4x256x128, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S4x8192x256, .f32⟩
  | .hbm, ⟨65, _⟩ => ⟨S_, .f32⟩
  | .hbm, ⟨66, _⟩ => ⟨S4x8192, .f32⟩
  | .hbm, ⟨67, _⟩ => ⟨S4x8192x1, .f32⟩
  | .hbm, ⟨68, _⟩ => ⟨S4x8192x1, .f32⟩
  | .hbm, ⟨69, _⟩ => ⟨S4x8192x256, .f32⟩
  | .hbm, ⟨70, _⟩ => ⟨S4x8192x256, .f32⟩
  | .hbm, ⟨71, _⟩ => ⟨S_, .f32⟩
  | .hbm, ⟨72, _⟩ => ⟨S4x8192, .f32⟩
  | .hbm, ⟨73, _⟩ => ⟨S4x8192x256, .f32⟩
  | .hbm, ⟨74, _⟩ => ⟨S4x8192x256, .f32⟩
  | .hbm, ⟨75, _⟩ => ⟨S4x8192x256, .f32⟩
  | .hbm, ⟨76, _⟩ => ⟨S_, .f32⟩
  | .hbm, ⟨77, _⟩ => ⟨S4x8192x256, .f32⟩
  | .hbm, ⟨78, _⟩ => ⟨S4x8192x256, .f32⟩
  | .hbm, ⟨79, _⟩ => ⟨S4x256x128, .f32⟩
  | .hbm, ⟨80, _⟩ => ⟨S4x8192x128, .f32⟩
  | .hbm, ⟨81, _⟩ => ⟨S256x4x128, .f32⟩
  | .hbm, ⟨82, _⟩ => ⟨S256x512, .f32⟩
  | .hbm, ⟨83, _⟩ => ⟨S256x4x128, .f32⟩
  | .hbm, ⟨84, _⟩ => ⟨S256x512, .f32⟩
  | .hbm, ⟨85, _⟩ => ⟨S8192x4x128, .f32⟩
  | .hbm, ⟨86, _⟩ => ⟨S8192x512, .f32⟩
  | .hbm, ⟨87, _⟩ => ⟨S8192x512, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel2.lean ====
abbrev S8192x5632 : Shape := ⟨2, ![8192, 5632]⟩
abbrev S8192x2048 : Shape := ⟨2, ![8192, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x512 : Shape := ⟨2, ![5632, 512]⟩
abbrev S512x512 : Shape := ⟨2, ![512, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S8x128, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x512 : Shape := ⟨2, ![5632, 512]⟩
abbrev S512x512 : Shape := ⟨2, ![512, 512]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x128, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S5632x2048, .f32⟩
  | .hbm, ⟨6, _⟩ => ⟨S2048x5632, .f32⟩
  | .hbm, ⟨7, _⟩ => ⟨S8192x5632, .f32⟩
  | .hbm, ⟨8, _⟩ => ⟨S8192x5632, .f32⟩
  | .hbm, ⟨9, _⟩ => ⟨S8192x2048, .f32⟩
  | .hbm, ⟨10, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S5632x2048, .f32⟩
  | .hbm, ⟨21, _⟩ => ⟨S8192x2048, .f32⟩
  | .hbm, ⟨22, _⟩ => ⟨S8192x2048, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .bf16⟩
  | .hbm, ⟨31, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel6.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S5632x2048, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x2048 : Shape := ⟨2, ![8192, 2048]⟩
abbrev S5632x2048 : Shape := ⟨2, ![5632, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S5632x2048, .bf16⟩
  | .hbm, ⟨3, _⟩ => ⟨S8192x2048, .f32⟩
  | .hbm, ⟨4, _⟩ => ⟨S5632x2048, .f32⟩
  | .hbm, ⟨5, _⟩ => ⟨S2048x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S8192x5632, .f32⟩
  | .hbm, ⟨10, _⟩ => ⟨S8192x5632, .bf16⟩
  | .hbm, ⟨11, _⟩ => ⟨S8192x5632, .bf16⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel7.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x512 : Shape := ⟨2, ![2048, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x2048, .f32⟩
  | .hbm, ⟨3, _⟩ => ⟨S2048x6144, .f32⟩
  | .hbm, ⟨4, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x2048 : Shape := ⟨2, ![8192, 2048]⟩
abbrev S6144x2048 : Shape := ⟨2, ![6144, 2048]⟩
abbrev S8192x6144 : Shape := ⟨2, ![8192, 6144]⟩
abbrev S1024x2048 : Shape := ⟨2, ![1024, 2048]⟩
abbrev S512x2048 : Shape := ⟨2, ![512, 2048]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S6144x2048, .bf16⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S6144x2048 : Shape := ⟨2, ![6144, 2048]⟩
abbrev S2048x6144 : Shape := ⟨2, ![2048, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S6144x2048, .bf16⟩
  | .hbm, ⟨2, _⟩ => ⟨S8192x2048, .f32⟩
  | .hbm, ⟨3, _⟩ => ⟨S6144x2048, .f32⟩
  | .hbm, ⟨4, _⟩ => ⟨S2048x6144, .f32⟩
  | .hbm, ⟨5, _⟩ => ⟨S8192x6144, .f32⟩
  | .hbm, ⟨6, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S8192x6144 : Shape := ⟨2, ![8192, 6144]⟩
abbrev S8192x2048 : Shape := ⟨2, ![8192, 2048]⟩
abbrev S6144x2048 : Shape := ⟨2, ![6144, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S6144x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x6144 : Shape := ⟨2, ![8192, 6144]⟩
abbrev S8192x2048 : Shape := ⟨2, ![8192, 2048]⟩
abbrev S_ : Shape := ⟨0, ![]⟩
abbrev S6144x2048 : Shape := ⟨2, ![6144, 2048]⟩
abbrev S2048x6144 : Shape := ⟨2, ![2048, 6144]⟩

abbrev nBuf : Space → Nat
  | .hbm => 12
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S_, .f32⟩
  | .hbm, ⟨3, _⟩ => ⟨S6144x2048, .f32⟩
  | .hbm, ⟨4, _⟩ => ⟨S8192x2048, .f32⟩
  | .hbm, ⟨5, _⟩ => ⟨S2048x6144, .f32⟩
  | .hbm, ⟨6, _⟩ => ⟨S8192x6144, .f32⟩
  | .hbm, ⟨7, _⟩ => ⟨S8192x6144, .f32⟩
  | .hbm, ⟨8, _⟩ => ⟨S6144x2048, .f32⟩
  | .hbm, ⟨9, _⟩ => ⟨S2048x6144, .f32⟩
  | .hbm, ⟨10, _⟩ => ⟨S6144x2048, .f32⟩
  | .hbm, ⟨11, _⟩ => ⟨S6144x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S8192x6144 : Shape := ⟨2, ![8192, 6144]⟩
abbrev S6144x2048 : Shape := ⟨2, ![6144, 2048]⟩
abbrev S8192x2048 : Shape := ⟨2, ![8192, 2048]⟩
abbrev S512x6144 : Shape := ⟨2, ![512, 6144]⟩
abbrev S6144x512 : Shape := ⟨2, ![6144, 512]⟩
abbrev S512x512 : Shape := ⟨2, ![512, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S6144x2048, .bf16⟩
  | .hbm, ⟨2, _⟩ => ⟨S8192x2048, .f32⟩
  | .local _ .vmem, ⟨0, _⟩ => ⟨S512x6144, .bf16⟩
  | .local _ .vmem, ⟨1, _⟩ => ⟨S512x6144, .bf16⟩
  | .local _ .vmem, ⟨2, _⟩ => ⟨S6144x512, .bf16⟩
  | .local _ .vmem, ⟨3, _⟩ => ⟨S6144x512, .bf16⟩
  | .local _ .vmem, ⟨4, _⟩ => ⟨S512x512, .f32⟩
  | .local _ .vmem, ⟨5, _⟩ => ⟨S512x512, .f32⟩
  | .local _ .vmem, ⟨6, _⟩ => ⟨S8x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x6144 : Shape := ⟨2, ![8192, 6144]⟩
abbrev S6144x2048 : Shape := ⟨2, ![6144, 2048]⟩
abbrev S_ : Shape := ⟨0, ![]⟩
abbrev S8192x2048 : Shape := ⟨2, ![8192, 2048]⟩
abbrev S2048x6144 : Shape := ⟨2, ![2048, 6144]⟩

abbrev nBuf : Space → Nat
  | .hbm => 9
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S6144x2048, .bf16⟩
  | .hbm, ⟨2, _⟩ => ⟨S_, .f32⟩
  | .hbm, ⟨3, _⟩ => ⟨S8192x2048, .f32⟩
  | .hbm, ⟨4, _⟩ => ⟨S6144x2048, .f32⟩
  | .hbm, ⟨5, _⟩ => ⟨S2048x6144, .f32⟩
  | .hbm, ⟨6, _⟩ => ⟨S8192x6144, .f32⟩
  | .hbm, ⟨7, _⟩ => ⟨S8192x6144, .f32⟩
  | .hbm, ⟨8, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x2048 : Shape := ⟨2, ![8192, 2048]⟩
abbrev S8192x6144 : Shape := ⟨2, ![8192, 6144]⟩
abbrev S2048x6144 : Shape := ⟨2, ![2048, 6144]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6144, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S_, .f32⟩
  | .hbm, ⟨3, _⟩ => ⟨S2048x6144, .f32⟩
  | .hbm, ⟨4, _⟩ => ⟨S8192x2048, .f32⟩
  | .hbm, ⟨5, _⟩ => ⟨S8192x6144, .f32⟩
  | .hbm, ⟨6, _⟩ => ⟨S8192x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x6144 : Shape := ⟨2, ![8192, 6144]⟩
abbrev S2048x6144 : Shape := ⟨2, ![2048, 6144]⟩
abbrev S8192x2048 : Shape := ⟨2, ![8192, 2048]⟩
abbrev S512x6144 : Shape := ⟨2, ![512, 6144]⟩
abbrev S512x512 : Shape := ⟨2, ![512, 512]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .f32⟩
  | .hbm, ⟨3, _⟩ => ⟨S8192x2048, .f32⟩
  | .local _ .vmem, ⟨0, _⟩ => ⟨S512x6144, .bf16⟩
  | .local _ .vmem, ⟨1, _⟩ => ⟨S512x6144, .bf16⟩
  | .local _ .vmem, ⟨2, _⟩ => ⟨S512x6144, .bf16⟩
  | .local _ .vmem, ⟨3, _⟩ => ⟨S512x6144, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x6144 : Shape := ⟨2, ![8192, 6144]⟩
abbrev S2048x6144 : Shape := ⟨2, ![2048, 6144]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x6144, .f32⟩
  | .hbm, ⟨6, _⟩ => ⟨S8192x6144, .f32⟩
  | .hbm, ⟨7, _⟩ => ⟨S8192x6144, .f32⟩
  | .hbm, ⟨8, _⟩ => ⟨S8192x2048, .f32⟩
  | .hbm, ⟨9, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S8192x2048 : Shape := ⟨2, ![8192, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S8192x768 : Shape := ⟨2, ![8192, 768]⟩
abbrev S2048x768 : Shape := ⟨2, ![2048, 768]⟩
abbrev S8192x2048 : Shape := ⟨2, ![8192, 2048]⟩
abbrev S1024x768 : Shape := ⟨2, ![1024, 768]⟩
abbrev S512x768 : Shape := ⟨2, ![512, 768]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x768, .bf16⟩
  | .hbm, ⟨1, _⟩ => ⟨S2048x768, .bf16⟩
  | .hbm, ⟨2, _⟩ => ⟨S8192x2048, .bf16⟩
  | .local _ .vmem, ⟨0, _⟩ => ⟨S1024x768, .bf16⟩
  | .local _ .vmem, ⟨1, _⟩ => ⟨S1024x768, .bf16⟩
  | .local _ .vmem, ⟨2, _⟩ => ⟨S512x768, .bf16⟩
  | .local _ .vmem, ⟨3, _⟩ => ⟨S512x768, .bf16⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x768 : Shape := ⟨2, ![8192, 768]⟩
abbrev S2048x768 : Shape := ⟨2, ![2048, 768]⟩
abbrev S768x2048 : Shape := ⟨2, ![768, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S2048x768, .bf16⟩
  | .hbm, ⟨2, _⟩ => ⟨S8192x768, .f32⟩
  | .hbm, ⟨3, _⟩ => ⟨S2048x768, .f32⟩
  | .hbm, ⟨4, _⟩ => ⟨S768x2048, .f32⟩
  | .hbm, ⟨5, _⟩ => ⟨S8192x2048, .f32⟩
  | .hbm, ⟨6, _⟩ => ⟨S8192x2048, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel17.lean ====
abbrev S8192x768 : Shape := ⟨2, ![8192, 768]⟩
abbrev S2048x768 : Shape := ⟨2, ![2048, 768]⟩
abbrev S8192x2048 : Shape := ⟨2, ![8192, 2048]⟩
abbrev S1024x768 : Shape := ⟨2, ![1024, 768]⟩
abbrev S512x768 : Shape := ⟨2, ![512, 768]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S2048x768, .bf16⟩
  | .hbm, ⟨2, _⟩ => ⟨S8192x2048, .bf16⟩
  | .local _ .vmem, ⟨0, _⟩ => ⟨S1024x768, .f32⟩
  | .local _ .vmem, ⟨1, _⟩ => ⟨S1024x768, .f32⟩
  | .local _ .vmem, ⟨2, _⟩ => ⟨S512x768, .bf16⟩
  | .local _ .vmem, ⟨3, _⟩ => ⟨S512x768, .bf16⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x768 : Shape := ⟨2, ![8192, 768]⟩
abbrev S2048x768 : Shape := ⟨2, ![2048, 768]⟩
abbrev S768x2048 : Shape := ⟨2, ![768, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S2048x768, .bf16⟩
  | .hbm, ⟨2, _⟩ => ⟨S2048x768, .f32⟩
  | .hbm, ⟨3, _⟩ => ⟨S768x2048, .f32⟩
  | .hbm, ⟨4, _⟩ => ⟨S8192x2048, .f32⟩
  | .hbm, ⟨5, _⟩ => ⟨S8192x2048, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8192x512 : Shape := ⟨2, ![8192, 512]⟩
abbrev S2048x512 : Shape := ⟨2, ![2048, 512]⟩
abbrev S8192x2048 : Shape := ⟨2, ![8192, 2048]⟩
abbrev S1024x512 : Shape := ⟨2, ![1024, 512]⟩
abbrev S512x512 : Shape := ⟨2, ![512, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S2048x512, .bf16⟩
  | .hbm, ⟨2, _⟩ => ⟨S8192x2048, .bf16⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x512 : Shape := ⟨2, ![8192, 512]⟩
abbrev S2048x512 : Shape := ⟨2, ![2048, 512]⟩
abbrev S512x2048 : Shape := ⟨2, ![512, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2048x512, .bf16⟩
  | .hbm, ⟨2, _⟩ => ⟨S2048x512, .f32⟩
  | .hbm, ⟨3, _⟩ => ⟨S512x2048, .f32⟩
  | .hbm, ⟨4, _⟩ => ⟨S8192x2048, .f32⟩
  | .hbm, ⟨5, _⟩ => ⟨S8192x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S8192x2048 : Shape := ⟨2, ![8192, 2048]⟩
abbrev S2048x768 : Shape := ⟨2, ![2048, 768]⟩
abbrev S8192x768 : Shape := ⟨2, ![8192, 768]⟩
abbrev S1024x2048 : Shape := ⟨2, ![1024, 2048]⟩
abbrev S1024x768 : Shape := ⟨2, ![1024, 768]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x768, .bf16⟩
  | .hbm, ⟨2, _⟩ => ⟨S8192x768, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S1024x768, .f32⟩
  | .local _ .vmem, ⟨4, _⟩ => ⟨S1024x768, .f32⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S2048x768 : Shape := ⟨2, ![2048, 768]⟩
abbrev S_ : Shape := ⟨0, ![]⟩
abbrev S8192x768 : Shape := ⟨2, ![8192, 768]⟩
abbrev S768x2048 : Shape := ⟨2, ![768, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x768, .bf16⟩
  | .hbm, ⟨2, _⟩ => ⟨S_, .f32⟩
  | .hbm, ⟨3, _⟩ => ⟨S8192x768, .f32⟩
  | .hbm, ⟨4, _⟩ => ⟨S2048x768, .f32⟩
  | .hbm, ⟨5, _⟩ => ⟨S768x2048, .f32⟩
  | .hbm, ⟨6, _⟩ => ⟨S8192x2048, .f32⟩
  | .hbm, ⟨7, _⟩ => ⟨S8192x2048, .f32⟩
  | .hbm, ⟨8, _⟩ => ⟨S8192x768, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S8192x2048 : Shape := ⟨2, ![8192, 2048]⟩
abbrev S2048x512 : Shape := ⟨2, ![2048, 512]⟩
abbrev S8192x512 : Shape := ⟨2, ![8192, 512]⟩
abbrev S1024x2048 : Shape := ⟨2, ![1024, 2048]⟩
abbrev S1024x512 : Shape := ⟨2, ![1024, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x512, .bf16⟩
  | .hbm, ⟨2, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S2048x512 : Shape := ⟨2, ![2048, 512]⟩
abbrev S_ : Shape := ⟨0, ![]⟩
abbrev S8192x512 : Shape := ⟨2, ![8192, 512]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x512, .bf16⟩
  | .hbm, ⟨2, _⟩ => ⟨S_, .f32⟩
  | .hbm, ⟨3, _⟩ => ⟨S8192x512, .f32⟩
  | .hbm, ⟨4, _⟩ => ⟨S2048x512, .f32⟩
  | .hbm, ⟨5, _⟩ => ⟨S512x2048, .f32⟩
  | .hbm, ⟨6, _⟩ => ⟨S8192x2048, .f32⟩
  | .hbm, ⟨7, _⟩ => ⟨S8192x2048, .f32⟩
  | .hbm, ⟨8, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S8192x2048 : Shape := ⟨2, ![8192, 2048]⟩
abbrev S8192x768 : Shape := ⟨2, ![8192, 768]⟩
abbrev S2048x768 : Shape := ⟨2, ![2048, 768]⟩
abbrev S4096x512 : Shape := ⟨2, ![4096, 512]⟩
abbrev S4096x768 : Shape := ⟨2, ![4096, 768]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x768, .bf16⟩
  | .hbm, ⟨2, _⟩ => ⟨S2048x768, .bf16⟩
  | .local _ .vmem, ⟨0, _⟩ => ⟨S4096x512, .bf16⟩
  | .local _ .vmem, ⟨1, _⟩ => ⟨S4096x512, .bf16⟩
  | .local _ .vmem, ⟨2, _⟩ => ⟨S4096x768, .bf16⟩
  | .local _ .vmem, ⟨3, _⟩ => ⟨S4096x768, .bf16⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x2048 : Shape := ⟨2, ![8192, 2048]⟩
abbrev S8192x768 : Shape := ⟨2, ![8192, 768]⟩
abbrev S_ : Shape := ⟨0, ![]⟩
abbrev S2048x768 : Shape := ⟨2, ![2048, 768]⟩
abbrev S768x2048 : Shape := ⟨2, ![768, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x768, .bf16⟩
  | .hbm, ⟨2, _⟩ => ⟨S_, .f32⟩
  | .hbm, ⟨3, _⟩ => ⟨S2048x768, .f32⟩
  | .hbm, ⟨4, _⟩ => ⟨S8192x768, .f32⟩
  | .hbm, ⟨5, _⟩ => ⟨S768x2048, .f32⟩
  | .hbm, ⟨6, _⟩ => ⟨S8192x2048, .f32⟩
  | .hbm, ⟨7, _⟩ => ⟨S8192x2048, .f32⟩
  | .hbm, ⟨8, _⟩ => ⟨S2048x768, .f32⟩
  | .hbm, ⟨9, _⟩ => ⟨S768x2048, .f32⟩
  | .hbm, ⟨10, _⟩ => ⟨S2048x768, .f32⟩
  | .hbm, ⟨11, _⟩ => ⟨S2048x768, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel22.lean ====
abbrev S8192x2048 : Shape := ⟨2, ![8192, 2048]⟩
abbrev S8192x768 : Shape := ⟨2, ![8192, 768]⟩
abbrev S2048x768 : Shape := ⟨2, ![2048, 768]⟩
abbrev S4096x512 : Shape := ⟨2, ![4096, 512]⟩
abbrev S4096x768 : Shape := ⟨2, ![4096, 768]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x768, .f32⟩
  | .hbm, ⟨2, _⟩ => ⟨S2048x768, .bf16⟩
  | .local _ .vmem, ⟨0, _⟩ => ⟨S4096x512, .bf16⟩
  | .local _ .vmem, ⟨1, _⟩ => ⟨S4096x512, .bf16⟩
  | .local _ .vmem, ⟨2, _⟩ => ⟨S4096x768, .f32⟩
  | .local _ .vmem, ⟨3, _⟩ => ⟨S4096x768, .f32⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x2048 : Shape := ⟨2, ![8192, 2048]⟩
abbrev S8192x768 : Shape := ⟨2, ![8192, 768]⟩
abbrev S_ : Shape := ⟨0, ![]⟩
abbrev S2048x768 : Shape := ⟨2, ![2048, 768]⟩
abbrev S768x2048 : Shape := ⟨2, ![768, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x768, .f32⟩
  | .hbm, ⟨2, _⟩ => ⟨S_, .f32⟩
  | .hbm, ⟨3, _⟩ => ⟨S2048x768, .f32⟩
  | .hbm, ⟨4, _⟩ => ⟨S768x2048, .f32⟩
  | .hbm, ⟨5, _⟩ => ⟨S8192x2048, .f32⟩
  | .hbm, ⟨6, _⟩ => ⟨S8192x2048, .f32⟩
  | .hbm, ⟨7, _⟩ => ⟨S2048x768, .f32⟩
  | .hbm, ⟨8, _⟩ => ⟨S768x2048, .f32⟩
  | .hbm, ⟨9, _⟩ => ⟨S2048x768, .f32⟩
  | .hbm, ⟨10, _⟩ => ⟨S2048x768, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel23.lean ====
abbrev S8192x2048 : Shape := ⟨2, ![8192, 2048]⟩
abbrev S8192x512 : Shape := ⟨2, ![8192, 512]⟩
abbrev S2048x512 : Shape := ⟨2, ![2048, 512]⟩
abbrev S4096x512 : Shape := ⟨2, ![4096, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x512, .f32⟩
  | .hbm, ⟨2, _⟩ => ⟨S2048x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .f32⟩
  | .local _ .vmem, ⟨3, _⟩ => ⟨S4096x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x2048 : Shape := ⟨2, ![8192, 2048]⟩
abbrev S8192x512 : Shape := ⟨2, ![8192, 512]⟩
abbrev S_ : Shape := ⟨0, ![]⟩
abbrev S2048x512 : Shape := ⟨2, ![2048, 512]⟩
abbrev S512x2048 : Shape := ⟨2, ![512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .f32⟩
  | .hbm, ⟨2, _⟩ => ⟨S_, .f32⟩
  | .hbm, ⟨3, _⟩ => ⟨S2048x512, .f32⟩
  | .hbm, ⟨4, _⟩ => ⟨S512x2048, .f32⟩
  | .hbm, ⟨5, _⟩ => ⟨S8192x2048, .f32⟩
  | .hbm, ⟨6, _⟩ => ⟨S8192x2048, .f32⟩
  | .hbm, ⟨7, _⟩ => ⟨S2048x512, .f32⟩
  | .hbm, ⟨8, _⟩ => ⟨S512x2048, .f32⟩
  | .hbm, ⟨9, _⟩ => ⟨S2048x512, .f32⟩
  | .hbm, ⟨10, _⟩ => ⟨S2048x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel24.lean ====
abbrev S256x2048 : Shape := ⟨2, ![256, 2048]⟩
abbrev S2048x1024 : Shape := ⟨2, ![2048, 1024]⟩
abbrev S256x1024 : Shape := ⟨2, ![256, 1024]⟩
abbrev S2048x512 : Shape := ⟨2, ![2048, 512]⟩
abbrev S256x512 : Shape := ⟨2, ![256, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S256x512, .f32⟩
  | .local _ .vmem, ⟨4, _⟩ => ⟨S256x512, .f32⟩
  | .local _ .vmem, ⟨5, _⟩ => ⟨S8x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel25.lean ====
abbrev S256x2048 : Shape := ⟨2, ![256, 2048]⟩
abbrev S256x1024 : Shape := ⟨2, ![256, 1024]⟩
abbrev S2048x1024 : Shape := ⟨2, ![2048, 1024]⟩
abbrev S256x512 : Shape := ⟨2, ![256, 512]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S2048x1024, .bf16⟩
  | .local _ .vmem, ⟨0, _⟩ => ⟨S256x512, .bf16⟩
  | .local _ .vmem, ⟨1, _⟩ => ⟨S256x512, .bf16⟩
  | .local _ .vmem, ⟨2, _⟩ => ⟨S256x1024, .f32⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel26.lean ====
abbrev S256x1024 : Shape := ⟨2, ![256, 1024]⟩
abbrev S2048x1024 : Shape := ⟨2, ![2048, 1024]⟩
abbrev S256x2048 : Shape := ⟨2, ![256, 2048]⟩
abbrev S512x1024 : Shape := ⟨2, ![512, 1024]⟩
abbrev S256x512 : Shape := ⟨2, ![256, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S2048x1024, .bf16⟩
  | .hbm, ⟨2, _⟩ => ⟨S256x2048, .f32⟩
  | .local _ .vmem, ⟨0, _⟩ => ⟨S256x1024, .f32⟩
  | .local _ .vmem, ⟨1, _⟩ => ⟨S512x1024, .bf16⟩
  | .local _ .vmem, ⟨2, _⟩ => ⟨S512x1024, .bf16⟩
  | .local _ .vmem, ⟨3, _⟩ => ⟨S256x512, .f32⟩
  | .local _ .vmem, ⟨4, _⟩ => ⟨S256x512, .f32⟩
  | .local _ .vmem, ⟨5, _⟩ => ⟨S8x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S256x1024 : Shape := ⟨2, ![256, 1024]⟩
abbrev S2048x1024 : Shape := ⟨2, ![2048, 1024]⟩
abbrev S_ : Shape := ⟨0, ![]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1024, .bf16⟩
  | .hbm, ⟨2, _⟩ => ⟨S_, .f32⟩
  | .hbm, ⟨3, _⟩ => ⟨S256x2048, .f32⟩
  | .hbm, ⟨4, _⟩ => ⟨S2048x1024, .f32⟩
  | .hbm, ⟨5, _⟩ => ⟨S256x1024, .f32⟩
  | .hbm, ⟨6, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel27.lean ====
abbrev S8192x6144 : Shape := ⟨2, ![8192, 6144]⟩
abbrev S6x8192 : Shape := ⟨2, ![6, 8192]⟩
abbrev S8192x768 : Shape := ⟨2, ![8192, 768]⟩
abbrev S8192x6x128 : Shape := ⟨3, ![8192, 6, 128]⟩
abbrev S6x8192x128 : Shape := ⟨3, ![6, 8192, 128]⟩
abbrev S8192 : Shape := ⟨1, ![8192]⟩
abbrev S6x8192x8192 : Shape := ⟨3, ![6, 8192, 8192]⟩
abbrev S_ : Shape := ⟨0, ![]⟩
abbrev S6x8192x1 : Shape := ⟨3, ![6, 8192, 1]⟩
abbrev S6x1x8192 : Shape := ⟨3, ![6, 1, 8192]⟩
abbrev S1x8192 : Shape := ⟨2, ![1, 8192]⟩
abbrev S8192x1 : Shape := ⟨2, ![8192, 1]⟩
abbrev S8192x8192 : Shape := ⟨2, ![8192, 8192]⟩
abbrev S16 : Shape := ⟨1, ![16]⟩
abbrev S32 : Shape := ⟨1, ![32]⟩
abbrev S2x8192 : Shape := ⟨2, ![2, 8192]⟩
abbrev S8x8192 : Shape := ⟨2, ![8, 8192]⟩
abbrev S6x8x8192 : Shape := ⟨3, ![6, 8, 8192]⟩
abbrev S512x768 : Shape := ⟨2, ![512, 768]⟩
abbrev S1 : Shape := ⟨1, ![1]⟩
abbrev S8x512 : Shape := ⟨2, ![8, 512]⟩
abbrev S6x512x128 : Shape := ⟨3, ![6, 512, 128]⟩
abbrev S6x8x512 : Shape := ⟨3, ![6, 8, 512]⟩
abbrev S512x128 : Shape := ⟨2, ![512, 128]⟩
abbrev S1x512x1 : Shape := ⟨3, ![1, 512, 1]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1x8x512 : Shape := ⟨3, ![1, 8, 512]⟩

abbrev nBuf : Space → Nat
  | .hbm => 69
  | .vmem => 25
  | .smem => 1
  | _ => 0

abbrev bufTy : (tb : Table) → Fin (tcTables nBuf tb) → BufTy
  | .hbm, ⟨0, _⟩ => ⟨S8192x6144, .f32⟩
  | .hbm, ⟨1, _⟩ => ⟨S6x8192, .f32⟩
  | .hbm, ⟨2, _⟩ => ⟨S8192x768, .f32⟩
  | .hbm, ⟨3, _⟩ => ⟨S8192x768, .f32⟩
  | .hbm, ⟨4, _⟩ => ⟨S8192x6x128, .f32⟩
  | .hbm, ⟨5, _⟩ => ⟨S6x8192x128, .f32⟩
  | .hbm, ⟨6, _⟩ => ⟨S8192x768, .f32⟩
  | .hbm, ⟨7, _⟩ => ⟨S8192x6x128, .f32⟩
  | .hbm, ⟨8, _⟩ => ⟨S6x8192x128, .f32⟩
  | .hbm, ⟨9, _⟩ => ⟨S8192x768, .f32⟩
  | .hbm, ⟨10, _⟩ => ⟨S8192x6x128, .f32⟩
  | .hbm, ⟨11, _⟩ => ⟨S6x8192x128, .f32⟩
  | .hbm, ⟨12, _⟩ => ⟨S8192, .i32⟩
  | .hbm, ⟨13, _⟩ => ⟨S6x8192x8192, .f32⟩
  | .hbm, ⟨14, _⟩ => ⟨S_, .f32⟩
  | .hbm, ⟨15, _⟩ => ⟨S6x8192x8192, .f32⟩
  | .hbm, ⟨16, _⟩ => ⟨S6x8192x8192, .f32⟩
  | .hbm, ⟨17, _⟩ => ⟨S6x8192x1, .f32⟩
  | .hbm, ⟨18, _⟩ => ⟨S6x1x8192, .f32⟩
  | .hbm, ⟨19, _⟩ => ⟨S6x8192x8192, .f32⟩
  | .hbm, ⟨20, _⟩ => ⟨S6x8192x8192, .f32⟩
  | .hbm, ⟨21, _⟩ => ⟨S6x8192x8192, .f32⟩
  | .hbm, ⟨22, _⟩ => ⟨S6x8192x8192, .f32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S6x8192x8192, .i1⟩
  | .hbm, ⟨31, _⟩ => ⟨S6x8192x8192, .f32⟩
  | .hbm, ⟨32, _⟩ => ⟨S6x8192x8192, .f32⟩
  | .hbm, ⟨33, _⟩ => ⟨S_, .f32⟩
  | .hbm, ⟨34, _⟩ => ⟨S6x8192, .f32⟩
  | .hbm, ⟨35, _⟩ => ⟨S6x8192x1, .f32⟩
  | .hbm, ⟨36, _⟩ => ⟨S6x8192x8192, .f32⟩
  | .hbm, ⟨37, _⟩ => ⟨S6x8192x8192, .f32⟩
  | .hbm, ⟨38, _⟩ => ⟨S6x8192x8192, .f32⟩
  | .hbm, ⟨39, _⟩ => ⟨S_, .f32⟩
  | .hbm, ⟨40, _⟩ => ⟨S6x8192, .f32⟩
  | .hbm, ⟨41, _⟩ => ⟨S6x8192, .f32⟩
  | .hbm, ⟨42, _⟩ => ⟨S6x8192, .f32⟩
  | .hbm, ⟨43, _⟩ => ⟨S6x8192x1, .f32⟩
  | .hbm, ⟨44, _⟩ => ⟨S6x8192x8192, .f32⟩
  | .hbm, ⟨45, _⟩ => ⟨S6x8192x8192, .f32⟩
  | .hbm, ⟨46, _⟩ => ⟨S6x8192x8192, .f32⟩
  | .hbm, ⟨47, _⟩ => ⟨S8192x6x128, .f32⟩
  | .hbm, ⟨48, _⟩ => ⟨S6x8192x128, .f32⟩
  | .hbm, ⟨49, _⟩ => ⟨S6x8192x8192, .f32⟩
  | .hbm, ⟨50, _⟩ => ⟨S6x8192x8192, .f32⟩
  | .hbm, ⟨51, _⟩ => ⟨S_, .f32⟩
  | .hbm, ⟨52, _⟩ => ⟨S6x8192, .f32⟩
  | .hbm, ⟨53, _⟩ => ⟨S_, .i32⟩
  | .hbm, ⟨54, _⟩ => ⟨S16, .i32⟩
  | .hbm, ⟨55, _⟩ => ⟨S_, .i32⟩
  | .hbm, ⟨56, _⟩ => ⟨S16, .i32⟩
  | .hbm, ⟨57, _⟩ => ⟨S_, .f32⟩
  | .hbm, ⟨58, _⟩ => ⟨S2x8192, .f32⟩
  | .hbm, ⟨59, _⟩ => ⟨S8x8192, .f32⟩
  | .hbm, ⟨60, _⟩ => ⟨S6x8192x1, .f32⟩
  | .hbm, ⟨61, _⟩ => ⟨S6x8192x128, .f32⟩
  | .hbm, ⟨62, _⟩ => ⟨S6x8192x1, .f32⟩
  | .hbm, ⟨63, _⟩ => ⟨S6x8192x128, .f32⟩
  | .hbm, ⟨64, _⟩ => ⟨S6x8192x1, .f32⟩
  | .hbm, ⟨65, _⟩ => ⟨S6x8192x128, .f32⟩
  | .hbm, ⟨66, _⟩ => ⟨S8192x768, .bf16⟩
  | .hbm, ⟨67, _⟩ => ⟨S8192x768, .bf16⟩
  | .hbm, ⟨68, _⟩ => ⟨S6x8x8192, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S8x512, .f32⟩
  | .local _ .vmem, ⟨7, _⟩ => ⟨S8x512, .f32⟩
  | .local _ .vmem, ⟨8, _⟩ => ⟨S6x512x128, .f32⟩
  | .local _ .vmem, ⟨9, _⟩ => ⟨S6x512x128, .f32⟩
  | .local _ .vmem, ⟨10, _⟩ => ⟨S6x512x128, .f32⟩
  | .local _ .vmem, ⟨11, _⟩ => ⟨S6x512x128, .f32⟩
  | .local _ .vmem, ⟨12, _⟩ => ⟨S6x512x128, .f32⟩
  | .local _ .vmem, ⟨13, _⟩ => ⟨S6x512x128, .f32⟩
  | .local _ .vmem, ⟨14, _⟩ => ⟨S512x768, .f32⟩
  | .local _ .vmem, ⟨15, _⟩ => ⟨S512x768, .f32⟩
  | .local _ .vmem, ⟨16, _⟩ => ⟨S512x768, .bf16⟩
  | .local _ .vmem, ⟨17, _⟩ => ⟨S512x768, .bf16⟩
  | .local _ .vmem, ⟨18, _⟩ => ⟨S512x768, .bf16⟩
  | .local _ .vmem, ⟨19, _⟩ => ⟨S512x768, .bf16⟩
  | .local _ .vmem, ⟨20, _⟩ => ⟨S6x8x512, .f32⟩
  | .local _ .vmem, ⟨21, _⟩ => ⟨S6x8x512, .f32⟩
  | .local _ .vmem, ⟨22, _⟩ => ⟨S512x768, .f32⟩
  | .local _ .vmem, ⟨23, _⟩ => ⟨S512x768, .f32⟩
  | .local _ .vmem, ⟨24, _⟩ => ⟨S8x512, .f32⟩
  | .local _ .smem, ⟨0, _⟩ => ⟨S32, .i32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_c : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53_0 : Ref sig .tc := ⟨.hbm, 66, rfl⟩
abbrev main_v53_1 : Ref sig .tc := ⟨.hbm, 67, rfl⟩
abbrev main_v53_2 : Ref sig .tc := ⟨.hbm, 68, rfl⟩
abbrev main_v44 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 16], ![false, false]⟩

abbrev pre0 : Pipeline.Prefetch sig := ⟨1, ![main_v44.idx], fun | 0 => main_v44.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c16_i32 : BitVec 32 := 16#32
  let arg0 : BitVec 32 := BitVec.ofNat 32 (i 0).val
  let v1 : BitVec 32 := Scalar.addi c16_i32 arg0
  let v2 : Index := Scalar.indexCast v1
  ![v2.toNat]
def k0_cond3 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S32.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : BitVec 32 := Scalar.addi arg0 arg1
  let c16_i32 : BitVec 32 := 16#32
  let v1 : BitVec 32 := Scalar.addi c16_i32 arg0
  let v2 : Index := Scalar.indexCast v1
  let v3 : BitVec 32 := pf.at 0 (Rect.unit (s := S32) ![v2.toNat] S1.size (k0_off1_inb i)) numel1_S1
  let v4 : BitVec 32 := Scalar.minsi v0 v3
  let c4_i32 : BitVec 32 := 4#32
  let c0_i32 : BitVec 32 := 0#32
  ![v4.toNat, c4_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : BitVec 32 := Scalar.addi arg0 arg1
  let c16_i32 : BitVec 32 := 16#32
  let v1 : BitVec 32 := Scalar.addi c16_i32 arg0
  let v2 : Index := Scalar.indexCast v1
  let v3 : BitVec 32 := pf.at 0 (Rect.unit (s := S32) ![v2.toNat] S1.size (k0_off1_inb i)) numel1_S1
  let v4 : BitVec 32 := Scalar.minsi v0 v3
  let c0_i32 : BitVec 32 := 0#32
  let c0_i32_0 : BitVec 32 := 0#32
  let c0_i32_1 : BitVec 32 := 0#32
  ![c0_i32.toNat, v4.toNat, c0_i32_0.toNat]

def cc0_transform_5 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : BitVec 32 := Scalar.addi arg0 arg1
  let c16_i32 : BitVec 32 := 16#32
  let v1 : BitVec 32 := Scalar.addi c16_i32 arg0
  let v2 : Index := Scalar.indexCast v1
  let v3 : BitVec 32 := pf.at 0 (Rect.unit (s := S32) ![v2.toNat] S1.size (k0_off1_inb i)) numel1_S1
  let v4 : BitVec 32 := Scalar.minsi v0 v3
  let c0_i32 : BitVec 32 := 0#32
  let c0_i32_0 : BitVec 32 := 0#32
  let c0_i32_1 : BitVec 32 := 0#32
  ![c0_i32.toNat, v4.toNat, c0_i32_0.toNat]

def cc0_transform_6 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : BitVec 32 := Scalar.addi arg0 arg1
  let c16_i32 : BitVec 32 := 16#32
  let v1 : BitVec 32 := Scalar.addi c16_i32 arg0
  let v2 : Index := Scalar.indexCast v1
  let v3 : BitVec 32 := pf.at 0 (Rect.unit (s := S32) ![v2.toNat] S1.size (k0_off1_inb i)) numel1_S1
  let v4 : BitVec 32 := Scalar.minsi v0 v3
  let c0_i32 : BitVec 32 := 0#32
  let c0_i32_0 : BitVec 32 := 0#32
  let c0_i32_1 : BitVec 32 := 0#32
  ![c0_i32.toNat, v4.toNat, c0_i32_0.toNat]

def cc0_transform_7 (k0_off1_inb : ∀ i : grid0.Coords, ∀ a, (k0_off1 i) a + S1.size a ≤ S32.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : BitVec 32 := Scalar.addi arg0 arg1
  let c16_i32 : BitVec 32 := 16#32
  let v1 : BitVec 32 := Scalar.addi c16_i32 arg0
  let v2 : Index := Scalar.indexCast v1
  let v3 : BitVec 32 := pf.at 0 (Rect.unit (s := S32) ![v2.toNat] S1.size (k0_off1_inb i)) numel1_S1
  let v4 : BitVec 32 := Scalar.minsi v0 v3
  let c0_i32 : BitVec 32 := 0#32
  let c0_i32_0 : BitVec 32 := 0#32
  ![v4.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S6x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S6x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S6x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S6x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Kernel27Ideal.lean ====
variable {F : FTy → Type} [FloatOps F] [Named F]
def κ : String → Option EReal := fun
  | "mask" => some ⊥
  | _ => none
-- ==== Reference27Ideal.lean ====
abbrev S8192x6144 : Shape := ⟨2, ![8192, 6144]⟩
abbrev S6x8192 : Shape := ⟨2, ![6, 8192]⟩
abbrev S8192x768 : Shape := ⟨2, ![8192, 768]⟩
abbrev S8192x6x128 : Shape := ⟨3, ![8192, 6, 128]⟩
abbrev S6x8192x128 : Shape := ⟨3, ![6, 8192, 128]⟩
abbrev S8192 : Shape := ⟨1, ![8192]⟩
abbrev S6x8192x8192 : Shape := ⟨3, ![6, 8192, 8192]⟩
abbrev S_ : Shape := ⟨0, ![]⟩
abbrev S6x8192x1 : Shape := ⟨3, ![6, 8192, 1]⟩
abbrev S6x1x8192 : Shape := ⟨3, ![6, 1, 8192]⟩
abbrev S1x8192 : Shape := ⟨2, ![1, 8192]⟩
abbrev S8192x1 : Shape := ⟨2, ![8192, 1]⟩
abbrev S8192x8192 : Shape := ⟨2, ![8192, 8192]⟩
abbrev S6x128x8192 : Shape := ⟨3, ![6, 128, 8192]⟩
abbrev S6x8x8192 : Shape := ⟨3, ![6, 8, 8192]⟩

abbrev nBuf : Space → Nat
  | .hbm => 122
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S6x8192, .f32⟩
  | .hbm, ⟨2, _⟩ => ⟨S8192x768, .f32⟩
  | .hbm, ⟨3, _⟩ => ⟨S8192x768, .f32⟩
  | .hbm, ⟨4, _⟩ => ⟨S8192x6x128, .f32⟩
  | .hbm, ⟨5, _⟩ => ⟨S6x8192x128, .f32⟩
  | .hbm, ⟨6, _⟩ => ⟨S8192x768, .f32⟩
  | .hbm, ⟨7, _⟩ => ⟨S8192x6x128, .f32⟩
  | .hbm, ⟨8, _⟩ => ⟨S6x8192x128, .f32⟩
  | .hbm, ⟨9, _⟩ => ⟨S8192x768, .f32⟩
  | .hbm, ⟨10, _⟩ => ⟨S8192x6x128, .f32⟩
  | .hbm, ⟨11, _⟩ => ⟨S6x8192x128, .f32⟩
  | .hbm, ⟨12, _⟩ => ⟨S8192, .i32⟩
  | .hbm, ⟨13, _⟩ => ⟨S6x8192x8192, .f32⟩
  | .hbm, ⟨14, _⟩ => ⟨S_, .f32⟩
  | .hbm, ⟨15, _⟩ => ⟨S6x8192x8192, .f32⟩
  | .hbm, ⟨16, _⟩ => ⟨S6x8192x8192, .f32⟩
  | .hbm, ⟨17, _⟩ => ⟨S6x8192x1, .f32⟩
  | .hbm, ⟨18, _⟩ => ⟨S6x1x8192, .f32⟩
  | .hbm, ⟨19, _⟩ => ⟨S6x8192x8192, .f32⟩
  | .hbm, ⟨20, _⟩ => ⟨S6x8192x8192, .f32⟩
  | .hbm, ⟨21, _⟩ => ⟨S6x8192x8192, .f32⟩
  | .hbm, ⟨22, _⟩ => ⟨S6x8192x8192, .f32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S6x8192x8192, .i1⟩
  | .hbm, ⟨31, _⟩ => ⟨S6x8192x8192, .f32⟩
  | .hbm, ⟨32, _⟩ => ⟨S6x8192x8192, .f32⟩
  | .hbm, ⟨33, _⟩ => ⟨S_, .f32⟩
  | .hbm, ⟨34, _⟩ => ⟨S6x8192x8192, .f32⟩
  | .hbm, ⟨35, _⟩ => ⟨S_, .f32⟩
  | .hbm, ⟨36, _⟩ => ⟨S6x8192, .f32⟩
  | .hbm, ⟨37, _⟩ => ⟨S6x8192x1, .f32⟩
  | .hbm, ⟨38, _⟩ => ⟨S6x8192x8192, .f32⟩
  | .hbm, ⟨39, _⟩ => ⟨S6x8192x8192, .i1⟩
  | .hbm, ⟨40, _⟩ => ⟨S6x8192x8192, .f32⟩
  | .hbm, ⟨41, _⟩ => ⟨S_, .f32⟩
  | .hbm, ⟨42, _⟩ => ⟨S6x8192, .f32⟩
  | .hbm, ⟨43, _⟩ => ⟨S_, .f32⟩
  | .hbm, ⟨44, _⟩ => ⟨S6x8192, .f32⟩
  | .hbm, ⟨45, _⟩ => ⟨S6x8192, .f32⟩
  | .hbm, ⟨46, _⟩ => ⟨S_, .f32⟩
  | .hbm, ⟨47, _⟩ => ⟨S6x8192, .f32⟩
  | .hbm, ⟨48, _⟩ => ⟨S6x8192, .i1⟩
  | .hbm, ⟨49, _⟩ => ⟨S_, .f32⟩
  | .hbm, ⟨50, _⟩ => ⟨S6x8192, .f32⟩
  | .hbm, ⟨51, _⟩ => ⟨S6x8192, .i1⟩
  | .hbm, ⟨52, _⟩ => ⟨S_, .f32⟩
  | .hbm, ⟨53, _⟩ => ⟨S6x8192, .f32⟩
  | .hbm, ⟨54, _⟩ => ⟨S_, .f32⟩
  | .hbm, ⟨55, _⟩ => ⟨S6x8192, .f32⟩
  | .hbm, ⟨56, _⟩ => ⟨S_, .f32⟩
  | .hbm, ⟨57, _⟩ => ⟨S6x8192, .f32⟩
  | .hbm, ⟨58, _⟩ => ⟨S6x8192, .f32⟩
  | .hbm, ⟨59, _⟩ => ⟨S6x8192, .f32⟩
  | .hbm, ⟨60, _⟩ => ⟨S6x8192x1, .f32⟩
  | .hbm, ⟨61, _⟩ => ⟨S6x8192x8192, .f32⟩
  | .hbm, ⟨62, _⟩ => ⟨S6x8192x8192, .f32⟩
  | .hbm, ⟨63, _⟩ => ⟨S6x8192x8192, .f32⟩
  | .hbm, ⟨64, _⟩ => ⟨S_, .f32⟩
  | .hbm, ⟨65, _⟩ => ⟨S6x8192, .f32⟩
  | .hbm, ⟨66, _⟩ => ⟨S6x8192x1, .f32⟩
  | .hbm, ⟨67, _⟩ => ⟨S6x8192x8192, .f32⟩
  | .hbm, ⟨68, _⟩ => ⟨S6x8192x8192, .f32⟩
  | .hbm, ⟨69, _⟩ => ⟨S6x8192x1, .f32⟩
  | .hbm, ⟨70, _⟩ => ⟨S_, .f32⟩
  | .hbm, ⟨71, _⟩ => ⟨S6x8192x1, .f32⟩
  | .hbm, ⟨72, _⟩ => ⟨S6x8192x1, .f32⟩
  | .hbm, ⟨73, _⟩ => ⟨S6x8192x128, .f32⟩
  | .hbm, ⟨74, _⟩ => ⟨S8192x6x128, .f32⟩
  | .hbm, ⟨75, _⟩ => ⟨S8192x768, .f32⟩
  | .hbm, ⟨76, _⟩ => ⟨S8192x6x128, .f32⟩
  | .hbm, ⟨77, _⟩ => ⟨S6x8192x128, .f32⟩
  | .hbm, ⟨78, _⟩ => ⟨S6x128x8192, .f32⟩
  | .hbm, ⟨79, _⟩ => ⟨S6x8192x128, .f32⟩
  | .hbm, ⟨80, _⟩ => ⟨S6x8192x8192, .f32⟩
  | .hbm, ⟨81, _⟩ => ⟨S6x8192x8192, .f32⟩
  | .hbm, ⟨82, _⟩ => ⟨S6x8192x8192, .f32⟩
  | .hbm, ⟨83, _⟩ => ⟨S6x8192x8192, .f32⟩
  | .hbm, ⟨84, _⟩ => ⟨S_, .f32⟩
  | .hbm, ⟨85, _⟩ => ⟨S6x8192, .f32⟩
  | .hbm, ⟨86, _⟩ => ⟨S6x8192x1, .f32⟩
  | .hbm, ⟨87, _⟩ => ⟨S6x8192x1, .f32⟩
  | .hbm, ⟨88, _⟩ => ⟨S6x8192x8192, .f32⟩
  | .hbm, ⟨89, _⟩ => ⟨S6x8192x8192, .f32⟩
  | .hbm, ⟨90, _⟩ => ⟨S_, .f32⟩
  | .hbm, ⟨91, _⟩ => ⟨S6x8192, .f32⟩
  | .hbm, ⟨92, _⟩ => ⟨S6x8192x8192, .f32⟩
  | .hbm, ⟨93, _⟩ => ⟨S6x8192x8192, .f32⟩
  | .hbm, ⟨94, _⟩ => ⟨S6x8192x8192, .f32⟩
  | .hbm, ⟨95, _⟩ => ⟨S_, .f32⟩
  | .hbm, ⟨96, _⟩ => ⟨S6x8192x8192, .f32⟩
  | .hbm, ⟨97, _⟩ => ⟨S6x8192x8192, .f32⟩
  | .hbm, ⟨98, _⟩ => ⟨S_, .f32⟩
  | .hbm, ⟨99, _⟩ => ⟨S6x8192, .f32⟩
  | .hbm, ⟨100, _⟩ => ⟨S6x8192x1, .f32⟩
  | .hbm, ⟨101, _⟩ => ⟨S6x8192x8192, .f32⟩
  | .hbm, ⟨102, _⟩ => ⟨S_, .f32⟩
  | .hbm, ⟨103, _⟩ => ⟨S6x8192, .f32⟩
  | .hbm, ⟨104, _⟩ => ⟨S6x1x8192, .f32⟩
  | .hbm, ⟨105, _⟩ => ⟨S_, .f32⟩
  | .hbm, ⟨106, _⟩ => ⟨S6x8192, .f32⟩
  | .hbm, ⟨107, _⟩ => ⟨S_, .f32⟩
  | .hbm, ⟨108, _⟩ => ⟨S6x8192, .f32⟩
  | .hbm, ⟨109, _⟩ => ⟨S6x8192, .f32⟩
  | .hbm, ⟨110, _⟩ => ⟨S_, .f32⟩
  | .hbm, ⟨111, _⟩ => ⟨S6x8192x8192, .f32⟩
  | .hbm, ⟨112, _⟩ => ⟨S6x8192x8192, .f32⟩
  | .hbm, ⟨113, _⟩ => ⟨S6x8192x128, .f32⟩
  | .hbm, ⟨114, _⟩ => ⟨S8192x6x128, .f32⟩
  | .hbm, ⟨115, _⟩ => ⟨S8192x768, .f32⟩
  | .hbm, ⟨116, _⟩ => ⟨S8192x768, .bf16⟩
  | .hbm, ⟨117, _⟩ => ⟨S8192x6x128, .f32⟩
  | .hbm, ⟨118, _⟩ => ⟨S8192x768, .f32⟩
  | .hbm, ⟨119, _⟩ => ⟨S8192x768, .bf16⟩
  | .hbm, ⟨120, _⟩ => ⟨S6x1x8192, .f32⟩
  | .hbm, ⟨121, _⟩ => ⟨S6x8x8192, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call1_cst : Ref sig .tc := ⟨.hbm, 95, rfl⟩
abbrev main_call1_v0 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Kernel28.lean ====
abbrev S8192x6144 : Shape := ⟨2, ![8192, 6144]⟩
abbrev S6x8192 : Shape := ⟨2, ![6, 8192]⟩
abbrev S8192x768 : Shape := ⟨2, ![8192, 768]⟩
abbrev S8192x6x128 : Shape := ⟨3, ![8192, 6, 128]⟩
abbrev S6x8192x128 : Shape := ⟨3, ![6, 8192, 128]⟩
abbrev S8192 : Shape := ⟨1, ![8192]⟩
abbrev S6x8192x8192 : Shape := ⟨3, ![6, 8192, 8192]⟩
abbrev S_ : Shape := ⟨0, ![]⟩
abbrev S6x8192x1 : Shape := ⟨3, ![6, 8192, 1]⟩
abbrev S6x1x8192 : Shape := ⟨3, ![6, 1, 8192]⟩
abbrev S1x8192 : Shape := ⟨2, ![1, 8192]⟩
abbrev S8192x1 : Shape := ⟨2, ![8192, 1]⟩
abbrev S8192x8192 : Shape := ⟨2, ![8192, 8192]⟩
abbrev S16 : Shape := ⟨1, ![16]⟩
abbrev S32 : Shape := ⟨1, ![32]⟩
abbrev S2x8192 : Shape := ⟨2, ![2, 8192]⟩
abbrev S8x8192 : Shape := ⟨2, ![8, 8192]⟩
abbrev S512x768 : Shape := ⟨2, ![512, 768]⟩
abbrev S1 : Shape := ⟨1, ![1]⟩
abbrev S8x512 : Shape := ⟨2, ![8, 512]⟩
abbrev S6x512x128 : Shape := ⟨3, ![6, 512, 128]⟩
abbrev S6x512x1 : Shape := ⟨3, ![6, 512, 1]⟩
abbrev S512x128 : Shape := ⟨2, ![512, 128]⟩
abbrev S1x512x1 : Shape := ⟨3, ![1, 512, 1]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1x512x128 : Shape := ⟨3, ![1, 512, 128]⟩

abbrev nBuf : Space → Nat
  | .hbm => 53
  | .vmem => 21
  | .smem => 1
  | _ => 0

abbrev bufTy : (tb : Table) → Fin (tcTables nBuf tb) → BufTy
  | .hbm, ⟨0, _⟩ => ⟨S8192x6144, .f32⟩
  | .hbm, ⟨1, _⟩ => ⟨S6x8192, .f32⟩
  | .hbm, ⟨2, _⟩ => ⟨S8192x768, .f32⟩
  | .hbm, ⟨3, _⟩ => ⟨S8192x768, .f32⟩
  | .hbm, ⟨4, _⟩ => ⟨S8192x6x128, .f32⟩
  | .hbm, ⟨5, _⟩ => ⟨S6x8192x128, .f32⟩
  | .hbm, ⟨6, _⟩ => ⟨S8192x768, .f32⟩
  | .hbm, ⟨7, _⟩ => ⟨S8192x6x128, .f32⟩
  | .hbm, ⟨8, _⟩ => ⟨S6x8192x128, .f32⟩
  | .hbm, ⟨9, _⟩ => ⟨S8192, .i32⟩
  | .hbm, ⟨10, _⟩ => ⟨S6x8192x8192, .f32⟩
  | .hbm, ⟨11, _⟩ => ⟨S_, .f32⟩
  | .hbm, ⟨12, _⟩ => ⟨S6x8192x8192, .f32⟩
  | .hbm, ⟨13, _⟩ => ⟨S6x8192x8192, .f32⟩
  | .hbm, ⟨14, _⟩ => ⟨S6x8192x1, .f32⟩
  | .hbm, ⟨15, _⟩ => ⟨S6x1x8192, .f32⟩
  | .hbm, ⟨16, _⟩ => ⟨S6x8192x8192, .f32⟩
  | .hbm, ⟨17, _⟩ => ⟨S6x8192x8192, .f32⟩
  | .hbm, ⟨18, _⟩ => ⟨S6x8192x8192, .f32⟩
  | .hbm, ⟨19, _⟩ => ⟨S6x8192x8192, .f32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S6x8192x8192, .i1⟩
  | .hbm, ⟨28, _⟩ => ⟨S6x8192x8192, .f32⟩
  | .hbm, ⟨29, _⟩ => ⟨S6x8192x8192, .f32⟩
  | .hbm, ⟨30, _⟩ => ⟨S_, .f32⟩
  | .hbm, ⟨31, _⟩ => ⟨S6x8192, .f32⟩
  | .hbm, ⟨32, _⟩ => ⟨S6x8192x1, .f32⟩
  | .hbm, ⟨33, _⟩ => ⟨S6x8192x8192, .f32⟩
  | .hbm, ⟨34, _⟩ => ⟨S6x8192x8192, .f32⟩
  | .hbm, ⟨35, _⟩ => ⟨S6x8192x8192, .f32⟩
  | .hbm, ⟨36, _⟩ => ⟨S_, .f32⟩
  | .hbm, ⟨37, _⟩ => ⟨S6x8192, .f32⟩
  | .hbm, ⟨38, _⟩ => ⟨S6x8192, .f32⟩
  | .hbm, ⟨39, _⟩ => ⟨S6x8192, .f32⟩
  | .hbm, ⟨40, _⟩ => ⟨S_, .i32⟩
  | .hbm, ⟨41, _⟩ => ⟨S16, .i32⟩
  | .hbm, ⟨42, _⟩ => ⟨S_, .i32⟩
  | .hbm, ⟨43, _⟩ => ⟨S16, .i32⟩
  | .hbm, ⟨44, _⟩ => ⟨S_, .f32⟩
  | .hbm, ⟨45, _⟩ => ⟨S2x8192, .f32⟩
  | .hbm, ⟨46, _⟩ => ⟨S8x8192, .f32⟩
  | .hbm, ⟨47, _⟩ => ⟨S6x8192x1, .f32⟩
  | .hbm, ⟨48, _⟩ => ⟨S6x8192x128, .f32⟩
  | .hbm, ⟨49, _⟩ => ⟨S6x8192x1, .f32⟩
  | .hbm, ⟨50, _⟩ => ⟨S6x8192x128, .f32⟩
  | .hbm, ⟨51, _⟩ => ⟨S8192x768, .bf16⟩
  | .hbm, ⟨52, _⟩ => ⟨S6x8192x128, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S8x512, .f32⟩
  | .local _ .vmem, ⟨7, _⟩ => ⟨S8x512, .f32⟩
  | .local _ .vmem, ⟨8, _⟩ => ⟨S6x512x128, .f32⟩
  | .local _ .vmem, ⟨9, _⟩ => ⟨S6x512x128, .f32⟩
  | .local _ .vmem, ⟨10, _⟩ => ⟨S6x512x128, .f32⟩
  | .local _ .vmem, ⟨11, _⟩ => ⟨S6x512x128, .f32⟩
  | .local _ .vmem, ⟨12, _⟩ => ⟨S512x768, .f32⟩
  | .local _ .vmem, ⟨13, _⟩ => ⟨S512x768, .f32⟩
  | .local _ .vmem, ⟨14, _⟩ => ⟨S512x768, .bf16⟩
  | .local _ .vmem, ⟨15, _⟩ => ⟨S512x768, .bf16⟩
  | .local _ .vmem, ⟨16, _⟩ => ⟨S6x512x128, .f32⟩
  | .local _ .vmem, ⟨17, _⟩ => ⟨S6x512x128, .f32⟩
  | .local _ .vmem, ⟨18, _⟩ => ⟨S512x768, .f32⟩
  | .local _ .vmem, ⟨19, _⟩ => ⟨S6x512x1, .f32⟩
  | .local _ .vmem, ⟨20, _⟩ => ⟨S6x512x1, .f32⟩
  | .local _ .smem, ⟨0, _⟩ => ⟨S32, .i32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39_0 : Ref sig .tc := ⟨.hbm, 51, rfl⟩
abbrev main_v39_1 : Ref sig .tc := ⟨.hbm, 52, rfl⟩
abbrev main_v32 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 32], ![false, false]⟩

abbrev pre0 : Pipeline.Prefetch sig := ⟨1, ![main_v32.idx], fun | 0 => main_v32.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) : BitVec 1 :=
  let arg1 : BitVec 32 := BitVec.ofNat 32 (i 1).val
  let c31_i32 : BitVec 32 := 31#32
  let v26 : BitVec 1 := Scalar.cmpi .eq arg1 c31_i32
  let v27 : BitVec 32 := Scalar.extui v26
  let c0_i32_9 : BitVec 32 := 0#32
  let v28 : BitVec 1 := Scalar.cmpi .ne v27 c0_i32_9
  v28

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi arg1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let v12 : BitVec 32 := Scalar.addi v1 v11
  let v13 : BitVec 32 := Scalar.minsi v12 arg0
  let c5_i32 : BitVec 32 := 5#32
  let c0_i32_3 : BitVec 32 := 0#32
  ![v13.toNat, c5_i32.toNat]

def cc0_transform_2 (k0_off1_inb : ∀ i : grid0.Coords, ∀ a, (k0_off1 i) a + S1.size a ≤ S32.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi arg1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let v12 : BitVec 32 := Scalar.addi v1 v11
  let v13 : BitVec 32 := Scalar.minsi v12 arg0
  let c6_i32 : BitVec 32 := 6#32
  let c0_i32_3 : BitVec 32 := 0#32
  ![v13.toNat, c6_i32.toNat]

def cc0_transform_3 (k0_off1_inb : ∀ i : grid0.Coords, ∀ a, (k0_off1 i) a + S1.size a ≤ S32.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi arg1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let v12 : BitVec 32 := Scalar.addi v1 v11
  let v13 : BitVec 32 := Scalar.minsi v12 arg0
  let c0_i32_3 : BitVec 32 := 0#32
  let c0_i32_4 : BitVec 32 := 0#32
  ![c0_i32_3.toNat, v13.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S6x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S6x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S6x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel28Ideal.lean ====
variable {F : FTy → Type} [FloatOps F] [Named F]
def κ : String → Option EReal := fun
  | "mask" => some ⊥
  | _ => none
-- ==== Reference28Ideal.lean ====
abbrev S8192x6144 : Shape := ⟨2, ![8192, 6144]⟩
abbrev S6x8192 : Shape := ⟨2, ![6, 8192]⟩
abbrev S8192x768 : Shape := ⟨2, ![8192, 768]⟩
abbrev S8192x6x128 : Shape := ⟨3, ![8192, 6, 128]⟩
abbrev S6x8192x128 : Shape := ⟨3, ![6, 8192, 128]⟩
abbrev S8192 : Shape := ⟨1, ![8192]⟩
abbrev S6x8192x8192 : Shape := ⟨3, ![6, 8192, 8192]⟩
abbrev S_ : Shape := ⟨0, ![]⟩
abbrev S6x8192x1 : Shape := ⟨3, ![6, 8192, 1]⟩
abbrev S6x1x8192 : Shape := ⟨3, ![6, 1, 8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 108
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S6x8192, .f32⟩
  | .hbm, ⟨2, _⟩ => ⟨S8192x768, .f32⟩
  | .hbm, ⟨3, _⟩ => ⟨S8192x768, .f32⟩
  | .hbm, ⟨4, _⟩ => ⟨S8192x6x128, .f32⟩
  | .hbm, ⟨5, _⟩ => ⟨S6x8192x128, .f32⟩
  | .hbm, ⟨6, _⟩ => ⟨S8192x768, .f32⟩
  | .hbm, ⟨7, _⟩ => ⟨S8192x6x128, .f32⟩
  | .hbm, ⟨8, _⟩ => ⟨S6x8192x128, .f32⟩
  | .hbm, ⟨9, _⟩ => ⟨S8192x768, .f32⟩
  | .hbm, ⟨10, _⟩ => ⟨S8192x6x128, .f32⟩
  | .hbm, ⟨11, _⟩ => ⟨S6x8192x128, .f32⟩
  | .hbm, ⟨12, _⟩ => ⟨S8192, .i32⟩
  | .hbm, ⟨13, _⟩ => ⟨S6x8192x8192, .f32⟩
  | .hbm, ⟨14, _⟩ => ⟨S_, .f32⟩
  | .hbm, ⟨15, _⟩ => ⟨S6x8192x8192, .f32⟩
  | .hbm, ⟨16, _⟩ => ⟨S6x8192x8192, .f32⟩
  | .hbm, ⟨17, _⟩ => ⟨S6x8192x1, .f32⟩
  | .hbm, ⟨18, _⟩ => ⟨S6x1x8192, .f32⟩
  | .hbm, ⟨19, _⟩ => ⟨S6x8192x8192, .f32⟩
  | .hbm, ⟨20, _⟩ => ⟨S6x8192x8192, .f32⟩
  | .hbm, ⟨21, _⟩ => ⟨S6x8192x8192, .f32⟩
  | .hbm, ⟨22, _⟩ => ⟨S6x8192x8192, .f32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S6x8192x8192, .i1⟩
  | .hbm, ⟨31, _⟩ => ⟨S6x8192x8192, .f32⟩
  | .hbm, ⟨32, _⟩ => ⟨S6x8192x8192, .f32⟩
  | .hbm, ⟨33, _⟩ => ⟨S_, .f32⟩
  | .hbm, ⟨34, _⟩ => ⟨S6x8192x8192, .f32⟩
  | .hbm, ⟨35, _⟩ => ⟨S_, .f32⟩
  | .hbm, ⟨36, _⟩ => ⟨S6x8192, .f32⟩
  | .hbm, ⟨37, _⟩ => ⟨S6x8192x1, .f32⟩
  | .hbm, ⟨38, _⟩ => ⟨S6x8192x8192, .f32⟩
  | .hbm, ⟨39, _⟩ => ⟨S6x8192x8192, .i1⟩
  | .hbm, ⟨40, _⟩ => ⟨S6x8192x8192, .f32⟩
  | .hbm, ⟨41, _⟩ => ⟨S_, .f32⟩
  | .hbm, ⟨42, _⟩ => ⟨S6x8192, .f32⟩
  | .hbm, ⟨43, _⟩ => ⟨S_, .f32⟩
  | .hbm, ⟨44, _⟩ => ⟨S6x8192, .f32⟩
  | .hbm, ⟨45, _⟩ => ⟨S6x8192, .f32⟩
  | .hbm, ⟨46, _⟩ => ⟨S_, .f32⟩
  | .hbm, ⟨47, _⟩ => ⟨S6x8192, .f32⟩
  | .hbm, ⟨48, _⟩ => ⟨S6x8192, .i1⟩
  | .hbm, ⟨49, _⟩ => ⟨S_, .f32⟩
  | .hbm, ⟨50, _⟩ => ⟨S6x8192, .f32⟩
  | .hbm, ⟨51, _⟩ => ⟨S6x8192, .i1⟩
  | .hbm, ⟨52, _⟩ => ⟨S_, .f32⟩
  | .hbm, ⟨53, _⟩ => ⟨S6x8192, .f32⟩
  | .hbm, ⟨54, _⟩ => ⟨S_, .f32⟩
  | .hbm, ⟨55, _⟩ => ⟨S6x8192, .f32⟩
  | .hbm, ⟨56, _⟩ => ⟨S_, .f32⟩
  | .hbm, ⟨57, _⟩ => ⟨S6x8192, .f32⟩
  | .hbm, ⟨58, _⟩ => ⟨S6x8192, .f32⟩
  | .hbm, ⟨59, _⟩ => ⟨S6x8192, .f32⟩
  | .hbm, ⟨60, _⟩ => ⟨S6x8192x1, .f32⟩
  | .hbm, ⟨61, _⟩ => ⟨S6x8192x8192, .f32⟩
  | .hbm, ⟨62, _⟩ => ⟨S6x8192x8192, .f32⟩
  | .hbm, ⟨63, _⟩ => ⟨S6x8192x8192, .f32⟩
  | .hbm, ⟨64, _⟩ => ⟨S_, .f32⟩
  | .hbm, ⟨65, _⟩ => ⟨S6x8192, .f32⟩
  | .hbm, ⟨66, _⟩ => ⟨S6x8192x1, .f32⟩
  | .hbm, ⟨67, _⟩ => ⟨S6x8192x8192, .f32⟩
  | .hbm, ⟨68, _⟩ => ⟨S6x8192x8192, .f32⟩
  | .hbm, ⟨69, _⟩ => ⟨S6x8192x1, .f32⟩
  | .hbm, ⟨70, _⟩ => ⟨S_, .f32⟩
  | .hbm, ⟨71, _⟩ => ⟨S6x8192x1, .f32⟩
  | .hbm, ⟨72, _⟩ => ⟨S6x8192x1, .f32⟩
  | .hbm, ⟨73, _⟩ => ⟨S6x8192x128, .f32⟩
  | .hbm, ⟨74, _⟩ => ⟨S8192x6x128, .f32⟩
  | .hbm, ⟨75, _⟩ => ⟨S6x8192x128, .f32⟩
  | .hbm, ⟨76, _⟩ => ⟨S6x8192x8192, .f32⟩
  | .hbm, ⟨77, _⟩ => ⟨S6x8192x8192, .f32⟩
  | .hbm, ⟨78, _⟩ => ⟨S6x8192x8192, .f32⟩
  | .hbm, ⟨79, _⟩ => ⟨S6x8192x8192, .f32⟩
  | .hbm, ⟨80, _⟩ => ⟨S_, .f32⟩
  | .hbm, ⟨81, _⟩ => ⟨S6x8192, .f32⟩
  | .hbm, ⟨82, _⟩ => ⟨S6x8192x1, .f32⟩
  | .hbm, ⟨83, _⟩ => ⟨S6x8192x1, .f32⟩
  | .hbm, ⟨84, _⟩ => ⟨S6x8192x8192, .f32⟩
  | .hbm, ⟨85, _⟩ => ⟨S6x8192x8192, .f32⟩
  | .hbm, ⟨86, _⟩ => ⟨S_, .f32⟩
  | .hbm, ⟨87, _⟩ => ⟨S6x8192, .f32⟩
  | .hbm, ⟨88, _⟩ => ⟨S6x8192x8192, .f32⟩
  | .hbm, ⟨89, _⟩ => ⟨S6x8192x8192, .f32⟩
  | .hbm, ⟨90, _⟩ => ⟨S6x8192x8192, .f32⟩
  | .hbm, ⟨91, _⟩ => ⟨S_, .f32⟩
  | .hbm, ⟨92, _⟩ => ⟨S6x8192x8192, .f32⟩
  | .hbm, ⟨93, _⟩ => ⟨S6x8192x8192, .f32⟩
  | .hbm, ⟨94, _⟩ => ⟨S_, .f32⟩
  | .hbm, ⟨95, _⟩ => ⟨S6x8192x8192, .f32⟩
  | .hbm, ⟨96, _⟩ => ⟨S6x8192x8192, .f32⟩
  | .hbm, ⟨97, _⟩ => ⟨S6x8192x128, .f32⟩
  | .hbm, ⟨98, _⟩ => ⟨S8192x6x128, .f32⟩
  | .hbm, ⟨99, _⟩ => ⟨S6x8192x128, .f32⟩
  | .hbm, ⟨100, _⟩ => ⟨S6x8192x128, .f32⟩
  | .hbm, ⟨101, _⟩ => ⟨S_, .f32⟩
  | .hbm, ⟨102, _⟩ => ⟨S6x8192, .f32⟩
  | .hbm, ⟨103, _⟩ => ⟨S8192x6x128, .f32⟩
  | .hbm, ⟨104, _⟩ => ⟨S8192x768, .f32⟩
  | .hbm, ⟨105, _⟩ => ⟨S8192x768, .bf16⟩
  | .hbm, ⟨106, _⟩ => ⟨S6x8192x1, .f32⟩
  | .hbm, ⟨107, _⟩ => ⟨S6x8192x128, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call1_cst : Ref sig .tc := ⟨.hbm, 91, rfl⟩
abbrev main_call1_v0 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_14 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]
-- ==== Proof.Mem.Spec.lean ====
module

public import Idealize.ShloMosaic.Lib.Pipeline.ValueKit
public import Idealize.ShloMosaic.PureOps.Ideal.Laws

@[expose] public section

noncomputable section

namespace Cert.Mem

open Idealize.ShloMosaic

/-- The word of −∞. -/
theorem ofBits_neg_inf : Ideal.ofBits .f32 0xFF800000#32 = (⊥ : EReal) := by simp [Ideal.ofBits, Ideal.ieee]

/-- The score scale, as the kernel writes it. -/
abbrev cs : EReal := Ideal.ofBits .f32 0x3DB504F3#32

/-- A table of heads, rows and lanes laid out with the heads side by side. -/
def lay {n : ℕ} (f : Fin 4 → Fin n → Fin 128 → EReal) (t : Fin n) (l : Fin 512) : EReal :=
  f ⟨l.val / 128, by omega⟩ t ⟨l.val % 128, Nat.mod_lt _ (by decide)⟩

theorem lay_eq {n : ℕ} (f : Fin 4 → Fin n → Fin 128 → EReal) {t t' : Fin n} {l : Fin 512} (h : Fin 4) (d : Fin 128) (ht : t = t')
    (hl : l.val = 128 * h.val + d.val) : lay f t l = f h t' d := by
  subst ht
  unfold lay
  have e : (⟨l.val / 128, by omega⟩ : Fin 4) = h := Fin.ext (by simp only [hl]; omega)
  have e' : (⟨l.val % 128, Nat.mod_lt _ (by decide)⟩ : Fin 128) = d := Fin.ext (by simp only [hl]; omega)
  rw [e, e']

/-! One query row against the memory slots of one head: the row's softmax weights and their gradient.
`c` is the score scale, `q` the query row, `g` the row of the output's cotangent, `k`, `v` the slots. -/

variable {D J : ℕ} (c : EReal) (q g : Fin D → EReal) (k v : Fin J → Fin D → EReal)

/-- The scaled score of slot `j`. -/
def score (j : Fin J) : EReal := (∑ d : Fin D, q d * k j d) * c

/-- The row's greatest score. -/
def top : EReal := Finset.univ.fold max ⊥ (score c q k)

/-- The exponential of the score below the row's greatest. -/
def expo (j : Fin J) : EReal := Ideal.exp (score c q k j - top c q k)

/-- The row's normaliser. -/
def den : EReal := ∑ j : Fin J, expo c q k j

/-- The softmax weight of slot `j`. -/
def prob (j : Fin J) : EReal := Ideal.div (expo c q k j) (den c q k)

/-- The cotangent of slot `j`'s weight. -/
def dprob (j : Fin J) : EReal := ∑ d : Fin D, g d * v j d

/-- The cotangent of slot `j`'s scaled score. -/
def dscore (j : Fin J) : EReal :=
  prob c q k j * (dprob g v j - ∑ j' : Fin J, prob c q k j' * dprob g v j')

/-- The same cotangent as the derivative of the quotient `exp / sum` gives it. -/
def dscore' (j : Fin J) : EReal :=
  (Ideal.div (dprob g v j) (den c q k)
    + -(∑ j' : Fin J, dprob g v j' * Ideal.div 1 (den c q k * den c q k) * expo c q k j')) * expo c q k j

end Cert.Mem

end
-- ==== Proof.Mem.Kernel.lean ====
module

public import proofs.«01_k».proof.Proof.Gen.KernelIdeal.Value
public import proofs.«01_k».proof.Proof.Mem.Spec

@[expose] public section

set_option maxRecDepth 16384

noncomputable section

namespace Cert.KernelIdeal.MemValue

open Cert.KernelIdeal Cert.KernelIdeal.Gen Cert.Mem Idealize.ShloMosaic Idealize.ShloMosaic.TcCoe Idealize.SL.Sem
open Idealize.ShloMosaic.Pipeline (Dat)

/-- Where the windows' blocks lie: the point is (head, tile of rows). -/
theorem idx : ∀ t : Fin cfg0.N, win0_0.index t = ![t.val % 16, 43 + t.val / 16] ∧ win0_1.index t = ![0, t.val / 16]
    ∧ win0_2.index t = ![0, 4 + t.val / 16] ∧ win0_3.index t = ![t.val % 16, t.val / 16]
    ∧ win0_4.index t = ![t.val % 16, t.val / 16] ∧ win0_5.index t = ![0, t.val / 16] ∧ win0_6.index t = ![0, t.val / 16] :=
  (by decide +kernel : ∀ t : Fin grid0.N, win0_0.index t = ![t.val % 16, 43 + t.val / 16] ∧ win0_1.index t = ![0, t.val / 16]
    ∧ win0_2.index t = ![0, 4 + t.val / 16] ∧ win0_3.index t = ![t.val % 16, t.val / 16]
    ∧ win0_4.index t = ![t.val % 16, t.val / 16] ∧ win0_5.index t = ![0, t.val / 16] ∧ win0_6.index t = ![0, t.val / 16])

section Block

variable (x0 x3 : Vec Ideal S512x128 .f32) (x1 x2 : Vec Ideal S256x128 .f32)

theorem pay6_apply (y : S512x256.Idx) :
    k0_pay6 x0 x1 y = prob cs (fun d : Fin 128 => x0 (ix2 (y 0) d)) (fun (j : Fin 256) (d : Fin 128) => x1 (ix2 j d)) (y 1) := by
  pointwise [k0_pay6, prob, expo, den, top, score, ofBits_neg_inf]

theorem pay7_apply (a : Vec Ideal S256x128 .f32) (y : S256x128.Idx) :
    k0_pay7 x0 x1 x3 a y = a y + ∑ r : Fin 512, prob cs (fun d : Fin 128 => x0 (ix2 r d)) (fun (j : Fin 256) (d : Fin 128) => x1 (ix2 j d)) (y 0) * x3 (ix2 r (y 1)) := by
  pointwise [k0_pay7, pay6_apply]

theorem pay1_apply (y : S512x256.Idx) :
    k0_pay1 (k0_pay6 x0 x1) (k0_pay8 x3 x2) (k0_pay9 x0 x1 x3 x2) y
      = dscore cs (fun d : Fin 128 => x0 (ix2 (y 0) d)) (fun d : Fin 128 => x3 (ix2 (y 0) d))
          (fun (j : Fin 256) (d : Fin 128) => x1 (ix2 j d)) (fun (j : Fin 256) (d : Fin 128) => x2 (ix2 j d)) (y 1) := by
  pointwise [k0_pay1, k0_pay8, k0_pay9, pay6_apply, dscore, dprob]

theorem pay2_apply (y : S512x128.Idx) :
    k0_pay2 x1 (k0_pay6 x0 x1) (k0_pay8 x3 x2) (k0_pay9 x0 x1 x3 x2) y
      = (∑ j : Fin 256, dscore cs (fun d : Fin 128 => x0 (ix2 (y 0) d)) (fun d : Fin 128 => x3 (ix2 (y 0) d))
          (fun (j : Fin 256) (d : Fin 128) => x1 (ix2 j d)) (fun (j : Fin 256) (d : Fin 128) => x2 (ix2 j d)) j * x1 (ix2 j (y 1))) * cs := by
  pointwise [k0_pay2, pay1_apply]

theorem pay3_apply (a : Vec Ideal S256x128 .f32) (y : S256x128.Idx) :
    k0_pay3 x0 (k0_pay6 x0 x1) (k0_pay8 x3 x2) (k0_pay9 x0 x1 x3 x2) a y
      = a y + (∑ r : Fin 512, dscore cs (fun d : Fin 128 => x0 (ix2 r d)) (fun d : Fin 128 => x3 (ix2 r d))
          (fun (j : Fin 256) (d : Fin 128) => x1 (ix2 j d)) (fun (j : Fin 256) (d : Fin 128) => x2 (ix2 j d)) (y 0) * x0 (ix2 r (y 1))) * cs := by
  pointwise [k0_pay3, pay1_apply]

end Block

variable (m : (ℓ : Loc nD τ sig) → Buf (Elt Ideal) ℓ) (c : Dev nD)

/-- Row `t` of head `h`'s queries, of the output's cotangent, and the head's slots. -/
def qr (h : Fin 4) (t : Fin 8192) (d : Fin 128) : EReal :=
  (m ((c : Thread nD τ).loc main_arg0) : S8192x6144.Idx → EReal) (ix2 t ⟨5504 + (h.val * 128 + d.val), by omega⟩)
def gr (h : Fin 4) (t : Fin 8192) (d : Fin 128) : EReal :=
  (m ((c : Thread nD τ).loc main_arg2) : S8192x512.Idx → EReal) (ix2 t ⟨h.val * 128 + d.val, by omega⟩)
def ks (h : Fin 4) (j : Fin 256) (d : Fin 128) : EReal :=
  (m ((c : Thread nD τ).loc main_arg1) : S256x1024.Idx → EReal) (ix2 j ⟨h.val * 128 + d.val, by omega⟩)
def vs (h : Fin 4) (j : Fin 256) (d : Fin 128) : EReal :=
  (m ((c : Thread nD τ).loc main_arg1) : S256x1024.Idx → EReal) (ix2 j ⟨512 + (h.val * 128 + d.val), by omega⟩)

/-- The head of a point, and the row of the arrays that row `r` of the point's tile is. -/
def hd (t : Fin cfg0.N) : Fin 4 := ⟨t.val / 16, by have : t.val < 64 := t.isLt; omega⟩
def rw' (t : Fin cfg0.N) (r : Fin 512) : Fin 8192 := ⟨512 * (t.val % 16) + r.val, by omega⟩

theorem blk0 (t : Fin cfg0.N) (r : Fin 512) (d : Fin 128) : (iblk m c 0 t : S512x128.Idx → EReal) (ix2 r d) = qr m c (hd t) (rw' t r) d := by
  unfold qr
  blk_ext [iblk, V, idx t, hd, rw']
theorem blk1 (t : Fin cfg0.N) (j : Fin 256) (d : Fin 128) : (iblk m c 1 t : S256x128.Idx → EReal) (ix2 j d) = ks m c (hd t) j d := by
  unfold ks
  blk_ext [iblk, V, idx t, hd]
theorem blk2 (t : Fin cfg0.N) (j : Fin 256) (d : Fin 128) : (iblk m c 2 t : S256x128.Idx → EReal) (ix2 j d) = vs m c (hd t) j d := by
  unfold vs
  blk_ext [iblk, V, idx t, hd]
theorem blk3 (t : Fin cfg0.N) (r : Fin 512) (d : Fin 128) : (iblk m c 3 t : S512x128.Idx → EReal) (ix2 r d) = gr m c (hd t) (rw' t r) d := by
  unfold gr
  blk_ext [iblk, V, idx t, hd, rw']

/-- The three results by head, row (or slot) and lane. -/
def dqf (h : Fin 4) (t : Fin 8192) (d : Fin 128) : EReal :=
  (∑ j : Fin 256, dscore cs (qr m c h t) (gr m c h t) (ks m c h) (vs m c h) j * ks m c h j d) * cs
def dvf (h : Fin 4) (j : Fin 256) (d : Fin 128) : EReal :=
  ∑ t : Fin 8192, prob cs (qr m c h t) (ks m c h) j * gr m c h t d
/-- The scale is applied to each tile's sum. -/
def dkf (h : Fin 4) (j : Fin 256) (d : Fin 128) : EReal :=
  ∑ s : Fin 16, (∑ r : Fin 512, dscore cs (qr m c h ⟨512 * s.val + r.val, by omega⟩) (gr m c h ⟨512 * s.val + r.val, by omega⟩) (ks m c h) (vs m c h) j
    * qr m c h ⟨512 * s.val + r.val, by omega⟩ d) * cs

def DQ : S8192x512.Idx → EReal := fun i => lay (dqf m c) (i 0) (i 1)
def DK : S256x512.Idx → EReal := fun i => lay (dkf m c) (i 0) (i 1)
def DV : S256x512.Idx → EReal := fun i => lay (dvf m c) (i 0) (i 1)

theorem out4_point (t : Fin cfg0.N) (y : S512x128.Idx) :
    k0_pay2 (iblk m c 1 t) (k0_pay6 (iblk m c 0 t) (iblk m c 1 t)) (k0_pay8 (iblk m c 3 t) (iblk m c 2 t))
      (k0_pay9 (iblk m c 0 t) (iblk m c 1 t) (iblk m c 3 t) (iblk m c 2 t)) y = dqf m c (hd t) (rw' t (y 0)) (y 1) := by
  rw [pay2_apply]
  unfold dqf
  have b0 : (fun d : Fin 128 => (iblk m c 0 t : S512x128.Idx → EReal) (ix2 (y 0) d)) = qr m c (hd t) (rw' t (y 0)) := funext fun d => blk0 m c t (y 0) d
  have b3 : (fun d : Fin 128 => (iblk m c 3 t : S512x128.Idx → EReal) (ix2 (y 0) d)) = gr m c (hd t) (rw' t (y 0)) := funext fun d => blk3 m c t (y 0) d
  have b1 : (fun (j : Fin 256) (d : Fin 128) => (iblk m c 1 t : S256x128.Idx → EReal) (ix2 j d)) = ks m c (hd t) := funext fun j => funext fun d => blk1 m c t j d
  have b2 : (fun (j : Fin 256) (d : Fin 128) => (iblk m c 2 t : S256x128.Idx → EReal) (ix2 j d)) = vs m c (hd t) := funext fun j => funext fun d => blk2 m c t j d
  refine congrArg (· * cs) (Finset.sum_congr rfl fun j _ => ?_)
  exact congrArg₂ (· * ·) (by rw [b0, b1, b2, b3]) (blk1 m c t j (y 1))

theorem out4 : (dats m 0 c).arrAt 4 cfg0.N = DQ m c := by
  refine (dats m 0 c).arrAt_eq_of_covers 4 _ (by decide +kernel) fun t hf y => ?_
  blk_simp
  rw [after0_4]
  have key : dqf m c (hd t) (rw' t (y 0)) (y 1) = DQ m c ((win0_4.blk t).view.emb y) := by
    refine (lay_eq _ _ _ ?_ ?_).symm
    · apply Fin.ext; show _ = 512 * (t.val % 16) + (y 0).val; blk_simp [idx t]; omega
    · show _ = 128 * (t.val / 16) + _; blk_simp [idx t]; omega
  by_cases h : t.val % 16 = 0
  · rw [outsAt0_A m c t h]
    frame_out
    exact (out4_point m c t y).trans key
  · rw [outsAt0_B m c t h]
    frame_out
    exact (out4_point m c t y).trans key

theorem out6 : (dats m 0 c).arrAt 6 cfg0.N = DV m c := by
  refine (dats m 0 c).arrAt_eq_of_covers 6 _ (by decide +kernel) fun t hf y => ?_
  blk_simp
  rw [after0_6]
  have b (t : Fin cfg0.N) (j : S256x128.Idx) (r : Fin 512) :
      prob cs (fun d : Fin 128 => (iblk m c 0 t : S512x128.Idx → EReal) (ix2 r d)) (fun (j : Fin 256) (d : Fin 128) => (iblk m c 1 t : S256x128.Idx → EReal) (ix2 j d)) (j 0)
        * (iblk m c 3 t : S512x128.Idx → EReal) (ix2 r (j 1))
      = prob cs (qr m c (hd t) (rw' t r)) (ks m c (hd t)) (j 0) * gr m c (hd t) (rw' t r) (j 1) := by
    refine congrArg₂ (· * ·) ?_ (blk3 m c t r (j 1))
    congr 1
    · exact funext fun d => blk0 m c t r d
    · exact funext fun j => funext fun d => blk1 m c t j d
  refine (Pipeline.eq_sum_fin_of_reset_step_apply_of_flush (fun n h => (outsAt0 m c n h).2.2) 16 (fun _ => 0)
   (fun t j => ∑ r : Fin 512, prob cs (qr m c (hd t) (rw' t r)) (ks m c (hd t)) (j 0) * gr m c (hd t) (rw' t r) (j 1))
   (fun t h j => ?_) (fun t h j => ?_) t ((flush0_6 t).mp hf) y).trans ?_
  · rw [outsAt0_A m c t h]; frame_out; rw [pay7_apply]
    have : k0_pay5 (F := Ideal) j = 0 := by pointwise [k0_pay5]
    rw [this]
    exact congrArg _ (Finset.sum_congr rfl fun r _ => b t j r)
  · rw [outsAt0_B m c t h]; frame_out; rw [pay7_apply]
    exact congrArg _ (Finset.sum_congr rfl fun r _ => b t j r)
  · refine ((zero_add _).trans ?_).trans (lay_eq (dvf m c) (t' := y 0) (hd t) (y 1) ?_ ?_).symm
    · refine Fin.sum_mul_add_congr (n := 512) (fun s r hl => ?_)
      have e : hd ⟨16 * (t.val / 16) + s.val, by have : t.val < 64 := t.isLt; show _ < 64; omega⟩ = hd t := by
        apply Fin.ext; simp only [hd]; omega
      have e' : rw' ⟨16 * (t.val / 16) + s.val, by have : t.val < 64 := t.isLt; show _ < 64; omega⟩ r = ⟨s.val * 512 + r.val, hl⟩ := by
        apply Fin.ext; simp only [rw']; omega
      rw [e, e']
    · apply Fin.ext; blk_simp [idx t]
    · show _ = 128 * (t.val / 16) + _; blk_simp [idx t]; omega

theorem out5 : (dats m 0 c).arrAt 5 cfg0.N = DK m c := by
  refine (dats m 0 c).arrAt_eq_of_covers 5 _ (by decide +kernel) fun t hf y => ?_
  blk_simp
  rw [after0_5]
  have b (t : Fin cfg0.N) (j : S256x128.Idx) (r : Fin 512) :
      dscore cs (fun d : Fin 128 => (iblk m c 0 t : S512x128.Idx → EReal) (ix2 r d)) (fun d : Fin 128 => (iblk m c 3 t : S512x128.Idx → EReal) (ix2 r d))
          (fun (j : Fin 256) (d : Fin 128) => (iblk m c 1 t : S256x128.Idx → EReal) (ix2 j d)) (fun (j : Fin 256) (d : Fin 128) => (iblk m c 2 t : S256x128.Idx → EReal) (ix2 j d)) (j 0)
        * (iblk m c 0 t : S512x128.Idx → EReal) (ix2 r (j 1))
      = dscore cs (qr m c (hd t) (rw' t r)) (gr m c (hd t) (rw' t r)) (ks m c (hd t)) (vs m c (hd t)) (j 0) * qr m c (hd t) (rw' t r) (j 1) := by
    refine congrArg₂ (· * ·) ?_ (blk0 m c t r (j 1))
    congr 1
    · exact funext fun d => blk0 m c t r d
    · exact funext fun d => blk3 m c t r d
    · exact funext fun j => funext fun d => blk1 m c t j d
    · exact funext fun j => funext fun d => blk2 m c t j d
  refine (Pipeline.eq_sum_fin_of_reset_step_apply_of_flush (fun n h => (outsAt0 m c n h).2.1) 16 (fun _ => 0)
   (fun t j => (∑ r : Fin 512, dscore cs (qr m c (hd t) (rw' t r)) (gr m c (hd t) (rw' t r)) (ks m c (hd t)) (vs m c (hd t)) (j 0) * qr m c (hd t) (rw' t r) (j 1)) * cs)
   (fun t h j => ?_) (fun t h j => ?_) t ((flush0_5 t).mp hf) y).trans ?_
  · rw [outsAt0_A m c t h]; frame_out; rw [pay3_apply]
    have : k0_pay4 (F := Ideal) j = 0 := by pointwise [k0_pay4]
    rw [this]
    exact congrArg (0 + · * cs) (Finset.sum_congr rfl fun r _ => b t j r)
  · rw [outsAt0_B m c t h]; frame_out; rw [pay3_apply]
    exact congrArg (_ + · * cs) (Finset.sum_congr rfl fun r _ => b t j r)
  · refine ((zero_add _).trans ?_).trans (lay_eq (dkf m c) (t' := y 0) (hd t) (y 1) ?_ ?_).symm
    · refine Finset.sum_congr rfl fun s _ => congrArg (· * cs) (Finset.sum_congr rfl fun r _ => ?_)
      have e : hd ⟨16 * (t.val / 16) + s.val, by have : t.val < 64 := t.isLt; show _ < 64; omega⟩ = hd t := by
        apply Fin.ext; simp only [hd]; omega
      have e' : rw' ⟨16 * (t.val / 16) + s.val, by have : t.val < 64 := t.isLt; show _ < 64; omega⟩ r = ⟨512 * s.val + r.val, by omega⟩ := by
        apply Fin.ext; simp only [rw']; omega
      rw [e, e']
    · apply Fin.ext; blk_simp [idx t]
    · show _ = 128 * (t.val / 16) + _; blk_simp [idx t]; omega

end Cert.KernelIdeal.MemValue

end
-- ==== Proof.Mem.Reference.lean ====
module

public import proofs.«01_k».proof.Proof.Gen.ReferenceIdeal.Read
public import proofs.«01_k».proof.Proof.Mem.Spec

@[expose] public section

set_option maxRecDepth 16384

noncomputable section

namespace Cert.ReferenceIdeal.MemValue

open Cert.ReferenceIdeal Cert.ReferenceIdeal.Gen Cert.ReferenceIdeal.Read Cert.Mem Idealize.ShloMosaic Idealize.ShloMosaic.TcCoe Idealize.SL.Sem

variable (x0 : S8192x6144.Idx → EReal) (x1 : S256x1024.Idx → EReal) (x2 : S8192x512.Idx → EReal)

/-- A head's rows and slots in the arguments. -/
def qr (h : Fin 4) (t : Fin 8192) (d : Fin 128) : EReal := x0 (ix2 t ⟨5504 + (h.val * 128 + d.val), by omega⟩)
def gr (h : Fin 4) (t : Fin 8192) (d : Fin 128) : EReal := x2 (ix2 t ⟨h.val * 128 + d.val, by omega⟩)
def ks (h : Fin 4) (j : Fin 256) (d : Fin 128) : EReal := x1 (ix2 j ⟨h.val * 128 + d.val, by omega⟩)
def vs (h : Fin 4) (j : Fin 256) (d : Fin 128) : EReal := x1 (ix2 j ⟨512 + (h.val * 128 + d.val), by omega⟩)

theorem v4_apply (h : Fin 4) (t : Fin 8192) (d : Fin 128) : val_main_v4 (F := Ideal) x0 (ix3 h t d) = qr x0 h t d := by
  pointwise [val_main_v4, val_main_v3, val_main_v0, qr]
theorem v6_apply (h : Fin 4) (j : Fin 256) (d : Fin 128) : val_main_v6 (F := Ideal) x1 (ix3 h j d) = ks x1 h j d := by
  pointwise [val_main_v6, val_main_v5, val_main_v1, ks]
theorem v8_apply (h : Fin 4) (j : Fin 256) (d : Fin 128) : val_main_v8 (F := Ideal) x1 (ix3 h j d) = vs x1 h j d := by
  pointwise [val_main_v8, val_main_v7, val_main_v2, vs]
theorem v44_apply (h : Fin 4) (t : Fin 8192) (d : Fin 128) : val_main_v44 (F := Ideal) x2 (ix3 h t d) = gr x2 h t d := by
  pointwise [val_main_v44, val_main_v43, gr]

theorem v11_apply (h : Fin 4) (t : Fin 8192) (j : Fin 256) :
    val_main_v11 (F := Ideal) x0 x1 (ix3 h t j) = score cs (qr x0 h t) (ks x1 h) j := by
  pointwise [val_main_v11, val_main_v9, val_main_v10, val_main_cst, v4_apply, v6_apply, score]

theorem cst_0_eq (i : S_.Idx) : val_main_cst_0 (F := Ideal) i = (⊥ : EReal) := ofBits_neg_inf

theorem v12_apply (h : Fin 4) (t : Fin 8192) :
    val_main_v12 (F := Ideal) x0 x1 (ix2 h t) = top cs (qr x0 h t) (ks x1 h) := by
  unfold top
  pointwise [val_main_v12, v11_apply, cst_0_eq]

theorem cst_9_eq : val_main_cst_9 (F := Ideal) ix0 = (1 : EReal) := Ideal.ofBits_one_f32

theorem v18_apply (i : S4x8192.Idx) : val_main_v18 (F := Ideal) i = (⊥ : EReal) := (val_main_v18_apply i).trans ofBits_neg_inf

theorem v19_apply (h : Fin 4) (t : Fin 8192) :
    val_main_v19 (F := Ideal) x0 x1 (ix2 h t) = top cs (qr x0 h t) (ks x1 h) := by
  rw [val_main_v19_apply, v18_apply, v12_apply]
  exact max_eq_right bot_le

theorem v32_apply (h : Fin 4) (t : Fin 8192) (j : Fin 256) :
    val_main_v32 (F := Ideal) x0 x1 (ix3 h t j) = expo cs (qr x0 h t) (ks x1 h) j := by
  pointwise [val_main_v32, val_main_v31, val_main_v30, val_main_v29, v19_apply, v11_apply, expo]

theorem v33_apply (h : Fin 4) (t : Fin 8192) :
    val_main_v33 (F := Ideal) x0 x1 (ix2 h t) = den cs (qr x0 h t) (ks x1 h) := by
  pointwise [val_main_v33, val_main_cst_8, v32_apply, den]

theorem v36_apply (h : Fin 4) (t : Fin 8192) (j : Fin 256) :
    val_main_v36 (F := Ideal) x0 x1 (ix3 h t j) = prob cs (qr x0 h t) (ks x1 h) j := by
  pointwise [val_main_v36, val_main_v35, val_main_v34, v33_apply, v32_apply, prob]

theorem v47_apply (h : Fin 4) (t : Fin 8192) (j : Fin 256) :
    val_main_v47 (F := Ideal) x1 x2 (ix3 h t j) = dprob (gr x2 h t) (vs x1 h) j := by
  pointwise [val_main_v47, v44_apply, v8_apply, dprob]

theorem v51_apply (h : Fin 4) (t : Fin 8192) :
    val_main_v51 (F := Ideal) x0 x1 x2 (ix2 h t) = ∑ j' : Fin 256, dprob (gr x2 h t) (vs x1 h) j' * Ideal.div 1 (den cs (qr x0 h t) (ks x1 h) * den cs (qr x0 h t) (ks x1 h)) * expo cs (qr x0 h t) (ks x1 h) j' := by
  pointwise [val_main_v51, val_main_cst_10, val_main_v50, val_main_v49, val_main_v48, val_main_v39, val_main_v38, cst_9_eq, val_main_v37, val_main_v34, v33_apply, v32_apply, v47_apply]

theorem v56_apply (h : Fin 4) (t : Fin 8192) :
    val_main_v56 (F := Ideal) x0 x1 x2 (ix2 h t) = -val_main_v51 (F := Ideal) x0 x1 x2 (ix2 h t) := by
  pointwise [val_main_v56, val_main_cst_11, val_main_v53, val_main_v52, Finset.univ_unique, Finset.sum_singleton]

theorem v59_apply (h : Fin 4) (t : Fin 8192) (j : Fin 256) :
    val_main_v59 (F := Ideal) x0 x1 x2 (ix3 h t j) = dscore' cs (qr x0 h t) (gr x2 h t) (ks x1 h) (vs x1 h) j := by
  pointwise [val_main_v59, val_main_v58, val_main_v57, v56_apply, v51_apply, val_main_v55, val_main_v54, val_main_v34, v33_apply, v32_apply, v47_apply, dscore']

theorem v70_apply (t : Fin 8192) (l : Fin 512) :
    val_main_v70 (F := Ideal) x0 x1 x2 (ix2 t l) = lay (fun h t d => ∑ j : Fin 256, dscore' cs (qr x0 h t) (gr x2 h t) (ks x1 h) (vs x1 h) j * cs * ks x1 h j d) t l := by
  pointwise [val_main_v70, val_main_v69, val_main_v68, val_main_v63, val_main_v61, val_main_v60, val_main_cst_12, v59_apply, v6_apply, lay]

theorem v67_apply (j : Fin 256) (l : Fin 512) :
    val_main_v67 (F := Ideal) x0 x1 x2 (ix2 j l) = lay (fun h j d => ∑ t : Fin 8192, dscore' cs (qr x0 h t) (gr x2 h t) (ks x1 h) (vs x1 h) j * cs * qr x0 h t d) j l := by
  pointwise [val_main_v67, val_main_v66, val_main_v62, val_main_v61, val_main_v60, val_main_cst_12, v59_apply, v4_apply, lay]

theorem v65_apply (j : Fin 256) (l : Fin 512) :
    val_main_v65 (F := Ideal) x0 x1 x2 (ix2 j l) = lay (fun h j d => ∑ t : Fin 8192, gr x2 h t d * prob cs (qr x0 h t) (ks x1 h) j) j l := by
  pointwise [val_main_v65, val_main_v64, val_main_v46, val_main_v45, v44_apply, v36_apply, lay]

end Cert.ReferenceIdeal.MemValue
-- ==== Proof.Mem.Real.lean ====
module

public import proofs.«01_k».proof.Proof.Mem.Spec

@[expose] public section

noncomputable section

namespace Cert.Mem

open Idealize.ShloMosaic

/-- A nonnegative real factor passes through a sum of extended reals. -/
theorem mul_sum_of_real {ι : Type*} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

theorem sum_mul_of_real {ι : Type*} (s : Finset ι) (f : ι → EReal) (r : ℝ) (hr : 0 ≤ r) :
    (∑ i ∈ s, f i) * (r : EReal) = ∑ i ∈ s, f i * (r : EReal) := by
  rw [mul_comm, mul_sum_of_real s f r hr]
  exact Finset.sum_congr rfl fun i _ => mul_comm _ _

/-- The score scale is a nonnegative real. -/
theorem cs_real : ∃ r : ℝ, 0 ≤ r ∧ cs = (r : EReal) := by
  refine ⟨11863283 * (2 : ℝ) ^ (-27 : ℤ), by positivity, ?_⟩
  simp [cs, Ideal.ofBits, Ideal.ieee]

variable {D J : ℕ} {c : EReal} {q g : Fin D → EReal} {k v : Fin J → Fin D → EReal}

/-- A sum of reals is a real. -/
theorem sum_real {ι : Type*} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

theorem score_real (hc : ∃ r : ℝ, c = r) (hq : ∀ d, ∃ r : ℝ, q d = r) (hk : ∀ j d, ∃ r : ℝ, k j d = r) (j : Fin J) : ∃ r : ℝ, score c q k j = r := by
  obtain ⟨c', rfl⟩ := hc
  obtain ⟨x, hx⟩ := sum_real Finset.univ (fun d => q d * k j d) fun d _ => by
    obtain ⟨a, ha⟩ := hq d
    obtain ⟨b, hb⟩ := hk j d
    exact ⟨a * b, by rw [ha, hb, EReal.coe_mul]⟩
  exact ⟨x * c', by rw [score, hx, EReal.coe_mul]⟩

/-- The greatest of finitely many reals, of one at least, is one of them. -/
theorem top_mem (j₀ : Fin J) (h : ∀ j, ∃ r : ℝ, score c q k j = r) : ∃ j, top c q k = score c q k j := by
  have e : top c q k = Finset.univ.sup (score c q k) := rfl
  rw [e]
  obtain ⟨j, -, hj⟩ := Finset.exists_mem_eq_sup Finset.univ ⟨j₀, Finset.mem_univ _⟩ (score c q k)
  exact ⟨j, hj⟩

theorem expo_real (j₀ : Fin J) (h : ∀ j, ∃ r : ℝ, score c q k j = r) (j : Fin J) : ∃ r : ℝ, 0 < r ∧ expo c q k j = r := by
  obtain ⟨j₁, h₁⟩ := top_mem j₀ h
  obtain ⟨a, ha⟩ := h j
  obtain ⟨b, hb⟩ := h j₁
  refine ⟨Real.exp (a - b), Real.exp_pos _, ?_⟩
  rw [expo, h₁, ha, hb, ← EReal.coe_sub]
  rfl

theorem den_real (j₀ : Fin J) (h : ∀ j, ∃ r : ℝ, score c q k j = r) : ∃ r : ℝ, 0 < r ∧ den c q k = r := by
  choose e he using expo_real j₀ h
  refine ⟨∑ j, e j, Finset.sum_pos (fun j _ => (he j).1) ⟨j₀, Finset.mem_univ _⟩, ?_⟩
  rw [den, Finset.sum_congr rfl fun j _ => (he j).2]
  exact (map_sum (⟨⟨Real.toEReal, EReal.coe_zero⟩, EReal.coe_add⟩ : ℝ →+ EReal) e Finset.univ).symm

theorem div_real (x : EReal) (s : ℝ) (hs : 0 < s) : Ideal.div x (s : EReal) = x * ((s⁻¹ : ℝ) : EReal) := by
  rw [Ideal.div, if_neg (by exact_mod_cast hs.ne'), EReal.coe_inv]

/-- Over real scores the two forms of the cotangent agree, whatever the cotangent of the output and the values are. -/
theorem dscore_eq (j₀ : Fin J) (h : ∀ j, ∃ r : ℝ, score c q k j = r) (j : Fin J) : dscore' c q g k v j = dscore c q g k v j := by
  choose e he using expo_real j₀ h
  obtain ⟨s, hs, hS⟩ := den_real j₀ h
  have hp : ∀ j, prob c q k j = ((e j * s⁻¹ : ℝ) : EReal) := fun j => by
    rw [prob, hS, div_real _ _ hs, (he j).2, EReal.coe_mul]
  have hi : 0 ≤ s⁻¹ := (inv_pos.mpr hs).le
  have hT : (∑ j' : Fin J, dprob g v j' * Ideal.div 1 (den c q k * den c q k) * expo c q k j')
      = ((s⁻¹ : ℝ) : EReal) * ∑ j' : Fin J, prob c q k j' * dprob g v j' := by
    rw [mul_sum_of_real _ _ _ hi]
    refine Finset.sum_congr rfl fun j' _ => ?_
    rw [hS, ← EReal.coe_mul, div_real _ _ (mul_pos hs hs), one_mul, (he j').2, hp, mul_assoc, ← EReal.coe_mul, ← mul_assoc, ← EReal.coe_mul, mul_comm]
    congr 2
    rw [mul_inv]; ring
  rw [dscore', hT, dscore, hp, hS, div_real _ _ hs, (he j).2, mul_comm (dprob g v j), ← mul_neg,
    ← EReal.left_distrib_of_nonneg_of_ne_top (EReal.coe_nonneg.mpr hi) (EReal.coe_ne_top _), EReal.coe_mul, ← sub_eq_add_neg, mul_comm, ← mul_assoc]

end Cert.Mem
-- ==== Proof.Mem.Final.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Mem.Kernel
public import proofs.«01_k».proof.Proof.Mem.Reference
public import proofs.«01_k».proof.Proof.Mem.Real
public import Idealize.ShloMosaic.Lib.KernelVsHost
public import Idealize.ShloMosaic.Lib.ReduceAll

@[expose] public section

set_option maxRecDepth 16384

noncomputable section

namespace Cert.MemFinal

open Idealize.ShloMosaic Idealize.ShloMosaic.TcCoe Idealize.SL.Sem Cert.Mem

theorem frame : Cert.quiescent_Kernel := fun m g _ => Cert.Kernel.Gen.frame m g
theorem frame_ideal : Cert.quiescent_KernelIdeal := fun m g _ => Cert.KernelIdeal.Gen.frame m g
theorem frame_ideal_pre : Cert.quiescent_KernelIdeal_pre_finite := fun m g _ => Cert.KernelIdeal.Gen.frame m g
theorem frame_ref : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)
theorem frame_ref_pre : Cert.quiescent_ReferenceIdeal_pre_finite := fun m g _ =>
  frame_ref m g trivial

/-- A value whose magnitude compares below +∞ is a real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = r := by
  rw [← Ideal.xori_weird_eq_hostAbsf_olt_inf] at h
  have hw : IntOp.xori (BitVec.ofBool (decide (x = ⊤ ∨ x = ⊥))) 1#1 = 1#1 := h
  by_cases hx : x = ⊤ ∨ x = ⊥
  · simp [hx, IntOp.xori] at hw
  · push Not at hx
    exact ⟨x.toReal, (EReal.coe_toReal hx.1 hx.2).symm⟩

/-- The precondition says that the queries and the slots' keys are reals. -/
theorem pre_real (x0 : Cert.Pre_finite.S8192x6144.Idx → EReal) (x1 : Cert.Pre_finite.S256x1024.Idx → EReal) (x2 : Cert.Pre_finite.S8192x512.Idx → EReal)
    (h : Cert.Pre_finite.fn (F := Ideal) x0 x1 x2 = fun _ => 1#1) :
    (∀ hd t d, ∃ r : ℝ, Cert.ReferenceIdeal.MemValue.qr x0 hd t d = r) ∧ (∀ hd j d, ∃ r : ℝ, Cert.ReferenceIdeal.MemValue.ks x1 hd j d = r) := by
  dsimp only [Cert.Pre_finite.fn] at h
  have h' := congrFun h ix0
  have ⟨ha, hb⟩ := IntOp.andi_eq_one.mp h'
  constructor
  · intro hd t d
    have e := Host.reduce_andi_all _ _ _ _ _ ha (ix2 t ⟨hd.val * 128 + d.val, by omega⟩)
    refine real_of_lt _ (Eq.trans ?_ e)
    pointwise [Cert.ReferenceIdeal.MemValue.qr]
  · intro hd j d
    have e := Host.reduce_andi_all _ _ _ _ _ hb (ix2 j ⟨hd.val * 128 + d.val, by omega⟩)
    refine real_of_lt _ (Eq.trans ?_ e)
    pointwise [Cert.ReferenceIdeal.MemValue.ks]

/-- A scaled sum over the rows, the scale applied tile by tile. -/
theorem sum_tiles (f : Fin 8192 → EReal) : ∑ t : Fin 8192, f t * cs = ∑ s : Fin 16, (∑ r : Fin 512, f ⟨512 * s.val + r.val, by omega⟩) * cs := by
  obtain ⟨x, hx, hc⟩ := cs_real
  rw [← Fin.sum_mul_add_congr (S := 16) (n := 512) (F := fun s r => f ⟨512 * s.val + r.val, by omega⟩ * cs) (f := fun t => f t * cs)
    fun s r hl => congrArg (f · * cs) (Fin.ext (by simp only; omega))]
  refine Finset.sum_congr rfl fun s _ => ?_
  rw [hc, sum_mul_of_real _ _ _ hx]

section Values

variable (m : (ℓ : Loc Cert.KernelIdeal.nD Cert.KernelIdeal.τ Cert.KernelIdeal.sig) → Buf (Elt Ideal) ℓ) (c : Dev Cert.KernelIdeal.nD)

abbrev a0 : Cert.ReferenceIdeal.S8192x6144.Idx → EReal := m ((c : Thread Cert.KernelIdeal.nD Cert.KernelIdeal.τ).loc Cert.KernelIdeal.main_arg0)
abbrev a1 : Cert.ReferenceIdeal.S256x1024.Idx → EReal := m ((c : Thread Cert.KernelIdeal.nD Cert.KernelIdeal.τ).loc Cert.KernelIdeal.main_arg1)
abbrev a2 : Cert.ReferenceIdeal.S8192x512.Idx → EReal := m ((c : Thread Cert.KernelIdeal.nD Cert.KernelIdeal.τ).loc Cert.KernelIdeal.main_arg2)

variable (hq : ∀ hd t d, ∃ r : ℝ, Cert.ReferenceIdeal.MemValue.qr (a0 m c) hd t d = r) (hk : ∀ hd j d, ∃ r : ℝ, Cert.ReferenceIdeal.MemValue.ks (a1 m c) hd j d = r)
include hq hk

theorem ds_eq (h : Fin 4) (t : Fin 8192) (j : Fin 256) :
    dscore' cs (Cert.ReferenceIdeal.MemValue.qr (a0 m c) h t) (Cert.ReferenceIdeal.MemValue.gr (a2 m c) h t) (Cert.ReferenceIdeal.MemValue.ks (a1 m c) h) (Cert.ReferenceIdeal.MemValue.vs (a1 m c) h) j
      = dscore cs (Cert.KernelIdeal.MemValue.qr m c h t) (Cert.KernelIdeal.MemValue.gr m c h t) (Cert.KernelIdeal.MemValue.ks m c h) (Cert.KernelIdeal.MemValue.vs m c h) j :=
  dscore_eq (0 : Fin 256) (score_real (cs_real.imp fun _ h => h.2) (hq h t) (hk h)) j

theorem dq_eq : Cert.ReferenceIdeal.Read.val_main_v70 (F := Ideal) (a0 m c) (a1 m c) (a2 m c) = Cert.KernelIdeal.MemValue.DQ m c := by
  funext i
  obtain ⟨t, l, rfl⟩ : ∃ (t : Fin 8192) (l : Fin 512), i = ix2 t l := ⟨i 0, i 1, eq_ix2 i⟩
  refine (Cert.ReferenceIdeal.MemValue.v70_apply _ _ _ t l).trans ?_
  show lay _ t l = lay _ t l
  congr 1
  funext h t d
  obtain ⟨s, hs, hc⟩ := cs_real
  rw [Cert.KernelIdeal.MemValue.dqf, hc, sum_mul_of_real _ _ _ hs, ← hc]
  refine Finset.sum_congr rfl fun j _ => ?_
  rw [ds_eq m c hq hk, mul_assoc, mul_comm cs, ← mul_assoc]
  rfl

theorem dk_eq : Cert.ReferenceIdeal.Read.val_main_v67 (F := Ideal) (a0 m c) (a1 m c) (a2 m c) = Cert.KernelIdeal.MemValue.DK m c := by
  funext i
  obtain ⟨j, l, rfl⟩ : ∃ (j : Fin 256) (l : Fin 512), i = ix2 j l := ⟨i 0, i 1, eq_ix2 i⟩
  refine (Cert.ReferenceIdeal.MemValue.v67_apply _ _ _ j l).trans ?_
  show lay _ j l = lay _ j l
  congr 1
  funext h j d
  refine Eq.trans (Finset.sum_congr rfl fun t _ => ?_) (sum_tiles fun t => dscore cs (Cert.KernelIdeal.MemValue.qr m c h t) (Cert.KernelIdeal.MemValue.gr m c h t) (Cert.KernelIdeal.MemValue.ks m c h) (Cert.KernelIdeal.MemValue.vs m c h) j
    * Cert.KernelIdeal.MemValue.qr m c h t d)
  rw [ds_eq m c hq hk, mul_assoc, mul_comm cs, ← mul_assoc]
  rfl

omit hq hk in
theorem dv_eq : Cert.ReferenceIdeal.Read.val_main_v65 (F := Ideal) (a0 m c) (a1 m c) (a2 m c) = Cert.KernelIdeal.MemValue.DV m c := by
  funext i
  obtain ⟨j, l, rfl⟩ : ∃ (j : Fin 256) (l : Fin 512), i = ix2 j l := ⟨i 0, i 1, eq_ix2 i⟩
  refine (Cert.ReferenceIdeal.MemValue.v65_apply _ _ _ j l).trans ?_
  show lay _ j l = lay _ j l
  congr 1
  funext h j d
  exact Finset.sum_congr rfl fun t _ => mul_comm _ _

end Values

theorem algebraic : Cert.algebraic_KernelIdeal_ReferenceIdeal_pre_finite := by
  intro m g m' g' hpre hagree
  refine ⟨Cert.KernelIdeal.MemValue.DQ m, Cert.KernelIdeal.MemValue.DK m, Cert.KernelIdeal.MemValue.DV m, ?_, ?_⟩
  · refine (θ_run Cert.KernelIdeal.defs _ _).mono (fun r h c => ?_) (Cert.KernelIdeal.Value.run_blocks (F := Ideal) m g)
    obtain ⟨h4, h5, h6, k⟩ := h c
    exact ⟨h4.trans (Cert.KernelIdeal.MemValue.out4 m c), h5.trans (Cert.KernelIdeal.MemValue.out5 m c), h6.trans (Cert.KernelIdeal.MemValue.out6 m c), k⟩
  · refine (θ_run Cert.ReferenceIdeal.defs _ _).mono (fun r h c => ?_) (Cert.ReferenceIdeal.Value.run (F := Ideal) m' g')
    obtain ⟨h70, h67, h65, k⟩ := h c
    obtain ⟨hq, hk⟩ := pre_real _ _ _ (hpre c)
    obtain ⟨e0, e1, e2⟩ := hagree c
    refine ⟨(h70.trans (Cert.ReferenceIdeal.Read.val_main_v70_eq m' c)).trans ?_, (h67.trans (Cert.ReferenceIdeal.Read.val_main_v67_eq m' c)).trans ?_,
      (h65.trans (Cert.ReferenceIdeal.Read.val_main_v65_eq _ _ _)).trans ?_, k⟩
    · rw [e0, e1, e2]; exact dq_eq m c hq hk
    · rw [e0, e1, e2]; exact dk_eq m c hq hk
    · rw [e0, e1, e2]; exact dv_eq m c

end Cert.MemFinal
-- ==== Proof.Ffn.Dw.lean ====
module

public import proofs.«01_k».proof.Defs
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pipeline.ValueKit
public import Idealize.ShloMosaic.PureOps.Ideal.Laws

@[expose] public section

set_option maxRecDepth 16384

noncomputable section

namespace Cert.Kernel2Ideal.Prod

open Cert.Kernel2Ideal Cert.Kernel2Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, win0_0.index t = ![t.val % 2, t.val / 4] ∧ win0_1.index t = ![t.val % 2, t.val / 2 % 2] ∧ win0_2.index t = ![t.val / 4, t.val / 2 % 2])

theorem pay2_apply (x0 : Vec Ideal S4096x512 .bf16) (x1 : Vec Ideal S4096x1024 .bf16) (y : S512x1024.Idx) :
    k0_pay2 x0 x1 y = ∑ k : Fin 4096, x0 (ix2 k (y 0)) * x1 (ix2 k (y 1)) := by
  pointwise [k0_pay1, k0_pay2]

theorem pay3_apply (x0 : Vec Ideal S4096x512 .bf16) (x1 : Vec Ideal S4096x1024 .bf16) (x2 : Vec Ideal S512x1024 .f32) (y : S512x1024.Idx) :
    k0_pay3 x0 x1 x2 y = x2 y + ∑ k : Fin 4096, x0 (ix2 k (y 0)) * x1 (ix2 k (y 1)) := by
  pointwise [k0_pay1, k0_pay3]

theorem pay4_apply (x2 : Vec Ideal S512x1024 .f32) (y : S512x1024.Idx) : k0_pay4 x2 y = x2 y := by
  pointwise [k0_pay4]

variable (m : (ℓ : Loc nD τ sig) → Buf (Elt Ideal) ℓ) (c : Dev nD)

/-- The arrays the product is of. -/
def A : S8192x5632.Idx → EReal := m ((c : Thread nD τ).loc main_arg0)
def B : S8192x2048.Idx → EReal := m ((c : Thread nD τ).loc main_arg1)

/-- The rows and columns of the product that a point's tile has, and the terms of the sum its blocks have. -/
def rw' (t : Fin cfg0.N) (r : Fin 512) : Fin 5632 := ⟨512 * (t.val / 4) + r.val, by have : t.val < 44 := t.isLt; omega⟩
def cl (t : Fin cfg0.N) (r : Fin 1024) : Fin 2048 := ⟨1024 * (t.val / 2 % 2) + r.val, by have : t.val < 44 := t.isLt; omega⟩
def kx (t : Fin cfg0.N) (k : Fin 4096) : Fin 8192 := ⟨4096 * (t.val % 2) + k.val, by have : t.val < 44 := t.isLt; omega⟩

/-- A point's blocks. -/
abbrev b0 (t : Fin cfg0.N) : S4096x512.Idx → EReal := iblk m c 0 t
abbrev b1 (t : Fin cfg0.N) : S4096x1024.Idx → EReal := iblk m c 1 t

theorem blk0 (t : Fin cfg0.N) (r : Fin 512) (k : Fin 4096) : b0 m c t (ix2 k r) = A m c (ix2 (kx t k) (rw' t r)) := by
  unfold A
  blk_ext [b0, iblk, V, idx t, rw', kx]
theorem blk1 (t : Fin cfg0.N) (r : Fin 1024) (k : Fin 4096) : b1 m c t (ix2 k r) = B m c (ix2 (kx t k) (cl t r)) := by
  unfold B
  blk_ext [b1, iblk, V, idx t, cl, kx]

/-- The product. -/
def OUT : S5632x2048.Idx → EReal := fun i => (∑ k : Fin 8192, A m c (ix2 k (i 0)) * B m c (ix2 k (i 1)))

theorem place (t : Fin cfg0.N) (y : S512x1024.Idx) : (win0_2.blk t).view.emb y = ix2 (rw' t (y 0)) (cl t (y 1)) := by
  blk_ext [idx t, rw', cl]

/-- What a point adds to its tile's sum. -/
def term (t : Fin cfg0.N) (y : S512x1024.Idx) : EReal :=
  ∑ k : Fin 4096, A m c (ix2 (kx t k) (rw' t (y 0))) * B m c (ix2 (kx t k) (cl t (y 1)))

theorem term_eq (t : Fin cfg0.N) (y : S512x1024.Idx) :
    (∑ k : Fin 4096, b0 m c t (ix2 k (y 0)) * b1 m c t (ix2 k (y 1))) = term m c t y :=
  Finset.sum_congr rfl fun k _ => congrArg₂ (· * ·) (blk0 m c t (y 0) k) (blk1 m c t (y 1) k)

theorem sum_halves (f : Fin 8192 → EReal) : ∑ k : Fin 8192, f k = (∑ k : Fin 4096, f ⟨4096 * 0 + k.val, by omega⟩) + ∑ k : Fin 4096, f ⟨4096 * 1 + k.val, by omega⟩ := by
  rw [← Fin.sum_mul_add_congr (S := 2) (n := 4096) (F := fun s r => f ⟨4096 * s.val + r.val, by omega⟩) (f := f)
    fun s r hl => congrArg f (Fin.ext (by simp only; omega))]
  rw [Fin.sum_univ_two]
  rfl

/-- The first of a tile's two points leaves its term in the scratch. -/
theorem first (t : Fin cfg0.N) (h0 : t.val % 2 = 0) (y : S512x1024.Idx) : (outsAt0 m c t.val t.isLt).2 y = term m c t y := by
  rw [outsAt0_A m c t h0 (by omega) (by omega)]
  frame_out
  rw [pay2_apply]
  exact term_eq m c t y

/-- The second adds its own: the tile of the product. -/
theorem point (t : Fin cfg0.N) (h1 : t.val % 2 = 1) (y : S512x1024.Idx) :
    (outsAt0 m c (t.val - 1) (Nat.lt_of_le_of_lt (Nat.sub_le _ _) t.isLt)).2 y + term m c t y = OUT m c (ix2 (rw' t (y 0)) (cl t (y 1))) := by
  have hp : t.val - 1 < cfg0.N := Nat.lt_of_le_of_lt (Nat.sub_le _ _) t.isLt
  refine Eq.trans ?_ (sum_halves fun k => A m c (ix2 k (rw' t (y 0))) * B m c (ix2 k (cl t (y 1)))).symm
  have hb : t.val < 44 := t.isLt
  refine congrArg₂ (· + ·) ((first m c ⟨t.val - 1, hp⟩ (by show (t.val - 1) % 2 = 0; omega) y).trans ?_) ?_
  · have e0 : rw' ⟨t.val - 1, hp⟩ (y 0) = rw' t (y 0) := Fin.ext (by show 512 * _ + _ = 512 * _ + _; dsimp only; omega)
    have e1 : cl ⟨t.val - 1, hp⟩ (y 1) = cl t (y 1) := Fin.ext (by show 1024 * _ + _ = 1024 * _ + _; dsimp only; omega)
    have e2 (k : Fin 4096) : kx ⟨t.val - 1, hp⟩ k = ⟨4096 * 0 + k.val, by omega⟩ := Fin.ext (by show 4096 * ((t.val - 1) % 2) + k.val = 4096 * 0 + k.val; omega)
    unfold term
    rw [e0, e1]
    exact Finset.sum_congr rfl fun k _ => by rw [e2 k]
  · have e2 (k : Fin 4096) : kx t k = ⟨4096 * 1 + k.val, by omega⟩ := Fin.ext (by show 4096 * (t.val % 2) + k.val = 4096 * 1 + k.val; omega)
    unfold term
    exact Finset.sum_congr rfl fun k _ => by rw [e2 k]

theorem out : (dats m 0 c).arrAt 2 cfg0.N = OUT m c := by
  refine (dats m 0 c).arrAt_eq_of_covers 2 _ (by decide +kernel) fun t hf y => ?_
  have h1 : t.val % 2 = 1 := (flush0_2 t).mp hf
  blk_simp
  rw [after0_2, outsAt0_B m c t (by omega) h1 h1]
  frame_out
  rw [pay4_apply, pay3_apply]
  refine Eq.trans ?_ ((point m c t h1 y).trans (congrArg (OUT m c) (place t y)).symm)
  refine congrArg₂ (· + ·) ?_ (term_eq m c t y)
  exact congrFun (Memref.IsWhole.read_unread (Memref.isWhole_whole cc0_scratch0) _) y

end Cert.Kernel2Ideal.Prod

namespace Cert.Reference2Ideal.Prod

open Cert.Reference2Ideal Cert.Reference2Ideal.Gen Cert.Reference2Ideal.Read Idealize.ShloMosaic Idealize.ShloMosaic.TcCoe Idealize.SL.Sem

theorem ref_apply (x0 : S8192x5632.Idx → EReal) (x1 : S8192x2048.Idx → EReal) (i : Fin 5632) (j : Fin 2048) :
    val_main_v6 (F := Ideal) x0 x1 (ix2 i j) = ∑ k : Fin 8192, x1 (ix2 k j) * x0 (ix2 k i) := by
  pointwise [val_main_v6, val_main_v5, val_main_v4, val_main_v3, val_main_v2, val_main_v1, val_main_v0]

end Cert.Reference2Ideal.Prod

namespace Cert.Final2

open Idealize.ShloMosaic Idealize.ShloMosaic.TcCoe Idealize.SL.Sem

theorem frame : Cert.quiescent_Kernel2 := fun m g _ => Cert.Kernel2.Gen.frame m g
theorem frame_ideal : Cert.quiescent_Kernel2Ideal := fun m g _ => Cert.Kernel2Ideal.Gen.frame m g
theorem frame_ref : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem algebraic : Cert.algebraic_Kernel2Ideal_Reference2Ideal := by
  intro m g m' g' hpre hagree
  refine ⟨Cert.Kernel2Ideal.Prod.OUT m, ?_, ?_⟩
  · refine (θ_run Cert.Kernel2Ideal.defs _ _).mono (fun r h c => ?_) (Cert.Kernel2Ideal.Value.run_blocks (F := Ideal) m g)
    obtain ⟨h2, k⟩ := h c
    exact ⟨h2.trans (Cert.Kernel2Ideal.Prod.out m c), k⟩
  · refine (θ_run Cert.Reference2Ideal.defs _ _).mono (fun r h c => ?_) (Cert.Reference2Ideal.Value.run (F := Ideal) m' g')
    obtain ⟨h2, k⟩ := h c
    obtain ⟨e0, e1⟩ := hagree c
    refine ⟨(h2.trans (Cert.Reference2Ideal.Read.val_main_v6_eq _ _)).trans ?_, k⟩
    rw [e0, e1]
    funext i
    obtain ⟨t, l, rfl⟩ : ∃ (t : Fin 5632) (l : Fin 2048), i = ix2 t l := ⟨i 0, i 1, eq_ix2 i⟩
    refine (Cert.Reference2Ideal.Prod.ref_apply _ _ t l).trans ?_
    exact Finset.sum_congr rfl fun k _ => mul_comm _ _

end Cert.Final2
-- ==== Proof.Ffn.Down.lean ====
module

public import proofs.«01_k».proof.Defs
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit
public import Idealize.ShloMosaic.PureOps.Ideal.Laws

@[expose] public section

set_option maxRecDepth 16384

noncomputable section

namespace Cert.Kernel3Ideal.Prod

open Cert.Kernel3Ideal Cert.Kernel3Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4] ∧ win0_2.index t = ![t.val / 4, t.val % 4])

theorem pay_apply (x0 : Vec Ideal S512x5632 .bf16) (x1 : Vec Ideal S5632x512 .bf16) (y : S512x512.Idx) :
    k0_pay1 x0 x1 y = ∑ k : Fin 5632, x0 (ix2 (y 0) k) * x1 (ix2 k (y 1)) := by
  pointwise [k0_pay1]

variable (m : (ℓ : Loc nD τ sig) → Buf (Elt Ideal) ℓ) (c : Dev nD)

/-- The arrays the product is of. -/
def A : S8192x5632.Idx → EReal := m ((c : Thread nD τ).loc main_arg0)
def B : S5632x2048.Idx → EReal := m ((c : Thread nD τ).loc main_arg1)

/-- The rows and columns of the product that a point's tile has. -/
def rw' (t : Fin cfg0.N) (r : Fin 512) : Fin 8192 := ⟨512 * (t.val / 4) + r.val, by have : t.val < 64 := t.isLt; omega⟩
def cl (t : Fin cfg0.N) (r : Fin 512) : Fin 2048 := ⟨512 * (t.val % 4) + r.val, by have : t.val < 64 := t.isLt; omega⟩

/-- A point's blocks. -/
abbrev b0 (t : Fin cfg0.N) : S512x5632.Idx → EReal := iblk m c 0 t
abbrev b1 (t : Fin cfg0.N) : S5632x512.Idx → EReal := iblk m c 1 t

theorem blk0 (t : Fin cfg0.N) (r : Fin 512) (k : Fin 5632) : b0 m c t (ix2 r k) = A m c (ix2 (rw' t r) k) := by
  unfold A
  blk_ext [b0, iblk, V, idx t, rw']
theorem blk1 (t : Fin cfg0.N) (r : Fin 512) (k : Fin 5632) : b1 m c t (ix2 k r) = B m c (ix2 k (cl t r)) := by
  unfold B
  blk_ext [b1, iblk, V, idx t, cl]

/-- The product. -/
def OUT : S8192x2048.Idx → EReal := fun i => (∑ k : Fin 5632, A m c (ix2 (i 0) k) * B m c (ix2 k (i 1)))

theorem place (t : Fin cfg0.N) (y : S512x512.Idx) : (win0_2.blk t).view.emb y = ix2 (rw' t (y 0)) (cl t (y 1)) := by
  blk_ext [idx t, rw', cl]

theorem point (t : Fin cfg0.N) (y : S512x512.Idx) :
    (∑ k : Fin 5632, b0 m c t (ix2 (y 0) k) * b1 m c t (ix2 k (y 1))) = OUT m c (ix2 (rw' t (y 0)) (cl t (y 1))) :=
  Finset.sum_congr rfl fun k _ => congrArg₂ (· * ·) (blk0 m c t (y 0) k) (blk1 m c t (y 1) k)

theorem out : (dats m 0 c).arrAt 2 cfg0.N = OUT m c := by
  refine (dats m 0 c).arrAt_eq_of_covers 2 _ (by decide +kernel) fun t hf y => ?_
  blk_simp
  rw [after0_2, outsAt0]
  frame_out
  rw [pay_apply]
  exact (point m c t y).trans (congrArg (OUT m c) (place t y)).symm

end Cert.Kernel3Ideal.Prod

namespace Cert.Reference3Ideal.Prod

open Cert.Reference3Ideal Cert.Reference3Ideal.Gen Cert.Reference3Ideal.Read Idealize.ShloMosaic Idealize.ShloMosaic.TcCoe Idealize.SL.Sem

theorem ref_apply (x0 : S8192x5632.Idx → EReal) (x1 : S5632x2048.Idx → EReal) (i : Fin 8192) (j : Fin 2048) :
    val_main_v2 (F := Ideal) x0 x1 (ix2 i j) = ∑ k : Fin 5632, x0 (ix2 i k) * x1 (ix2 k j) := by
  pointwise [val_main_v2, val_main_v1, val_main_v0]

end Cert.Reference3Ideal.Prod

namespace Cert.Final3

open Idealize.ShloMosaic Idealize.ShloMosaic.TcCoe Idealize.SL.Sem

theorem frame : Cert.quiescent_Kernel3 := fun m g _ => Cert.Kernel3.Gen.frame m g
theorem frame_ideal : Cert.quiescent_Kernel3Ideal := fun m g _ => Cert.Kernel3Ideal.Gen.frame m g
theorem frame_ref : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem algebraic : Cert.algebraic_Kernel3Ideal_Reference3Ideal := by
  intro m g m' g' hpre hagree
  refine ⟨Cert.Kernel3Ideal.Prod.OUT m, ?_, ?_⟩
  · refine (θ_run Cert.Kernel3Ideal.defs _ _).mono (fun r h c => ?_) (Cert.Kernel3Ideal.Value.run_blocks (F := Ideal) m g)
    obtain ⟨h2, k⟩ := h c
    exact ⟨h2.trans (Cert.Kernel3Ideal.Prod.out m c), k⟩
  · refine (θ_run Cert.Reference3Ideal.defs _ _).mono (fun r h c => ?_) (Cert.Reference3Ideal.Value.run (F := Ideal) m' g')
    obtain ⟨h2, k⟩ := h c
    obtain ⟨e0, e1⟩ := hagree c
    refine ⟨(h2.trans (Cert.Reference3Ideal.Read.val_main_v2_eq _ _)).trans ?_, k⟩
    rw [e0, e1]
    funext i
    obtain ⟨t, l, rfl⟩ : ∃ (t : Fin 8192) (l : Fin 2048), i = ix2 t l := ⟨i 0, i 1, eq_ix2 i⟩
    refine (Cert.Reference3Ideal.Prod.ref_apply _ _ t l).trans ?_
    rfl

end Cert.Final3
-- ==== Proof.Ffn.DnU.lean ====
module

public import proofs.«01_k».proof.Defs
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit
public import Idealize.ShloMosaic.PureOps.Ideal.Laws

@[expose] public section

set_option maxRecDepth 16384

noncomputable section

namespace Cert.Kernel4Ideal.Prod

open Cert.Kernel4Ideal Cert.Kernel4Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, win0_0.index t = ![t.val / 4, 0] ∧ win0_1.index t = ![0, t.val % 4] ∧ win0_2.index t = ![t.val / 4, t.val % 4] ∧ win0_3.index t = ![t.val / 4, t.val % 4])

theorem pay_apply (x0 : Vec Ideal S512x5632 .bf16) (x1 : Vec Ideal S5632x512 .bf16) (x2 : Vec Ideal S512x512 .f32) (y : S512x512.Idx) :
    k0_pay1 x0 x1 x2 y = (∑ k : Fin 5632, x0 (ix2 (y 0) k) * x1 (ix2 k (y 1))) + x2 y := by
  pointwise [k0_pay1]

variable (m : (ℓ : Loc nD τ sig) → Buf (Elt Ideal) ℓ) (c : Dev nD)

/-- The arrays the product is of. -/
def A : S8192x5632.Idx → EReal := m ((c : Thread nD τ).loc main_arg0)
def B : S5632x2048.Idx → EReal := m ((c : Thread nD τ).loc main_arg1)
def C : S8192x2048.Idx → EReal := m ((c : Thread nD τ).loc main_arg2)

/-- The rows and columns of the product that a point's tile has. -/
def rw' (t : Fin cfg0.N) (r : Fin 512) : Fin 8192 := ⟨512 * (t.val / 4) + r.val, by have : t.val < 64 := t.isLt; omega⟩
def cl (t : Fin cfg0.N) (r : Fin 512) : Fin 2048 := ⟨512 * (t.val % 4) + r.val, by have : t.val < 64 := t.isLt; omega⟩

/-- A point's blocks. -/
abbrev b0 (t : Fin cfg0.N) : S512x5632.Idx → EReal := iblk m c 0 t
abbrev b1 (t : Fin cfg0.N) : S5632x512.Idx → EReal := iblk m c 1 t

theorem blk0 (t : Fin cfg0.N) (r : Fin 512) (k : Fin 5632) : b0 m c t (ix2 r k) = A m c (ix2 (rw' t r) k) := by
  unfold A
  blk_ext [b0, iblk, V, idx t, rw']
theorem blk1 (t : Fin cfg0.N) (r : Fin 512) (k : Fin 5632) : b1 m c t (ix2 k r) = B m c (ix2 k (cl t r)) := by
  unfold B
  blk_ext [b1, iblk, V, idx t, cl]
theorem blk2 (t : Fin cfg0.N) (y : S512x512.Idx) : (iblk m c 2 t : S512x512.Idx → EReal) y = C m c (ix2 (rw' t (y 0)) (cl t (y 1))) := by
  unfold C
  blk_ext [iblk, V, idx t, rw', cl]

/-- The product. -/
def OUT : S8192x2048.Idx → EReal := fun i => (∑ k : Fin 5632, A m c (ix2 (i 0) k) * B m c (ix2 k (i 1))) + C m c i

theorem place (t : Fin cfg0.N) (y : S512x512.Idx) : (win0_3.blk t).view.emb y = ix2 (rw' t (y 0)) (cl t (y 1)) := by
  blk_ext [idx t, rw', cl]

theorem out : (dats m 0 c).arrAt 3 cfg0.N = OUT m c := by
  refine (dats m 0 c).arrAt_eq_of_covers 3 _ (by decide +kernel) fun t hf y => ?_
  blk_simp
  rw [after0_3, outsAt0]
  frame_out
  rw [pay_apply]
  refine Eq.trans ?_ (congrArg (OUT m c) (place t y)).symm
  refine congrArg₂ (· + ·) (Finset.sum_congr rfl fun k _ => ?_) (blk2 m c t y)
  exact congrArg₂ (· * ·) (blk0 m c t (y 0) k) (blk1 m c t (y 1) k)

end Cert.Kernel4Ideal.Prod

namespace Cert.Reference4Ideal.Prod

open Cert.Reference4Ideal Cert.Reference4Ideal.Gen Cert.Reference4Ideal.Read Idealize.ShloMosaic Idealize.ShloMosaic.TcCoe Idealize.SL.Sem

theorem ref_apply (x0 : S8192x5632.Idx → EReal) (x1 : S5632x2048.Idx → EReal) (x2 : S8192x2048.Idx → EReal) (i : Fin 8192) (j : Fin 2048) :
    val_main_v6 (F := Ideal) x0 x1 x2 (ix2 i j) = x2 (ix2 i j) + ∑ k : Fin 5632, x0 (ix2 i k) * x1 (ix2 k j) := by
  pointwise [val_main_v6, val_main_v5, val_main_v4, val_main_v3, val_main_v2, val_main_v1, val_main_v0]

end Cert.Reference4Ideal.Prod

namespace Cert.Final4

open Idealize.ShloMosaic Idealize.ShloMosaic.TcCoe Idealize.SL.Sem

theorem frame : Cert.quiescent_Kernel4 := fun m g _ => Cert.Kernel4.Gen.frame m g
theorem frame_ideal : Cert.quiescent_Kernel4Ideal := fun m g _ => Cert.Kernel4Ideal.Gen.frame m g
theorem frame_ref : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem algebraic : Cert.algebraic_Kernel4Ideal_Reference4Ideal := by
  intro m g m' g' hpre hagree
  refine ⟨Cert.Kernel4Ideal.Prod.OUT m, ?_, ?_⟩
  · refine (θ_run Cert.Kernel4Ideal.defs _ _).mono (fun r h c => ?_) (Cert.Kernel4Ideal.Value.run_blocks (F := Ideal) m g)
    obtain ⟨h2, k⟩ := h c
    exact ⟨h2.trans (Cert.Kernel4Ideal.Prod.out m c), k⟩
  · refine (θ_run Cert.Reference4Ideal.defs _ _).mono (fun r h c => ?_) (Cert.Reference4Ideal.Value.run (F := Ideal) m' g')
    obtain ⟨h2, k⟩ := h c
    obtain ⟨e0, e1, e2⟩ := hagree c
    refine ⟨(h2.trans (Cert.Reference4Ideal.Read.val_main_v6_eq _ _ _)).trans ?_, k⟩
    rw [e0, e1, e2]
    funext i
    obtain ⟨t, l, rfl⟩ : ∃ (t : Fin 8192) (l : Fin 2048), i = ix2 t l := ⟨i 0, i 1, eq_ix2 i⟩
    refine (Cert.Reference4Ideal.Prod.ref_apply _ _ _ t l).trans ?_
    exact add_comm _ _

end Cert.Final4
-- ==== Proof.Ffn.Act.lean ====
module

public import proofs.«01_k».proof.Defs
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Mem.Final
public import Idealize.ShloMosaic.Lib.Pipeline.ValueKit
public import Idealize.ShloMosaic.PureOps.Ideal.Laws

@[expose] public section

set_option maxRecDepth 16384

noncomputable section

namespace Cert.Kernel5Ideal.Act

open Cert.Kernel5Ideal Cert.Kernel5Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val / 11, 0] ∧ win0_1.index t = ![t.val % 11, 0] ∧ win0_2.index t = ![t.val / 11, t.val % 11]
    ∧ win0_3.index t = ![t.val / 11, t.val % 11] ∧ win0_4.index t = ![t.val / 11, t.val % 11] ∧ win0_5.index t = ![t.val / 11, t.val % 11] :=
  (by decide +kernel : ∀ t : Fin grid0.N, win0_0.index t = ![t.val / 11, 0] ∧ win0_1.index t = ![t.val % 11, 0] ∧ win0_2.index t = ![t.val / 11, t.val % 11]
    ∧ win0_3.index t = ![t.val / 11, t.val % 11] ∧ win0_4.index t = ![t.val / 11, t.val % 11] ∧ win0_5.index t = ![t.val / 11, t.val % 11])

/-- The gradients of the gate and of the value, from the cotangent `a` of the unit. -/
def dgate (a g u : EReal) : EReal := a * u * (Ideal.logistic g * (1 + g * (1 - Ideal.logistic g)))
def dval (a g : EReal) : EReal := a * (g * Ideal.logistic g)

theorem pay4_apply (x0 : Vec Ideal S1024x2048 .bf16) (x1 : Vec Ideal S512x2048 .bf16) (x2 x3 : Vec Ideal S1024x512 .bf16) (y : S1024x512.Idx) :
    k0_pay4 x0 x1 x2 x3 y = dgate (∑ k : Fin 2048, x0 (ix2 (y 0) k) * x1 (ix2 (y 1) k)) (x2 y) (x3 y) := by
  pointwise [k0_pay1, k0_pay2, k0_pay3, k0_pay4, dgate, Ideal.ofBits_one_f32]
theorem pay5_apply (x0 : Vec Ideal S1024x2048 .bf16) (x1 : Vec Ideal S512x2048 .bf16) (x2 : Vec Ideal S1024x512 .bf16) (y : S1024x512.Idx) :
    k0_pay5 x0 x1 x2 y = dval (∑ k : Fin 2048, x0 (ix2 (y 0) k) * x1 (ix2 (y 1) k)) (x2 y) := by
  pointwise [k0_pay1, k0_pay2, k0_pay3, k0_pay5, dval]

variable (m : (ℓ : Loc nD τ sig) → Buf (Elt Ideal) ℓ) (c : Dev nD)

/-- The cotangent, the weight, the gate and the value. -/
def A : S8192x2048.Idx → EReal := m ((c : Thread nD τ).loc main_arg0)
def B : S5632x2048.Idx → EReal := m ((c : Thread nD τ).loc main_arg1)
def G : S8192x5632.Idx → EReal := m ((c : Thread nD τ).loc main_arg2)
def U : S8192x5632.Idx → EReal := m ((c : Thread nD τ).loc main_arg3)

/-- The rows and columns that a point's tile has. -/
def rw' (t : Fin cfg0.N) (r : Fin 1024) : Fin 8192 := ⟨1024 * (t.val / 11) + r.val, by have : t.val < 88 := t.isLt; omega⟩
def cl (t : Fin cfg0.N) (r : Fin 512) : Fin 5632 := ⟨512 * (t.val % 11) + r.val, by omega⟩

/-- A point's blocks. -/
abbrev b0 (t : Fin cfg0.N) : S1024x2048.Idx → EReal := iblk m c 0 t
abbrev b1 (t : Fin cfg0.N) : S512x2048.Idx → EReal := iblk m c 1 t
abbrev b2 (t : Fin cfg0.N) : S1024x512.Idx → EReal := iblk m c 2 t
abbrev b3 (t : Fin cfg0.N) : S1024x512.Idx → EReal := iblk m c 3 t

theorem blk0 (t : Fin cfg0.N) (r : Fin 1024) (k : Fin 2048) : b0 m c t (ix2 r k) = A m c (ix2 (rw' t r) k) := by
  unfold A
  blk_ext [b0, iblk, V, idx t, rw']
theorem blk1 (t : Fin cfg0.N) (r : Fin 512) (k : Fin 2048) : b1 m c t (ix2 r k) = B m c (ix2 (cl t r) k) := by
  unfold B
  blk_ext [b1, iblk, V, idx t, cl]
theorem blk2 (t : Fin cfg0.N) (y : S1024x512.Idx) : b2 m c t y = G m c (ix2 (rw' t (y 0)) (cl t (y 1))) := by
  unfold G
  blk_ext [b2, iblk, V, idx t, rw', cl]
theorem blk3 (t : Fin cfg0.N) (y : S1024x512.Idx) : b3 m c t y = U m c (ix2 (rw' t (y 0)) (cl t (y 1))) := by
  unfold U
  blk_ext [b3, iblk, V, idx t, rw', cl]

/-- The cotangent of the unit, and the two gradients. -/
def DA : S8192x5632.Idx → EReal := fun i => ∑ k : Fin 2048, A m c (ix2 (i 0) k) * B m c (ix2 (i 1) k)
def DG : S8192x5632.Idx → EReal := fun i => dgate (DA m c i) (G m c i) (U m c i)
def DU : S8192x5632.Idx → EReal := fun i => dval (DA m c i) (G m c i)

theorem place4 (t : Fin cfg0.N) (y : S1024x512.Idx) : (win0_4.blk t).view.emb y = ix2 (rw' t (y 0)) (cl t (y 1)) := by
  blk_ext [idx t, rw', cl]
theorem place5 (t : Fin cfg0.N) (y : S1024x512.Idx) : (win0_5.blk t).view.emb y = ix2 (rw' t (y 0)) (cl t (y 1)) := by
  blk_ext [idx t, rw', cl]

theorem pointA (t : Fin cfg0.N) (y : S1024x512.Idx) :
    (∑ k : Fin 2048, b0 m c t (ix2 (y 0) k) * b1 m c t (ix2 (y 1) k)) = DA m c (ix2 (rw' t (y 0)) (cl t (y 1))) :=
  Finset.sum_congr rfl fun k _ => congrArg₂ (· * ·) (blk0 m c t (y 0) k) (blk1 m c t (y 1) k)
theorem pointG (t : Fin cfg0.N) (y : S1024x512.Idx) :
    dgate (∑ k : Fin 2048, b0 m c t (ix2 (y 0) k) * b1 m c t (ix2 (y 1) k)) (b2 m c t y) (b3 m c t y) = DG m c (ix2 (rw' t (y 0)) (cl t (y 1))) := by
  rw [pointA, blk2, blk3]
  rfl
theorem pointU (t : Fin cfg0.N) (y : S1024x512.Idx) :
    dval (∑ k : Fin 2048, b0 m c t (ix2 (y 0) k) * b1 m c t (ix2 (y 1) k)) (b2 m c t y) = DU m c (ix2 (rw' t (y 0)) (cl t (y 1))) := by
  rw [pointA, blk2]
  rfl

theorem out4 : (dats m 0 c).arrAt 4 cfg0.N = DG m c := by
  refine (dats m 0 c).arrAt_eq_of_covers 4 _ (by decide +kernel) fun t hf y => ?_
  blk_simp
  rw [after0_4]
  frame_out
  rw [pay4_apply]
  exact (pointG m c t y).trans (congrArg (DG m c) (place4 t y)).symm
theorem out5 : (dats m 0 c).arrAt 5 cfg0.N = DU m c := by
  refine (dats m 0 c).arrAt_eq_of_covers 5 _ (by decide +kernel) fun t hf y => ?_
  blk_simp
  rw [after0_5]
  frame_out
  rw [pay5_apply]
  exact (pointU m c t y).trans (congrArg (DU m c) (place5 t y)).symm

end Cert.Kernel5Ideal.Act

namespace Cert.Reference5Ideal.Act

open Cert.Reference5Ideal Cert.Reference5Ideal.Gen Cert.Reference5Ideal.Read Idealize.ShloMosaic Idealize.ShloMosaic.TcCoe Idealize.SL.Sem

variable (x0 : S8192x2048.Idx → EReal) (x1 : S5632x2048.Idx → EReal) (x2 x3 : S8192x5632.Idx → EReal) (i : Fin 8192) (j : Fin 5632)

/-- The gradient of the gate as the derivative has it: the product's two parts apart. -/
def dgate' (a g u : EReal) : EReal := a * u * Ideal.logistic g + g * (a * u) * (Ideal.logistic g * (1 - Ideal.logistic g))

theorem v7_apply : val_main_v7 (F := Ideal) x0 x1 (ix2 i j) = ∑ k : Fin 2048, x0 (ix2 i k) * x1 (ix2 j k) := by
  pointwise [val_main_v7, val_main_v6, val_main_v4]
theorem v2_2_apply : val_main_v2_2 (F := Ideal) x2 (ix2 i j) = Ideal.logistic (x2 (ix2 i j)) := by
  unfold Ideal.logistic
  pointwise [val_main_v2_2, val_main_call0_v4, val_main_call0_v3, val_main_call0_v2, val_main_call0_v1, val_main_call0_v0, val_main_call0_cst, val_main_call0_cst_0, val_main_v0, Ideal.ofBits_one_f32]
theorem v11_apply : val_main_v11 (F := Ideal) x0 x1 x2 x3 (ix2 i j) = dgate' (∑ k : Fin 2048, x0 (ix2 i k) * x1 (ix2 j k)) (x2 (ix2 i j)) (x3 (ix2 i j)) := by
  pointwise [val_main_v11, val_main_v10, val_main_call1_v2, val_main_call1_v1, val_main_call1_v0, val_main_v9, val_main_v2_1, val_main_call0_v7, val_main_call0_v6, val_main_call0_cst_1,
    val_main_v1, val_main_v0, v7_apply, v2_2_apply, dgate', Ideal.ofBits_one_f32]
theorem v12_apply : val_main_v12 (F := Ideal) x0 x1 x2 (ix2 i j) = x2 (ix2 i j) * Ideal.logistic (x2 (ix2 i j)) * ∑ k : Fin 2048, x0 (ix2 i k) * x1 (ix2 j k) := by
  pointwise [val_main_v12, val_main_v8, val_main_v2_0, val_main_v0, v7_apply, v2_2_apply]

/-- The two spellings of the gate's gradient agree where the cotangent and the value are reals. -/
theorem dgate_eq (a g u : EReal) (ha : ∃ r : ℝ, a = r) (hu : ∃ r : ℝ, u = r) : dgate' a g u = Cert.Kernel5Ideal.Act.dgate a g u := by
  obtain ⟨a, rfl⟩ := ha
  obtain ⟨u, rfl⟩ := hu
  unfold dgate' Cert.Kernel5Ideal.Act.dgate
  have h1 : (1 : EReal) - 1 = 0 := EReal.sub_self (EReal.coe_ne_top 1) (EReal.coe_ne_bot 1)
  induction g with
  | bot => simp
  | top => simp [h1]
  | coe g =>
    rw [Ideal.logistic_coe]
    norm_cast
    ring

end Cert.Reference5Ideal.Act

namespace Cert.Final5

open Idealize.ShloMosaic Idealize.ShloMosaic.TcCoe Idealize.SL.Sem

theorem frame : Cert.quiescent_Kernel5 := fun m g _ => Cert.Kernel5.Gen.frame m g
theorem frame_ideal : Cert.quiescent_Kernel5Ideal := fun m g _ => Cert.Kernel5Ideal.Gen.frame m g
theorem frame_ideal_pre : Cert.quiescent_Kernel5Ideal_pre_finite5 := fun m g _ => Cert.Kernel5Ideal.Gen.frame m g
theorem frame_ref : Cert.quiescent_Reference5Ideal := fun m g _ =>
  (θ_run Cert.Reference5Ideal.defs _ _).mono (fun r h => ⟨fun c => (h c).2.2, sem_eq_zero_of_no_sems (by decide) r.2⟩)
    (Cert.Reference5Ideal.Value.run (F := Ideal) m g)
theorem frame_ref_pre : Cert.quiescent_Reference5Ideal_pre_finite5 := fun m g _ => frame_ref m g trivial

/-- The precondition says that the cotangent, the weight and the value are reals. -/
theorem pre_real (x0 : Cert.Pre_finite5.S8192x2048.Idx → EReal) (x1 : Cert.Pre_finite5.S5632x2048.Idx → EReal) (x2 x3 : Cert.Pre_finite5.S8192x5632.Idx → EReal)
    (h : Cert.Pre_finite5.fn (F := Ideal) x0 x1 x2 x3 = fun _ => 1#1) :
    (∀ i j, ∃ r : ℝ, x0 (ix2 i j) = r) ∧ (∀ i j, ∃ r : ℝ, x1 (ix2 i j) = r) ∧ (∀ i j, ∃ r : ℝ, x3 (ix2 i j) = r) := by
  dsimp only [Cert.Pre_finite5.fn] at h
  have h' := congrFun h ix0
  have ⟨hab, hc⟩ := IntOp.andi_eq_one.mp h'
  have ⟨ha, hb⟩ := IntOp.andi_eq_one.mp hab
  refine ⟨fun i j => ?_, fun i j => ?_, fun i j => ?_⟩
  · refine Cert.MemFinal.real_of_lt _ (Eq.trans ?_ (Host.reduce_andi_all _ _ _ _ _ ha (ix2 i j)))
    pointwise []
  · refine Cert.MemFinal.real_of_lt _ (Eq.trans ?_ (Host.reduce_andi_all _ _ _ _ _ hb (ix2 i j)))
    pointwise []
  · refine Cert.MemFinal.real_of_lt _ (Eq.trans ?_ (Host.reduce_andi_all _ _ _ _ _ hc (ix2 i j)))
    pointwise []

theorem algebraic : Cert.algebraic_Kernel5Ideal_Reference5Ideal_pre_finite5 := by
  intro m g m' g' hpre hagree
  refine ⟨Cert.Kernel5Ideal.Act.DG m, Cert.Kernel5Ideal.Act.DU m, ?_, ?_⟩
  · refine (θ_run Cert.Kernel5Ideal.defs _ _).mono (fun r h c => ?_) (Cert.Kernel5Ideal.Value.run_blocks (F := Ideal) m g)
    obtain ⟨h4, h5, k⟩ := h c
    exact ⟨h4.trans (Cert.Kernel5Ideal.Act.out4 m c), h5.trans (Cert.Kernel5Ideal.Act.out5 m c), k⟩
  · refine (θ_run Cert.Reference5Ideal.defs _ _).mono (fun r h c => ?_) (Cert.Reference5Ideal.Value.run (F := Ideal) m' g')
    obtain ⟨h11, h12, k⟩ := h c
    obtain ⟨r0, r1, r3⟩ := pre_real _ _ _ _ (hpre c)
    obtain ⟨e0, e1, e2, e3⟩ := hagree c
    refine ⟨(h11.trans (Cert.Reference5Ideal.Read.val_main_v11_eq _ _ _ _)).trans ?_, (h12.trans (Cert.Reference5Ideal.Read.val_main_v12_eq _ _ _)).trans ?_, k⟩
    · rw [e0, e1, e2, e3]
      funext i
      obtain ⟨t, l, rfl⟩ : ∃ (t : Fin 8192) (l : Fin 5632), i = ix2 t l := ⟨i 0, i 1, eq_ix2 i⟩
      refine (Cert.Reference5Ideal.Act.v11_apply _ _ _ _ t l).trans (Cert.Reference5Ideal.Act.dgate_eq _ _ _ ?_ (r3 t l))
      refine Cert.Mem.sum_real Finset.univ _ fun k _ => ?_
      obtain ⟨a, ha⟩ := r0 t k
      obtain ⟨b, hb⟩ := r1 l k
      exact ⟨a * b, by rw [ha, hb, EReal.coe_mul]⟩
    · rw [e0, e1, e2]
      funext i
      obtain ⟨t, l, rfl⟩ : ∃ (t : Fin 8192) (l : Fin 5632), i = ix2 t l := ⟨i 0, i 1, eq_ix2 i⟩
      exact (Cert.Reference5Ideal.Act.v12_apply _ _ _ t l).trans (mul_comm _ _)

end Cert.Final5
-- ==== Proof.Ffn.Up.lean ====
module

public import proofs.«01_k».proof.Defs
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit
public import Idealize.ShloMosaic.PureOps.Ideal.Laws

@[expose] public section

set_option maxRecDepth 16384

noncomputable section

namespace Cert.Kernel6Ideal.Up

open Cert.Kernel6Ideal Cert.Kernel6Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val / 11, 0] ∧ win0_1.index t = ![t.val % 11, 0] ∧ win0_2.index t = ![t.val % 11, 0]
    ∧ win0_3.index t = ![t.val / 11, t.val % 11] ∧ win0_4.index t = ![t.val / 11, t.val % 11] ∧ win0_5.index t = ![t.val / 11, t.val % 11] :=
  (by decide +kernel : ∀ t : Fin grid0.N, win0_0.index t = ![t.val / 11, 0] ∧ win0_1.index t = ![t.val % 11, 0] ∧ win0_2.index t = ![t.val % 11, 0]
    ∧ win0_3.index t = ![t.val / 11, t.val % 11] ∧ win0_4.index t = ![t.val / 11, t.val % 11] ∧ win0_5.index t = ![t.val / 11, t.val % 11])

/-- The gated unit of a gate and a value. -/
def unit (g u : EReal) : EReal := g * Ideal.logistic g * u

theorem pay3_apply (x0 : Vec Ideal S1024x2048 .bf16) (x1 : Vec Ideal S512x2048 .bf16) (y : S1024x512.Idx) :
    k0_pay3 x0 x1 y = ∑ k : Fin 2048, x0 (ix2 (y 0) k) * x1 (ix2 (y 1) k) := by
  pointwise [k0_pay1, k0_pay3]
theorem pay4_apply (x0 : Vec Ideal S1024x2048 .bf16) (x2 : Vec Ideal S512x2048 .bf16) (y : S1024x512.Idx) :
    k0_pay4 x0 x2 y = ∑ k : Fin 2048, x0 (ix2 (y 0) k) * x2 (ix2 (y 1) k) := by
  pointwise [k0_pay2, k0_pay4]
theorem pay5_apply (x0 : Vec Ideal S1024x2048 .bf16) (x1 x2 : Vec Ideal S512x2048 .bf16) (y : S1024x512.Idx) :
    k0_pay5 x0 x1 x2 y = unit (∑ k : Fin 2048, x0 (ix2 (y 0) k) * x1 (ix2 (y 1) k)) (∑ k : Fin 2048, x0 (ix2 (y 0) k) * x2 (ix2 (y 1) k)) := by
  pointwise [k0_pay1, k0_pay2, k0_pay5, unit]

variable (m : (ℓ : Loc nD τ sig) → Buf (Elt Ideal) ℓ) (c : Dev nD)

/-- The arrays the products are of. -/
def A : S8192x2048.Idx → EReal := m ((c : Thread nD τ).loc main_arg0)
def B : S5632x2048.Idx → EReal := m ((c : Thread nD τ).loc main_arg1)
def C : S5632x2048.Idx → EReal := m ((c : Thread nD τ).loc main_arg2)

/-- The rows and columns that a point's tile has. -/
def rw' (t : Fin cfg0.N) (r : Fin 1024) : Fin 8192 := ⟨1024 * (t.val / 11) + r.val, by have : t.val < 88 := t.isLt; omega⟩
def cl (t : Fin cfg0.N) (r : Fin 512) : Fin 5632 := ⟨512 * (t.val % 11) + r.val, by omega⟩

/-- A point's blocks. -/
abbrev b0 (t : Fin cfg0.N) : S1024x2048.Idx → EReal := iblk m c 0 t
abbrev b1 (t : Fin cfg0.N) : S512x2048.Idx → EReal := iblk m c 1 t
abbrev b2 (t : Fin cfg0.N) : S512x2048.Idx → EReal := iblk m c 2 t

theorem blk0 (t : Fin cfg0.N) (r : Fin 1024) (k : Fin 2048) : b0 m c t (ix2 r k) = A m c (ix2 (rw' t r) k) := by
  unfold A
  blk_ext [b0, iblk, V, idx t, rw']
theorem blk1 (t : Fin cfg0.N) (r : Fin 512) (k : Fin 2048) : b1 m c t (ix2 r k) = B m c (ix2 (cl t r) k) := by
  unfold B
  blk_ext [b1, iblk, V, idx t, cl]
theorem blk2 (t : Fin cfg0.N) (r : Fin 512) (k : Fin 2048) : b2 m c t (ix2 r k) = C m c (ix2 (cl t r) k) := by
  unfold C
  blk_ext [b2, iblk, V, idx t, cl]

/-- The gate's product, the value's product, and the unit. -/
def G : S8192x5632.Idx → EReal := fun i => ∑ k : Fin 2048, A m c (ix2 (i 0) k) * B m c (ix2 (i 1) k)
def U : S8192x5632.Idx → EReal := fun i => ∑ k : Fin 2048, A m c (ix2 (i 0) k) * C m c (ix2 (i 1) k)
def H : S8192x5632.Idx → EReal := fun i => unit (G m c i) (U m c i)

theorem place3 (t : Fin cfg0.N) (y : S1024x512.Idx) : (win0_3.blk t).view.emb y = ix2 (rw' t (y 0)) (cl t (y 1)) := by
  blk_ext [idx t, rw', cl]
theorem place4 (t : Fin cfg0.N) (y : S1024x512.Idx) : (win0_4.blk t).view.emb y = ix2 (rw' t (y 0)) (cl t (y 1)) := by
  blk_ext [idx t, rw', cl]
theorem place5 (t : Fin cfg0.N) (y : S1024x512.Idx) : (win0_5.blk t).view.emb y = ix2 (rw' t (y 0)) (cl t (y 1)) := by
  blk_ext [idx t, rw', cl]

theorem pointG (t : Fin cfg0.N) (y : S1024x512.Idx) :
    (∑ k : Fin 2048, b0 m c t (ix2 (y 0) k) * b1 m c t (ix2 (y 1) k)) = G m c (ix2 (rw' t (y 0)) (cl t (y 1))) :=
  Finset.sum_congr rfl fun k _ => congrArg₂ (· * ·) (blk0 m c t (y 0) k) (blk1 m c t (y 1) k)
theorem pointU (t : Fin cfg0.N) (y : S1024x512.Idx) :
    (∑ k : Fin 2048, b0 m c t (ix2 (y 0) k) * b2 m c t (ix2 (y 1) k)) = U m c (ix2 (rw' t (y 0)) (cl t (y 1))) :=
  Finset.sum_congr rfl fun k _ => congrArg₂ (· * ·) (blk0 m c t (y 0) k) (blk2 m c t (y 1) k)

theorem out3 : (dats m 0 c).arrAt 3 cfg0.N = G m c := by
  refine (dats m 0 c).arrAt_eq_of_covers 3 _ (by decide +kernel) fun t hf y => ?_
  blk_simp
  rw [after0_3]
  frame_out
  rw [pay3_apply]
  exact (pointG m c t y).trans (congrArg (G m c) (place3 t y)).symm
theorem out4 : (dats m 0 c).arrAt 4 cfg0.N = U m c := by
  refine (dats m 0 c).arrAt_eq_of_covers 4 _ (by decide +kernel) fun t hf y => ?_
  blk_simp
  rw [after0_4]
  frame_out
  rw [pay4_apply]
  exact (pointU m c t y).trans (congrArg (U m c) (place4 t y)).symm
theorem out5 : (dats m 0 c).arrAt 5 cfg0.N = H m c := by
  refine (dats m 0 c).arrAt_eq_of_covers 5 _ (by decide +kernel) fun t hf y => ?_
  blk_simp
  rw [after0_5]
  frame_out
  rw [pay5_apply]
  exact (congrArg₂ unit (pointG m c t y) (pointU m c t y)).trans (congrArg (H m c) (place5 t y)).symm

end Cert.Kernel6Ideal.Up

namespace Cert.Reference6Ideal.Up

open Cert.Reference6Ideal Cert.Reference6Ideal.Gen Cert.Reference6Ideal.Read Idealize.ShloMosaic Idealize.ShloMosaic.TcCoe Idealize.SL.Sem
open Cert.Kernel6Ideal.Up (unit)

variable (x0 : S8192x2048.Idx → EReal) (x1 x2 : S5632x2048.Idx → EReal) (i : Fin 8192) (j : Fin 5632)

theorem v3_apply : val_main_v3 (F := Ideal) x0 x1 (ix2 i j) = ∑ k : Fin 2048, x0 (ix2 i k) * x1 (ix2 j k) := by
  pointwise [val_main_v3, val_main_v2, val_main_v1, val_main_v0]
theorem v6_apply : val_main_v6 (F := Ideal) x0 x2 (ix2 i j) = ∑ k : Fin 2048, x0 (ix2 i k) * x2 (ix2 j k) := by
  pointwise [val_main_v6, val_main_v5, val_main_v4, val_main_v0]
theorem v7_apply : val_main_v7 (F := Ideal) x0 x1 (ix2 i j) = ∑ k : Fin 2048, x0 (ix2 i k) * x1 (ix2 j k) := by
  pointwise [val_main_v7, v3_apply]
theorem v8_apply : val_main_v8 (F := Ideal) x0 x2 (ix2 i j) = ∑ k : Fin 2048, x0 (ix2 i k) * x2 (ix2 j k) := by
  pointwise [val_main_v8, v6_apply]
theorem v5_apply : val_main_call0_v5 (F := Ideal) x0 x1 (ix2 i j) = Ideal.logistic (∑ k : Fin 2048, x0 (ix2 i k) * x1 (ix2 j k)) := by
  unfold Ideal.logistic
  pointwise [val_main_call0_v5, val_main_call0_v4, val_main_call0_v3, val_main_call0_v2, val_main_call0_v1, val_main_call0_v0, val_main_call0_cst, val_main_call0_cst_0, v3_apply, Ideal.ofBits_one_f32]
theorem v11_apply : val_main_v11 (F := Ideal) x0 x1 x2 (ix2 i j)
    = unit (∑ k : Fin 2048, x0 (ix2 i k) * x1 (ix2 j k)) (∑ k : Fin 2048, x0 (ix2 i k) * x2 (ix2 j k)) := by
  pointwise [val_main_v11, val_main_v10, val_main_v9, v5_apply, v3_apply, v6_apply, unit]

end Cert.Reference6Ideal.Up

namespace Cert.Final6

open Idealize.ShloMosaic Idealize.ShloMosaic.TcCoe Idealize.SL.Sem

theorem frame : Cert.quiescent_Kernel6 := fun m g _ => Cert.Kernel6.Gen.frame m g
theorem frame_ideal : Cert.quiescent_Kernel6Ideal := fun m g _ => Cert.Kernel6Ideal.Gen.frame m g
theorem frame_ref : Cert.quiescent_Reference6Ideal := fun m g _ =>
  (θ_run Cert.Reference6Ideal.defs _ _).mono (fun r h => ⟨fun c => (h c).2.2.2, sem_eq_zero_of_no_sems (by decide) r.2⟩)
    (Cert.Reference6Ideal.Value.run (F := Ideal) m g)

theorem algebraic : Cert.algebraic_Kernel6Ideal_Reference6Ideal := by
  intro m g m' g' hpre hagree
  refine ⟨Cert.Kernel6Ideal.Up.G m, Cert.Kernel6Ideal.Up.U m, Cert.Kernel6Ideal.Up.H m, ?_, ?_⟩
  · refine (θ_run Cert.Kernel6Ideal.defs _ _).mono (fun r h c => ?_) (Cert.Kernel6Ideal.Value.run_blocks (F := Ideal) m g)
    obtain ⟨h3, h4, h5, k⟩ := h c
    exact ⟨h3.trans (Cert.Kernel6Ideal.Up.out3 m c), h4.trans (Cert.Kernel6Ideal.Up.out4 m c), h5.trans (Cert.Kernel6Ideal.Up.out5 m c), k⟩
  · refine (θ_run Cert.Reference6Ideal.defs _ _).mono (fun r h c => ?_) (Cert.Reference6Ideal.Value.run (F := Ideal) m' g')
    obtain ⟨h7, h8, h11, k⟩ := h c
    obtain ⟨e0, e1, e2⟩ := hagree c
    refine ⟨(h7.trans (Cert.Reference6Ideal.Read.val_main_v7_eq _ _)).trans ?_, (h8.trans (Cert.Reference6Ideal.Read.val_main_v8_eq _ _)).trans ?_,
      (h11.trans (Cert.Reference6Ideal.Read.val_main_v11_eq _ _ _)).trans ?_, k⟩
    · rw [e0, e1]
      funext i
      obtain ⟨t, l, rfl⟩ : ∃ (t : Fin 8192) (l : Fin 5632), i = ix2 t l := ⟨i 0, i 1, eq_ix2 i⟩
      exact Cert.Reference6Ideal.Up.v7_apply _ _ t l
    · rw [e0, e2]
      funext i
      obtain ⟨t, l, rfl⟩ : ∃ (t : Fin 8192) (l : Fin 5632), i = ix2 t l := ⟨i 0, i 1, eq_ix2 i⟩
      exact Cert.Reference6Ideal.Up.v8_apply _ _ t l
    · rw [e0, e1, e2]
      funext i
      obtain ⟨t, l, rfl⟩ : ∃ (t : Fin 8192) (l : Fin 5632), i = ix2 t l := ⟨i 0, i 1, eq_ix2 i⟩
      exact Cert.Reference6Ideal.Up.v11_apply _ _ _ t l

end Cert.Final6
-- ==== Proof.Mm.Proj.lean ====
module

public import proofs.«01_k».proof.Defs
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pipeline.ValueKit
public import Idealize.ShloMosaic.PureOps.Ideal.Laws

@[expose] public section

set_option maxRecDepth 16384

noncomputable section

namespace Cert.Kernel7Ideal.Prod

open Cert.Kernel7Ideal Cert.Kernel7Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val / 12, 0] ∧ win0_1.index t = ![0, t.val % 12] ∧ win0_2.index t = ![t.val / 12, t.val % 12] :=
  (by decide +kernel : ∀ t : Fin grid0.N, win0_0.index t = ![t.val / 12, 0] ∧ win0_1.index t = ![0, t.val % 12] ∧ win0_2.index t = ![t.val / 12, t.val % 12])

theorem pay_apply (x0 : Vec Ideal S1024x2048 .bf16) (x1 : Vec Ideal S2048x512 .bf16) (y : S1024x512.Idx) :
    k0_pay1 x0 x1 y = ∑ k : Fin 2048, x0 (ix2 (y 0) k) * x1 (ix2 k (y 1)) := by
  pointwise [k0_pay1]

variable (m : (ℓ : Loc nD τ sig) → Buf (Elt Ideal) ℓ) (c : Dev nD)

/-- The arrays the product is of. -/
def A : S8192x2048.Idx → EReal := m ((c : Thread nD τ).loc main_arg0)
def B : S2048x6144.Idx → EReal := m ((c : Thread nD τ).loc main_arg1)

/-- The rows and columns of the product that a point's tile has. -/
def rw' (t : Fin cfg0.N) (r : Fin 1024) : Fin 8192 := ⟨1024 * (t.val / 12) + r.val, by have : t.val < 96 := t.isLt; omega⟩
def cl (t : Fin cfg0.N) (r : Fin 512) : Fin 6144 := ⟨512 * (t.val % 12) + r.val, by have : t.val < 96 := t.isLt; omega⟩

/-- A point's blocks. -/
abbrev b0 (t : Fin cfg0.N) : S1024x2048.Idx → EReal := iblk m c 0 t
abbrev b1 (t : Fin cfg0.N) : S2048x512.Idx → EReal := iblk m c 1 t

theorem blk0 (t : Fin cfg0.N) (r : Fin 1024) (k : Fin 2048) : b0 m c t (ix2 r k) = A m c (ix2 (rw' t r) k) := by
  unfold A
  blk_ext [b0, iblk, V, idx t, rw']
theorem blk1 (t : Fin cfg0.N) (r : Fin 512) (k : Fin 2048) : b1 m c t (ix2 k r) = B m c (ix2 k (cl t r)) := by
  unfold B
  blk_ext [b1, iblk, V, idx t, cl]

/-- The product. -/
def OUT : S8192x6144.Idx → EReal := fun i => (∑ k : Fin 2048, A m c (ix2 (i 0) k) * B m c (ix2 k (i 1)))

theorem place (t : Fin cfg0.N) (y : S1024x512.Idx) : (win0_2.blk t).view.emb y = ix2 (rw' t (y 0)) (cl t (y 1)) := by
  blk_ext [idx t, rw', cl]

theorem point (t : Fin cfg0.N) (y : S1024x512.Idx) :
    (∑ k : Fin 2048, b0 m c t (ix2 (y 0) k) * b1 m c t (ix2 k (y 1))) = OUT m c (ix2 (rw' t (y 0)) (cl t (y 1))) :=
  Finset.sum_congr rfl fun k _ => congrArg₂ (· * ·) (blk0 m c t (y 0) k) (blk1 m c t (y 1) k)

theorem out : (dats m 0 c).arrAt 2 cfg0.N = OUT m c := by
  refine (dats m 0 c).arrAt_eq_of_covers 2 _ (by decide +kernel) fun t hf y => ?_
  blk_simp
  rw [after0_2, outsAt0]
  frame_out
  rw [pay_apply]
  exact (point m c t y).trans (congrArg (OUT m c) (place t y)).symm

end Cert.Kernel7Ideal.Prod

namespace Cert.Reference7Ideal.Prod

open Cert.Reference7Ideal Cert.Reference7Ideal.Gen Cert.Reference7Ideal.Read Idealize.ShloMosaic Idealize.ShloMosaic.TcCoe Idealize.SL.Sem

theorem ref_apply (x0 : S8192x2048.Idx → EReal) (x1 : S2048x6144.Idx → EReal) (i : Fin 8192) (j : Fin 6144) :
    val_main_v2 (F := Ideal) x0 x1 (ix2 i j) = ∑ k : Fin 2048, x0 (ix2 i k) * x1 (ix2 k j) := by
  pointwise [val_main_v2, val_main_v1, val_main_v0]

end Cert.Reference7Ideal.Prod

namespace Cert.Final7

open Idealize.ShloMosaic Idealize.ShloMosaic.TcCoe Idealize.SL.Sem

theorem frame : Cert.quiescent_Kernel7 := fun m g _ => Cert.Kernel7.Gen.frame m g
theorem frame_ideal : Cert.quiescent_Kernel7Ideal := fun m g _ => Cert.Kernel7Ideal.Gen.frame m g
theorem frame_ref : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem algebraic : Cert.algebraic_Kernel7Ideal_Reference7Ideal := by
  intro m g m' g' hpre hagree
  refine ⟨Cert.Kernel7Ideal.Prod.OUT m, ?_, ?_⟩
  · refine (θ_run Cert.Kernel7Ideal.defs _ _).mono (fun r h c => ?_) (Cert.Kernel7Ideal.Value.run_blocks (F := Ideal) m g)
    obtain ⟨h2, k⟩ := h c
    exact ⟨h2.trans (Cert.Kernel7Ideal.Prod.out m c), k⟩
  · refine (θ_run Cert.Reference7Ideal.defs _ _).mono (fun r h c => ?_) (Cert.Reference7Ideal.Value.run (F := Ideal) m' g')
    obtain ⟨h2, k⟩ := h c
    obtain ⟨e0, e1⟩ := hagree c
    refine ⟨(h2.trans (Cert.Reference7Ideal.Read.val_main_v2_eq _ _)).trans ?_, k⟩
    rw [e0, e1]
    funext i
    obtain ⟨t, l, rfl⟩ : ∃ (t : Fin 8192) (l : Fin 6144), i = ix2 t l := ⟨i 0, i 1, eq_ix2 i⟩
    refine (Cert.Reference7Ideal.Prod.ref_apply _ _ t l).trans ?_
    rfl

end Cert.Final7
-- ==== Proof.Mm.Gate.lean ====
module

public import proofs.«01_k».proof.Defs
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pipeline.ValueKit
public import Idealize.ShloMosaic.PureOps.Ideal.Laws

@[expose] public section

set_option maxRecDepth 16384

noncomputable section

namespace Cert.Kernel8Ideal.Prod

open Cert.Kernel8Ideal Cert.Kernel8Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val / 12, 0] ∧ win0_1.index t = ![t.val % 12, 0] ∧ win0_2.index t = ![t.val / 12, t.val % 12] :=
  (by decide +kernel : ∀ t : Fin grid0.N, win0_0.index t = ![t.val / 12, 0] ∧ win0_1.index t = ![t.val % 12, 0] ∧ win0_2.index t = ![t.val / 12, t.val % 12])

theorem pay_apply (x0 : Vec Ideal S1024x2048 .bf16) (x1 : Vec Ideal S512x2048 .bf16) (y : S1024x512.Idx) :
    k0_pay1 x0 x1 y = ∑ k : Fin 2048, x0 (ix2 (y 0) k) * x1 (ix2 (y 1) k) := by
  pointwise [k0_pay1]

variable (m : (ℓ : Loc nD τ sig) → Buf (Elt Ideal) ℓ) (c : Dev nD)

/-- The arrays the product is of. -/
def A : S8192x2048.Idx → EReal := m ((c : Thread nD τ).loc main_arg0)
def B : S6144x2048.Idx → EReal := m ((c : Thread nD τ).loc main_arg1)

/-- The rows and columns of the product that a point's tile has. -/
def rw' (t : Fin cfg0.N) (r : Fin 1024) : Fin 8192 := ⟨1024 * (t.val / 12) + r.val, by have : t.val < 96 := t.isLt; omega⟩
def cl (t : Fin cfg0.N) (r : Fin 512) : Fin 6144 := ⟨512 * (t.val % 12) + r.val, by have : t.val < 96 := t.isLt; omega⟩

/-- A point's blocks. -/
abbrev b0 (t : Fin cfg0.N) : S1024x2048.Idx → EReal := iblk m c 0 t
abbrev b1 (t : Fin cfg0.N) : S512x2048.Idx → EReal := iblk m c 1 t

theorem blk0 (t : Fin cfg0.N) (r : Fin 1024) (k : Fin 2048) : b0 m c t (ix2 r k) = A m c (ix2 (rw' t r) k) := by
  unfold A
  blk_ext [b0, iblk, V, idx t, rw']
theorem blk1 (t : Fin cfg0.N) (r : Fin 512) (k : Fin 2048) : b1 m c t (ix2 r k) = B m c (ix2 (cl t r) k) := by
  unfold B
  blk_ext [b1, iblk, V, idx t, cl]

/-- The product. -/
def OUT : S8192x6144.Idx → EReal := fun i => (∑ k : Fin 2048, A m c (ix2 (i 0) k) * B m c (ix2 (i 1) k))

theorem place (t : Fin cfg0.N) (y : S1024x512.Idx) : (win0_2.blk t).view.emb y = ix2 (rw' t (y 0)) (cl t (y 1)) := by
  blk_ext [idx t, rw', cl]

theorem point (t : Fin cfg0.N) (y : S1024x512.Idx) :
    (∑ k : Fin 2048, b0 m c t (ix2 (y 0) k) * b1 m c t (ix2 (y 1) k)) = OUT m c (ix2 (rw' t (y 0)) (cl t (y 1))) :=
  Finset.sum_congr rfl fun k _ => congrArg₂ (· * ·) (blk0 m c t (y 0) k) (blk1 m c t (y 1) k)

theorem out : (dats m 0 c).arrAt 2 cfg0.N = OUT m c := by
  refine (dats m 0 c).arrAt_eq_of_covers 2 _ (by decide +kernel) fun t hf y => ?_
  blk_simp
  rw [after0_2, outsAt0]
  frame_out
  rw [pay_apply]
  exact (point m c t y).trans (congrArg (OUT m c) (place t y)).symm

end Cert.Kernel8Ideal.Prod

namespace Cert.Reference8Ideal.Prod

open Cert.Reference8Ideal Cert.Reference8Ideal.Gen Cert.Reference8Ideal.Read Idealize.ShloMosaic Idealize.ShloMosaic.TcCoe Idealize.SL.Sem

theorem ref_apply (x0 : S8192x2048.Idx → EReal) (x1 : S6144x2048.Idx → EReal) (i : Fin 8192) (j : Fin 6144) :
    val_main_v4 (F := Ideal) x0 x1 (ix2 i j) = ∑ k : Fin 2048, x0 (ix2 i k) * x1 (ix2 j k) := by
  pointwise [val_main_v4, val_main_v3, val_main_v2, val_main_v1, val_main_v0]

end Cert.Reference8Ideal.Prod

namespace Cert.Final8

open Idealize.ShloMosaic Idealize.ShloMosaic.TcCoe Idealize.SL.Sem

theorem frame : Cert.quiescent_Kernel8 := fun m g _ => Cert.Kernel8.Gen.frame m g
theorem frame_ideal : Cert.quiescent_Kernel8Ideal := fun m g _ => Cert.Kernel8Ideal.Gen.frame m g
theorem frame_ref : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem algebraic : Cert.algebraic_Kernel8Ideal_Reference8Ideal := by
  intro m g m' g' hpre hagree
  refine ⟨Cert.Kernel8Ideal.Prod.OUT m, ?_, ?_⟩
  · refine (θ_run Cert.Kernel8Ideal.defs _ _).mono (fun r h c => ?_) (Cert.Kernel8Ideal.Value.run_blocks (F := Ideal) m g)
    obtain ⟨h2, k⟩ := h c
    exact ⟨h2.trans (Cert.Kernel8Ideal.Prod.out m c), k⟩
  · refine (θ_run Cert.Reference8Ideal.defs _ _).mono (fun r h c => ?_) (Cert.Reference8Ideal.Value.run (F := Ideal) m' g')
    obtain ⟨h2, k⟩ := h c
    obtain ⟨e0, e1⟩ := hagree c
    refine ⟨(h2.trans (Cert.Reference8Ideal.Read.val_main_v4_eq _ _)).trans ?_, k⟩
    rw [e0, e1]
    funext i
    obtain ⟨t, l, rfl⟩ : ∃ (t : Fin 8192) (l : Fin 6144), i = ix2 t l := ⟨i 0, i 1, eq_ix2 i⟩
    refine (Cert.Reference8Ideal.Prod.ref_apply _ _ t l).trans ?_
    rfl

end Cert.Final8
-- ==== Proof.Mm.DwGate.lean ====
module

public import proofs.«01_k».proof.Defs
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.ValueKit
public import Idealize.ShloMosaic.PureOps.Ideal.Laws

@[expose] public section

set_option maxRecDepth 16384

noncomputable section

namespace Cert.Kernel9Ideal.Prod

open Cert.Kernel9Ideal Cert.Kernel9Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, win0_0.index t = ![t.val % 2, t.val / 4] ∧ win0_1.index t = ![t.val % 2, t.val / 2 % 2] ∧ win0_2.index t = ![t.val / 4, t.val / 2 % 2])

theorem pay2_apply (x0 : Vec Ideal S4096x512 .bf16) (x1 : Vec Ideal S4096x1024 .bf16) (y : S512x1024.Idx) :
    k0_pay2 x0 x1 y = ∑ k : Fin 4096, x0 (ix2 k (y 0)) * x1 (ix2 k (y 1)) := by
  pointwise [k0_pay1, k0_pay2]

theorem pay3_apply (x0 : Vec Ideal S4096x512 .bf16) (x1 : Vec Ideal S4096x1024 .bf16) (x2 : Vec Ideal S512x1024 .f32) (y : S512x1024.Idx) :
    k0_pay3 x0 x1 x2 y = x2 y + ∑ k : Fin 4096, x0 (ix2 k (y 0)) * x1 (ix2 k (y 1)) := by
  pointwise [k0_pay1, k0_pay3]

theorem pay4_apply (x2 : Vec Ideal S512x1024 .f32) (y : S512x1024.Idx) : k0_pay4 x2 y = x2 y := by
  pointwise [k0_pay4]

variable (m : (ℓ : Loc nD τ sig) → Buf (Elt Ideal) ℓ) (c : Dev nD)

/-- The arrays the product is of. -/
def A : S8192x6144.Idx → EReal := m ((c : Thread nD τ).loc main_arg0)
def B : S8192x2048.Idx → EReal := m ((c : Thread nD τ).loc main_arg1)

/-- The rows and columns of the product that a point's tile has, and the terms of the sum its blocks have. -/
def rw' (t : Fin cfg0.N) (r : Fin 512) : Fin 6144 := ⟨512 * (t.val / 4) + r.val, by have : t.val < 48 := t.isLt; omega⟩
def cl (t : Fin cfg0.N) (r : Fin 1024) : Fin 2048 := ⟨1024 * (t.val / 2 % 2) + r.val, by have : t.val < 48 := t.isLt; omega⟩
def kx (t : Fin cfg0.N) (k : Fin 4096) : Fin 8192 := ⟨4096 * (t.val % 2) + k.val, by have : t.val < 48 := t.isLt; omega⟩

/-- A point's blocks. -/
abbrev b0 (t : Fin cfg0.N) : S4096x512.Idx → EReal := iblk m c 0 t
abbrev b1 (t : Fin cfg0.N) : S4096x1024.Idx → EReal := iblk m c 1 t

theorem blk0 (t : Fin cfg0.N) (r : Fin 512) (k : Fin 4096) : b0 m c t (ix2 k r) = A m c (ix2 (kx t k) (rw' t r)) := by
  unfold A
  blk_ext [b0, iblk, V, idx t, rw', kx]
theorem blk1 (t : Fin cfg0.N) (r : Fin 1024) (k : Fin 4096) : b1 m c t (ix2 k r) = B m c (ix2 (kx t k) (cl t r)) := by
  unfold B
  blk_ext [b1, iblk, V, idx t, cl, kx]

/-- The product. -/
def OUT : S6144x2048.Idx → EReal := fun i => (∑ k : Fin 8192, A m c (ix2 k (i 0)) * B m c (ix2 k (i 1)))

theorem place (t : Fin cfg0.N) (y : S512x1024.Idx) : (win0_2.blk t).view.emb y = ix2 (rw' t (y 0)) (cl t (y 1)) := by
  blk_ext [idx t, rw', cl]

/-- What a point adds to its tile's sum. -/
def term (t : Fin cfg0.N) (y : S512x1024.Idx) : EReal :=
  ∑ k : Fin 4096, A m c (ix2 (kx t k) (rw' t (y 0))) * B m c (ix2 (kx t k) (cl t (y 1)))

theorem term_eq (t : Fin cfg0.N) (y : S512x1024.Idx) :
    (∑ k : Fin 4096, b0 m c t (ix2 k (y 0)) * b1 m c t (ix2 k (y 1))) = term m c t y :=
  Finset.sum_congr rfl fun k _ => congrArg₂ (· * ·) (blk0 m c t (y 0) k) (blk1 m c t (y 1) k)

theorem sum_halves (f : Fin 8192 → EReal) : ∑ k : Fin 8192, f k = (∑ k : Fin 4096, f ⟨4096 * 0 + k.val, by omega⟩) + ∑ k : Fin 4096, f ⟨4096 * 1 + k.val, by omega⟩ := by
  rw [← Fin.sum_mul_add_congr (S := 2) (n := 4096) (F := fun s r => f ⟨4096 * s.val + r.val, by omega⟩) (f := f)
    fun s r hl => congrArg f (Fin.ext (by simp only; omega))]
  rw [Fin.sum_univ_two]
  rfl

/-- The first of a tile's two points leaves its term in the scratch. -/
theorem first (t : Fin cfg0.N) (h0 : t.val % 2 = 0) (y : S512x1024.Idx) : (outsAt0 m c t.val t.isLt).2 y = term m c t y := by
  rw [outsAt0_A m c t h0 (by omega) (by omega)]
  frame_out
  rw [pay2_apply]
  exact term_eq m c t y

/-- The second adds its own: the tile of the product. -/
theorem point (t : Fin cfg0.N) (h1 : t.val % 2 = 1) (y : S512x1024.Idx) :
    (outsAt0 m c (t.val - 1) (Nat.lt_of_le_of_lt (Nat.sub_le _ _) t.isLt)).2 y + term m c t y = OUT m c (ix2 (rw' t (y 0)) (cl t (y 1))) := by
  have hp : t.val - 1 < cfg0.N := Nat.lt_of_le_of_lt (Nat.sub_le _ _) t.isLt
  refine Eq.trans ?_ (sum_halves fun k => A m c (ix2 k (rw' t (y 0))) * B m c (ix2 k (cl t (y 1)))).symm
  have hb : t.val < 48 := t.isLt
  refine congrArg₂ (· + ·) ((first m c ⟨t.val - 1, hp⟩ (by show (t.val - 1) % 2 = 0; omega) y).trans ?_) ?_
  · have e0 : rw' ⟨t.val - 1, hp⟩ (y 0) = rw' t (y 0) := Fin.ext (by show 512 * _ + _ = 512 * _ + _; dsimp only; omega)
    have e1 : cl ⟨t.val - 1, hp⟩ (y 1) = cl t (y 1) := Fin.ext (by show 1024 * _ + _ = 1024 * _ + _; dsimp only; omega)
    have e2 (k : Fin 4096) : kx ⟨t.val - 1, hp⟩ k = ⟨4096 * 0 + k.val, by omega⟩ := Fin.ext (by show 4096 * ((t.val - 1) % 2) + k.val = 4096 * 0 + k.val; omega)
    unfold term
    rw [e0, e1]
    exact Finset.sum_congr rfl fun k _ => by rw [e2 k]
  · have e2 (k : Fin 4096) : kx t k = ⟨4096 * 1 + k.val, by omega⟩ := Fin.ext (by show 4096 * (t.val % 2) + k.val = 4096 * 1 + k.val; omega)
    unfold term
    exact Finset.sum_congr rfl fun k _ => by rw [e2 k]

theorem out : (dats m 0 c).arrAt 2 cfg0.N = OUT m c := by
  refine (dats m 0 c).arrAt_eq_of_covers 2 _ (by decide +kernel) fun t hf y => ?_
  have h1 : t.val % 2 = 1 := (flush0_2 t).mp hf
  blk_simp
  rw [after0_2, outsAt0_B m c t (by omega) h1 h1]
  frame_out
  rw [pay4_apply, pay3_apply]
  refine Eq.trans ?_ ((point m c t h1 y).trans (congrArg (OUT m c) (place t y)).symm)
  refine congrArg₂ (· + ·) ?_ (term_eq m c t y)
  exact congrFun (Memref.IsWhole.read_unread (Memref.isWhole_whole cc0_scratch0) _) y

end Cert.Kernel9Ideal.Prod

namespace Cert.Reference9Ideal.Prod

open Cert.Reference9Ideal Cert.Reference9Ideal.Gen Cert.Reference9Ideal.Read Idealize.ShloMosaic Idealize.ShloMosaic.TcCoe Idealize.SL.Sem

theorem ref_apply (x0 : S8192x6144.Idx → EReal) (x1 : S8192x2048.Idx → EReal) (i : Fin 6144) (j : Fin 2048) :
    val_main_v8 (F := Ideal) x0 x1 (ix2 i j) = ∑ k : Fin 8192, x0 (ix2 k i) * x1 (ix2 k j) := by
  pointwise [val_main_v8, val_main_v7, val_main_v6, val_main_v5, val_main_v4, val_main_v3, val_main_v2, val_main_v1, val_main_v0, val_main_cst]

end Cert.Reference9Ideal.Prod

namespace Cert.Final9

open Idealize.ShloMosaic Idealize.ShloMosaic.TcCoe Idealize.SL.Sem

theorem frame : Cert.quiescent_Kernel9 := fun m g _ => Cert.Kernel9.Gen.frame m g
theorem frame_ideal : Cert.quiescent_Kernel9Ideal := fun m g _ => Cert.Kernel9Ideal.Gen.frame m g
theorem frame_ref : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

theorem algebraic : Cert.algebraic_Kernel9Ideal_Reference9Ideal := by
  intro m g m' g' hpre hagree
  refine ⟨Cert.Kernel9Ideal.Prod.OUT m, ?_, ?_⟩
  · refine (θ_run Cert.Kernel9Ideal.defs _ _).mono (fun r h c => ?_) (Cert.Kernel9Ideal.Value.run_blocks (F := Ideal) m g)
    obtain ⟨h2, k⟩ := h c
    exact ⟨h2.trans (Cert.Kernel9Ideal.Prod.out m c), k⟩
  · refine (θ_run Cert.Reference9Ideal.defs _ _).mono (fun r h c => ?_) (Cert.Reference9Ideal.Value.run (F := Ideal) m' g')
    obtain ⟨h2, k⟩ := h c
    obtain ⟨e0, e1⟩ := hagree c
    refine ⟨(h2.trans (Cert.Reference9Ideal.Read.val_main_v8_eq _ _)).trans ?_, k⟩
    rw [e0, e1]
    funext i
    obtain ⟨t, l, rfl⟩ : ∃ (t : Fin 6144) (l : Fin 2048), i = ix2 t l := ⟨i 0, i 1, eq_ix2 i⟩
    refine (Cert.Reference9Ideal.Prod.ref_apply _ _ t l).trans ?_
    rfl

end Cert.Final9
-- ==== Proof.Mm.DunGate.lean ====
module

public import proofs.«01_k».proof.Defs
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pipeline.ValueKit
public import Idealize.ShloMosaic.PureOps.Ideal.Laws

@[expose] public section

set_option maxRecDepth 16384

noncomputable section

namespace Cert.Kernel10Ideal.Prod

open Cert.Kernel10Ideal Cert.Kernel10Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4] ∧ win0_2.index t = ![t.val / 4, t.val % 4])

theorem pay_apply (x0 : Vec Ideal S512x6144 .bf16) (x1 : Vec Ideal S6144x512 .bf16) (y : S512x512.Idx) :
    k0_pay1 x0 x1 y = ∑ k : Fin 6144, x0 (ix2 (y 0) k) * x1 (ix2 k (y 1)) := by
  pointwise [k0_pay1]

variable (m : (ℓ : Loc nD τ sig) → Buf (Elt Ideal) ℓ) (c : Dev nD)

/-- The arrays the product is of. -/
def A : S8192x6144.Idx → EReal := m ((c : Thread nD τ).loc main_arg0)
def B : S6144x2048.Idx → EReal := m ((c : Thread nD τ).loc main_arg1)

/-- The rows and columns of the product that a point's tile has. -/
def rw' (t : Fin cfg0.N) (r : Fin 512) : Fin 8192 := ⟨512 * (t.val / 4) + r.val, by have : t.val < 64 := t.isLt; omega⟩
def cl (t : Fin cfg0.N) (r : Fin 512) : Fin 2048 := ⟨512 * (t.val % 4) + r.val, by have : t.val < 64 := t.isLt; omega⟩

/-- A point's blocks. -/
abbrev b0 (t : Fin cfg0.N) : S512x6144.Idx → EReal := iblk m c 0 t
abbrev b1 (t : Fin cfg0.N) : S6144x512.Idx → EReal := iblk m c 1 t

theorem blk0 (t : Fin cfg0.N) (r : Fin 512) (k : Fin 6144) : b0 m c t (ix2 r k) = A m c (ix2 (rw' t r) k) := by
  unfold A
  blk_ext [b0, iblk, V, idx t, rw']
theorem blk1 (t : Fin cfg0.N) (r : Fin 512) (k : Fin 6144) : b1 m c t (ix2 k r) = B m c (ix2 k (cl t r)) := by
  unfold B
  blk_ext [b1, iblk, V, idx t, cl]

/-- The product. -/
def OUT : S8192x2048.Idx → EReal := fun i => (∑ k : Fin 6144, A m c (ix2 (i 0) k) * B m c (ix2 k (i 1)))

theorem place (t : Fin cfg0.N) (y : S512x512.Idx) : (win0_2.blk t).view.emb y = ix2 (rw' t (y 0)) (cl t (y 1)) := by
  blk_ext [idx t, rw', cl]

theorem point (t : Fin cfg0.N) (y : S512x512.Idx) :
    (∑ k : Fin 6144, b0 m c t (ix2 (y 0) k) * b1 m c t (ix2 k (y 1))) = OUT m c (ix2 (rw' t (y 0)) (cl t (y 1))) :=
  Finset.sum_congr rfl fun k _ => congrArg₂ (· * ·) (blk0 m c t (y 0) k) (blk1 m c t (y 1) k)

theorem out : (dats m 0 c).arrAt 2 cfg0.N = OUT m c := by
  refine (dats m 0 c).arrAt_eq_of_covers 2 _ (by decide +kernel) fun t hf y => ?_
  blk_simp
  rw [after0_2, outsAt0]
  frame_out
  rw [pay_apply]
  exact (point m c t y).trans (congrArg (OUT m c) (place t y)).symm

end Cert.Kernel10Ideal.Prod

namespace Cert.Reference10Ideal.Prod

open Cert.Reference10Ideal Cert.Reference10Ideal.Gen Cert.Reference10Ideal.Read Idealize.ShloMosaic Idealize.ShloMosaic.TcCoe Idealize.SL.Sem

theorem ref_apply (x0 : S8192x6144.Idx → EReal) (x1 : S6144x2048.Idx → EReal) (i : Fin 8192) (j : Fin 2048) :
    val_main_v5 (F := Ideal) x0 x1 (ix2 i j) = ∑ k : Fin 6144, x0 (ix2 i k) * x1 (ix2 k j) := by
  pointwise [val_main_v5, val_main_v4, val_main_v3, val_main_v2, val_main_v1, val_main_v0, val_main_cst]

end Cert.Reference10Ideal.Prod

namespace Cert.Final10

open Idealize.ShloMosaic Idealize.ShloMosaic.TcCoe Idealize.SL.Sem

theorem frame : Cert.quiescent_Kernel10 := fun m g _ => Cert.Kernel10.Gen.frame m g
theorem frame_ideal : Cert.quiescent_Kernel10Ideal := fun m g _ => Cert.Kernel10Ideal.Gen.frame m g
theorem frame_ref : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

theorem algebraic : Cert.algebraic_Kernel10Ideal_Reference10Ideal := by
  intro m g m' g' hpre hagree
  refine ⟨Cert.Kernel10Ideal.Prod.OUT m, ?_, ?_⟩
  · refine (θ_run Cert.Kernel10Ideal.defs _ _).mono (fun r h c => ?_) (Cert.Kernel10Ideal.Value.run_blocks (F := Ideal) m g)
    obtain ⟨h2, k⟩ := h c
    exact ⟨h2.trans (Cert.Kernel10Ideal.Prod.out m c), k⟩
  · refine (θ_run Cert.Reference10Ideal.defs _ _).mono (fun r h c => ?_) (Cert.Reference10Ideal.Value.run (F := Ideal) m' g')
    obtain ⟨h2, k⟩ := h c
    obtain ⟨e0, e1⟩ := hagree c
    refine ⟨(h2.trans (Cert.Reference10Ideal.Read.val_main_v5_eq _ _)).trans ?_, k⟩
    rw [e0, e1]
    funext i
    obtain ⟨t, l, rfl⟩ : ∃ (t : Fin 8192) (l : Fin 2048), i = ix2 t l := ⟨i 0, i 1, eq_ix2 i⟩
    refine (Cert.Reference10Ideal.Prod.ref_apply _ _ t l).trans ?_
    rfl

end Cert.Final10
-- ==== Proof.Mm.DwIn.lean ====
module

public import proofs.«01_k».proof.Defs
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pipeline.ValueKit
public import Idealize.ShloMosaic.PureOps.Ideal.Laws

@[expose] public section

set_option maxRecDepth 16384

noncomputable section

namespace Cert.Kernel11Ideal.Prod

open Cert.Kernel11Ideal Cert.Kernel11Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val % 2, t.val / 12] ∧ win0_1.index t = ![t.val % 2, t.val / 2 % 6] ∧ win0_2.index t = ![t.val / 12, t.val / 2 % 6] :=
  (by decide +kernel : ∀ t : Fin grid0.N, win0_0.index t = ![t.val % 2, t.val / 12] ∧ win0_1.index t = ![t.val % 2, t.val / 2 % 6] ∧ win0_2.index t = ![t.val / 12, t.val / 2 % 6])

theorem pay2_apply (x0 : Vec Ideal S4096x512 .bf16) (x1 : Vec Ideal S4096x1024 .bf16) (y : S512x1024.Idx) :
    k0_pay2 x0 x1 y = ∑ k : Fin 4096, x0 (ix2 k (y 0)) * x1 (ix2 k (y 1)) := by
  pointwise [k0_pay1, k0_pay2]

theorem pay3_apply (x0 : Vec Ideal S4096x512 .bf16) (x1 : Vec Ideal S4096x1024 .bf16) (x2 : Vec Ideal S512x1024 .f32) (y : S512x1024.Idx) :
    k0_pay3 x0 x1 x2 y = x2 y + ∑ k : Fin 4096, x0 (ix2 k (y 0)) * x1 (ix2 k (y 1)) := by
  pointwise [k0_pay1, k0_pay3]

theorem pay4_apply (x2 : Vec Ideal S512x1024 .f32) (y : S512x1024.Idx) : k0_pay4 x2 y = x2 y := by
  pointwise [k0_pay4]

variable (m : (ℓ : Loc nD τ sig) → Buf (Elt Ideal) ℓ) (c : Dev nD)

/-- The arrays the product is of. -/
def A : S8192x2048.Idx → EReal := m ((c : Thread nD τ).loc main_arg0)
def B : S8192x6144.Idx → EReal := m ((c : Thread nD τ).loc main_arg1)

/-- The rows and columns of the product that a point's tile has, and the terms of the sum its blocks have. -/
def rw' (t : Fin cfg0.N) (r : Fin 512) : Fin 2048 := ⟨512 * (t.val / 12) + r.val, by have : t.val < 48 := t.isLt; omega⟩
def cl (t : Fin cfg0.N) (r : Fin 1024) : Fin 6144 := ⟨1024 * (t.val / 2 % 6) + r.val, by have : t.val < 48 := t.isLt; omega⟩
def kx (t : Fin cfg0.N) (k : Fin 4096) : Fin 8192 := ⟨4096 * (t.val % 2) + k.val, by have : t.val < 48 := t.isLt; omega⟩

/-- A point's blocks. -/
abbrev b0 (t : Fin cfg0.N) : S4096x512.Idx → EReal := iblk m c 0 t
abbrev b1 (t : Fin cfg0.N) : S4096x1024.Idx → EReal := iblk m c 1 t

theorem blk0 (t : Fin cfg0.N) (r : Fin 512) (k : Fin 4096) : b0 m c t (ix2 k r) = A m c (ix2 (kx t k) (rw' t r)) := by
  unfold A
  blk_ext [b0, iblk, V, idx t, rw', kx]
theorem blk1 (t : Fin cfg0.N) (r : Fin 1024) (k : Fin 4096) : b1 m c t (ix2 k r) = B m c (ix2 (kx t k) (cl t r)) := by
  unfold B
  blk_ext [b1, iblk, V, idx t, cl, kx]

/-- The product. -/
def OUT : S2048x6144.Idx → EReal := fun i => (∑ k : Fin 8192, A m c (ix2 k (i 0)) * B m c (ix2 k (i 1)))

theorem place (t : Fin cfg0.N) (y : S512x1024.Idx) : (win0_2.blk t).view.emb y = ix2 (rw' t (y 0)) (cl t (y 1)) := by
  blk_ext [idx t, rw', cl]

/-- What a point adds to its tile's sum. -/
def term (t : Fin cfg0.N) (y : S512x1024.Idx) : EReal :=
  ∑ k : Fin 4096, A m c (ix2 (kx t k) (rw' t (y 0))) * B m c (ix2 (kx t k) (cl t (y 1)))

theorem term_eq (t : Fin cfg0.N) (y : S512x1024.Idx) :
    (∑ k : Fin 4096, b0 m c t (ix2 k (y 0)) * b1 m c t (ix2 k (y 1))) = term m c t y :=
  Finset.sum_congr rfl fun k _ => congrArg₂ (· * ·) (blk0 m c t (y 0) k) (blk1 m c t (y 1) k)

theorem sum_halves (f : Fin 8192 → EReal) : ∑ k : Fin 8192, f k = (∑ k : Fin 4096, f ⟨4096 * 0 + k.val, by omega⟩) + ∑ k : Fin 4096, f ⟨4096 * 1 + k.val, by omega⟩ := by
  rw [← Fin.sum_mul_add_congr (S := 2) (n := 4096) (F := fun s r => f ⟨4096 * s.val + r.val, by omega⟩) (f := f)
    fun s r hl => congrArg f (Fin.ext (by simp only; omega))]
  rw [Fin.sum_univ_two]
  rfl

/-- The first of a tile's two points leaves its term in the scratch. -/
theorem first (t : Fin cfg0.N) (h0 : t.val % 2 = 0) (y : S512x1024.Idx) : (outsAt0 m c t.val t.isLt).2 y = term m c t y := by
  rw [outsAt0_A m c t h0 (by omega) (by omega)]
  frame_out
  rw [pay2_apply]
  exact term_eq m c t y

/-- The second adds its own: the tile of the product. -/
theorem point (t : Fin cfg0.N) (h1 : t.val % 2 = 1) (y : S512x1024.Idx) :
    (outsAt0 m c (t.val - 1) (Nat.lt_of_le_of_lt (Nat.sub_le _ _) t.isLt)).2 y + term m c t y = OUT m c (ix2 (rw' t (y 0)) (cl t (y 1))) := by
  have hp : t.val - 1 < cfg0.N := Nat.lt_of_le_of_lt (Nat.sub_le _ _) t.isLt
  refine Eq.trans ?_ (sum_halves fun k => A m c (ix2 k (rw' t (y 0))) * B m c (ix2 k (cl t (y 1)))).symm
  have hb : t.val < 48 := t.isLt
  refine congrArg₂ (· + ·) ((first m c ⟨t.val - 1, hp⟩ (by show (t.val - 1) % 2 = 0; omega) y).trans ?_) ?_
  · have e0 : rw' ⟨t.val - 1, hp⟩ (y 0) = rw' t (y 0) := Fin.ext (by show 512 * _ + _ = 512 * _ + _; dsimp only; omega)
    have e1 : cl ⟨t.val - 1, hp⟩ (y 1) = cl t (y 1) := Fin.ext (by show 1024 * _ + _ = 1024 * _ + _; dsimp only; omega)
    have e2 (k : Fin 4096) : kx ⟨t.val - 1, hp⟩ k = ⟨4096 * 0 + k.val, by omega⟩ := Fin.ext (by show 4096 * ((t.val - 1) % 2) + k.val = 4096 * 0 + k.val; omega)
    unfold term
    rw [e0, e1]
    exact Finset.sum_congr rfl fun k _ => by rw [e2 k]
  · have e2 (k : Fin 4096) : kx t k = ⟨4096 * 1 + k.val, by omega⟩ := Fin.ext (by show 4096 * (t.val % 2) + k.val = 4096 * 1 + k.val; omega)
    unfold term
    exact Finset.sum_congr rfl fun k _ => by rw [e2 k]

theorem out : (dats m 0 c).arrAt 2 cfg0.N = OUT m c := by
  refine (dats m 0 c).arrAt_eq_of_covers 2 _ (by decide +kernel) fun t hf y => ?_
  have h1 : t.val % 2 = 1 := (flush0_2 t).mp hf
  blk_simp
  rw [after0_2, outsAt0_B m c t (by omega) h1 h1]
  frame_out
  rw [pay4_apply, pay3_apply]
  refine Eq.trans ?_ ((point m c t h1 y).trans (congrArg (OUT m c) (place t y)).symm)
  refine congrArg₂ (· + ·) ?_ (term_eq m c t y)
  exact congrFun (Memref.IsWhole.read_unread (Memref.isWhole_whole cc0_scratch0) _) y

end Cert.Kernel11Ideal.Prod

namespace Cert.Reference11Ideal.Prod

open Cert.Reference11Ideal Cert.Reference11Ideal.Gen Cert.Reference11Ideal.Read Idealize.ShloMosaic Idealize.ShloMosaic.TcCoe Idealize.SL.Sem

theorem ref_apply (x0 : S8192x2048.Idx → EReal) (x1 : S8192x6144.Idx → EReal) (i : Fin 2048) (j : Fin 6144) :
    val_main_v6 (F := Ideal) x0 x1 (ix2 i j) = ∑ k : Fin 8192, x1 (ix2 k j) * x0 (ix2 k i) := by
  pointwise [val_main_v6, val_main_v5, val_main_v4, val_main_v3, val_main_v2, val_main_v1, val_main_v0, val_main_cst]

end Cert.Reference11Ideal.Prod

namespace Cert.Final11

open Idealize.ShloMosaic Idealize.ShloMosaic.TcCoe Idealize.SL.Sem

theorem frame : Cert.quiescent_Kernel11 := fun m g _ => Cert.Kernel11.Gen.frame m g
theorem frame_ideal : Cert.quiescent_Kernel11Ideal := fun m g _ => Cert.Kernel11Ideal.Gen.frame m g
theorem frame_ref : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

theorem algebraic : Cert.algebraic_Kernel11Ideal_Reference11Ideal := by
  intro m g m' g' hpre hagree
  refine ⟨Cert.Kernel11Ideal.Prod.OUT m, ?_, ?_⟩
  · refine (θ_run Cert.Kernel11Ideal.defs _ _).mono (fun r h c => ?_) (Cert.Kernel11Ideal.Value.run_blocks (F := Ideal) m g)
    obtain ⟨h2, k⟩ := h c
    exact ⟨h2.trans (Cert.Kernel11Ideal.Prod.out m c), k⟩
  · refine (θ_run Cert.Reference11Ideal.defs _ _).mono (fun r h c => ?_) (Cert.Reference11Ideal.Value.run (F := Ideal) m' g')
    obtain ⟨h2, k⟩ := h c
    obtain ⟨e0, e1⟩ := hagree c
    refine ⟨(h2.trans (Cert.Reference11Ideal.Read.val_main_v6_eq _ _)).trans ?_, k⟩
    rw [e0, e1]
    funext i
    obtain ⟨t, l, rfl⟩ : ∃ (t : Fin 2048) (l : Fin 6144), i = ix2 t l := ⟨i 0, i 1, eq_ix2 i⟩
    refine (Cert.Reference11Ideal.Prod.ref_apply _ _ t l).trans ?_
    exact Finset.sum_congr rfl fun k _ => mul_comm _ _

end Cert.Final11
-- ==== Proof.Mm.DunProj.lean ====
module

public import proofs.«01_k».proof.Defs
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Pipeline.ValueKit
public import Idealize.ShloMosaic.PureOps.Ideal.Laws

@[expose] public section

set_option maxRecDepth 16384

noncomputable section

namespace Cert.Kernel12Ideal.Prod

open Cert.Kernel12Ideal Cert.Kernel12Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, win0_0.index t = ![t.val / 4, 0] ∧ win0_1.index t = ![t.val % 4, 0] ∧ win0_2.index t = ![t.val / 4, t.val % 4] ∧ win0_3.index t = ![t.val / 4, t.val % 4])

theorem pay_apply (x0 : Vec Ideal S512x6144 .bf16) (x1 : Vec Ideal S512x6144 .bf16) (x2 : Vec Ideal S512x512 .f32) (y : S512x512.Idx) :
    k0_pay1 x0 x1 x2 y = (∑ k : Fin 6144, x0 (ix2 (y 0) k) * x1 (ix2 (y 1) k)) + x2 y := by
  pointwise [k0_pay1]

variable (m : (ℓ : Loc nD τ sig) → Buf (Elt Ideal) ℓ) (c : Dev nD)

/-- The arrays the product is of. -/
def A : S8192x6144.Idx → EReal := m ((c : Thread nD τ).loc main_arg0)
def B : S2048x6144.Idx → EReal := m ((c : Thread nD τ).loc main_arg1)
def C : S8192x2048.Idx → EReal := m ((c : Thread nD τ).loc main_arg2)

/-- The rows and columns of the product that a point's tile has. -/
def rw' (t : Fin cfg0.N) (r : Fin 512) : Fin 8192 := ⟨512 * (t.val / 4) + r.val, by have : t.val < 64 := t.isLt; omega⟩
def cl (t : Fin cfg0.N) (r : Fin 512) : Fin 2048 := ⟨512 * (t.val % 4) + r.val, by have : t.val < 64 := t.isLt; omega⟩

/-- A point's blocks. -/
abbrev b0 (t : Fin cfg0.N) : S512x6144.Idx → EReal := iblk m c 0 t
abbrev b1 (t : Fin cfg0.N) : S512x6144.Idx → EReal := iblk m c 1 t

theorem blk0 (t : Fin cfg0.N) (r : Fin 512) (k : Fin 6144) : b0 m c t (ix2 r k) = A m c (ix2 (rw' t r) k) := by
  unfold A
  blk_ext [b0, iblk, V, idx t, rw']
theorem blk1 (t : Fin cfg0.N) (r : Fin 512) (k : Fin 6144) : b1 m c t (ix2 r k) = B m c (ix2 (cl t r) k) := by
  unfold B
  blk_ext [b1, iblk, V, idx t, cl]
theorem blk2 (t : Fin cfg0.N) (y : S512x512.Idx) : (iblk m c 2 t : S512x512.Idx → EReal) y = C m c (ix2 (rw' t (y 0)) (cl t (y 1))) := by
  unfold C
  blk_ext [iblk, V, idx t, rw', cl]

/-- The product. -/
def OUT : S8192x2048.Idx → EReal := fun i => (∑ k : Fin 6144, A m c (ix2 (i 0) k) * B m c (ix2 (i 1) k)) + C m c i

theorem place (t : Fin cfg0.N) (y : S512x512.Idx) : (win0_3.blk t).view.emb y = ix2 (rw' t (y 0)) (cl t (y 1)) := by
  blk_ext [idx t, rw', cl]

theorem out : (dats m 0 c).arrAt 3 cfg0.N = OUT m c := by
  refine (dats m 0 c).arrAt_eq_of_covers 3 _ (by decide +kernel) fun t hf y => ?_
  blk_simp
  rw [after0_3, outsAt0]
  frame_out
  rw [pay_apply]
  refine Eq.trans ?_ (congrArg (OUT m c) (place t y)).symm
  refine congrArg₂ (· + ·) (Finset.sum_congr rfl fun k _ => ?_) (blk2 m c t y)
  exact congrArg₂ (· * ·) (blk0 m c t (y 0) k) (blk1 m c t (y 1) k)

end Cert.Kernel12Ideal.Prod

namespace Cert.Reference12Ideal.Prod

open Cert.Reference12Ideal Cert.Reference12Ideal.Gen Cert.Reference12Ideal.Read Idealize.ShloMosaic Idealize.ShloMosaic.TcCoe Idealize.SL.Sem

theorem ref_apply (x0 : S8192x6144.Idx → EReal) (x1 : S2048x6144.Idx → EReal) (x2 : S8192x2048.Idx → EReal) (i : Fin 8192) (j : Fin 2048) :
    val_main_v5 (F := Ideal) x0 x1 x2 (ix2 i j) = x2 (ix2 i j) + ∑ k : Fin 6144, x0 (ix2 i k) * x1 (ix2 j k) := by
  pointwise [val_main_v5, val_main_v4, val_main_v3, val_main_v2, val_main_v1, val_main_v0, val_main_cst]

end Cert.Reference12Ideal.Prod

namespace Cert.Final12

open Idealize.ShloMosaic Idealize.ShloMosaic.TcCoe Idealize.SL.Sem

theorem frame : Cert.quiescent_Kernel12 := fun m g _ => Cert.Kernel12.Gen.frame m g
theorem frame_ideal : Cert.quiescent_Kernel12Ideal := fun m g _ => Cert.Kernel12Ideal.Gen.frame m g
theorem frame_ref : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

theorem algebraic : Cert.algebraic_Kernel12Ideal_Reference12Ideal := by
  intro m g m' g' hpre hagree
  refine ⟨Cert.Kernel12Ideal.Prod.OUT m, ?_, ?_⟩
  · refine (θ_run Cert.Kernel12Ideal.defs _ _).mono (fun r h c => ?_) (Cert.Kernel12Ideal.Value.run_blocks (F := Ideal) m g)
    obtain ⟨h2, k⟩ := h c
    exact ⟨h2.trans (Cert.Kernel12Ideal.Prod.out m c), k⟩
  · refine (θ_run Cert.Reference12Ideal.defs _ _).mono (fun r h c => ?_) (Cert.Reference12Ideal.Value.run (F := Ideal) m' g')
    obtain ⟨h2, k⟩ := h c
    obtain ⟨e0, e1, e2⟩ := hagree c
    refine ⟨(h2.trans (Cert.Reference12Ideal.Read.val_main_v5_eq _ _ _)).trans ?_, k⟩
    rw [e0, e1, e2]
    funext i
    obtain ⟨t, l, rfl⟩ : ∃ (t : Fin 8192) (l : Fin 2048), i = ix2 t l := ⟨i 0, i 1, eq_ix2 i⟩
    refine (Cert.Reference12Ideal.Prod.ref_apply _ _ _ t l).trans ?_
    exact add_comm _ _

end Cert.Final12
-- ==== Proof.Mm.MixOut.lean ====
module

public import proofs.«01_k».proof.Defs
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Pipeline.ValueKit
public import Idealize.ShloMosaic.PureOps.Ideal.Laws

@[expose] public section

set_option maxRecDepth 16384

noncomputable section

namespace Cert.Kernel13Ideal.Prod

open Cert.Kernel13Ideal Cert.Kernel13Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4] ∧ win0_2.index t = ![t.val / 4, t.val % 4])

theorem pay_apply (x0 : Vec Ideal S1024x2048 .bf16) (x1 : Vec Ideal S2048x512 .bf16) (y : S1024x512.Idx) :
    k0_pay1 x0 x1 y = ∑ k : Fin 2048, x0 (ix2 (y 0) k) * x1 (ix2 k (y 1)) := by
  pointwise [k0_pay1]

variable (m : (ℓ : Loc nD τ sig) → Buf (Elt Ideal) ℓ) (c : Dev nD)

/-- The arrays the product is of. -/
def A : S8192x2048.Idx → EReal := m ((c : Thread nD τ).loc main_arg0)
def B : S2048x2048.Idx → EReal := m ((c : Thread nD τ).loc main_arg1)

/-- The rows and columns of the product that a point's tile has. -/
def rw' (t : Fin cfg0.N) (r : Fin 1024) : Fin 8192 := ⟨1024 * (t.val / 4) + r.val, by have : t.val < 32 := t.isLt; omega⟩
def cl (t : Fin cfg0.N) (r : Fin 512) : Fin 2048 := ⟨512 * (t.val % 4) + r.val, by have : t.val < 32 := t.isLt; omega⟩

/-- A point's blocks. -/
abbrev b0 (t : Fin cfg0.N) : S1024x2048.Idx → EReal := iblk m c 0 t
abbrev b1 (t : Fin cfg0.N) : S2048x512.Idx → EReal := iblk m c 1 t

theorem blk0 (t : Fin cfg0.N) (r : Fin 1024) (k : Fin 2048) : b0 m c t (ix2 r k) = A m c (ix2 (rw' t r) k) := by
  unfold A
  blk_ext [b0, iblk, V, idx t, rw']
theorem blk1 (t : Fin cfg0.N) (r : Fin 512) (k : Fin 2048) : b1 m c t (ix2 k r) = B m c (ix2 k (cl t r)) := by
  unfold B
  blk_ext [b1, iblk, V, idx t, cl]

/-- The product. -/
def OUT : S8192x2048.Idx → EReal := fun i => (∑ k : Fin 2048, A m c (ix2 (i 0) k) * B m c (ix2 k (i 1)))

theorem place (t : Fin cfg0.N) (y : S1024x512.Idx) : (win0_2.blk t).view.emb y = ix2 (rw' t (y 0)) (cl t (y 1)) := by
  blk_ext [idx t, rw', cl]

theorem point (t : Fin cfg0.N) (y : S1024x512.Idx) :
    (∑ k : Fin 2048, b0 m c t (ix2 (y 0) k) * b1 m c t (ix2 k (y 1))) = OUT m c (ix2 (rw' t (y 0)) (cl t (y 1))) :=
  Finset.sum_congr rfl fun k _ => congrArg₂ (· * ·) (blk0 m c t (y 0) k) (blk1 m c t (y 1) k)

theorem out : (dats m 0 c).arrAt 2 cfg0.N = OUT m c := by
  refine (dats m 0 c).arrAt_eq_of_covers 2 _ (by decide +kernel) fun t hf y => ?_
  blk_simp
  rw [after0_2, outsAt0]
  frame_out
  rw [pay_apply]
  exact (point m c t y).trans (congrArg (OUT m c) (place t y)).symm

end Cert.Kernel13Ideal.Prod

namespace Cert.Reference13Ideal.Prod

open Cert.Reference13Ideal Cert.Reference13Ideal.Gen Cert.Reference13Ideal.Read Idealize.ShloMosaic Idealize.ShloMosaic.TcCoe Idealize.SL.Sem

theorem ref_apply (x0 : S8192x2048.Idx → EReal) (x1 : S2048x2048.Idx → EReal) (i : Fin 8192) (j : Fin 2048) :
    val_main_v2 (F := Ideal) x0 x1 (ix2 i j) = ∑ k : Fin 2048, x0 (ix2 i k) * x1 (ix2 k j) := by
  pointwise [val_main_v2, val_main_v1, val_main_v0]

end Cert.Reference13Ideal.Prod

namespace Cert.Final13

open Idealize.ShloMosaic Idealize.ShloMosaic.TcCoe Idealize.SL.Sem

theorem frame : Cert.quiescent_Kernel13 := fun m g _ => Cert.Kernel13.Gen.frame m g
theorem frame_ideal : Cert.quiescent_Kernel13Ideal := fun m g _ => Cert.Kernel13Ideal.Gen.frame m g
theorem frame_ref : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

theorem algebraic : Cert.algebraic_Kernel13Ideal_Reference13Ideal := by
  intro m g m' g' hpre hagree
  refine ⟨Cert.Kernel13Ideal.Prod.OUT m, ?_, ?_⟩
  · refine (θ_run Cert.Kernel13Ideal.defs _ _).mono (fun r h c => ?_) (Cert.Kernel13Ideal.Value.run_blocks (F := Ideal) m g)
    obtain ⟨h2, k⟩ := h c
    exact ⟨h2.trans (Cert.Kernel13Ideal.Prod.out m c), k⟩
  · refine (θ_run Cert.Reference13Ideal.defs _ _).mono (fun r h c => ?_) (Cert.Reference13Ideal.Value.run (F := Ideal) m' g')
    obtain ⟨h2, k⟩ := h c
    obtain ⟨e0, e1⟩ := hagree c
    refine ⟨(h2.trans (Cert.Reference13Ideal.Read.val_main_v2_eq _ _)).trans ?_, k⟩
    rw [e0, e1]
    funext i
    obtain ⟨t, l, rfl⟩ : ∃ (t : Fin 8192) (l : Fin 2048), i = ix2 t l := ⟨i 0, i 1, eq_ix2 i⟩
    refine (Cert.Reference13Ideal.Prod.ref_apply _ _ t l).trans ?_
    rfl

end Cert.Final13
-- ==== Proof.Mm.DMerged.lean ====
module

public import proofs.«01_k».proof.Defs
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.Pipeline.ValueKit
public import Idealize.ShloMosaic.PureOps.Ideal.Laws

@[expose] public section

set_option maxRecDepth 16384

noncomputable section

namespace Cert.Kernel14Ideal.Prod

open Cert.Kernel14Ideal Cert.Kernel14Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, win0_0.index t = ![t.val / 4, 0] ∧ win0_1.index t = ![t.val % 4, 0] ∧ win0_2.index t = ![t.val / 4, t.val % 4])

theorem pay_apply (x0 : Vec Ideal S1024x2048 .bf16) (x1 : Vec Ideal S512x2048 .bf16) (y : S1024x512.Idx) :
    k0_pay1 x0 x1 y = ∑ k : Fin 2048, x0 (ix2 (y 0) k) * x1 (ix2 (y 1) k) := by
  pointwise [k0_pay1]

variable (m : (ℓ : Loc nD τ sig) → Buf (Elt Ideal) ℓ) (c : Dev nD)

/-- The arrays the product is of. -/
def A : S8192x2048.Idx → EReal := m ((c : Thread nD τ).loc main_arg0)
def B : S2048x2048.Idx → EReal := m ((c : Thread nD τ).loc main_arg1)

/-- The rows and columns of the product that a point's tile has. -/
def rw' (t : Fin cfg0.N) (r : Fin 1024) : Fin 8192 := ⟨1024 * (t.val / 4) + r.val, by have : t.val < 32 := t.isLt; omega⟩
def cl (t : Fin cfg0.N) (r : Fin 512) : Fin 2048 := ⟨512 * (t.val % 4) + r.val, by have : t.val < 32 := t.isLt; omega⟩

/-- A point's blocks. -/
abbrev b0 (t : Fin cfg0.N) : S1024x2048.Idx → EReal := iblk m c 0 t
abbrev b1 (t : Fin cfg0.N) : S512x2048.Idx → EReal := iblk m c 1 t

theorem blk0 (t : Fin cfg0.N) (r : Fin 1024) (k : Fin 2048) : b0 m c t (ix2 r k) = A m c (ix2 (rw' t r) k) := by
  unfold A
  blk_ext [b0, iblk, V, idx t, rw']
theorem blk1 (t : Fin cfg0.N) (r : Fin 512) (k : Fin 2048) : b1 m c t (ix2 r k) = B m c (ix2 (cl t r) k) := by
  unfold B
  blk_ext [b1, iblk, V, idx t, cl]

/-- The product. -/
def OUT : S8192x2048.Idx → EReal := fun i => (∑ k : Fin 2048, A m c (ix2 (i 0) k) * B m c (ix2 (i 1) k))

theorem place (t : Fin cfg0.N) (y : S1024x512.Idx) : (win0_2.blk t).view.emb y = ix2 (rw' t (y 0)) (cl t (y 1)) := by
  blk_ext [idx t, rw', cl]

theorem point (t : Fin cfg0.N) (y : S1024x512.Idx) :
    (∑ k : Fin 2048, b0 m c t (ix2 (y 0) k) * b1 m c t (ix2 (y 1) k)) = OUT m c (ix2 (rw' t (y 0)) (cl t (y 1))) :=
  Finset.sum_congr rfl fun k _ => congrArg₂ (· * ·) (blk0 m c t (y 0) k) (blk1 m c t (y 1) k)

theorem out : (dats m 0 c).arrAt 2 cfg0.N = OUT m c := by
  refine (dats m 0 c).arrAt_eq_of_covers 2 _ (by decide +kernel) fun t hf y => ?_
  blk_simp
  rw [after0_2, outsAt0]
  frame_out
  rw [pay_apply]
  exact (point m c t y).trans (congrArg (OUT m c) (place t y)).symm

end Cert.Kernel14Ideal.Prod

namespace Cert.Reference14Ideal.Prod

open Cert.Reference14Ideal Cert.Reference14Ideal.Gen Cert.Reference14Ideal.Read Idealize.ShloMosaic Idealize.ShloMosaic.TcCoe Idealize.SL.Sem

theorem ref_apply (x0 : S8192x2048.Idx → EReal) (x1 : S2048x2048.Idx → EReal) (i : Fin 8192) (j : Fin 2048) :
    val_main_v4 (F := Ideal) x0 x1 (ix2 i j) = ∑ k : Fin 2048, x0 (ix2 i k) * x1 (ix2 j k) := by
  pointwise [val_main_v4, val_main_v3, val_main_v2, val_main_v1, val_main_v0, val_main_cst]

end Cert.Reference14Ideal.Prod

namespace Cert.Final14

open Idealize.ShloMosaic Idealize.ShloMosaic.TcCoe Idealize.SL.Sem

theorem frame : Cert.quiescent_Kernel14 := fun m g _ => Cert.Kernel14.Gen.frame m g
theorem frame_ideal : Cert.quiescent_Kernel14Ideal := fun m g _ => Cert.Kernel14Ideal.Gen.frame m g
theorem frame_ref : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

theorem algebraic : Cert.algebraic_Kernel14Ideal_Reference14Ideal := by
  intro m g m' g' hpre hagree
  refine ⟨Cert.Kernel14Ideal.Prod.OUT m, ?_, ?_⟩
  · refine (θ_run Cert.Kernel14Ideal.defs _ _).mono (fun r h c => ?_) (Cert.Kernel14Ideal.Value.run_blocks (F := Ideal) m g)
    obtain ⟨h2, k⟩ := h c
    exact ⟨h2.trans (Cert.Kernel14Ideal.Prod.out m c), k⟩
  · refine (θ_run Cert.Reference14Ideal.defs _ _).mono (fun r h c => ?_) (Cert.Reference14Ideal.Value.run (F := Ideal) m' g')
    obtain ⟨h2, k⟩ := h c
    obtain ⟨e0, e1⟩ := hagree c
    refine ⟨(h2.trans (Cert.Reference14Ideal.Read.val_main_v4_eq _ _)).trans ?_, k⟩
    rw [e0, e1]
    funext i
    obtain ⟨t, l, rfl⟩ : ∃ (t : Fin 8192) (l : Fin 2048), i = ix2 t l := ⟨i 0, i 1, eq_ix2 i⟩
    refine (Cert.Reference14Ideal.Prod.ref_apply _ _ t l).trans ?_
    rfl

end Cert.Final14
-- ==== Proof.Mm.DwO.lean ====
module

public import proofs.«01_k».proof.Defs
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Lib.Pipeline.ValueKit
public import Idealize.ShloMosaic.PureOps.Ideal.Laws

@[expose] public section

set_option maxRecDepth 16384

noncomputable section

namespace Cert.Kernel15Ideal.Prod

open Cert.Kernel15Ideal Cert.Kernel15Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, win0_0.index t = ![t.val % 2, t.val / 4] ∧ win0_1.index t = ![t.val % 2, t.val / 2 % 2] ∧ win0_2.index t = ![t.val / 4, t.val / 2 % 2])

theorem pay2_apply (x0 : Vec Ideal S4096x512 .bf16) (x1 : Vec Ideal S4096x1024 .bf16) (y : S512x1024.Idx) :
    k0_pay2 x0 x1 y = ∑ k : Fin 4096, x0 (ix2 k (y 0)) * x1 (ix2 k (y 1)) := by
  pointwise [k0_pay1, k0_pay2]

theorem pay3_apply (x0 : Vec Ideal S4096x512 .bf16) (x1 : Vec Ideal S4096x1024 .bf16) (x2 : Vec Ideal S512x1024 .f32) (y : S512x1024.Idx) :
    k0_pay3 x0 x1 x2 y = x2 y + ∑ k : Fin 4096, x0 (ix2 k (y 0)) * x1 (ix2 k (y 1)) := by
  pointwise [k0_pay1, k0_pay3]

theorem pay4_apply (x2 : Vec Ideal S512x1024 .f32) (y : S512x1024.Idx) : k0_pay4 x2 y = x2 y := by
  pointwise [k0_pay4]

variable (m : (ℓ : Loc nD τ sig) → Buf (Elt Ideal) ℓ) (c : Dev nD)

/-- The arrays the product is of. -/
def A : S8192x2048.Idx → EReal := m ((c : Thread nD τ).loc main_arg0)
def B : S8192x2048.Idx → EReal := m ((c : Thread nD τ).loc main_arg1)

/-- The rows and columns of the product that a point's tile has, and the terms of the sum its blocks have. -/
def rw' (t : Fin cfg0.N) (r : Fin 512) : Fin 2048 := ⟨512 * (t.val / 4) + r.val, by have : t.val < 16 := t.isLt; omega⟩
def cl (t : Fin cfg0.N) (r : Fin 1024) : Fin 2048 := ⟨1024 * (t.val / 2 % 2) + r.val, by have : t.val < 16 := t.isLt; omega⟩
def kx (t : Fin cfg0.N) (k : Fin 4096) : Fin 8192 := ⟨4096 * (t.val % 2) + k.val, by have : t.val < 16 := t.isLt; omega⟩

/-- A point's blocks. -/
abbrev b0 (t : Fin cfg0.N) : S4096x512.Idx → EReal := iblk m c 0 t
abbrev b1 (t : Fin cfg0.N) : S4096x1024.Idx → EReal := iblk m c 1 t

theorem blk0 (t : Fin cfg0.N) (r : Fin 512) (k : Fin 4096) : b0 m c t (ix2 k r) = A m c (ix2 (kx t k) (rw' t r)) := by
  unfold A
  blk_ext [b0, iblk, V, idx t, rw', kx]
theorem blk1 (t : Fin cfg0.N) (r : Fin 1024) (k : Fin 4096) : b1 m c t (ix2 k r) = B m c (ix2 (kx t k) (cl t r)) := by
  unfold B
  blk_ext [b1, iblk, V, idx t, cl, kx]

/-- The product. -/
def OUT : S2048x2048.Idx → EReal := fun i => (∑ k : Fin 8192, A m c (ix2 k (i 0)) * B m c (ix2 k (i 1)))

theorem place (t : Fin cfg0.N) (y : S512x1024.Idx) : (win0_2.blk t).view.emb y = ix2 (rw' t (y 0)) (cl t (y 1)) := by
  blk_ext [idx t, rw', cl]

/-- What a point adds to its tile's sum. -/
def term (t : Fin cfg0.N) (y : S512x1024.Idx) : EReal :=
  ∑ k : Fin 4096, A m c (ix2 (kx t k) (rw' t (y 0))) * B m c (ix2 (kx t k) (cl t (y 1)))

theorem term_eq (t : Fin cfg0.N) (y : S512x1024.Idx) :
    (∑ k : Fin 4096, b0 m c t (ix2 k (y 0)) * b1 m c t (ix2 k (y 1))) = term m c t y :=
  Finset.sum_congr rfl fun k _ => congrArg₂ (· * ·) (blk0 m c t (y 0) k) (blk1 m c t (y 1) k)

theorem sum_halves (f : Fin 8192 → EReal) : ∑ k : Fin 8192, f k = (∑ k : Fin 4096, f ⟨4096 * 0 + k.val, by omega⟩) + ∑ k : Fin 4096, f ⟨4096 * 1 + k.val, by omega⟩ := by
  rw [← Fin.sum_mul_add_congr (S := 2) (n := 4096) (F := fun s r => f ⟨4096 * s.val + r.val, by omega⟩) (f := f)
    fun s r hl => congrArg f (Fin.ext (by simp only; omega))]
  rw [Fin.sum_univ_two]
  rfl

/-- The first of a tile's two points leaves its term in the scratch. -/
theorem first (t : Fin cfg0.N) (h0 : t.val % 2 = 0) (y : S512x1024.Idx) : (outsAt0 m c t.val t.isLt).2 y = term m c t y := by
  rw [outsAt0_A m c t h0 (by omega) (by omega)]
  frame_out
  rw [pay2_apply]
  exact term_eq m c t y

/-- The second adds its own: the tile of the product. -/
theorem point (t : Fin cfg0.N) (h1 : t.val % 2 = 1) (y : S512x1024.Idx) :
    (outsAt0 m c (t.val - 1) (Nat.lt_of_le_of_lt (Nat.sub_le _ _) t.isLt)).2 y + term m c t y = OUT m c (ix2 (rw' t (y 0)) (cl t (y 1))) := by
  have hp : t.val - 1 < cfg0.N := Nat.lt_of_le_of_lt (Nat.sub_le _ _) t.isLt
  refine Eq.trans ?_ (sum_halves fun k => A m c (ix2 k (rw' t (y 0))) * B m c (ix2 k (cl t (y 1)))).symm
  have hb : t.val < 16 := t.isLt
  refine congrArg₂ (· + ·) ((first m c ⟨t.val - 1, hp⟩ (by show (t.val - 1) % 2 = 0; omega) y).trans ?_) ?_
  · have e0 : rw' ⟨t.val - 1, hp⟩ (y 0) = rw' t (y 0) := Fin.ext (by show 512 * _ + _ = 512 * _ + _; dsimp only; omega)
    have e1 : cl ⟨t.val - 1, hp⟩ (y 1) = cl t (y 1) := Fin.ext (by show 1024 * _ + _ = 1024 * _ + _; dsimp only; omega)
    have e2 (k : Fin 4096) : kx ⟨t.val - 1, hp⟩ k = ⟨4096 * 0 + k.val, by omega⟩ := Fin.ext (by show 4096 * ((t.val - 1) % 2) + k.val = 4096 * 0 + k.val; omega)
    unfold term
    rw [e0, e1]
    exact Finset.sum_congr rfl fun k _ => by rw [e2 k]
  · have e2 (k : Fin 4096) : kx t k = ⟨4096 * 1 + k.val, by omega⟩ := Fin.ext (by show 4096 * (t.val % 2) + k.val = 4096 * 1 + k.val; omega)
    unfold term
    exact Finset.sum_congr rfl fun k _ => by rw [e2 k]

theorem out : (dats m 0 c).arrAt 2 cfg0.N = OUT m c := by
  refine (dats m 0 c).arrAt_eq_of_covers 2 _ (by decide +kernel) fun t hf y => ?_
  have h1 : t.val % 2 = 1 := (flush0_2 t).mp hf
  blk_simp
  rw [after0_2, outsAt0_B m c t (by omega) h1 h1]
  frame_out
  rw [pay4_apply, pay3_apply]
  refine Eq.trans ?_ ((point m c t h1 y).trans (congrArg (OUT m c) (place t y)).symm)
  refine congrArg₂ (· + ·) ?_ (term_eq m c t y)
  exact congrFun (Memref.IsWhole.read_unread (Memref.isWhole_whole cc0_scratch0) _) y

end Cert.Kernel15Ideal.Prod

namespace Cert.Reference15Ideal.Prod

open Cert.Reference15Ideal Cert.Reference15Ideal.Gen Cert.Reference15Ideal.Read Idealize.ShloMosaic Idealize.ShloMosaic.TcCoe Idealize.SL.Sem

theorem ref_apply (x0 : S8192x2048.Idx → EReal) (x1 : S8192x2048.Idx → EReal) (i : Fin 2048) (j : Fin 2048) :
    val_main_v6 (F := Ideal) x0 x1 (ix2 i j) = ∑ k : Fin 8192, x1 (ix2 k j) * x0 (ix2 k i) := by
  pointwise [val_main_v6, val_main_v5, val_main_v4, val_main_v3, val_main_v2, val_main_v1, val_main_v0, val_main_cst]

end Cert.Reference15Ideal.Prod

namespace Cert.Final15

open Idealize.ShloMosaic Idealize.ShloMosaic.TcCoe Idealize.SL.Sem

theorem frame : Cert.quiescent_Kernel15 := fun m g _ => Cert.Kernel15.Gen.frame m g
theorem frame_ideal : Cert.quiescent_Kernel15Ideal := fun m g _ => Cert.Kernel15Ideal.Gen.frame m g
theorem frame_ref : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)

theorem algebraic : Cert.algebraic_Kernel15Ideal_Reference15Ideal := by
  intro m g m' g' hpre hagree
  refine ⟨Cert.Kernel15Ideal.Prod.OUT m, ?_, ?_⟩
  · refine (θ_run Cert.Kernel15Ideal.defs _ _).mono (fun r h c => ?_) (Cert.Kernel15Ideal.Value.run_blocks (F := Ideal) m g)
    obtain ⟨h2, k⟩ := h c
    exact ⟨h2.trans (Cert.Kernel15Ideal.Prod.out m c), k⟩
  · refine (θ_run Cert.Reference15Ideal.defs _ _).mono (fun r h c => ?_) (Cert.Reference15Ideal.Value.run (F := Ideal) m' g')
    obtain ⟨h2, k⟩ := h c
    obtain ⟨e0, e1⟩ := hagree c
    refine ⟨(h2.trans (Cert.Reference15Ideal.Read.val_main_v6_eq _ _)).trans ?_, k⟩
    rw [e0, e1]
    funext i
    obtain ⟨t, l, rfl⟩ : ∃ (t : Fin 2048) (l : Fin 2048), i = ix2 t l := ⟨i 0, i 1, eq_ix2 i⟩
    refine (Cert.Reference15Ideal.Prod.ref_apply _ _ t l).trans ?_
    exact Finset.sum_congr rfl fun k _ => mul_comm _ _

end Cert.Final15
-- ==== Proof.Mm.HgrnOut.lean ====
module

public import proofs.«01_k».proof.Defs
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.Pipeline.ValueKit
public import Idealize.ShloMosaic.PureOps.Ideal.Laws

@[expose] public section

set_option maxRecDepth 16384

noncomputable section

namespace Cert.Kernel16Ideal.Prod

open Cert.Kernel16Ideal Cert.Kernel16Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, win0_0.index t = ![t.val / 4, 0] ∧ win0_1.index t = ![t.val % 4, 0] ∧ win0_2.index t = ![t.val / 4, t.val % 4])

theorem pay_apply (x0 : Vec Ideal S1024x768 .bf16) (x1 : Vec Ideal S512x768 .bf16) (y : S1024x512.Idx) :
    k0_pay1 x0 x1 y = ∑ k : Fin 768, x0 (ix2 (y 0) k) * x1 (ix2 (y 1) k) := by
  pointwise [k0_pay1]

variable (m : (ℓ : Loc nD τ sig) → Buf (Elt Ideal) ℓ) (c : Dev nD)

/-- The arrays the product is of. -/
def A : S8192x768.Idx → EReal := m ((c : Thread nD τ).loc main_arg0)
def B : S2048x768.Idx → EReal := m ((c : Thread nD τ).loc main_arg1)

/-- The rows and columns of the product that a point's tile has. -/
def rw' (t : Fin cfg0.N) (r : Fin 1024) : Fin 8192 := ⟨1024 * (t.val / 4) + r.val, by have : t.val < 32 := t.isLt; omega⟩
def cl (t : Fin cfg0.N) (r : Fin 512) : Fin 2048 := ⟨512 * (t.val % 4) + r.val, by have : t.val < 32 := t.isLt; omega⟩

/-- A point's blocks. -/
abbrev b0 (t : Fin cfg0.N) : S1024x768.Idx → EReal := iblk m c 0 t
abbrev b1 (t : Fin cfg0.N) : S512x768.Idx → EReal := iblk m c 1 t

theorem blk0 (t : Fin cfg0.N) (r : Fin 1024) (k : Fin 768) : b0 m c t (ix2 r k) = A m c (ix2 (rw' t r) k) := by
  unfold A
  blk_ext [b0, iblk, V, idx t, rw']
theorem blk1 (t : Fin cfg0.N) (r : Fin 512) (k : Fin 768) : b1 m c t (ix2 r k) = B m c (ix2 (cl t r) k) := by
  unfold B
  blk_ext [b1, iblk, V, idx t, cl]

/-- The product. -/
def OUT : S8192x2048.Idx → EReal := fun i => (∑ k : Fin 768, A m c (ix2 (i 0) k) * B m c (ix2 (i 1) k))

theorem place (t : Fin cfg0.N) (y : S1024x512.Idx) : (win0_2.blk t).view.emb y = ix2 (rw' t (y 0)) (cl t (y 1)) := by
  blk_ext [idx t, rw', cl]

theorem point (t : Fin cfg0.N) (y : S1024x512.Idx) :
    (∑ k : Fin 768, b0 m c t (ix2 (y 0) k) * b1 m c t (ix2 (y 1) k)) = OUT m c (ix2 (rw' t (y 0)) (cl t (y 1))) :=
  Finset.sum_congr rfl fun k _ => congrArg₂ (· * ·) (blk0 m c t (y 0) k) (blk1 m c t (y 1) k)

theorem out : (dats m 0 c).arrAt 2 cfg0.N = OUT m c := by
  refine (dats m 0 c).arrAt_eq_of_covers 2 _ (by decide +kernel) fun t hf y => ?_
  blk_simp
  rw [after0_2, outsAt0]
  frame_out
  rw [pay_apply]
  exact (point m c t y).trans (congrArg (OUT m c) (place t y)).symm

end Cert.Kernel16Ideal.Prod

namespace Cert.Reference16Ideal.Prod

open Cert.Reference16Ideal Cert.Reference16Ideal.Gen Cert.Reference16Ideal.Read Idealize.ShloMosaic Idealize.ShloMosaic.TcCoe Idealize.SL.Sem

theorem ref_apply (x0 : S8192x768.Idx → EReal) (x1 : S2048x768.Idx → EReal) (i : Fin 8192) (j : Fin 2048) :
    val_main_v4 (F := Ideal) x0 x1 (ix2 i j) = ∑ k : Fin 768, x0 (ix2 i k) * x1 (ix2 j k) := by
  pointwise [val_main_v4, val_main_v3, val_main_v2, val_main_v1, val_main_v0]

end Cert.Reference16Ideal.Prod

namespace Cert.Final16

open Idealize.ShloMosaic Idealize.ShloMosaic.TcCoe Idealize.SL.Sem

theorem frame : Cert.quiescent_Kernel16 := fun m g _ => Cert.Kernel16.Gen.frame m g
theorem frame_ideal : Cert.quiescent_Kernel16Ideal := fun m g _ => Cert.Kernel16Ideal.Gen.frame m g
theorem frame_ref : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

theorem algebraic : Cert.algebraic_Kernel16Ideal_Reference16Ideal := by
  intro m g m' g' hpre hagree
  refine ⟨Cert.Kernel16Ideal.Prod.OUT m, ?_, ?_⟩
  · refine (θ_run Cert.Kernel16Ideal.defs _ _).mono (fun r h c => ?_) (Cert.Kernel16Ideal.Value.run_blocks (F := Ideal) m g)
    obtain ⟨h2, k⟩ := h c
    exact ⟨h2.trans (Cert.Kernel16Ideal.Prod.out m c), k⟩
  · refine (θ_run Cert.Reference16Ideal.defs _ _).mono (fun r h c => ?_) (Cert.Reference16Ideal.Value.run (F := Ideal) m' g')
    obtain ⟨h2, k⟩ := h c
    obtain ⟨e0, e1⟩ := hagree c
    refine ⟨(h2.trans (Cert.Reference16Ideal.Read.val_main_v4_eq _ _)).trans ?_, k⟩
    rw [e0, e1]
    funext i
    obtain ⟨t, l, rfl⟩ : ∃ (t : Fin 8192) (l : Fin 2048), i = ix2 t l := ⟨i 0, i 1, eq_ix2 i⟩
    refine (Cert.Reference16Ideal.Prod.ref_apply _ _ t l).trans ?_
    rfl

end Cert.Final16
-- ==== Proof.Mm.FoxOut.lean ====
module

public import proofs.«01_k».proof.Defs
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Lib.Pipeline.ValueKit
public import Idealize.ShloMosaic.PureOps.Ideal.Laws

@[expose] public section

set_option maxRecDepth 16384

noncomputable section

namespace Cert.Kernel17Ideal.Prod

open Cert.Kernel17Ideal Cert.Kernel17Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, win0_0.index t = ![t.val / 4, 0] ∧ win0_1.index t = ![t.val % 4, 0] ∧ win0_2.index t = ![t.val / 4, t.val % 4])

theorem pay_apply (x0 : Vec Ideal S1024x768 .f32) (x1 : Vec Ideal S512x768 .bf16) (y : S1024x512.Idx) :
    k0_pay1 x0 x1 y = ∑ k : Fin 768, x0 (ix2 (y 0) k) * x1 (ix2 (y 1) k) := by
  pointwise [k0_pay1]

variable (m : (ℓ : Loc nD τ sig) → Buf (Elt Ideal) ℓ) (c : Dev nD)

/-- The arrays the product is of. -/
def A : S8192x768.Idx → EReal := m ((c : Thread nD τ).loc main_arg0)
def B : S2048x768.Idx → EReal := m ((c : Thread nD τ).loc main_arg1)

/-- The rows and columns of the product that a point's tile has. -/
def rw' (t : Fin cfg0.N) (r : Fin 1024) : Fin 8192 := ⟨1024 * (t.val / 4) + r.val, by have : t.val < 32 := t.isLt; omega⟩
def cl (t : Fin cfg0.N) (r : Fin 512) : Fin 2048 := ⟨512 * (t.val % 4) + r.val, by have : t.val < 32 := t.isLt; omega⟩

/-- A point's blocks. -/
abbrev b0 (t : Fin cfg0.N) : S1024x768.Idx → EReal := iblk m c 0 t
abbrev b1 (t : Fin cfg0.N) : S512x768.Idx → EReal := iblk m c 1 t

theorem blk0 (t : Fin cfg0.N) (r : Fin 1024) (k : Fin 768) : b0 m c t (ix2 r k) = A m c (ix2 (rw' t r) k) := by
  unfold A
  blk_ext [b0, iblk, V, idx t, rw']
theorem blk1 (t : Fin cfg0.N) (r : Fin 512) (k : Fin 768) : b1 m c t (ix2 r k) = B m c (ix2 (cl t r) k) := by
  unfold B
  blk_ext [b1, iblk, V, idx t, cl]

/-- The product. -/
def OUT : S8192x2048.Idx → EReal := fun i => (∑ k : Fin 768, A m c (ix2 (i 0) k) * B m c (ix2 (i 1) k))

theorem place (t : Fin cfg0.N) (y : S1024x512.Idx) : (win0_2.blk t).view.emb y = ix2 (rw' t (y 0)) (cl t (y 1)) := by
  blk_ext [idx t, rw', cl]

theorem point (t : Fin cfg0.N) (y : S1024x512.Idx) :
    (∑ k : Fin 768, b0 m c t (ix2 (y 0) k) * b1 m c t (ix2 (y 1) k)) = OUT m c (ix2 (rw' t (y 0)) (cl t (y 1))) :=
  Finset.sum_congr rfl fun k _ => congrArg₂ (· * ·) (blk0 m c t (y 0) k) (blk1 m c t (y 1) k)

theorem out : (dats m 0 c).arrAt 2 cfg0.N = OUT m c := by
  refine (dats m 0 c).arrAt_eq_of_covers 2 _ (by decide +kernel) fun t hf y => ?_
  blk_simp
  rw [after0_2, outsAt0]
  frame_out
  rw [pay_apply]
  exact (point m c t y).trans (congrArg (OUT m c) (place t y)).symm

end Cert.Kernel17Ideal.Prod

namespace Cert.Reference17Ideal.Prod

open Cert.Reference17Ideal Cert.Reference17Ideal.Gen Cert.Reference17Ideal.Read Idealize.ShloMosaic Idealize.ShloMosaic.TcCoe Idealize.SL.Sem

theorem ref_apply (x0 : S8192x768.Idx → EReal) (x1 : S2048x768.Idx → EReal) (i : Fin 8192) (j : Fin 2048) :
    val_main_v3 (F := Ideal) x0 x1 (ix2 i j) = ∑ k : Fin 768, x0 (ix2 i k) * x1 (ix2 j k) := by
  pointwise [val_main_v3, val_main_v2, val_main_v1, val_main_v0]

end Cert.Reference17Ideal.Prod

namespace Cert.Final17

open Idealize.ShloMosaic Idealize.ShloMosaic.TcCoe Idealize.SL.Sem

theorem frame : Cert.quiescent_Kernel17 := fun m g _ => Cert.Kernel17.Gen.frame m g
theorem frame_ideal : Cert.quiescent_Kernel17Ideal := fun m g _ => Cert.Kernel17Ideal.Gen.frame m g
theorem frame_ref : Cert.quiescent_Reference17Ideal := fun m g _ =>
  (θ_run Cert.Reference17Ideal.defs _ _).mono (fun r h => ⟨fun c => (h c).2, sem_eq_zero_of_no_sems (by decide) r.2⟩)
    (Cert.Reference17Ideal.Value.run (F := Ideal) m g)

theorem algebraic : Cert.algebraic_Kernel17Ideal_Reference17Ideal := by
  intro m g m' g' hpre hagree
  refine ⟨Cert.Kernel17Ideal.Prod.OUT m, ?_, ?_⟩
  · refine (θ_run Cert.Kernel17Ideal.defs _ _).mono (fun r h c => ?_) (Cert.Kernel17Ideal.Value.run_blocks (F := Ideal) m g)
    obtain ⟨h2, k⟩ := h c
    exact ⟨h2.trans (Cert.Kernel17Ideal.Prod.out m c), k⟩
  · refine (θ_run Cert.Reference17Ideal.defs _ _).mono (fun r h c => ?_) (Cert.Reference17Ideal.Value.run (F := Ideal) m' g')
    obtain ⟨h2, k⟩ := h c
    obtain ⟨e0, e1⟩ := hagree c
    refine ⟨(h2.trans (Cert.Reference17Ideal.Read.val_main_v3_eq _ _)).trans ?_, k⟩
    rw [e0, e1]
    funext i
    obtain ⟨t, l, rfl⟩ : ∃ (t : Fin 8192) (l : Fin 2048), i = ix2 t l := ⟨i 0, i 1, eq_ix2 i⟩
    refine (Cert.Reference17Ideal.Prod.ref_apply _ _ t l).trans ?_
    rfl

end Cert.Final17
-- ==== Proof.Mm.MemOut.lean ====
module

public import proofs.«01_k».proof.Defs
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.Pipeline.ValueKit
public import Idealize.ShloMosaic.PureOps.Ideal.Laws

@[expose] public section

set_option maxRecDepth 16384

noncomputable section

namespace Cert.Kernel18Ideal.Prod

open Cert.Kernel18Ideal Cert.Kernel18Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, win0_0.index t = ![t.val / 4, 0] ∧ win0_1.index t = ![t.val % 4, 0] ∧ win0_2.index t = ![t.val / 4, t.val % 4])

theorem pay_apply (x0 : Vec Ideal S1024x512 .f32) (x1 : Vec Ideal S512x512 .bf16) (y : S1024x512.Idx) :
    k0_pay1 x0 x1 y = ∑ k : Fin 512, x0 (ix2 (y 0) k) * x1 (ix2 (y 1) k) := by
  pointwise [k0_pay1]

variable (m : (ℓ : Loc nD τ sig) → Buf (Elt Ideal) ℓ) (c : Dev nD)

/-- The arrays the product is of. -/
def A : S8192x512.Idx → EReal := m ((c : Thread nD τ).loc main_arg0)
def B : S2048x512.Idx → EReal := m ((c : Thread nD τ).loc main_arg1)

/-- The rows and columns of the product that a point's tile has. -/
def rw' (t : Fin cfg0.N) (r : Fin 1024) : Fin 8192 := ⟨1024 * (t.val / 4) + r.val, by have : t.val < 32 := t.isLt; omega⟩
def cl (t : Fin cfg0.N) (r : Fin 512) : Fin 2048 := ⟨512 * (t.val % 4) + r.val, by have : t.val < 32 := t.isLt; omega⟩

/-- A point's blocks. -/
abbrev b0 (t : Fin cfg0.N) : S1024x512.Idx → EReal := iblk m c 0 t
abbrev b1 (t : Fin cfg0.N) : S512x512.Idx → EReal := iblk m c 1 t

theorem blk0 (t : Fin cfg0.N) (r : Fin 1024) (k : Fin 512) : b0 m c t (ix2 r k) = A m c (ix2 (rw' t r) k) := by
  unfold A
  blk_ext [b0, iblk, V, idx t, rw']
theorem blk1 (t : Fin cfg0.N) (r : Fin 512) (k : Fin 512) : b1 m c t (ix2 r k) = B m c (ix2 (cl t r) k) := by
  unfold B
  blk_ext [b1, iblk, V, idx t, cl]

/-- The product. -/
def OUT : S8192x2048.Idx → EReal := fun i => (∑ k : Fin 512, A m c (ix2 (i 0) k) * B m c (ix2 (i 1) k))

theorem place (t : Fin cfg0.N) (y : S1024x512.Idx) : (win0_2.blk t).view.emb y = ix2 (rw' t (y 0)) (cl t (y 1)) := by
  blk_ext [idx t, rw', cl]

theorem point (t : Fin cfg0.N) (y : S1024x512.Idx) :
    (∑ k : Fin 512, b0 m c t (ix2 (y 0) k) * b1 m c t (ix2 (y 1) k)) = OUT m c (ix2 (rw' t (y 0)) (cl t (y 1))) :=
  Finset.sum_congr rfl fun k _ => congrArg₂ (· * ·) (blk0 m c t (y 0) k) (blk1 m c t (y 1) k)

theorem out : (dats m 0 c).arrAt 2 cfg0.N = OUT m c := by
  refine (dats m 0 c).arrAt_eq_of_covers 2 _ (by decide +kernel) fun t hf y => ?_
  blk_simp
  rw [after0_2, outsAt0]
  frame_out
  rw [pay_apply]
  exact (point m c t y).trans (congrArg (OUT m c) (place t y)).symm

end Cert.Kernel18Ideal.Prod

namespace Cert.Reference18Ideal.Prod

open Cert.Reference18Ideal Cert.Reference18Ideal.Gen Cert.Reference18Ideal.Read Idealize.ShloMosaic Idealize.ShloMosaic.TcCoe Idealize.SL.Sem

theorem ref_apply (x0 : S8192x512.Idx → EReal) (x1 : S2048x512.Idx → EReal) (i : Fin 8192) (j : Fin 2048) :
    val_main_v3 (F := Ideal) x0 x1 (ix2 i j) = ∑ k : Fin 512, x0 (ix2 i k) * x1 (ix2 j k) := by
  pointwise [val_main_v3, val_main_v2, val_main_v1, val_main_v0]

end Cert.Reference18Ideal.Prod

namespace Cert.Final18

open Idealize.ShloMosaic Idealize.ShloMosaic.TcCoe Idealize.SL.Sem

theorem frame : Cert.quiescent_Kernel18 := fun m g _ => Cert.Kernel18.Gen.frame m g
theorem frame_ideal : Cert.quiescent_Kernel18Ideal := fun m g _ => Cert.Kernel18Ideal.Gen.frame m g
theorem frame_ref : Cert.quiescent_Reference18Ideal := fun m g _ =>
  (θ_run Cert.Reference18Ideal.defs _ _).mono (fun r h => ⟨fun c => (h c).2, sem_eq_zero_of_no_sems (by decide) r.2⟩)
    (Cert.Reference18Ideal.Value.run (F := Ideal) m g)

theorem algebraic : Cert.algebraic_Kernel18Ideal_Reference18Ideal := by
  intro m g m' g' hpre hagree
  refine ⟨Cert.Kernel18Ideal.Prod.OUT m, ?_, ?_⟩
  · refine (θ_run Cert.Kernel18Ideal.defs _ _).mono (fun r h c => ?_) (Cert.Kernel18Ideal.Value.run_blocks (F := Ideal) m g)
    obtain ⟨h2, k⟩ := h c
    exact ⟨h2.trans (Cert.Kernel18Ideal.Prod.out m c), k⟩
  · refine (θ_run Cert.Reference18Ideal.defs _ _).mono (fun r h c => ?_) (Cert.Reference18Ideal.Value.run (F := Ideal) m' g')
    obtain ⟨h2, k⟩ := h c
    obtain ⟨e0, e1⟩ := hagree c
    refine ⟨(h2.trans (Cert.Reference18Ideal.Read.val_main_v3_eq _ _)).trans ?_, k⟩
    rw [e0, e1]
    funext i
    obtain ⟨t, l, rfl⟩ : ∃ (t : Fin 8192) (l : Fin 2048), i = ix2 t l := ⟨i 0, i 1, eq_ix2 i⟩
    refine (Cert.Reference18Ideal.Prod.ref_apply _ _ t l).trans ?_
    rfl

end Cert.Final18
-- ==== Proof.Mm.DOh.lean ====
module

public import proofs.«01_k».proof.Defs
public import proofs.«01_k».proof.Proof.Gen.Kernel19
public import proofs.«01_k».proof.Proof.Gen.Kernel19.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Lib.Pipeline.ValueKit
public import Idealize.ShloMosaic.PureOps.Ideal.Laws

@[expose] public section

set_option maxRecDepth 16384

noncomputable section

namespace Cert.Kernel19Ideal.Prod

open Cert.Kernel19Ideal Cert.Kernel19Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem pay_apply (x0 : Vec Ideal S1024x2048 .bf16) (x1 : Vec Ideal S2048x768 .bf16) (y : S1024x768.Idx) :
    k0_pay1 x0 x1 y = ∑ k : Fin 2048, x0 (ix2 (y 0) k) * x1 (ix2 k (y 1)) := by
  pointwise [k0_pay1]

variable (m : (ℓ : Loc nD τ sig) → Buf (Elt Ideal) ℓ) (c : Dev nD)

/-- The arrays the product is of. -/
def A : S8192x2048.Idx → EReal := m ((c : Thread nD τ).loc main_arg0)
def B : S2048x768.Idx → EReal := m ((c : Thread nD τ).loc main_arg1)

/-- The rows and columns of the product that a point's tile has. -/
def rw' (t : Fin cfg0.N) (r : Fin 1024) : Fin 8192 := ⟨1024 * (t.val) + r.val, by have : t.val < 8 := t.isLt; omega⟩
def cl (t : Fin cfg0.N) (r : Fin 768) : Fin 768 := ⟨768 * 0 + r.val, by have : t.val < 8 := t.isLt; omega⟩

/-- A point's blocks. -/
abbrev b0 (t : Fin cfg0.N) : S1024x2048.Idx → EReal := iblk m c 0 t
abbrev b1 (t : Fin cfg0.N) : S2048x768.Idx → EReal := iblk m c 1 t

theorem blk0 (t : Fin cfg0.N) (r : Fin 1024) (k : Fin 2048) : b0 m c t (ix2 r k) = A m c (ix2 (rw' t r) k) := by
  unfold A
  blk_ext [b0, iblk, V, idx t, rw']
theorem blk1 (t : Fin cfg0.N) (r : Fin 768) (k : Fin 2048) : b1 m c t (ix2 k r) = B m c (ix2 k (cl t r)) := by
  unfold B
  blk_ext [b1, iblk, V, idx t, cl]

/-- The product. -/
def OUT : S8192x768.Idx → EReal := fun i => (∑ k : Fin 2048, A m c (ix2 (i 0) k) * B m c (ix2 k (i 1)))

theorem place (t : Fin cfg0.N) (y : S1024x768.Idx) : (win0_2.blk t).view.emb y = ix2 (rw' t (y 0)) (cl t (y 1)) := by
  blk_ext [idx t, rw', cl]

theorem point (t : Fin cfg0.N) (y : S1024x768.Idx) :
    (∑ k : Fin 2048, b0 m c t (ix2 (y 0) k) * b1 m c t (ix2 k (y 1))) = OUT m c (ix2 (rw' t (y 0)) (cl t (y 1))) :=
  Finset.sum_congr rfl fun k _ => congrArg₂ (· * ·) (blk0 m c t (y 0) k) (blk1 m c t (y 1) k)

theorem out : (dats m 0 c).arrAt 2 cfg0.N = OUT m c := by
  refine (dats m 0 c).arrAt_eq_of_covers 2 _ (by decide +kernel) fun t hf y => ?_
  blk_simp
  rw [after0_2, outsAt0]
  frame_out
  rw [pay_apply]
  exact (point m c t y).trans (congrArg (OUT m c) (place t y)).symm

end Cert.Kernel19Ideal.Prod

namespace Cert.Reference19Ideal.Prod

open Cert.Reference19Ideal Cert.Reference19Ideal.Gen Cert.Reference19Ideal.Read Idealize.ShloMosaic Idealize.ShloMosaic.TcCoe Idealize.SL.Sem

theorem ref_apply (x0 : S8192x2048.Idx → EReal) (x1 : S2048x768.Idx → EReal) (i : Fin 8192) (j : Fin 768) :
    val_main_v5 (F := Ideal) x0 x1 (ix2 i j) = ∑ k : Fin 2048, x0 (ix2 i k) * x1 (ix2 k j) := by
  pointwise [val_main_v5, val_main_v4, val_main_v3, val_main_v2, val_main_v1, val_main_v0, val_main_cst]

end Cert.Reference19Ideal.Prod

namespace Cert.Final19

open Idealize.ShloMosaic Idealize.ShloMosaic.TcCoe Idealize.SL.Sem

theorem frame : Cert.quiescent_Kernel19 := fun m g _ => Cert.Kernel19.Gen.frame m g
theorem frame_ideal : Cert.quiescent_Kernel19Ideal := fun m g _ => Cert.Kernel19Ideal.Gen.frame m g
theorem frame_ref : Cert.quiescent_Reference19Ideal := fun m g _ =>
  (θ_run Cert.Reference19Ideal.defs _ _).mono (fun r h => ⟨fun c => (h c).2, sem_eq_zero_of_no_sems (by decide) r.2⟩)
    (Cert.Reference19Ideal.Value.run (F := Ideal) m g)

theorem algebraic : Cert.algebraic_Kernel19Ideal_Reference19Ideal := by
  intro m g m' g' hpre hagree
  refine ⟨Cert.Kernel19Ideal.Prod.OUT m, ?_, ?_⟩
  · refine (θ_run Cert.Kernel19Ideal.defs _ _).mono (fun r h c => ?_) (Cert.Kernel19Ideal.Value.run_blocks (F := Ideal) m g)
    obtain ⟨h2, k⟩ := h c
    exact ⟨h2.trans (Cert.Kernel19Ideal.Prod.out m c), k⟩
  · refine (θ_run Cert.Reference19Ideal.defs _ _).mono (fun r h c => ?_) (Cert.Reference19Ideal.Value.run (F := Ideal) m' g')
    obtain ⟨h2, k⟩ := h c
    obtain ⟨e0, e1⟩ := hagree c
    refine ⟨(h2.trans (Cert.Reference19Ideal.Read.val_main_v5_eq _ _)).trans ?_, k⟩
    rw [e0, e1]
    funext i
    obtain ⟨t, l, rfl⟩ : ∃ (t : Fin 8192) (l : Fin 768), i = ix2 t l := ⟨i 0, i 1, eq_ix2 i⟩
    refine (Cert.Reference19Ideal.Prod.ref_apply _ _ t l).trans ?_
    rfl

end Cert.Final19
-- ==== Proof.Mm.DOm.lean ====
module

public import proofs.«01_k».proof.Defs
public import proofs.«01_k».proof.Proof.Gen.Kernel20
public import proofs.«01_k».proof.Proof.Gen.Kernel20.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Lib.Pipeline.ValueKit
public import Idealize.ShloMosaic.PureOps.Ideal.Laws

@[expose] public section

set_option maxRecDepth 16384

noncomputable section

namespace Cert.Kernel20Ideal.Prod

open Cert.Kernel20Ideal Cert.Kernel20Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem pay_apply (x0 : Vec Ideal S1024x2048 .bf16) (x1 : Vec Ideal S2048x512 .bf16) (y : S1024x512.Idx) :
    k0_pay1 x0 x1 y = ∑ k : Fin 2048, x0 (ix2 (y 0) k) * x1 (ix2 k (y 1)) := by
  pointwise [k0_pay1]

variable (m : (ℓ : Loc nD τ sig) → Buf (Elt Ideal) ℓ) (c : Dev nD)

/-- The arrays the product is of. -/
def A : S8192x2048.Idx → EReal := m ((c : Thread nD τ).loc main_arg0)
def B : S2048x512.Idx → EReal := m ((c : Thread nD τ).loc main_arg1)

/-- The rows and columns of the product that a point's tile has. -/
def rw' (t : Fin cfg0.N) (r : Fin 1024) : Fin 8192 := ⟨1024 * (t.val) + r.val, by have : t.val < 8 := t.isLt; omega⟩
def cl (t : Fin cfg0.N) (r : Fin 512) : Fin 512 := ⟨512 * 0 + r.val, by have : t.val < 8 := t.isLt; omega⟩

/-- A point's blocks. -/
abbrev b0 (t : Fin cfg0.N) : S1024x2048.Idx → EReal := iblk m c 0 t
abbrev b1 (t : Fin cfg0.N) : S2048x512.Idx → EReal := iblk m c 1 t

theorem blk0 (t : Fin cfg0.N) (r : Fin 1024) (k : Fin 2048) : b0 m c t (ix2 r k) = A m c (ix2 (rw' t r) k) := by
  unfold A
  blk_ext [b0, iblk, V, idx t, rw']
theorem blk1 (t : Fin cfg0.N) (r : Fin 512) (k : Fin 2048) : b1 m c t (ix2 k r) = B m c (ix2 k (cl t r)) := by
  unfold B
  blk_ext [b1, iblk, V, idx t, cl]

/-- The product. -/
def OUT : S8192x512.Idx → EReal := fun i => (∑ k : Fin 2048, A m c (ix2 (i 0) k) * B m c (ix2 k (i 1)))

theorem place (t : Fin cfg0.N) (y : S1024x512.Idx) : (win0_2.blk t).view.emb y = ix2 (rw' t (y 0)) (cl t (y 1)) := by
  blk_ext [idx t, rw', cl]

theorem point (t : Fin cfg0.N) (y : S1024x512.Idx) :
    (∑ k : Fin 2048, b0 m c t (ix2 (y 0) k) * b1 m c t (ix2 k (y 1))) = OUT m c (ix2 (rw' t (y 0)) (cl t (y 1))) :=
  Finset.sum_congr rfl fun k _ => congrArg₂ (· * ·) (blk0 m c t (y 0) k) (blk1 m c t (y 1) k)

theorem out : (dats m 0 c).arrAt 2 cfg0.N = OUT m c := by
  refine (dats m 0 c).arrAt_eq_of_covers 2 _ (by decide +kernel) fun t hf y => ?_
  blk_simp
  rw [after0_2, outsAt0]
  frame_out
  rw [pay_apply]
  exact (point m c t y).trans (congrArg (OUT m c) (place t y)).symm

end Cert.Kernel20Ideal.Prod

namespace Cert.Reference20Ideal.Prod

open Cert.Reference20Ideal Cert.Reference20Ideal.Gen Cert.Reference20Ideal.Read Idealize.ShloMosaic Idealize.ShloMosaic.TcCoe Idealize.SL.Sem

theorem ref_apply (x0 : S8192x2048.Idx → EReal) (x1 : S2048x512.Idx → EReal) (i : Fin 8192) (j : Fin 512) :
    val_main_v5 (F := Ideal) x0 x1 (ix2 i j) = ∑ k : Fin 2048, x0 (ix2 i k) * x1 (ix2 k j) := by
  pointwise [val_main_v5, val_main_v4, val_main_v3, val_main_v2, val_main_v1, val_main_v0, val_main_cst]

end Cert.Reference20Ideal.Prod

namespace Cert.Final20

open Idealize.ShloMosaic Idealize.ShloMosaic.TcCoe Idealize.SL.Sem

theorem frame : Cert.quiescent_Kernel20 := fun m g _ => Cert.Kernel20.Gen.frame m g
theorem frame_ideal : Cert.quiescent_Kernel20Ideal := fun m g _ => Cert.Kernel20Ideal.Gen.frame m g
theorem frame_ref : Cert.quiescent_Reference20Ideal := fun m g _ =>
  (θ_run Cert.Reference20Ideal.defs _ _).mono (fun r h => ⟨fun c => (h c).2, sem_eq_zero_of_no_sems (by decide) r.2⟩)
    (Cert.Reference20Ideal.Value.run (F := Ideal) m g)

theorem algebraic : Cert.algebraic_Kernel20Ideal_Reference20Ideal := by
  intro m g m' g' hpre hagree
  refine ⟨Cert.Kernel20Ideal.Prod.OUT m, ?_, ?_⟩
  · refine (θ_run Cert.Kernel20Ideal.defs _ _).mono (fun r h c => ?_) (Cert.Kernel20Ideal.Value.run_blocks (F := Ideal) m g)
    obtain ⟨h2, k⟩ := h c
    exact ⟨h2.trans (Cert.Kernel20Ideal.Prod.out m c), k⟩
  · refine (θ_run Cert.Reference20Ideal.defs _ _).mono (fun r h c => ?_) (Cert.Reference20Ideal.Value.run (F := Ideal) m' g')
    obtain ⟨h2, k⟩ := h c
    obtain ⟨e0, e1⟩ := hagree c
    refine ⟨(h2.trans (Cert.Reference20Ideal.Read.val_main_v5_eq _ _)).trans ?_, k⟩
    rw [e0, e1]
    funext i
    obtain ⟨t, l, rfl⟩ : ∃ (t : Fin 8192) (l : Fin 512), i = ix2 t l := ⟨i 0, i 1, eq_ix2 i⟩
    refine (Cert.Reference20Ideal.Prod.ref_apply _ _ t l).trans ?_
    rfl

end Cert.Final20
-- ==== Proof.Mm.DwHgrn.lean ====
module

public import proofs.«01_k».proof.Defs
public import proofs.«01_k».proof.Proof.Gen.Kernel21
public import proofs.«01_k».proof.Proof.Gen.Kernel21.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import Idealize.ShloMosaic.Lib.Pipeline.ValueKit
public import Idealize.ShloMosaic.PureOps.Ideal.Laws

@[expose] public section

set_option maxRecDepth 16384

noncomputable section

namespace Cert.Kernel21Ideal.Prod

open Cert.Kernel21Ideal Cert.Kernel21Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, win0_0.index t = ![t.val % 2, t.val / 2] ∧ win0_1.index t = ![t.val % 2, 0] ∧ win0_2.index t = ![t.val / 2, 0])

theorem pay2_apply (x0 : Vec Ideal S4096x512 .bf16) (x1 : Vec Ideal S4096x768 .bf16) (y : S512x768.Idx) :
    k0_pay2 x0 x1 y = ∑ k : Fin 4096, x0 (ix2 k (y 0)) * x1 (ix2 k (y 1)) := by
  pointwise [k0_pay1, k0_pay2]

theorem pay3_apply (x0 : Vec Ideal S4096x512 .bf16) (x1 : Vec Ideal S4096x768 .bf16) (x2 : Vec Ideal S512x768 .f32) (y : S512x768.Idx) :
    k0_pay3 x0 x1 x2 y = x2 y + ∑ k : Fin 4096, x0 (ix2 k (y 0)) * x1 (ix2 k (y 1)) := by
  pointwise [k0_pay1, k0_pay3]

theorem pay4_apply (x2 : Vec Ideal S512x768 .f32) (y : S512x768.Idx) : k0_pay4 x2 y = x2 y := by
  pointwise [k0_pay4]

variable (m : (ℓ : Loc nD τ sig) → Buf (Elt Ideal) ℓ) (c : Dev nD)

/-- The arrays the product is of. -/
def A : S8192x2048.Idx → EReal := m ((c : Thread nD τ).loc main_arg0)
def B : S8192x768.Idx → EReal := m ((c : Thread nD τ).loc main_arg1)

/-- The rows and columns of the product that a point's tile has, and the terms of the sum its blocks have. -/
def rw' (t : Fin cfg0.N) (r : Fin 512) : Fin 2048 := ⟨512 * (t.val / 2) + r.val, by have : t.val < 8 := t.isLt; omega⟩
def cl (t : Fin cfg0.N) (r : Fin 768) : Fin 768 := ⟨768 * 0 + r.val, by have : t.val < 8 := t.isLt; omega⟩
def kx (t : Fin cfg0.N) (k : Fin 4096) : Fin 8192 := ⟨4096 * (t.val % 2) + k.val, by have : t.val < 8 := t.isLt; omega⟩

/-- A point's blocks. -/
abbrev b0 (t : Fin cfg0.N) : S4096x512.Idx → EReal := iblk m c 0 t
abbrev b1 (t : Fin cfg0.N) : S4096x768.Idx → EReal := iblk m c 1 t

theorem blk0 (t : Fin cfg0.N) (r : Fin 512) (k : Fin 4096) : b0 m c t (ix2 k r) = A m c (ix2 (kx t k) (rw' t r)) := by
  unfold A
  blk_ext [b0, iblk, V, idx t, rw', kx]
theorem blk1 (t : Fin cfg0.N) (r : Fin 768) (k : Fin 4096) : b1 m c t (ix2 k r) = B m c (ix2 (kx t k) (cl t r)) := by
  unfold B
  blk_ext [b1, iblk, V, idx t, cl, kx]

/-- The product. -/
def OUT : S2048x768.Idx → EReal := fun i => (∑ k : Fin 8192, A m c (ix2 k (i 0)) * B m c (ix2 k (i 1)))

theorem place (t : Fin cfg0.N) (y : S512x768.Idx) : (win0_2.blk t).view.emb y = ix2 (rw' t (y 0)) (cl t (y 1)) := by
  blk_ext [idx t, rw', cl]

/-- What a point adds to its tile's sum. -/
def term (t : Fin cfg0.N) (y : S512x768.Idx) : EReal :=
  ∑ k : Fin 4096, A m c (ix2 (kx t k) (rw' t (y 0))) * B m c (ix2 (kx t k) (cl t (y 1)))

theorem term_eq (t : Fin cfg0.N) (y : S512x768.Idx) :
    (∑ k : Fin 4096, b0 m c t (ix2 k (y 0)) * b1 m c t (ix2 k (y 1))) = term m c t y :=
  Finset.sum_congr rfl fun k _ => congrArg₂ (· * ·) (blk0 m c t (y 0) k) (blk1 m c t (y 1) k)

theorem sum_halves (f : Fin 8192 → EReal) : ∑ k : Fin 8192, f k = (∑ k : Fin 4096, f ⟨4096 * 0 + k.val, by omega⟩) + ∑ k : Fin 4096, f ⟨4096 * 1 + k.val, by omega⟩ := by
  rw [← Fin.sum_mul_add_congr (S := 2) (n := 4096) (F := fun s r => f ⟨4096 * s.val + r.val, by omega⟩) (f := f)
    fun s r hl => congrArg f (Fin.ext (by simp only; omega))]
  rw [Fin.sum_univ_two]
  rfl

/-- The first of a tile's two points leaves its term in the scratch. -/
theorem first (t : Fin cfg0.N) (h0 : t.val % 2 = 0) (y : S512x768.Idx) : (outsAt0 m c t.val t.isLt).2 y = term m c t y := by
  rw [outsAt0_A m c t h0 (by omega) (by omega)]
  frame_out
  rw [pay2_apply]
  exact term_eq m c t y

/-- The second adds its own: the tile of the product. -/
theorem point (t : Fin cfg0.N) (h1 : t.val % 2 = 1) (y : S512x768.Idx) :
    (outsAt0 m c (t.val - 1) (Nat.lt_of_le_of_lt (Nat.sub_le _ _) t.isLt)).2 y + term m c t y = OUT m c (ix2 (rw' t (y 0)) (cl t (y 1))) := by
  have hp : t.val - 1 < cfg0.N := Nat.lt_of_le_of_lt (Nat.sub_le _ _) t.isLt
  refine Eq.trans ?_ (sum_halves fun k => A m c (ix2 k (rw' t (y 0))) * B m c (ix2 k (cl t (y 1)))).symm
  have hb : t.val < 8 := t.isLt
  refine congrArg₂ (· + ·) ((first m c ⟨t.val - 1, hp⟩ (by show (t.val - 1) % 2 = 0; omega) y).trans ?_) ?_
  · have e0 : rw' ⟨t.val - 1, hp⟩ (y 0) = rw' t (y 0) := Fin.ext (by show 512 * _ + _ = 512 * _ + _; dsimp only; omega)
    have e1 : cl ⟨t.val - 1, hp⟩ (y 1) = cl t (y 1) := rfl
    have e2 (k : Fin 4096) : kx ⟨t.val - 1, hp⟩ k = ⟨4096 * 0 + k.val, by omega⟩ := Fin.ext (by show 4096 * ((t.val - 1) % 2) + k.val = 4096 * 0 + k.val; omega)
    unfold term
    rw [e0, e1]
    exact Finset.sum_congr rfl fun k _ => by rw [e2 k]
  · have e2 (k : Fin 4096) : kx t k = ⟨4096 * 1 + k.val, by omega⟩ := Fin.ext (by show 4096 * (t.val % 2) + k.val = 4096 * 1 + k.val; omega)
    unfold term
    exact Finset.sum_congr rfl fun k _ => by rw [e2 k]

theorem out : (dats m 0 c).arrAt 2 cfg0.N = OUT m c := by
  refine (dats m 0 c).arrAt_eq_of_covers 2 _ (by decide +kernel) fun t hf y => ?_
  have h1 : t.val % 2 = 1 := (flush0_2 t).mp hf
  blk_simp
  rw [after0_2, outsAt0_B m c t (by omega) h1 h1]
  frame_out
  rw [pay4_apply, pay3_apply]
  refine Eq.trans ?_ ((point m c t h1 y).trans (congrArg (OUT m c) (place t y)).symm)
  refine congrArg₂ (· + ·) ?_ (term_eq m c t y)
  exact congrFun (Memref.IsWhole.read_unread (Memref.isWhole_whole cc0_scratch0) _) y

end Cert.Kernel21Ideal.Prod

namespace Cert.Reference21Ideal.Prod

open Cert.Reference21Ideal Cert.Reference21Ideal.Gen Cert.Reference21Ideal.Read Idealize.ShloMosaic Idealize.ShloMosaic.TcCoe Idealize.SL.Sem

theorem ref_apply (x0 : S8192x2048.Idx → EReal) (x1 : S8192x768.Idx → EReal) (i : Fin 2048) (j : Fin 768) :
    val_main_v8 (F := Ideal) x0 x1 (ix2 i j) = ∑ k : Fin 8192, x0 (ix2 k i) * x1 (ix2 k j) := by
  pointwise [val_main_v8, val_main_v7, val_main_v6, val_main_v5, val_main_v4, val_main_v3, val_main_v2, val_main_v1, val_main_v0, val_main_cst]

end Cert.Reference21Ideal.Prod

namespace Cert.Final21

open Idealize.ShloMosaic Idealize.ShloMosaic.TcCoe Idealize.SL.Sem

theorem frame : Cert.quiescent_Kernel21 := fun m g _ => Cert.Kernel21.Gen.frame m g
theorem frame_ideal : Cert.quiescent_Kernel21Ideal := fun m g _ => Cert.Kernel21Ideal.Gen.frame m g
theorem frame_ref : Cert.quiescent_Reference21Ideal := fun m g _ =>
  (θ_run Cert.Reference21Ideal.defs _ _).mono (fun r h => ⟨fun c => (h c).2, sem_eq_zero_of_no_sems (by decide) r.2⟩)
    (Cert.Reference21Ideal.Value.run (F := Ideal) m g)

theorem algebraic : Cert.algebraic_Kernel21Ideal_Reference21Ideal := by
  intro m g m' g' hpre hagree
  refine ⟨Cert.Kernel21Ideal.Prod.OUT m, ?_, ?_⟩
  · refine (θ_run Cert.Kernel21Ideal.defs _ _).mono (fun r h c => ?_) (Cert.Kernel21Ideal.Value.run_blocks (F := Ideal) m g)
    obtain ⟨h2, k⟩ := h c
    exact ⟨h2.trans (Cert.Kernel21Ideal.Prod.out m c), k⟩
  · refine (θ_run Cert.Reference21Ideal.defs _ _).mono (fun r h c => ?_) (Cert.Reference21Ideal.Value.run (F := Ideal) m' g')
    obtain ⟨h2, k⟩ := h c
    obtain ⟨e0, e1⟩ := hagree c
    refine ⟨(h2.trans (Cert.Reference21Ideal.Read.val_main_v8_eq _ _)).trans ?_, k⟩
    rw [e0, e1]
    funext i
    obtain ⟨t, l, rfl⟩ : ∃ (t : Fin 2048) (l : Fin 768), i = ix2 t l := ⟨i 0, i 1, eq_ix2 i⟩
    refine (Cert.Reference21Ideal.Prod.ref_apply _ _ t l).trans ?_
    rfl

end Cert.Final21
-- ==== Proof.Mm.DwFox.lean ====
module

public import proofs.«01_k».proof.Defs
public import proofs.«01_k».proof.Proof.Gen.Kernel22
public import proofs.«01_k».proof.Proof.Gen.Kernel22.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import Idealize.ShloMosaic.Lib.Pipeline.ValueKit
public import Idealize.ShloMosaic.PureOps.Ideal.Laws

@[expose] public section

set_option maxRecDepth 16384

noncomputable section

namespace Cert.Kernel22Ideal.Prod

open Cert.Kernel22Ideal Cert.Kernel22Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, win0_0.index t = ![t.val % 2, t.val / 2] ∧ win0_1.index t = ![t.val % 2, 0] ∧ win0_2.index t = ![t.val / 2, 0])

theorem pay2_apply (x0 : Vec Ideal S4096x512 .bf16) (x1 : Vec Ideal S4096x768 .f32) (y : S512x768.Idx) :
    k0_pay2 x0 x1 y = ∑ k : Fin 4096, x0 (ix2 k (y 0)) * x1 (ix2 k (y 1)) := by
  pointwise [k0_pay1, k0_pay2]

theorem pay3_apply (x0 : Vec Ideal S4096x512 .bf16) (x1 : Vec Ideal S4096x768 .f32) (x2 : Vec Ideal S512x768 .f32) (y : S512x768.Idx) :
    k0_pay3 x0 x1 x2 y = x2 y + ∑ k : Fin 4096, x0 (ix2 k (y 0)) * x1 (ix2 k (y 1)) := by
  pointwise [k0_pay1, k0_pay3]

theorem pay4_apply (x2 : Vec Ideal S512x768 .f32) (y : S512x768.Idx) : k0_pay4 x2 y = x2 y := by
  pointwise [k0_pay4]

variable (m : (ℓ : Loc nD τ sig) → Buf (Elt Ideal) ℓ) (c : Dev nD)

/-- The arrays the product is of. -/
def A : S8192x2048.Idx → EReal := m ((c : Thread nD τ).loc main_arg0)
def B : S8192x768.Idx → EReal := m ((c : Thread nD τ).loc main_arg1)

/-- The rows and columns of the product that a point's tile has, and the terms of the sum its blocks have. -/
def rw' (t : Fin cfg0.N) (r : Fin 512) : Fin 2048 := ⟨512 * (t.val / 2) + r.val, by have : t.val < 8 := t.isLt; omega⟩
def cl (t : Fin cfg0.N) (r : Fin 768) : Fin 768 := ⟨768 * 0 + r.val, by have : t.val < 8 := t.isLt; omega⟩
def kx (t : Fin cfg0.N) (k : Fin 4096) : Fin 8192 := ⟨4096 * (t.val % 2) + k.val, by have : t.val < 8 := t.isLt; omega⟩

/-- A point's blocks. -/
abbrev b0 (t : Fin cfg0.N) : S4096x512.Idx → EReal := iblk m c 0 t
abbrev b1 (t : Fin cfg0.N) : S4096x768.Idx → EReal := iblk m c 1 t

theorem blk0 (t : Fin cfg0.N) (r : Fin 512) (k : Fin 4096) : b0 m c t (ix2 k r) = A m c (ix2 (kx t k) (rw' t r)) := by
  unfold A
  blk_ext [b0, iblk, V, idx t, rw', kx]
theorem blk1 (t : Fin cfg0.N) (r : Fin 768) (k : Fin 4096) : b1 m c t (ix2 k r) = B m c (ix2 (kx t k) (cl t r)) := by
  unfold B
  blk_ext [b1, iblk, V, idx t, cl, kx]

/-- The product. -/
def OUT : S2048x768.Idx → EReal := fun i => (∑ k : Fin 8192, A m c (ix2 k (i 0)) * B m c (ix2 k (i 1)))

theorem place (t : Fin cfg0.N) (y : S512x768.Idx) : (win0_2.blk t).view.emb y = ix2 (rw' t (y 0)) (cl t (y 1)) := by
  blk_ext [idx t, rw', cl]

/-- What a point adds to its tile's sum. -/
def term (t : Fin cfg0.N) (y : S512x768.Idx) : EReal :=
  ∑ k : Fin 4096, A m c (ix2 (kx t k) (rw' t (y 0))) * B m c (ix2 (kx t k) (cl t (y 1)))

theorem term_eq (t : Fin cfg0.N) (y : S512x768.Idx) :
    (∑ k : Fin 4096, b0 m c t (ix2 k (y 0)) * b1 m c t (ix2 k (y 1))) = term m c t y :=
  Finset.sum_congr rfl fun k _ => congrArg₂ (· * ·) (blk0 m c t (y 0) k) (blk1 m c t (y 1) k)

theorem sum_halves (f : Fin 8192 → EReal) : ∑ k : Fin 8192, f k = (∑ k : Fin 4096, f ⟨4096 * 0 + k.val, by omega⟩) + ∑ k : Fin 4096, f ⟨4096 * 1 + k.val, by omega⟩ := by
  rw [← Fin.sum_mul_add_congr (S := 2) (n := 4096) (F := fun s r => f ⟨4096 * s.val + r.val, by omega⟩) (f := f)
    fun s r hl => congrArg f (Fin.ext (by simp only; omega))]
  rw [Fin.sum_univ_two]
  rfl

/-- The first of a tile's two points leaves its term in the scratch. -/
theorem first (t : Fin cfg0.N) (h0 : t.val % 2 = 0) (y : S512x768.Idx) : (outsAt0 m c t.val t.isLt).2 y = term m c t y := by
  rw [outsAt0_A m c t h0 (by omega) (by omega)]
  frame_out
  rw [pay2_apply]
  exact term_eq m c t y

/-- The second adds its own: the tile of the product. -/
theorem point (t : Fin cfg0.N) (h1 : t.val % 2 = 1) (y : S512x768.Idx) :
    (outsAt0 m c (t.val - 1) (Nat.lt_of_le_of_lt (Nat.sub_le _ _) t.isLt)).2 y + term m c t y = OUT m c (ix2 (rw' t (y 0)) (cl t (y 1))) := by
  have hp : t.val - 1 < cfg0.N := Nat.lt_of_le_of_lt (Nat.sub_le _ _) t.isLt
  refine Eq.trans ?_ (sum_halves fun k => A m c (ix2 k (rw' t (y 0))) * B m c (ix2 k (cl t (y 1)))).symm
  have hb : t.val < 8 := t.isLt
  refine congrArg₂ (· + ·) ((first m c ⟨t.val - 1, hp⟩ (by show (t.val - 1) % 2 = 0; omega) y).trans ?_) ?_
  · have e0 : rw' ⟨t.val - 1, hp⟩ (y 0) = rw' t (y 0) := Fin.ext (by show 512 * _ + _ = 512 * _ + _; dsimp only; omega)
    have e1 : cl ⟨t.val - 1, hp⟩ (y 1) = cl t (y 1) := rfl
    have e2 (k : Fin 4096) : kx ⟨t.val - 1, hp⟩ k = ⟨4096 * 0 + k.val, by omega⟩ := Fin.ext (by show 4096 * ((t.val - 1) % 2) + k.val = 4096 * 0 + k.val; omega)
    unfold term
    rw [e0, e1]
    exact Finset.sum_congr rfl fun k _ => by rw [e2 k]
  · have e2 (k : Fin 4096) : kx t k = ⟨4096 * 1 + k.val, by omega⟩ := Fin.ext (by show 4096 * (t.val % 2) + k.val = 4096 * 1 + k.val; omega)
    unfold term
    exact Finset.sum_congr rfl fun k _ => by rw [e2 k]

theorem out : (dats m 0 c).arrAt 2 cfg0.N = OUT m c := by
  refine (dats m 0 c).arrAt_eq_of_covers 2 _ (by decide +kernel) fun t hf y => ?_
  have h1 : t.val % 2 = 1 := (flush0_2 t).mp hf
  blk_simp
  rw [after0_2, outsAt0_B m c t (by omega) h1 h1]
  frame_out
  rw [pay4_apply, pay3_apply]
  refine Eq.trans ?_ ((point m c t h1 y).trans (congrArg (OUT m c) (place t y)).symm)
  refine congrArg₂ (· + ·) ?_ (term_eq m c t y)
  exact congrFun (Memref.IsWhole.read_unread (Memref.isWhole_whole cc0_scratch0) _) y

end Cert.Kernel22Ideal.Prod

namespace Cert.Reference22Ideal.Prod

open Cert.Reference22Ideal Cert.Reference22Ideal.Gen Cert.Reference22Ideal.Read Idealize.ShloMosaic Idealize.ShloMosaic.TcCoe Idealize.SL.Sem

theorem ref_apply (x0 : S8192x2048.Idx → EReal) (x1 : S8192x768.Idx → EReal) (i : Fin 2048) (j : Fin 768) :
    val_main_v7 (F := Ideal) x0 x1 (ix2 i j) = ∑ k : Fin 8192, x0 (ix2 k i) * x1 (ix2 k j) := by
  pointwise [val_main_v7, val_main_v6, val_main_v5, val_main_v4, val_main_v3, val_main_v2, val_main_v1, val_main_v0, val_main_cst]

end Cert.Reference22Ideal.Prod

namespace Cert.Final22

open Idealize.ShloMosaic Idealize.ShloMosaic.TcCoe Idealize.SL.Sem

theorem frame : Cert.quiescent_Kernel22 := fun m g _ => Cert.Kernel22.Gen.frame m g
theorem frame_ideal : Cert.quiescent_Kernel22Ideal := fun m g _ => Cert.Kernel22Ideal.Gen.frame m g
theorem frame_ref : Cert.quiescent_Reference22Ideal := fun m g _ =>
  (θ_run Cert.Reference22Ideal.defs _ _).mono (fun r h => ⟨fun c => (h c).2, sem_eq_zero_of_no_sems (by decide) r.2⟩)
    (Cert.Reference22Ideal.Value.run (F := Ideal) m g)

theorem algebraic : Cert.algebraic_Kernel22Ideal_Reference22Ideal := by
  intro m g m' g' hpre hagree
  refine ⟨Cert.Kernel22Ideal.Prod.OUT m, ?_, ?_⟩
  · refine (θ_run Cert.Kernel22Ideal.defs _ _).mono (fun r h c => ?_) (Cert.Kernel22Ideal.Value.run_blocks (F := Ideal) m g)
    obtain ⟨h2, k⟩ := h c
    exact ⟨h2.trans (Cert.Kernel22Ideal.Prod.out m c), k⟩
  · refine (θ_run Cert.Reference22Ideal.defs _ _).mono (fun r h c => ?_) (Cert.Reference22Ideal.Value.run (F := Ideal) m' g')
    obtain ⟨h2, k⟩ := h c
    obtain ⟨e0, e1⟩ := hagree c
    refine ⟨(h2.trans (Cert.Reference22Ideal.Read.val_main_v7_eq _ _)).trans ?_, k⟩
    rw [e0, e1]
    funext i
    obtain ⟨t, l, rfl⟩ : ∃ (t : Fin 2048) (l : Fin 768), i = ix2 t l := ⟨i 0, i 1, eq_ix2 i⟩
    refine (Cert.Reference22Ideal.Prod.ref_apply _ _ t l).trans ?_
    rfl

end Cert.Final22
-- ==== Proof.Mm.DwMem.lean ====
module

public import proofs.«01_k».proof.Defs
public import proofs.«01_k».proof.Proof.Gen.Kernel23
public import proofs.«01_k».proof.Proof.Gen.Kernel23.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Lib.Pipeline.ValueKit
public import Idealize.ShloMosaic.PureOps.Ideal.Laws

@[expose] public section

set_option maxRecDepth 16384

noncomputable section

namespace Cert.Kernel23Ideal.Prod

open Cert.Kernel23Ideal Cert.Kernel23Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, win0_0.index t = ![t.val % 2, t.val / 2] ∧ win0_1.index t = ![t.val % 2, 0] ∧ win0_2.index t = ![t.val / 2, 0])

theorem pay2_apply (x0 : Vec Ideal S4096x512 .bf16) (x1 : Vec Ideal S4096x512 .f32) (y : S512x512.Idx) :
    k0_pay2 x0 x1 y = ∑ k : Fin 4096, x0 (ix2 k (y 0)) * x1 (ix2 k (y 1)) := by
  pointwise [k0_pay1, k0_pay2]

theorem pay3_apply (x0 : Vec Ideal S4096x512 .bf16) (x1 : Vec Ideal S4096x512 .f32) (x2 : Vec Ideal S512x512 .f32) (y : S512x512.Idx) :
    k0_pay3 x0 x1 x2 y = x2 y + ∑ k : Fin 4096, x0 (ix2 k (y 0)) * x1 (ix2 k (y 1)) := by
  pointwise [k0_pay1, k0_pay3]

theorem pay4_apply (x2 : Vec Ideal S512x512 .f32) (y : S512x512.Idx) : k0_pay4 x2 y = x2 y := by
  pointwise [k0_pay4]

variable (m : (ℓ : Loc nD τ sig) → Buf (Elt Ideal) ℓ) (c : Dev nD)

/-- The arrays the product is of. -/
def A : S8192x2048.Idx → EReal := m ((c : Thread nD τ).loc main_arg0)
def B : S8192x512.Idx → EReal := m ((c : Thread nD τ).loc main_arg1)

/-- The rows and columns of the product that a point's tile has, and the terms of the sum its blocks have. -/
def rw' (t : Fin cfg0.N) (r : Fin 512) : Fin 2048 := ⟨512 * (t.val / 2) + r.val, by have : t.val < 8 := t.isLt; omega⟩
def cl (t : Fin cfg0.N) (r : Fin 512) : Fin 512 := ⟨512 * 0 + r.val, by have : t.val < 8 := t.isLt; omega⟩
def kx (t : Fin cfg0.N) (k : Fin 4096) : Fin 8192 := ⟨4096 * (t.val % 2) + k.val, by have : t.val < 8 := t.isLt; omega⟩

/-- A point's blocks. -/
abbrev b0 (t : Fin cfg0.N) : S4096x512.Idx → EReal := iblk m c 0 t
abbrev b1 (t : Fin cfg0.N) : S4096x512.Idx → EReal := iblk m c 1 t

theorem blk0 (t : Fin cfg0.N) (r : Fin 512) (k : Fin 4096) : b0 m c t (ix2 k r) = A m c (ix2 (kx t k) (rw' t r)) := by
  unfold A
  blk_ext [b0, iblk, V, idx t, rw', kx]
theorem blk1 (t : Fin cfg0.N) (r : Fin 512) (k : Fin 4096) : b1 m c t (ix2 k r) = B m c (ix2 (kx t k) (cl t r)) := by
  unfold B
  blk_ext [b1, iblk, V, idx t, cl, kx]

/-- The product. -/
def OUT : S2048x512.Idx → EReal := fun i => (∑ k : Fin 8192, A m c (ix2 k (i 0)) * B m c (ix2 k (i 1)))

theorem place (t : Fin cfg0.N) (y : S512x512.Idx) : (win0_2.blk t).view.emb y = ix2 (rw' t (y 0)) (cl t (y 1)) := by
  blk_ext [idx t, rw', cl]

/-- What a point adds to its tile's sum. -/
def term (t : Fin cfg0.N) (y : S512x512.Idx) : EReal :=
  ∑ k : Fin 4096, A m c (ix2 (kx t k) (rw' t (y 0))) * B m c (ix2 (kx t k) (cl t (y 1)))

theorem term_eq (t : Fin cfg0.N) (y : S512x512.Idx) :
    (∑ k : Fin 4096, b0 m c t (ix2 k (y 0)) * b1 m c t (ix2 k (y 1))) = term m c t y :=
  Finset.sum_congr rfl fun k _ => congrArg₂ (· * ·) (blk0 m c t (y 0) k) (blk1 m c t (y 1) k)

theorem sum_halves (f : Fin 8192 → EReal) : ∑ k : Fin 8192, f k = (∑ k : Fin 4096, f ⟨4096 * 0 + k.val, by omega⟩) + ∑ k : Fin 4096, f ⟨4096 * 1 + k.val, by omega⟩ := by
  rw [← Fin.sum_mul_add_congr (S := 2) (n := 4096) (F := fun s r => f ⟨4096 * s.val + r.val, by omega⟩) (f := f)
    fun s r hl => congrArg f (Fin.ext (by simp only; omega))]
  rw [Fin.sum_univ_two]
  rfl

/-- The first of a tile's two points leaves its term in the scratch. -/
theorem first (t : Fin cfg0.N) (h0 : t.val % 2 = 0) (y : S512x512.Idx) : (outsAt0 m c t.val t.isLt).2 y = term m c t y := by
  rw [outsAt0_A m c t h0 (by omega) (by omega)]
  frame_out
  rw [pay2_apply]
  exact term_eq m c t y

/-- The second adds its own: the tile of the product. -/
theorem point (t : Fin cfg0.N) (h1 : t.val % 2 = 1) (y : S512x512.Idx) :
    (outsAt0 m c (t.val - 1) (Nat.lt_of_le_of_lt (Nat.sub_le _ _) t.isLt)).2 y + term m c t y = OUT m c (ix2 (rw' t (y 0)) (cl t (y 1))) := by
  have hp : t.val - 1 < cfg0.N := Nat.lt_of_le_of_lt (Nat.sub_le _ _) t.isLt
  refine Eq.trans ?_ (sum_halves fun k => A m c (ix2 k (rw' t (y 0))) * B m c (ix2 k (cl t (y 1)))).symm
  have hb : t.val < 8 := t.isLt
  refine congrArg₂ (· + ·) ((first m c ⟨t.val - 1, hp⟩ (by show (t.val - 1) % 2 = 0; omega) y).trans ?_) ?_
  · have e0 : rw' ⟨t.val - 1, hp⟩ (y 0) = rw' t (y 0) := Fin.ext (by show 512 * _ + _ = 512 * _ + _; dsimp only; omega)
    have e1 : cl ⟨t.val - 1, hp⟩ (y 1) = cl t (y 1) := rfl
    have e2 (k : Fin 4096) : kx ⟨t.val - 1, hp⟩ k = ⟨4096 * 0 + k.val, by omega⟩ := Fin.ext (by show 4096 * ((t.val - 1) % 2) + k.val = 4096 * 0 + k.val; omega)
    unfold term
    rw [e0, e1]
    exact Finset.sum_congr rfl fun k _ => by rw [e2 k]
  · have e2 (k : Fin 4096) : kx t k = ⟨4096 * 1 + k.val, by omega⟩ := Fin.ext (by show 4096 * (t.val % 2) + k.val = 4096 * 1 + k.val; omega)
    unfold term
    exact Finset.sum_congr rfl fun k _ => by rw [e2 k]

theorem out : (dats m 0 c).arrAt 2 cfg0.N = OUT m c := by
  refine (dats m 0 c).arrAt_eq_of_covers 2 _ (by decide +kernel) fun t hf y => ?_
  have h1 : t.val % 2 = 1 := (flush0_2 t).mp hf
  blk_simp
  rw [after0_2, outsAt0_B m c t (by omega) h1 h1]
  frame_out
  rw [pay4_apply, pay3_apply]
  refine Eq.trans ?_ ((point m c t h1 y).trans (congrArg (OUT m c) (place t y)).symm)
  refine congrArg₂ (· + ·) ?_ (term_eq m c t y)
  exact congrFun (Memref.IsWhole.read_unread (Memref.isWhole_whole cc0_scratch0) _) y

end Cert.Kernel23Ideal.Prod

namespace Cert.Reference23Ideal.Prod

open Cert.Reference23Ideal Cert.Reference23Ideal.Gen Cert.Reference23Ideal.Read Idealize.ShloMosaic Idealize.ShloMosaic.TcCoe Idealize.SL.Sem

theorem ref_apply (x0 : S8192x2048.Idx → EReal) (x1 : S8192x512.Idx → EReal) (i : Fin 2048) (j : Fin 512) :
    val_main_v7 (F := Ideal) x0 x1 (ix2 i j) = ∑ k : Fin 8192, x0 (ix2 k i) * x1 (ix2 k j) := by
  pointwise [val_main_v7, val_main_v6, val_main_v5, val_main_v4, val_main_v3, val_main_v2, val_main_v1, val_main_v0, val_main_cst]

end Cert.Reference23Ideal.Prod

namespace Cert.Final23

open Idealize.ShloMosaic Idealize.ShloMosaic.TcCoe Idealize.SL.Sem

theorem frame : Cert.quiescent_Kernel23 := fun m g _ => Cert.Kernel23.Gen.frame m g
theorem frame_ideal : Cert.quiescent_Kernel23Ideal := fun m g _ => Cert.Kernel23Ideal.Gen.frame m g
theorem frame_ref : Cert.quiescent_Reference23Ideal := fun m g _ =>
  (θ_run Cert.Reference23Ideal.defs _ _).mono (fun r h => ⟨fun c => (h c).2, sem_eq_zero_of_no_sems (by decide) r.2⟩)
    (Cert.Reference23Ideal.Value.run (F := Ideal) m g)

theorem algebraic : Cert.algebraic_Kernel23Ideal_Reference23Ideal := by
  intro m g m' g' hpre hagree
  refine ⟨Cert.Kernel23Ideal.Prod.OUT m, ?_, ?_⟩
  · refine (θ_run Cert.Kernel23Ideal.defs _ _).mono (fun r h c => ?_) (Cert.Kernel23Ideal.Value.run_blocks (F := Ideal) m g)
    obtain ⟨h2, k⟩ := h c
    exact ⟨h2.trans (Cert.Kernel23Ideal.Prod.out m c), k⟩
  · refine (θ_run Cert.Reference23Ideal.defs _ _).mono (fun r h c => ?_) (Cert.Reference23Ideal.Value.run (F := Ideal) m' g')
    obtain ⟨h2, k⟩ := h c
    obtain ⟨e0, e1⟩ := hagree c
    refine ⟨(h2.trans (Cert.Reference23Ideal.Read.val_main_v7_eq _ _)).trans ?_, k⟩
    rw [e0, e1]
    funext i
    obtain ⟨t, l, rfl⟩ : ∃ (t : Fin 2048) (l : Fin 512), i = ix2 t l := ⟨i 0, i 1, eq_ix2 i⟩
    refine (Cert.Reference23Ideal.Prod.ref_apply _ _ t l).trans ?_
    rfl

end Cert.Final23
-- ==== Proof.Mm.MemKv.lean ====
module

public import proofs.«01_k».proof.Defs
public import proofs.«01_k».proof.Proof.Gen.Kernel24
public import proofs.«01_k».proof.Proof.Gen.Kernel24.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import Idealize.ShloMosaic.Lib.Pipeline.ValueKit
public import Idealize.ShloMosaic.PureOps.Ideal.Laws

@[expose] public section

set_option maxRecDepth 16384

noncomputable section

namespace Cert.Kernel24Ideal.Prod

open Cert.Kernel24Ideal Cert.Kernel24Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![0, 0] ∧ win0_1.index t = ![0, t.val % 2] ∧ win0_2.index t = ![0, t.val % 2] :=
  (by decide +kernel : ∀ t : Fin grid0.N, win0_0.index t = ![0, 0] ∧ win0_1.index t = ![0, t.val % 2] ∧ win0_2.index t = ![0, t.val % 2])

theorem pay_apply (x0 : Vec Ideal S256x2048 .bf16) (x1 : Vec Ideal S2048x512 .bf16) (y : S256x512.Idx) :
    k0_pay1 x0 x1 y = ∑ k : Fin 2048, x0 (ix2 (y 0) k) * x1 (ix2 k (y 1)) := by
  pointwise [k0_pay1]

variable (m : (ℓ : Loc nD τ sig) → Buf (Elt Ideal) ℓ) (c : Dev nD)

/-- The arrays the product is of. -/
def A : S256x2048.Idx → EReal := m ((c : Thread nD τ).loc main_arg0)
def B : S2048x1024.Idx → EReal := m ((c : Thread nD τ).loc main_arg1)

/-- The rows and columns of the product that a point's tile has. -/
def rw' (t : Fin cfg0.N) (r : Fin 256) : Fin 256 := ⟨256 * 0 + r.val, by have : t.val < 2 := t.isLt; omega⟩
def cl (t : Fin cfg0.N) (r : Fin 512) : Fin 1024 := ⟨512 * (t.val % 2) + r.val, by have : t.val < 2 := t.isLt; omega⟩

/-- A point's blocks. -/
abbrev b0 (t : Fin cfg0.N) : S256x2048.Idx → EReal := iblk m c 0 t
abbrev b1 (t : Fin cfg0.N) : S2048x512.Idx → EReal := iblk m c 1 t

theorem blk0 (t : Fin cfg0.N) (r : Fin 256) (k : Fin 2048) : b0 m c t (ix2 r k) = A m c (ix2 (rw' t r) k) := by
  unfold A
  blk_ext [b0, iblk, V, idx t, rw']
theorem blk1 (t : Fin cfg0.N) (r : Fin 512) (k : Fin 2048) : b1 m c t (ix2 k r) = B m c (ix2 k (cl t r)) := by
  unfold B
  blk_ext [b1, iblk, V, idx t, cl]

/-- The product. -/
def OUT : S256x1024.Idx → EReal := fun i => (∑ k : Fin 2048, A m c (ix2 (i 0) k) * B m c (ix2 k (i 1)))

theorem place (t : Fin cfg0.N) (y : S256x512.Idx) : (win0_2.blk t).view.emb y = ix2 (rw' t (y 0)) (cl t (y 1)) := by
  blk_ext [idx t, rw', cl]

theorem point (t : Fin cfg0.N) (y : S256x512.Idx) :
    (∑ k : Fin 2048, b0 m c t (ix2 (y 0) k) * b1 m c t (ix2 k (y 1))) = OUT m c (ix2 (rw' t (y 0)) (cl t (y 1))) :=
  Finset.sum_congr rfl fun k _ => congrArg₂ (· * ·) (blk0 m c t (y 0) k) (blk1 m c t (y 1) k)

theorem out : (dats m 0 c).arrAt 2 cfg0.N = OUT m c := by
  refine (dats m 0 c).arrAt_eq_of_covers 2 _ (by decide +kernel) fun t hf y => ?_
  blk_simp
  rw [after0_2, outsAt0]
  frame_out
  rw [pay_apply]
  exact (point m c t y).trans (congrArg (OUT m c) (place t y)).symm

end Cert.Kernel24Ideal.Prod

namespace Cert.Reference24Ideal.Prod

open Cert.Reference24Ideal Cert.Reference24Ideal.Gen Cert.Reference24Ideal.Read Idealize.ShloMosaic Idealize.ShloMosaic.TcCoe Idealize.SL.Sem

theorem ref_apply (x0 : S256x2048.Idx → EReal) (x1 : S2048x1024.Idx → EReal) (i : Fin 256) (j : Fin 1024) :
    val_main_v2 (F := Ideal) x0 x1 (ix2 i j) = ∑ k : Fin 2048, x0 (ix2 i k) * x1 (ix2 k j) := by
  pointwise [val_main_v2, val_main_v1, val_main_v0]

end Cert.Reference24Ideal.Prod

namespace Cert.Final24

open Idealize.ShloMosaic Idealize.ShloMosaic.TcCoe Idealize.SL.Sem

theorem frame : Cert.quiescent_Kernel24 := fun m g _ => Cert.Kernel24.Gen.frame m g
theorem frame_ideal : Cert.quiescent_Kernel24Ideal := fun m g _ => Cert.Kernel24Ideal.Gen.frame m g
theorem frame_ref : Cert.quiescent_Reference24Ideal := fun m g _ =>
  (θ_run Cert.Reference24Ideal.defs _ _).mono (fun r h => ⟨fun c => (h c).2, sem_eq_zero_of_no_sems (by decide) r.2⟩)
    (Cert.Reference24Ideal.Value.run (F := Ideal) m g)

theorem algebraic : Cert.algebraic_Kernel24Ideal_Reference24Ideal := by
  intro m g m' g' hpre hagree
  refine ⟨Cert.Kernel24Ideal.Prod.OUT m, ?_, ?_⟩
  · refine (θ_run Cert.Kernel24Ideal.defs _ _).mono (fun r h c => ?_) (Cert.Kernel24Ideal.Value.run_blocks (F := Ideal) m g)
    obtain ⟨h2, k⟩ := h c
    exact ⟨h2.trans (Cert.Kernel24Ideal.Prod.out m c), k⟩
  · refine (θ_run Cert.Reference24Ideal.defs _ _).mono (fun r h c => ?_) (Cert.Reference24Ideal.Value.run (F := Ideal) m' g')
    obtain ⟨h2, k⟩ := h c
    obtain ⟨e0, e1⟩ := hagree c
    refine ⟨(h2.trans (Cert.Reference24Ideal.Read.val_main_v2_eq _ _)).trans ?_, k⟩
    rw [e0, e1]
    funext i
    obtain ⟨t, l, rfl⟩ : ∃ (t : Fin 256) (l : Fin 1024), i = ix2 t l := ⟨i 0, i 1, eq_ix2 i⟩
    refine (Cert.Reference24Ideal.Prod.ref_apply _ _ t l).trans ?_
    rfl

end Cert.Final24
-- ==== Proof.Mm.DwMemKv.lean ====
module

public import proofs.«01_k».proof.Defs
public import proofs.«01_k».proof.Proof.Gen.Kernel25
public import proofs.«01_k».proof.Proof.Gen.Kernel25.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import Idealize.ShloMosaic.Lib.Pipeline.ValueKit
public import Idealize.ShloMosaic.PureOps.Ideal.Laws

@[expose] public section

set_option maxRecDepth 16384

noncomputable section

namespace Cert.Kernel25Ideal.Prod

open Cert.Kernel25Ideal Cert.Kernel25Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

theorem pay_apply (x0 : Vec Ideal S256x512 .bf16) (x1 : Vec Ideal S256x1024 .f32) (y : S512x1024.Idx) :
    k0_pay1 x0 x1 y = ∑ k : Fin 256, x0 (ix2 k (y 0)) * x1 (ix2 k (y 1)) := by
  pointwise [k0_pay1]

variable (m : (ℓ : Loc nD τ sig) → Buf (Elt Ideal) ℓ) (c : Dev nD)

/-- The arrays the product is of. -/
def A : S256x2048.Idx → EReal := m ((c : Thread nD τ).loc main_arg0)
def B : S256x1024.Idx → EReal := m ((c : Thread nD τ).loc main_arg1)

/-- The rows and columns of the product that a point's tile has. -/
def rw' (t : Fin cfg0.N) (r : Fin 512) : Fin 2048 := ⟨512 * (t.val) + r.val, by have : t.val < 4 := t.isLt; omega⟩
def cl (t : Fin cfg0.N) (r : Fin 1024) : Fin 1024 := ⟨1024 * 0 + r.val, by have : t.val < 4 := t.isLt; omega⟩

/-- A point's blocks. -/
abbrev b0 (t : Fin cfg0.N) : S256x512.Idx → EReal := iblk m c 0 t
abbrev b1 (t : Fin cfg0.N) : S256x1024.Idx → EReal := iblk m c 1 t

theorem blk0 (t : Fin cfg0.N) (r : Fin 512) (k : Fin 256) : b0 m c t (ix2 k r) = A m c (ix2 k (rw' t r)) := by
  unfold A
  blk_ext [b0, iblk, V, idx t, rw']
theorem blk1 (t : Fin cfg0.N) (r : Fin 1024) (k : Fin 256) : b1 m c t (ix2 k r) = B m c (ix2 k (cl t r)) := by
  unfold B
  blk_ext [b1, iblk, V, idx t, cl]

/-- The product. -/
def OUT : S2048x1024.Idx → EReal := fun i => (∑ k : Fin 256, A m c (ix2 k (i 0)) * B m c (ix2 k (i 1)))

theorem place (t : Fin cfg0.N) (y : S512x1024.Idx) : (win0_2.blk t).view.emb y = ix2 (rw' t (y 0)) (cl t (y 1)) := by
  blk_ext [idx t, rw', cl]

theorem point (t : Fin cfg0.N) (y : S512x1024.Idx) :
    (∑ k : Fin 256, b0 m c t (ix2 k (y 0)) * b1 m c t (ix2 k (y 1))) = OUT m c (ix2 (rw' t (y 0)) (cl t (y 1))) :=
  Finset.sum_congr rfl fun k _ => congrArg₂ (· * ·) (blk0 m c t (y 0) k) (blk1 m c t (y 1) k)

theorem out : (dats m 0 c).arrAt 2 cfg0.N = OUT m c := by
  refine (dats m 0 c).arrAt_eq_of_covers 2 _ (by decide +kernel) fun t hf y => ?_
  blk_simp
  rw [after0_2, outsAt0]
  frame_out
  rw [pay_apply]
  exact (point m c t y).trans (congrArg (OUT m c) (place t y)).symm

end Cert.Kernel25Ideal.Prod

namespace Cert.Reference25Ideal.Prod

open Cert.Reference25Ideal Cert.Reference25Ideal.Gen Cert.Reference25Ideal.Read Idealize.ShloMosaic Idealize.ShloMosaic.TcCoe Idealize.SL.Sem

theorem ref_apply (x0 : S256x2048.Idx → EReal) (x1 : S256x1024.Idx → EReal) (i : Fin 2048) (j : Fin 1024) :
    val_main_v5 (F := Ideal) x0 x1 (ix2 i j) = ∑ k : Fin 256, x1 (ix2 k j) * x0 (ix2 k i) := by
  pointwise [val_main_v5, val_main_v4, val_main_v3, val_main_v2, val_main_v1, val_main_v0, val_main_cst]

end Cert.Reference25Ideal.Prod

namespace Cert.Final25

open Idealize.ShloMosaic Idealize.ShloMosaic.TcCoe Idealize.SL.Sem

theorem frame : Cert.quiescent_Kernel25 := fun m g _ => Cert.Kernel25.Gen.frame m g
theorem frame_ideal : Cert.quiescent_Kernel25Ideal := fun m g _ => Cert.Kernel25Ideal.Gen.frame m g
theorem frame_ref : Cert.quiescent_Reference25Ideal := fun m g _ =>
  (θ_run Cert.Reference25Ideal.defs _ _).mono (fun r h => ⟨fun c => (h c).2, sem_eq_zero_of_no_sems (by decide) r.2⟩)
    (Cert.Reference25Ideal.Value.run (F := Ideal) m g)

theorem algebraic : Cert.algebraic_Kernel25Ideal_Reference25Ideal := by
  intro m g m' g' hpre hagree
  refine ⟨Cert.Kernel25Ideal.Prod.OUT m, ?_, ?_⟩
  · refine (θ_run Cert.Kernel25Ideal.defs _ _).mono (fun r h c => ?_) (Cert.Kernel25Ideal.Value.run_blocks (F := Ideal) m g)
    obtain ⟨h2, k⟩ := h c
    exact ⟨h2.trans (Cert.Kernel25Ideal.Prod.out m c), k⟩
  · refine (θ_run Cert.Reference25Ideal.defs _ _).mono (fun r h c => ?_) (Cert.Reference25Ideal.Value.run (F := Ideal) m' g')
    obtain ⟨h2, k⟩ := h c
    obtain ⟨e0, e1⟩ := hagree c
    refine ⟨(h2.trans (Cert.Reference25Ideal.Read.val_main_v5_eq _ _)).trans ?_, k⟩
    rw [e0, e1]
    funext i
    obtain ⟨t, l, rfl⟩ : ∃ (t : Fin 2048) (l : Fin 1024), i = ix2 t l := ⟨i 0, i 1, eq_ix2 i⟩
    refine (Cert.Reference25Ideal.Prod.ref_apply _ _ t l).trans ?_
    exact Finset.sum_congr rfl fun k _ => mul_comm _ _

end Cert.Final25
-- ==== Proof.Mm.DMemn.lean ====
module

public import proofs.«01_k».proof.Defs
public import proofs.«01_k».proof.Proof.Gen.Kernel26
public import proofs.«01_k».proof.Proof.Gen.Kernel26.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import Idealize.ShloMosaic.Lib.Pipeline.ValueKit
public import Idealize.ShloMosaic.PureOps.Ideal.Laws

@[expose] public section

set_option maxRecDepth 16384

noncomputable section

namespace Cert.Kernel26Ideal.Prod

open Cert.Kernel26Ideal Cert.Kernel26Ideal.Gen Idealize.ShloMosaic Idealize.ShloMosaic.TcCoe Idealize.SL.Sem
open Idealize.ShloMosaic.Pipeline (Dat)

/-- Where the windows' blocks lie. -/
theorem idx : ∀ t : Fin cfg0.N, win0_0.index t = ![0, 0] ∧ win0_1.index t = ![t.val % 4, 0] ∧ win0_2.index t = ![0, t.val % 4] :=
  (by decide +kernel : ∀ t : Fin grid0.N, win0_0.index t = ![0, 0] ∧ win0_1.index t = ![t.val % 4, 0] ∧ win0_2.index t = ![0, t.val % 4])

theorem pay_apply (x0 : Vec Ideal S256x1024 .f32) (x1 : Vec Ideal S512x1024 .bf16) (y : S256x512.Idx) :
    k0_pay1 x0 x1 y = ∑ k : Fin 1024, x0 (ix2 (y 0) k) * x1 (ix2 (y 1) k) := by
  pointwise [k0_pay1]

variable (m : (ℓ : Loc nD τ sig) → Buf (Elt Ideal) ℓ) (c : Dev nD)

/-- The arrays the product is of. -/
def A : S256x1024.Idx → EReal := m ((c : Thread nD τ).loc main_arg0)
def B : S2048x1024.Idx → EReal := m ((c : Thread nD τ).loc main_arg1)

/-- The rows and columns of the product that a point's tile has. -/
def rw' (t : Fin cfg0.N) (r : Fin 256) : Fin 256 := ⟨256 * 0 + r.val, by have : t.val < 4 := t.isLt; omega⟩
def cl (t : Fin cfg0.N) (r : Fin 512) : Fin 2048 := ⟨512 * (t.val % 4) + r.val, by have : t.val < 4 := t.isLt; omega⟩

/-- A point's blocks. -/
abbrev b0 (t : Fin cfg0.N) : S256x1024.Idx → EReal := iblk m c 0 t
abbrev b1 (t : Fin cfg0.N) : S512x1024.Idx → EReal := iblk m c 1 t

theorem blk0 (t : Fin cfg0.N) (r : Fin 256) (k : Fin 1024) : b0 m c t (ix2 r k) = A m c (ix2 (rw' t r) k) := by
  unfold A
  blk_ext [b0, iblk, V, idx t, rw']
theorem blk1 (t : Fin cfg0.N) (r : Fin 512) (k : Fin 1024) : b1 m c t (ix2 r k) = B m c (ix2 (cl t r) k) := by
  unfold B
  blk_ext [b1, iblk, V, idx t, cl]

/-- The product. -/
def OUT : S256x2048.Idx → EReal := fun i => (∑ k : Fin 1024, A m c (ix2 (i 0) k) * B m c (ix2 (i 1) k))

theorem place (t : Fin cfg0.N) (y : S256x512.Idx) : (win0_2.blk t).view.emb y = ix2 (rw' t (y 0)) (cl t (y 1)) := by
  blk_ext [idx t, rw', cl]

theorem point (t : Fin cfg0.N) (y : S256x512.Idx) :
    (∑ k : Fin 1024, b0 m c t (ix2 (y 0) k) * b1 m c t (ix2 (y 1) k)) = OUT m c (ix2 (rw' t (y 0)) (cl t (y 1))) :=
  Finset.sum_congr rfl fun k _ => congrArg₂ (· * ·) (blk0 m c t (y 0) k) (blk1 m c t (y 1) k)

theorem out : (dats m 0 c).arrAt 2 cfg0.N = OUT m c := by
  refine (dats m 0 c).arrAt_eq_of_covers 2 _ (by decide +kernel) fun t hf y => ?_
  blk_simp
  rw [after0_2, outsAt0]
  frame_out
  rw [pay_apply]
  exact (point m c t y).trans (congrArg (OUT m c) (place t y)).symm

end Cert.Kernel26Ideal.Prod

namespace Cert.Reference26Ideal.Prod

open Cert.Reference26Ideal Cert.Reference26Ideal.Gen Cert.Reference26Ideal.Read Idealize.ShloMosaic Idealize.ShloMosaic.TcCoe Idealize.SL.Sem

theorem ref_apply (x0 : S256x1024.Idx → EReal) (x1 : S2048x1024.Idx → EReal) (i : Fin 256) (j : Fin 2048) :
    val_main_v3 (F := Ideal) x0 x1 (ix2 i j) = ∑ k : Fin 1024, x0 (ix2 i k) * x1 (ix2 j k) := by
  pointwise [val_main_v3, val_main_v2, val_main_v1, val_main_v0, val_main_cst]

end Cert.Reference26Ideal.Prod

namespace Cert.Final26

open Idealize.ShloMosaic Idealize.ShloMosaic.TcCoe Idealize.SL.Sem

theorem frame : Cert.quiescent_Kernel26 := fun m g _ => Cert.Kernel26.Gen.frame m g
theorem frame_ideal : Cert.quiescent_Kernel26Ideal := fun m g _ => Cert.Kernel26Ideal.Gen.frame m g
theorem frame_ref : Cert.quiescent_Reference26Ideal := fun m g _ =>
  (θ_run Cert.Reference26Ideal.defs _ _).mono (fun r h => ⟨fun c => (h c).2, sem_eq_zero_of_no_sems (by decide) r.2⟩)
    (Cert.Reference26Ideal.Value.run (F := Ideal) m g)

theorem algebraic : Cert.algebraic_Kernel26Ideal_Reference26Ideal := by
  intro m g m' g' hpre hagree
  refine ⟨Cert.Kernel26Ideal.Prod.OUT m, ?_, ?_⟩
  · refine (θ_run Cert.Kernel26Ideal.defs _ _).mono (fun r h c => ?_) (Cert.Kernel26Ideal.Value.run_blocks (F := Ideal) m g)
    obtain ⟨h2, k⟩ := h c
    exact ⟨h2.trans (Cert.Kernel26Ideal.Prod.out m c), k⟩
  · refine (θ_run Cert.Reference26Ideal.defs _ _).mono (fun r h c => ?_) (Cert.Reference26Ideal.Value.run (F := Ideal) m' g')
    obtain ⟨h2, k⟩ := h c
    obtain ⟨e0, e1⟩ := hagree c
    refine ⟨(h2.trans (Cert.Reference26Ideal.Read.val_main_v3_eq _ _)).trans ?_, k⟩
    rw [e0, e1]
    funext i
    obtain ⟨t, l, rfl⟩ : ∃ (t : Fin 256) (l : Fin 2048), i = ix2 t l := ⟨i 0, i 1, eq_ix2 i⟩
    refine (Cert.Reference26Ideal.Prod.ref_apply _ _ t l).trans ?_
    rfl

end Cert.Final26
-- ==== Proof.Fox.Tile.lean ====
module

public import proofs.«01_k».proof.Proof.Gen.Kernel27Ideal.Skeleton
public import proofs.«01_k».proof.Proof.Mem.Spec
public import Idealize.ShloMosaic.Lib.Pipeline.ValueKit
public import Idealize.ShloMosaic.Lib.WritesUnit

@[expose] public section

set_option maxRecDepth 16384

noncomputable section

namespace Cert.FoxV

open Cert.Kernel27Ideal Cert.Kernel27Ideal.Gen Cert.Mem Idealize.ShloMosaic Idealize.ShloMosaic.TcCoe Idealize.SL.Sem

/-! ## One head's tile -/

section Tile

variable (a0 a1 : BitVec 32) (q k g v o : Vec Ideal S512x128 .f32) (cq l dl : Vec Ideal S1x512x1 .f32) (ct oc : Vec Ideal S1x512 .f32)

/-- Whether position `s` of the keys' tile is no later than position `r` of the queries' tile. -/
def sees (a0 a1 : BitVec 32) (r s : Fin 512) : BitVec 1 :=
  IntOp.cmpi CmpIPredicate.sle (IntOp.subi (BitVec.ofNat 32 s.val) (BitVec.ofNat 32 r.val))
    (Scalar.subi (Scalar.addi (Scalar.muli a1 512#32) 0#32) (Scalar.muli a0 512#32))

/-- The attention weight of a pair of a head's tile. -/
def tP (r s : Fin 512) : EReal :=
  Ideal.exp (Scalar.select (sees a0 a1 r s)
    ((∑ x, q (ix2 r x) * k (ix2 s x)) * cs + (cq (ix3 0 r 0) - ct (ix2 0 s)))
    (Named.named κ "mask" 4048155338#32 : Ideal .f32) - l (ix3 0 r 0))

/-- The gradient of the score of a pair of a head's tile. -/
def tD (r s : Fin 512) : EReal :=
  tP a0 a1 q k cq l ct r s * ((∑ x, g (ix2 r x) * v (ix2 s x)) - dl (ix3 0 r 0))

theorem pv0 (s : Fin 512) (d : Fin 128) : (k0_pay10 (k0_pay9 a0 a1 q g k cq ct l o)) (ix2 s d) = o (ix2 s d) + ∑ r, tP a0 a1 q k cq l ct r s * g (ix2 r d) := by
  pointwise [k0_pay8, k0_pay9, k0_pay10, k0_pay11, k0_pay12, k0_pay13, tP, sees, cs]

theorem pk0 (s : Fin 512) (d : Fin 128) : (k0_pay12 q g (k0_pay8 a0 a1 q k cq ct l) v dl o) (ix2 s d) = o (ix2 s d) + (∑ r, tD a0 a1 q k g v cq l dl ct r s * q (ix2 r d)) * cs := by
  pointwise [k0_pay8, k0_pay9, k0_pay10, k0_pay11, k0_pay12, k0_pay13, tP, tD, sees, cs]

theorem pc0 (s : Fin 512) : (k0_pay13 g (k0_pay8 a0 a1 q k cq ct l) v dl oc) (ix2 0 s) = oc (ix2 0 s) - ∑ r, tD a0 a1 q k g v cq l dl ct r s := by
  pointwise [k0_pay8, k0_pay9, k0_pay10, k0_pay11, k0_pay12, k0_pay13, tP, tD, sees, cs]

theorem pv1 (s : Fin 512) (d : Fin 128) : (k0_pay15 a0 a1 q g k cq ct l o) (ix2 s d) = o (ix2 s d) + ∑ r, tP a0 a1 q k cq l ct r s * g (ix2 r d) := by
  pointwise [k0_pay14, k0_pay15, k0_pay16, k0_pay17, k0_pay18, tP, sees, cs]

theorem pk1 (s : Fin 512) (d : Fin 128) : (k0_pay17 q g (k0_pay14 a0 a1 q k cq ct l) v dl o) (ix2 s d) = o (ix2 s d) + (∑ r, tD a0 a1 q k g v cq l dl ct r s * q (ix2 r d)) * cs := by
  pointwise [k0_pay14, k0_pay15, k0_pay16, k0_pay17, k0_pay18, tP, tD, sees, cs]

theorem pc1 (s : Fin 512) : (k0_pay18 g (k0_pay14 a0 a1 q k cq ct l) v dl oc) (ix2 0 s) = oc (ix2 0 s) - ∑ r, tD a0 a1 q k g v cq l dl ct r s := by
  pointwise [k0_pay14, k0_pay15, k0_pay16, k0_pay17, k0_pay18, tP, tD, sees, cs]

theorem pv2 (s : Fin 512) (d : Fin 128) : (k0_pay22 a0 a1 q g k (k0_pay19 cq) (k0_pay20 ct) l o) (ix2 s d) = o (ix2 s d) + ∑ r, tP a0 a1 q k cq l ct r s * g (ix2 r d) := by
  pointwise [k0_pay19, k0_pay20, k0_pay21, k0_pay22, k0_pay23, k0_pay24, k0_pay25, k0_pay26, k0_pay27, tP, sees, cs]

theorem pk2 (s : Fin 512) (d : Fin 128) : (k0_pay26 q (k0_pay21 a0 a1 q k (k0_pay19 cq) (k0_pay20 ct) l) (k0_pay23 g v) (k0_pay24 dl) o) (ix2 s d) = o (ix2 s d) + (∑ r, tD a0 a1 q k g v cq l dl ct r s * q (ix2 r d)) * cs := by
  pointwise [k0_pay19, k0_pay20, k0_pay21, k0_pay22, k0_pay23, k0_pay24, k0_pay25, k0_pay26, k0_pay27, tP, tD, sees, cs]

theorem pc2 (s : Fin 512) : (k0_pay27 (k0_pay21 a0 a1 q k (k0_pay19 cq) (k0_pay20 ct) l) (k0_pay23 g v) (k0_pay24 dl) oc) (ix2 0 s) = oc (ix2 0 s) - ∑ r, tD a0 a1 q k g v cq l dl ct r s := by
  pointwise [k0_pay19, k0_pay20, k0_pay21, k0_pay22, k0_pay23, k0_pay24, k0_pay25, k0_pay26, k0_pay27, tP, tD, sees, cs]

theorem pv3 (s : Fin 512) (d : Fin 128) : (k0_pay32 a0 a1 g (k0_pay28 q k) (k0_pay29 cq) (k0_pay30 ct) l o) (ix2 s d) = o (ix2 s d) + ∑ r, tP a0 a1 q k cq l ct r s * g (ix2 r d) := by
  pointwise [k0_pay28, k0_pay29, k0_pay30, k0_pay31, k0_pay32, k0_pay33, k0_pay34, k0_pay35, k0_pay36, k0_pay37, tP, sees, cs]

theorem pk3 (s : Fin 512) (d : Fin 128) : (k0_pay36 o (k0_pay34 a0 a1 g (k0_pay28 q k) (k0_pay29 cq) (k0_pay30 ct) l v dl) (k0_pay35 q) (constant S512x128 FTy.f32 0#32)) (ix2 s d) = o (ix2 s d) + (∑ r, tD a0 a1 q k g v cq l dl ct r s * q (ix2 r d)) * cs := by
  pointwise [k0_pay28, k0_pay29, k0_pay30, k0_pay31, k0_pay32, k0_pay33, k0_pay34, k0_pay35, k0_pay36, k0_pay37, tP, tD, sees, cs]

theorem pc3 (s : Fin 512) : (k0_pay37 (k0_pay33 a0 a1 g (k0_pay28 q k) (k0_pay29 cq) (k0_pay30 ct) l v dl) oc) (ix2 0 s) = oc (ix2 0 s) - ∑ r, tD a0 a1 q k g v cq l dl ct r s := by
  pointwise [k0_pay28, k0_pay29, k0_pay30, k0_pay31, k0_pay32, k0_pay33, k0_pay34, k0_pay35, k0_pay36, k0_pay37, tP, tD, sees, cs]

theorem pv4 (s : Fin 512) (d : Fin 128) : (k0_pay41 a0 g (k0_pay38 q k cq ct) k0_pay39 (Scalar.addi (Scalar.muli a1 512#32) 0#32) l o) (ix2 s d) = o (ix2 s d) + ∑ r, tP a0 a1 q k cq l ct r s * g (ix2 r d) := by
  pointwise [k0_pay38, k0_pay39, k0_pay40, k0_pay41, k0_pay42, k0_pay43, k0_pay44, k0_pay45, tP, sees, cs]

theorem pk4 (s : Fin 512) (d : Fin 128) : (k0_pay44 (k0_pay43 a0 q g (k0_pay38 q k cq ct) k0_pay39 (Scalar.addi (Scalar.muli a1 512#32) 0#32) l v dl o)) (ix2 s d) = o (ix2 s d) + (∑ r, tD a0 a1 q k g v cq l dl ct r s * q (ix2 r d)) * cs := by
  pointwise [k0_pay38, k0_pay39, k0_pay40, k0_pay41, k0_pay42, k0_pay43, k0_pay44, k0_pay45, tP, tD, sees, cs]

theorem pc4 (s : Fin 512) : (k0_pay45 (k0_pay42 a0 g (k0_pay38 q k cq ct) k0_pay39 (Scalar.addi (Scalar.muli a1 512#32) 0#32) l v dl) oc) (ix2 0 s) = oc (ix2 0 s) - ∑ r, tD a0 a1 q k g v cq l dl ct r s := by
  pointwise [k0_pay38, k0_pay39, k0_pay40, k0_pay41, k0_pay42, k0_pay43, k0_pay44, k0_pay45, tP, tD, sees, cs]

theorem pv5 (s : Fin 512) (d : Fin 128) : (k0_pay48 g (k0_pay46 a0 a1 q k cq ct) l o) (ix2 s d) = o (ix2 s d) + ∑ r, tP a0 a1 q k cq l ct r s * g (ix2 r d) := by
  pointwise [k0_pay46, k0_pay47, k0_pay48, k0_pay49, k0_pay50, k0_pay51, k0_pay4, tP, sees, cs]

theorem pk5 (s : Fin 512) (d : Fin 128) : (k0_pay50 q g (k0_pay46 a0 a1 q k cq ct) l v dl o) (ix2 s d) = o (ix2 s d) + (∑ r, tD a0 a1 q k g v cq l dl ct r s * q (ix2 r d)) * cs := by
  pointwise [k0_pay46, k0_pay47, k0_pay48, k0_pay49, k0_pay50, k0_pay51, k0_pay4, tP, tD, sees, cs]

theorem pc5 (s : Fin 512) : (k0_pay4 (k0_pay51 g (k0_pay46 a0 a1 q k cq ct) l v dl oc)) (ix2 0 s) = oc (ix2 0 s) - ∑ r, tD a0 a1 q k g v cq l dl ct r s := by
  pointwise [k0_pay46, k0_pay47, k0_pay48, k0_pay49, k0_pay50, k0_pay51, k0_pay4, tP, tD, sees, cs]

end Tile

end Cert.FoxV
end
-- ==== Proof.Fox.Block.lean ====
module

public import proofs.«01_k».proof.Proof.Fox.Tile
public import Idealize.ShloMosaic.Lib.Pipeline.ValueKit
public import Idealize.ShloMosaic.Lib.WritesUnit

@[expose] public section

set_option maxRecDepth 16384

noncomputable section

namespace Cert.FoxV

open Cert.Kernel27Ideal Cert.Kernel27Ideal.Gen Cert.Mem Idealize.ShloMosaic Idealize.ShloMosaic.TcCoe Idealize.SL.Sem

/-! ## The blocks, all six heads -/

/-- Column `d` of head `h`. -/
def colOf (h : Fin 6) (d : Fin 128) : Fin 768 := ⟨128 * h.val + d.val, by omega⟩
/-- The head of a column. -/
def hd (l : Fin 768) : Fin 6 := ⟨l.val / 128, by omega⟩
/-- A head as one of the eight rows. -/
def up (h : Fin 6) : Fin 8 := ⟨h.val, by omega⟩

@[simp] theorem hd_colOf (h : Fin 6) (d : Fin 128) : hd (colOf h d) = h := Fin.ext (by simp only [hd, colOf]; omega)

def qc (x : Vec Ideal S512x768 .f32) (h : Fin 6) : Vec Ideal S512x128 .f32 := fun y => x (ix2 (y 0) (colOf h (y 1)))
def tc (x : Vec Ideal S6x512x128 .f32) (h : Fin 6) : Vec Ideal S1x512x1 .f32 := fun y => x (ix3 h (y 1) 0)
def rc (x : Vec Ideal S8x512 .f32) (h : Fin 6) : Vec Ideal S1x512 .f32 := fun y => x (ix2 (up h) (y 1))

theorem idx_ext2 {a b : ℕ} {y : Shape.Idx ⟨2, ![a, b]⟩} {i : Fin a} {j : Fin b} (h0 : (y 0).val = i.val) (h1 : (y 1).val = j.val) : y = ix2 i j := by
  funext z
  refine Fin.cases (Fin.ext h0) (fun z => ?_) z
  obtain rfl : z = 0 := Subsingleton.elim _ _
  exact Fin.ext h1

theorem idx_ext3 {a b c : ℕ} {y : Shape.Idx ⟨3, ![a, b, c]⟩} {i : Fin a} {j : Fin b} {k : Fin c} (h0 : (y 0).val = i.val) (h1 : (y 1).val = j.val) (h2 : (y 2).val = k.val) :
    y = ix3 i j k := by
  funext z
  match z with
  | 0 => exact Fin.ext h0
  | 1 => exact Fin.ext h1
  | 2 => exact Fin.ext h2

theorem ldq0 (x : Vec Ideal S512x768 .f32) (inb) : View.ld (S := S512x768) (Val := Elt Ideal) (e' := .f32) x (Rect.unit ![0, 0] ![512, 128] inb) = qc x 0 := by
  funext y
  exact congrArg x (idx_ext2 (by show 0 + 1 * (y 0).val = (y 0).val; omega) (by show 0 + 1 * (y 1).val = 128 * 0 + (y 1).val; omega))

theorem ldt0 (x : Vec Ideal S6x512x128 .f32) (inb) : View.ld (S := S6x512x128) (Val := Elt Ideal) (e' := .f32) x (Rect.unit ![0, 0, 0] ![1, 512, 1] inb) = tc x 0 := by
  funext y
  exact congrArg x (idx_ext3 (by show 0 + 1 * (y 0).val = 0; have : (y 0).val < 1 := (y 0).isLt; omega) (by show 0 + 1 * (y 1).val = (y 1).val; omega)
    (by show 0 + 1 * (y 2).val = 0; have : (y 2).val < 1 := (y 2).isLt; omega))

theorem ldr0 (x : Vec Ideal S8x512 .f32) (inb) : View.ld (S := S8x512) (Val := Elt Ideal) (e' := .f32) x (Rect.unit ![0, 0] ![1, 512] inb) = rc x 0 := by
  funext y
  exact congrArg x (idx_ext2 (by show 0 + 1 * (y 0).val = 0; have : (y 0).val < 1 := (y 0).isLt; omega) (by show 0 + 1 * (y 1).val = (y 1).val; omega))

theorem ldq1 (x : Vec Ideal S512x768 .f32) (inb) : View.ld (S := S512x768) (Val := Elt Ideal) (e' := .f32) x (Rect.unit ![0, 128] ![512, 128] inb) = qc x 1 := by
  funext y
  exact congrArg x (idx_ext2 (by show 0 + 1 * (y 0).val = (y 0).val; omega) (by show 128 + 1 * (y 1).val = 128 * 1 + (y 1).val; omega))

theorem ldt1 (x : Vec Ideal S6x512x128 .f32) (inb) : View.ld (S := S6x512x128) (Val := Elt Ideal) (e' := .f32) x (Rect.unit ![1, 0, 0] ![1, 512, 1] inb) = tc x 1 := by
  funext y
  exact congrArg x (idx_ext3 (by show 1 + 1 * (y 0).val = 1; have : (y 0).val < 1 := (y 0).isLt; omega) (by show 0 + 1 * (y 1).val = (y 1).val; omega)
    (by show 0 + 1 * (y 2).val = 0; have : (y 2).val < 1 := (y 2).isLt; omega))

theorem ldr1 (x : Vec Ideal S8x512 .f32) (inb) : View.ld (S := S8x512) (Val := Elt Ideal) (e' := .f32) x (Rect.unit ![1, 0] ![1, 512] inb) = rc x 1 := by
  funext y
  exact congrArg x (idx_ext2 (by show 1 + 1 * (y 0).val = 1; have : (y 0).val < 1 := (y 0).isLt; omega) (by show 0 + 1 * (y 1).val = (y 1).val; omega))

theorem ldq2 (x : Vec Ideal S512x768 .f32) (inb) : View.ld (S := S512x768) (Val := Elt Ideal) (e' := .f32) x (Rect.unit ![0, 256] ![512, 128] inb) = qc x 2 := by
  funext y
  exact congrArg x (idx_ext2 (by show 0 + 1 * (y 0).val = (y 0).val; omega) (by show 256 + 1 * (y 1).val = 128 * 2 + (y 1).val; omega))

theorem ldt2 (x : Vec Ideal S6x512x128 .f32) (inb) : View.ld (S := S6x512x128) (Val := Elt Ideal) (e' := .f32) x (Rect.unit ![2, 0, 0] ![1, 512, 1] inb) = tc x 2 := by
  funext y
  exact congrArg x (idx_ext3 (by show 2 + 1 * (y 0).val = 2; have : (y 0).val < 1 := (y 0).isLt; omega) (by show 0 + 1 * (y 1).val = (y 1).val; omega)
    (by show 0 + 1 * (y 2).val = 0; have : (y 2).val < 1 := (y 2).isLt; omega))

theorem ldr2 (x : Vec Ideal S8x512 .f32) (inb) : View.ld (S := S8x512) (Val := Elt Ideal) (e' := .f32) x (Rect.unit ![2, 0] ![1, 512] inb) = rc x 2 := by
  funext y
  exact congrArg x (idx_ext2 (by show 2 + 1 * (y 0).val = 2; have : (y 0).val < 1 := (y 0).isLt; omega) (by show 0 + 1 * (y 1).val = (y 1).val; omega))

theorem ldq3 (x : Vec Ideal S512x768 .f32) (inb) : View.ld (S := S512x768) (Val := Elt Ideal) (e' := .f32) x (Rect.unit ![0, 384] ![512, 128] inb) = qc x 3 := by
  funext y
  exact congrArg x (idx_ext2 (by show 0 + 1 * (y 0).val = (y 0).val; omega) (by show 384 + 1 * (y 1).val = 128 * 3 + (y 1).val; omega))

theorem ldt3 (x : Vec Ideal S6x512x128 .f32) (inb) : View.ld (S := S6x512x128) (Val := Elt Ideal) (e' := .f32) x (Rect.unit ![3, 0, 0] ![1, 512, 1] inb) = tc x 3 := by
  funext y
  exact congrArg x (idx_ext3 (by show 3 + 1 * (y 0).val = 3; have : (y 0).val < 1 := (y 0).isLt; omega) (by show 0 + 1 * (y 1).val = (y 1).val; omega)
    (by show 0 + 1 * (y 2).val = 0; have : (y 2).val < 1 := (y 2).isLt; omega))

theorem ldr3 (x : Vec Ideal S8x512 .f32) (inb) : View.ld (S := S8x512) (Val := Elt Ideal) (e' := .f32) x (Rect.unit ![3, 0] ![1, 512] inb) = rc x 3 := by
  funext y
  exact congrArg x (idx_ext2 (by show 3 + 1 * (y 0).val = 3; have : (y 0).val < 1 := (y 0).isLt; omega) (by show 0 + 1 * (y 1).val = (y 1).val; omega))

theorem ldq4 (x : Vec Ideal S512x768 .f32) (inb) : View.ld (S := S512x768) (Val := Elt Ideal) (e' := .f32) x (Rect.unit ![0, 512] ![512, 128] inb) = qc x 4 := by
  funext y
  exact congrArg x (idx_ext2 (by show 0 + 1 * (y 0).val = (y 0).val; omega) (by show 512 + 1 * (y 1).val = 128 * 4 + (y 1).val; omega))

theorem ldt4 (x : Vec Ideal S6x512x128 .f32) (inb) : View.ld (S := S6x512x128) (Val := Elt Ideal) (e' := .f32) x (Rect.unit ![4, 0, 0] ![1, 512, 1] inb) = tc x 4 := by
  funext y
  exact congrArg x (idx_ext3 (by show 4 + 1 * (y 0).val = 4; have : (y 0).val < 1 := (y 0).isLt; omega) (by show 0 + 1 * (y 1).val = (y 1).val; omega)
    (by show 0 + 1 * (y 2).val = 0; have : (y 2).val < 1 := (y 2).isLt; omega))

theorem ldr4 (x : Vec Ideal S8x512 .f32) (inb) : View.ld (S := S8x512) (Val := Elt Ideal) (e' := .f32) x (Rect.unit ![4, 0] ![1, 512] inb) = rc x 4 := by
  funext y
  exact congrArg x (idx_ext2 (by show 4 + 1 * (y 0).val = 4; have : (y 0).val < 1 := (y 0).isLt; omega) (by show 0 + 1 * (y 1).val = (y 1).val; omega))

theorem ldq5 (x : Vec Ideal S512x768 .f32) (inb) : View.ld (S := S512x768) (Val := Elt Ideal) (e' := .f32) x (Rect.unit ![0, 640] ![512, 128] inb) = qc x 5 := by
  funext y
  exact congrArg x (idx_ext2 (by show 0 + 1 * (y 0).val = (y 0).val; omega) (by show 640 + 1 * (y 1).val = 128 * 5 + (y 1).val; omega))

theorem ldt5 (x : Vec Ideal S6x512x128 .f32) (inb) : View.ld (S := S6x512x128) (Val := Elt Ideal) (e' := .f32) x (Rect.unit ![5, 0, 0] ![1, 512, 1] inb) = tc x 5 := by
  funext y
  exact congrArg x (idx_ext3 (by show 5 + 1 * (y 0).val = 5; have : (y 0).val < 1 := (y 0).isLt; omega) (by show 0 + 1 * (y 1).val = (y 1).val; omega)
    (by show 0 + 1 * (y 2).val = 0; have : (y 2).val < 1 := (y 2).isLt; omega))

theorem ldr5 (x : Vec Ideal S8x512 .f32) (inb) : View.ld (S := S8x512) (Val := Elt Ideal) (e' := .f32) x (Rect.unit ![5, 0] ![1, 512] inb) = rc x 5 := by
  funext y
  exact congrArg x (idx_ext2 (by show 5 + 1 * (y 0).val = 5; have : (y 0).val < 1 := (y 0).isLt; omega) (by show 0 + 1 * (y 1).val = (y 1).val; omega))

section Block

variable (a0 a1 : BitVec 32) (x0 x1 x2 x7 : Vec Ideal S512x768 .f32) (x3 : Vec Ideal S8x512 .f32) (x4 x5 x6 : Vec Ideal S6x512x128 .f32)

def bP (h : Fin 6) (r s : Fin 512) : EReal := tP a0 a1 (qc x0 h) (qc x1 h) (tc x4 h) (tc x5 h) (rc x3 h) r s
def bD (h : Fin 6) (r s : Fin 512) : EReal :=
  tD a0 a1 (qc x0 h) (qc x1 h) (qc x7 h) (qc x2 h) (tc x4 h) (tc x5 h) (tc x6 h) (rc x3 h) r s

/-- What a block of queries adds to the values' gradient. -/
def gV (o : Vec Ideal S512x768 .f32) : Vec Ideal S512x768 .f32 := fun y =>
  o y + ∑ r, bP a0 a1 x0 x1 x3 x4 x5 (hd (y 1)) r (y 0) * x7 (ix2 r (y 1))
/-- What it adds to the keys' gradient. -/
def gK (o : Vec Ideal S512x768 .f32) : Vec Ideal S512x768 .f32 := fun y =>
  o y + (∑ r, bD a0 a1 x0 x1 x2 x7 x3 x4 x5 x6 (hd (y 1)) r (y 0) * x0 (ix2 r (y 1))) * cs
/-- What it takes from the gate sums' gradient, at a head's row. -/
def gC (o : Vec Ideal S8x512 .f32) : Vec Ideal S8x512 .f32 := fun y =>
  if h : (y 0).val < 6 then o y - ∑ r, bD a0 a1 x0 x1 x2 x7 x3 x4 x5 x6 ⟨(y 0).val, h⟩ r (y 1) else o y

end Block

section Read

variable {sg : RefSig} {κ : Kind} {sp : Space}

theorem cols6 (v : View sg κ sp S512x768 .f32) (f : v.ty.Contents (Elt Ideal)) (R : List (View.Piece (Elt Ideal) S512x768 .f32)) (G : Vec Ideal S512x768 .f32)
    (i0) (i1) (i2) (i3) (i4) (i5)
    (w0 : Vec Ideal S512x128 .f32) (w1 : Vec Ideal S512x128 .f32) (w2 : Vec Ideal S512x128 .f32) (w3 : Vec Ideal S512x128 .f32) (w4 : Vec Ideal S512x128 .f32) (w5 : Vec Ideal S512x128 .f32)
    (h0 : ∀ s d, w0 (ix2 s d) = G (ix2 s (colOf 0 d)))
    (h1 : ∀ s d, w1 (ix2 s d) = G (ix2 s (colOf 1 d)))
    (h2 : ∀ s d, w2 (ix2 s d) = G (ix2 s (colOf 2 d)))
    (h3 : ∀ s d, w3 (ix2 s d) = G (ix2 s (colOf 3 d)))
    (h4 : ∀ s d, w4 (ix2 s d) = G (ix2 s (colOf 4 d)))
    (h5 : ∀ s d, w5 (ix2 s d) = G (ix2 s (colOf 5 d))) :
    v.read (Elt Ideal) (v.writes (Elt Ideal) f ((⟨Rect.unit (s := S512x768) ![0, 640] ![512, 128] i5, w5⟩ : View.Piece (Elt Ideal) S512x768 .f32) :: (⟨Rect.unit (s := S512x768) ![0, 512] ![512, 128] i4, w4⟩ : View.Piece (Elt Ideal) S512x768 .f32) :: (⟨Rect.unit (s := S512x768) ![0, 384] ![512, 128] i3, w3⟩ : View.Piece (Elt Ideal) S512x768 .f32) :: (⟨Rect.unit (s := S512x768) ![0, 256] ![512, 128] i2, w2⟩ : View.Piece (Elt Ideal) S512x768 .f32) :: (⟨Rect.unit (s := S512x768) ![0, 128] ![512, 128] i1, w1⟩ : View.Piece (Elt Ideal) S512x768 .f32) :: (⟨Rect.unit (s := S512x768) ![0, 0] ![512, 128] i0, w0⟩ : View.Piece (Elt Ideal) S512x768 .f32) :: R)) = G := by
  funext y
  have hy : (y 1).val < 768 := (y 1).isLt
  by_cases c5 : 640 ≤ (y 1).val
  · refine (View.read_writes_cons_unit_of_mem v f _ _ _ y (ix2 (y 0) ⟨(y 1).val - 640, by omega⟩) rfl ?_).trans ((h5 _ _).trans (congrArg G ?_))
    · intro a
      match a with
      | 0 => exact (Nat.zero_add _).symm
      | 1 => show (y 1).val = 640 + ((y 1).val - 640); omega
    · exact (idx_ext2 rfl (by show (y 1).val = 128 * 5 + ((y 1).val - 640); omega)).symm
  rw [View.read_writes_cons_unit_of_not_mem v f _ _ _ y rfl 1 (Or.inl (by show (y 1).val < 640; omega))]
  by_cases c4 : 512 ≤ (y 1).val
  · refine (View.read_writes_cons_unit_of_mem v f _ _ _ y (ix2 (y 0) ⟨(y 1).val - 512, by omega⟩) rfl ?_).trans ((h4 _ _).trans (congrArg G ?_))
    · intro a
      match a with
      | 0 => exact (Nat.zero_add _).symm
      | 1 => show (y 1).val = 512 + ((y 1).val - 512); omega
    · exact (idx_ext2 rfl (by show (y 1).val = 128 * 4 + ((y 1).val - 512); omega)).symm
  rw [View.read_writes_cons_unit_of_not_mem v f _ _ _ y rfl 1 (Or.inl (by show (y 1).val < 512; omega))]
  by_cases c3 : 384 ≤ (y 1).val
  · refine (View.read_writes_cons_unit_of_mem v f _ _ _ y (ix2 (y 0) ⟨(y 1).val - 384, by omega⟩) rfl ?_).trans ((h3 _ _).trans (congrArg G ?_))
    · intro a
      match a with
      | 0 => exact (Nat.zero_add _).symm
      | 1 => show (y 1).val = 384 + ((y 1).val - 384); omega
    · exact (idx_ext2 rfl (by show (y 1).val = 128 * 3 + ((y 1).val - 384); omega)).symm
  rw [View.read_writes_cons_unit_of_not_mem v f _ _ _ y rfl 1 (Or.inl (by show (y 1).val < 384; omega))]
  by_cases c2 : 256 ≤ (y 1).val
  · refine (View.read_writes_cons_unit_of_mem v f _ _ _ y (ix2 (y 0) ⟨(y 1).val - 256, by omega⟩) rfl ?_).trans ((h2 _ _).trans (congrArg G ?_))
    · intro a
      match a with
      | 0 => exact (Nat.zero_add _).symm
      | 1 => show (y 1).val = 256 + ((y 1).val - 256); omega
    · exact (idx_ext2 rfl (by show (y 1).val = 128 * 2 + ((y 1).val - 256); omega)).symm
  rw [View.read_writes_cons_unit_of_not_mem v f _ _ _ y rfl 1 (Or.inl (by show (y 1).val < 256; omega))]
  by_cases c1 : 128 ≤ (y 1).val
  · refine (View.read_writes_cons_unit_of_mem v f _ _ _ y (ix2 (y 0) ⟨(y 1).val - 128, by omega⟩) rfl ?_).trans ((h1 _ _).trans (congrArg G ?_))
    · intro a
      match a with
      | 0 => exact (Nat.zero_add _).symm
      | 1 => show (y 1).val = 128 + ((y 1).val - 128); omega
    · exact (idx_ext2 rfl (by show (y 1).val = 128 * 1 + ((y 1).val - 128); omega)).symm
  rw [View.read_writes_cons_unit_of_not_mem v f _ _ _ y rfl 1 (Or.inl (by show (y 1).val < 128; omega))]
  by_cases c0 : 0 ≤ (y 1).val
  · refine (View.read_writes_cons_unit_of_mem v f _ _ _ y (ix2 (y 0) ⟨(y 1).val - 0, by omega⟩) rfl ?_).trans ((h0 _ _).trans (congrArg G ?_))
    · intro a
      match a with
      | 0 => exact (Nat.zero_add _).symm
      | 1 => show (y 1).val = 0 + ((y 1).val - 0); omega
    · exact (idx_ext2 rfl (by show (y 1).val = 128 * 0 + ((y 1).val - 0); omega)).symm
  omega

theorem rows6 (v : View sg κ sp S8x512 .f32) (f : v.ty.Contents (Elt Ideal)) (R : List (View.Piece (Elt Ideal) S8x512 .f32)) (G : Vec Ideal S8x512 .f32)
    (i0) (i1) (i2) (i3) (i4) (i5)
    (w0 : Vec Ideal S1x512 .f32) (w1 : Vec Ideal S1x512 .f32) (w2 : Vec Ideal S1x512 .f32) (w3 : Vec Ideal S1x512 .f32) (w4 : Vec Ideal S1x512 .f32) (w5 : Vec Ideal S1x512 .f32)
    (h0 : ∀ s, w0 (ix2 0 s) = G (ix2 (up 0) s))
    (h1 : ∀ s, w1 (ix2 0 s) = G (ix2 (up 1) s))
    (h2 : ∀ s, w2 (ix2 0 s) = G (ix2 (up 2) s))
    (h3 : ∀ s, w3 (ix2 0 s) = G (ix2 (up 3) s))
    (h4 : ∀ s, w4 (ix2 0 s) = G (ix2 (up 4) s))
    (h5 : ∀ s, w5 (ix2 0 s) = G (ix2 (up 5) s))
    (hR : ∀ y : S8x512.Idx, 6 ≤ (y 0).val → v.read (Elt Ideal) (v.writes (Elt Ideal) f R) y = G y) :
    v.read (Elt Ideal) (v.writes (Elt Ideal) f ((⟨Rect.unit (s := S8x512) ![5, 0] ![1, 512] i5, w5⟩ : View.Piece (Elt Ideal) S8x512 .f32) :: (⟨Rect.unit (s := S8x512) ![4, 0] ![1, 512] i4, w4⟩ : View.Piece (Elt Ideal) S8x512 .f32) :: (⟨Rect.unit (s := S8x512) ![3, 0] ![1, 512] i3, w3⟩ : View.Piece (Elt Ideal) S8x512 .f32) :: (⟨Rect.unit (s := S8x512) ![2, 0] ![1, 512] i2, w2⟩ : View.Piece (Elt Ideal) S8x512 .f32) :: (⟨Rect.unit (s := S8x512) ![1, 0] ![1, 512] i1, w1⟩ : View.Piece (Elt Ideal) S8x512 .f32) :: (⟨Rect.unit (s := S8x512) ![0, 0] ![1, 512] i0, w0⟩ : View.Piece (Elt Ideal) S8x512 .f32) :: R)) = G := by
  funext y
  by_cases c5 : (y 0).val = 5
  · refine (View.read_writes_cons_unit_of_mem v f _ _ _ y (ix2 0 (y 1)) rfl ?_).trans ((h5 _).trans (congrArg G ?_))
    · intro a
      match a with
      | 0 => exact c5
      | 1 => exact (Nat.zero_add _).symm
    · exact (idx_ext2 c5 rfl).symm
  rw [View.read_writes_cons_unit_of_not_mem v f _ _ _ y rfl 0 (by show (y 0).val < 5 ∨ 5 + 1 ≤ (y 0).val; omega)]
  by_cases c4 : (y 0).val = 4
  · refine (View.read_writes_cons_unit_of_mem v f _ _ _ y (ix2 0 (y 1)) rfl ?_).trans ((h4 _).trans (congrArg G ?_))
    · intro a
      match a with
      | 0 => exact c4
      | 1 => exact (Nat.zero_add _).symm
    · exact (idx_ext2 c4 rfl).symm
  rw [View.read_writes_cons_unit_of_not_mem v f _ _ _ y rfl 0 (by show (y 0).val < 4 ∨ 4 + 1 ≤ (y 0).val; omega)]
  by_cases c3 : (y 0).val = 3
  · refine (View.read_writes_cons_unit_of_mem v f _ _ _ y (ix2 0 (y 1)) rfl ?_).trans ((h3 _).trans (congrArg G ?_))
    · intro a
      match a with
      | 0 => exact c3
      | 1 => exact (Nat.zero_add _).symm
    · exact (idx_ext2 c3 rfl).symm
  rw [View.read_writes_cons_unit_of_not_mem v f _ _ _ y rfl 0 (by show (y 0).val < 3 ∨ 3 + 1 ≤ (y 0).val; omega)]
  by_cases c2 : (y 0).val = 2
  · refine (View.read_writes_cons_unit_of_mem v f _ _ _ y (ix2 0 (y 1)) rfl ?_).trans ((h2 _).trans (congrArg G ?_))
    · intro a
      match a with
      | 0 => exact c2
      | 1 => exact (Nat.zero_add _).symm
    · exact (idx_ext2 c2 rfl).symm
  rw [View.read_writes_cons_unit_of_not_mem v f _ _ _ y rfl 0 (by show (y 0).val < 2 ∨ 2 + 1 ≤ (y 0).val; omega)]
  by_cases c1 : (y 0).val = 1
  · refine (View.read_writes_cons_unit_of_mem v f _ _ _ y (ix2 0 (y 1)) rfl ?_).trans ((h1 _).trans (congrArg G ?_))
    · intro a
      match a with
      | 0 => exact c1
      | 1 => exact (Nat.zero_add _).symm
    · exact (idx_ext2 c1 rfl).symm
  rw [View.read_writes_cons_unit_of_not_mem v f _ _ _ y rfl 0 (by show (y 0).val < 1 ∨ 1 + 1 ≤ (y 0).val; omega)]
  by_cases c0 : (y 0).val = 0
  · refine (View.read_writes_cons_unit_of_mem v f _ _ _ y (ix2 0 (y 1)) rfl ?_).trans ((h0 _).trans (congrArg G ?_))
    · intro a
      match a with
      | 0 => exact c0
      | 1 => exact (Nat.zero_add _).symm
    · exact (idx_ext2 c0 rfl).symm
  rw [View.read_writes_cons_unit_of_not_mem v f _ _ _ y rfl 0 (by show (y 0).val < 0 ∨ 0 + 1 ≤ (y 0).val; omega)]
  exact hR y (by omega)

theorem outs6 (v : View sg κ sp S6x8x512 .f32) (f : v.ty.Contents (Elt Ideal)) (R : List (View.Piece (Elt Ideal) S6x8x512 .f32)) (G : Vec Ideal S6x8x512 .f32)
    (i0) (i1) (i2) (i3) (i4) (i5)
    (w0 : Vec Ideal S1x8x512 .f32) (w1 : Vec Ideal S1x8x512 .f32) (w2 : Vec Ideal S1x8x512 .f32) (w3 : Vec Ideal S1x8x512 .f32) (w4 : Vec Ideal S1x8x512 .f32) (w5 : Vec Ideal S1x8x512 .f32)
    (h0 : ∀ b s, w0 (ix3 0 b s) = G (ix3 0 b s))
    (h1 : ∀ b s, w1 (ix3 0 b s) = G (ix3 1 b s))
    (h2 : ∀ b s, w2 (ix3 0 b s) = G (ix3 2 b s))
    (h3 : ∀ b s, w3 (ix3 0 b s) = G (ix3 3 b s))
    (h4 : ∀ b s, w4 (ix3 0 b s) = G (ix3 4 b s))
    (h5 : ∀ b s, w5 (ix3 0 b s) = G (ix3 5 b s)) :
    v.read (Elt Ideal) (v.writes (Elt Ideal) f ((⟨Rect.unit (s := S6x8x512) ![5, 0, 0] ![1, 8, 512] i5, w5⟩ : View.Piece (Elt Ideal) S6x8x512 .f32) :: (⟨Rect.unit (s := S6x8x512) ![4, 0, 0] ![1, 8, 512] i4, w4⟩ : View.Piece (Elt Ideal) S6x8x512 .f32) :: (⟨Rect.unit (s := S6x8x512) ![3, 0, 0] ![1, 8, 512] i3, w3⟩ : View.Piece (Elt Ideal) S6x8x512 .f32) :: (⟨Rect.unit (s := S6x8x512) ![2, 0, 0] ![1, 8, 512] i2, w2⟩ : View.Piece (Elt Ideal) S6x8x512 .f32) :: (⟨Rect.unit (s := S6x8x512) ![1, 0, 0] ![1, 8, 512] i1, w1⟩ : View.Piece (Elt Ideal) S6x8x512 .f32) :: (⟨Rect.unit (s := S6x8x512) ![0, 0, 0] ![1, 8, 512] i0, w0⟩ : View.Piece (Elt Ideal) S6x8x512 .f32) :: R)) = G := by
  funext y
  have hy : (y 0).val < 6 := (y 0).isLt
  by_cases c5 : (y 0).val = 5
  · refine (View.read_writes_cons_unit_of_mem v f _ _ _ y (ix3 0 (y 1) (y 2)) rfl ?_).trans ((h5 _ _).trans (congrArg G ?_))
    · intro a
      match a with
      | 0 => exact c5
      | 1 => exact (Nat.zero_add _).symm
      | 2 => exact (Nat.zero_add _).symm
    · exact (idx_ext3 c5 rfl rfl).symm
  rw [View.read_writes_cons_unit_of_not_mem v f _ _ _ y rfl 0 (by show (y 0).val < 5 ∨ 5 + 1 ≤ (y 0).val; omega)]
  by_cases c4 : (y 0).val = 4
  · refine (View.read_writes_cons_unit_of_mem v f _ _ _ y (ix3 0 (y 1) (y 2)) rfl ?_).trans ((h4 _ _).trans (congrArg G ?_))
    · intro a
      match a with
      | 0 => exact c4
      | 1 => exact (Nat.zero_add _).symm
      | 2 => exact (Nat.zero_add _).symm
    · exact (idx_ext3 c4 rfl rfl).symm
  rw [View.read_writes_cons_unit_of_not_mem v f _ _ _ y rfl 0 (by show (y 0).val < 4 ∨ 4 + 1 ≤ (y 0).val; omega)]
  by_cases c3 : (y 0).val = 3
  · refine (View.read_writes_cons_unit_of_mem v f _ _ _ y (ix3 0 (y 1) (y 2)) rfl ?_).trans ((h3 _ _).trans (congrArg G ?_))
    · intro a
      match a with
      | 0 => exact c3
      | 1 => exact (Nat.zero_add _).symm
      | 2 => exact (Nat.zero_add _).symm
    · exact (idx_ext3 c3 rfl rfl).symm
  rw [View.read_writes_cons_unit_of_not_mem v f _ _ _ y rfl 0 (by show (y 0).val < 3 ∨ 3 + 1 ≤ (y 0).val; omega)]
  by_cases c2 : (y 0).val = 2
  · refine (View.read_writes_cons_unit_of_mem v f _ _ _ y (ix3 0 (y 1) (y 2)) rfl ?_).trans ((h2 _ _).trans (congrArg G ?_))
    · intro a
      match a with
      | 0 => exact c2
      | 1 => exact (Nat.zero_add _).symm
      | 2 => exact (Nat.zero_add _).symm
    · exact (idx_ext3 c2 rfl rfl).symm
  rw [View.read_writes_cons_unit_of_not_mem v f _ _ _ y rfl 0 (by show (y 0).val < 2 ∨ 2 + 1 ≤ (y 0).val; omega)]
  by_cases c1 : (y 0).val = 1
  · refine (View.read_writes_cons_unit_of_mem v f _ _ _ y (ix3 0 (y 1) (y 2)) rfl ?_).trans ((h1 _ _).trans (congrArg G ?_))
    · intro a
      match a with
      | 0 => exact c1
      | 1 => exact (Nat.zero_add _).symm
      | 2 => exact (Nat.zero_add _).symm
    · exact (idx_ext3 c1 rfl rfl).symm
  rw [View.read_writes_cons_unit_of_not_mem v f _ _ _ y rfl 0 (by show (y 0).val < 1 ∨ 1 + 1 ≤ (y 0).val; omega)]
  by_cases c0 : (y 0).val = 0
  · refine (View.read_writes_cons_unit_of_mem v f _ _ _ y (ix3 0 (y 1) (y 2)) rfl ?_).trans ((h0 _ _).trans (congrArg G ?_))
    · intro a
      match a with
      | 0 => exact c0
      | 1 => exact (Nat.zero_add _).symm
      | 2 => exact (Nat.zero_add _).symm
    · exact (idx_ext3 c0 rfl rfl).symm
  rw [View.read_writes_cons_unit_of_not_mem v f _ _ _ y rfl 0 (by show (y 0).val < 0 ∨ 0 + 1 ≤ (y 0).val; omega)]
  omega

end Read

end Cert.FoxV
end
-- ==== Proof.Fox.FrameIdeal.lean ====
/- The frame of `Kernel27Ideal`, the pass of the FoX backward that leaves the gradients of the keys, the values and the
   decay sums: six cases by the step's place in its row of the grid (first, last, neither) and by whether the table lets
   the block pair through. What the buffers hold after a step is a FUNCTION `step` of what they held before it. -/
module

public import proofs.«01_k».proof.Proof.Gen.Kernel27Ideal.Frame.RunF
public import Idealize.ShloMosaic.Lib.Claim

@[expose] public section

set_option maxRecDepth 16384

noncomputable section

namespace Cert.FoxI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel27Ideal Cert.Kernel27Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The table's word that the block pair of a step consults. -/
abbrev word (i : grid0.Coords) (xt : TbBuf0 (F := F) (0 : Dev nD) tbM0_0) : Elt F .i32 :=
  tbM0_0.view.readAt (Elt F) (Rect.unit (s := S32) (k0_off1 i) S1.size (k0_off1_inb i)).toLoadRect xt (Shape.Idx.first (numel1_S1.symm ▸ Nat.one_pos))

/-- The table lets step `t`'s block pair through. -/
abbrev Reach (hO : Ok m) (t : Fin (cfgM m hO).N) : Prop :=
  cond0_1 (grid0.coords t) (tbM0_0.view.readAt (Elt F) (Rect.unit (s := S32) (k0_off1 (grid0.coords t)) S1.size (k0_off1_inb (grid0.coords t))).toLoadRect (tbl m 0) (Shape.Idx.first (numel1_S1.symm ▸ Nat.one_pos)))

/-- What a step leaves: the two bf16 gradients, the decay gradient, and the three accumulators. -/
abbrev St (F : FTy → Type) : Type :=
  Vec F S512x768 .bf16 × Vec F S512x768 .bf16 × Vec F S6x8x512 .f32 × Vec F S512x768 .f32 × Vec F S512x768 .f32 × Vec F S8x512 .f32

/-- Buffers of which nothing is known. -/
def st0 : St F := (VO0_8.read (Elt F) VO0_8.junk, VO0_9.read (Elt F) VO0_9.junk, VO0_10.read (Elt F) VO0_10.junk,
  VS0_0.read (Elt F) VS0_0.junk, VS0_1.read (Elt F) VS0_1.junk, VS0_2.read (Elt F) VS0_2.junk)

/-- The body's run at a step first of its row, let through. -/
abbrev runA (hO : Ok m) (c : Dev nD) (t : Fin (cfgM m hO).N) (h0 : cond0_0 (grid0.coords t)) (h2 : ¬cond0_2 (grid0.coords t)) (h1 : Reach m hO t) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) h1

theorem covA_s0 (hO : Ok m) (c : Dev nD) (t : Fin (cfgM m hO).N) (h0 : cond0_0 (grid0.coords t)) (h2 : ¬cond0_2 (grid0.coords t)) (h1 : Reach m hO t) (y : S512x768.Idx) :
    ∃ pc ∈ (runA m hO c t h0 h2 h1).2.2.2.1, y ∈ pc.1.set :=
  View.cover_of_wholeMem (runA m hO c t h0 h2 h1).2.2.2.1 (by sl_whole_mem) y

theorem covA_s1 (hO : Ok m) (c : Dev nD) (t : Fin (cfgM m hO).N) (h0 : cond0_0 (grid0.coords t)) (h2 : ¬cond0_2 (grid0.coords t)) (h1 : Reach m hO t) (y : S512x768.Idx) :
    ∃ pc ∈ (runA m hO c t h0 h2 h1).2.2.2.2.1, y ∈ pc.1.set :=
  View.cover_of_wholeMem (runA m hO c t h0 h2 h1).2.2.2.2.1 (by sl_whole_mem) y

theorem covA_s2 (hO : Ok m) (c : Dev nD) (t : Fin (cfgM m hO).N) (h0 : cond0_0 (grid0.coords t)) (h2 : ¬cond0_2 (grid0.coords t)) (h1 : Reach m hO t) (y : S8x512.Idx) :
    ∃ pc ∈ (runA m hO c t h0 h2 h1).2.2.2.2.2.1, y ∈ pc.1.set :=
  View.cover_of_wholeMem (runA m hO c t h0 h2 h1).2.2.2.2.2.1 (by sl_whole_mem) y

/-- What it leaves. -/
def stA (hO : Ok m) (c : Dev nD) (t : Fin (cfgM m hO).N) (h0 : cond0_0 (grid0.coords t)) (h2 : ¬cond0_2 (grid0.coords t)) (h1 : Reach m hO t) : St F :=
  (VO0_8.read (Elt F) (VO0_8.writes (Elt F) VO0_8.junk (runA m hO c t h0 h2 h1).1),
   VO0_9.read (Elt F) (VO0_9.writes (Elt F) VO0_9.junk (runA m hO c t h0 h2 h1).2.1),
   VO0_10.read (Elt F) (VO0_10.writes (Elt F) VO0_10.junk (runA m hO c t h0 h2 h1).2.2.1),
   VS0_0.read (Elt F) (VS0_0.writes (Elt F) VS0_0.junk (runA m hO c t h0 h2 h1).2.2.2.1),
   VS0_1.read (Elt F) (VS0_1.writes (Elt F) VS0_1.junk (runA m hO c t h0 h2 h1).2.2.2.2.1),
   VS0_2.read (Elt F) (VS0_2.writes (Elt F) VS0_2.junk (runA m hO c t h0 h2 h1).2.2.2.2.2.1))

/-- The body's run at a step first of its row, barred. -/
abbrev runB (hO : Ok m) (c : Dev nD) (t : Fin (cfgM m hO).N) (h0 : cond0_0 (grid0.coords t)) (h2 : ¬cond0_2 (grid0.coords t)) (h1 : ¬Reach m hO t) :=
  kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) h1

theorem covB_s0 (hO : Ok m) (c : Dev nD) (t : Fin (cfgM m hO).N) (h0 : cond0_0 (grid0.coords t)) (h2 : ¬cond0_2 (grid0.coords t)) (h1 : ¬Reach m hO t) (y : S512x768.Idx) :
    ∃ pc ∈ (runB m hO c t h0 h2 h1).2.2.2.1, y ∈ pc.1.set :=
  View.cover_of_tiledL (runB m hO c t h0 h2 h1).2.2.2.1 S512x768.size (by sl_kernel_rfl) y

theorem covB_s1 (hO : Ok m) (c : Dev nD) (t : Fin (cfgM m hO).N) (h0 : cond0_0 (grid0.coords t)) (h2 : ¬cond0_2 (grid0.coords t)) (h1 : ¬Reach m hO t) (y : S512x768.Idx) :
    ∃ pc ∈ (runB m hO c t h0 h2 h1).2.2.2.2.1, y ∈ pc.1.set :=
  View.cover_of_tiledL (runB m hO c t h0 h2 h1).2.2.2.2.1 S512x768.size (by sl_kernel_rfl) y

theorem covB_s2 (hO : Ok m) (c : Dev nD) (t : Fin (cfgM m hO).N) (h0 : cond0_0 (grid0.coords t)) (h2 : ¬cond0_2 (grid0.coords t)) (h1 : ¬Reach m hO t) (y : S8x512.Idx) :
    ∃ pc ∈ (runB m hO c t h0 h2 h1).2.2.2.2.2.1, y ∈ pc.1.set :=
  View.cover_of_tiledL (runB m hO c t h0 h2 h1).2.2.2.2.2.1 S8x512.size (by sl_kernel_rfl) y

/-- What it leaves. -/
def stB (hO : Ok m) (c : Dev nD) (t : Fin (cfgM m hO).N) (h0 : cond0_0 (grid0.coords t)) (h2 : ¬cond0_2 (grid0.coords t)) (h1 : ¬Reach m hO t) : St F :=
  (VO0_8.read (Elt F) (VO0_8.writes (Elt F) VO0_8.junk (runB m hO c t h0 h2 h1).1),
   VO0_9.read (Elt F) (VO0_9.writes (Elt F) VO0_9.junk (runB m hO c t h0 h2 h1).2.1),
   VO0_10.read (Elt F) (VO0_10.writes (Elt F) VO0_10.junk (runB m hO c t h0 h2 h1).2.2.1),
   VS0_0.read (Elt F) (VS0_0.writes (Elt F) VS0_0.junk (runB m hO c t h0 h2 h1).2.2.2.1),
   VS0_1.read (Elt F) (VS0_1.writes (Elt F) VS0_1.junk (runB m hO c t h0 h2 h1).2.2.2.2.1),
   VS0_2.read (Elt F) (VS0_2.writes (Elt F) VS0_2.junk (runB m hO c t h0 h2 h1).2.2.2.2.2.1))

/-- The body's run at a step inner, let through. -/
abbrev runC (hO : Ok m) (c : Dev nD) (t : Fin (cfgM m hO).N) (h0 : ¬cond0_0 (grid0.coords t)) (h2 : ¬cond0_2 (grid0.coords t)) (h1 : Reach m hO t) (p : St F) :=
  kernelRun0_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1

theorem covC_s0 (hO : Ok m) (c : Dev nD) (t : Fin (cfgM m hO).N) (h0 : ¬cond0_0 (grid0.coords t)) (h2 : ¬cond0_2 (grid0.coords t)) (h1 : Reach m hO t) (p : St F) (y : S512x768.Idx) :
    ∃ pc ∈ (runC m hO c t h0 h2 h1 p).2.2.2.1, y ∈ pc.1.set :=
  View.cover_of_tiledL (runC m hO c t h0 h2 h1 p).2.2.2.1 S512x128.size (by sl_kernel_rfl) y

theorem covC_s1 (hO : Ok m) (c : Dev nD) (t : Fin (cfgM m hO).N) (h0 : ¬cond0_0 (grid0.coords t)) (h2 : ¬cond0_2 (grid0.coords t)) (h1 : Reach m hO t) (p : St F) (y : S512x768.Idx) :
    ∃ pc ∈ (runC m hO c t h0 h2 h1 p).2.2.2.2.1, y ∈ pc.1.set :=
  View.cover_of_tiledL (runC m hO c t h0 h2 h1 p).2.2.2.2.1 S512x128.size (by sl_kernel_rfl) y

/-- What it leaves. -/
def stC (hO : Ok m) (c : Dev nD) (t : Fin (cfgM m hO).N) (h0 : ¬cond0_0 (grid0.coords t)) (h2 : ¬cond0_2 (grid0.coords t)) (h1 : Reach m hO t) (p : St F) : St F :=
  (VO0_8.read (Elt F) (VO0_8.writes (Elt F) VO0_8.junk (runC m hO c t h0 h2 h1 p).1),
   VO0_9.read (Elt F) (VO0_9.writes (Elt F) VO0_9.junk (runC m hO c t h0 h2 h1 p).2.1),
   VO0_10.read (Elt F) (VO0_10.writes (Elt F) VO0_10.junk (runC m hO c t h0 h2 h1 p).2.2.1),
   VS0_0.read (Elt F) (VS0_0.writes (Elt F) VS0_0.junk (runC m hO c t h0 h2 h1 p).2.2.2.1),
   VS0_1.read (Elt F) (VS0_1.writes (Elt F) VS0_1.junk (runC m hO c t h0 h2 h1 p).2.2.2.2.1),
   VS0_2.read (Elt F) (VS0_2.writes (Elt F) ((Memref.isWhole_whole cc0_scratch2).unread p.2.2.2.2.2) (runC m hO c t h0 h2 h1 p).2.2.2.2.2.1))

/-- The body's run at a step inner, barred. -/
abbrev runD (hO : Ok m) (c : Dev nD) (t : Fin (cfgM m hO).N) (h0 : ¬cond0_0 (grid0.coords t)) (h2 : ¬cond0_2 (grid0.coords t)) (h1 : ¬Reach m hO t) (p : St F) :=
  kernelRun0_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1

/-- What it leaves. -/
def stD (hO : Ok m) (c : Dev nD) (t : Fin (cfgM m hO).N) (h0 : ¬cond0_0 (grid0.coords t)) (h2 : ¬cond0_2 (grid0.coords t)) (h1 : ¬Reach m hO t) (p : St F) : St F :=
  (VO0_8.read (Elt F) (VO0_8.writes (Elt F) VO0_8.junk (runD m hO c t h0 h2 h1 p).1),
   VO0_9.read (Elt F) (VO0_9.writes (Elt F) VO0_9.junk (runD m hO c t h0 h2 h1 p).2.1),
   VO0_10.read (Elt F) (VO0_10.writes (Elt F) VO0_10.junk (runD m hO c t h0 h2 h1 p).2.2.1),
   p.2.2.2.1,
   p.2.2.2.2.1,
   p.2.2.2.2.2)

/-- The body's run at a step last of its row, let through. -/
abbrev runE (hO : Ok m) (c : Dev nD) (t : Fin (cfgM m hO).N) (h0 : ¬cond0_0 (grid0.coords t)) (h2 : cond0_2 (grid0.coords t)) (h1 : Reach m hO t) (p : St F) :=
  kernelRun0_E c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1

theorem covE_o8 (hO : Ok m) (c : Dev nD) (t : Fin (cfgM m hO).N) (h0 : ¬cond0_0 (grid0.coords t)) (h2 : cond0_2 (grid0.coords t)) (h1 : Reach m hO t) (p : St F) (y : S512x768.Idx) :
    ∃ pc ∈ (runE m hO c t h0 h2 h1 p).1, y ∈ pc.1.set :=
  View.cover_of_tiledL (runE m hO c t h0 h2 h1 p).1 S512x768.size (by sl_kernel_rfl) y

theorem covE_o9 (hO : Ok m) (c : Dev nD) (t : Fin (cfgM m hO).N) (h0 : ¬cond0_0 (grid0.coords t)) (h2 : cond0_2 (grid0.coords t)) (h1 : Reach m hO t) (p : St F) (y : S512x768.Idx) :
    ∃ pc ∈ (runE m hO c t h0 h2 h1 p).2.1, y ∈ pc.1.set :=
  View.cover_of_tiledL (runE m hO c t h0 h2 h1 p).2.1 S512x768.size (by sl_kernel_rfl) y

theorem covE_o10 (hO : Ok m) (c : Dev nD) (t : Fin (cfgM m hO).N) (h0 : ¬cond0_0 (grid0.coords t)) (h2 : cond0_2 (grid0.coords t)) (h1 : Reach m hO t) (p : St F) (y : S6x8x512.Idx) :
    ∃ pc ∈ (runE m hO c t h0 h2 h1 p).2.2.1, y ∈ pc.1.set :=
  View.cover_of_tiledL (runE m hO c t h0 h2 h1 p).2.2.1 S1x8x512.size (by sl_kernel_rfl) y

theorem covE_s0 (hO : Ok m) (c : Dev nD) (t : Fin (cfgM m hO).N) (h0 : ¬cond0_0 (grid0.coords t)) (h2 : cond0_2 (grid0.coords t)) (h1 : Reach m hO t) (p : St F) (y : S512x768.Idx) :
    ∃ pc ∈ (runE m hO c t h0 h2 h1 p).2.2.2.1, y ∈ pc.1.set :=
  View.cover_of_tiledL (runE m hO c t h0 h2 h1 p).2.2.2.1 S512x128.size (by sl_kernel_rfl) y

theorem covE_s1 (hO : Ok m) (c : Dev nD) (t : Fin (cfgM m hO).N) (h0 : ¬cond0_0 (grid0.coords t)) (h2 : cond0_2 (grid0.coords t)) (h1 : Reach m hO t) (p : St F) (y : S512x768.Idx) :
    ∃ pc ∈ (runE m hO c t h0 h2 h1 p).2.2.2.2.1, y ∈ pc.1.set :=
  View.cover_of_tiledL (runE m hO c t h0 h2 h1 p).2.2.2.2.1 S512x128.size (by sl_kernel_rfl) y

/-- What it leaves. -/
def stE (hO : Ok m) (c : Dev nD) (t : Fin (cfgM m hO).N) (h0 : ¬cond0_0 (grid0.coords t)) (h2 : cond0_2 (grid0.coords t)) (h1 : Reach m hO t) (p : St F) : St F :=
  (VO0_8.read (Elt F) (VO0_8.writes (Elt F) VO0_8.junk (runE m hO c t h0 h2 h1 p).1),
   VO0_9.read (Elt F) (VO0_9.writes (Elt F) VO0_9.junk (runE m hO c t h0 h2 h1 p).2.1),
   VO0_10.read (Elt F) (VO0_10.writes (Elt F) VO0_10.junk (runE m hO c t h0 h2 h1 p).2.2.1),
   VS0_0.read (Elt F) (VS0_0.writes (Elt F) VS0_0.junk (runE m hO c t h0 h2 h1 p).2.2.2.1),
   VS0_1.read (Elt F) (VS0_1.writes (Elt F) VS0_1.junk (runE m hO c t h0 h2 h1 p).2.2.2.2.1),
   VS0_2.read (Elt F) (VS0_2.writes (Elt F) ((Memref.isWhole_whole cc0_scratch2).unread p.2.2.2.2.2) (runE m hO c t h0 h2 h1 p).2.2.2.2.2.1))

/-- The body's run at a step last of its row, barred. -/
abbrev runF (hO : Ok m) (c : Dev nD) (t : Fin (cfgM m hO).N) (h0 : ¬cond0_0 (grid0.coords t)) (h2 : cond0_2 (grid0.coords t)) (h1 : ¬Reach m hO t) (p : St F) :=
  kernelRun0_F c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1

theorem covF_o8 (hO : Ok m) (c : Dev nD) (t : Fin (cfgM m hO).N) (h0 : ¬cond0_0 (grid0.coords t)) (h2 : cond0_2 (grid0.coords t)) (h1 : ¬Reach m hO t) (p : St F) (y : S512x768.Idx) :
    ∃ pc ∈ (runF m hO c t h0 h2 h1 p).1, y ∈ pc.1.set :=
  View.cover_of_tiledL (runF m hO c t h0 h2 h1 p).1 S512x768.size (by sl_kernel_rfl) y

theorem covF_o9 (hO : Ok m) (c : Dev nD) (t : Fin (cfgM m hO).N) (h0 : ¬cond0_0 (grid0.coords t)) (h2 : cond0_2 (grid0.coords t)) (h1 : ¬Reach m hO t) (p : St F) (y : S512x768.Idx) :
    ∃ pc ∈ (runF m hO c t h0 h2 h1 p).2.1, y ∈ pc.1.set :=
  View.cover_of_tiledL (runF m hO c t h0 h2 h1 p).2.1 S512x768.size (by sl_kernel_rfl) y

theorem covF_o10 (hO : Ok m) (c : Dev nD) (t : Fin (cfgM m hO).N) (h0 : ¬cond0_0 (grid0.coords t)) (h2 : cond0_2 (grid0.coords t)) (h1 : ¬Reach m hO t) (p : St F) (y : S6x8x512.Idx) :
    ∃ pc ∈ (runF m hO c t h0 h2 h1 p).2.2.1, y ∈ pc.1.set :=
  View.cover_of_tiledL (runF m hO c t h0 h2 h1 p).2.2.1 S1x8x512.size (by sl_kernel_rfl) y

/-- What it leaves. -/
def stF (hO : Ok m) (c : Dev nD) (t : Fin (cfgM m hO).N) (h0 : ¬cond0_0 (grid0.coords t)) (h2 : cond0_2 (grid0.coords t)) (h1 : ¬Reach m hO t) (p : St F) : St F :=
  (VO0_8.read (Elt F) (VO0_8.writes (Elt F) VO0_8.junk (runF m hO c t h0 h2 h1 p).1),
   VO0_9.read (Elt F) (VO0_9.writes (Elt F) VO0_9.junk (runF m hO c t h0 h2 h1 p).2.1),
   VO0_10.read (Elt F) (VO0_10.writes (Elt F) VO0_10.junk (runF m hO c t h0 h2 h1 p).2.2.1),
   p.2.2.2.1,
   p.2.2.2.2.1,
   p.2.2.2.2.2)

/-- What step `t` leaves, from what the step before it left. -/
def step (hO : Ok m) (c : Dev nD) (t : Fin (cfgM m hO).N) (p : St F) : St F :=
  if h0 : cond0_0 (grid0.coords t) then
    if h2 : cond0_2 (grid0.coords t) then p
    else if h1 : Reach m hO t then stA m hO c t h0 h2 h1 else stB m hO c t h0 h2 h1
  else if h2 : cond0_2 (grid0.coords t) then
    if h1 : Reach m hO t then stE m hO c t h0 h2 h1 p else stF m hO c t h0 h2 h1 p
  else if h1 : Reach m hO t then stC m hO c t h0 h2 h1 p else stD m hO c t h0 h2 h1 p

theorem step_A (hO : Ok m) (c : Dev nD) (t : Fin (cfgM m hO).N) (h0 : cond0_0 (grid0.coords t)) (h2 : ¬cond0_2 (grid0.coords t)) (h1 : Reach m hO t) (p : St F) :
    step m hO c t p = stA m hO c t h0 h2 h1 := by
  unfold step; rw [dif_pos h0, dif_neg h2, dif_pos h1]

theorem step_B (hO : Ok m) (c : Dev nD) (t : Fin (cfgM m hO).N) (h0 : cond0_0 (grid0.coords t)) (h2 : ¬cond0_2 (grid0.coords t)) (h1 : ¬Reach m hO t) (p : St F) :
    step m hO c t p = stB m hO c t h0 h2 h1 := by
  unfold step; rw [dif_pos h0, dif_neg h2, dif_neg h1]

theorem step_C (hO : Ok m) (c : Dev nD) (t : Fin (cfgM m hO).N) (h0 : ¬cond0_0 (grid0.coords t)) (h2 : ¬cond0_2 (grid0.coords t)) (h1 : Reach m hO t) (p : St F) :
    step m hO c t p = stC m hO c t h0 h2 h1 p := by
  unfold step; rw [dif_neg h0, dif_neg h2, dif_pos h1]

theorem step_D (hO : Ok m) (c : Dev nD) (t : Fin (cfgM m hO).N) (h0 : ¬cond0_0 (grid0.coords t)) (h2 : ¬cond0_2 (grid0.coords t)) (h1 : ¬Reach m hO t) (p : St F) :
    step m hO c t p = stD m hO c t h0 h2 h1 p := by
  unfold step; rw [dif_neg h0, dif_neg h2, dif_neg h1]

theorem step_E (hO : Ok m) (c : Dev nD) (t : Fin (cfgM m hO).N) (h0 : ¬cond0_0 (grid0.coords t)) (h2 : cond0_2 (grid0.coords t)) (h1 : Reach m hO t) (p : St F) :
    step m hO c t p = stE m hO c t h0 h2 h1 p := by
  unfold step; rw [dif_neg h0, dif_pos h2, dif_pos h1]

theorem step_F (hO : Ok m) (c : Dev nD) (t : Fin (cfgM m hO).N) (h0 : ¬cond0_0 (grid0.coords t)) (h2 : cond0_2 (grid0.coords t)) (h1 : ¬Reach m hO t) (p : St F) :
    step m hO c t p = stF m hO c t h0 h2 h1 p := by
  unfold step; rw [dif_neg h0, dif_pos h2, dif_neg h1]

/-- What the buffers hold after step `n`. -/
def outsAt (hO : Ok m) (c : Dev nD) : (n : ℕ) → n < (cfgM m hO).N → St F
  | 0, hn => step m hO c ⟨0, hn⟩ st0
  | n + 1, hn => step m hO c ⟨n + 1, hn⟩ (outsAt hO c n (Nat.lt_of_succ_lt hn))

/-- What they held before step `n`. -/
def prev (hO : Ok m) (c : Dev nD) (t : Fin (cfgM m hO).N) : St F :=
  if h : t.val = 0 then st0 else outsAt m hO c (t.val - 1) (Nat.lt_of_le_of_lt (Nat.sub_le _ _) t.isLt)

theorem prev_pos (hO : Ok m) (c : Dev nD) (t : Fin (cfgM m hO).N) (hz : t.val ≠ 0) :
    prev m hO c t = outsAt m hO c (t.val - 1) (Nat.lt_of_le_of_lt (Nat.sub_le _ _) t.isLt) := dif_neg hz

theorem outsAt_eq (hO : Ok m) (c : Dev nD) (t : Fin (cfgM m hO).N) :
    outsAt m hO c t.val t.isLt = step m hO c t (prev m hO c t) := by
  obtain ⟨n, hn⟩ := t
  cases n with
  | zero => rfl
  | succ n => rfl

def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt m hO c n hn).2.2.2.1) ∗ owns (c : Thread nD τ) scM0_1 fullShare ((outsAt m hO c n hn).2.2.2.2.1) ∗ owns (c : Thread nD τ) scM0_2 fullShare ((outsAt m hO c n hn).2.2.2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare ((outsAt m hO c n hn).2.2.2.1) ∗ owns (c : Thread nD τ) scM0_1 fullShare ((outsAt m hO c n hn).2.2.2.2.1) ∗ owns (c : Thread nD τ) scM0_2 fullShare ((outsAt m hO c n hn).2.2.2.2.2)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare ((outsAt m hO c (n - 1) (by omega)).2.2.2.1) ∗ owns (c : Thread nD τ) scM0_1 fullShare ((outsAt m hO c (n - 1) (by omega)).2.2.2.2.1) ∗ owns (c : Thread nD τ) scM0_2 fullShare ((outsAt m hO c (n - 1) (by omega)).2.2.2.2.2)) ∗ (∃ r, prngReg c r)) ∗ Pipeline.ΦT pre0 (tbl m) c) := by
  cases n with
  | zero => exact absurd rfl hz
  | succ n => rfl

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt m hO c t.val t.isLt).1
    | ⟨9, _⟩ => (outsAt m hO c t.val t.isLt).2.1
    | ⟨10, _⟩ => (outsAt m hO c t.val t.isLt).2.2.1
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = (outsAt m hO c t.val t.isLt).1 := by dsimp only [dats]; try rfl
theorem after0_9 (hO : Ok m) (c : Dev nD) (t : Fin (cfgM m hO).N) : (dats m hO 0 c).after 9 t = (outsAt m hO c t.val t.isLt).2.1 := by dsimp only [dats]; try rfl
theorem after0_10 (hO : Ok m) (c : Dev nD) (t : Fin (cfgM m hO).N) : (dats m hO 0 c).after 10 t = (outsAt m hO c t.val t.isLt).2.2.1 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t)

set_option maxHeartbeats 4000000 in
theorem body_A (hO : Ok m) (c : Dev nD) (t : Fin (cfgM m hO).N) (h0 : cond0_0 (grid0.coords t)) (h2 : ¬cond0_2 (grid0.coords t)) (h1 : Reach m hO t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [Dat.leavesExact_idle (dats m hO 0 c) 8 t (idleAt0_8_A m hO t h0 h2) (noFlush0_8_A m hO t h0 h2)]
  rw [Dat.leavesExact_idle (dats m hO 0 c) 9 t (idleAt0_9_A m hO t h0 h2) (noFlush0_9_A m hO t h0 h2)]
  rw [Dat.leavesExact_idle (dats m hO 0 c) 10 t (idleAt0_10_A m hO t h0 h2) (noFlush0_10_A m hO t h0 h2)]
  rw [outsAt_eq, step_A m hO c t h0 h2 h1]
  by_cases hz : t.val = 0
  · rw [PhiS_castSucc m hO c t, PhiS_zero m hO c _ _ hz, PhiT0_eq, PhiA0_eq]
    unfold stA; (try dsimp only)
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ _ _ h0 h2 (iblk m hO c 0 t) (iblk m hO c 1 t) (iblk m hO c 2 t) (iblk m hO c 3 t) (iblk m hO c 4 t) (iblk m hO c 5 t) (iblk m hO c 6 t) (iblk m hO c 7 t) (tbl m 0) h1).2.2.2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HT0]; · iexact HT0
    iintro ⟨H0, H1, H2, H3, H4, H5, H6, H7, H8, H9, H10, ⟨%es0, HS0⟩, ⟨%es1, HS1⟩, ⟨%es2, HS2⟩, HT0⟩
    isplitl [HS0 HS1 HS2 Hg HT0]
    · isplitl [HS0 HS1 HS2 Hg]
      · isplitl [HS0 HS1 HS2]
        · isplitl [HS0]
          · unfold owns; iexists _; isplitr
            swap; · iexact HS0
            ipureintro; exact View.read_writes_of_cover _ _ _ _ _ (covA_s0 m hO c t h0 h2 h1)
          isplitl [HS1]
          · unfold owns; iexists _; isplitr
            swap; · iexact HS1
            ipureintro; exact View.read_writes_of_cover _ _ _ _ _ (covA_s1 m hO c t h0 h2 h1)
          unfold owns; iexists _; isplitr
          swap; · iexact HS2
          ipureintro; exact View.read_writes_of_cover _ _ _ _ _ (covA_s2 m hO c t h0 h2 h1)
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10
  · rw [PhiS_castSucc m hO c t, PhiS_pos m hO c _ _ hz, PhiT0_eq]
    unfold stA; (try dsimp only)
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ _ _ h0 h2 (iblk m hO c 0 t) (iblk m hO c 1 t) (iblk m hO c 2 t) (iblk m hO c 3 t) (iblk m hO c 4 t) (iblk m hO c 5 t) (iblk m hO c 6 t) (iblk m hO c 7 t) (tbl m 0) h1).2.2.2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexists _; iexact HS0
    isplitl [HS1]; · iexists _; iexact HS1
    isplitl [HS2]; · iexists _; iexact HS2
    isplitl [HT0]; · iexact HT0
    iintro ⟨H0, H1, H2, H3, H4, H5, H6, H7, H8, H9, H10, ⟨%es0, HS0⟩, ⟨%es1, HS1⟩, ⟨%es2, HS2⟩, HT0⟩
    isplitl [HS0 HS1 HS2 Hg HT0]
    · isplitl [HS0 HS1 HS2 Hg]
      · isplitl [HS0 HS1 HS2]
        · isplitl [HS0]
          · unfold owns; iexists _; isplitr
            swap; · iexact HS0
            ipureintro; exact View.read_writes_of_cover _ _ _ _ _ (covA_s0 m hO c t h0 h2 h1)
          isplitl [HS1]
          · unfold owns; iexists _; isplitr
            swap; · iexact HS1
            ipureintro; exact View.read_writes_of_cover _ _ _ _ _ (covA_s1 m hO c t h0 h2 h1)
          unfold owns; iexists _; isplitr
          swap; · iexact HS2
          ipureintro; exact View.read_writes_of_cover _ _ _ _ _ (covA_s2 m hO c t h0 h2 h1)
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10

set_option maxHeartbeats 4000000 in
theorem body_B (hO : Ok m) (c : Dev nD) (t : Fin (cfgM m hO).N) (h0 : cond0_0 (grid0.coords t)) (h2 : ¬cond0_2 (grid0.coords t)) (h1 : ¬Reach m hO t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [Dat.leavesExact_idle (dats m hO 0 c) 8 t (idleAt0_8_B m hO t h0 h2) (noFlush0_8_B m hO t h0 h2)]
  rw [Dat.leavesExact_idle (dats m hO 0 c) 9 t (idleAt0_9_B m hO t h0 h2) (noFlush0_9_B m hO t h0 h2)]
  rw [Dat.leavesExact_idle (dats m hO 0 c) 10 t (idleAt0_10_B m hO t h0 h2) (noFlush0_10_B m hO t h0 h2)]
  rw [outsAt_eq, step_B m hO c t h0 h2 h1]
  by_cases hz : t.val = 0
  · rw [PhiS_castSucc m hO c t, PhiS_zero m hO c _ _ hz, PhiT0_eq, PhiA0_eq]
    unfold stB; (try dsimp only)
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ _ _ _ _ h0 h2 (iblk m hO c 0 t) (iblk m hO c 1 t) (iblk m hO c 2 t) (iblk m hO c 3 t) (iblk m hO c 4 t) (iblk m hO c 5 t) (iblk m hO c 6 t) (iblk m hO c 7 t) (tbl m 0) h1).2.2.2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HT0]; · iexact HT0
    iintro ⟨H0, H1, H2, H3, H4, H5, H6, H7, H8, H9, H10, ⟨%es0, HS0⟩, ⟨%es1, HS1⟩, ⟨%es2, HS2⟩, HT0⟩
    isplitl [HS0 HS1 HS2 Hg HT0]
    · isplitl [HS0 HS1 HS2 Hg]
      · isplitl [HS0 HS1 HS2]
        · isplitl [HS0]
          · unfold owns; iexists _; isplitr
            swap; · iexact HS0
            ipureintro; exact View.read_writes_of_cover _ _ _ _ _ (covB_s0 m hO c t h0 h2 h1)
          isplitl [HS1]
          · unfold owns; iexists _; isplitr
            swap; · iexact HS1
            ipureintro; exact View.read_writes_of_cover _ _ _ _ _ (covB_s1 m hO c t h0 h2 h1)
          unfold owns; iexists _; isplitr
          swap; · iexact HS2
          ipureintro; exact View.read_writes_of_cover _ _ _ _ _ (covB_s2 m hO c t h0 h2 h1)
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10
  · rw [PhiS_castSucc m hO c t, PhiS_pos m hO c _ _ hz, PhiT0_eq]
    unfold stB; (try dsimp only)
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ _ _ _ _ h0 h2 (iblk m hO c 0 t) (iblk m hO c 1 t) (iblk m hO c 2 t) (iblk m hO c 3 t) (iblk m hO c 4 t) (iblk m hO c 5 t) (iblk m hO c 6 t) (iblk m hO c 7 t) (tbl m 0) h1).2.2.2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexists _; iexact HS0
    isplitl [HS1]; · iexists _; iexact HS1
    isplitl [HS2]; · iexists _; iexact HS2
    isplitl [HT0]; · iexact HT0
    iintro ⟨H0, H1, H2, H3, H4, H5, H6, H7, H8, H9, H10, ⟨%es0, HS0⟩, ⟨%es1, HS1⟩, ⟨%es2, HS2⟩, HT0⟩
    isplitl [HS0 HS1 HS2 Hg HT0]
    · isplitl [HS0 HS1 HS2 Hg]
      · isplitl [HS0 HS1 HS2]
        · isplitl [HS0]
          · unfold owns; iexists _; isplitr
            swap; · iexact HS0
            ipureintro; exact View.read_writes_of_cover _ _ _ _ _ (covB_s0 m hO c t h0 h2 h1)
          isplitl [HS1]
          · unfold owns; iexists _; isplitr
            swap; · iexact HS1
            ipureintro; exact View.read_writes_of_cover _ _ _ _ _ (covB_s1 m hO c t h0 h2 h1)
          unfold owns; iexists _; isplitr
          swap; · iexact HS2
          ipureintro; exact View.read_writes_of_cover _ _ _ _ _ (covB_s2 m hO c t h0 h2 h1)
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10

set_option maxHeartbeats 4000000 in
theorem body_C (hO : Ok m) (c : Dev nD) (t : Fin (cfgM m hO).N) (h0 : ¬cond0_0 (grid0.coords t)) (h2 : ¬cond0_2 (grid0.coords t)) (h1 : Reach m hO t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [Dat.leavesExact_idle (dats m hO 0 c) 8 t (idleAt0_8_C m hO t h0 h2) (noFlush0_8_C m hO t h0 h2)]
  rw [Dat.leavesExact_idle (dats m hO 0 c) 9 t (idleAt0_9_C m hO t h0 h2) (noFlush0_9_C m hO t h0 h2)]
  rw [Dat.leavesExact_idle (dats m hO 0 c) 10 t (idleAt0_10_C m hO t h0 h2) (noFlush0_10_C m hO t h0 h2)]
  rw [outsAt_eq, step_C m hO c t h0 h2 h1]
  have hz : t.val ≠ 0 := fun h => h0 ((hcond0_0 t).mpr (by rw [h]))
  rw [PhiS_castSucc m hO c t, PhiS_pos m hO c _ _ hz, PhiT0_eq, ← prev_pos m hO c t hz]
  unfold stC; (try dsimp only)
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_C c (grid0.coords t) _ _ _ _ _ _ _ _ _ _ _ _ _ _ _ _ _ _ _ _ _ _ _ _ _ _ _ _ h0 h2 (iblk m hO c 0 t) (iblk m hO c 1 t) (iblk m hO c 2 t) (iblk m hO c 3 t) (iblk m hO c 4 t) (iblk m hO c 5 t) (iblk m hO c 6 t) (iblk m hO c 7 t) (tbl m 0) _ _ _ h1).2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HT0]; · iexact HT0
  iintro ⟨H0, H1, H2, H3, H4, H5, H6, H7, H8, H9, H10, ⟨%es0, HS0⟩, ⟨%es1, HS1⟩, HS2, HT0⟩
  isplitl [HS0 HS1 HS2 Hg HT0]
  · isplitl [HS0 HS1 HS2 Hg]
    · isplitl [HS0 HS1 HS2]
      · isplitl [HS0]
        · unfold owns; iexists _; isplitr
          swap; · iexact HS0
          ipureintro; exact View.read_writes_of_cover _ _ _ _ _ (covC_s0 m hO c t h0 h2 h1 _)
        isplitl [HS1]
        · unfold owns; iexists _; isplitr
          swap; · iexact HS1
          ipureintro; exact View.read_writes_of_cover _ _ _ _ _ (covC_s1 m hO c t h0 h2 h1 _)
        unfold owns; iexists _; isplitr
        swap; · iexact HS2
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexists _; iexact H10

set_option maxHeartbeats 4000000 in
theorem body_D (hO : Ok m) (c : Dev nD) (t : Fin (cfgM m hO).N) (h0 : ¬cond0_0 (grid0.coords t)) (h2 : ¬cond0_2 (grid0.coords t)) (h1 : ¬Reach m hO t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [Dat.leavesExact_idle (dats m hO 0 c) 8 t (idleAt0_8_D m hO t h0 h2) (noFlush0_8_D m hO t h0 h2)]
  rw [Dat.leavesExact_idle (dats m hO 0 c) 9 t (idleAt0_9_D m hO t h0 h2) (noFlush0_9_D m hO t h0 h2)]
  rw [Dat.leavesExact_idle (dats m hO 0 c) 10 t (idleAt0_10_D m hO t h0 h2) (noFlush0_10_D m hO t h0 h2)]
  rw [outsAt_eq, step_D m hO c t h0 h2 h1]
  have hz : t.val ≠ 0 := fun h => h0 ((hcond0_0 t).mpr (by rw [h]))
  rw [PhiS_castSucc m hO c t, PhiS_pos m hO c _ _ hz, PhiT0_eq, ← prev_pos m hO c t hz]
  unfold stD; (try dsimp only)
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_D c (grid0.coords t) _ _ _ _ _ _ _ _ _ _ _ _ _ _ _ _ _ _ _ _ _ _ _ _ _ _ _ _ h0 h2 (iblk m hO c 0 t) (iblk m hO c 1 t) (iblk m hO c 2 t) (iblk m hO c 3 t) (iblk m hO c 4 t) (iblk m hO c 5 t) (iblk m hO c 6 t) (iblk m hO c 7 t) (tbl m 0) _ _ _ h1).2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HT0]; · iexact HT0
  iintro ⟨H0, H1, H2, H3, H4, H5, H6, H7, H8, H9, H10, HS0, HS1, HS2, HT0⟩
  isplitl [HS0 HS1 HS2 Hg HT0]
  · isplitl [HS0 HS1 HS2 Hg]
    · isplitl [HS0 HS1 HS2]
      · isplitl [HS0]
        · iexact HS0
        isplitl [HS1]
        · iexact HS1
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexists _; iexact H10

set_option maxHeartbeats 4000000 in
theorem body_E (hO : Ok m) (c : Dev nD) (t : Fin (cfgM m hO).N) (h0 : ¬cond0_0 (grid0.coords t)) (h2 : cond0_2 (grid0.coords t)) (h1 : Reach m hO t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8_E m hO t h0 h2]; try rfl, after0_8]
  rw [show (dats m hO 0 c).leavesExact 9 t = owns (c : Thread nD τ) (ms0_9 m hO t) fullShare ((dats m hO 0 c).after 9 t) from by
    unfold Dat.leavesExact; rw [liveAt0_9_E m hO t h0 h2]; try rfl, after0_9]
  rw [show (dats m hO 0 c).leavesExact 10 t = owns (c : Thread nD τ) (ms0_10 m hO t) fullShare ((dats m hO 0 c).after 10 t) from by
    unfold Dat.leavesExact; rw [liveAt0_10_E m hO t h0 h2]; try rfl, after0_10]
  rw [outsAt_eq, step_E m hO c t h0 h2 h1]
  have hz : t.val ≠ 0 := fun h => h0 ((hcond0_0 t).mpr (by rw [h]))
  rw [PhiS_castSucc m hO c t, PhiS_pos m hO c _ _ hz, PhiT0_eq, ← prev_pos m hO c t hz]
  unfold stE; (try dsimp only)
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_E c (grid0.coords t) _ _ _ _ _ _ _ _ _ _ _ _ _ _ _ _ _ _ _ _ _ _ _ _ _ _ _ _ h0 h2 (iblk m hO c 0 t) (iblk m hO c 1 t) (iblk m hO c 2 t) (iblk m hO c 3 t) (iblk m hO c 4 t) (iblk m hO c 5 t) (iblk m hO c 6 t) (iblk m hO c 7 t) (tbl m 0) _ _ _ h1).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HT0]; · iexact HT0
  iintro ⟨H0, H1, H2, H3, H4, H5, H6, H7, ⟨%e8, H8⟩, ⟨%e9, H9⟩, ⟨%e10, H10⟩, ⟨%es0, HS0⟩, ⟨%es1, HS1⟩, HS2, HT0⟩
  isplitl [HS0 HS1 HS2 Hg HT0]
  · isplitl [HS0 HS1 HS2 Hg]
    · isplitl [HS0 HS1 HS2]
      · isplitl [HS0]
        · unfold owns; iexists _; isplitr
          swap; · iexact HS0
          ipureintro; exact View.read_writes_of_cover _ _ _ _ _ (covE_s0 m hO c t h0 h2 h1 _)
        isplitl [HS1]
        · unfold owns; iexists _; isplitr
          swap; · iexact HS1
          ipureintro; exact View.read_writes_of_cover _ _ _ _ _ (covE_s1 m hO c t h0 h2 h1 _)
        unfold owns; iexists _; isplitr
        swap; · iexact HS2
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (covE_o8 m hO c t h0 h2 h1 _)
  isplitl [H9]
  · unfold owns; iexists _; isplitr
    swap; · iexact H9
    ipureintro; exact View.read_writes_of_cover _ _ _ _ _ (covE_o9 m hO c t h0 h2 h1 _)
  unfold owns; iexists _; isplitr
  swap; · iexact H10
  ipureintro; exact View.read_writes_of_cover _ _ _ _ _ (covE_o10 m hO c t h0 h2 h1 _)

set_option maxHeartbeats 4000000 in
theorem body_F (hO : Ok m) (c : Dev nD) (t : Fin (cfgM m hO).N) (h0 : ¬cond0_0 (grid0.coords t)) (h2 : cond0_2 (grid0.coords t)) (h1 : ¬Reach m hO t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8_F m hO t h0 h2]; try rfl, after0_8]
  rw [show (dats m hO 0 c).leavesExact 9 t = owns (c : Thread nD τ) (ms0_9 m hO t) fullShare ((dats m hO 0 c).after 9 t) from by
    unfold Dat.leavesExact; rw [liveAt0_9_F m hO t h0 h2]; try rfl, after0_9]
  rw [show (dats m hO 0 c).leavesExact 10 t = owns (c : Thread nD τ) (ms0_10 m hO t) fullShare ((dats m hO 0 c).after 10 t) from by
    unfold Dat.leavesExact; rw [liveAt0_10_F m hO t h0 h2]; try rfl, after0_10]
  rw [outsAt_eq, step_F m hO c t h0 h2 h1]
  have hz : t.val ≠ 0 := fun h => h0 ((hcond0_0 t).mpr (by rw [h]))
  rw [PhiS_castSucc m hO c t, PhiS_pos m hO c _ _ hz, PhiT0_eq, ← prev_pos m hO c t hz]
  unfold stF; (try dsimp only)
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_F c (grid0.coords t) _ _ _ _ _ _ _ _ _ _ _ _ _ _ _ _ _ _ _ _ _ _ _ _ _ _ _ _ h0 h2 (iblk m hO c 0 t) (iblk m hO c 1 t) (iblk m hO c 2 t) (iblk m hO c 3 t) (iblk m hO c 4 t) (iblk m hO c 5 t) (iblk m hO c 6 t) (iblk m hO c 7 t) (tbl m 0) _ _ _ h1).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HT0]; · iexact HT0
  iintro ⟨H0, H1, H2, H3, H4, H5, H6, H7, ⟨%e8, H8⟩, ⟨%e9, H9⟩, ⟨%e10, H10⟩, HS0, HS1, HS2, HT0⟩
  isplitl [HS0 HS1 HS2 Hg HT0]
  · isplitl [HS0 HS1 HS2 Hg]
    · isplitl [HS0 HS1 HS2]
      · isplitl [HS0]
        · iexact HS0
        isplitl [HS1]
        · iexact HS1
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (covF_o8 m hO c t h0 h2 h1 _)
  isplitl [H9]
  · unfold owns; iexists _; isplitr
    swap; · iexact H9
    ipureintro; exact View.read_writes_of_cover _ _ _ _ _ (covF_o9 m hO c t h0 h2 h1 _)
  unfold owns; iexists _; isplitr
  swap; · iexact H10
  ipureintro; exact View.read_writes_of_cover _ _ _ _ _ (covF_o10 m hO c t h0 h2 h1 _)

/-- The body at any step. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  by_cases h0 : cond0_0 (grid0.coords t)
  · have h2 : ¬cond0_2 (grid0.coords t) := fun h => by
      have a := (hcond0_0 t).mp h0; have b := (hcond0_2 t).mp h; omega
    by_cases h1 : Reach m hO t
    · exact body_A m hO c t h0 h2 h1
    · exact body_B m hO c t h0 h2 h1
  · by_cases h2 : cond0_2 (grid0.coords t)
    · by_cases h1 : Reach m hO t
      · exact body_E m hO c t h0 h2 h1
      · exact body_F m hO c t h0 h2 h1
    · by_cases h1 : Reach m hO t
      · exact body_C m hO c t h0 h2 h1
      · exact body_D m hO c t h0 h2 h1

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 256 := N_0; omega)

/-! ## The run and the frame -/

-- `θ_run_frameP_track_shared`'s implicit arguments are found by unifying its conclusion with this one, which takes unfolding plain
-- definitions in a metavariable's type
set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.FoxI

end
-- ==== Proof.Fox.Host.lean ====
module

public import proofs.«01_k».proof.Proof.Gen.Kernel27Ideal.Frame.Runs
public import proofs.«01_k».proof.Proof.Gen.Reference27Ideal.Read
public import proofs.«01_k».proof.Proof.Mem.Spec
public import proofs.«01_k».proof.Proof.Mem.Real

@[expose] public section

set_option maxRecDepth 16384

noncomputable section

namespace Cert.FoxV

open Cert.Kernel27Ideal Cert.Kernel27Ideal.Gen Cert.Mem Idealize.ShloMosaic Idealize.ShloMosaic.TcCoe Idealize.SL.Sem
open Cert.Reference27Ideal.Read

variable {F : FTy → Type} [FloatOps F] [Named F]

/-! What the host computes before the call: the rows' log-sums, the rows' corrections and the table. -/

/-- The masked scores, and the rows' greatest. -/
abbrev hS (x0 : Vec F S8192x6144 .f32) (x1 : Vec F S6x8192 .f32) : Vec F S6x8192x8192 .f32 := val_main_v24_0 (F := F) x0 x1
abbrev hT (x0 : Vec F S8192x6144 .f32) (x1 : Vec F S6x8192 .f32) : Vec F S6x8192 .f32 := val_main_v25 (F := F) x0 x1

/-- The rows' sums of exponentials. -/
def hE (x0 : Vec F S8192x6144 .f32) (x1 : Vec F S6x8192 .f32) : Vec F S6x8192 .f32 :=
  Host.reduceAdd (Host.exp (subf (hS x0 x1) (broadcastInDim S6x8192x8192 ![0, 1, 2] bcast_S6x8192x1_S6x8192x8192_0_1_2 (broadcastInDim S6x8192x1 ![0, 1] bcast_S6x8192_S6x8192x1_0_1 (hT x0 x1)))))
    (constant S_ .f32 0x00000000#32) reducesTo_S6x8192x8192_S6x8192_d2 h_S_

/-- The rows' log-sums. -/
def hL (x0 : Vec F S8192x6144 .f32) (x1 : Vec F S6x8192 .f32) : Vec F S6x8192 .f32 := addf (hT x0 x1) (Host.log (hE x0 x1))

/-- The weights. -/
def hP (x0 : Vec F S8192x6144 .f32) (x1 : Vec F S6x8192 .f32) : Vec F S6x8192x8192 .f32 :=
  Host.exp (subf (hS x0 x1) (broadcastInDim S6x8192x8192 ![0, 1, 2] bcast_S6x8192x1_S6x8192x8192_0_1_2 (broadcastInDim S6x8192x1 ![0, 1] bcast_S6x8192_S6x8192x1_0_1 (hL x0 x1))))

/-- The rows' corrections: the weights against the weights' cotangents. -/
def hD (x0 : Vec F S8192x6144 .f32) (x1 : Vec F S6x8192 .f32) (x2 : Vec F S8192x768 .f32) : Vec F S6x8192 .f32 :=
  Host.reduceAdd (mulf (hP x0 x1) (val_main_v60 (F := F) x0 x2)) (constant S_ .f32 0x00000000#32) reducesTo_S6x8192x8192_S6x8192_d2 h_S_

/-- A row's value on every lane. -/
def hB (x : Vec F S6x8192 .f32) : Vec F S6x8192x128 .f32 :=
  broadcastInDim S6x8192x128 ![0, 1, 2] bcast_S6x8192x1_S6x8192x128_0_1_2 (broadcastInDim S6x8192x1 ![0, 1] bcast_S6x8192_S6x8192x1_0_1 x)

/-- The decay sums with two rows of zeros below. -/
def hC (x1 : Vec F S6x8192 .f32) : Vec F S8x8192 .f32 :=
  concatenate S8x8192 0 [⟨S6x8192, x1⟩, ⟨S2x8192, broadcastInDim S2x8192 ![] bcast_S_S2x8192 (constant S_ .f32 0x00000000#32)⟩] concatenates_S6x8192_S2x8192_S8x8192_d0

/-- The table of the furthest blocks. -/
def hW : Vec F S32 .i32 :=
  concatenate S32 0 [⟨S16, broadcastInDim S16 ![] bcast_S_S16 (constantI S_ 32 0#32)⟩, ⟨S16, broadcastInDim S16 ![] bcast_S_S16 (constantI S_ 32 15#32)⟩] concatenates_S16_S16_S32_d0

variable (m : (ℓ : Loc nD τ sig) → Buf (Elt F) ℓ) (c : Dev nD)

set_option maxHeartbeats 8000000

theorem V44 : V m c main_v44 = hW (F := F) := by
  simp only [V, List.flatten, List.append_eq, List.nil_append, List.cons_append, List.append_nil, StableHlo.TRef.nullary, StableHlo.TRef.ternary, StableHlo.TRef.unary, StableHlo.TRef.toBuf, StableHlo.TRef.ofBuf, cast_eq]
  after_results_simp
  unfold hW
  rfl

theorem V50 : V m c main_v50 = hB (hL (m ((c : Thread nD τ).loc main_arg0)) (m ((c : Thread nD τ).loc main_arg1))) := by
  simp only [V, List.flatten, List.append_eq, List.nil_append, List.cons_append, List.append_nil, StableHlo.TRef.nullary, StableHlo.TRef.ternary, StableHlo.TRef.unary, StableHlo.TRef.toBuf, StableHlo.TRef.ofBuf, cast_eq]
  after_results_simp
  unfold hB hL hE
  rfl

theorem V48 : V m c main_v48 = hB (m ((c : Thread nD τ).loc main_arg1)) := by
  simp only [V, List.flatten, List.append_eq, List.nil_append, List.cons_append, List.append_nil, StableHlo.TRef.nullary, StableHlo.TRef.ternary, StableHlo.TRef.unary, StableHlo.TRef.toBuf, StableHlo.TRef.ofBuf, cast_eq]
  after_results_simp
  unfold hB
  rfl

theorem V46 : V m c main_v46 = hC (m ((c : Thread nD τ).loc main_arg1)) := by
  simp only [V, List.flatten, List.append_eq, List.nil_append, List.cons_append, List.append_nil, StableHlo.TRef.nullary, StableHlo.TRef.ternary, StableHlo.TRef.unary, StableHlo.TRef.toBuf, StableHlo.TRef.ofBuf, cast_eq]
  after_results_simp
  unfold hC
  rfl

theorem V52 : V m c main_v52 = hB (hD (m ((c : Thread nD τ).loc main_arg0)) (m ((c : Thread nD τ).loc main_arg1)) (m ((c : Thread nD τ).loc main_arg2))) := by
  simp only [V, List.flatten, List.append_eq, List.nil_append, List.cons_append, List.append_nil, StableHlo.TRef.nullary, StableHlo.TRef.ternary, StableHlo.TRef.unary, StableHlo.TRef.toBuf, StableHlo.TRef.ofBuf, cast_eq]
  after_results_simp
  unfold hB hD hP hL hE
  rfl

end Cert.FoxV

end
-- ==== Proof.Fox.Table.lean ====
module

public import proofs.«01_k».proof.Proof.Fox.FrameIdeal
public import proofs.«01_k».proof.Proof.Fox.Host
public import Idealize.ShloMosaic.Lib.Pipeline.ValueKit

@[expose] public section

set_option maxRecDepth 16384

noncomputable section

namespace Cert.FoxV

open Cert.Kernel27Ideal Cert.Kernel27Ideal.Gen  Idealize.ShloMosaic Idealize.ShloMosaic.TcCoe Idealize.SL.Sem

variable {F : FTy → Type} [FloatOps F] [Named F]
variable (m : (ℓ : Loc nD τ sig) → Buf (Elt F) ℓ)

/-! The table of the furthest blocks is constant: every block is reached up to the last one. -/

set_option maxHeartbeats 8000000

theorem hW_hi (y : S32.Idx) (hy : 16 ≤ (y 0).val) : hW (F := F) y = 15#32 := by
  have h32 : (y 0).val < 32 := (y 0).isLt
  refine (concatenate_pair_apply_right (t := S32) (s₁ := S16) (s₂ := S16) 0 _ _ _ y rfl rfl (ix1 (⟨(y 0).val - 16, by omega⟩ : Fin 16)) (fun b hb => ?_) ?_).trans rfl
  · exact absurd (Subsingleton.elim _ _) hb
  · show (y 0).val - 16 + 16 = (y 0).val
    omega

theorem off1_val (i : grid0.Coords) : k0_off1 i 0 = 16 + (i 0).val := by
  have h : (i 0).val < 16 := (i 0).isLt
  have key : ∀ a : Fin 16, (Scalar.indexCast (Scalar.addi 16#32 (BitVec.ofNat 32 a.val))).toNat = 16 + a.val := by decide +kernel
  exact key ⟨(i 0).val, h⟩

theorem tbl_eq : tbl m 0 = hW (F := F) := V44 m 0

theorem word_eq (i : grid0.Coords) (h : ∀ a, (k0_off1 i) a + S1.size a ≤ S32.size a) (n : S1.numel = 1) :
    (tbl m).at 0 (Rect.unit (s := S32) (k0_off1 i) S1.size h) n = 15#32 := by
  show tbl m 0 _ = _
  rw [tbl_eq]
  refine hW_hi _ ?_
  show 16 ≤ k0_off1 i 0 + 1 * _
  rw [off1_val]
  omega

theorem blk_le (a b : Fin 16) : (Scalar.minsi (Scalar.addi (BitVec.ofNat 32 a.val) (BitVec.ofNat 32 b.val)) 15#32).toNat = min (a.val + b.val) 15 := by
  revert a b
  decide +kernel

theorem tr0 (i : grid0.Coords) : cc0_transform_0 k0_off1_inb numel1_S1 (tbl m) i = ![min ((i 0).val + (i 1).val) 15, 4] := by
  have e : cc0_transform_0 k0_off1_inb numel1_S1 (tbl m) i
      = ![(Scalar.minsi (Scalar.addi (BitVec.ofNat 32 (i 0).val) (BitVec.ofNat 32 (i 1).val)) ((tbl m).at 0 (Rect.unit (s := S32) (k0_off1 i) S1.size (k0_off1_inb i)) numel1_S1)).toNat, 4] := rfl
  rw [e, word_eq, blk_le ⟨(i 0).val, (i 0).isLt⟩ ⟨(i 1).val, (i 1).isLt⟩]

theorem tr4 (i : grid0.Coords) : cc0_transform_4 k0_off1_inb numel1_S1 (tbl m) i = ![0, min ((i 0).val + (i 1).val) 15, 0] := by
  have e : cc0_transform_4 k0_off1_inb numel1_S1 (tbl m) i
      = ![0, (Scalar.minsi (Scalar.addi (BitVec.ofNat 32 (i 0).val) (BitVec.ofNat 32 (i 1).val)) ((tbl m).at 0 (Rect.unit (s := S32) (k0_off1 i) S1.size (k0_off1_inb i)) numel1_S1)).toNat, 0] := rfl
  rw [e, word_eq, blk_le ⟨(i 0).val, (i 0).isLt⟩ ⟨(i 1).val, (i 1).isLt⟩]

theorem tr5 (i : grid0.Coords) : cc0_transform_5 k0_off1_inb numel1_S1 (tbl m) i = ![0, min ((i 0).val + (i 1).val) 15, 0] := by
  have e : cc0_transform_5 k0_off1_inb numel1_S1 (tbl m) i
      = ![0, (Scalar.minsi (Scalar.addi (BitVec.ofNat 32 (i 0).val) (BitVec.ofNat 32 (i 1).val)) ((tbl m).at 0 (Rect.unit (s := S32) (k0_off1 i) S1.size (k0_off1_inb i)) numel1_S1)).toNat, 0] := rfl
  rw [e, word_eq, blk_le ⟨(i 0).val, (i 0).isLt⟩ ⟨(i 1).val, (i 1).isLt⟩]

theorem tr6 (i : grid0.Coords) : cc0_transform_6 k0_off1_inb numel1_S1 (tbl m) i = ![0, min ((i 0).val + (i 1).val) 15, 0] := by
  have e : cc0_transform_6 k0_off1_inb numel1_S1 (tbl m) i
      = ![0, (Scalar.minsi (Scalar.addi (BitVec.ofNat 32 (i 0).val) (BitVec.ofNat 32 (i 1).val)) ((tbl m).at 0 (Rect.unit (s := S32) (k0_off1 i) S1.size (k0_off1_inb i)) numel1_S1)).toNat, 0] := rfl
  rw [e, word_eq, blk_le ⟨(i 0).val, (i 0).isLt⟩ ⟨(i 1).val, (i 1).isLt⟩]

theorem tr7 (i : grid0.Coords) : cc0_transform_7 k0_off1_inb numel1_S1 (tbl m) i = ![min ((i 0).val + (i 1).val) 15, 0] := by
  have e : cc0_transform_7 k0_off1_inb numel1_S1 (tbl m) i
      = ![(Scalar.minsi (Scalar.addi (BitVec.ofNat 32 (i 0).val) (BitVec.ofNat 32 (i 1).val)) ((tbl m).at 0 (Rect.unit (s := S32) (k0_off1 i) S1.size (k0_off1_inb i)) numel1_S1)).toNat, 0] := rfl
  rw [e, word_eq, blk_le ⟨(i 0).val, (i 0).isLt⟩ ⟨(i 1).val, (i 1).isLt⟩]

theorem ok : Ok m := by
  refine ⟨fun i => ⟨fun a => ?_, Or.inl rfl⟩, fun i => ⟨fun a => ?_, Or.inl rfl⟩, fun i => ⟨fun a => ?_, Or.inl rfl⟩, fun i => ⟨fun a => ?_, Or.inl rfl⟩, fun i => ⟨fun a => ?_, Or.inl rfl⟩⟩
  · rw [tr0]
    match a with
    | 0 => show (min ((i 0).val + (i 1).val) 15 + 1) * 512 ≤ 8192; omega
    | 1 => show (4 + 1) * 768 ≤ 6144; omega
  · rw [tr4]
    match a with
    | 0 => show (0 + 1) * 6 ≤ 6; omega
    | 1 => show (min ((i 0).val + (i 1).val) 15 + 1) * 512 ≤ 8192; omega
    | 2 => show (0 + 1) * 128 ≤ 128; omega
  · rw [tr5]
    match a with
    | 0 => show (0 + 1) * 6 ≤ 6; omega
    | 1 => show (min ((i 0).val + (i 1).val) 15 + 1) * 512 ≤ 8192; omega
    | 2 => show (0 + 1) * 128 ≤ 128; omega
  · rw [tr6]
    match a with
    | 0 => show (0 + 1) * 6 ≤ 6; omega
    | 1 => show (min ((i 0).val + (i 1).val) 15 + 1) * 512 ≤ 8192; omega
    | 2 => show (0 + 1) * 128 ≤ 128; omega
  · rw [tr7]
    match a with
    | 0 => show (min ((i 0).val + (i 1).val) 15 + 1) * 512 ≤ 8192; omega
    | 1 => show (0 + 1) * 768 ≤ 768; omega

theorem reach (i : grid0.Coords) (h : ∀ a, (k0_off1 i) a + S1.size a ≤ S32.size a) (h' : 0 < (Rect.unit (s := S32) (k0_off1 i) S1.size h).toLoadRect.shape.numel) :
    cond0_1 i (tbM0_0.view.readAt (Elt F) (Rect.unit (s := S32) (k0_off1 i) S1.size h).toLoadRect (tbl m 0) (Shape.Idx.first h')) ↔ (i 0).val + (i 1).val ≤ 15 := by
  have e : tbM0_0.view.readAt (Elt F) (Rect.unit (s := S32) (k0_off1 i) S1.size h).toLoadRect (tbl m 0) (Shape.Idx.first h') = 15#32 :=
    word_eq m i h numel1_S1
  rw [e]
  have key : ∀ a b : Fin 16, (Scalar.cmpi .ne (Scalar.extui (Scalar.cmpi .sle (Scalar.addi (BitVec.ofNat 32 a.val) (BitVec.ofNat 32 b.val)) 15#32) : BitVec 32) 0#32) = 1#1 ↔ a.val + b.val ≤ 15 := by decide +kernel
  exact key ⟨(i 0).val, (i 0).isLt⟩ ⟨(i 1).val, (i 1).isLt⟩

end Cert.FoxV

end
-- ==== Proof.Fox.AccBase.lean ====
module

public import proofs.«01_k».proof.Proof.Fox.Block
public import proofs.«01_k».proof.Proof.Fox.FrameIdeal
public import proofs.«01_k».proof.Proof.Fox.Table

@[expose] public section

set_option maxRecDepth 16384

noncomputable section

namespace Cert.FoxV

set_option maxHeartbeats 4000000

open Cert.Mem Cert.FoxI Cert.Kernel27Ideal Cert.Kernel27Ideal.Gen Idealize.ShloMosaic Idealize.ShloMosaic.TcCoe Idealize.SL.Sem

variable (m : (ℓ : Loc nD τ sig) → Buf (Elt Ideal) ℓ) (hO : Ok m) (c : Dev nD)

/-! ## The three accumulators as sums over the steps of a row -/

theorem t_lt (t : Fin (cfgM m hO).N) : t.val < 256 := Nat.lt_of_lt_of_eq t.isLt N_0
theorem co0 (t : Fin (cfgM m hO).N) : (grid0.coords t 0).val = t.val / 16 := by
  have e : (grid0.coords t 0).val = t.val / 16 % 16 := Pipeline.Grid.coords_val (G := grid0) t 0 (by decide) rfl
  have := t_lt m hO t
  omega
theorem co1 (t : Fin (cfgM m hO).N) : (grid0.coords t 1).val = t.val % 16 := by
  have e : (grid0.coords t 1).val = t.val / 1 % 16 := Pipeline.Grid.coords_val (G := grid0) t 1 (by decide) rfl
  omega
theorem reach_iff (t : Fin (cfgM m hO).N) : Reach m hO t ↔ t.val / 16 + t.val % 16 ≤ 15 := by
  have h := reach m (grid0.coords t) (k0_off1_inb _) (numel1_S1.symm ▸ Nat.one_pos)
  rwa [co0, co1] at h

abbrev wa (t : Fin (cfgM m hO).N) : BitVec 32 := BitVec.ofNat 32 ↑(grid0.coords t 0)
abbrev wb (t : Fin (cfgM m hO).N) : BitVec 32 := Scalar.addi (BitVec.ofNat 32 ↑(grid0.coords t 0)) (BitVec.ofNat 32 ↑(grid0.coords t 1))

/-- The fetched blocks. -/
abbrev B0 (t : Fin (cfgM m hO).N) : Vec Ideal S512x768 .f32 := iblk m hO c 0 t
abbrev B1 (t : Fin (cfgM m hO).N) : Vec Ideal S512x768 .f32 := iblk m hO c 1 t
abbrev B2 (t : Fin (cfgM m hO).N) : Vec Ideal S512x768 .f32 := iblk m hO c 2 t
abbrev B3 (t : Fin (cfgM m hO).N) : Vec Ideal S8x512 .f32 := iblk m hO c 3 t
abbrev B4 (t : Fin (cfgM m hO).N) : Vec Ideal S6x512x128 .f32 := iblk m hO c 4 t
abbrev B5 (t : Fin (cfgM m hO).N) : Vec Ideal S6x512x128 .f32 := iblk m hO c 5 t
abbrev B6 (t : Fin (cfgM m hO).N) : Vec Ideal S6x512x128 .f32 := iblk m hO c 6 t
abbrev B7 (t : Fin (cfgM m hO).N) : Vec Ideal S512x768 .f32 := iblk m hO c 7 t

/-- A block's weights and score gradients at a step. -/
abbrev tPB (t : Fin (cfgM m hO).N) (h : Fin 6) (r s : Fin 512) : EReal :=
  bP (wa m hO t) (wb m hO t) (B0 m hO c t) (B1 m hO c t) (B3 m hO c t) (B4 m hO c t) (B5 m hO c t) h r s
abbrev tDB (t : Fin (cfgM m hO).N) (h : Fin 6) (r s : Fin 512) : EReal :=
  bD (wa m hO t) (wb m hO t) (B0 m hO c t) (B1 m hO c t) (B2 m hO c t) (B7 m hO c t) (B3 m hO c t) (B4 m hO c t) (B5 m hO c t) (B6 m hO c t) h r s

def termV (t : Fin (cfgM m hO).N) (y : S512x768.Idx) : EReal :=
  if t.val / 16 + t.val % 16 ≤ 15 then ∑ r, tPB m hO c t (hd (y 1)) r (y 0) * B7 m hO c t (ix2 r (y 1)) else 0
def termK (t : Fin (cfgM m hO).N) (y : S512x768.Idx) : EReal :=
  if t.val / 16 + t.val % 16 ≤ 15 then (∑ r, tDB m hO c t (hd (y 1)) r (y 0) * B0 m hO c t (ix2 r (y 1))) * cs else 0
def termC (t : Fin (cfgM m hO).N) (y : S8x512.Idx) : EReal :=
  if t.val / 16 + t.val % 16 ≤ 15 then (if h : (y 0).val < 6 then - ∑ r, tDB m hO c t ⟨(y 0).val, h⟩ r (y 1) else 0) else 0

theorem gV_eq (t : Fin (cfgM m hO).N) (h : t.val / 16 + t.val % 16 ≤ 15) (o : Vec Ideal S512x768 .f32) (y : S512x768.Idx) :
    gV (wa m hO t) (wb m hO t) (B0 m hO c t) (B1 m hO c t) (B7 m hO c t) (B3 m hO c t) (B4 m hO c t) (B5 m hO c t) o y = o y + termV m hO c t y := by
  unfold termV; rw [if_pos h]; rfl
theorem gK_eq (t : Fin (cfgM m hO).N) (h : t.val / 16 + t.val % 16 ≤ 15) (o : Vec Ideal S512x768 .f32) (y : S512x768.Idx) :
    gK (wa m hO t) (wb m hO t) (B0 m hO c t) (B1 m hO c t) (B2 m hO c t) (B7 m hO c t) (B3 m hO c t) (B4 m hO c t) (B5 m hO c t) (B6 m hO c t) o y = o y + termK m hO c t y := by
  unfold termK; rw [if_pos h]; rfl
theorem gC_eq (t : Fin (cfgM m hO).N) (h : t.val / 16 + t.val % 16 ≤ 15) (o : Vec Ideal S8x512 .f32) (y : S8x512.Idx) :
    gC (wa m hO t) (wb m hO t) (B0 m hO c t) (B1 m hO c t) (B2 m hO c t) (B7 m hO c t) (B3 m hO c t) (B4 m hO c t) (B5 m hO c t) (B6 m hO c t) o y = o y + termC m hO c t y := by
  unfold termC; rw [if_pos h]; unfold gC
  by_cases hy : (y 0).val < 6
  · rw [dif_pos hy, dif_pos hy]; exact sub_eq_add_neg _ _
  · rw [dif_neg hy, dif_neg hy]; exact (add_zero _).symm

end Cert.FoxV

end
-- ==== Proof.Fox.Spec.lean ====
module

public import proofs.«01_k».proof.Proof.Fox.AccBase

@[expose] public section

set_option maxRecDepth 16384

noncomputable section

namespace Cert.FoxV

open Cert.Mem Cert.Kernel27Ideal Cert.Kernel27Ideal.Gen Idealize.ShloMosaic Idealize.ShloMosaic.TcCoe Idealize.SL.Sem

/-! ## The attention of whole rows -/

section Rows

variable (x0 : Vec Ideal S8192x6144 .f32) (x1 : Vec Ideal S6x8192 .f32) (x2 : Vec Ideal S8192x768 .f32) (L D : Vec Ideal S6x8192 .f32)

/-- The columns of the queries, of the keys and of the values. -/
def cq (d : Fin 768) : Fin 6144 := ⟨3072 + d.val, by omega⟩
def ck (d : Fin 768) : Fin 6144 := ⟨3840 + d.val, by omega⟩
def cv (d : Fin 768) : Fin 6144 := ⟨4608 + d.val, by omega⟩

/-- The unmasked score of query `p` and key `q`, and the masked one. -/
def sraw (h : Fin 6) (p q : Fin 8192) : EReal :=
  (∑ x, x0 (ix2 p (cq (colOf h x))) * x0 (ix2 q (ck (colOf h x)))) * cs + (x1 (ix2 h p) - x1 (ix2 h q))
def smask (h : Fin 6) (p q : Fin 8192) : EReal := if q.val ≤ p.val then sraw x0 x1 h p q else ⊥

/-- The cotangent of the weight. -/
def dwt (h : Fin 6) (p q : Fin 8192) : EReal := ∑ x, x2 (ix2 p (colOf h x)) * x0 (ix2 q (cv (colOf h x)))

/-- The weight and the cotangent of the score, of the rows' log-sums and corrections. -/
def wt (h : Fin 6) (p q : Fin 8192) : EReal := Ideal.exp (smask x0 x1 h p q - L (ix2 h p))
def dsc (h : Fin 6) (p q : Fin 8192) : EReal := wt x0 x1 L h p q * (dwt x0 x2 h p q - D (ix2 h p))

theorem wt_late (h : Fin 6) (p q : Fin 8192) (hpq : p.val < q.val) : wt x0 x1 L h p q = 0 := by
  unfold wt smask
  rw [if_neg (by omega), sub_eq_add_neg, EReal.bot_add]
  rfl
theorem dsc_late (h : Fin 6) (p q : Fin 8192) (hpq : p.val < q.val) : dsc x0 x1 x2 L D h p q = 0 := by
  unfold dsc
  rw [wt_late x0 x1 L h p q hpq, zero_mul]

theorem mask_bot : (Named.named κ "mask" 4048155338#32 : Ideal .f32) = (⊥ : EReal) := rfl

theorem sees_iff (a b : Fin 16) (r s : Fin 512) :
    sees (BitVec.ofNat 32 a.val) (Scalar.addi (BitVec.ofNat 32 a.val) (BitVec.ofNat 32 b.val)) r s = 1 ↔ 512 * a.val + s.val ≤ 512 * (a.val + b.val) + r.val := by
  have e0 (n : Fin 512) : (BitVec.ofNat 32 n.val).toInt = (n.val : ℤ) := by
    have := n.isLt
    rw [BitVec.toInt_eq_toNat_of_lt (by rw [BitVec.toNat_ofNat]; omega), BitVec.toNat_ofNat]
    omega
  have e1 : (IntOp.subi (BitVec.ofNat 32 s.val) (BitVec.ofNat 32 r.val)).toInt = (s.val : ℤ) - r.val := by
    show (BitVec.ofNat 32 s.val - BitVec.ofNat 32 r.val).toInt = _
    have := s.isLt
    have := r.isLt
    rw [BitVec.toInt_sub, e0, e0, Int.bmod_eq_of_le (by omega) (by omega)]
  have e2 : (Scalar.subi (Scalar.addi (Scalar.muli (Scalar.addi (BitVec.ofNat 32 a.val) (BitVec.ofNat 32 b.val)) 512#32) 0#32) (Scalar.muli (BitVec.ofNat 32 a.val) 512#32)).toInt = 512 * (b.val : ℤ) := by
    revert a b
    decide +kernel
  unfold sees
  show BitVec.ofBool (BitVec.sle _ _) = 1#1 ↔ _
  have e3 (b : Bool) : BitVec.ofBool b = 1#1 ↔ b = true := by cases b <;> decide
  rw [e3, BitVec.sle_iff_toInt_le, e1, e2]
  omega

theorem bP_of (a0 a1 : BitVec 32) (y0 y1 : Vec Ideal S512x768 .f32) (y3 : Vec Ideal S8x512 .f32) (y4 y5 : Vec Ideal S6x512x128 .f32) (h : Fin 6) (r s : Fin 512) (p q : Fin 8192)
    (h0 : ∀ d, y0 (ix2 r d) = x0 (ix2 p (cq d))) (h1 : ∀ d, y1 (ix2 s d) = x0 (ix2 q (ck d))) (h3 : y3 (ix2 (up h) s) = x1 (ix2 h q))
    (h4 : y4 (ix3 h r 0) = x1 (ix2 h p)) (h5 : y5 (ix3 h r 0) = L (ix2 h p)) (hs : sees a0 a1 r s = 1 ↔ q.val ≤ p.val) :
    bP a0 a1 y0 y1 y3 y4 y5 h r s = wt x0 x1 L h p q := by
  show Ideal.exp (Scalar.select (sees a0 a1 r s) ((∑ x, y0 (ix2 r (colOf h x)) * y1 (ix2 s (colOf h x))) * cs + (y4 (ix3 h r 0) - y3 (ix2 (up h) s)))
    (Named.named κ "mask" 4048155338#32 : Ideal .f32) - y5 (ix3 h r 0)) = _
  unfold wt smask sraw
  rw [mask_bot, h3, h4, h5, Finset.sum_congr rfl fun x _ => congrArg₂ (· * ·) (h0 (colOf h x)) (h1 (colOf h x))]
  unfold Scalar.select
  by_cases g : q.val ≤ p.val
  · rw [if_pos (hs.mpr g), if_pos g]
  · rw [if_neg fun e => g (hs.mp e), if_neg g]

theorem bD_of (a0 a1 : BitVec 32) (y0 y1 y2 y7 : Vec Ideal S512x768 .f32) (y3 : Vec Ideal S8x512 .f32) (y4 y5 y6 : Vec Ideal S6x512x128 .f32) (h : Fin 6) (r s : Fin 512) (p q : Fin 8192)
    (h0 : ∀ d, y0 (ix2 r d) = x0 (ix2 p (cq d))) (h1 : ∀ d, y1 (ix2 s d) = x0 (ix2 q (ck d))) (h2 : ∀ d, y2 (ix2 s d) = x0 (ix2 q (cv d)))
    (h7 : ∀ d, y7 (ix2 r d) = x2 (ix2 p d)) (h3 : y3 (ix2 (up h) s) = x1 (ix2 h q))
    (h4 : y4 (ix3 h r 0) = x1 (ix2 h p)) (h5 : y5 (ix3 h r 0) = L (ix2 h p)) (h6 : y6 (ix3 h r 0) = D (ix2 h p)) (hs : sees a0 a1 r s = 1 ↔ q.val ≤ p.val) :
    bD a0 a1 y0 y1 y2 y7 y3 y4 y5 y6 h r s = dsc x0 x1 x2 L D h p q := by
  show bP a0 a1 y0 y1 y3 y4 y5 h r s * ((∑ x, y7 (ix2 r (colOf h x)) * y2 (ix2 s (colOf h x))) - y6 (ix3 h r 0)) = _
  unfold dsc dwt
  rw [bP_of x0 x1 L a0 a1 y0 y1 y3 y4 y5 h r s p q h0 h1 h3 h4 h5 hs, h6, Finset.sum_congr rfl fun x _ => congrArg₂ (· * ·) (h7 (colOf h x)) (h2 (colOf h x))]

end Rows

end Cert.FoxV

end
-- ==== Proof.Fox.Index.lean ====
module

public import proofs.«01_k».proof.Proof.Fox.AccBase

@[expose] public section

set_option maxRecDepth 16384

noncomputable section

namespace Cert.FoxV

set_option maxHeartbeats 4000000

open Cert.Mem Cert.FoxI Cert.Kernel27Ideal Cert.Kernel27Ideal.Gen Idealize.ShloMosaic Idealize.ShloMosaic.TcCoe Idealize.SL.Sem

variable (m : (ℓ : Loc nD τ sig) → Buf (Elt Ideal) ℓ) (hO : Ok m) (c : Dev nD)

/-! ## The fetched blocks, of the arguments -/

/-- The arguments, and what the host computes of them. -/
abbrev X0 : Vec Ideal S8192x6144 .f32 := m ((c : Thread nD τ).loc main_arg0)
abbrev X1 : Vec Ideal S6x8192 .f32 := m ((c : Thread nD τ).loc main_arg1)
abbrev X2 : Vec Ideal S8192x768 .f32 := m ((c : Thread nD τ).loc main_arg2)
abbrev XL : Vec Ideal S6x8192 .f32 := hL (F := Ideal) (X0 m c) (X1 m c)
abbrev XD : Vec Ideal S6x8192 .f32 := hD (F := Ideal) (X0 m c) (X1 m c) (X2 m c)

/-- Row `r` of block `b`. -/
def rowOf (b : ℕ) (r : Fin 512) : Fin 8192 := ⟨(512 * b + r.val) % 8192, Nat.mod_lt _ (by decide)⟩
theorem rowOf_val (b : ℕ) (hb : b ≤ 15) (r : Fin 512) : (rowOf b r).val = 512 * b + r.val := Nat.mod_eq_of_lt (by omega)

/-- The query block and the key block of a step. -/
abbrev qi (t : Fin (cfgM m hO).N) : ℕ := t.val / 16 + t.val % 16
abbrev kj (t : Fin (cfgM m hO).N) : ℕ := t.val / 16

theorem kj_le (t : Fin (cfgM m hO).N) : kj m hO t ≤ 15 := by
  have := t_lt m hO t
  show t.val / 16 ≤ 15
  omega

theorem hB_at (x : Vec Ideal S6x8192 .f32) (h : Fin 6) (r : Fin 8192) (l : Fin 128) : hB x (ix3 h r l) = x (ix2 h r) := by
  unfold hB
  pointwise []

theorem hC_at (x : Vec Ideal S6x8192 .f32) (h : Fin 6) (r : Fin 8192) : hC x (ix2 (up h) r) = x (ix2 h r) := by
  refine (concatenate_pair_apply_left (t := S8x8192) (s₁ := S6x8192) (s₂ := S2x8192) 0 _ _ _ _ rfl (ix2 h r) ?_)
  intro b
  match b with
  | 0 => rfl
  | 1 => rfl

theorem tix0 (t : Fin (cfgM m hO).N) : ((cfgM m hO).win 0).index t = cc0_transform_0 k0_off1_inb numel1_S1 (tbl m) (grid0.coords t) := rfl
theorem wix0 (t : Fin (cfgM m hO).N) (ht : qi m hO t ≤ 15) : ((cfgM m hO).win 0).index t = ![qi m hO t, 4] := by
  rw [tix0, tr0, co0 m hO t, co1 m hO t]
  rw [show min (t.val / 16 + t.val % 16) 15 = t.val / 16 + t.val % 16 from Nat.min_eq_left ht]

theorem tix4 (t : Fin (cfgM m hO).N) : ((cfgM m hO).win 4).index t = cc0_transform_4 k0_off1_inb numel1_S1 (tbl m) (grid0.coords t) := rfl
theorem wix4 (t : Fin (cfgM m hO).N) (ht : qi m hO t ≤ 15) : ((cfgM m hO).win 4).index t = ![0, qi m hO t, 0] := by
  rw [tix4, tr4, co0 m hO t, co1 m hO t]
  rw [show min (t.val / 16 + t.val % 16) 15 = t.val / 16 + t.val % 16 from Nat.min_eq_left ht]

theorem tix5 (t : Fin (cfgM m hO).N) : ((cfgM m hO).win 5).index t = cc0_transform_5 k0_off1_inb numel1_S1 (tbl m) (grid0.coords t) := rfl
theorem wix5 (t : Fin (cfgM m hO).N) (ht : qi m hO t ≤ 15) : ((cfgM m hO).win 5).index t = ![0, qi m hO t, 0] := by
  rw [tix5, tr5, co0 m hO t, co1 m hO t]
  rw [show min (t.val / 16 + t.val % 16) 15 = t.val / 16 + t.val % 16 from Nat.min_eq_left ht]

theorem tix6 (t : Fin (cfgM m hO).N) : ((cfgM m hO).win 6).index t = cc0_transform_6 k0_off1_inb numel1_S1 (tbl m) (grid0.coords t) := rfl
theorem wix6 (t : Fin (cfgM m hO).N) (ht : qi m hO t ≤ 15) : ((cfgM m hO).win 6).index t = ![0, qi m hO t, 0] := by
  rw [tix6, tr6, co0 m hO t, co1 m hO t]
  rw [show min (t.val / 16 + t.val % 16) 15 = t.val / 16 + t.val % 16 from Nat.min_eq_left ht]

theorem tix7 (t : Fin (cfgM m hO).N) : ((cfgM m hO).win 7).index t = cc0_transform_7 k0_off1_inb numel1_S1 (tbl m) (grid0.coords t) := rfl
theorem wix7 (t : Fin (cfgM m hO).N) (ht : qi m hO t ≤ 15) : ((cfgM m hO).win 7).index t = ![qi m hO t, 0] := by
  rw [tix7, tr7, co0 m hO t, co1 m hO t]
  rw [show min (t.val / 16 + t.val % 16) 15 = t.val / 16 + t.val % 16 from Nat.min_eq_left ht]

theorem tix1 (t : Fin (cfgM m hO).N) : ((cfgM m hO).win 1).index t = ![(BitVec.ofNat 32 (grid0.coords t 0).val).toNat, 5] := rfl
theorem wix1 (t : Fin (cfgM m hO).N) : ((cfgM m hO).win 1).index t = ![kj m hO t, 5] := by
  rw [tix1, co0 m hO t, BitVec.toNat_ofNat, Nat.mod_eq_of_lt (by have := t_lt m hO t; omega)]

theorem tix2 (t : Fin (cfgM m hO).N) : ((cfgM m hO).win 2).index t = ![(BitVec.ofNat 32 (grid0.coords t 0).val).toNat, 6] := rfl
theorem wix2 (t : Fin (cfgM m hO).N) : ((cfgM m hO).win 2).index t = ![kj m hO t, 6] := by
  rw [tix2, co0 m hO t, BitVec.toNat_ofNat, Nat.mod_eq_of_lt (by have := t_lt m hO t; omega)]

theorem tix3 (t : Fin (cfgM m hO).N) : ((cfgM m hO).win 3).index t = ![0, (BitVec.ofNat 32 (grid0.coords t 0).val).toNat] := rfl
theorem wix3 (t : Fin (cfgM m hO).N) : ((cfgM m hO).win 3).index t = ![0, kj m hO t] := by
  rw [tix3, co0 m hO t, BitVec.toNat_ofNat, Nat.mod_eq_of_lt (by have := t_lt m hO t; omega)]

theorem tix8 (t : Fin (cfgM m hO).N) : ((cfgM m hO).win 8).index t = ![(BitVec.ofNat 32 (grid0.coords t 0).val).toNat, 0] := rfl
theorem wix8 (t : Fin (cfgM m hO).N) : ((cfgM m hO).win 8).index t = ![kj m hO t, 0] := by
  rw [tix8, co0 m hO t, BitVec.toNat_ofNat, Nat.mod_eq_of_lt (by have := t_lt m hO t; omega)]

theorem tix9 (t : Fin (cfgM m hO).N) : ((cfgM m hO).win 9).index t = ![(BitVec.ofNat 32 (grid0.coords t 0).val).toNat, 0] := rfl
theorem wix9 (t : Fin (cfgM m hO).N) : ((cfgM m hO).win 9).index t = ![kj m hO t, 0] := by
  rw [tix9, co0 m hO t, BitVec.toNat_ofNat, Nat.mod_eq_of_lt (by have := t_lt m hO t; omega)]

theorem tix10 (t : Fin (cfgM m hO).N) : ((cfgM m hO).win 10).index t = ![0, 0, (BitVec.ofNat 32 (grid0.coords t 0).val).toNat] := rfl
theorem wix10 (t : Fin (cfgM m hO).N) : ((cfgM m hO).win 10).index t = ![0, 0, kj m hO t] := by
  rw [tix10, co0 m hO t, BitVec.toNat_ofNat, Nat.mod_eq_of_lt (by have := t_lt m hO t; omega)]

end Cert.FoxV

end
-- ==== Proof.Fox.Blocks.lean ====
module

public import proofs.«01_k».proof.Proof.Fox.Index

@[expose] public section

set_option maxRecDepth 16384

noncomputable section

namespace Cert.FoxV

set_option maxHeartbeats 4000000

open Cert.Mem Cert.FoxI Cert.Kernel27Ideal Cert.Kernel27Ideal.Gen Idealize.ShloMosaic Idealize.ShloMosaic.TcCoe Idealize.SL.Sem

variable (m : (ℓ : Loc nD τ sig) → Buf (Elt Ideal) ℓ) (hO : Ok m) (c : Dev nD)

theorem blk0 (t : Fin (cfgM m hO).N) (ht : qi m hO t ≤ 15) (r : Fin 512) (d : Fin 768) :
    B0 m hO c t (ix2 r d) = X0 m c (ix2 (rowOf (qi m hO t) r) ⟨3072 + d.val, by omega⟩) := by
  unfold B0
  blk_simp [iblk]
  show (V m c main_arg0 : Vec Ideal S8192x6144 .f32) _ = _
  rw [V_main_arg0]
  refine congrArg _ (idx_ext2 ?_ ?_)
  · blk_simp [wix0 m hO t ht]
    rw [rowOf_val _ ht]
    omega
  · blk_simp [wix0 m hO t ht]

theorem blk1 (t : Fin (cfgM m hO).N) (r : Fin 512) (d : Fin 768) :
    B1 m hO c t (ix2 r d) = X0 m c (ix2 (rowOf (kj m hO t) r) ⟨3840 + d.val, by omega⟩) := by
  unfold B1
  blk_simp [iblk]
  show (V m c main_arg0 : Vec Ideal S8192x6144 .f32) _ = _
  rw [V_main_arg0]
  refine congrArg _ (idx_ext2 ?_ ?_)
  · blk_simp [wix1 m hO t]
    rw [rowOf_val _ (kj_le m hO t)]
    omega
  · blk_simp [wix1 m hO t]

theorem blk2 (t : Fin (cfgM m hO).N) (r : Fin 512) (d : Fin 768) :
    B2 m hO c t (ix2 r d) = X0 m c (ix2 (rowOf (kj m hO t) r) ⟨4608 + d.val, by omega⟩) := by
  unfold B2
  blk_simp [iblk]
  show (V m c main_arg0 : Vec Ideal S8192x6144 .f32) _ = _
  rw [V_main_arg0]
  refine congrArg _ (idx_ext2 ?_ ?_)
  · blk_simp [wix2 m hO t]
    rw [rowOf_val _ (kj_le m hO t)]
    omega
  · blk_simp [wix2 m hO t]

theorem blk7 (t : Fin (cfgM m hO).N) (ht : qi m hO t ≤ 15) (r : Fin 512) (d : Fin 768) :
    B7 m hO c t (ix2 r d) = X2 m c (ix2 (rowOf (qi m hO t) r) d) := by
  unfold B7
  blk_simp [iblk]
  show (V m c main_arg2 : Vec Ideal S8192x768 .f32) _ = _
  rw [V_main_arg2]
  refine congrArg _ (idx_ext2 ?_ ?_)
  · blk_simp [wix7 m hO t ht]
    rw [rowOf_val _ ht]
    omega
  · blk_simp [wix7 m hO t ht]

theorem blk3 (t : Fin (cfgM m hO).N) (h : Fin 6) (s : Fin 512) :
    B3 m hO c t (ix2 (up h) s) = X1 m c (ix2 h (rowOf (kj m hO t) s)) := by
  unfold B3
  blk_simp [iblk]
  show (V m c main_v46 : Vec Ideal S8x8192 .f32) _ = _
  rw [V46]
  refine Eq.trans (congrArg _ (idx_ext2 (i := up h) (j := rowOf (kj m hO t) s) ?_ ?_)) (hC_at _ _ _)
  · blk_simp [wix3 m hO t]
  · blk_simp [wix3 m hO t]
    rw [rowOf_val _ (kj_le m hO t)]
    omega

end Cert.FoxV

end
-- ==== Proof.Fox.Blocks2.lean ====
module

public import proofs.«01_k».proof.Proof.Fox.Index

@[expose] public section

set_option maxRecDepth 16384

noncomputable section

namespace Cert.FoxV

set_option maxHeartbeats 4000000

open Cert.Mem Cert.FoxI Cert.Kernel27Ideal Cert.Kernel27Ideal.Gen Idealize.ShloMosaic Idealize.ShloMosaic.TcCoe Idealize.SL.Sem

variable (m : (ℓ : Loc nD τ sig) → Buf (Elt Ideal) ℓ) (hO : Ok m) (c : Dev nD)

theorem em4 (t : Fin (cfgM m hO).N) (ht : qi m hO t ≤ 15) (h : Fin 6) (r : Fin 512) (l : Fin 128) :
    ((((cfgM m hO).win 4).blk t).view.emb (ix3 h r l) : S6x8192x128.Idx) = ix3 h (rowOf (qi m hO t) r) l := by
  refine idx_ext3 ?_ ?_ ?_
  · blk_simp [wix4 m hO t ht]
  · blk_simp [wix4 m hO t ht]
    rw [rowOf_val _ ht]
    omega
  · blk_simp [wix4 m hO t ht]

theorem blk4 (t : Fin (cfgM m hO).N) (ht : qi m hO t ≤ 15) (h : Fin 6) (r : Fin 512) (l : Fin 128) :
    B4 m hO c t (ix3 h r l) = X1 m c (ix2 h (rowOf (qi m hO t) r)) := by
  unfold B4
  blk_simp [iblk]
  show (V m c main_v48 : Vec Ideal S6x8192x128 .f32) _ = _
  rw [V48]
  exact (congrArg (hB (X1 m c)) (em4 m hO t ht h r l)).trans (hB_at (X1 m c) h (rowOf (qi m hO t) r) l)

theorem em5 (t : Fin (cfgM m hO).N) (ht : qi m hO t ≤ 15) (h : Fin 6) (r : Fin 512) (l : Fin 128) :
    ((((cfgM m hO).win 5).blk t).view.emb (ix3 h r l) : S6x8192x128.Idx) = ix3 h (rowOf (qi m hO t) r) l := by
  refine idx_ext3 ?_ ?_ ?_
  · blk_simp [wix5 m hO t ht]
  · blk_simp [wix5 m hO t ht]
    rw [rowOf_val _ ht]
    omega
  · blk_simp [wix5 m hO t ht]

theorem rd5 (t : Fin (cfgM m hO).N) (A : Vec Ideal S6x8192x128 .f32) (y : S6x512x128.Idx) :
    ((((cfgM m hO).win 5).blk t).view.read (Elt Ideal) A : Vec Ideal S6x512x128 .f32) y = A ((((cfgM m hO).win 5).blk t).view.emb y) := rfl

theorem wv5 (t : Fin (cfgM m hO).N) (W : (b : Ref sig .tc) → Buf (Elt Ideal) ((c : Thread nD τ).loc b)) :
    ((((cfgM m hO).win 5).blk t).view.read (Elt Ideal) (W (Pipeline.arrRef spec0 5)) : Vec Ideal S6x512x128 .f32) = (((cfgM m hO).win 5).blk t).view.read (Elt Ideal) (W main_v50) := rfl

theorem bv5 (t : Fin (cfgM m hO).N) : B5 m hO c t = (((cfgM m hO).win 5).blk t).view.read (Elt Ideal) (V m c main_v50) := by
  unfold B5 iblk
  exact wv5 m hO c t (V m c)

theorem at5 (t : Fin (cfgM m hO).N) (ht : qi m hO t ≤ 15) (h : Fin 6) (r : Fin 512) (l : Fin 128) (A : Vec Ideal S6x8192x128 .f32) (L : Vec Ideal S6x8192 .f32)
    (hW : A = hB L) : ((((cfgM m hO).win 5).blk t).view.read (Elt Ideal) A : Vec Ideal S6x512x128 .f32) (ix3 h r l) = L (ix2 h (rowOf (qi m hO t) r)) := by
  refine (rd5 m hO t A _).trans ?_
  subst hW
  exact (congrArg (hB L) (em5 m hO t ht h r l)).trans (hB_at L h (rowOf (qi m hO t) r) l)

theorem blk5 (t : Fin (cfgM m hO).N) (ht : qi m hO t ≤ 15) (h : Fin 6) (r : Fin 512) (l : Fin 128) :
    B5 m hO c t (ix3 h r l) = XL m c (ix2 h (rowOf (qi m hO t) r)) :=
  (congrFun (bv5 m hO c t) (ix3 h r l)).trans (at5 m hO t ht h r l _ _ (V50 m c))

theorem em6 (t : Fin (cfgM m hO).N) (ht : qi m hO t ≤ 15) (h : Fin 6) (r : Fin 512) (l : Fin 128) :
    ((((cfgM m hO).win 6).blk t).view.emb (ix3 h r l) : S6x8192x128.Idx) = ix3 h (rowOf (qi m hO t) r) l := by
  refine idx_ext3 ?_ ?_ ?_
  · blk_simp [wix6 m hO t ht]
  · blk_simp [wix6 m hO t ht]
    rw [rowOf_val _ ht]
    omega
  · blk_simp [wix6 m hO t ht]

theorem rd6 (t : Fin (cfgM m hO).N) (A : Vec Ideal S6x8192x128 .f32) (y : S6x512x128.Idx) :
    ((((cfgM m hO).win 6).blk t).view.read (Elt Ideal) A : Vec Ideal S6x512x128 .f32) y = A ((((cfgM m hO).win 6).blk t).view.emb y) := rfl

theorem wv6 (t : Fin (cfgM m hO).N) (W : (b : Ref sig .tc) → Buf (Elt Ideal) ((c : Thread nD τ).loc b)) :
    ((((cfgM m hO).win 6).blk t).view.read (Elt Ideal) (W (Pipeline.arrRef spec0 6)) : Vec Ideal S6x512x128 .f32) = (((cfgM m hO).win 6).blk t).view.read (Elt Ideal) (W main_v52) := rfl

theorem bv6 (t : Fin (cfgM m hO).N) : B6 m hO c t = (((cfgM m hO).win 6).blk t).view.read (Elt Ideal) (V m c main_v52) := by
  unfold B6 iblk
  exact wv6 m hO c t (V m c)

theorem at6 (t : Fin (cfgM m hO).N) (ht : qi m hO t ≤ 15) (h : Fin 6) (r : Fin 512) (l : Fin 128) (A : Vec Ideal S6x8192x128 .f32) (L : Vec Ideal S6x8192 .f32)
    (hW : A = hB L) : ((((cfgM m hO).win 6).blk t).view.read (Elt Ideal) A : Vec Ideal S6x512x128 .f32) (ix3 h r l) = L (ix2 h (rowOf (qi m hO t) r)) := by
  refine (rd6 m hO t A _).trans ?_
  subst hW
  exact (congrArg (hB L) (em6 m hO t ht h r l)).trans (hB_at L h (rowOf (qi m hO t) r) l)

theorem blk6 (t : Fin (cfgM m hO).N) (ht : qi m hO t ≤ 15) (h : Fin 6) (r : Fin 512) (l : Fin 128) :
    B6 m hO c t (ix3 h r l) = XD m c (ix2 h (rowOf (qi m hO t) r)) :=
  (congrFun (bv6 m hO c t) (ix3 h r l)).trans (at6 m hO t ht h r l _ _ (V52 m c))

end Cert.FoxV

end
-- ==== Proof.Fox.Terms.lean ====
module

public import proofs.«01_k».proof.Proof.Fox.Spec
public import proofs.«01_k».proof.Proof.Fox.Blocks
public import proofs.«01_k».proof.Proof.Fox.Blocks2

@[expose] public section

set_option maxRecDepth 16384

noncomputable section

namespace Cert.FoxV

set_option maxHeartbeats 4000000

open Cert.Mem Cert.FoxI Cert.Kernel27Ideal Cert.Kernel27Ideal.Gen Idealize.ShloMosaic Idealize.ShloMosaic.TcCoe Idealize.SL.Sem

/-! ## What a block of queries gives a key -/

section Rows

variable (x0 : Vec Ideal S8192x6144 .f32) (x1 : Vec Ideal S6x8192 .f32) (x2 : Vec Ideal S8192x768 .f32) (L D : Vec Ideal S6x8192 .f32)

def rV (i : ℕ) (q : Fin 8192) (d : Fin 768) : EReal := ∑ r : Fin 512, wt x0 x1 L (hd d) (rowOf i r) q * x2 (ix2 (rowOf i r) d)
def rK (i : ℕ) (q : Fin 8192) (d : Fin 768) : EReal := (∑ r : Fin 512, dsc x0 x1 x2 L D (hd d) (rowOf i r) q * x0 (ix2 (rowOf i r) (cq d))) * cs
def rC (i : ℕ) (q : Fin 8192) (h : Fin 6) : EReal := - ∑ r : Fin 512, dsc x0 x1 x2 L D h (rowOf i r) q

theorem row_late (i j : ℕ) (hj : j ≤ 15) (hij : i < j) (r s : Fin 512) : (rowOf i r).val < (rowOf j s).val := by
  rw [rowOf_val i (by omega), rowOf_val j hj]
  omega

theorem rV_late (i j : ℕ) (hj : j ≤ 15) (hij : i < j) (s : Fin 512) (d : Fin 768) : rV x0 x1 x2 L i (rowOf j s) d = 0 :=
  Finset.sum_eq_zero fun r _ => by rw [wt_late x0 x1 L _ _ _ (row_late i j hj hij r s), zero_mul]
theorem rK_late (i j : ℕ) (hj : j ≤ 15) (hij : i < j) (s : Fin 512) (d : Fin 768) : rK x0 x1 x2 L D i (rowOf j s) d = 0 := by
  unfold rK
  rw [Finset.sum_eq_zero fun r _ => by rw [dsc_late x0 x1 x2 L D _ _ _ (row_late i j hj hij r s), zero_mul], zero_mul]
theorem rC_late (i j : ℕ) (hj : j ≤ 15) (hij : i < j) (s : Fin 512) (h : Fin 6) : rC x0 x1 x2 L D i (rowOf j s) h = 0 := by
  unfold rC
  rw [Finset.sum_eq_zero fun r _ => dsc_late x0 x1 x2 L D _ _ _ (row_late i j hj hij r s), neg_zero]

end Rows

/-- A sum over the blocks from one on is the sum over all where the earlier ones are nought. -/
theorem tri_sum (f : ℕ → EReal) (j : ℕ) (hj : j ≤ 15) (h0 : ∀ i < j, f i = 0) :
    ∑ s : Fin 16, (if j + s.val ≤ 15 then f (j + s.val) else 0) = ∑ i : Fin 16, f i.val := by
  rw [Fin.sum_univ_eq_sum_range (fun s => if j + s ≤ 15 then f (j + s) else 0) 16, Fin.sum_univ_eq_sum_range f 16]
  obtain ⟨k, hk⟩ : ∃ k, 16 = j + k := ⟨16 - j, by omega⟩
  have e1 : ∑ i ∈ Finset.range 16, f i = ∑ s ∈ Finset.range k, f (j + s) := by
    rw [hk, Finset.sum_range_add, Finset.sum_eq_zero fun i hi => h0 i (Finset.mem_range.mp hi), zero_add]
  rw [e1]
  refine (Finset.sum_subset (Finset.range_mono (by omega : k ≤ 16)) fun s _ hs => ?_).symm.trans ?_
  · rw [Finset.mem_range] at hs
    exact if_neg (by omega)
  · exact Finset.sum_congr rfl fun s hs => if_pos (by have := Finset.mem_range.mp hs; omega)

variable (m : (ℓ : Loc nD τ sig) → Buf (Elt Ideal) ℓ) (hO : Ok m) (c : Dev nD)

theorem sees_rows (t : Fin (cfgM m hO).N) (ht : qi m hO t ≤ 15) (r s : Fin 512) :
    sees (wa m hO t) (wb m hO t) r s = 1 ↔ (rowOf (kj m hO t) s).val ≤ (rowOf (qi m hO t) r).val := by
  have hk := kj_le m hO t
  have e := sees_iff ⟨t.val / 16, by show t.val / 16 < 16; exact Nat.lt_succ_of_le hk⟩ ⟨t.val % 16, Nat.mod_lt _ (by decide)⟩ r s
  rw [rowOf_val _ hk, rowOf_val _ ht]
  unfold wa wb
  rw [co0 m hO t, co1 m hO t]
  exact e

theorem tPB_eq (t : Fin (cfgM m hO).N) (ht : qi m hO t ≤ 15) (h : Fin 6) (r s : Fin 512) :
    tPB m hO c t h r s = wt (X0 m c) (X1 m c) (XL m c) h (rowOf (qi m hO t) r) (rowOf (kj m hO t) s) :=
  bP_of _ _ _ _ _ _ _ _ _ _ h r s _ _ (fun d => blk0 m hO c t ht r d) (fun d => blk1 m hO c t s d) (blk3 m hO c t h s) (blk4 m hO c t ht h r 0) (blk5 m hO c t ht h r 0)
    (sees_rows m hO t ht r s)

theorem tDB_eq (t : Fin (cfgM m hO).N) (ht : qi m hO t ≤ 15) (h : Fin 6) (r s : Fin 512) :
    tDB m hO c t h r s = dsc (X0 m c) (X1 m c) (X2 m c) (XL m c) (XD m c) h (rowOf (qi m hO t) r) (rowOf (kj m hO t) s) :=
  bD_of _ _ _ _ _ _ _ _ _ _ _ _ _ _ _ h r s _ _ (fun d => blk0 m hO c t ht r d) (fun d => blk1 m hO c t s d) (fun d => blk2 m hO c t s d) (fun d => blk7 m hO c t ht r d)
    (blk3 m hO c t h s) (blk4 m hO c t ht h r 0) (blk5 m hO c t ht h r 0) (blk6 m hO c t ht h r 0) (sees_rows m hO t ht r s)

theorem termV_eq (t : Fin (cfgM m hO).N) (y : S512x768.Idx) :
    termV m hO c t y = if qi m hO t ≤ 15 then rV (X0 m c) (X1 m c) (X2 m c) (XL m c) (qi m hO t) (rowOf (kj m hO t) (y 0)) (y 1) else 0 := by
  unfold termV
  by_cases ht : qi m hO t ≤ 15
  · rw [if_pos ht, if_pos ht]
    exact Finset.sum_congr rfl fun r _ => congrArg₂ (· * ·) (tPB_eq m hO c t ht (hd (y 1)) r (y 0)) (blk7 m hO c t ht r (y 1))
  · rw [if_neg ht, if_neg ht]

theorem termK_eq (t : Fin (cfgM m hO).N) (y : S512x768.Idx) :
    termK m hO c t y = if qi m hO t ≤ 15 then rK (X0 m c) (X1 m c) (X2 m c) (XL m c) (XD m c) (qi m hO t) (rowOf (kj m hO t) (y 0)) (y 1) else 0 := by
  unfold termK
  by_cases ht : qi m hO t ≤ 15
  · rw [if_pos ht, if_pos ht]
    exact congrArg (· * cs) (Finset.sum_congr rfl fun r _ => congrArg₂ (· * ·) (tDB_eq m hO c t ht (hd (y 1)) r (y 0)) (blk0 m hO c t ht r (y 1)))
  · rw [if_neg ht, if_neg ht]

theorem termC_eq (t : Fin (cfgM m hO).N) (h : Fin 6) (s : Fin 512) :
    termC m hO c t (ix2 (up h) s) = if qi m hO t ≤ 15 then rC (X0 m c) (X1 m c) (X2 m c) (XL m c) (XD m c) (qi m hO t) (rowOf (kj m hO t) s) h else 0 := by
  unfold termC
  by_cases ht : qi m hO t ≤ 15
  · rw [if_pos ht, if_pos ht, dif_pos (show ((ix2 (up h) s : S8x512.Idx) 0).val < 6 from h.isLt)]
    exact congrArg Neg.neg (Finset.sum_congr rfl fun r _ => tDB_eq m hO c t ht h r s)
  · rw [if_neg ht, if_neg ht]

end Cert.FoxV

end
-- ==== Proof.Fox.CaseF.lean ====
module

public import proofs.«01_k».proof.Proof.Fox.FrameIdeal
public import proofs.«01_k».proof.Proof.Fox.Block
public import Idealize.ShloMosaic.Lib.Pipeline.ReadBack
public import Idealize.ShloMosaic.Lib.Pipeline.ValueKit

@[expose] public section

set_option maxRecDepth 16384

noncomputable section

namespace Cert.FoxV

set_option maxHeartbeats 4000000

open Cert.Mem Cert.Kernel27Ideal Cert.Kernel27Ideal.Gen Idealize.ShloMosaic Idealize.ShloMosaic.TcCoe Idealize.SL.Sem

theorem readCov_ld {sg : RefSig} {κ : Kind} {sp : Space} {S : Shape} {e : EltTy} (v : View sg κ sp S e) (L : List (View.Piece (Elt Ideal) S e)) (r : Rect S) :
    v.readCov L r.toLoadRect = View.ld (v.read (Elt Ideal) (v.writes (Elt Ideal) v.junk L)) r := rfl

theorem ld_whole (x : Vec Ideal S512x768 .f32) (inb) : View.ld (S := S512x768) (Val := Elt Ideal) (e' := .f32) x (Rect.unit ![0, 0] ![512, 768] inb) = x := by
  funext y
  exact congrArg x ((idx_ext2 (i := y 0) (j := y 1) (by show 0 + 1 * (y 0).val = (y 0).val; omega) (by show 0 + 1 * (y 1).val = (y 1).val; omega)).trans (ix2_eta y))

theorem read_one {sg : RefSig} {κ : Kind} {sp : Space} {e : EltTy} (v : View sg κ sp S512x768 e) (f : v.ty.Contents (Elt Ideal)) (R : List (View.Piece (Elt Ideal) S512x768 e)) (inb)
    (w : Vec Ideal S512x768 e) : v.read (Elt Ideal) (v.writes (Elt Ideal) f ((⟨Rect.unit (s := S512x768) ![0, 0] ![512, 768] inb, w⟩ : View.Piece (Elt Ideal) S512x768 e) :: R)) = w := by
  funext y
  refine View.read_writes_cons_unit_of_mem v f _ _ _ y y rfl ?_
  intro a
  match a with
  | 0 => exact (Nat.zero_add _).symm
  | 1 => exact (Nat.zero_add _).symm

theorem read_one' {sg : RefSig} {κ : Kind} {sp : Space} {e : EltTy} (v : View sg κ sp S8x512 e) (f : v.ty.Contents (Elt Ideal)) (R : List (View.Piece (Elt Ideal) S8x512 e)) (inb)
    (w : Vec Ideal S8x512 e) : v.read (Elt Ideal) (v.writes (Elt Ideal) f ((⟨Rect.unit (s := S8x512) ![0, 0] ![8, 512] inb, w⟩ : View.Piece (Elt Ideal) S8x512 e) :: R)) = w := by
  funext y
  refine View.read_writes_cons_unit_of_mem v f _ _ _ y y rfl ?_
  intro a
  match a with
  | 0 => exact (Nat.zero_add _).symm
  | 1 => exact (Nat.zero_add _).symm

/-- The accumulated row of each head, on eight rows. -/
def g8 (o : Vec Ideal S8x512 .f32) : Vec Ideal S6x8x512 .f32 := fun y => o (ix2 (up (y 0)) (y 2))

/-- The zero block. -/
def z0 : Vec Ideal S512x768 .f32 := fun _ => 0
def z2 : Vec Ideal S8x512 .f32 := fun _ => 0

theorem pay1_eq : (k0_pay1 : FVec Ideal S512x768 .f32) = z0 := by
  funext y; pointwise [k0_pay1, z0]
theorem pay2_eq : (k0_pay2 : FVec Ideal S512x768 .f32) = z0 := by
  funext y; pointwise [k0_pay2, z0]
theorem pay3_eq : (k0_pay3 : FVec Ideal S8x512 .f32) = z2 := by
  funext y; pointwise [k0_pay3, z2]
theorem pay52_eq (x : Vec Ideal S512x768 .f32) : (k0_pay52 x : FVec Ideal S512x768 .bf16) = x := by
  funext y; pointwise [k0_pay52]
theorem pay53_eq (x : Vec Ideal S512x768 .f32) : (k0_pay53 x : FVec Ideal S512x768 .bf16) = x := by
  funext y; pointwise [k0_pay53]
theorem pay54_eq (x : Vec Ideal S1x512 .f32) (b : Fin 8) (s : Fin 512) : (k0_pay54 x : FVec Ideal S1x8x512 .f32) (ix3 0 b s) = x (ix2 0 s) := by
  pointwise [k0_pay54]
theorem pay55_eq (x : Vec Ideal S1x512 .f32) (b : Fin 8) (s : Fin 512) : (k0_pay55 x : FVec Ideal S1x8x512 .f32) (ix3 0 b s) = x (ix2 0 s) := by
  pointwise [k0_pay55]
theorem pay56_eq (x : Vec Ideal S1x512 .f32) (b : Fin 8) (s : Fin 512) : (k0_pay56 x : FVec Ideal S1x8x512 .f32) (ix3 0 b s) = x (ix2 0 s) := by
  pointwise [k0_pay56]
theorem pay57_eq (x : Vec Ideal S1x512 .f32) (b : Fin 8) (s : Fin 512) : (k0_pay5 (k0_pay57 x) : FVec Ideal S1x8x512 .f32) (ix3 0 b s) = x (ix2 0 s) := by
  pointwise [k0_pay5, k0_pay57]
theorem pay6_eq (x : Vec Ideal S1x512 .f32) (b : Fin 8) (s : Fin 512) : (k0_pay6 x : FVec Ideal S1x8x512 .f32) (ix3 0 b s) = x (ix2 0 s) := by
  pointwise [k0_pay6]
theorem pay7_eq (x : Vec Ideal S1x512 .f32) (b : Fin 8) (s : Fin 512) : (k0_pay7 x : FVec Ideal S1x8x512 .f32) (ix3 0 b s) = x (ix2 0 s) := by
  pointwise [k0_pay7]

theorem F_9 {sg : RefSig} {κ : Kind} {sp : Space} (v : View sg κ sp S512x768 .bf16) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : ¬cond0_0 i) (hc2 : cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (xs0 : Vec Ideal S512x768 .f32) (xs1 : Vec Ideal S512x768 .f32) (xs2 : Vec Ideal S8x512 .f32) (hc1 : ¬cond0_1 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_F c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 xs0 xs1 xs2 hc1).2.1) = xs1 := by
  unfold kernelRun0_F
  frame_out
  simp only [ld_whole, pay52_eq, pay53_eq]
  exact read_one ..

theorem F_8 {sg : RefSig} {κ : Kind} {sp : Space} (v : View sg κ sp S512x768 .bf16) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : ¬cond0_0 i) (hc2 : cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (xs0 : Vec Ideal S512x768 .f32) (xs1 : Vec Ideal S512x768 .f32) (xs2 : Vec Ideal S8x512 .f32) (hc1 : ¬cond0_1 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_F c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 xs0 xs1 xs2 hc1).1) = xs0 := by
  unfold kernelRun0_F
  frame_out
  simp only [ld_whole, pay52_eq, pay53_eq]
  exact read_one ..

theorem F_10 {sg : RefSig} {κ : Kind} {sp : Space} (v : View sg κ sp S6x8x512 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : ¬cond0_0 i) (hc2 : cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (xs0 : Vec Ideal S512x768 .f32) (xs1 : Vec Ideal S512x768 .f32) (xs2 : Vec Ideal S8x512 .f32) (hc1 : ¬cond0_1 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_F c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 xs0 xs1 xs2 hc1).2.2.1) = g8 xs2 := by
  unfold kernelRun0_F
  frame_out
  simp only [ldq0, ldq1, ldq2, ldq3, ldq4, ldq5, ldt0, ldt1, ldt2, ldt3, ldt4, ldt5, ldr0, ldr1, ldr2, ldr3, ldr4, ldr5]
  refine outs6 _ _ _ _ _ _ _ _ _ _ _ _ _ _ _ _ ?_ ?_ ?_ ?_ ?_ ?_
  · intro b s; refine (pay54_eq ..).trans ?_; rfl
  · intro b s; refine (pay55_eq ..).trans ?_; rfl
  · intro b s; refine (pay56_eq ..).trans ?_; rfl
  · intro b s; refine (pay57_eq ..).trans ?_; rfl
  · intro b s; refine (pay6_eq ..).trans ?_; rfl
  · intro b s; refine (pay7_eq ..).trans ?_; rfl

end Cert.FoxV
end
-- ==== Proof.Fox.CaseA.lean ====
module

public import proofs.«01_k».proof.Proof.Fox.FrameIdeal
public import proofs.«01_k».proof.Proof.Fox.CaseF
public import Idealize.ShloMosaic.Lib.Pipeline.ReadBack
public import Idealize.ShloMosaic.Lib.Pipeline.ValueKit

@[expose] public section

set_option maxRecDepth 16384

noncomputable section

namespace Cert.FoxV

set_option maxHeartbeats 4000000

open Cert.Mem Cert.Kernel27Ideal Cert.Kernel27Ideal.Gen Idealize.ShloMosaic Idealize.ShloMosaic.TcCoe Idealize.SL.Sem

theorem A_s1 {sg : RefSig} {κ : Kind} {sp : Space} (v : View sg κ sp S512x768 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : cond0_0 i) (hc2 : ¬cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (hc1 : cond0_1 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 hc1).2.2.2.2.1) = gV (BitVec.ofNat 32 ↑(i 0)) (Scalar.addi (BitVec.ofNat 32 ↑(i 0)) (BitVec.ofNat 32 ↑(i 1))) x0 x1 x7 x3 x4 x5 z0 := by
  unfold kernelRun0_A
  frame_out
  simp (discharger := first | rfl | decide) only [↓View.readCov_skip, ↓View.readCov_fill, pay1_eq, pay2_eq, pay3_eq, ldq0, ldq1, ldq2, ldq3, ldq4, ldq5, ldt0, ldt1, ldt2, ldt3, ldt4, ldt5, ldr0, ldr1, ldr2, ldr3, ldr4, ldr5]
  refine cols6 _ _ _ _ _ _ _ _ _ _ _ _ _ _ _ _ ?_ ?_ ?_ ?_ ?_ ?_
  · intro s d; refine (pv0 ..).trans ?_; simp only [gV, bP, ix2_0, ix2_1, hd_colOf]; rfl
  · intro s d; refine (pv1 ..).trans ?_; simp only [gV, bP, ix2_0, ix2_1, hd_colOf]; rfl
  · intro s d; refine (pv2 ..).trans ?_; simp only [gV, bP, ix2_0, ix2_1, hd_colOf]; rfl
  · intro s d; refine (pv3 ..).trans ?_; simp only [gV, bP, ix2_0, ix2_1, hd_colOf]; rfl
  · intro s d; refine (pv4 ..).trans ?_; simp only [gV, bP, ix2_0, ix2_1, hd_colOf]; rfl
  · intro s d; refine (pv5 ..).trans ?_; simp only [gV, bP, ix2_0, ix2_1, hd_colOf]; rfl

theorem A_s0 {sg : RefSig} {κ : Kind} {sp : Space} (v : View sg κ sp S512x768 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : cond0_0 i) (hc2 : ¬cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (hc1 : cond0_1 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 hc1).2.2.2.1) = gK (BitVec.ofNat 32 ↑(i 0)) (Scalar.addi (BitVec.ofNat 32 ↑(i 0)) (BitVec.ofNat 32 ↑(i 1))) x0 x1 x2 x7 x3 x4 x5 x6 z0 := by
  unfold kernelRun0_A
  frame_out
  simp (discharger := first | rfl | decide) only [↓View.readCov_skip, ↓View.readCov_fill, pay1_eq, pay2_eq, pay3_eq, ldq0, ldq1, ldq2, ldq3, ldq4, ldq5, ldt0, ldt1, ldt2, ldt3, ldt4, ldt5, ldr0, ldr1, ldr2, ldr3, ldr4, ldr5]
  refine cols6 _ _ _ _ _ _ _ _ _ _ _ _ _ _ _ _ ?_ ?_ ?_ ?_ ?_ ?_
  · intro s d; refine (pk0 ..).trans ?_; simp only [gK, bD, ix2_0, ix2_1, hd_colOf]; rfl
  · intro s d; refine (pk1 ..).trans ?_; simp only [gK, bD, ix2_0, ix2_1, hd_colOf]; rfl
  · intro s d; refine (pk2 ..).trans ?_; simp only [gK, bD, ix2_0, ix2_1, hd_colOf]; rfl
  · intro s d; refine (pk3 ..).trans ?_; simp only [gK, bD, ix2_0, ix2_1, hd_colOf]; rfl
  · intro s d; refine (pk4 ..).trans ?_; simp only [gK, bD, ix2_0, ix2_1, hd_colOf]; rfl
  · intro s d; refine (pk5 ..).trans ?_; simp only [gK, bD, ix2_0, ix2_1, hd_colOf]; rfl

theorem A_s2 {sg : RefSig} {κ : Kind} {sp : Space} (v : View sg κ sp S8x512 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : cond0_0 i) (hc2 : ¬cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (hc1 : cond0_1 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 hc1).2.2.2.2.2.1) = gC (BitVec.ofNat 32 ↑(i 0)) (Scalar.addi (BitVec.ofNat 32 ↑(i 0)) (BitVec.ofNat 32 ↑(i 1))) x0 x1 x2 x7 x3 x4 x5 x6 z2 := by
  unfold kernelRun0_A
  frame_out
  simp (discharger := first | rfl | decide) only [↓View.readCov_skip, ↓View.readCov_fill, pay1_eq, pay2_eq, pay3_eq, ldq0, ldq1, ldq2, ldq3, ldq4, ldq5, ldt0, ldt1, ldt2, ldt3, ldt4, ldt5, ldr0, ldr1, ldr2, ldr3, ldr4, ldr5]
  refine rows6 _ _ _ _ _ _ _ _ _ _ _ _ _ _ _ _ ?_ ?_ ?_ ?_ ?_ ?_ ?_
  · intro s; refine (pc0 ..).trans ?_; rfl
  · intro s; refine (pc1 ..).trans ?_; rfl
  · intro s; refine (pc2 ..).trans ?_; rfl
  · intro s; refine (pc3 ..).trans ?_; rfl
  · intro s; refine (pc4 ..).trans ?_; rfl
  · intro s; refine (pc5 ..).trans ?_; rfl
  · intro y hy
    rw [read_one']; unfold gC; rw [dif_neg (by omega)]

end Cert.FoxV
end
-- ==== Proof.Fox.StA.lean ====
module

public import proofs.«01_k».proof.Proof.Fox.AccBase
public import proofs.«01_k».proof.Proof.Fox.CaseA

@[expose] public section

set_option maxRecDepth 16384

noncomputable section

namespace Cert.FoxV

set_option maxHeartbeats 4000000

open Cert.Mem Cert.FoxI Cert.Kernel27Ideal Cert.Kernel27Ideal.Gen Idealize.ShloMosaic Idealize.ShloMosaic.TcCoe Idealize.SL.Sem

variable (m : (ℓ : Loc nD τ sig) → Buf (Elt Ideal) ℓ) (hO : Ok m) (c : Dev nD)

theorem stA_s0 (t : Fin (cfgM m hO).N) (h0 : cond0_0 (grid0.coords t)) (h2 : ¬cond0_2 (grid0.coords t)) (h1 : Reach m hO t) :
    (stA m hO c t h0 h2 h1).2.2.2.1 = gK (wa m hO t) (wb m hO t) (B0 m hO c t) (B1 m hO c t) (B2 m hO c t) (B7 m hO c t) (B3 m hO c t) (B4 m hO c t) (B5 m hO c t) (B6 m hO c t) z0 :=
  A_s0 VS0_0 VS0_0.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) h1

theorem stA_s1 (t : Fin (cfgM m hO).N) (h0 : cond0_0 (grid0.coords t)) (h2 : ¬cond0_2 (grid0.coords t)) (h1 : Reach m hO t) :
    (stA m hO c t h0 h2 h1).2.2.2.2.1 = gV (wa m hO t) (wb m hO t) (B0 m hO c t) (B1 m hO c t) (B7 m hO c t) (B3 m hO c t) (B4 m hO c t) (B5 m hO c t) z0 :=
  A_s1 VS0_1 VS0_1.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) h1

theorem stA_s2 (t : Fin (cfgM m hO).N) (h0 : cond0_0 (grid0.coords t)) (h2 : ¬cond0_2 (grid0.coords t)) (h1 : Reach m hO t) :
    (stA m hO c t h0 h2 h1).2.2.2.2.2 = gC (wa m hO t) (wb m hO t) (B0 m hO c t) (B1 m hO c t) (B2 m hO c t) (B7 m hO c t) (B3 m hO c t) (B4 m hO c t) (B5 m hO c t) (B6 m hO c t) z2 :=
  A_s2 VS0_2 VS0_2.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) h1

end Cert.FoxV

end
-- ==== Proof.Fox.CaseC.lean ====
module

public import proofs.«01_k».proof.Proof.Fox.FrameIdeal
public import proofs.«01_k».proof.Proof.Fox.Block
public import Idealize.ShloMosaic.Lib.Pipeline.ReadBack
public import Idealize.ShloMosaic.Lib.Pipeline.ValueKit

@[expose] public section

set_option maxRecDepth 16384

noncomputable section

namespace Cert.FoxV

set_option maxHeartbeats 4000000

open Cert.Mem Cert.Kernel27Ideal Cert.Kernel27Ideal.Gen Idealize.ShloMosaic Idealize.ShloMosaic.TcCoe Idealize.SL.Sem

theorem C_s1 {sg : RefSig} {κ : Kind} {sp : Space} (v : View sg κ sp S512x768 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : ¬cond0_0 i) (hc2 : ¬cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (xs0 : Vec Ideal S512x768 .f32) (xs1 : Vec Ideal S512x768 .f32) (xs2 : Vec Ideal S8x512 .f32) (hc1 : cond0_1 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 xs0 xs1 xs2 hc1).2.2.2.2.1) = gV (BitVec.ofNat 32 ↑(i 0)) (Scalar.addi (BitVec.ofNat 32 ↑(i 0)) (BitVec.ofNat 32 ↑(i 1))) x0 x1 x7 x3 x4 x5 xs1 := by
  unfold kernelRun0_C
  frame_out
  simp only [ldq0, ldq1, ldq2, ldq3, ldq4, ldq5, ldt0, ldt1, ldt2, ldt3, ldt4, ldt5, ldr0, ldr1, ldr2, ldr3, ldr4, ldr5]
  refine cols6 _ _ _ _ _ _ _ _ _ _ _ _ _ _ _ _ ?_ ?_ ?_ ?_ ?_ ?_
  · intro s d; refine (pv0 ..).trans ?_; simp only [gV, bP, ix2_0, ix2_1, hd_colOf]; rfl
  · intro s d; refine (pv1 ..).trans ?_; simp only [gV, bP, ix2_0, ix2_1, hd_colOf]; rfl
  · intro s d; refine (pv2 ..).trans ?_; simp only [gV, bP, ix2_0, ix2_1, hd_colOf]; rfl
  · intro s d; refine (pv3 ..).trans ?_; simp only [gV, bP, ix2_0, ix2_1, hd_colOf]; rfl
  · intro s d; refine (pv4 ..).trans ?_; simp only [gV, bP, ix2_0, ix2_1, hd_colOf]; rfl
  · intro s d; refine (pv5 ..).trans ?_; simp only [gV, bP, ix2_0, ix2_1, hd_colOf]; rfl

theorem C_s0 {sg : RefSig} {κ : Kind} {sp : Space} (v : View sg κ sp S512x768 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : ¬cond0_0 i) (hc2 : ¬cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (xs0 : Vec Ideal S512x768 .f32) (xs1 : Vec Ideal S512x768 .f32) (xs2 : Vec Ideal S8x512 .f32) (hc1 : cond0_1 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 xs0 xs1 xs2 hc1).2.2.2.1) = gK (BitVec.ofNat 32 ↑(i 0)) (Scalar.addi (BitVec.ofNat 32 ↑(i 0)) (BitVec.ofNat 32 ↑(i 1))) x0 x1 x2 x7 x3 x4 x5 x6 xs0 := by
  unfold kernelRun0_C
  frame_out
  simp only [ldq0, ldq1, ldq2, ldq3, ldq4, ldq5, ldt0, ldt1, ldt2, ldt3, ldt4, ldt5, ldr0, ldr1, ldr2, ldr3, ldr4, ldr5]
  refine cols6 _ _ _ _ _ _ _ _ _ _ _ _ _ _ _ _ ?_ ?_ ?_ ?_ ?_ ?_
  · intro s d; refine (pk0 ..).trans ?_; simp only [gK, bD, ix2_0, ix2_1, hd_colOf]; rfl
  · intro s d; refine (pk1 ..).trans ?_; simp only [gK, bD, ix2_0, ix2_1, hd_colOf]; rfl
  · intro s d; refine (pk2 ..).trans ?_; simp only [gK, bD, ix2_0, ix2_1, hd_colOf]; rfl
  · intro s d; refine (pk3 ..).trans ?_; simp only [gK, bD, ix2_0, ix2_1, hd_colOf]; rfl
  · intro s d; refine (pk4 ..).trans ?_; simp only [gK, bD, ix2_0, ix2_1, hd_colOf]; rfl
  · intro s d; refine (pk5 ..).trans ?_; simp only [gK, bD, ix2_0, ix2_1, hd_colOf]; rfl

theorem C_s2 {sg : RefSig} {κ : Kind} {sp : Space} (v : View sg κ sp S8x512 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : ¬cond0_0 i) (hc2 : ¬cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (xs0 : Vec Ideal S512x768 .f32) (xs1 : Vec Ideal S512x768 .f32) (xs2 : Vec Ideal S8x512 .f32) (hc1 : cond0_1 i (tbM0_0.view.readAt (Elt Ideal) (Rect.unit (s := S32) (k0_off1 i) S1.size (k0_off1_inb i)).toLoadRect xt0 (Shape.Idx.first (numel1_S1.symm ▸ Nat.one_pos)))) (hf : v.read (Elt Ideal) f = xs2) :
    v.read (Elt Ideal) (v.writes (Elt Ideal) f (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 xs0 xs1 xs2 hc1).2.2.2.2.2.1) = gC (BitVec.ofNat 32 ↑(i 0)) (Scalar.addi (BitVec.ofNat 32 ↑(i 0)) (BitVec.ofNat 32 ↑(i 1))) x0 x1 x2 x7 x3 x4 x5 x6 xs2 := by
  unfold kernelRun0_C
  frame_out
  simp only [ldq0, ldq1, ldq2, ldq3, ldq4, ldq5, ldt0, ldt1, ldt2, ldt3, ldt4, ldt5, ldr0, ldr1, ldr2, ldr3, ldr4, ldr5]
  refine rows6 _ _ _ _ _ _ _ _ _ _ _ _ _ _ _ _ ?_ ?_ ?_ ?_ ?_ ?_ ?_
  · intro s; refine (pc0 ..).trans ?_; rfl
  · intro s; refine (pc1 ..).trans ?_; rfl
  · intro s; refine (pc2 ..).trans ?_; rfl
  · intro s; refine (pc3 ..).trans ?_; rfl
  · intro s; refine (pc4 ..).trans ?_; rfl
  · intro s; refine (pc5 ..).trans ?_; rfl
  · intro y hy
    rw [View.writes_nil, hf]; unfold gC; rw [dif_neg (by omega)]

end Cert.FoxV
end
-- ==== Proof.Fox.StC.lean ====
module

public import proofs.«01_k».proof.Proof.Fox.AccBase
public import proofs.«01_k».proof.Proof.Fox.CaseC

@[expose] public section

set_option maxRecDepth 16384

noncomputable section

namespace Cert.FoxV

set_option maxHeartbeats 4000000

open Cert.Mem Cert.FoxI Cert.Kernel27Ideal Cert.Kernel27Ideal.Gen Idealize.ShloMosaic Idealize.ShloMosaic.TcCoe Idealize.SL.Sem

variable (m : (ℓ : Loc nD τ sig) → Buf (Elt Ideal) ℓ) (hO : Ok m) (c : Dev nD)

theorem stC_s0 (t : Fin (cfgM m hO).N) (h0 : ¬cond0_0 (grid0.coords t)) (h2 : ¬cond0_2 (grid0.coords t)) (h1 : Reach m hO t) (p : St Ideal) :
    (stC m hO c t h0 h2 h1 p).2.2.2.1 = gK (wa m hO t) (wb m hO t) (B0 m hO c t) (B1 m hO c t) (B2 m hO c t) (B7 m hO c t) (B3 m hO c t) (B4 m hO c t) (B5 m hO c t) (B6 m hO c t) p.2.2.2.1 :=
  C_s0 VS0_0 VS0_0.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1

theorem stC_s1 (t : Fin (cfgM m hO).N) (h0 : ¬cond0_0 (grid0.coords t)) (h2 : ¬cond0_2 (grid0.coords t)) (h1 : Reach m hO t) (p : St Ideal) :
    (stC m hO c t h0 h2 h1 p).2.2.2.2.1 = gV (wa m hO t) (wb m hO t) (B0 m hO c t) (B1 m hO c t) (B7 m hO c t) (B3 m hO c t) (B4 m hO c t) (B5 m hO c t) p.2.2.2.2.1 :=
  C_s1 VS0_1 VS0_1.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1

theorem stC_s2 (t : Fin (cfgM m hO).N) (h0 : ¬cond0_0 (grid0.coords t)) (h2 : ¬cond0_2 (grid0.coords t)) (h1 : Reach m hO t) (p : St Ideal) :
    (stC m hO c t h0 h2 h1 p).2.2.2.2.2 = gC (wa m hO t) (wb m hO t) (B0 m hO c t) (B1 m hO c t) (B2 m hO c t) (B7 m hO c t) (B3 m hO c t) (B4 m hO c t) (B5 m hO c t) (B6 m hO c t) p.2.2.2.2.2 :=
  C_s2 VS0_2 ((Memref.isWhole_whole cc0_scratch2).unread p.2.2.2.2.2) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1 (Memref.IsWhole.read_unread (Memref.isWhole_whole cc0_scratch2) p.2.2.2.2.2)

end Cert.FoxV

end
-- ==== Proof.Fox.CaseE.lean ====
module

public import proofs.«01_k».proof.Proof.Fox.FrameIdeal
public import proofs.«01_k».proof.Proof.Fox.CaseF
public import Idealize.ShloMosaic.Lib.Pipeline.ReadBack
public import Idealize.ShloMosaic.Lib.Pipeline.ValueKit

@[expose] public section

set_option maxRecDepth 16384

noncomputable section

namespace Cert.FoxV

set_option maxHeartbeats 4000000

open Cert.Mem Cert.Kernel27Ideal Cert.Kernel27Ideal.Gen Idealize.ShloMosaic Idealize.ShloMosaic.TcCoe Idealize.SL.Sem

theorem rows6_at {sg : RefSig} {κ : Kind} {sp : Space} (v : View sg κ sp S8x512 .f32) (f : v.ty.Contents (Elt Ideal)) (R : List (View.Piece (Elt Ideal) S8x512 .f32)) (G : Vec Ideal S8x512 .f32)
    (i0) (i1) (i2) (i3) (i4) (i5)
    (w0 : Vec Ideal S1x512 .f32) (w1 : Vec Ideal S1x512 .f32) (w2 : Vec Ideal S1x512 .f32) (w3 : Vec Ideal S1x512 .f32) (w4 : Vec Ideal S1x512 .f32) (w5 : Vec Ideal S1x512 .f32)
    (h0 : ∀ s, w0 (ix2 0 s) = G (ix2 (up 0) s))
    (h1 : ∀ s, w1 (ix2 0 s) = G (ix2 (up 1) s))
    (h2 : ∀ s, w2 (ix2 0 s) = G (ix2 (up 2) s))
    (h3 : ∀ s, w3 (ix2 0 s) = G (ix2 (up 3) s))
    (h4 : ∀ s, w4 (ix2 0 s) = G (ix2 (up 4) s))
    (h5 : ∀ s, w5 (ix2 0 s) = G (ix2 (up 5) s))
    (k : Fin 6) (t : Fin 512) :
    v.read (Elt Ideal) (v.writes (Elt Ideal) f ((⟨Rect.unit (s := S8x512) ![5, 0] ![1, 512] i5, w5⟩ : View.Piece (Elt Ideal) S8x512 .f32) :: (⟨Rect.unit (s := S8x512) ![4, 0] ![1, 512] i4, w4⟩ : View.Piece (Elt Ideal) S8x512 .f32) :: (⟨Rect.unit (s := S8x512) ![3, 0] ![1, 512] i3, w3⟩ : View.Piece (Elt Ideal) S8x512 .f32) :: (⟨Rect.unit (s := S8x512) ![2, 0] ![1, 512] i2, w2⟩ : View.Piece (Elt Ideal) S8x512 .f32) :: (⟨Rect.unit (s := S8x512) ![1, 0] ![1, 512] i1, w1⟩ : View.Piece (Elt Ideal) S8x512 .f32) :: (⟨Rect.unit (s := S8x512) ![0, 0] ![1, 512] i0, w0⟩ : View.Piece (Elt Ideal) S8x512 .f32) :: R)) (ix2 (up k) t) = G (ix2 (up k) t) := by
  refine (congrFun (rows6 v f R (fun y => if (y 0).val < 6 then G y else v.read (Elt Ideal) (v.writes (Elt Ideal) f R) y) i0 i1 i2 i3 i4 i5 w0 w1 w2 w3 w4 w5
    (fun s => (h0 s).trans (if_pos (by show (0:ℕ) < 6; decide)).symm) (fun s => (h1 s).trans (if_pos (by show (1:ℕ) < 6; decide)).symm) (fun s => (h2 s).trans (if_pos (by show (2:ℕ) < 6; decide)).symm) (fun s => (h3 s).trans (if_pos (by show (3:ℕ) < 6; decide)).symm) (fun s => (h4 s).trans (if_pos (by show (4:ℕ) < 6; decide)).symm) (fun s => (h5 s).trans (if_pos (by show (5:ℕ) < 6; decide)).symm) (fun y hy => (if_neg (by omega)).symm)) (ix2 (up k) t)).trans ?_
  exact if_pos k.isLt

theorem E_s1 {sg : RefSig} {κ : Kind} {sp : Space} (v : View sg κ sp S512x768 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : ¬cond0_0 i) (hc2 : cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (xs0 : Vec Ideal S512x768 .f32) (xs1 : Vec Ideal S512x768 .f32) (xs2 : Vec Ideal S8x512 .f32) (hc1 : cond0_1 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_E c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 xs0 xs1 xs2 hc1).2.2.2.2.1) = gV (BitVec.ofNat 32 ↑(i 0)) (Scalar.addi (BitVec.ofNat 32 ↑(i 0)) (BitVec.ofNat 32 ↑(i 1))) x0 x1 x7 x3 x4 x5 xs1 := by
  unfold kernelRun0_E
  frame_out
  simp only [ldq0, ldq1, ldq2, ldq3, ldq4, ldq5, ldt0, ldt1, ldt2, ldt3, ldt4, ldt5, ldr0, ldr1, ldr2, ldr3, ldr4, ldr5]
  refine cols6 _ _ _ _ _ _ _ _ _ _ _ _ _ _ _ _ ?_ ?_ ?_ ?_ ?_ ?_
  · intro s d; refine (pv0 ..).trans ?_; simp only [gV, bP, ix2_0, ix2_1, hd_colOf]; rfl
  · intro s d; refine (pv1 ..).trans ?_; simp only [gV, bP, ix2_0, ix2_1, hd_colOf]; rfl
  · intro s d; refine (pv2 ..).trans ?_; simp only [gV, bP, ix2_0, ix2_1, hd_colOf]; rfl
  · intro s d; refine (pv3 ..).trans ?_; simp only [gV, bP, ix2_0, ix2_1, hd_colOf]; rfl
  · intro s d; refine (pv4 ..).trans ?_; simp only [gV, bP, ix2_0, ix2_1, hd_colOf]; rfl
  · intro s d; refine (pv5 ..).trans ?_; simp only [gV, bP, ix2_0, ix2_1, hd_colOf]; rfl

theorem E_s0 {sg : RefSig} {κ : Kind} {sp : Space} (v : View sg κ sp S512x768 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : ¬cond0_0 i) (hc2 : cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (xs0 : Vec Ideal S512x768 .f32) (xs1 : Vec Ideal S512x768 .f32) (xs2 : Vec Ideal S8x512 .f32) (hc1 : cond0_1 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_E c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 xs0 xs1 xs2 hc1).2.2.2.1) = gK (BitVec.ofNat 32 ↑(i 0)) (Scalar.addi (BitVec.ofNat 32 ↑(i 0)) (BitVec.ofNat 32 ↑(i 1))) x0 x1 x2 x7 x3 x4 x5 x6 xs0 := by
  unfold kernelRun0_E
  frame_out
  simp only [ldq0, ldq1, ldq2, ldq3, ldq4, ldq5, ldt0, ldt1, ldt2, ldt3, ldt4, ldt5, ldr0, ldr1, ldr2, ldr3, ldr4, ldr5]
  refine cols6 _ _ _ _ _ _ _ _ _ _ _ _ _ _ _ _ ?_ ?_ ?_ ?_ ?_ ?_
  · intro s d; refine (pk0 ..).trans ?_; simp only [gK, bD, ix2_0, ix2_1, hd_colOf]; rfl
  · intro s d; refine (pk1 ..).trans ?_; simp only [gK, bD, ix2_0, ix2_1, hd_colOf]; rfl
  · intro s d; refine (pk2 ..).trans ?_; simp only [gK, bD, ix2_0, ix2_1, hd_colOf]; rfl
  · intro s d; refine (pk3 ..).trans ?_; simp only [gK, bD, ix2_0, ix2_1, hd_colOf]; rfl
  · intro s d; refine (pk4 ..).trans ?_; simp only [gK, bD, ix2_0, ix2_1, hd_colOf]; rfl
  · intro s d; refine (pk5 ..).trans ?_; simp only [gK, bD, ix2_0, ix2_1, hd_colOf]; rfl

theorem E_s2 {sg : RefSig} {κ : Kind} {sp : Space} (v : View sg κ sp S8x512 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : ¬cond0_0 i) (hc2 : cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (xs0 : Vec Ideal S512x768 .f32) (xs1 : Vec Ideal S512x768 .f32) (xs2 : Vec Ideal S8x512 .f32) (hc1 : cond0_1 i (tbM0_0.view.readAt (Elt Ideal) (Rect.unit (s := S32) (k0_off1 i) S1.size (k0_off1_inb i)).toLoadRect xt0 (Shape.Idx.first (numel1_S1.symm ▸ Nat.one_pos)))) (hf : v.read (Elt Ideal) f = xs2) :
    v.read (Elt Ideal) (v.writes (Elt Ideal) f (kernelRun0_E c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 xs0 xs1 xs2 hc1).2.2.2.2.2.1) = gC (BitVec.ofNat 32 ↑(i 0)) (Scalar.addi (BitVec.ofNat 32 ↑(i 0)) (BitVec.ofNat 32 ↑(i 1))) x0 x1 x2 x7 x3 x4 x5 x6 xs2 := by
  unfold kernelRun0_E
  frame_out
  simp only [ldq0, ldq1, ldq2, ldq3, ldq4, ldq5, ldt0, ldt1, ldt2, ldt3, ldt4, ldt5, ldr0, ldr1, ldr2, ldr3, ldr4, ldr5]
  refine rows6 _ _ _ _ _ _ _ _ _ _ _ _ _ _ _ _ ?_ ?_ ?_ ?_ ?_ ?_ ?_
  · intro s; refine (pc0 ..).trans ?_; rfl
  · intro s; refine (pc1 ..).trans ?_; rfl
  · intro s; refine (pc2 ..).trans ?_; rfl
  · intro s; refine (pc3 ..).trans ?_; rfl
  · intro s; refine (pc4 ..).trans ?_; rfl
  · intro s; refine (pc5 ..).trans ?_; rfl
  · intro y hy
    rw [View.writes_nil, hf]; unfold gC; rw [dif_neg (by omega)]

theorem E_9 {sg : RefSig} {κ : Kind} {sp : Space} (v : View sg κ sp S512x768 .bf16) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : ¬cond0_0 i) (hc2 : cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (xs0 : Vec Ideal S512x768 .f32) (xs1 : Vec Ideal S512x768 .f32) (xs2 : Vec Ideal S8x512 .f32) (hc1 : cond0_1 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_E c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 xs0 xs1 xs2 hc1).2.1) = gV (BitVec.ofNat 32 ↑(i 0)) (Scalar.addi (BitVec.ofNat 32 ↑(i 0)) (BitVec.ofNat 32 ↑(i 1))) x0 x1 x7 x3 x4 x5 xs1 := by
  unfold kernelRun0_E
  frame_out
  simp only [readCov_ld, ld_whole, pay52_eq, pay53_eq, ldq0, ldq1, ldq2, ldq3, ldq4, ldq5, ldt0, ldt1, ldt2, ldt3, ldt4, ldt5, ldr0, ldr1, ldr2, ldr3, ldr4, ldr5]
  refine (read_one ..).trans ?_
  refine cols6 _ _ _ _ _ _ _ _ _ _ _ _ _ _ _ _ ?_ ?_ ?_ ?_ ?_ ?_
  · intro s d; refine (pv0 ..).trans ?_; simp only [gV, bP, ix2_0, ix2_1, hd_colOf]; rfl
  · intro s d; refine (pv1 ..).trans ?_; simp only [gV, bP, ix2_0, ix2_1, hd_colOf]; rfl
  · intro s d; refine (pv2 ..).trans ?_; simp only [gV, bP, ix2_0, ix2_1, hd_colOf]; rfl
  · intro s d; refine (pv3 ..).trans ?_; simp only [gV, bP, ix2_0, ix2_1, hd_colOf]; rfl
  · intro s d; refine (pv4 ..).trans ?_; simp only [gV, bP, ix2_0, ix2_1, hd_colOf]; rfl
  · intro s d; refine (pv5 ..).trans ?_; simp only [gV, bP, ix2_0, ix2_1, hd_colOf]; rfl

theorem E_8 {sg : RefSig} {κ : Kind} {sp : Space} (v : View sg κ sp S512x768 .bf16) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : ¬cond0_0 i) (hc2 : cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (xs0 : Vec Ideal S512x768 .f32) (xs1 : Vec Ideal S512x768 .f32) (xs2 : Vec Ideal S8x512 .f32) (hc1 : cond0_1 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_E c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 xs0 xs1 xs2 hc1).1) = gK (BitVec.ofNat 32 ↑(i 0)) (Scalar.addi (BitVec.ofNat 32 ↑(i 0)) (BitVec.ofNat 32 ↑(i 1))) x0 x1 x2 x7 x3 x4 x5 x6 xs0 := by
  unfold kernelRun0_E
  frame_out
  simp only [readCov_ld, ld_whole, pay52_eq, pay53_eq, ldq0, ldq1, ldq2, ldq3, ldq4, ldq5, ldt0, ldt1, ldt2, ldt3, ldt4, ldt5, ldr0, ldr1, ldr2, ldr3, ldr4, ldr5]
  refine (read_one ..).trans ?_
  refine cols6 _ _ _ _ _ _ _ _ _ _ _ _ _ _ _ _ ?_ ?_ ?_ ?_ ?_ ?_
  · intro s d; refine (pk0 ..).trans ?_; simp only [gK, bD, ix2_0, ix2_1, hd_colOf]; rfl
  · intro s d; refine (pk1 ..).trans ?_; simp only [gK, bD, ix2_0, ix2_1, hd_colOf]; rfl
  · intro s d; refine (pk2 ..).trans ?_; simp only [gK, bD, ix2_0, ix2_1, hd_colOf]; rfl
  · intro s d; refine (pk3 ..).trans ?_; simp only [gK, bD, ix2_0, ix2_1, hd_colOf]; rfl
  · intro s d; refine (pk4 ..).trans ?_; simp only [gK, bD, ix2_0, ix2_1, hd_colOf]; rfl
  · intro s d; refine (pk5 ..).trans ?_; simp only [gK, bD, ix2_0, ix2_1, hd_colOf]; rfl

theorem E_10 {sg : RefSig} {κ : Kind} {sp : Space} (v : View sg κ sp S6x8x512 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S6x512x128 .f32) (harg9 : arg9.IsWhole) (arg10 : Memref sig .tc .vmem S512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S6x8x512 .f32) (harg13 : arg13.IsWhole) (arg14 : Memref sig .tc .vmem S512x768 .f32) (harg14 : arg14.IsWhole) (arg15 : Memref sig .tc .vmem S512x768 .f32) (harg15 : arg15.IsWhole) (arg16 : Memref sig .tc .vmem S8x512 .f32) (harg16 : arg16.IsWhole) (hc0 : ¬cond0_0 i) (hc2 : cond0_2 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S6x512x128 .f32) (x7 : Vec Ideal S512x768 .f32) (xt0 : TbBuf0 (F := Ideal) c tbM0_0) (xs0 : Vec Ideal S512x768 .f32) (xs1 : Vec Ideal S512x768 .f32) (xs2 : Vec Ideal S8x512 .f32) (hc1 : cond0_1 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_E c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 xt0 xs0 xs1 xs2 hc1).2.2.1) = g8 (gC (BitVec.ofNat 32 ↑(i 0)) (Scalar.addi (BitVec.ofNat 32 ↑(i 0)) (BitVec.ofNat 32 ↑(i 1))) x0 x1 x2 x7 x3 x4 x5 x6 xs2) := by
  unfold kernelRun0_E
  frame_out
  simp only [readCov_ld, ldq0, ldq1, ldq2, ldq3, ldq4, ldq5, ldt0, ldt1, ldt2, ldt3, ldt4, ldt5, ldr0, ldr1, ldr2, ldr3, ldr4, ldr5]
  refine outs6 _ _ _ _ _ _ _ _ _ _ _ _ _ _ _ _ ?_ ?_ ?_ ?_ ?_ ?_
  · intro b s; refine (pay54_eq ..).trans ?_; refine rows6_at _ _ _ (gC (BitVec.ofNat 32 ↑(i 0)) (Scalar.addi (BitVec.ofNat 32 ↑(i 0)) (BitVec.ofNat 32 ↑(i 1))) x0 x1 x2 x7 x3 x4 x5 x6 xs2) _ _ _ _ _ _ _ _ _ _ _ _ ?_ ?_ ?_ ?_ ?_ ?_ 0 s
    · intro s; refine (pc0 ..).trans ?_; rfl
    · intro s; refine (pc1 ..).trans ?_; rfl
    · intro s; refine (pc2 ..).trans ?_; rfl
    · intro s; refine (pc3 ..).trans ?_; rfl
    · intro s; refine (pc4 ..).trans ?_; rfl
    · intro s; refine (pc5 ..).trans ?_; rfl
  · intro b s; refine (pay55_eq ..).trans ?_; refine rows6_at _ _ _ (gC (BitVec.ofNat 32 ↑(i 0)) (Scalar.addi (BitVec.ofNat 32 ↑(i 0)) (BitVec.ofNat 32 ↑(i 1))) x0 x1 x2 x7 x3 x4 x5 x6 xs2) _ _ _ _ _ _ _ _ _ _ _ _ ?_ ?_ ?_ ?_ ?_ ?_ 1 s
    · intro s; refine (pc0 ..).trans ?_; rfl
    · intro s; refine (pc1 ..).trans ?_; rfl
    · intro s; refine (pc2 ..).trans ?_; rfl
    · intro s; refine (pc3 ..).trans ?_; rfl
    · intro s; refine (pc4 ..).trans ?_; rfl
    · intro s; refine (pc5 ..).trans ?_; rfl
  · intro b s; refine (pay56_eq ..).trans ?_; refine rows6_at _ _ _ (gC (BitVec.ofNat 32 ↑(i 0)) (Scalar.addi (BitVec.ofNat 32 ↑(i 0)) (BitVec.ofNat 32 ↑(i 1))) x0 x1 x2 x7 x3 x4 x5 x6 xs2) _ _ _ _ _ _ _ _ _ _ _ _ ?_ ?_ ?_ ?_ ?_ ?_ 2 s
    · intro s; refine (pc0 ..).trans ?_; rfl
    · intro s; refine (pc1 ..).trans ?_; rfl
    · intro s; refine (pc2 ..).trans ?_; rfl
    · intro s; refine (pc3 ..).trans ?_; rfl
    · intro s; refine (pc4 ..).trans ?_; rfl
    · intro s; refine (pc5 ..).trans ?_; rfl
  · intro b s; refine (pay57_eq ..).trans ?_; refine rows6_at _ _ _ (gC (BitVec.ofNat 32 ↑(i 0)) (Scalar.addi (BitVec.ofNat 32 ↑(i 0)) (BitVec.ofNat 32 ↑(i 1))) x0 x1 x2 x7 x3 x4 x5 x6 xs2) _ _ _ _ _ _ _ _ _ _ _ _ ?_ ?_ ?_ ?_ ?_ ?_ 3 s
    · intro s; refine (pc0 ..).trans ?_; rfl
    · intro s; refine (pc1 ..).trans ?_; rfl
    · intro s; refine (pc2 ..).trans ?_; rfl
    · intro s; refine (pc3 ..).trans ?_; rfl
    · intro s; refine (pc4 ..).trans ?_; rfl
    · intro s; refine (pc5 ..).trans ?_; rfl
  · intro b s; refine (pay6_eq ..).trans ?_; refine rows6_at _ _ _ (gC (BitVec.ofNat 32 ↑(i 0)) (Scalar.addi (BitVec.ofNat 32 ↑(i 0)) (BitVec.ofNat 32 ↑(i 1))) x0 x1 x2 x7 x3 x4 x5 x6 xs2) _ _ _ _ _ _ _ _ _ _ _ _ ?_ ?_ ?_ ?_ ?_ ?_ 4 s
    · intro s; refine (pc0 ..).trans ?_; rfl
    · intro s; refine (pc1 ..).trans ?_; rfl
    · intro s; refine (pc2 ..).trans ?_; rfl
    · intro s; refine (pc3 ..).trans ?_; rfl
    · intro s; refine (pc4 ..).trans ?_; rfl
    · intro s; refine (pc5 ..).trans ?_; rfl
  · intro b s; refine (pay7_eq ..).trans ?_; refine rows6_at _ _ _ (gC (BitVec.ofNat 32 ↑(i 0)) (Scalar.addi (BitVec.ofNat 32 ↑(i 0)) (BitVec.ofNat 32 ↑(i 1))) x0 x1 x2 x7 x3 x4 x5 x6 xs2) _ _ _ _ _ _ _ _ _ _ _ _ ?_ ?_ ?_ ?_ ?_ ?_ 5 s
    · intro s; refine (pc0 ..).trans ?_; rfl
    · intro s; refine (pc1 ..).trans ?_; rfl
    · intro s; refine (pc2 ..).trans ?_; rfl
    · intro s; refine (pc3 ..).trans ?_; rfl
    · intro s; refine (pc4 ..).trans ?_; rfl
    · intro s; refine (pc5 ..).trans ?_; rfl

end Cert.FoxV
end
-- ==== Proof.Fox.StE.lean ====
module

public import proofs.«01_k».proof.Proof.Fox.AccBase
public import proofs.«01_k».proof.Proof.Fox.CaseE

@[expose] public section

set_option maxRecDepth 16384

noncomputable section

namespace Cert.FoxV

set_option maxHeartbeats 4000000

open Cert.Mem Cert.FoxI Cert.Kernel27Ideal Cert.Kernel27Ideal.Gen Idealize.ShloMosaic Idealize.ShloMosaic.TcCoe Idealize.SL.Sem

variable (m : (ℓ : Loc nD τ sig) → Buf (Elt Ideal) ℓ) (hO : Ok m) (c : Dev nD)

theorem stE_s0 (t : Fin (cfgM m hO).N) (h0 : ¬cond0_0 (grid0.coords t)) (h2 : cond0_2 (grid0.coords t)) (h1 : Reach m hO t) (p : St Ideal) :
    (stE m hO c t h0 h2 h1 p).2.2.2.1 = gK (wa m hO t) (wb m hO t) (B0 m hO c t) (B1 m hO c t) (B2 m hO c t) (B7 m hO c t) (B3 m hO c t) (B4 m hO c t) (B5 m hO c t) (B6 m hO c t) p.2.2.2.1 :=
  E_s0 VS0_0 VS0_0.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1

theorem stE_s1 (t : Fin (cfgM m hO).N) (h0 : ¬cond0_0 (grid0.coords t)) (h2 : cond0_2 (grid0.coords t)) (h1 : Reach m hO t) (p : St Ideal) :
    (stE m hO c t h0 h2 h1 p).2.2.2.2.1 = gV (wa m hO t) (wb m hO t) (B0 m hO c t) (B1 m hO c t) (B7 m hO c t) (B3 m hO c t) (B4 m hO c t) (B5 m hO c t) p.2.2.2.2.1 :=
  E_s1 VS0_1 VS0_1.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1

theorem stE_s2 (t : Fin (cfgM m hO).N) (h0 : ¬cond0_0 (grid0.coords t)) (h2 : cond0_2 (grid0.coords t)) (h1 : Reach m hO t) (p : St Ideal) :
    (stE m hO c t h0 h2 h1 p).2.2.2.2.2 = gC (wa m hO t) (wb m hO t) (B0 m hO c t) (B1 m hO c t) (B2 m hO c t) (B7 m hO c t) (B3 m hO c t) (B4 m hO c t) (B5 m hO c t) (B6 m hO c t) p.2.2.2.2.2 :=
  E_s2 VS0_2 ((Memref.isWhole_whole cc0_scratch2).unread p.2.2.2.2.2) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1 (Memref.IsWhole.read_unread (Memref.isWhole_whole cc0_scratch2) p.2.2.2.2.2)

theorem stE_8 (t : Fin (cfgM m hO).N) (h0 : ¬cond0_0 (grid0.coords t)) (h2 : cond0_2 (grid0.coords t)) (h1 : Reach m hO t) (p : St Ideal) :
    (stE m hO c t h0 h2 h1 p).1 = gK (wa m hO t) (wb m hO t) (B0 m hO c t) (B1 m hO c t) (B2 m hO c t) (B7 m hO c t) (B3 m hO c t) (B4 m hO c t) (B5 m hO c t) (B6 m hO c t) p.2.2.2.1 :=
  E_8 VO0_8 VO0_8.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1

theorem stE_9 (t : Fin (cfgM m hO).N) (h0 : ¬cond0_0 (grid0.coords t)) (h2 : cond0_2 (grid0.coords t)) (h1 : Reach m hO t) (p : St Ideal) :
    (stE m hO c t h0 h2 h1 p).2.1 = gV (wa m hO t) (wb m hO t) (B0 m hO c t) (B1 m hO c t) (B7 m hO c t) (B3 m hO c t) (B4 m hO c t) (B5 m hO c t) p.2.2.2.2.1 :=
  E_9 VO0_9 VO0_9.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1

theorem stE_10 (t : Fin (cfgM m hO).N) (h0 : ¬cond0_0 (grid0.coords t)) (h2 : cond0_2 (grid0.coords t)) (h1 : Reach m hO t) (p : St Ideal) :
    (stE m hO c t h0 h2 h1 p).2.2.1 = g8 (gC (wa m hO t) (wb m hO t) (B0 m hO c t) (B1 m hO c t) (B2 m hO c t) (B7 m hO c t) (B3 m hO c t) (B4 m hO c t) (B5 m hO c t) (B6 m hO c t) p.2.2.2.2.2) :=
  E_10 VO0_10 VO0_10.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1

end Cert.FoxV

end
-- ==== Proof.Fox.StF.lean ====
module

public import proofs.«01_k».proof.Proof.Fox.AccBase
public import proofs.«01_k».proof.Proof.Fox.CaseF

@[expose] public section

set_option maxRecDepth 16384

noncomputable section

namespace Cert.FoxV

set_option maxHeartbeats 4000000

open Cert.Mem Cert.FoxI Cert.Kernel27Ideal Cert.Kernel27Ideal.Gen Idealize.ShloMosaic Idealize.ShloMosaic.TcCoe Idealize.SL.Sem

variable (m : (ℓ : Loc nD τ sig) → Buf (Elt Ideal) ℓ) (hO : Ok m) (c : Dev nD)

theorem stF_8 (t : Fin (cfgM m hO).N) (h0 : ¬cond0_0 (grid0.coords t)) (h2 : cond0_2 (grid0.coords t)) (h1 : ¬Reach m hO t) (p : St Ideal) :
    (stF m hO c t h0 h2 h1 p).1 = p.2.2.2.1 :=
  F_8 VO0_8 VO0_8.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1

theorem stF_9 (t : Fin (cfgM m hO).N) (h0 : ¬cond0_0 (grid0.coords t)) (h2 : cond0_2 (grid0.coords t)) (h1 : ¬Reach m hO t) (p : St Ideal) :
    (stF m hO c t h0 h2 h1 p).2.1 = p.2.2.2.2.1 :=
  F_9 VO0_9 VO0_9.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1

theorem stF_10 (t : Fin (cfgM m hO).N) (h0 : ¬cond0_0 (grid0.coords t)) (h2 : cond0_2 (grid0.coords t)) (h1 : ¬Reach m hO t) (p : St Ideal) :
    (stF m hO c t h0 h2 h1 p).2.2.1 = g8 (p.2.2.2.2.2) :=
  F_10 VO0_10 VO0_10.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) h0 h2 (iblk m hO c 0 t) (iblk m hO c 1 t) (iblk m hO c 2 t) (iblk m hO c 3 t) (iblk m hO c 4 t) (iblk m hO c 5 t) (iblk m hO c 6 t) (iblk m hO c 7 t) (tbl m 0) p.2.2.2.1 p.2.2.2.2.1 p.2.2.2.2.2 h1

end Cert.FoxV

end
-- ==== Proof.Fox.Acc.lean ====
module

public import proofs.«01_k».proof.Proof.Fox.StA
public import proofs.«01_k».proof.Proof.Fox.StC
public import proofs.«01_k».proof.Proof.Fox.StE
public import proofs.«01_k».proof.Proof.Fox.StF

@[expose] public section

set_option maxRecDepth 16384

noncomputable section

namespace Cert.FoxV

set_option maxHeartbeats 4000000

open Cert.Mem Cert.FoxI Cert.Kernel27Ideal Cert.Kernel27Ideal.Gen Idealize.ShloMosaic Idealize.ShloMosaic.TcCoe Idealize.SL.Sem

variable (m : (ℓ : Loc nD τ sig) → Buf (Elt Ideal) ℓ) (hO : Ok m) (c : Dev nD)

theorem reset_s0 (t : Fin (cfgM m hO).N) (ht : t.val % 16 = 0) (y : S512x768.Idx) :
    (outsAt m hO c t.val t.isLt).2.2.2.1 y = (z0 : Vec Ideal S512x768 .f32) y + termK m hO c t y := by
  have hlt := t_lt m hO t
  have hr : t.val / 16 + t.val % 16 ≤ 15 := by omega
  have h0 : cond0_0 (grid0.coords t) := (hcond0_0 t).mpr ht
  have h2 : ¬cond0_2 (grid0.coords t) := fun h => by have := (hcond0_2 t).mp h; omega
  have h1 : Reach m hO t := (reach_iff m hO t).mpr hr
  rw [outsAt_eq, step_A m hO c t h0 h2 h1, stA_s0]
  exact gK_eq m hO c t hr _ y

theorem step_s0 (t : Fin (cfgM m hO).N) (ht : ¬t.val % 16 = 0) (y : S512x768.Idx) :
    (outsAt m hO c t.val t.isLt).2.2.2.1 y = (outsAt m hO c (t.val - 1) (Nat.lt_of_le_of_lt (Nat.sub_le _ _) t.isLt)).2.2.2.1 y + termK m hO c t y := by
  have hlt := t_lt m hO t
  have h0 : ¬cond0_0 (grid0.coords t) := fun h => ht ((hcond0_0 t).mp h)
  have hz : t.val ≠ 0 := by omega
  rw [outsAt_eq, prev_pos m hO c t hz]
  by_cases hr : t.val / 16 + t.val % 16 ≤ 15
  · have h1 : Reach m hO t := (reach_iff m hO t).mpr hr
    by_cases h2 : cond0_2 (grid0.coords t)
    · rw [step_E m hO c t h0 h2 h1, stE_s0]
      exact gK_eq m hO c t hr _ y
    · rw [step_C m hO c t h0 h2 h1, stC_s0]
      exact gK_eq m hO c t hr _ y
  · have h1 : ¬Reach m hO t := fun h => hr ((reach_iff m hO t).mp h)
    have e : termK m hO c t y = 0 := if_neg hr
    rw [e, add_zero]
    by_cases h2 : cond0_2 (grid0.coords t)
    · rw [step_F m hO c t h0 h2 h1]; rfl
    · rw [step_D m hO c t h0 h2 h1]; rfl

theorem reset_s1 (t : Fin (cfgM m hO).N) (ht : t.val % 16 = 0) (y : S512x768.Idx) :
    (outsAt m hO c t.val t.isLt).2.2.2.2.1 y = (z0 : Vec Ideal S512x768 .f32) y + termV m hO c t y := by
  have hlt := t_lt m hO t
  have hr : t.val / 16 + t.val % 16 ≤ 15 := by omega
  have h0 : cond0_0 (grid0.coords t) := (hcond0_0 t).mpr ht
  have h2 : ¬cond0_2 (grid0.coords t) := fun h => by have := (hcond0_2 t).mp h; omega
  have h1 : Reach m hO t := (reach_iff m hO t).mpr hr
  rw [outsAt_eq, step_A m hO c t h0 h2 h1, stA_s1]
  exact gV_eq m hO c t hr _ y

theorem step_s1 (t : Fin (cfgM m hO).N) (ht : ¬t.val % 16 = 0) (y : S512x768.Idx) :
    (outsAt m hO c t.val t.isLt).2.2.2.2.1 y = (outsAt m hO c (t.val - 1) (Nat.lt_of_le_of_lt (Nat.sub_le _ _) t.isLt)).2.2.2.2.1 y + termV m hO c t y := by
  have hlt := t_lt m hO t
  have h0 : ¬cond0_0 (grid0.coords t) := fun h => ht ((hcond0_0 t).mp h)
  have hz : t.val ≠ 0 := by omega
  rw [outsAt_eq, prev_pos m hO c t hz]
  by_cases hr : t.val / 16 + t.val % 16 ≤ 15
  · have h1 : Reach m hO t := (reach_iff m hO t).mpr hr
    by_cases h2 : cond0_2 (grid0.coords t)
    · rw [step_E m hO c t h0 h2 h1, stE_s1]
      exact gV_eq m hO c t hr _ y
    · rw [step_C m hO c t h0 h2 h1, stC_s1]
      exact gV_eq m hO c t hr _ y
  · have h1 : ¬Reach m hO t := fun h => hr ((reach_iff m hO t).mp h)
    have e : termV m hO c t y = 0 := if_neg hr
    rw [e, add_zero]
    by_cases h2 : cond0_2 (grid0.coords t)
    · rw [step_F m hO c t h0 h2 h1]; rfl
    · rw [step_D m hO c t h0 h2 h1]; rfl

theorem reset_s2 (t : Fin (cfgM m hO).N) (ht : t.val % 16 = 0) (y : S8x512.Idx) :
    (outsAt m hO c t.val t.isLt).2.2.2.2.2 y = (z2 : Vec Ideal S8x512 .f32) y + termC m hO c t y := by
  have hlt := t_lt m hO t
  have hr : t.val / 16 + t.val % 16 ≤ 15 := by omega
  have h0 : cond0_0 (grid0.coords t) := (hcond0_0 t).mpr ht
  have h2 : ¬cond0_2 (grid0.coords t) := fun h => by have := (hcond0_2 t).mp h; omega
  have h1 : Reach m hO t := (reach_iff m hO t).mpr hr
  rw [outsAt_eq, step_A m hO c t h0 h2 h1, stA_s2]
  exact gC_eq m hO c t hr _ y

theorem step_s2 (t : Fin (cfgM m hO).N) (ht : ¬t.val % 16 = 0) (y : S8x512.Idx) :
    (outsAt m hO c t.val t.isLt).2.2.2.2.2 y = (outsAt m hO c (t.val - 1) (Nat.lt_of_le_of_lt (Nat.sub_le _ _) t.isLt)).2.2.2.2.2 y + termC m hO c t y := by
  have hlt := t_lt m hO t
  have h0 : ¬cond0_0 (grid0.coords t) := fun h => ht ((hcond0_0 t).mp h)
  have hz : t.val ≠ 0 := by omega
  rw [outsAt_eq, prev_pos m hO c t hz]
  by_cases hr : t.val / 16 + t.val % 16 ≤ 15
  · have h1 : Reach m hO t := (reach_iff m hO t).mpr hr
    by_cases h2 : cond0_2 (grid0.coords t)
    · rw [step_E m hO c t h0 h2 h1, stE_s2]
      exact gC_eq m hO c t hr _ y
    · rw [step_C m hO c t h0 h2 h1, stC_s2]
      exact gC_eq m hO c t hr _ y
  · have h1 : ¬Reach m hO t := fun h => hr ((reach_iff m hO t).mp h)
    have e : termC m hO c t y = 0 := if_neg hr
    rw [e, add_zero]
    by_cases h2 : cond0_2 (grid0.coords t)
    · rw [step_F m hO c t h0 h2 h1]; rfl
    · rw [step_D m hO c t h0 h2 h1]; rfl

theorem out_8 (t : Fin (cfgM m hO).N) (ht : t.val % 16 = 15) :
    (outsAt m hO c t.val t.isLt).1 = (outsAt m hO c t.val t.isLt).2.2.2.1 := by
  have hlt := t_lt m hO t
  have h0 : ¬cond0_0 (grid0.coords t) := fun h => by have := (hcond0_0 t).mp h; omega
  have h2 : cond0_2 (grid0.coords t) := (hcond0_2 t).mpr ht
  rw [outsAt_eq]
  by_cases h1 : Reach m hO t
  · rw [step_E m hO c t h0 h2 h1, stE_8, stE_s0]
  · rw [step_F m hO c t h0 h2 h1, stF_8]; rfl

theorem out_9 (t : Fin (cfgM m hO).N) (ht : t.val % 16 = 15) :
    (outsAt m hO c t.val t.isLt).2.1 = (outsAt m hO c t.val t.isLt).2.2.2.2.1 := by
  have hlt := t_lt m hO t
  have h0 : ¬cond0_0 (grid0.coords t) := fun h => by have := (hcond0_0 t).mp h; omega
  have h2 : cond0_2 (grid0.coords t) := (hcond0_2 t).mpr ht
  rw [outsAt_eq]
  by_cases h1 : Reach m hO t
  · rw [step_E m hO c t h0 h2 h1, stE_9, stE_s1]
  · rw [step_F m hO c t h0 h2 h1, stF_9]; rfl

theorem out_10 (t : Fin (cfgM m hO).N) (ht : t.val % 16 = 15) :
    (outsAt m hO c t.val t.isLt).2.2.1 = g8 (outsAt m hO c t.val t.isLt).2.2.2.2.2 := by
  have hlt := t_lt m hO t
  have h0 : ¬cond0_0 (grid0.coords t) := fun h => by have := (hcond0_0 t).mp h; omega
  have h2 : cond0_2 (grid0.coords t) := (hcond0_2 t).mpr ht
  rw [outsAt_eq]
  by_cases h1 : Reach m hO t
  · rw [step_E m hO c t h0 h2 h1, stE_10, stE_s2]
  · rw [step_F m hO c t h0 h2 h1, stF_10]; rfl

end Cert.FoxV

end
-- ==== Proof.Fox.Out.lean ====
module

public import proofs.«01_k».proof.Proof.Fox.Terms
public import proofs.«01_k».proof.Proof.Fox.Acc
public import Idealize.ShloMosaic.Lib.Pipeline.ValueKit
public import Idealize.ShloMosaic.Lib.Pipeline.Covers

@[expose] public section

set_option maxRecDepth 16384

noncomputable section

namespace Cert.FoxV

set_option maxHeartbeats 4000000

open Cert.Mem Cert.FoxI Cert.Kernel27Ideal Cert.Kernel27Ideal.Gen Idealize.ShloMosaic Idealize.ShloMosaic.TcCoe Idealize.SL.Sem

variable (m : (ℓ : Loc nD τ sig) → Buf (Elt Ideal) ℓ) (hO : Ok m) (c : Dev nD)

/-! ## The three output arrays -/

/-- The first step of a block of keys. -/
theorem first_step (j : ℕ) (hj : j < 16) : ∃ t : Fin (cfgM m hO).N, kj m hO t = j :=
  ⟨⟨16 * j, Nat.lt_of_lt_of_eq (by omega : 16 * j < 256) N_0.symm⟩, by show 16 * j / 16 = j; omega⟩

theorem covers8 : ((cfgM m hO).win 8).Covers :=
  Pipeline.Window.covers_of_index_surj _ rfl (fun a => by match a with | ⟨0, _⟩ => exact (by decide : 0 < 512) | ⟨1, _⟩ => exact (by decide : 0 < 768)) fun β => by
    have h0 : (β (0 : Fin 2)).val < 16 := Nat.lt_of_lt_of_eq (show (β (0 : Fin 2)).val < (8192 + 512 - 1) / 512 from (β (0 : Fin 2)).isLt) (by decide)
    have h1 : (β (1 : Fin 2)).val < 1 := Nat.lt_of_lt_of_eq (show (β (1 : Fin 2)).val < (768 + 768 - 1) / 768 from (β (1 : Fin 2)).isLt) (by decide)
    obtain ⟨t, ht⟩ := first_step m hO (β (0 : Fin 2)).val h0
    refine ⟨t, fun a => ?_⟩
    rw [wix8]
    match a with
    | ⟨0, _⟩ => exact ht
    | ⟨1, _⟩ => show 0 = (β (1 : Fin 2)).val; omega

theorem covers9 : ((cfgM m hO).win 9).Covers :=
  Pipeline.Window.covers_of_index_surj _ rfl (fun a => by match a with | ⟨0, _⟩ => exact (by decide : 0 < 512) | ⟨1, _⟩ => exact (by decide : 0 < 768)) fun β => by
    have h0 : (β (0 : Fin 2)).val < 16 := Nat.lt_of_lt_of_eq (show (β (0 : Fin 2)).val < (8192 + 512 - 1) / 512 from (β (0 : Fin 2)).isLt) (by decide)
    have h1 : (β (1 : Fin 2)).val < 1 := Nat.lt_of_lt_of_eq (show (β (1 : Fin 2)).val < (768 + 768 - 1) / 768 from (β (1 : Fin 2)).isLt) (by decide)
    obtain ⟨t, ht⟩ := first_step m hO (β (0 : Fin 2)).val h0
    refine ⟨t, fun a => ?_⟩
    rw [wix9]
    match a with
    | ⟨0, _⟩ => exact ht
    | ⟨1, _⟩ => show 0 = (β (1 : Fin 2)).val; omega

theorem covers10 : ((cfgM m hO).win 10).Covers :=
  Pipeline.Window.covers_of_index_surj _ rfl (fun a => by match a with | ⟨0, _⟩ => exact (by decide : 0 < 6) | ⟨1, _⟩ => exact (by decide : 0 < 8) | ⟨2, _⟩ => exact (by decide : 0 < 512)) fun β => by
    have h0 : (β (0 : Fin 3)).val < 1 := Nat.lt_of_lt_of_eq (show (β (0 : Fin 3)).val < (6 + 6 - 1) / 6 from (β (0 : Fin 3)).isLt) (by decide)
    have h1 : (β (1 : Fin 3)).val < 1 := Nat.lt_of_lt_of_eq (show (β (1 : Fin 3)).val < (8 + 8 - 1) / 8 from (β (1 : Fin 3)).isLt) (by decide)
    have h2 : (β (2 : Fin 3)).val < 16 := Nat.lt_of_lt_of_eq (show (β (2 : Fin 3)).val < (8192 + 512 - 1) / 512 from (β (2 : Fin 3)).isLt) (by decide)
    obtain ⟨t, ht⟩ := first_step m hO (β (2 : Fin 3)).val h2
    refine ⟨t, fun a => ?_⟩
    rw [wix10]
    match a with
    | ⟨0, _⟩ => show 0 = (β (0 : Fin 3)).val; omega
    | ⟨1, _⟩ => show 0 = (β (1 : Fin 3)).val; omega
    | ⟨2, _⟩ => exact ht

theorem acc_0 (t : Fin (cfgM m hO).N) (ht : t.val % 16 = 15) (y : S512x768.Idx) :
    (outsAt m hO c t.val t.isLt).2.2.2.1 y = ∑ s : Fin 16, termK m hO c ⟨16 * (t.val / 16) + s.val, by have := t.isLt; omega⟩ y := by
  refine (Pipeline.eq_sum_fin_of_reset_step_apply_of_flush (fun n h => (outsAt m hO c n h).2.2.2.1) 16 z0
    (fun t y => termK m hO c t y) (fun t h y => reset_s0 m hO c t h y) (fun t h y => step_s0 m hO c t h y) t ht y).trans ?_
  exact zero_add _

theorem acc_1 (t : Fin (cfgM m hO).N) (ht : t.val % 16 = 15) (y : S512x768.Idx) :
    (outsAt m hO c t.val t.isLt).2.2.2.2.1 y = ∑ s : Fin 16, termV m hO c ⟨16 * (t.val / 16) + s.val, by have := t.isLt; omega⟩ y := by
  refine (Pipeline.eq_sum_fin_of_reset_step_apply_of_flush (fun n h => (outsAt m hO c n h).2.2.2.2.1) 16 z0
    (fun t y => termV m hO c t y) (fun t h y => reset_s1 m hO c t h y) (fun t h y => step_s1 m hO c t h y) t ht y).trans ?_
  exact zero_add _

theorem acc_2 (t : Fin (cfgM m hO).N) (ht : t.val % 16 = 15) (y : S8x512.Idx) :
    (outsAt m hO c t.val t.isLt).2.2.2.2.2 y = ∑ s : Fin 16, termC m hO c ⟨16 * (t.val / 16) + s.val, by have := t.isLt; omega⟩ y := by
  refine (Pipeline.eq_sum_fin_of_reset_step_apply_of_flush (fun n h => (outsAt m hO c n h).2.2.2.2.2) 16 z2
    (fun t y => termC m hO c t y) (fun t h y => reset_s2 m hO c t h y) (fun t h y => step_s2 m hO c t h y) t ht y).trans ?_
  exact zero_add _

theorem tot_0 (t : Fin (cfgM m hO).N) (ht : t.val % 16 = 15) (y : S512x768.Idx) :
    (outsAt m hO c t.val t.isLt).2.2.2.1 y = ∑ i : Fin 16, rK (X0 m c) (X1 m c) (X2 m c) (XL m c) (XD m c) i.val (rowOf (kj m hO t) (y 0)) (y 1) := by
  have hk := kj_le m hO t
  rw [acc_0 m hO c t ht]
  refine Eq.trans (Finset.sum_congr rfl fun s _ => ?_) (tri_sum (fun i => rK (X0 m c) (X1 m c) (X2 m c) (XL m c) (XD m c) i (rowOf (kj m hO t) (y 0)) (y 1)) (kj m hO t) hk fun i hi => rK_late (X0 m c) (X1 m c) (X2 m c) (XL m c) (XD m c) i _ hk hi (y 0) (y 1))
  have e1 : (16 * (t.val / 16) + s.val) / 16 = t.val / 16 := by omega
  have e2 : (16 * (t.val / 16) + s.val) % 16 = s.val := by omega
  refine (termK_eq ..).trans ?_
  unfold qi kj
  simp only [e1, e2]

theorem tot_1 (t : Fin (cfgM m hO).N) (ht : t.val % 16 = 15) (y : S512x768.Idx) :
    (outsAt m hO c t.val t.isLt).2.2.2.2.1 y = ∑ i : Fin 16, rV (X0 m c) (X1 m c) (X2 m c) (XL m c) i.val (rowOf (kj m hO t) (y 0)) (y 1) := by
  have hk := kj_le m hO t
  rw [acc_1 m hO c t ht]
  refine Eq.trans (Finset.sum_congr rfl fun s _ => ?_) (tri_sum (fun i => rV (X0 m c) (X1 m c) (X2 m c) (XL m c) i (rowOf (kj m hO t) (y 0)) (y 1)) (kj m hO t) hk fun i hi => rV_late (X0 m c) (X1 m c) (X2 m c) (XL m c) i _ hk hi (y 0) (y 1))
  have e1 : (16 * (t.val / 16) + s.val) / 16 = t.val / 16 := by omega
  have e2 : (16 * (t.val / 16) + s.val) % 16 = s.val := by omega
  refine (termV_eq ..).trans ?_
  unfold qi kj
  simp only [e1, e2]

theorem tot_2 (t : Fin (cfgM m hO).N) (ht : t.val % 16 = 15) (h : Fin 6) (s₀ : Fin 512) :
    (outsAt m hO c t.val t.isLt).2.2.2.2.2 (ix2 (up h) s₀) = ∑ i : Fin 16, rC (X0 m c) (X1 m c) (X2 m c) (XL m c) (XD m c) i.val (rowOf (kj m hO t) s₀) h := by
  have hk := kj_le m hO t
  rw [acc_2 m hO c t ht]
  refine Eq.trans (Finset.sum_congr rfl fun s _ => ?_) (tri_sum (fun i => rC (X0 m c) (X1 m c) (X2 m c) (XL m c) (XD m c) i (rowOf (kj m hO t) s₀) h) (kj m hO t) hk fun i hi => rC_late (X0 m c) (X1 m c) (X2 m c) (XL m c) (XD m c) i _ hk hi s₀ h)
  have e1 : (16 * (t.val / 16) + s.val) / 16 = t.val / 16 := by omega
  have e2 : (16 * (t.val / 16) + s.val) % 16 = s.val := by omega
  refine (termC_eq ..).trans ?_
  unfold qi kj
  simp only [e1, e2]

end Cert.FoxV

end
-- ==== Proof.Fox.Arrays.lean ====
module

public import proofs.«01_k».proof.Proof.Fox.Out
public import Idealize.ShloMosaic.Lib.Pipeline.ValueKit

@[expose] public section

set_option maxRecDepth 16384

noncomputable section

namespace Cert.FoxV

set_option maxHeartbeats 4000000

open Cert.Mem Cert.FoxI Cert.Kernel27Ideal Cert.Kernel27Ideal.Gen Idealize.ShloMosaic Idealize.ShloMosaic.TcCoe Idealize.SL.Sem

variable (m : (ℓ : Loc nD τ sig) → Buf (Elt Ideal) ℓ) (hO : Ok m) (c : Dev nD)

/-! ## The arrays written back -/

abbrev ODK : Vec Ideal S8192x768 .bf16 := fun i => ∑ b : Fin 16, rK (X0 m c) (X1 m c) (X2 m c) (XL m c) (XD m c) b.val (i 0) (i 1)
abbrev ODV : Vec Ideal S8192x768 .bf16 := fun i => ∑ b : Fin 16, rV (X0 m c) (X1 m c) (X2 m c) (XL m c) b.val (i 0) (i 1)
abbrev ODC : Vec Ideal S6x8x8192 .f32 := fun i => ∑ b : Fin 16, rC (X0 m c) (X1 m c) (X2 m c) (XL m c) (XD m c) b.val (i 2) (i 0)

theorem emb8 (t : Fin (cfgM m hO).N) (r : Fin 512) (d : Fin 768) :
    ((((cfgM m hO).win 8).blk t).view.emb (ix2 r d) : S8192x768.Idx) = ix2 (rowOf (kj m hO t) r) d := by
  have hk := kj_le m hO t
  refine idx_ext2 ?_ ?_
  · blk_simp [wix8 m hO t]
    rw [rowOf_val _ hk]
    omega
  · blk_simp [wix8 m hO t]

theorem arr8 : (dats m hO 0 c).arrAt 8 (cfgM m hO).N = ODK m c := by
  refine (dats m hO 0 c).arrAt_eq_of_covers 8 _ (covers8 m hO) fun t hf (y : S512x768.Idx) => ?_
  obtain ⟨r, d, rfl⟩ : ∃ (r : Fin 512) (d : Fin 768), y = ix2 r d := ⟨y 0, y 1, eq_ix2 y⟩
  have ht : t.val % 16 = 15 := (flush0_8 _ t).mp hf
  have e : (dats m hO 0 c).after 8 t = (outsAt m hO c t.val t.isLt).2.2.2.1 := (after0_8 m hO c t).trans (out_8 m hO c t ht)
  refine Eq.trans ?_ (congrArg (ODK m c) (emb8 m hO t r d)).symm
  refine Eq.trans ?_ (tot_0 m hO c t ht (ix2 r d))
  exact congrFun e (ix2 r d)

theorem emb9 (t : Fin (cfgM m hO).N) (r : Fin 512) (d : Fin 768) :
    ((((cfgM m hO).win 9).blk t).view.emb (ix2 r d) : S8192x768.Idx) = ix2 (rowOf (kj m hO t) r) d := by
  have hk := kj_le m hO t
  refine idx_ext2 ?_ ?_
  · blk_simp [wix9 m hO t]
    rw [rowOf_val _ hk]
    omega
  · blk_simp [wix9 m hO t]

theorem arr9 : (dats m hO 0 c).arrAt 9 (cfgM m hO).N = ODV m c := by
  refine (dats m hO 0 c).arrAt_eq_of_covers 9 _ (covers9 m hO) fun t hf (y : S512x768.Idx) => ?_
  obtain ⟨r, d, rfl⟩ : ∃ (r : Fin 512) (d : Fin 768), y = ix2 r d := ⟨y 0, y 1, eq_ix2 y⟩
  have ht : t.val % 16 = 15 := (flush0_9 _ t).mp hf
  have e : (dats m hO 0 c).after 9 t = (outsAt m hO c t.val t.isLt).2.2.2.2.1 := (after0_9 m hO c t).trans (out_9 m hO c t ht)
  refine Eq.trans ?_ (congrArg (ODV m c) (emb9 m hO t r d)).symm
  refine Eq.trans ?_ (tot_1 m hO c t ht (ix2 r d))
  exact congrFun e (ix2 r d)

theorem emb10 (t : Fin (cfgM m hO).N) (h : Fin 6) (a : Fin 8) (r : Fin 512) :
    ((((cfgM m hO).win 10).blk t).view.emb (ix3 h a r) : S6x8x8192.Idx) = ix3 h a (rowOf (kj m hO t) r) := by
  have hk := kj_le m hO t
  refine idx_ext3 ?_ ?_ ?_
  · blk_simp [wix10 m hO t]
  · blk_simp [wix10 m hO t]
  · blk_simp [wix10 m hO t]
    rw [rowOf_val _ hk]
    omega

theorem arr10 : (dats m hO 0 c).arrAt 10 (cfgM m hO).N = ODC m c := by
  refine (dats m hO 0 c).arrAt_eq_of_covers 10 _ (covers10 m hO) fun t hf (y : S6x8x512.Idx) => ?_
  obtain ⟨h, a, r, rfl⟩ : ∃ (h : Fin 6) (a : Fin 8) (r : Fin 512), y = ix3 h a r := ⟨y 0, y 1, y 2, eq_ix3 y⟩
  have ht : t.val % 16 = 15 := (flush0_10 _ t).mp hf
  have e : (dats m hO 0 c).after 10 t = g8 (outsAt m hO c t.val t.isLt).2.2.2.2.2 := (after0_10 m hO c t).trans (out_10 m hO c t ht)
  refine Eq.trans ?_ (congrArg (ODC m c) (emb10 m hO t h a r)).symm
  refine Eq.trans ?_ (tot_2 m hO c t ht h r)
  exact congrFun e (ix3 h a r)

end Cert.FoxV

end
-- ==== Proof.Fox.Reference.lean ====
module

public import proofs.«01_k».proof.Proof.Fox.Spec
public import proofs.«01_k».proof.Proof.Fox.Host
public import proofs.«01_k».proof.Proof.Gen.Reference27Ideal.Read

@[expose] public section

set_option maxRecDepth 16384

noncomputable section

namespace Cert.FoxV

set_option maxHeartbeats 1000000

open Cert.Mem Cert.Reference27Ideal Cert.Reference27Ideal.Gen Cert.Reference27Ideal.Read Idealize.ShloMosaic Idealize.ShloMosaic.TcCoe Idealize.SL.Sem

/-! ## The reference's arrays, at their entries -/

variable (x0 : Vec Ideal S8192x6144 .f32) (x1 : Vec Ideal S6x8192 .f32) (x2 : Vec Ideal S8192x768 .f32)

theorem v2_at (h : Fin 6) (q : Fin 8192) (x : Fin 128) : val_main_v2 (F := Ideal) x0 (ix3 h q x) = x0 (ix2 q (ck (colOf h x))) := by
  pointwise [val_main_v2, val_main_v1, val_main_v0, ck, colOf]
  exact congrArg x0 (congrArg (ix2 q) (Fin.ext (by show _ + (h.val * 128 + x.val) = _ + (128 * h.val + x.val); omega)))
theorem v5_at (h : Fin 6) (q : Fin 8192) (x : Fin 128) : val_main_v5 (F := Ideal) x0 (ix3 h q x) = x0 (ix2 q (cv (colOf h x))) := by
  pointwise [val_main_v5, val_main_v4, val_main_v3, cv, colOf]
  exact congrArg x0 (congrArg (ix2 q) (Fin.ext (by show _ + (h.val * 128 + x.val) = _ + (128 * h.val + x.val); omega)))
theorem v8_at (h : Fin 6) (q : Fin 8192) (x : Fin 128) : val_main_v8 (F := Ideal) x0 (ix3 h q x) = x0 (ix2 q (cq (colOf h x))) := by
  pointwise [val_main_v8, val_main_v7, val_main_v6, cq, colOf]
  exact congrArg x0 (congrArg (ix2 q) (Fin.ext (by show _ + (h.val * 128 + x.val) = _ + (128 * h.val + x.val); omega)))
theorem v57_at (h : Fin 6) (q : Fin 8192) (x : Fin 128) : val_main_v57 (F := Ideal) x2 (ix3 h q x) = x2 (ix2 q (colOf h x)) := by
  pointwise [val_main_v57, val_main_v56, colOf]
  exact congrArg x2 (congrArg (ix2 q) (Fin.ext (by show h.val * 128 + x.val = 128 * h.val + x.val; omega)))

theorem v18_at (h : Fin 6) (p q : Fin 8192) : val_main_v18 (F := Ideal) x0 x1 (ix3 h p q) = sraw x0 x1 h p q := by
  pointwise [val_main_v18, val_main_v12, val_main_v11, val_main_v10, val_main_cst, val_main_v17, val_main_v16, val_main_v15, val_main_v14, val_main_v13, v8_at, v2_at, sraw, cs]
theorem v60_at (h : Fin 6) (p q : Fin 8192) : val_main_v60 (F := Ideal) x0 x2 (ix3 h p q) = dwt x0 x2 h p q := by
  pointwise [val_main_v60, v57_at, v5_at, dwt]

/-- The mask. -/
theorem v24_1_at (h : Fin 6) (p q : Fin 8192) : val_main_v24_1 (F := Ideal) (ix3 h p q) = 1 ↔ q.val ≤ p.val := by
  have e : val_main_v24_1 (F := Ideal) (ix3 h p q) = IntOp.cmpi CmpIPredicate.sle (BitVec.ofNat 32 q.val) (BitVec.ofNat 32 p.val) := by
    pointwise [val_main_v24_1, val_main_v23, val_main_v22, val_main_v21, val_main_v20, val_main_v19, val_main_v9]
  rw [e]
  have e0 (n : Fin 8192) : (BitVec.ofNat 32 n.val).toInt = (n.val : ℤ) := by
    have := n.isLt
    rw [BitVec.toInt_eq_toNat_of_lt (by rw [BitVec.toNat_ofNat]; omega), BitVec.toNat_ofNat]
    omega
  show BitVec.ofBool (BitVec.sle _ _) = 1#1 ↔ _
  have e3 (b : Bool) : BitVec.ofBool b = 1#1 ↔ b = true := by cases b <;> decide
  rw [e3, BitVec.sle_iff_toInt_le, e0, e0]
  omega

theorem call0_v2_at (i : S6x8192x8192.Idx) : val_main_call0_v2 (F := Ideal) i = (⊥ : EReal) := (val_main_call0_v2_apply i).trans ofBits_neg_inf

theorem v24_at (h : Fin 6) (p q : Fin 8192) : val_main_v24_0 (F := Ideal) x0 x1 (ix3 h p q) = smask x0 x1 h p q := by
  rw [val_main_v24_0_apply, call0_v2_at, v18_at]
  unfold Scalar.select smask
  by_cases g : q.val ≤ p.val
  · rw [if_pos ((v24_1_at h p q).mpr g), if_pos g]
  · rw [if_neg fun e => g ((v24_1_at h p q).mp e), if_neg g]

/-- A row's greatest score, its exponentials, their sum, and the score's cotangent in the reference's form. -/
def tT (h : Fin 6) (p : Fin 8192) : EReal := Finset.univ.fold max ⊥ fun q => smask x0 x1 h p q
def tE (h : Fin 6) (p q : Fin 8192) : EReal := Ideal.exp (smask x0 x1 h p q - tT x0 x1 h p)
def tN (h : Fin 6) (p : Fin 8192) : EReal := ∑ q, tE x0 x1 h p q
def tR (h : Fin 6) (p : Fin 8192) : EReal := ∑ q, dwt x0 x2 h p q * Ideal.div 1 (tN x0 x1 h p * tN x0 x1 h p) * tE x0 x1 h p q
def tG (h : Fin 6) (p q : Fin 8192) : EReal := (Ideal.div (dwt x0 x2 h p q) (tN x0 x1 h p) + -tR x0 x1 x2 h p) * tE x0 x1 h p q
def tS (h : Fin 6) (p q : Fin 8192) : EReal := if q.val ≤ p.val then tG x0 x1 x2 h p q else 0

theorem cst_1_at (i : S_.Idx) : val_main_cst_1 (F := Ideal) i = (⊥ : EReal) := ofBits_neg_inf

theorem v25_at (h : Fin 6) (p : Fin 8192) : val_main_v25 (F := Ideal) x0 x1 (ix2 h p) = tT x0 x1 h p := by
  unfold tT
  pointwise [val_main_v25, v24_at, cst_1_at]

theorem v31_at (i : S6x8192.Idx) : val_main_v31 (F := Ideal) i = (⊥ : EReal) := (val_main_v31_apply i).trans ofBits_neg_inf

theorem v32_at (h : Fin 6) (p : Fin 8192) : val_main_v32 (F := Ideal) x0 x1 (ix2 h p) = tT x0 x1 h p := by
  rw [val_main_v32_apply, v31_at, v25_at]
  exact max_eq_right bot_le

theorem v45_at (h : Fin 6) (p q : Fin 8192) : val_main_v45 (F := Ideal) x0 x1 (ix3 h p q) = tE x0 x1 h p q := by
  pointwise [val_main_v45, val_main_v44, val_main_v43, val_main_v42, v32_at, v24_at, tE]

theorem v46_at (h : Fin 6) (p : Fin 8192) : val_main_v46 (F := Ideal) x0 x1 (ix2 h p) = tN x0 x1 h p := by
  pointwise [val_main_v46, val_main_cst_9, v45_at, tN]

theorem v49_at (h : Fin 6) (p q : Fin 8192) : val_main_v49 (F := Ideal) x0 x1 (ix3 h p q) = Ideal.div (tE x0 x1 h p q) (tN x0 x1 h p) := by
  pointwise [val_main_v49, val_main_v48, val_main_v47, v46_at, v45_at]

theorem cst_10_at : val_main_cst_10 (F := Ideal) ix0 = (1 : EReal) := Ideal.ofBits_one_f32

theorem v64_at (h : Fin 6) (p : Fin 8192) : val_main_v64 (F := Ideal) x0 x1 x2 (ix2 h p) = tR x0 x1 x2 h p := by
  pointwise [val_main_v64, val_main_cst_11, val_main_v63, val_main_v62, val_main_v61, val_main_v52, val_main_v51, cst_10_at, val_main_v50, val_main_v47, v46_at, v45_at, v60_at, tR]

theorem v69_at (h : Fin 6) (p : Fin 8192) : val_main_v69 (F := Ideal) x0 x1 x2 (ix2 h p) = -tR x0 x1 x2 h p := by
  pointwise [val_main_v69, val_main_cst_12, val_main_v66, val_main_v65, v64_at, Finset.univ_unique, Finset.sum_singleton]

theorem v72_at (h : Fin 6) (p q : Fin 8192) : val_main_v72 (F := Ideal) x0 x1 x2 (ix3 h p q) = tG x0 x1 x2 h p q := by
  pointwise [val_main_v72, val_main_v71, val_main_v70, v69_at, val_main_v68, val_main_v67, val_main_v47, v46_at, v45_at, v60_at, tG]

theorem call1_v0_at (i : S6x8192x8192.Idx) : val_main_call1_v0 (F := Ideal) i = (0 : EReal) := by
  exact (val_main_call1_v0_apply i).trans Ideal.ofBits_zero_f32

theorem v73_at (h : Fin 6) (p q : Fin 8192) : val_main_v73 (F := Ideal) x0 x1 x2 (ix3 h p q) = tS x0 x1 x2 h p q := by
  rw [val_main_v73_apply, v72_at, call1_v0_at]
  unfold Scalar.select tS
  by_cases g : q.val ≤ p.val
  · rw [if_pos ((v24_1_at h p q).mpr g), if_pos g]
  · rw [if_neg fun e => g ((v24_1_at h p q).mp e), if_neg g]

end Cert.FoxV

end
-- ==== Proof.Fox.HostAt.lean ====
module

public import proofs.«01_k».proof.Proof.Fox.Reference
public import proofs.«01_k».proof.Proof.Fox.Host
public import proofs.«01_k».proof.Proof.Gen.Reference27Ideal.Read

@[expose] public section

set_option maxRecDepth 16384

noncomputable section

namespace Cert.FoxV

set_option maxHeartbeats 1000000

open Cert.Mem Cert.Kernel27Ideal Cert.Kernel27Ideal.Gen Cert.Reference27Ideal.Read Idealize.ShloMosaic Idealize.ShloMosaic.TcCoe Idealize.SL.Sem

/-! ## The host's arrays, at their entries -/

variable (x0 : Vec Ideal S8192x6144 .f32) (x1 : Vec Ideal S6x8192 .f32) (x2 : Vec Ideal S8192x768 .f32)

theorem expo_gen (S : FVec Ideal S6x8192x8192 .f32) (T : FVec Ideal S6x8192 .f32) (h : Fin 6) (p q : Fin 8192) :
    Host.exp (subf S (broadcastInDim S6x8192x8192 ![0, 1, 2] bcast_S6x8192x1_S6x8192x8192_0_1_2 (broadcastInDim S6x8192x1 ![0, 1] bcast_S6x8192_S6x8192x1_0_1 T))) (ix3 h p q)
      = Ideal.exp (S (ix3 h p q) - T (ix2 h p)) := by
  pointwise []

theorem sum_gen (S : FVec Ideal S6x8192x8192 .f32) (h : Fin 6) (p : Fin 8192) :
    Host.reduceAdd S (constant S_ .f32 0x00000000#32) reducesTo_S6x8192x8192_S6x8192_d2 h_S_ (ix2 h p) = ∑ q, S (ix3 h p q) := by
  pointwise []

theorem logsum_gen (T E : FVec Ideal S6x8192 .f32) (i : S6x8192.Idx) : addf T (Host.log E) i = T i + Ideal.log (E i) := rfl

theorem hS_at (h : Fin 6) (p q : Fin 8192) : hS (F := Ideal) x0 x1 (ix3 h p q) = smask x0 x1 h p q := v24_at x0 x1 h p q
theorem hT_at (h : Fin 6) (p : Fin 8192) : hT (F := Ideal) x0 x1 (ix2 h p) = tT x0 x1 h p := v25_at x0 x1 h p

theorem hE_at (h : Fin 6) (p : Fin 8192) : hE (F := Ideal) x0 x1 (ix2 h p) = tN x0 x1 h p := by
  unfold hE tN tE
  refine (sum_gen _ h p).trans (Finset.sum_congr rfl fun q _ => (expo_gen _ _ h p q).trans ?_)
  rw [hS_at, hT_at]

theorem hL_at (h : Fin 6) (p : Fin 8192) : hL (F := Ideal) x0 x1 (ix2 h p) = tT x0 x1 h p + Ideal.log (tN x0 x1 h p) := by
  unfold hL
  refine (logsum_gen _ _ _).trans ?_
  rw [hT_at, hE_at]

theorem hP_at (h : Fin 6) (p q : Fin 8192) : hP (F := Ideal) x0 x1 (ix3 h p q) = wt x0 x1 (hL (F := Ideal) x0 x1) h p q := by
  unfold hP wt
  refine (expo_gen _ _ h p q).trans ?_
  rw [hS_at]

theorem hD_at (h : Fin 6) (p : Fin 8192) : hD (F := Ideal) x0 x1 x2 (ix2 h p) = ∑ q, wt x0 x1 (hL (F := Ideal) x0 x1) h p q * dwt x0 x2 h p q := by
  unfold hD
  refine (sum_gen _ h p).trans (Finset.sum_congr rfl fun q _ => ?_)
  rw [← hP_at, ← v60_at]
  rfl

end Cert.FoxV

end
-- ==== Proof.Fox.Results.lean ====
module

public import proofs.«01_k».proof.Proof.Fox.Reference
public import proofs.«01_k».proof.Proof.Fox.Host
public import proofs.«01_k».proof.Proof.Gen.Reference27Ideal.Read

@[expose] public section

set_option maxRecDepth 16384

noncomputable section

namespace Cert.FoxV

set_option maxHeartbeats 1000000

open Cert.Mem Cert.Reference27Ideal Cert.Reference27Ideal.Gen Cert.Reference27Ideal.Read Idealize.ShloMosaic Idealize.ShloMosaic.TcCoe Idealize.SL.Sem

/-! ## The reference's results, at their entries -/

variable (x0 : Vec Ideal S8192x6144 .f32) (x1 : Vec Ideal S6x8192 .f32) (x2 : Vec Ideal S8192x768 .f32)

/-- A column within its head. -/
def lo (d : Fin 768) : Fin 128 := ⟨d.val % 128, Nat.mod_lt _ (by decide)⟩
theorem colOf_hd (d : Fin 768) : colOf (hd d) (lo d) = d := Fin.ext (by show 128 * (d.val / 128) + d.val % 128 = d.val; omega)

theorem v58_at (h : Fin 6) (x : Fin 128) (q : Fin 8192) : val_main_v58 (F := Ideal) x0 x1 x2 (ix3 h x q) = ∑ p, x2 (ix2 p (colOf h x)) * Ideal.div (tE x0 x1 h p q) (tN x0 x1 h p) := by
  pointwise [val_main_v58, v57_at, v49_at]

theorem v84_at (h : Fin 6) (x : Fin 128) (q : Fin 8192) : val_main_v84 (F := Ideal) x0 x1 x2 (ix3 h q x) = ∑ p, (tS x0 x1 x2 h p q * cs) * x0 (ix2 p (cq (colOf h x))) := by
  pointwise [val_main_v84, v8_at, val_main_v83, val_main_v82, val_main_cst_17, v73_at, cs]

theorem v90_eq (q : Fin 8192) (d : Fin 768) : val_main_v90 (F := Ideal) x0 x1 x2 (ix2 q d) = val_main_v58 (F := Ideal) x0 x1 x2 (ix3 (hd d) (lo d) q) := by
  pointwise [val_main_v90, val_main_v89, val_main_v88, val_main_v59, hd, lo]

theorem v87_eq (q : Fin 8192) (d : Fin 768) : val_main_v87 (F := Ideal) x0 x1 x2 (ix2 q d) = val_main_v84 (F := Ideal) x0 x1 x2 (ix3 (hd d) q (lo d)) := by
  pointwise [val_main_v87, val_main_v86, val_main_v85, hd, lo]

theorem v81_at (h : Fin 6) (q : Fin 8192) : val_main_v81 (F := Ideal) x0 x1 x2 (ix2 h q) = (∑ p, -tS x0 x1 x2 h p q) + ∑ j, tS x0 x1 x2 h q j := by
  pointwise [val_main_v81, val_main_v80, val_main_v79, val_main_v78, val_main_v77, val_main_v76, val_main_v75, val_main_v74, val_main_cst_13, val_main_cst_14, val_main_cst_15, val_main_cst_16, v73_at, Finset.univ_unique, Finset.sum_singleton]

theorem v92_at (h : Fin 6) (a : Fin 8) (q : Fin 8192) : val_main_v92 (F := Ideal) x0 x1 x2 (ix3 h a q) = (∑ p, -tS x0 x1 x2 h p q) + ∑ j, tS x0 x1 x2 h q j := by
  pointwise [val_main_v92, val_main_v91, v81_at]

theorem v90_at (q : Fin 8192) (d : Fin 768) : val_main_v90 (F := Ideal) x0 x1 x2 (ix2 q d) = ∑ p, x2 (ix2 p d) * Ideal.div (tE x0 x1 (hd d) p q) (tN x0 x1 (hd d) p) := by
  rw [v90_eq, v58_at, colOf_hd]
theorem v87_at (q : Fin 8192) (d : Fin 768) : val_main_v87 (F := Ideal) x0 x1 x2 (ix2 q d) = ∑ p, (tS x0 x1 x2 (hd d) p q * cs) * x0 (ix2 p (cq d)) := by
  rw [v87_eq, v84_at, colOf_hd]

end Cert.FoxV

end
-- ==== Proof.Fox.Join.lean ====
module

public import proofs.«01_k».proof.Proof.Fox.Terms
public import proofs.«01_k».proof.Proof.Fox.Reference
public import proofs.«01_k».proof.Proof.Mem.Real

@[expose] public section

set_option maxRecDepth 16384

noncomputable section

namespace Cert.FoxV

set_option maxHeartbeats 1000000

open Cert.Mem Cert.Kernel27Ideal Cert.Kernel27Ideal.Gen Idealize.ShloMosaic Idealize.ShloMosaic.TcCoe Idealize.SL.Sem

/-! ## The two forms of the attention's gradients, over reals -/

/-- Every row is a row of one of the sixteen blocks. -/
theorem sum_rows (f : Fin 8192 → EReal) : ∑ p : Fin 8192, f p = ∑ i : Fin 16, ∑ r : Fin 512, f (rowOf i.val r) := by
  rw [← Fin.sum_mul_add_congr (S := 16) (n := 512) (F := fun s r => f (rowOf s.val r)) (f := f)
    fun s r hl => congrArg f (Fin.ext (by rw [rowOf_val _ (by omega)]; simp only; omega))]

theorem coe_sum {ι : Type*} (s : Finset ι) (e : ι → ℝ) : ∑ j ∈ s, ((e j : ℝ) : EReal) = ((∑ j ∈ s, e j : ℝ) : EReal) :=
  (map_sum (⟨⟨Real.toEReal, EReal.coe_zero⟩, EReal.coe_add⟩ : ℝ →+ EReal) e s).symm

section Rows

variable (x0 : Vec Ideal S8192x6144 .f32) (x1 : Vec Ideal S6x8192 .f32) (x2 : Vec Ideal S8192x768 .f32) (L D : Vec Ideal S6x8192 .f32)

variable (hq : ∀ p d, ∃ r : ℝ, x0 (ix2 p (cq d)) = r) (hk : ∀ p d, ∃ r : ℝ, x0 (ix2 p (ck d)) = r) (hv : ∀ p d, ∃ r : ℝ, x0 (ix2 p (cv d)) = r)
  (hc : ∀ h p, ∃ r : ℝ, x1 (ix2 h p) = r) (ho : ∀ p d, ∃ r : ℝ, x2 (ix2 p d) = r)

include hq hk hc in
theorem sraw_real (h : Fin 6) (p q : Fin 8192) : ∃ r : ℝ, sraw x0 x1 h p q = r := by
  obtain ⟨a, ha⟩ := sum_real Finset.univ (fun x : Fin 128 => x0 (ix2 p (cq (colOf h x))) * x0 (ix2 q (ck (colOf h x)))) fun x _ => by
    obtain ⟨a, ha⟩ := hq p (colOf h x)
    obtain ⟨b, hb⟩ := hk q (colOf h x)
    exact ⟨a * b, by rw [ha, hb, EReal.coe_mul]⟩
  obtain ⟨s, -, hs⟩ := cs_real
  obtain ⟨b, hb⟩ := hc h p
  obtain ⟨d, hd⟩ := hc h q
  exact ⟨a * s + (b - d), by unfold sraw; rw [ha, hs, hb, hd, EReal.coe_add, EReal.coe_mul, EReal.coe_sub]⟩

include hv ho in
theorem dwt_real (h : Fin 6) (p q : Fin 8192) : ∃ r : ℝ, dwt x0 x2 h p q = r :=
  sum_real Finset.univ _ fun x _ => by
    obtain ⟨a, ha⟩ := ho p (colOf h x)
    obtain ⟨b, hb⟩ := hv q (colOf h x)
    exact ⟨a * b, by rw [ha, hb, EReal.coe_mul]⟩

include hq hk hc in
/-- A row's greatest score is a real. -/
theorem tT_real (h : Fin 6) (p : Fin 8192) : ∃ r : ℝ, tT x0 x1 h p = r := by
  have e : tT x0 x1 h p = Finset.univ.sup (fun q => smask x0 x1 h p q) := rfl
  obtain ⟨q, -, hm⟩ := Finset.exists_mem_eq_sup Finset.univ ⟨p, Finset.mem_univ _⟩ (fun q => smask x0 x1 h p q)
  obtain ⟨a, ha⟩ := sraw_real x0 x1 hq hk hc h p p
  have hp : smask x0 x1 h p p = a := by unfold smask; rw [if_pos le_rfl, ha]
  have hle : smask x0 x1 h p p ≤ tT x0 x1 h p := e ▸ Finset.le_sup (f := fun q => smask x0 x1 h p q) (Finset.mem_univ p)
  by_cases hv : q.val ≤ p.val
  · obtain ⟨b, hb⟩ := sraw_real x0 x1 hq hk hc h p q
    refine ⟨b, e.trans (hm.trans ?_)⟩
    show smask x0 x1 h p q = b
    unfold smask
    rw [if_pos hv, hb]
  · have hb : tT x0 x1 h p = ⊥ := e.trans (hm.trans (by show smask x0 x1 h p q = ⊥; unfold smask; rw [if_neg hv]))
    rw [hb, hp] at hle
    exact absurd (le_bot_iff.mp hle) (EReal.coe_ne_bot a)

include hq hk hc in
/-- A row's exponentials are reals, nought where masked, and their sum is positive; the weights are their shares of it. -/
theorem row_real (h : Fin 6) (p : Fin 8192) (hL : L (ix2 h p) = tT x0 x1 h p + Ideal.log (tN x0 x1 h p)) :
    ∃ (e : Fin 8192 → ℝ) (N : ℝ), 0 < N ∧ (∀ q, 0 ≤ e q) ∧ N = ∑ q, e q ∧ (∀ q, tE x0 x1 h p q = (e q : ℝ)) ∧ tN x0 x1 h p = (N : ℝ)
      ∧ ∀ q, wt x0 x1 L h p q = ((e q * N⁻¹ : ℝ) : EReal) := by
  obtain ⟨T, hT⟩ := tT_real x0 x1 hq hk hc h p
  choose s hs using fun q => sraw_real x0 x1 hq hk hc h p q
  let e : Fin 8192 → ℝ := fun q => if q.val ≤ p.val then Real.exp (s q - T) else 0
  have he0 : ∀ q, 0 ≤ e q := fun q => by
    show 0 ≤ (if q.val ≤ p.val then Real.exp (s q - T) else 0)
    split
    · exact (Real.exp_pos _).le
    · exact le_rfl
  have he : ∀ q, tE x0 x1 h p q = (e q : ℝ) := fun q => by
    show Ideal.exp (smask x0 x1 h p q - tT x0 x1 h p) = (((if q.val ≤ p.val then Real.exp (s q - T) else 0) : ℝ) : EReal)
    unfold smask
    by_cases g : q.val ≤ p.val
    · rw [if_pos g, if_pos g, hs, hT, ← EReal.coe_sub]; rfl
    · rw [if_neg g, if_neg g, sub_eq_add_neg, EReal.bot_add]; rfl
  have hN : tN x0 x1 h p = ((∑ q, e q : ℝ) : EReal) := by
    unfold tN
    rw [Finset.sum_congr rfl fun q _ => he q, coe_sum]
  have hpos : 0 < ∑ q, e q := by
    refine lt_of_lt_of_le ?_ (Finset.single_le_sum (f := e) (fun q _ => he0 q) (Finset.mem_univ p))
    show 0 < (if p.val ≤ p.val then Real.exp (s p - T) else 0)
    rw [if_pos le_rfl]
    exact Real.exp_pos _
  refine ⟨e, ∑ q, e q, hpos, he0, rfl, he, hN, fun q => ?_⟩
  have hLr : L (ix2 h p) = ((T + Real.log (∑ q, e q) : ℝ) : EReal) := by
    rw [hL, hT, hN, EReal.coe_add]
    show _ + (if (∑ q, e q) ≤ 0 then (⊥ : EReal) else ((Real.log (∑ q, e q) : ℝ) : EReal)) = _
    rw [if_neg (not_le.mpr hpos)]
  show Ideal.exp (smask x0 x1 h p q - L (ix2 h p)) = ((((if q.val ≤ p.val then Real.exp (s q - T) else 0)) * (∑ q, e q)⁻¹ : ℝ) : EReal)
  unfold smask
  by_cases g : q.val ≤ p.val
  · rw [if_pos g, if_pos g, hs, hLr, ← EReal.coe_sub]
    show ((Real.exp _ : ℝ) : EReal) = _
    rw [← sub_sub, Real.exp_sub, Real.exp_log hpos, div_eq_mul_inv]
  · rw [if_neg g, if_neg g, sub_eq_add_neg, EReal.bot_add, zero_mul]; rfl

variable (hL : ∀ h p, L (ix2 h p) = tT x0 x1 h p + Ideal.log (tN x0 x1 h p))
  (hD : ∀ h p, D (ix2 h p) = ∑ q, wt x0 x1 L h p q * dwt x0 x2 h p q)

include hq hk hc hL in
theorem share_eq (h : Fin 6) (p q : Fin 8192) : Ideal.div (tE x0 x1 h p q) (tN x0 x1 h p) = wt x0 x1 L h p q := by
  obtain ⟨e, N, hN, -, -, hE, hn, hw⟩ := row_real x0 x1 L hq hk hc h p (hL h p)
  rw [hn, div_real _ _ hN, hE, hw, EReal.coe_mul]

include hq hk hc hL hD in
/-- The score's cotangent is the same in both forms. -/
theorem tS_eq (h : Fin 6) (p q : Fin 8192) : tS x0 x1 x2 h p q = dsc x0 x1 x2 L D h p q := by
  unfold tS
  by_cases g : q.val ≤ p.val
  · rw [if_pos g]
    obtain ⟨e, N, hN, -, -, hE, hn, hw⟩ := row_real x0 x1 L hq hk hc h p (hL h p)
    have hi : 0 ≤ N⁻¹ := (inv_pos.mpr hN).le
    have hR : tR x0 x1 x2 h p = ((N⁻¹ : ℝ) : EReal) * D (ix2 h p) := by
      rw [hD, mul_sum_of_real _ _ _ hi]
      refine Finset.sum_congr rfl fun j _ => ?_
      rw [hn, ← EReal.coe_mul, div_real _ _ (mul_pos hN hN), one_mul, hE, hw, mul_assoc, ← EReal.coe_mul, ← mul_assoc, ← EReal.coe_mul, mul_comm]
      congr 2
      rw [mul_inv]; ring
    unfold tG dsc
    rw [hR, hn, div_real _ _ hN, hE, hw, mul_comm (dwt x0 x2 h p q), ← mul_neg,
      ← EReal.left_distrib_of_nonneg_of_ne_top (EReal.coe_nonneg.mpr hi) (EReal.coe_ne_top _), EReal.coe_mul, ← sub_eq_add_neg, mul_comm, ← mul_assoc]
  · rw [if_neg g, dsc_late x0 x1 x2 L D h p q (by omega)]

include hq hk hv hc ho hL hD in
theorem dsc_real (h : Fin 6) (p : Fin 8192) : ∃ f : Fin 8192 → ℝ, (∀ q, dsc x0 x1 x2 L D h p q = (f q : ℝ)) ∧ ∑ q, f q = 0 := by
  obtain ⟨e, N, hN, -, hs, hE, hn, hw⟩ := row_real x0 x1 L hq hk hc h p (hL h p)
  choose g hg using fun q => dwt_real x0 x2 hv ho h p q
  have hd : D (ix2 h p) = ((∑ q, e q * N⁻¹ * g q : ℝ) : EReal) := by
    rw [hD, Finset.sum_congr rfl fun q _ => by rw [hw, hg, ← EReal.coe_mul], coe_sum]
  refine ⟨fun q => e q * N⁻¹ * (g q - ∑ j, e j * N⁻¹ * g j), fun q => ?_, ?_⟩
  · unfold dsc
    rw [hw, hg, hd, ← EReal.coe_sub, ← EReal.coe_mul]
  · rw [Finset.sum_congr rfl fun q _ => mul_sub (e q * N⁻¹) (g q) _, Finset.sum_sub_distrib, ← Finset.sum_mul, ← Finset.sum_mul, ← hs, mul_inv_cancel₀ hN.ne', one_mul, sub_self]

/-! ## The three gradients -/

include hq hk hc hL in
theorem dv_join (q : Fin 8192) (d : Fin 768) :
    ∑ p, x2 (ix2 p d) * Ideal.div (tE x0 x1 (hd d) p q) (tN x0 x1 (hd d) p) = ∑ i : Fin 16, rV x0 x1 x2 L i.val q d := by
  rw [sum_rows]
  refine Finset.sum_congr rfl fun i _ => Finset.sum_congr rfl fun r _ => ?_
  rw [share_eq x0 x1 L hq hk hc hL, mul_comm]

include hq hk hc hL hD in
theorem dk_join (q : Fin 8192) (d : Fin 768) :
    ∑ p, (tS x0 x1 x2 (hd d) p q * cs) * x0 (ix2 p (cq d)) = ∑ i : Fin 16, rK x0 x1 x2 L D i.val q d := by
  obtain ⟨s, hs, hS⟩ := cs_real
  rw [sum_rows]
  refine Finset.sum_congr rfl fun i _ => ?_
  unfold rK
  rw [hS, sum_mul_of_real _ _ _ hs]
  refine Finset.sum_congr rfl fun r _ => ?_
  rw [tS_eq x0 x1 x2 L D hq hk hc hL hD, mul_assoc, mul_comm (s : EReal), ← mul_assoc]

include hq hk hv hc ho hL hD in
theorem dc_join (h : Fin 6) (q : Fin 8192) :
    (∑ p, -tS x0 x1 x2 h p q) + ∑ j, tS x0 x1 x2 h q j = ∑ i : Fin 16, rC x0 x1 x2 L D i.val q h := by
  have e2 : ∑ j, tS x0 x1 x2 h q j = 0 := by
    obtain ⟨f, hf, h0⟩ := dsc_real x0 x1 x2 L D hq hk hv hc ho hL hD h q
    rw [Finset.sum_congr rfl fun j _ => (tS_eq x0 x1 x2 L D hq hk hc hL hD h q j).trans (hf j), coe_sum, h0]; rfl
  rw [e2, add_zero, sum_rows]
  refine Finset.sum_congr rfl fun i _ => ?_
  unfold rC
  choose f hf h0 using fun p => dsc_real x0 x1 x2 L D hq hk hv hc ho hL hD h p
  rw [Finset.sum_congr rfl fun r _ => by rw [tS_eq x0 x1 x2 L D hq hk hc hL hD, hf, ← EReal.coe_neg], Finset.sum_congr (g := fun r => ((f (rowOf i.val r) q : ℝ) : EReal)) rfl fun r _ => hf (rowOf i.val r) q,
    coe_sum, coe_sum, ← EReal.coe_neg, Finset.sum_neg_distrib]

end Rows

end Cert.FoxV

end
-- ==== Proof.Fox.Final.lean ====
module

public import proofs.«01_k».proof.Defs
public import proofs.«01_k».proof.Proof.Gen.Kernel27
public import proofs.«01_k».proof.Proof.Gen.Kernel27Ideal
public import proofs.«01_k».proof.Proof.Gen.Reference27Ideal
public import proofs.«01_k».proof.Proof.Gen.Reference27Ideal.Run
public import proofs.«01_k».proof.Proof.Gen.Pre_finite27
public import proofs.«01_k».proof.Proof.Fox.FrameBits
public import proofs.«01_k».proof.Proof.Fox.TableBits
public import proofs.«01_k».proof.Proof.Fox.Arrays
public import proofs.«01_k».proof.Proof.Fox.HostAt
public import proofs.«01_k».proof.Proof.Fox.Results
public import proofs.«01_k».proof.Proof.Fox.Join
public import proofs.«01_k».proof.Proof.Mem.Final
public import Idealize.ShloMosaic.Lib.KernelVsHost
public import Idealize.ShloMosaic.Lib.ReduceAll

@[expose] public section

set_option maxRecDepth 16384

noncomputable section

namespace Cert.Final27

open Idealize.ShloMosaic Idealize.ShloMosaic.TcCoe Idealize.SL.Sem Cert.Mem Cert.MemFinal Cert.FoxV

theorem frame : Cert.quiescent_Kernel27 := fun m g _ => Cert.FoxB.frame m g (Cert.FoxB.ok m)
theorem frame_ideal : Cert.quiescent_Kernel27Ideal := fun m g _ => Cert.FoxI.frame m g (Cert.FoxV.ok m)
theorem frame_ideal_pre : Cert.quiescent_Kernel27Ideal_pre_finite27 := fun m g _ => Cert.FoxI.frame m g (Cert.FoxV.ok m)
theorem frame_ref : Cert.quiescent_Reference27Ideal := fun m g _ =>
  (θ_run Cert.Reference27Ideal.defs _ _).mono (fun r h => ⟨fun c => (h c).2.2.2, sem_eq_zero_of_no_sems (by decide) r.2⟩)
    (Cert.Reference27Ideal.Value.run (F := Ideal) m g)
theorem frame_ref_pre : Cert.quiescent_Reference27Ideal_pre_finite27 := fun m g _ => frame_ref m g trivial

theorem preserves : Cert.preserves_Kernel27_Kernel27Ideal := IdealRules.named_const.statement _ _ _ _ _ rfl

/-- The precondition says that the queries, keys and values, the decay sums and the output's cotangent are reals. -/
theorem pre_real (x0 : Cert.Pre_finite27.S8192x6144.Idx → EReal) (x1 : Cert.Pre_finite27.S6x8192.Idx → EReal) (x2 : Cert.Pre_finite27.S8192x768.Idx → EReal)
    (h : Cert.Pre_finite27.fn (F := Ideal) x0 x1 x2 = fun _ => 1#1) :
    (∀ (p : Fin 8192) (d : Fin 2304), ∃ r : ℝ, x0 (ix2 p ⟨3072 + d.val, by omega⟩) = r) ∧ (∀ h p, ∃ r : ℝ, x1 (ix2 h p) = r) ∧ (∀ p d, ∃ r : ℝ, x2 (ix2 p d) = r) := by
  dsimp only [Cert.Pre_finite27.fn] at h
  have h' := congrFun h ix0
  have ⟨hab, hc⟩ := IntOp.andi_eq_one.mp h'
  have ⟨ha, hb⟩ := IntOp.andi_eq_one.mp hab
  refine ⟨fun p d => ?_, fun k p => ?_, fun p d => ?_⟩
  · have e := Host.reduce_andi_all _ _ _ _ _ ha (ix2 p d)
    refine real_of_lt _ (Eq.trans ?_ e)
    pointwise []
  · have e := Host.reduce_andi_all _ _ _ _ _ hb (ix2 k p)
    refine real_of_lt _ (Eq.trans ?_ e)
    pointwise []
  · have e := Host.reduce_andi_all _ _ _ _ _ hc (ix2 p d)
    refine real_of_lt _ (Eq.trans ?_ e)
    pointwise []

section Values

variable (m : (ℓ : Loc Cert.Kernel27Ideal.nD Cert.Kernel27Ideal.τ Cert.Kernel27Ideal.sig) → Buf (Elt Ideal) ℓ) (c : Dev Cert.Kernel27Ideal.nD)
  (hpre : Cert.Pre_finite27.fn (F := Ideal) (X0 m c) (X1 m c) (X2 m c) = fun _ => 1#1)

include hpre
theorem real_q (p : Fin 8192) (d : Fin 768) : ∃ r : ℝ, X0 m c (ix2 p (cq d)) = r := (pre_real _ _ _ hpre).1 p ⟨d.val, by omega⟩
theorem real_k (p : Fin 8192) (d : Fin 768) : ∃ r : ℝ, X0 m c (ix2 p (ck d)) = r := by
  obtain ⟨r, hr⟩ := (pre_real _ _ _ hpre).1 p ⟨768 + d.val, by omega⟩
  exact ⟨r, (congrArg (X0 m c) (congrArg (ix2 p) (Fin.ext (by show 3840 + d.val = 3072 + (768 + d.val); omega)))).trans hr⟩
theorem real_v (p : Fin 8192) (d : Fin 768) : ∃ r : ℝ, X0 m c (ix2 p (cv d)) = r := by
  obtain ⟨r, hr⟩ := (pre_real _ _ _ hpre).1 p ⟨1536 + d.val, by omega⟩
  exact ⟨r, (congrArg (X0 m c) (congrArg (ix2 p) (Fin.ext (by show 4608 + d.val = 3072 + (1536 + d.val); omega)))).trans hr⟩

theorem dk_eq : Cert.Reference27Ideal.Read.val_main_v87 (F := Ideal) (X0 m c) (X1 m c) (X2 m c) = ODK m c := by
  funext i
  obtain ⟨q, d, rfl⟩ : ∃ (q : Fin 8192) (d : Fin 768), i = ix2 q d := ⟨i 0, i 1, eq_ix2 i⟩
  exact (v87_at _ _ _ q d).trans (dk_join _ _ _ _ _ (real_q m c hpre) (real_k m c hpre) (pre_real _ _ _ hpre).2.1 (hL_at _ _) (hD_at _ _ _) q d)

theorem dv_eq : Cert.Reference27Ideal.Read.val_main_v90 (F := Ideal) (X0 m c) (X1 m c) (X2 m c) = ODV m c := by
  funext i
  obtain ⟨q, d, rfl⟩ : ∃ (q : Fin 8192) (d : Fin 768), i = ix2 q d := ⟨i 0, i 1, eq_ix2 i⟩
  exact (v90_at _ _ _ q d).trans (dv_join _ _ _ _ (real_q m c hpre) (real_k m c hpre) (pre_real _ _ _ hpre).2.1 (hL_at _ _) q d)

theorem dc_eq : Cert.Reference27Ideal.Read.val_main_v92 (F := Ideal) (X0 m c) (X1 m c) (X2 m c) = ODC m c := by
  funext i
  obtain ⟨h, a, q, rfl⟩ : ∃ (h : Fin 6) (a : Fin 8) (q : Fin 8192), i = ix3 h a q := ⟨i 0, i 1, i 2, eq_ix3 i⟩
  exact (v92_at _ _ _ h a q).trans (dc_join _ _ _ _ _ (real_q m c hpre) (real_k m c hpre) (real_v m c hpre) (pre_real _ _ _ hpre).2.1 (pre_real _ _ _ hpre).2.2 (hL_at _ _) (hD_at _ _ _) h q)

end Values

open Cert.Kernel27Ideal Cert.Kernel27Ideal.Gen in
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v53_0) = ODK m c
      ∧ r.2.mem ((c.tc : Thread nD τ).loc main_v53_1) = ODV m c
      ∧ r.2.mem ((c.tc : Thread nD τ).loc main_v53_2) = ODC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun r h c => ⟨((h.1 c).1 8).trans (arr8 m (Cert.FoxV.ok m) c), ((h.1 c).1 9).trans (arr9 m (Cert.FoxV.ok m) c), ((h.1 c).1 10).trans (arr10 m (Cert.FoxV.ok m) c), h.2 c⟩)
    (θ_run_and (Cert.FoxI.run_main m g (Cert.FoxV.ok m)) (Cert.FoxI.unchanged m g (Cert.FoxV.ok m)))

theorem algebraic : Cert.algebraic_Kernel27Ideal_Reference27Ideal_pre_finite27 := by
  intro m g m' g' hpre hagree
  refine ⟨fun c => ODK m c, fun c => ODV m c, fun c => ODC m c, kernel_run m g, ?_⟩
  refine (θ_run Cert.Reference27Ideal.defs _ _).mono (fun r h c => ?_) (Cert.Reference27Ideal.Value.run (F := Ideal) m' g')
  obtain ⟨h87, h90, h92, k⟩ := h c
  obtain ⟨e0, e1, e2⟩ := hagree c
  refine ⟨(h87.trans (Cert.Reference27Ideal.Read.val_main_v87_eq m' c)).trans ?_, (h90.trans (Cert.Reference27Ideal.Read.val_main_v90_eq m' c)).trans ?_,
    (h92.trans (Cert.Reference27Ideal.Read.val_main_v92_eq m' c)).trans ?_, k⟩
  · rw [e0, e1, e2]; exact dk_eq m c (hpre c)
  · rw [e0, e1, e2]; exact dv_eq m c (hpre c)
  · rw [e0, e1, e2]; exact dc_eq m c (hpre c)

end Cert.Final27

end
-- ==== Proof.Dq.TableBits.lean ====
module

public import proofs.«01_k».proof.Proof.Dq.FrameBits
public import Idealize.ShloMosaic.Lib.Pipeline.ValueKit

@[expose] public section

set_option maxRecDepth 16384

noncomputable section

namespace Cert.DqB

open Cert.Kernel28 Cert.Kernel28.Gen Idealize.ShloMosaic Idealize.ShloMosaic.TcCoe Idealize.SL.Sem

variable {F : FTy → Type} [FloatOps F]
variable (m : (ℓ : Loc nD τ sig) → Buf (Elt F) ℓ)

set_option maxHeartbeats 8000000

/-! The table of the first blocks is constant: every block of keys is reached from the first one on. -/

/-- The table of the first and the furthest blocks. -/
def tW : Vec F S32 .i32 :=
  concatenate S32 0 [⟨S16, broadcastInDim S16 ![] bcast_S_S16 (constantI S_ 32 0#32)⟩, ⟨S16, broadcastInDim S16 ![] bcast_S_S16 (constantI S_ 32 15#32)⟩] concatenates_S16_S16_S32_d0

theorem V32 (c : Dev nD) : V m c main_v32 = tW (F := F) := by
  simp only [V, List.flatten, List.append_eq, List.nil_append, List.cons_append, List.append_nil, StableHlo.TRef.nullary, StableHlo.TRef.ternary, StableHlo.TRef.unary, StableHlo.TRef.toBuf, StableHlo.TRef.ofBuf, cast_eq]
  after_results_simp
  unfold tW
  rfl

theorem tW_lo (y : S32.Idx) (hy : (y 0).val < 16) : tW (F := F) y = 0#32 := by
  refine (concatenate_pair_apply_left (t := S32) (s₁ := S16) (s₂ := S16) 0 _ _ _ y rfl (ix1 (⟨(y 0).val, hy⟩ : Fin 16)) (fun b => ?_)).trans rfl
  match b with
  | 0 => rfl

theorem off1_val (i : grid0.Coords) : k0_off1 i 0 = (i 0).val := congrFun (k0_off1_eq i) 0

theorem tbl_eq : tbl m 0 = tW (F := F) := V32 m 0

theorem word_at (i : grid0.Coords) (h : ∀ a, (k0_off1 i) a + S1.size a ≤ S32.size a) (n : S1.numel = 1) :
    (tbl m).at 0 (Rect.unit (s := S32) (k0_off1 i) S1.size h) n = 0#32 := by
  have hi : (i 0).val < 16 := (i 0).isLt
  show tbl m 0 _ = _
  rw [tbl_eq]
  refine tW_lo _ ?_
  have e : ∀ k : Fin 1, k.val = 0 := by decide
  show k0_off1 i 0 + 1 * _ < 16
  rw [off1_val]
  refine Nat.lt_of_le_of_lt (Nat.le_of_eq ?_) hi
  exact congrArg (fun z => (i 0).val + 1 * z) (e _)

/-- The step's number within its half. -/
def mw (b : BitVec 32) : BitVec 32 :=
  Scalar.select
    (Scalar.andi (Scalar.xori (Scalar.cmpi CmpIPredicate.slt (Scalar.remsi b (Scalar.select (Scalar.cmpi CmpIPredicate.eq 16#32 0#32) 1#32 16#32)) 0#32)
        (Scalar.cmpi CmpIPredicate.slt (Scalar.select (Scalar.cmpi CmpIPredicate.eq 16#32 0#32) 1#32 16#32) 0#32))
      (Scalar.cmpi CmpIPredicate.ne (Scalar.remsi b (Scalar.select (Scalar.cmpi CmpIPredicate.eq 16#32 0#32) 1#32 16#32)) 0#32))
    (Scalar.addi (Scalar.remsi b (Scalar.select (Scalar.cmpi CmpIPredicate.eq 16#32 0#32) 1#32 16#32)) (Scalar.select (Scalar.cmpi CmpIPredicate.eq 16#32 0#32) 1#32 16#32))
    (Scalar.remsi b (Scalar.select (Scalar.cmpi CmpIPredicate.eq 16#32 0#32) 1#32 16#32))

theorem mw_eq (b : Fin 32) : mw (BitVec.ofNat 32 b.val) = BitVec.ofNat 32 (b.val % 16) := by
  revert b
  decide +kernel

theorem blk_le (a : Fin 16) (b : Fin 32) : (Scalar.minsi (Scalar.addi 0#32 (mw (BitVec.ofNat 32 b.val))) (BitVec.ofNat 32 a.val)).toNat = min (b.val % 16) a.val := by
  rw [mw_eq]
  revert a b
  decide +kernel

theorem tr1 (i : grid0.Coords) : cc0_transform_1 k0_off1_inb numel1_S1 (tbl m) i = ![min ((i 1).val % 16) (i 0).val, 5] := by
  have e : cc0_transform_1 k0_off1_inb numel1_S1 (tbl m) i
      = ![(Scalar.minsi (Scalar.addi ((tbl m).at 0 (Rect.unit (s := S32) (k0_off1 i) S1.size (k0_off1_inb i)) numel1_S1) (mw (BitVec.ofNat 32 (i 1).val))) (BitVec.ofNat 32 (i 0).val)).toNat, 5] := rfl
  rw [e, word_at, blk_le ⟨(i 0).val, (i 0).isLt⟩ ⟨(i 1).val, (i 1).isLt⟩]

theorem tr2 (i : grid0.Coords) : cc0_transform_2 k0_off1_inb numel1_S1 (tbl m) i = ![min ((i 1).val % 16) (i 0).val, 6] := by
  have e : cc0_transform_2 k0_off1_inb numel1_S1 (tbl m) i
      = ![(Scalar.minsi (Scalar.addi ((tbl m).at 0 (Rect.unit (s := S32) (k0_off1 i) S1.size (k0_off1_inb i)) numel1_S1) (mw (BitVec.ofNat 32 (i 1).val))) (BitVec.ofNat 32 (i 0).val)).toNat, 6] := rfl
  rw [e, word_at, blk_le ⟨(i 0).val, (i 0).isLt⟩ ⟨(i 1).val, (i 1).isLt⟩]

theorem tr3 (i : grid0.Coords) : cc0_transform_3 k0_off1_inb numel1_S1 (tbl m) i = ![0, min ((i 1).val % 16) (i 0).val] := by
  have e : cc0_transform_3 k0_off1_inb numel1_S1 (tbl m) i
      = ![0, (Scalar.minsi (Scalar.addi ((tbl m).at 0 (Rect.unit (s := S32) (k0_off1 i) S1.size (k0_off1_inb i)) numel1_S1) (mw (BitVec.ofNat 32 (i 1).val))) (BitVec.ofNat 32 (i 0).val)).toNat] := rfl
  rw [e, word_at, blk_le ⟨(i 0).val, (i 0).isLt⟩ ⟨(i 1).val, (i 1).isLt⟩]

theorem ok : Ok m := by
  refine ⟨fun i => ⟨fun a => ?_, Or.inl rfl⟩, fun i => ⟨fun a => ?_, Or.inl rfl⟩, fun i => ⟨fun a => ?_, Or.inl rfl⟩⟩
  · have h := (i 0).isLt
    rw [tr1]
    match a with
    | 0 => show (min ((i 1).val % 16) (i 0).val + 1) * 512 ≤ 8192; omega
    | 1 => show (5 + 1) * 768 ≤ 6144; omega
  · rw [tr2]
    match a with
    | 0 => show (min ((i 1).val % 16) (i 0).val + 1) * 512 ≤ 8192; omega
    | 1 => show (6 + 1) * 768 ≤ 6144; omega
  · rw [tr3]
    match a with
    | 0 => show (0 + 1) * 8 ≤ 8; omega
    | 1 => show (min ((i 1).val % 16) (i 0).val + 1) * 512 ≤ 8192; omega

end Cert.DqB

end
-- ==== Proof.Dq.FrameIdeal.lean ====
/- The frame of `Kernel28Ideal`, the pass of the FoX backward that leaves the gradient of the queries. A row of its grid
   goes over the keys twice: the first half of its steps sums `p · dp` and `p`, the second half the gradient. What the
   buffers hold after a step is a FUNCTION `step` of what they held before it. -/
module

public import proofs.«01_k».proof.Proof.Gen.Kernel28Ideal.Frame.RunL
public import Idealize.ShloMosaic.Lib.Claim

@[expose] public section

set_option maxRecDepth 16384

noncomputable section

namespace Cert.DqI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel28Ideal Cert.Kernel28Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The table's word that the steps of a row consult. -/
abbrev word (i : grid0.Coords) (xt : TbBuf0 (F := F) (0 : Dev nD) tbM0_0) : Elt F .i32 :=
  tbM0_0.view.readAt (Elt F) (Rect.unit (s := S32) (k0_off1 i) S1.size (k0_off1_inb i)).toLoadRect xt (Shape.Idx.first (numel1_S1.symm ▸ Nat.one_pos))

/-- Step `t` is of the first half and the table lets its block pair through. -/
abbrev One (hO : Ok m) (t : Fin (cfgM m hO).N) : Prop :=
  cond0_1 (grid0.coords t) (tbM0_0.view.readAt (Elt F) (Rect.unit (s := S32) (k0_off1 (grid0.coords t)) S1.size (k0_off1_inb (grid0.coords t))).toLoadRect (tbl m 0) (Shape.Idx.first (numel1_S1.symm ▸ Nat.one_pos)))

/-- Step `t` is of the second half and the table lets its block pair through. -/
abbrev Two (hO : Ok m) (t : Fin (cfgM m hO).N) : Prop :=
  cond0_2 (grid0.coords t) (tbM0_0.view.readAt (Elt F) (Rect.unit (s := S32) (k0_off1 (grid0.coords t)) S1.size (k0_off1_inb (grid0.coords t))).toLoadRect (tbl m 0) (Shape.Idx.first (numel1_S1.symm ▸ Nat.one_pos)))

theorem early (i : grid0.Coords) (v : BitVec 32) (h : cond0_1 i v) :
    Scalar.cmpi .slt (BitVec.ofNat 32 (i 1).val) 16#32 = 1#1 := by
  unfold cond0_1 at h
  generalize Scalar.cmpi .slt (BitVec.ofNat 32 (i 1).val) 16#32 = b at h ⊢
  generalize Scalar.cmpi .sle _ _ = a at h
  revert a b; decide

theorem late (i : grid0.Coords) (v : BitVec 32) (h : cond0_2 i v) :
    Scalar.cmpi .sge (BitVec.ofNat 32 (i 1).val) 16#32 = 1#1 := by
  unfold cond0_2 at h
  generalize Scalar.cmpi .sge (BitVec.ofNat 32 (i 1).val) 16#32 = b at h ⊢
  generalize Scalar.cmpi .sle _ _ = a at h
  revert a b; decide

theorem half (i : grid0.Coords) : Scalar.cmpi .slt (BitVec.ofNat 32 (i 1).val) 16#32 = 1#1 →
    Scalar.cmpi .sge (BitVec.ofNat 32 (i 1).val) 16#32 = 1#1 → False := by
  generalize i 1 = j
  revert j; decide

theorem not_two (hO : Ok m) (t : Fin (cfgM m hO).N) (h1 : One m hO t) : ¬Two m hO t := fun h2 =>
  half _ (early _ _ h1) (late _ _ h2)

theorem first_early : ∀ t : Fin grid0.N, cond0_0 (grid0.coords t) → Scalar.cmpi .slt (BitVec.ofNat 32 (grid0.coords t 1).val) 16#32 = 1#1 := by
  decide +kernel

theorem last_late : ∀ t : Fin grid0.N, cond0_3 (grid0.coords t) → Scalar.cmpi .sge (BitVec.ofNat 32 (grid0.coords t 1).val) 16#32 = 1#1 := by
  decide +kernel

/-- What a step leaves: the bf16 gradient, the row sums, and the three accumulators. -/
abbrev St (F : FTy → Type) : Type :=
  Vec F S512x768 .bf16 × Vec F S6x512x128 .f32 × Vec F S512x768 .f32 × Vec F S6x512x1 .f32 × Vec F S6x512x1 .f32

/-- Buffers of which nothing is known. -/
def st0 : St F := (VO0_7.read (Elt F) VO0_7.junk, VO0_8.read (Elt F) VO0_8.junk,
  VS0_0.read (Elt F) VS0_0.junk, VS0_1.read (Elt F) VS0_1.junk, VS0_2.read (Elt F) VS0_2.junk)

/-- The body's run at a step first of its row, in the first half, let through. -/
abbrev runB (hO : Ok m) (c : Dev nD) (t : Fin (cfgM m hO).N) (h0 : cond0_0 (grid0.coords t)) (h3 : ¬cond0_3 (grid0.coords t)) (h1 : One m hO t) (h2 : ¬Two m hO t) :=
  kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) h1 h2

theorem covB_s0 (hO : Ok m) (c : Dev nD) (t : Fin (cfgM m hO).N) (h0 : cond0_0 (grid0.coords t)) (h3 : ¬cond0_3 (grid0.coords t)) (h1 : One m hO t) (h2 : ¬Two m hO t) (y : S512x768.Idx) :
    ∃ pc ∈ (runB m hO c t h0 h3 h1 h2).2.2.1, y ∈ pc.1.set :=
  View.cover_of_tiledL (runB m hO c t h0 h3 h1 h2).2.2.1 S512x768.size (by sl_kernel_rfl) y

theorem covB_s1 (hO : Ok m) (c : Dev nD) (t : Fin (cfgM m hO).N) (h0 : cond0_0 (grid0.coords t)) (h3 : ¬cond0_3 (grid0.coords t)) (h1 : One m hO t) (h2 : ¬Two m hO t) (y : S6x512x1.Idx) :
    ∃ pc ∈ (runB m hO c t h0 h3 h1 h2).2.2.2.1, y ∈ pc.1.set :=
  View.cover_of_wholeMem (runB m hO c t h0 h3 h1 h2).2.2.2.1 (by sl_whole_mem) y

theorem covB_s2 (hO : Ok m) (c : Dev nD) (t : Fin (cfgM m hO).N) (h0 : cond0_0 (grid0.coords t)) (h3 : ¬cond0_3 (grid0.coords t)) (h1 : One m hO t) (h2 : ¬Two m hO t) (y : S6x512x1.Idx) :
    ∃ pc ∈ (runB m hO c t h0 h3 h1 h2).2.2.2.2.1, y ∈ pc.1.set :=
  View.cover_of_wholeMem (runB m hO c t h0 h3 h1 h2).2.2.2.2.1 (by sl_whole_mem) y

/-- What it leaves. -/
def stB (hO : Ok m) (c : Dev nD) (t : Fin (cfgM m hO).N) (h0 : cond0_0 (grid0.coords t)) (h3 : ¬cond0_3 (grid0.coords t)) (h1 : One m hO t) (h2 : ¬Two m hO t) : St F :=
  (VO0_7.read (Elt F) VO0_7.junk,
   VO0_8.read (Elt F) VO0_8.junk,
   VS0_0.read (Elt F) (VS0_0.writes (Elt F) VS0_0.junk (runB m hO c t h0 h3 h1 h2).2.2.1),
   VS0_1.read (Elt F) (VS0_1.writes (Elt F) VS0_1.junk (runB m hO c t h0 h3 h1 h2).2.2.2.1),
   VS0_2.read (Elt F) (VS0_2.writes (Elt F) VS0_2.junk (runB m hO c t h0 h3 h1 h2).2.2.2.2.1))

/-- The body's run at a step first of its row, barred. -/
abbrev runD (hO : Ok m) (c : Dev nD) (t : Fin (cfgM m hO).N) (h0 : cond0_0 (grid0.coords t)) (h3 : ¬cond0_3 (grid0.coords t)) (h1 : ¬One m hO t) (h2 : ¬Two m hO t) :=
  kernelRun0_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) h1 h2

theorem covD_s0 (hO : Ok m) (c : Dev nD) (t : Fin (cfgM m hO).N) (h0 : cond0_0 (grid0.coords t)) (h3 : ¬cond0_3 (grid0.coords t)) (h1 : ¬One m hO t) (h2 : ¬Two m hO t) (y : S512x768.Idx) :
    ∃ pc ∈ (runD m hO c t h0 h3 h1 h2).2.2.1, y ∈ pc.1.set :=
  View.cover_of_tiledL (runD m hO c t h0 h3 h1 h2).2.2.1 S512x768.size (by sl_kernel_rfl) y

theorem covD_s1 (hO : Ok m) (c : Dev nD) (t : Fin (cfgM m hO).N) (h0 : cond0_0 (grid0.coords t)) (h3 : ¬cond0_3 (grid0.coords t)) (h1 : ¬One m hO t) (h2 : ¬Two m hO t) (y : S6x512x1.Idx) :
    ∃ pc ∈ (runD m hO c t h0 h3 h1 h2).2.2.2.1, y ∈ pc.1.set :=
  View.cover_of_tiledL (runD m hO c t h0 h3 h1 h2).2.2.2.1 S6x512x1.size (by sl_kernel_rfl) y

theorem covD_s2 (hO : Ok m) (c : Dev nD) (t : Fin (cfgM m hO).N) (h0 : cond0_0 (grid0.coords t)) (h3 : ¬cond0_3 (grid0.coords t)) (h1 : ¬One m hO t) (h2 : ¬Two m hO t) (y : S6x512x1.Idx) :
    ∃ pc ∈ (runD m hO c t h0 h3 h1 h2).2.2.2.2.1, y ∈ pc.1.set :=
  View.cover_of_tiledL (runD m hO c t h0 h3 h1 h2).2.2.2.2.1 S6x512x1.size (by sl_kernel_rfl) y

/-- What it leaves. -/
def stD (hO : Ok m) (c : Dev nD) (t : Fin (cfgM m hO).N) (h0 : cond0_0 (grid0.coords t)) (h3 : ¬cond0_3 (grid0.coords t)) (h1 : ¬One m hO t) (h2 : ¬Two m hO t) : St F :=
  (VO0_7.read (Elt F) VO0_7.junk,
   VO0_8.read (Elt F) VO0_8.junk,
   VS0_0.read (Elt F) (VS0_0.writes (Elt F) VS0_0.junk (runD m hO c t h0 h3 h1 h2).2.2.1),
   VS0_1.read (Elt F) (VS0_1.writes (Elt F) VS0_1.junk (runD m hO c t h0 h3 h1 h2).2.2.2.1),
   VS0_2.read (Elt F) (VS0_2.writes (Elt F) VS0_2.junk (runD m hO c t h0 h3 h1 h2).2.2.2.2.1))

/-- The body's run at a step inner, in the first half, let through. -/
abbrev runF (hO : Ok m) (c : Dev nD) (t : Fin (cfgM m hO).N) (h0 : ¬cond0_0 (grid0.coords t)) (h3 : ¬cond0_3 (grid0.coords t)) (h1 : One m hO t) (h2 : ¬Two m hO t) (p : St F) :=
  kernelRun0_F c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) p.2.2.1 p.2.2.2.1 p.2.2.2.2 h1 h2

theorem covF_s1 (hO : Ok m) (c : Dev nD) (t : Fin (cfgM m hO).N) (h0 : ¬cond0_0 (grid0.coords t)) (h3 : ¬cond0_3 (grid0.coords t)) (h1 : One m hO t) (h2 : ¬Two m hO t) (p : St F) (y : S6x512x1.Idx) :
    ∃ pc ∈ (runF m hO c t h0 h3 h1 h2 p).2.2.2.1, y ∈ pc.1.set :=
  View.cover_of_tiledL (runF m hO c t h0 h3 h1 h2 p).2.2.2.1 S1x512x1.size (by sl_kernel_rfl) y

theorem covF_s2 (hO : Ok m) (c : Dev nD) (t : Fin (cfgM m hO).N) (h0 : ¬cond0_0 (grid0.coords t)) (h3 : ¬cond0_3 (grid0.coords t)) (h1 : One m hO t) (h2 : ¬Two m hO t) (p : St F) (y : S6x512x1.Idx) :
    ∃ pc ∈ (runF m hO c t h0 h3 h1 h2 p).2.2.2.2.1, y ∈ pc.1.set :=
  View.cover_of_tiledL (runF m hO c t h0 h3 h1 h2 p).2.2.2.2.1 S1x512x1.size (by sl_kernel_rfl) y

/-- What it leaves. -/
def stF (hO : Ok m) (c : Dev nD) (t : Fin (cfgM m hO).N) (h0 : ¬cond0_0 (grid0.coords t)) (h3 : ¬cond0_3 (grid0.coords t)) (h1 : One m hO t) (h2 : ¬Two m hO t) (p : St F) : St F :=
  (VO0_7.read (Elt F) VO0_7.junk,
   VO0_8.read (Elt F) VO0_8.junk,
   p.2.2.1,
   VS0_1.read (Elt F) (VS0_1.writes (Elt F) VS0_1.junk (runF m hO c t h0 h3 h1 h2 p).2.2.2.1),
   VS0_2.read (Elt F) (VS0_2.writes (Elt F) VS0_2.junk (runF m hO c t h0 h3 h1 h2 p).2.2.2.2.1))

/-- The body's run at a step inner, in the second half, let through. -/
abbrev runG (hO : Ok m) (c : Dev nD) (t : Fin (cfgM m hO).N) (h0 : ¬cond0_0 (grid0.coords t)) (h3 : ¬cond0_3 (grid0.coords t)) (h1 : ¬One m hO t) (h2 : Two m hO t) (p : St F) :=
  kernelRun0_G c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) p.2.2.1 p.2.2.2.1 p.2.2.2.2 h1 h2

theorem covG_s0 (hO : Ok m) (c : Dev nD) (t : Fin (cfgM m hO).N) (h0 : ¬cond0_0 (grid0.coords t)) (h3 : ¬cond0_3 (grid0.coords t)) (h1 : ¬One m hO t) (h2 : Two m hO t) (p : St F) (y : S512x768.Idx) :
    ∃ pc ∈ (runG m hO c t h0 h3 h1 h2 p).2.2.1, y ∈ pc.1.set :=
  View.cover_of_tiledL (runG m hO c t h0 h3 h1 h2 p).2.2.1 S512x128.size (by sl_kernel_rfl) y

/-- What it leaves. -/
def stG (hO : Ok m) (c : Dev nD) (t : Fin (cfgM m hO).N) (h0 : ¬cond0_0 (grid0.coords t)) (h3 : ¬cond0_3 (grid0.coords t)) (h1 : ¬One m hO t) (h2 : Two m hO t) (p : St F) : St F :=
  (VO0_7.read (Elt F) VO0_7.junk,
   VO0_8.read (Elt F) VO0_8.junk,
   VS0_0.read (Elt F) (VS0_0.writes (Elt F) VS0_0.junk (runG m hO c t h0 h3 h1 h2 p).2.2.1),
   p.2.2.2.1,
   p.2.2.2.2)

/-- The body's run at a step inner, barred. -/
abbrev runH (hO : Ok m) (c : Dev nD) (t : Fin (cfgM m hO).N) (h0 : ¬cond0_0 (grid0.coords t)) (h3 : ¬cond0_3 (grid0.coords t)) (h1 : ¬One m hO t) (h2 : ¬Two m hO t) (p : St F) :=
  kernelRun0_H c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) p.2.2.1 p.2.2.2.1 p.2.2.2.2 h1 h2

/-- What it leaves. -/
def stH (hO : Ok m) (c : Dev nD) (t : Fin (cfgM m hO).N) (h0 : ¬cond0_0 (grid0.coords t)) (h3 : ¬cond0_3 (grid0.coords t)) (h1 : ¬One m hO t) (h2 : ¬Two m hO t) (p : St F) : St F :=
  (VO0_7.read (Elt F) VO0_7.junk,
   VO0_8.read (Elt F) VO0_8.junk,
   p.2.2.1,
   p.2.2.2.1,
   p.2.2.2.2)

/-- The body's run at a step last of its row, let through. -/
abbrev runK (hO : Ok m) (c : Dev nD) (t : Fin (cfgM m hO).N) (h0 : ¬cond0_0 (grid0.coords t)) (h3 : cond0_3 (grid0.coords t)) (h1 : ¬One m hO t) (h2 : Two m hO t) (p : St F) :=
  kernelRun0_K c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) p.2.2.1 p.2.2.2.1 p.2.2.2.2 h1 h2

theorem covK_o7 (hO : Ok m) (c : Dev nD) (t : Fin (cfgM m hO).N) (h0 : ¬cond0_0 (grid0.coords t)) (h3 : cond0_3 (grid0.coords t)) (h1 : ¬One m hO t) (h2 : Two m hO t) (p : St F) (y : S512x768.Idx) :
    ∃ pc ∈ (runK m hO c t h0 h3 h1 h2 p).1, y ∈ pc.1.set :=
  View.cover_of_tiledL (runK m hO c t h0 h3 h1 h2 p).1 S512x768.size (by sl_kernel_rfl) y

theorem covK_o8 (hO : Ok m) (c : Dev nD) (t : Fin (cfgM m hO).N) (h0 : ¬cond0_0 (grid0.coords t)) (h3 : cond0_3 (grid0.coords t)) (h1 : ¬One m hO t) (h2 : Two m hO t) (p : St F) (y : S6x512x128.Idx) :
    ∃ pc ∈ (runK m hO c t h0 h3 h1 h2 p).2.1, y ∈ pc.1.set :=
  View.cover_of_tiledL (runK m hO c t h0 h3 h1 h2 p).2.1 S1x512x128.size (by sl_kernel_rfl) y

theorem covK_s0 (hO : Ok m) (c : Dev nD) (t : Fin (cfgM m hO).N) (h0 : ¬cond0_0 (grid0.coords t)) (h3 : cond0_3 (grid0.coords t)) (h1 : ¬One m hO t) (h2 : Two m hO t) (p : St F) (y : S512x768.Idx) :
    ∃ pc ∈ (runK m hO c t h0 h3 h1 h2 p).2.2.1, y ∈ pc.1.set :=
  View.cover_of_tiledL (runK m hO c t h0 h3 h1 h2 p).2.2.1 S512x128.size (by sl_kernel_rfl) y

/-- What it leaves. -/
def stK (hO : Ok m) (c : Dev nD) (t : Fin (cfgM m hO).N) (h0 : ¬cond0_0 (grid0.coords t)) (h3 : cond0_3 (grid0.coords t)) (h1 : ¬One m hO t) (h2 : Two m hO t) (p : St F) : St F :=
  (VO0_7.read (Elt F) (VO0_7.writes (Elt F) VO0_7.junk (runK m hO c t h0 h3 h1 h2 p).1),
   VO0_8.read (Elt F) (VO0_8.writes (Elt F) VO0_8.junk (runK m hO c t h0 h3 h1 h2 p).2.1),
   VS0_0.read (Elt F) (VS0_0.writes (Elt F) VS0_0.junk (runK m hO c t h0 h3 h1 h2 p).2.2.1),
   p.2.2.2.1,
   p.2.2.2.2)

/-- The body's run at a step last of its row, barred. -/
abbrev runL (hO : Ok m) (c : Dev nD) (t : Fin (cfgM m hO).N) (h0 : ¬cond0_0 (grid0.coords t)) (h3 : cond0_3 (grid0.coords t)) (h1 : ¬One m hO t) (h2 : ¬Two m hO t) (p : St F) :=
  kernelRun0_L c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) p.2.2.1 p.2.2.2.1 p.2.2.2.2 h1 h2

theorem covL_o7 (hO : Ok m) (c : Dev nD) (t : Fin (cfgM m hO).N) (h0 : ¬cond0_0 (grid0.coords t)) (h3 : cond0_3 (grid0.coords t)) (h1 : ¬One m hO t) (h2 : ¬Two m hO t) (p : St F) (y : S512x768.Idx) :
    ∃ pc ∈ (runL m hO c t h0 h3 h1 h2 p).1, y ∈ pc.1.set :=
  View.cover_of_tiledL (runL m hO c t h0 h3 h1 h2 p).1 S512x768.size (by sl_kernel_rfl) y

theorem covL_o8 (hO : Ok m) (c : Dev nD) (t : Fin (cfgM m hO).N) (h0 : ¬cond0_0 (grid0.coords t)) (h3 : cond0_3 (grid0.coords t)) (h1 : ¬One m hO t) (h2 : ¬Two m hO t) (p : St F) (y : S6x512x128.Idx) :
    ∃ pc ∈ (runL m hO c t h0 h3 h1 h2 p).2.1, y ∈ pc.1.set :=
  View.cover_of_tiledL (runL m hO c t h0 h3 h1 h2 p).2.1 S1x512x128.size (by sl_kernel_rfl) y

/-- What it leaves. -/
def stL (hO : Ok m) (c : Dev nD) (t : Fin (cfgM m hO).N) (h0 : ¬cond0_0 (grid0.coords t)) (h3 : cond0_3 (grid0.coords t)) (h1 : ¬One m hO t) (h2 : ¬Two m hO t) (p : St F) : St F :=
  (VO0_7.read (Elt F) (VO0_7.writes (Elt F) VO0_7.junk (runL m hO c t h0 h3 h1 h2 p).1),
   VO0_8.read (Elt F) (VO0_8.writes (Elt F) VO0_8.junk (runL m hO c t h0 h3 h1 h2 p).2.1),
   p.2.2.1,
   p.2.2.2.1,
   p.2.2.2.2)

/-- What step `t` leaves, from what the step before it left. -/
def step (hO : Ok m) (c : Dev nD) (t : Fin (cfgM m hO).N) (p : St F) : St F :=
  if h0 : cond0_0 (grid0.coords t) then
    if h3 : cond0_3 (grid0.coords t) then p
    else if h2 : Two m hO t then p
    else if h1 : One m hO t then stB m hO c t h0 h3 h1 h2 else stD m hO c t h0 h3 h1 h2
  else if h3 : cond0_3 (grid0.coords t) then
    if h1 : One m hO t then p
    else if h2 : Two m hO t then stK m hO c t h0 h3 h1 h2 p else stL m hO c t h0 h3 h1 h2 p
  else if h1 : One m hO t then
    if h2 : Two m hO t then p else stF m hO c t h0 h3 h1 h2 p
  else if h2 : Two m hO t then stG m hO c t h0 h3 h1 h2 p else stH m hO c t h0 h3 h1 h2 p

theorem step_B (hO : Ok m) (c : Dev nD) (t : Fin (cfgM m hO).N) (h0 : cond0_0 (grid0.coords t)) (h3 : ¬cond0_3 (grid0.coords t)) (h1 : One m hO t) (h2 : ¬Two m hO t) (p : St F) :
    step m hO c t p = stB m hO c t h0 h3 h1 h2 := by
  unfold step; rw [dif_pos h0, dif_neg h3, dif_neg h2, dif_pos h1]

theorem step_D (hO : Ok m) (c : Dev nD) (t : Fin (cfgM m hO).N) (h0 : cond0_0 (grid0.coords t)) (h3 : ¬cond0_3 (grid0.coords t)) (h1 : ¬One m hO t) (h2 : ¬Two m hO t) (p : St F) :
    step m hO c t p = stD m hO c t h0 h3 h1 h2 := by
  unfold step; rw [dif_pos h0, dif_neg h3, dif_neg h2, dif_neg h1]

theorem step_F (hO : Ok m) (c : Dev nD) (t : Fin (cfgM m hO).N) (h0 : ¬cond0_0 (grid0.coords t)) (h3 : ¬cond0_3 (grid0.coords t)) (h1 : One m hO t) (h2 : ¬Two m hO t) (p : St F) :
    step m hO c t p = stF m hO c t h0 h3 h1 h2 p := by
  unfold step; rw [dif_neg h0, dif_neg h3, dif_pos h1, dif_neg h2]

theorem step_G (hO : Ok m) (c : Dev nD) (t : Fin (cfgM m hO).N) (h0 : ¬cond0_0 (grid0.coords t)) (h3 : ¬cond0_3 (grid0.coords t)) (h1 : ¬One m hO t) (h2 : Two m hO t) (p : St F) :
    step m hO c t p = stG m hO c t h0 h3 h1 h2 p := by
  unfold step; rw [dif_neg h0, dif_neg h3, dif_neg h1, dif_pos h2]

theorem step_H (hO : Ok m) (c : Dev nD) (t : Fin (cfgM m hO).N) (h0 : ¬cond0_0 (grid0.coords t)) (h3 : ¬cond0_3 (grid0.coords t)) (h1 : ¬One m hO t) (h2 : ¬Two m hO t) (p : St F) :
    step m hO c t p = stH m hO c t h0 h3 h1 h2 p := by
  unfold step; rw [dif_neg h0, dif_neg h3, dif_neg h1, dif_neg h2]

theorem step_K (hO : Ok m) (c : Dev nD) (t : Fin (cfgM m hO).N) (h0 : ¬cond0_0 (grid0.coords t)) (h3 : cond0_3 (grid0.coords t)) (h1 : ¬One m hO t) (h2 : Two m hO t) (p : St F) :
    step m hO c t p = stK m hO c t h0 h3 h1 h2 p := by
  unfold step; rw [dif_neg h0, dif_pos h3, dif_neg h1, dif_pos h2]

theorem step_L (hO : Ok m) (c : Dev nD) (t : Fin (cfgM m hO).N) (h0 : ¬cond0_0 (grid0.coords t)) (h3 : cond0_3 (grid0.coords t)) (h1 : ¬One m hO t) (h2 : ¬Two m hO t) (p : St F) :
    step m hO c t p = stL m hO c t h0 h3 h1 h2 p := by
  unfold step; rw [dif_neg h0, dif_pos h3, dif_neg h1, dif_neg h2]

/-- What the buffers hold after step `n`. -/
def outsAt (hO : Ok m) (c : Dev nD) : (n : ℕ) → n < (cfgM m hO).N → St F
  | 0, hn => step m hO c ⟨0, hn⟩ st0
  | n + 1, hn => step m hO c ⟨n + 1, hn⟩ (outsAt hO c n (Nat.lt_of_succ_lt hn))

/-- What they held before step `n`. -/
def prev (hO : Ok m) (c : Dev nD) (t : Fin (cfgM m hO).N) : St F :=
  if h : t.val = 0 then st0 else outsAt m hO c (t.val - 1) (Nat.lt_of_le_of_lt (Nat.sub_le _ _) t.isLt)

theorem prev_pos (hO : Ok m) (c : Dev nD) (t : Fin (cfgM m hO).N) (hz : t.val ≠ 0) :
    prev m hO c t = outsAt m hO c (t.val - 1) (Nat.lt_of_le_of_lt (Nat.sub_le _ _) t.isLt) := dif_neg hz

theorem outsAt_eq (hO : Ok m) (c : Dev nD) (t : Fin (cfgM m hO).N) :
    outsAt m hO c t.val t.isLt = step m hO c t (prev m hO c t) := by
  obtain ⟨n, hn⟩ := t
  cases n with
  | zero => rfl
  | succ n => rfl

def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt m hO c n hn).2.2.1) ∗ owns (c : Thread nD τ) scM0_1 fullShare ((outsAt m hO c n hn).2.2.2.1) ∗ owns (c : Thread nD τ) scM0_2 fullShare ((outsAt m hO c n hn).2.2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare ((outsAt m hO c n hn).2.2.1) ∗ owns (c : Thread nD τ) scM0_1 fullShare ((outsAt m hO c n hn).2.2.2.1) ∗ owns (c : Thread nD τ) scM0_2 fullShare ((outsAt m hO c n hn).2.2.2.2)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare ((outsAt m hO c (n - 1) (by omega)).2.2.1) ∗ owns (c : Thread nD τ) scM0_1 fullShare ((outsAt m hO c (n - 1) (by omega)).2.2.2.1) ∗ owns (c : Thread nD τ) scM0_2 fullShare ((outsAt m hO c (n - 1) (by omega)).2.2.2.2)) ∗ (∃ r, prngReg c r)) ∗ Pipeline.ΦT pre0 (tbl m) c) := by
  cases n with
  | zero => exact absurd rfl hz
  | succ n => rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt m hO c t.val t.isLt).1
    | ⟨8, _⟩ => (outsAt m hO c t.val t.isLt).2.1
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = (outsAt m hO c t.val t.isLt).1 := by dsimp only [dats]; try rfl
theorem after0_8 (hO : Ok m) (c : Dev nD) (t : Fin (cfgM m hO).N) : (dats m hO 0 c).after 8 t = (outsAt m hO c t.val t.isLt).2.1 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t)

theorem lx_0 (hO : Ok m) (c : Dev nD) (t : Fin (cfgM m hO).N) :
    (dats m hO 0 c).leavesExact 0 t = owns (c : Thread nD τ) (ms0_0 m hO t) fullShare (iblk m hO c 0 t) := by
  unfold Dat.leavesExact; rw [liveAt0_0 m hO t]; try rfl
  try rfl
theorem lx_1 (hO : Ok m) (c : Dev nD) (t : Fin (cfgM m hO).N) :
    (dats m hO 0 c).leavesExact 1 t = owns (c : Thread nD τ) (ms0_1 m hO t) fullShare (iblk m hO c 1 t) := by
  unfold Dat.leavesExact; rw [liveAt0_1 m hO t]; try rfl
  try rfl
theorem lx_2 (hO : Ok m) (c : Dev nD) (t : Fin (cfgM m hO).N) :
    (dats m hO 0 c).leavesExact 2 t = owns (c : Thread nD τ) (ms0_2 m hO t) fullShare (iblk m hO c 2 t) := by
  unfold Dat.leavesExact; rw [liveAt0_2 m hO t]; try rfl
  try rfl
theorem lx_3 (hO : Ok m) (c : Dev nD) (t : Fin (cfgM m hO).N) :
    (dats m hO 0 c).leavesExact 3 t = owns (c : Thread nD τ) (ms0_3 m hO t) fullShare (iblk m hO c 3 t) := by
  unfold Dat.leavesExact; rw [liveAt0_3 m hO t]; try rfl
  try rfl
theorem lx_4 (hO : Ok m) (c : Dev nD) (t : Fin (cfgM m hO).N) :
    (dats m hO 0 c).leavesExact 4 t = owns (c : Thread nD τ) (ms0_4 m hO t) fullShare (iblk m hO c 4 t) := by
  unfold Dat.leavesExact; rw [liveAt0_4 m hO t]; try rfl
  try rfl
theorem lx_5 (hO : Ok m) (c : Dev nD) (t : Fin (cfgM m hO).N) :
    (dats m hO 0 c).leavesExact 5 t = owns (c : Thread nD τ) (ms0_5 m hO t) fullShare (iblk m hO c 5 t) := by
  unfold Dat.leavesExact; rw [liveAt0_5 m hO t]; try rfl
  try rfl
theorem lx_6 (hO : Ok m) (c : Dev nD) (t : Fin (cfgM m hO).N) :
    (dats m hO 0 c).leavesExact 6 t = owns (c : Thread nD τ) (ms0_6 m hO t) fullShare (iblk m hO c 6 t) := by
  unfold Dat.leavesExact; rw [liveAt0_6 m hO t]; try rfl
  try rfl
set_option maxHeartbeats 4000000 in
theorem body_B (hO : Ok m) (c : Dev nD) (t : Fin (cfgM m hO).N) (h0 : cond0_0 (grid0.coords t)) (h3 : ¬cond0_3 (grid0.coords t)) (h1 : One m hO t) (h2 : ¬Two m hO t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [lx_0, lx_1, lx_2, lx_3, lx_4, lx_5, lx_6]
  rw [Dat.leavesExact_idle (dats m hO 0 c) 7 t (idleAt0_7_B m hO t h0 h3) (noFlush0_7_B m hO t h0 h3)]
  rw [Dat.leavesExact_idle (dats m hO 0 c) 8 t (idleAt0_8_B m hO t h0 h3) (noFlush0_8_B m hO t h0 h3)]
  rw [outsAt_eq, step_B m hO c t h0 h3 h1 h2]
  by_cases hz : t.val = 0
  · rw [PhiS_castSucc m hO c t, PhiS_zero m hO c _ _ hz, PhiT0_eq, PhiA0_eq]
    unfold stB; (try dsimp only)
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ _ _ _ _ h0 h3 (iblk m hO c 0 t) (iblk m hO c 1 t) (iblk m hO c 2 t) (iblk m hO c 3 t) (iblk m hO c 4 t) (iblk m hO c 5 t) (iblk m hO c 6 t) (tbl m 0) h1 h2).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HT0]; · iexact HT0
    iintro ⟨H0, H1, H2, H3, H4, H5, H6, H7, H8, ⟨%es0, HS0⟩, ⟨%es1, HS1⟩, ⟨%es2, HS2⟩, HT0⟩
    isplitl [HS0 HS1 HS2 Hg HT0]
    · isplitl [HS0 HS1 HS2 Hg]
      · isplitl [HS0 HS1 HS2]
        · isplitl [HS0]
          · unfold owns; iexists _; isplitr
            swap; · iexact HS0
            ipureintro; exact View.read_writes_of_cover _ _ _ _ _ (covB_s0 m hO c t h0 h3 h1 h2)
          isplitl [HS1]
          · unfold owns; iexists _; isplitr
            swap; · iexact HS1
            ipureintro; exact View.read_writes_of_cover _ _ _ _ _ (covB_s1 m hO c t h0 h3 h1 h2)
          unfold owns; iexists _; isplitr
          swap; · iexact HS2
          ipureintro; exact View.read_writes_of_cover _ _ _ _ _ (covB_s2 m hO c t h0 h3 h1 h2)
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · rw [PhiS_castSucc m hO c t, PhiS_pos m hO c _ _ hz, PhiT0_eq]
    unfold stB; (try dsimp only)
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ _ _ _ _ h0 h3 (iblk m hO c 0 t) (iblk m hO c 1 t) (iblk m hO c 2 t) (iblk m hO c 3 t) (iblk m hO c 4 t) (iblk m hO c 5 t) (iblk m hO c 6 t) (tbl m 0) h1 h2).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexists _; iexact HS0
    isplitl [HS1]; · iexists _; iexact HS1
    isplitl [HS2]; · iexists _; iexact HS2
    isplitl [HT0]; · iexact HT0
    iintro ⟨H0, H1, H2, H3, H4, H5, H6, H7, H8, ⟨%es0, HS0⟩, ⟨%es1, HS1⟩, ⟨%es2, HS2⟩, HT0⟩
    isplitl [HS0 HS1 HS2 Hg HT0]
    · isplitl [HS0 HS1 HS2 Hg]
      · isplitl [HS0 HS1 HS2]
        · isplitl [HS0]
          · unfold owns; iexists _; isplitr
            swap; · iexact HS0
            ipureintro; exact View.read_writes_of_cover _ _ _ _ _ (covB_s0 m hO c t h0 h3 h1 h2)
          isplitl [HS1]
          · unfold owns; iexists _; isplitr
            swap; · iexact HS1
            ipureintro; exact View.read_writes_of_cover _ _ _ _ _ (covB_s1 m hO c t h0 h3 h1 h2)
          unfold owns; iexists _; isplitr
          swap; · iexact HS2
          ipureintro; exact View.read_writes_of_cover _ _ _ _ _ (covB_s2 m hO c t h0 h3 h1 h2)
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

set_option maxHeartbeats 4000000 in
theorem body_D (hO : Ok m) (c : Dev nD) (t : Fin (cfgM m hO).N) (h0 : cond0_0 (grid0.coords t)) (h3 : ¬cond0_3 (grid0.coords t)) (h1 : ¬One m hO t) (h2 : ¬Two m hO t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [lx_0, lx_1, lx_2, lx_3, lx_4, lx_5, lx_6]
  rw [Dat.leavesExact_idle (dats m hO 0 c) 7 t (idleAt0_7_D m hO t h0 h3) (noFlush0_7_D m hO t h0 h3)]
  rw [Dat.leavesExact_idle (dats m hO 0 c) 8 t (idleAt0_8_D m hO t h0 h3) (noFlush0_8_D m hO t h0 h3)]
  rw [outsAt_eq, step_D m hO c t h0 h3 h1 h2]
  by_cases hz : t.val = 0
  · rw [PhiS_castSucc m hO c t, PhiS_zero m hO c _ _ hz, PhiT0_eq, PhiA0_eq]
    unfold stD; (try dsimp only)
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_D c (grid0.coords t) _ _ _ _ _ _ _ _ _ _ _ _ _ _ _ _ _ _ _ _ _ _ _ _ h0 h3 (iblk m hO c 0 t) (iblk m hO c 1 t) (iblk m hO c 2 t) (iblk m hO c 3 t) (iblk m hO c 4 t) (iblk m hO c 5 t) (iblk m hO c 6 t) (tbl m 0) h1 h2).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HT0]; · iexact HT0
    iintro ⟨H0, H1, H2, H3, H4, H5, H6, H7, H8, ⟨%es0, HS0⟩, ⟨%es1, HS1⟩, ⟨%es2, HS2⟩, HT0⟩
    isplitl [HS0 HS1 HS2 Hg HT0]
    · isplitl [HS0 HS1 HS2 Hg]
      · isplitl [HS0 HS1 HS2]
        · isplitl [HS0]
          · unfold owns; iexists _; isplitr
            swap; · iexact HS0
            ipureintro; exact View.read_writes_of_cover _ _ _ _ _ (covD_s0 m hO c t h0 h3 h1 h2)
          isplitl [HS1]
          · unfold owns; iexists _; isplitr
            swap; · iexact HS1
            ipureintro; exact View.read_writes_of_cover _ _ _ _ _ (covD_s1 m hO c t h0 h3 h1 h2)
          unfold owns; iexists _; isplitr
          swap; · iexact HS2
          ipureintro; exact View.read_writes_of_cover _ _ _ _ _ (covD_s2 m hO c t h0 h3 h1 h2)
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · rw [PhiS_castSucc m hO c t, PhiS_pos m hO c _ _ hz, PhiT0_eq]
    unfold stD; (try dsimp only)
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_D c (grid0.coords t) _ _ _ _ _ _ _ _ _ _ _ _ _ _ _ _ _ _ _ _ _ _ _ _ h0 h3 (iblk m hO c 0 t) (iblk m hO c 1 t) (iblk m hO c 2 t) (iblk m hO c 3 t) (iblk m hO c 4 t) (iblk m hO c 5 t) (iblk m hO c 6 t) (tbl m 0) h1 h2).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexists _; iexact HS0
    isplitl [HS1]; · iexists _; iexact HS1
    isplitl [HS2]; · iexists _; iexact HS2
    isplitl [HT0]; · iexact HT0
    iintro ⟨H0, H1, H2, H3, H4, H5, H6, H7, H8, ⟨%es0, HS0⟩, ⟨%es1, HS1⟩, ⟨%es2, HS2⟩, HT0⟩
    isplitl [HS0 HS1 HS2 Hg HT0]
    · isplitl [HS0 HS1 HS2 Hg]
      · isplitl [HS0 HS1 HS2]
        · isplitl [HS0]
          · unfold owns; iexists _; isplitr
            swap; · iexact HS0
            ipureintro; exact View.read_writes_of_cover _ _ _ _ _ (covD_s0 m hO c t h0 h3 h1 h2)
          isplitl [HS1]
          · unfold owns; iexists _; isplitr
            swap; · iexact HS1
            ipureintro; exact View.read_writes_of_cover _ _ _ _ _ (covD_s1 m hO c t h0 h3 h1 h2)
          unfold owns; iexists _; isplitr
          swap; · iexact HS2
          ipureintro; exact View.read_writes_of_cover _ _ _ _ _ (covD_s2 m hO c t h0 h3 h1 h2)
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

set_option maxHeartbeats 4000000 in
theorem body_F (hO : Ok m) (c : Dev nD) (t : Fin (cfgM m hO).N) (h0 : ¬cond0_0 (grid0.coords t)) (h3 : ¬cond0_3 (grid0.coords t)) (h1 : One m hO t) (h2 : ¬Two m hO t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [lx_0, lx_1, lx_2, lx_3, lx_4, lx_5, lx_6]
  rw [Dat.leavesExact_idle (dats m hO 0 c) 7 t (idleAt0_7_F m hO t h0 h3) (noFlush0_7_F m hO t h0 h3)]
  rw [Dat.leavesExact_idle (dats m hO 0 c) 8 t (idleAt0_8_F m hO t h0 h3) (noFlush0_8_F m hO t h0 h3)]
  rw [outsAt_eq, step_F m hO c t h0 h3 h1 h2]
  have hz : t.val ≠ 0 := fun h => h0 ((hcond0_0 t).mpr (by rw [h]))
  rw [PhiS_castSucc m hO c t, PhiS_pos m hO c _ _ hz, PhiT0_eq, ← prev_pos m hO c t hz]
  unfold stF; (try dsimp only)
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_F c (grid0.coords t) _ _ _ _ _ _ _ _ _ _ _ _ _ _ _ _ _ _ _ _ _ _ _ _ h0 h3 (iblk m hO c 0 t) (iblk m hO c 1 t) (iblk m hO c 2 t) (iblk m hO c 3 t) (iblk m hO c 4 t) (iblk m hO c 5 t) (iblk m hO c 6 t) (tbl m 0) _ _ _ h1 h2).2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HT0]; · iexact HT0
  iintro ⟨H0, H1, H2, H3, H4, H5, H6, H7, H8, HS0, ⟨%es1, HS1⟩, ⟨%es2, HS2⟩, HT0⟩
  isplitl [HS0 HS1 HS2 Hg HT0]
  · isplitl [HS0 HS1 HS2 Hg]
    · isplitl [HS0 HS1 HS2]
      · isplitl [HS0]
        · iexact HS0
        isplitl [HS1]
        · unfold owns; iexists _; isplitr
          swap; · iexact HS1
          ipureintro; exact View.read_writes_of_cover _ _ _ _ _ (covF_s1 m hO c t h0 h3 h1 h2 _)
        unfold owns; iexists _; isplitr
        swap; · iexact HS2
        ipureintro; exact View.read_writes_of_cover _ _ _ _ _ (covF_s2 m hO c t h0 h3 h1 h2 _)
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

set_option maxHeartbeats 4000000 in
theorem body_G (hO : Ok m) (c : Dev nD) (t : Fin (cfgM m hO).N) (h0 : ¬cond0_0 (grid0.coords t)) (h3 : ¬cond0_3 (grid0.coords t)) (h1 : ¬One m hO t) (h2 : Two m hO t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [lx_0, lx_1, lx_2, lx_3, lx_4, lx_5, lx_6]
  rw [Dat.leavesExact_idle (dats m hO 0 c) 7 t (idleAt0_7_G m hO t h0 h3) (noFlush0_7_G m hO t h0 h3)]
  rw [Dat.leavesExact_idle (dats m hO 0 c) 8 t (idleAt0_8_G m hO t h0 h3) (noFlush0_8_G m hO t h0 h3)]
  rw [outsAt_eq, step_G m hO c t h0 h3 h1 h2]
  have hz : t.val ≠ 0 := fun h => h0 ((hcond0_0 t).mpr (by rw [h]))
  rw [PhiS_castSucc m hO c t, PhiS_pos m hO c _ _ hz, PhiT0_eq, ← prev_pos m hO c t hz]
  unfold stG; (try dsimp only)
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_G c (grid0.coords t) _ _ _ _ _ _ _ _ _ _ _ _ _ _ _ _ _ _ _ _ _ _ _ _ h0 h3 (iblk m hO c 0 t) (iblk m hO c 1 t) (iblk m hO c 2 t) (iblk m hO c 3 t) (iblk m hO c 4 t) (iblk m hO c 5 t) (iblk m hO c 6 t) (tbl m 0) _ _ _ h1 h2).2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HT0]; · iexact HT0
  iintro ⟨H0, H1, H2, H3, H4, H5, H6, H7, H8, ⟨%es0, HS0⟩, HS1, HS2, HT0⟩
  isplitl [HS0 HS1 HS2 Hg HT0]
  · isplitl [HS0 HS1 HS2 Hg]
    · isplitl [HS0 HS1 HS2]
      · isplitl [HS0]
        · unfold owns; iexists _; isplitr
          swap; · iexact HS0
          ipureintro; exact View.read_writes_of_cover _ _ _ _ _ (covG_s0 m hO c t h0 h3 h1 h2 _)
        isplitl [HS1]
        · iexact HS1
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

set_option maxHeartbeats 4000000 in
theorem body_H (hO : Ok m) (c : Dev nD) (t : Fin (cfgM m hO).N) (h0 : ¬cond0_0 (grid0.coords t)) (h3 : ¬cond0_3 (grid0.coords t)) (h1 : ¬One m hO t) (h2 : ¬Two m hO t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [lx_0, lx_1, lx_2, lx_3, lx_4, lx_5, lx_6]
  rw [Dat.leavesExact_idle (dats m hO 0 c) 7 t (idleAt0_7_H m hO t h0 h3) (noFlush0_7_H m hO t h0 h3)]
  rw [Dat.leavesExact_idle (dats m hO 0 c) 8 t (idleAt0_8_H m hO t h0 h3) (noFlush0_8_H m hO t h0 h3)]
  rw [outsAt_eq, step_H m hO c t h0 h3 h1 h2]
  have hz : t.val ≠ 0 := fun h => h0 ((hcond0_0 t).mpr (by rw [h]))
  rw [PhiS_castSucc m hO c t, PhiS_pos m hO c _ _ hz, PhiT0_eq, ← prev_pos m hO c t hz]
  unfold stH; (try dsimp only)
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_H c (grid0.coords t) _ _ _ _ _ _ _ _ _ _ _ _ _ _ _ _ _ _ _ _ _ _ _ _ h0 h3 (iblk m hO c 0 t) (iblk m hO c 1 t) (iblk m hO c 2 t) (iblk m hO c 3 t) (iblk m hO c 4 t) (iblk m hO c 5 t) (iblk m hO c 6 t) (tbl m 0) _ _ _ h1 h2).2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HT0]; · iexact HT0
  iintro ⟨H0, H1, H2, H3, H4, H5, H6, H7, H8, HS0, HS1, HS2, HT0⟩
  isplitl [HS0 HS1 HS2 Hg HT0]
  · isplitl [HS0 HS1 HS2 Hg]
    · isplitl [HS0 HS1 HS2]
      · isplitl [HS0]
        · iexact HS0
        isplitl [HS1]
        · iexact HS1
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

set_option maxHeartbeats 4000000 in
theorem body_K (hO : Ok m) (c : Dev nD) (t : Fin (cfgM m hO).N) (h0 : ¬cond0_0 (grid0.coords t)) (h3 : cond0_3 (grid0.coords t)) (h1 : ¬One m hO t) (h2 : Two m hO t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [lx_0, lx_1, lx_2, lx_3, lx_4, lx_5, lx_6]
  rw [show (dats m hO 0 c).leavesExact 7 t = owns (c : Thread nD τ) (ms0_7 m hO t) fullShare ((dats m hO 0 c).after 7 t) from by
    unfold Dat.leavesExact; rw [liveAt0_7_K m hO t h0 h3]; try rfl, after0_7]
  rw [show (dats m hO 0 c).leavesExact 8 t = owns (c : Thread nD τ) (ms0_8 m hO t) fullShare ((dats m hO 0 c).after 8 t) from by
    unfold Dat.leavesExact; rw [liveAt0_8_K m hO t h0 h3]; try rfl, after0_8]
  rw [outsAt_eq, step_K m hO c t h0 h3 h1 h2]
  have hz : t.val ≠ 0 := fun h => h0 ((hcond0_0 t).mpr (by rw [h]))
  rw [PhiS_castSucc m hO c t, PhiS_pos m hO c _ _ hz, PhiT0_eq, ← prev_pos m hO c t hz]
  unfold stK; (try dsimp only)
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_K c (grid0.coords t) _ _ _ _ _ _ _ _ _ _ _ _ _ _ _ _ _ _ _ _ _ _ _ _ h0 h3 (iblk m hO c 0 t) (iblk m hO c 1 t) (iblk m hO c 2 t) (iblk m hO c 3 t) (iblk m hO c 4 t) (iblk m hO c 5 t) (iblk m hO c 6 t) (tbl m 0) _ _ _ h1 h2).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HT0]; · iexact HT0
  iintro ⟨H0, H1, H2, H3, H4, H5, H6, ⟨%e7, H7⟩, ⟨%e8, H8⟩, ⟨%es0, HS0⟩, HS1, HS2, HT0⟩
  isplitl [HS0 HS1 HS2 Hg HT0]
  · isplitl [HS0 HS1 HS2 Hg]
    · isplitl [HS0 HS1 HS2]
      · isplitl [HS0]
        · unfold owns; iexists _; isplitr
          swap; · iexact HS0
          ipureintro; exact View.read_writes_of_cover _ _ _ _ _ (covK_s0 m hO c t h0 h3 h1 h2 _)
        isplitl [HS1]
        · iexact HS1
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (covK_o7 m hO c t h0 h3 h1 h2 _)
  unfold owns; iexists _; isplitr
  swap; · iexact H8
  ipureintro; exact View.read_writes_of_cover _ _ _ _ _ (covK_o8 m hO c t h0 h3 h1 h2 _)

set_option maxHeartbeats 4000000 in
theorem body_L (hO : Ok m) (c : Dev nD) (t : Fin (cfgM m hO).N) (h0 : ¬cond0_0 (grid0.coords t)) (h3 : cond0_3 (grid0.coords t)) (h1 : ¬One m hO t) (h2 : ¬Two m hO t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [lx_0, lx_1, lx_2, lx_3, lx_4, lx_5, lx_6]
  rw [show (dats m hO 0 c).leavesExact 7 t = owns (c : Thread nD τ) (ms0_7 m hO t) fullShare ((dats m hO 0 c).after 7 t) from by
    unfold Dat.leavesExact; rw [liveAt0_7_L m hO t h0 h3]; try rfl, after0_7]
  rw [show (dats m hO 0 c).leavesExact 8 t = owns (c : Thread nD τ) (ms0_8 m hO t) fullShare ((dats m hO 0 c).after 8 t) from by
    unfold Dat.leavesExact; rw [liveAt0_8_L m hO t h0 h3]; try rfl, after0_8]
  rw [outsAt_eq, step_L m hO c t h0 h3 h1 h2]
  have hz : t.val ≠ 0 := fun h => h0 ((hcond0_0 t).mpr (by rw [h]))
  rw [PhiS_castSucc m hO c t, PhiS_pos m hO c _ _ hz, PhiT0_eq, ← prev_pos m hO c t hz]
  unfold stL; (try dsimp only)
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_L c (grid0.coords t) _ _ _ _ _ _ _ _ _ _ _ _ _ _ _ _ _ _ _ _ _ _ _ _ h0 h3 (iblk m hO c 0 t) (iblk m hO c 1 t) (iblk m hO c 2 t) (iblk m hO c 3 t) (iblk m hO c 4 t) (iblk m hO c 5 t) (iblk m hO c 6 t) (tbl m 0) _ _ _ h1 h2).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HT0]; · iexact HT0
  iintro ⟨H0, H1, H2, H3, H4, H5, H6, ⟨%e7, H7⟩, ⟨%e8, H8⟩, HS0, HS1, HS2, HT0⟩
  isplitl [HS0 HS1 HS2 Hg HT0]
  · isplitl [HS0 HS1 HS2 Hg]
    · isplitl [HS0 HS1 HS2]
      · isplitl [HS0]
        · iexact HS0
        isplitl [HS1]
        · iexact HS1
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (covL_o7 m hO c t h0 h3 h1 h2 _)
  unfold owns; iexists _; isplitr
  swap; · iexact H8
  ipureintro; exact View.read_writes_of_cover _ _ _ _ _ (covL_o8 m hO c t h0 h3 h1 h2 _)

/-- The body at any step. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  by_cases h0 : cond0_0 (grid0.coords t)
  · have h3 : ¬cond0_3 (grid0.coords t) := fun h => half _ (first_early t h0) (last_late t h)
    have h2 : ¬Two m hO t := fun h => half _ (first_early t h0) (late _ _ h)
    by_cases h1 : One m hO t
    · exact body_B m hO c t h0 h3 h1 h2
    · exact body_D m hO c t h0 h3 h1 h2
  · by_cases h3 : cond0_3 (grid0.coords t)
    · have h1 : ¬One m hO t := fun h => half _ (early _ _ h) (last_late t h3)
      by_cases h2 : Two m hO t
      · exact body_K m hO c t h0 h3 h1 h2
      · exact body_L m hO c t h0 h3 h1 h2
    · by_cases h1 : One m hO t
      · exact body_F m hO c t h0 h3 h1 (not_two m hO t h1)
      · by_cases h2 : Two m hO t
        · exact body_G m hO c t h0 h3 h1 h2
        · exact body_H m hO c t h0 h3 h1 h2

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 512 := N_0; omega)

/-! ## The run and the frame -/

-- `θ_run_frameP_track_shared`'s implicit arguments are found by unifying its conclusion with this one, which takes unfolding plain
-- definitions in a metavariable's type
set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.DqI

end
-- ==== Proof.Dq.Tile.lean ====
module

public import proofs.«01_k».proof.Proof.Gen.Kernel28Ideal.Skeleton
public import proofs.«01_k».proof.Proof.Fox.Tile

@[expose] public section

set_option maxRecDepth 16384

noncomputable section

namespace Cert.DqV

open Cert.Kernel28Ideal Cert.Kernel28Ideal.Gen Cert.Mem Cert.FoxV Idealize.ShloMosaic Idealize.ShloMosaic.TcCoe Idealize.SL.Sem

/-! ## One head's tile -/

section Tile

variable (a0 a1 : BitVec 32) (q k g v o : Vec Ideal S512x128 .f32) (cq l e u w : Vec Ideal S1x512x1 .f32) (ct : Vec Ideal S1x512 .f32)

theorem same : (Named.named Cert.Kernel27Ideal.κ "mask" 4048155338#32 : Ideal .f32) = Named.named κ "mask" 4048155338#32 := rfl

/-- The cotangent of the weight of a pair of a head's tile. -/
def tG (r s : Fin 512) : EReal := ∑ x, g (ix2 r x) * v (ix2 s x)

theorem qd0 (r : Fin 512) : (k0_pay8 (k0_pay6 a1 a0 k q cq ct l) (k0_pay7 g v) e : FVec Ideal S1x512x1 .f32) (ix3 0 r 0) = e (ix3 0 r 0) + ∑ s, tP a0 a1 q k cq l ct r s * tG g v r s := by
  pointwise [k0_pay6, k0_pay7, k0_pay8, k0_pay9, tP, tG, sees, cs, same]

theorem qs0 (r : Fin 512) : (k0_pay9 (k0_pay6 a1 a0 k q cq ct l) e : FVec Ideal S1x512x1 .f32) (ix3 0 r 0) = e (ix3 0 r 0) + ∑ s, tP a0 a1 q k cq l ct r s := by
  pointwise [k0_pay6, k0_pay7, k0_pay8, k0_pay9, tP, sees, cs, same]

theorem qd1 (r : Fin 512) : (k0_pay12 a1 a0 (k0_pay10 k q cq ct) (iota .tc S512x512 32 [1] iota_S512x512_d1_w32) (iota .tc S512x512 32 [0] iota_S512x512_d0_w32) l g v e : FVec Ideal S1x512x1 .f32) (ix3 0 r 0) = e (ix3 0 r 0) + ∑ s, tP a0 a1 q k cq l ct r s * tG g v r s := by
  pointwise [k0_pay10, k0_pay11, k0_pay12, k0_pay13, k0_pay14, tP, tG, sees, cs, same]

theorem qs1 (r : Fin 512) : (k0_pay14 (k0_pay13 a1 a0 (k0_pay10 k q cq ct) (iota .tc S512x512 32 [1] iota_S512x512_d1_w32) (iota .tc S512x512 32 [0] iota_S512x512_d0_w32) l e) : FVec Ideal S1x512x1 .f32) (ix3 0 r 0) = e (ix3 0 r 0) + ∑ s, tP a0 a1 q k cq l ct r s := by
  pointwise [k0_pay10, k0_pay11, k0_pay12, k0_pay13, k0_pay14, tP, sees, cs, same]

theorem qd2 (r : Fin 512) : (k0_pay17 (k0_pay15 a1 a0 k q cq ct l) v (k0_pay16 g) e : FVec Ideal S1x512x1 .f32) (ix3 0 r 0) = e (ix3 0 r 0) + ∑ s, tP a0 a1 q k cq l ct r s * tG g v r s := by
  pointwise [k0_pay15, k0_pay16, k0_pay17, k0_pay18, tP, tG, sees, cs, same]

theorem qs2 (r : Fin 512) : (k0_pay18 (k0_pay15 a1 a0 k q cq ct l) e : FVec Ideal S1x512x1 .f32) (ix3 0 r 0) = e (ix3 0 r 0) + ∑ s, tP a0 a1 q k cq l ct r s := by
  pointwise [k0_pay15, k0_pay16, k0_pay17, k0_pay18, tP, sees, cs, same]

theorem qd3 (r : Fin 512) : (k0_pay23 a1 a0 (k0_pay19 k q) (k0_pay20 cq) (k0_pay21 ct) l g v e : FVec Ideal S1x512x1 .f32) (ix3 0 r 0) = e (ix3 0 r 0) + ∑ s, tP a0 a1 q k cq l ct r s * tG g v r s := by
  pointwise [k0_pay19, k0_pay20, k0_pay21, k0_pay22, k0_pay23, k0_pay24, k0_pay25, k0_pay26, tP, tG, sees, cs, same]

theorem qs3 (r : Fin 512) : (k0_pay26 (k0_pay24 e) (k0_pay25 a1 a0 (k0_pay19 k q) (k0_pay20 cq) (k0_pay21 ct) l) : FVec Ideal S1x512x1 .f32) (ix3 0 r 0) = e (ix3 0 r 0) + ∑ s, tP a0 a1 q k cq l ct r s := by
  pointwise [k0_pay19, k0_pay20, k0_pay21, k0_pay22, k0_pay23, k0_pay24, k0_pay25, k0_pay26, tP, sees, cs, same]

theorem qd4 (r : Fin 512) : (k0_pay28 (k0_pay27 a1 a0 k q cq ct l) g v e : FVec Ideal S1x512x1 .f32) (ix3 0 r 0) = e (ix3 0 r 0) + ∑ s, tP a0 a1 q k cq l ct r s * tG g v r s := by
  pointwise [k0_pay27, k0_pay28, k0_pay29, tP, tG, sees, cs, same]

theorem qs4 (r : Fin 512) : (k0_pay29 (k0_pay27 a1 a0 k q cq ct l) e : FVec Ideal S1x512x1 .f32) (ix3 0 r 0) = e (ix3 0 r 0) + ∑ s, tP a0 a1 q k cq l ct r s := by
  pointwise [k0_pay27, k0_pay28, k0_pay29, tP, sees, cs, same]

theorem qd5 (r : Fin 512) : (k0_pay34 a1 a0 (k0_pay30 cq) (k0_pay31 ct) (k0_pay32 k q) (Scalar.ofBits .f32 0x3DB504F3#32) l g v e : FVec Ideal S1x512x1 .f32) (ix3 0 r 0) = e (ix3 0 r 0) + ∑ s, tP a0 a1 q k cq l ct r s * tG g v r s := by
  pointwise [k0_pay30, k0_pay31, k0_pay32, k0_pay33, k0_pay34, k0_pay4, tP, tG, sees, cs, same]

theorem qs5 (r : Fin 512) : (k0_pay4 (k0_pay33 a1 a0 (k0_pay30 cq) (k0_pay31 ct) (k0_pay32 k q) (Scalar.ofBits .f32 0x3DB504F3#32) l) e : FVec Ideal S1x512x1 .f32) (ix3 0 r 0) = e (ix3 0 r 0) + ∑ s, tP a0 a1 q k cq l ct r s := by
  pointwise [k0_pay30, k0_pay31, k0_pay32, k0_pay33, k0_pay34, k0_pay4, tP, sees, cs, same]

theorem qa0 (r : Fin 512) (d : Fin 128) : (k0_pay37 k (k0_pay35 a1 a0 k q cq ct l) (k0_pay36 g v) u w o : FVec Ideal S512x128 .f32) (ix2 r d) = o (ix2 r d) + (∑ s, tP a0 a1 q k cq l ct r s * (tG g v r s - Ideal.div (u (ix3 0 r 0)) (w (ix3 0 r 0))) * k (ix2 s d)) * cs := by
  pointwise [k0_pay35, k0_pay36, k0_pay37, tP, tG, sees, cs, same]

theorem qa1 (r : Fin 512) (d : Fin 128) : (k0_pay40 a1 a0 k (k0_pay38 k q cq ct) k0_pay39 512#32 l g v u w o : FVec Ideal S512x128 .f32) (ix2 r d) = o (ix2 r d) + (∑ s, tP a0 a1 q k cq l ct r s * (tG g v r s - Ideal.div (u (ix3 0 r 0)) (w (ix3 0 r 0))) * k (ix2 s d)) * cs := by
  pointwise [k0_pay38, k0_pay39, k0_pay40, tP, tG, sees, cs, same]

theorem qa2 (r : Fin 512) (d : Fin 128) : (k0_pay43 k (k0_pay41 a1 a0 k q cq ct l) (k0_pay42 g v) u w o : FVec Ideal S512x128 .f32) (ix2 r d) = o (ix2 r d) + (∑ s, tP a0 a1 q k cq l ct r s * (tG g v r s - Ideal.div (u (ix3 0 r 0)) (w (ix3 0 r 0))) * k (ix2 s d)) * cs := by
  pointwise [k0_pay41, k0_pay42, k0_pay43, tP, tG, sees, cs, same]

theorem qa3 (r : Fin 512) (d : Fin 128) : (k0_pay46 a1 a0 k (k0_pay44 k q cq ct) k0_pay45 512#32 l g v u w o : FVec Ideal S512x128 .f32) (ix2 r d) = o (ix2 r d) + (∑ s, tP a0 a1 q k cq l ct r s * (tG g v r s - Ideal.div (u (ix3 0 r 0)) (w (ix3 0 r 0))) * k (ix2 s d)) * cs := by
  pointwise [k0_pay44, k0_pay45, k0_pay46, tP, tG, sees, cs, same]

theorem qa4 (r : Fin 512) (d : Fin 128) : (k0_pay49 k (k0_pay47 a1 a0 k q cq ct l) (k0_pay48 g v) u w o : FVec Ideal S512x128 .f32) (ix2 r d) = o (ix2 r d) + (∑ s, tP a0 a1 q k cq l ct r s * (tG g v r s - Ideal.div (u (ix3 0 r 0)) (w (ix3 0 r 0))) * k (ix2 s d)) * cs := by
  pointwise [k0_pay47, k0_pay48, k0_pay49, tP, tG, sees, cs, same]

theorem qa5 (r : Fin 512) (d : Fin 128) : (k0_pay52 a1 a0 k (k0_pay50 k q cq ct) k0_pay51 512#32 l g v u w o : FVec Ideal S512x128 .f32) (ix2 r d) = o (ix2 r d) + (∑ s, tP a0 a1 q k cq l ct r s * (tG g v r s - Ideal.div (u (ix3 0 r 0)) (w (ix3 0 r 0))) * k (ix2 s d)) * cs := by
  pointwise [k0_pay50, k0_pay51, k0_pay52, tP, tG, sees, cs, same]

theorem qo54 (r : Fin 512) (d : Fin 128) : (k0_pay54 u w : FVec Ideal S1x512x128 .f32) (ix3 0 r d) = Ideal.div (u (ix3 0 r 0)) (w (ix3 0 r 0)) := by
  pointwise [k0_pay54]

theorem qo55 (r : Fin 512) (d : Fin 128) : (k0_pay55 u w : FVec Ideal S1x512x128 .f32) (ix3 0 r d) = Ideal.div (u (ix3 0 r 0)) (w (ix3 0 r 0)) := by
  pointwise [k0_pay55]

theorem qo56 (r : Fin 512) (d : Fin 128) : (k0_pay57 (k0_pay56 u w) : FVec Ideal S1x512x128 .f32) (ix3 0 r d) = Ideal.div (u (ix3 0 r 0)) (w (ix3 0 r 0)) := by
  pointwise [k0_pay56, k0_pay57]

theorem qo58 (r : Fin 512) (d : Fin 128) : (k0_pay58 u w : FVec Ideal S1x512x128 .f32) (ix3 0 r d) = Ideal.div (u (ix3 0 r 0)) (w (ix3 0 r 0)) := by
  pointwise [k0_pay58]

theorem qo59 (r : Fin 512) (d : Fin 128) : (k0_pay59 u w : FVec Ideal S1x512x128 .f32) (ix3 0 r d) = Ideal.div (u (ix3 0 r 0)) (w (ix3 0 r 0)) := by
  pointwise [k0_pay59]

theorem qo60 (r : Fin 512) (d : Fin 128) : (k0_pay5 (k0_pay60 u w) : FVec Ideal S1x512x128 .f32) (ix3 0 r d) = Ideal.div (u (ix3 0 r 0)) (w (ix3 0 r 0)) := by
  pointwise [k0_pay5, k0_pay60]

theorem pay1_eq : (k0_pay1 : FVec Ideal S512x768 .f32) = fun _ => 0 := by
  funext y; pointwise [k0_pay1]
theorem pay2_eq : (k0_pay2 : FVec Ideal S6x512x1 .f32) = fun _ => 0 := by
  funext y; pointwise [k0_pay2]
theorem pay3_eq : (k0_pay3 : FVec Ideal S6x512x1 .f32) = fun _ => 0 := by
  funext y; pointwise [k0_pay3]
theorem pay53_eq (x : Vec Ideal S512x768 .f32) : (k0_pay53 x : FVec Ideal S512x768 .bf16) = x := by
  funext y; pointwise [k0_pay53]

end Tile

end Cert.DqV

end
-- ==== Proof.Dq.Block.lean ====
module

public import proofs.«01_k».proof.Proof.Dq.Tile
public import proofs.«01_k».proof.Proof.Fox.Block
public import Idealize.ShloMosaic.Lib.Pipeline.ReadBack
public import Idealize.ShloMosaic.Lib.Pipeline.ValueKit

@[expose] public section

set_option maxRecDepth 16384

noncomputable section

namespace Cert.DqV

open Cert.Kernel28Ideal Cert.Kernel28Ideal.Gen Cert.Mem Cert.FoxV Idealize.ShloMosaic Idealize.ShloMosaic.TcCoe Idealize.SL.Sem

/-! ## The blocks, all six heads -/

/-- A head's column of row sums. -/
def ec (x : Vec Ideal S6x512x1 .f32) (h : Fin 6) : Vec Ideal S1x512x1 .f32 := fun y => x (ix3 h (y 1) 0)

theorem lde0 (x : Vec Ideal S6x512x1 .f32) (inb) : View.ld (S := S6x512x1) (Val := Elt Ideal) (e' := .f32) x (Rect.unit ![0, 0, 0] ![1, 512, 1] inb) = ec x 0 := by
  funext y
  exact congrArg x (idx_ext3 (by show 0 + 1 * (y 0).val = 0; have : (y 0).val < 1 := (y 0).isLt; omega) (by show 0 + 1 * (y 1).val = (y 1).val; omega)
    (by show 0 + 1 * (y 2).val = 0; have : (y 2).val < 1 := (y 2).isLt; omega))

theorem lde1 (x : Vec Ideal S6x512x1 .f32) (inb) : View.ld (S := S6x512x1) (Val := Elt Ideal) (e' := .f32) x (Rect.unit ![1, 0, 0] ![1, 512, 1] inb) = ec x 1 := by
  funext y
  exact congrArg x (idx_ext3 (by show 1 + 1 * (y 0).val = 1; have : (y 0).val < 1 := (y 0).isLt; omega) (by show 0 + 1 * (y 1).val = (y 1).val; omega)
    (by show 0 + 1 * (y 2).val = 0; have : (y 2).val < 1 := (y 2).isLt; omega))

theorem lde2 (x : Vec Ideal S6x512x1 .f32) (inb) : View.ld (S := S6x512x1) (Val := Elt Ideal) (e' := .f32) x (Rect.unit ![2, 0, 0] ![1, 512, 1] inb) = ec x 2 := by
  funext y
  exact congrArg x (idx_ext3 (by show 2 + 1 * (y 0).val = 2; have : (y 0).val < 1 := (y 0).isLt; omega) (by show 0 + 1 * (y 1).val = (y 1).val; omega)
    (by show 0 + 1 * (y 2).val = 0; have : (y 2).val < 1 := (y 2).isLt; omega))

theorem lde3 (x : Vec Ideal S6x512x1 .f32) (inb) : View.ld (S := S6x512x1) (Val := Elt Ideal) (e' := .f32) x (Rect.unit ![3, 0, 0] ![1, 512, 1] inb) = ec x 3 := by
  funext y
  exact congrArg x (idx_ext3 (by show 3 + 1 * (y 0).val = 3; have : (y 0).val < 1 := (y 0).isLt; omega) (by show 0 + 1 * (y 1).val = (y 1).val; omega)
    (by show 0 + 1 * (y 2).val = 0; have : (y 2).val < 1 := (y 2).isLt; omega))

theorem lde4 (x : Vec Ideal S6x512x1 .f32) (inb) : View.ld (S := S6x512x1) (Val := Elt Ideal) (e' := .f32) x (Rect.unit ![4, 0, 0] ![1, 512, 1] inb) = ec x 4 := by
  funext y
  exact congrArg x (idx_ext3 (by show 4 + 1 * (y 0).val = 4; have : (y 0).val < 1 := (y 0).isLt; omega) (by show 0 + 1 * (y 1).val = (y 1).val; omega)
    (by show 0 + 1 * (y 2).val = 0; have : (y 2).val < 1 := (y 2).isLt; omega))

theorem lde5 (x : Vec Ideal S6x512x1 .f32) (inb) : View.ld (S := S6x512x1) (Val := Elt Ideal) (e' := .f32) x (Rect.unit ![5, 0, 0] ![1, 512, 1] inb) = ec x 5 := by
  funext y
  exact congrArg x (idx_ext3 (by show 5 + 1 * (y 0).val = 5; have : (y 0).val < 1 := (y 0).isLt; omega) (by show 0 + 1 * (y 1).val = (y 1).val; omega)
    (by show 0 + 1 * (y 2).val = 0; have : (y 2).val < 1 := (y 2).isLt; omega))

section Block

variable (a0 a1 : BitVec 32) (x0 x1 x2 x6 : Vec Ideal S512x768 .f32) (x3 : Vec Ideal S8x512 .f32) (x4 x5 : Vec Ideal S6x512x128 .f32)

/-- The cotangent of a pair's weight. -/
def bG (h : Fin 6) (r s : Fin 512) : EReal := tG (qc x6 h) (qc x2 h) r s

/-- What a block of keys adds to the rows' sums of the weights against their cotangents. -/
def gD (o : Vec Ideal S6x512x1 .f32) : Vec Ideal S6x512x1 .f32 := fun y =>
  o y + ∑ s, bP a0 a1 x0 x1 x3 x4 x5 (y 0) (y 1) s * bG x2 x6 (y 0) (y 1) s
/-- What it adds to the rows' sums of the weights. -/
def gS (o : Vec Ideal S6x512x1 .f32) : Vec Ideal S6x512x1 .f32 := fun y =>
  o y + ∑ s, bP a0 a1 x0 x1 x3 x4 x5 (y 0) (y 1) s
/-- What it adds to the queries' gradient, the rows' sums being given. -/
def gQ (u w : Vec Ideal S6x512x1 .f32) (o : Vec Ideal S512x768 .f32) : Vec Ideal S512x768 .f32 := fun y =>
  o y + (∑ s, bP a0 a1 x0 x1 x3 x4 x5 (hd (y 1)) (y 0) s * (bG x2 x6 (hd (y 1)) (y 0) s - Ideal.div (u (ix3 (hd (y 1)) (y 0) 0)) (w (ix3 (hd (y 1)) (y 0) 0))) * x1 (ix2 s (y 1))) * cs
/-- The rows' corrections, on every lane. -/
def gO (u w : Vec Ideal S6x512x1 .f32) : Vec Ideal S6x512x128 .f32 := fun y => Ideal.div (u (ix3 (y 0) (y 1) 0)) (w (ix3 (y 0) (y 1) 0))

end Block

section Read

variable {sg : RefSig} {κ : Kind} {sp : Space} {n : ℕ}

theorem head_step (v : View sg κ sp (⟨3, ![6, 512, n]⟩ : Shape) .f32) (f : v.ty.Contents (Elt Ideal)) (R : List (View.Piece (Elt Ideal) (⟨3, ![6, 512, n]⟩ : Shape) .f32)) (k : ℕ) (i)
    (w : Vec Ideal (⟨3, ![1, 512, n]⟩ : Shape) .f32) (y : Shape.Idx (⟨3, ![6, 512, n]⟩ : Shape)) :
    v.read (Elt Ideal) (v.writes (Elt Ideal) f ((⟨Rect.unit (s := (⟨3, ![6, 512, n]⟩ : Shape)) ![k, 0, 0] ![1, 512, n] i, w⟩ : View.Piece (Elt Ideal) (⟨3, ![6, 512, n]⟩ : Shape) .f32) :: R)) y
      = if (y 0).val = k then w (ix3 0 (y 1) (y 2)) else v.read (Elt Ideal) (v.writes (Elt Ideal) f R) y := by
  by_cases hk : (y 0).val = k
  · rw [if_pos hk]
    refine View.read_writes_cons_unit_of_mem v f _ _ _ y (ix3 0 (y 1) (y 2)) rfl ?_
    intro a
    match a with
    | 0 => exact hk
    | 1 => exact (Nat.zero_add _).symm
    | 2 => exact (Nat.zero_add _).symm
  · rw [if_neg hk]
    refine View.read_writes_cons_unit_of_not_mem v f _ _ _ y rfl 0 ?_
    show (y 0).val < k ∨ k + 1 ≤ (y 0).val
    omega

theorem heads6 (v : View sg κ sp (⟨3, ![6, 512, n]⟩ : Shape) .f32) (f : v.ty.Contents (Elt Ideal)) (R : List (View.Piece (Elt Ideal) (⟨3, ![6, 512, n]⟩ : Shape) .f32)) (G : Vec Ideal (⟨3, ![6, 512, n]⟩ : Shape) .f32)
    (i0) (i1) (i2) (i3) (i4) (i5) (w0 w1 w2 w3 w4 w5 : Vec Ideal (⟨3, ![1, 512, n]⟩ : Shape) .f32)
    (h0 : ∀ r d, w0 (ix3 0 r d) = G (ix3 0 r d))
    (h1 : ∀ r d, w1 (ix3 0 r d) = G (ix3 1 r d))
    (h2 : ∀ r d, w2 (ix3 0 r d) = G (ix3 2 r d))
    (h3 : ∀ r d, w3 (ix3 0 r d) = G (ix3 3 r d))
    (h4 : ∀ r d, w4 (ix3 0 r d) = G (ix3 4 r d))
    (h5 : ∀ r d, w5 (ix3 0 r d) = G (ix3 5 r d)) :
    v.read (Elt Ideal) (v.writes (Elt Ideal) f ((⟨Rect.unit (s := (⟨3, ![6, 512, n]⟩ : Shape)) ![5, 0, 0] ![1, 512, n] i5, w5⟩ : View.Piece (Elt Ideal) (⟨3, ![6, 512, n]⟩ : Shape) .f32) :: (⟨Rect.unit (s := (⟨3, ![6, 512, n]⟩ : Shape)) ![4, 0, 0] ![1, 512, n] i4, w4⟩ : View.Piece (Elt Ideal) (⟨3, ![6, 512, n]⟩ : Shape) .f32) :: (⟨Rect.unit (s := (⟨3, ![6, 512, n]⟩ : Shape)) ![3, 0, 0] ![1, 512, n] i3, w3⟩ : View.Piece (Elt Ideal) (⟨3, ![6, 512, n]⟩ : Shape) .f32) :: (⟨Rect.unit (s := (⟨3, ![6, 512, n]⟩ : Shape)) ![2, 0, 0] ![1, 512, n] i2, w2⟩ : View.Piece (Elt Ideal) (⟨3, ![6, 512, n]⟩ : Shape) .f32) :: (⟨Rect.unit (s := (⟨3, ![6, 512, n]⟩ : Shape)) ![1, 0, 0] ![1, 512, n] i1, w1⟩ : View.Piece (Elt Ideal) (⟨3, ![6, 512, n]⟩ : Shape) .f32) :: (⟨Rect.unit (s := (⟨3, ![6, 512, n]⟩ : Shape)) ![0, 0, 0] ![1, 512, n] i0, w0⟩ : View.Piece (Elt Ideal) (⟨3, ![6, 512, n]⟩ : Shape) .f32) :: R)) = G := by
  funext y
  have hy : (y 0).val < 6 := (y 0).isLt
  rw [head_step, head_step, head_step, head_step, head_step, head_step]
  split_ifs with c5 c4 c3 c2 c1 c0
  · exact (h5 _ _).trans (congrArg G (idx_ext3 c5 rfl rfl).symm)
  · exact (h4 _ _).trans (congrArg G (idx_ext3 c4 rfl rfl).symm)
  · exact (h3 _ _).trans (congrArg G (idx_ext3 c3 rfl rfl).symm)
  · exact (h2 _ _).trans (congrArg G (idx_ext3 c2 rfl rfl).symm)
  · exact (h1 _ _).trans (congrArg G (idx_ext3 c1 rfl rfl).symm)
  · exact (h0 _ _).trans (congrArg G (idx_ext3 c0 rfl rfl).symm)
  · omega

end Read

end Cert.DqV

end
-- ==== Proof.Dq.Base.lean ====
module

public import proofs.«01_k».proof.Proof.Dq.FrameIdeal
public import proofs.«01_k».proof.Proof.Dq.Block
public import proofs.«01_k».proof.Proof.Fox.CaseF
public import Idealize.ShloMosaic.Lib.Pipeline.ReadBack
public import Idealize.ShloMosaic.Lib.Pipeline.ValueKit

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

/-! ## The words and the fetched blocks of a step -/

/-- The step's number within its half. -/
abbrev md (b : BitVec 32) : BitVec 32 :=
  Scalar.select
    (Scalar.andi (Scalar.xori (Scalar.cmpi CmpIPredicate.slt (Scalar.remsi b (Scalar.select (Scalar.cmpi CmpIPredicate.eq 16#32 0#32) 1#32 16#32)) 0#32)
        (Scalar.cmpi CmpIPredicate.slt (Scalar.select (Scalar.cmpi CmpIPredicate.eq 16#32 0#32) 1#32 16#32) 0#32))
      (Scalar.cmpi CmpIPredicate.ne (Scalar.remsi b (Scalar.select (Scalar.cmpi CmpIPredicate.eq 16#32 0#32) 1#32 16#32)) 0#32))
    (Scalar.addi (Scalar.remsi b (Scalar.select (Scalar.cmpi CmpIPredicate.eq 16#32 0#32) 1#32 16#32)) (Scalar.select (Scalar.cmpi CmpIPredicate.eq 16#32 0#32) 1#32 16#32))
    (Scalar.remsi b (Scalar.select (Scalar.cmpi CmpIPredicate.eq 16#32 0#32) 1#32 16#32))

/-- The words of the key block and of the query block. -/
abbrev wj (t : Fin (cfgM m hO).N) : BitVec 32 := Scalar.addi (word (grid0.coords t) (tbl m 0)) (md (BitVec.ofNat 32 ↑(grid0.coords t 1)))
abbrev wi (t : Fin (cfgM m hO).N) : BitVec 32 := BitVec.ofNat 32 ↑(grid0.coords t 0)

abbrev B0 (t : Fin (cfgM m hO).N) : Vec Ideal S512x768 .f32 := iblk m hO c 0 t
abbrev B1 (t : Fin (cfgM m hO).N) : Vec Ideal S512x768 .f32 := iblk m hO c 1 t
abbrev B2 (t : Fin (cfgM m hO).N) : Vec Ideal S512x768 .f32 := iblk m hO c 2 t
abbrev B3 (t : Fin (cfgM m hO).N) : Vec Ideal S8x512 .f32 := iblk m hO c 3 t
abbrev B4 (t : Fin (cfgM m hO).N) : Vec Ideal S6x512x128 .f32 := iblk m hO c 4 t
abbrev B5 (t : Fin (cfgM m hO).N) : Vec Ideal S6x512x128 .f32 := iblk m hO c 5 t
abbrev B6 (t : Fin (cfgM m hO).N) : Vec Ideal S512x768 .f32 := iblk m hO c 6 t

abbrev oD (t : Fin (cfgM m hO).N) (o : Vec Ideal S6x512x1 .f32) : Vec Ideal S6x512x1 .f32 :=
  gD (wj m hO t) (wi m hO t) (B0 m hO c t) (B1 m hO c t) (B2 m hO c t) (B6 m hO c t) (B3 m hO c t) (B4 m hO c t) (B5 m hO c t) o
abbrev oS (t : Fin (cfgM m hO).N) (o : Vec Ideal S6x512x1 .f32) : Vec Ideal S6x512x1 .f32 :=
  gS (wj m hO t) (wi m hO t) (B0 m hO c t) (B1 m hO c t) (B3 m hO c t) (B4 m hO c t) (B5 m hO c t) o
abbrev oQ (t : Fin (cfgM m hO).N) (u w : Vec Ideal S6x512x1 .f32) (o : Vec Ideal S512x768 .f32) : Vec Ideal S512x768 .f32 :=
  gQ (wj m hO t) (wi m hO t) (B0 m hO c t) (B1 m hO c t) (B2 m hO c t) (B6 m hO c t) (B3 m hO c t) (B4 m hO c t) (B5 m hO c t) u w o

/-- The zero blocks. -/
def zr : Vec Ideal S6x512x1 .f32 := fun _ => 0

theorem ld_all (x : Vec Ideal S6x512x1 .f32) (inb) : View.ld (S := S6x512x1) (Val := Elt Ideal) (e' := .f32) x (Rect.unit ![0, 0, 0] ![6, 512, 1] inb) = x := by
  funext y
  refine congrArg x ((idx_ext3 (i := y 0) (j := y 1) (k := y 2) ?_ ?_ ?_).trans (eq_ix3 y).symm)
  · show 0 + 1 * (y 0).val = (y 0).val; omega
  · show 0 + 1 * (y 1).val = (y 1).val; omega
  · show 0 + 1 * (y 2).val = (y 2).val; omega

theorem read_all {sg : RefSig} {κ : Kind} {sp : Space} {e : EltTy} (v : View sg κ sp S6x512x1 e) (f : v.ty.Contents (Elt Ideal)) (R : List (View.Piece (Elt Ideal) S6x512x1 e)) (inb)
    (w : Vec Ideal S6x512x1 e) : v.read (Elt Ideal) (v.writes (Elt Ideal) f ((⟨Rect.unit (s := S6x512x1) ![0, 0, 0] ![6, 512, 1] inb, w⟩ : View.Piece (Elt Ideal) S6x512x1 e) :: R)) = w := by
  funext y
  refine View.read_writes_cons_unit_of_mem v f _ _ _ y y rfl ?_
  intro a
  match a with
  | 0 => exact (Nat.zero_add _).symm
  | 1 => exact (Nat.zero_add _).symm
  | 2 => exact (Nat.zero_add _).symm

end Cert.DqV

end
-- ==== Proof.Dq.Table.lean ====
module

public import proofs.«01_k».proof.Proof.Dq.FrameIdeal
public import Idealize.ShloMosaic.Lib.Pipeline.ValueKit

@[expose] public section

set_option maxRecDepth 16384

noncomputable section

namespace Cert.DqV

open Cert.Kernel28Ideal Cert.Kernel28Ideal.Gen Idealize.ShloMosaic Idealize.ShloMosaic.TcCoe Idealize.SL.Sem

variable {F : FTy → Type} [FloatOps F] [Named F]
variable (m : (ℓ : Loc nD τ sig) → Buf (Elt F) ℓ)

set_option maxHeartbeats 8000000

/-! The table of the first blocks is constant: every block of keys is reached from the first one on. -/

/-- The table of the first and the furthest blocks. -/
def tW : Vec F S32 .i32 :=
  concatenate S32 0 [⟨S16, broadcastInDim S16 ![] bcast_S_S16 (constantI S_ 32 0#32)⟩, ⟨S16, broadcastInDim S16 ![] bcast_S_S16 (constantI S_ 32 15#32)⟩] concatenates_S16_S16_S32_d0

theorem V32 (c : Dev nD) : V m c main_v32 = tW (F := F) := by
  simp only [V, List.flatten, List.append_eq, List.nil_append, List.cons_append, List.append_nil, StableHlo.TRef.nullary, StableHlo.TRef.ternary, StableHlo.TRef.unary, StableHlo.TRef.toBuf, StableHlo.TRef.ofBuf, cast_eq]
  after_results_simp
  unfold tW
  rfl

theorem tW_lo (y : S32.Idx) (hy : (y 0).val < 16) : tW (F := F) y = 0#32 := by
  refine (concatenate_pair_apply_left (t := S32) (s₁ := S16) (s₂ := S16) 0 _ _ _ y rfl (ix1 (⟨(y 0).val, hy⟩ : Fin 16)) (fun b => ?_)).trans rfl
  match b with
  | 0 => rfl

theorem off1_val (i : grid0.Coords) : k0_off1 i 0 = (i 0).val := congrFun (k0_off1_eq i) 0

theorem tbl_eq : tbl m 0 = tW (F := F) := V32 m 0

theorem word_at (i : grid0.Coords) (h : ∀ a, (k0_off1 i) a + S1.size a ≤ S32.size a) (n : S1.numel = 1) :
    (tbl m).at 0 (Rect.unit (s := S32) (k0_off1 i) S1.size h) n = 0#32 := by
  have hi : (i 0).val < 16 := (i 0).isLt
  show tbl m 0 _ = _
  rw [tbl_eq]
  refine tW_lo _ ?_
  have e : ∀ k : Fin 1, k.val = 0 := by decide
  show k0_off1 i 0 + 1 * _ < 16
  rw [off1_val]
  refine Nat.lt_of_le_of_lt (Nat.le_of_eq ?_) hi
  exact congrArg (fun z => (i 0).val + 1 * z) (e _)

/-- The step's number within its half. -/
def mw (b : BitVec 32) : BitVec 32 :=
  Scalar.select
    (Scalar.andi (Scalar.xori (Scalar.cmpi CmpIPredicate.slt (Scalar.remsi b (Scalar.select (Scalar.cmpi CmpIPredicate.eq 16#32 0#32) 1#32 16#32)) 0#32)
        (Scalar.cmpi CmpIPredicate.slt (Scalar.select (Scalar.cmpi CmpIPredicate.eq 16#32 0#32) 1#32 16#32) 0#32))
      (Scalar.cmpi CmpIPredicate.ne (Scalar.remsi b (Scalar.select (Scalar.cmpi CmpIPredicate.eq 16#32 0#32) 1#32 16#32)) 0#32))
    (Scalar.addi (Scalar.remsi b (Scalar.select (Scalar.cmpi CmpIPredicate.eq 16#32 0#32) 1#32 16#32)) (Scalar.select (Scalar.cmpi CmpIPredicate.eq 16#32 0#32) 1#32 16#32))
    (Scalar.remsi b (Scalar.select (Scalar.cmpi CmpIPredicate.eq 16#32 0#32) 1#32 16#32))

theorem mw_eq (b : Fin 32) : mw (BitVec.ofNat 32 b.val) = BitVec.ofNat 32 (b.val % 16) := by
  revert b
  decide +kernel

theorem blk_le (a : Fin 16) (b : Fin 32) : (Scalar.minsi (Scalar.addi 0#32 (mw (BitVec.ofNat 32 b.val))) (BitVec.ofNat 32 a.val)).toNat = min (b.val % 16) a.val := by
  rw [mw_eq]
  revert a b
  decide +kernel

theorem tr1 (i : grid0.Coords) : cc0_transform_1 k0_off1_inb numel1_S1 (tbl m) i = ![min ((i 1).val % 16) (i 0).val, 5] := by
  have e : cc0_transform_1 k0_off1_inb numel1_S1 (tbl m) i
      = ![(Scalar.minsi (Scalar.addi ((tbl m).at 0 (Rect.unit (s := S32) (k0_off1 i) S1.size (k0_off1_inb i)) numel1_S1) (mw (BitVec.ofNat 32 (i 1).val))) (BitVec.ofNat 32 (i 0).val)).toNat, 5] := rfl
  rw [e, word_at, blk_le ⟨(i 0).val, (i 0).isLt⟩ ⟨(i 1).val, (i 1).isLt⟩]

theorem tr2 (i : grid0.Coords) : cc0_transform_2 k0_off1_inb numel1_S1 (tbl m) i = ![min ((i 1).val % 16) (i 0).val, 6] := by
  have e : cc0_transform_2 k0_off1_inb numel1_S1 (tbl m) i
      = ![(Scalar.minsi (Scalar.addi ((tbl m).at 0 (Rect.unit (s := S32) (k0_off1 i) S1.size (k0_off1_inb i)) numel1_S1) (mw (BitVec.ofNat 32 (i 1).val))) (BitVec.ofNat 32 (i 0).val)).toNat, 6] := rfl
  rw [e, word_at, blk_le ⟨(i 0).val, (i 0).isLt⟩ ⟨(i 1).val, (i 1).isLt⟩]

theorem tr3 (i : grid0.Coords) : cc0_transform_3 k0_off1_inb numel1_S1 (tbl m) i = ![0, min ((i 1).val % 16) (i 0).val] := by
  have e : cc0_transform_3 k0_off1_inb numel1_S1 (tbl m) i
      = ![0, (Scalar.minsi (Scalar.addi ((tbl m).at 0 (Rect.unit (s := S32) (k0_off1 i) S1.size (k0_off1_inb i)) numel1_S1) (mw (BitVec.ofNat 32 (i 1).val))) (BitVec.ofNat 32 (i 0).val)).toNat] := rfl
  rw [e, word_at, blk_le ⟨(i 0).val, (i 0).isLt⟩ ⟨(i 1).val, (i 1).isLt⟩]

theorem ok : Ok m := by
  refine ⟨fun i => ⟨fun a => ?_, Or.inl rfl⟩, fun i => ⟨fun a => ?_, Or.inl rfl⟩, fun i => ⟨fun a => ?_, Or.inl rfl⟩⟩
  · have h := (i 0).isLt
    rw [tr1]
    match a with
    | 0 => show (min ((i 1).val % 16) (i 0).val + 1) * 512 ≤ 8192; omega
    | 1 => show (5 + 1) * 768 ≤ 6144; omega
  · rw [tr2]
    match a with
    | 0 => show (min ((i 1).val % 16) (i 0).val + 1) * 512 ≤ 8192; omega
    | 1 => show (6 + 1) * 768 ≤ 6144; omega
  · rw [tr3]
    match a with
    | 0 => show (0 + 1) * 8 ≤ 8; omega
    | 1 => show (min ((i 1).val % 16) (i 0).val + 1) * 512 ≤ 8192; omega

theorem word_eq (i : grid0.Coords) (h : ∀ a, (k0_off1 i) a + S1.size a ≤ S32.size a) (h' : 0 < (Rect.unit (s := S32) (k0_off1 i) S1.size h).toLoadRect.shape.numel) :
    tbM0_0.view.readAt (Elt F) (Rect.unit (s := S32) (k0_off1 i) S1.size h).toLoadRect (tbl m 0) (Shape.Idx.first h') = 0#32 :=
  word_at m i h numel1_S1

theorem reach1 (i : grid0.Coords) (h : ∀ a, (k0_off1 i) a + S1.size a ≤ S32.size a) (h' : 0 < (Rect.unit (s := S32) (k0_off1 i) S1.size h).toLoadRect.shape.numel) :
    cond0_1 i (tbM0_0.view.readAt (Elt F) (Rect.unit (s := S32) (k0_off1 i) S1.size h).toLoadRect (tbl m 0) (Shape.Idx.first h')) ↔ (i 1).val < 16 ∧ (i 1).val ≤ (i 0).val := by
  rw [word_eq]
  have key : ∀ (a : Fin 16) (b : Fin 32), (Scalar.cmpi .ne (Scalar.extui (Scalar.andi (Scalar.cmpi .sle (Scalar.addi 0#32 (mw (BitVec.ofNat 32 b.val))) (BitVec.ofNat 32 a.val)) (Scalar.cmpi .slt (BitVec.ofNat 32 b.val) 16#32)) : BitVec 32) 0#32) = 1#1 ↔ b.val < 16 ∧ b.val ≤ a.val := by
    decide +kernel
  exact key ⟨(i 0).val, (i 0).isLt⟩ ⟨(i 1).val, (i 1).isLt⟩

theorem reach2 (i : grid0.Coords) (h : ∀ a, (k0_off1 i) a + S1.size a ≤ S32.size a) (h' : 0 < (Rect.unit (s := S32) (k0_off1 i) S1.size h).toLoadRect.shape.numel) :
    cond0_2 i (tbM0_0.view.readAt (Elt F) (Rect.unit (s := S32) (k0_off1 i) S1.size h).toLoadRect (tbl m 0) (Shape.Idx.first h')) ↔ 16 ≤ (i 1).val ∧ (i 1).val - 16 ≤ (i 0).val := by
  rw [word_eq]
  have key : ∀ (a : Fin 16) (b : Fin 32), (Scalar.cmpi .ne (Scalar.extui (Scalar.andi (Scalar.cmpi .sle (Scalar.addi 0#32 (mw (BitVec.ofNat 32 b.val))) (BitVec.ofNat 32 a.val)) (Scalar.cmpi .sge (BitVec.ofNat 32 b.val) 16#32)) : BitVec 32) 0#32) = 1#1 ↔ 16 ≤ b.val ∧ b.val - 16 ≤ a.val := by
    decide +kernel
  exact key ⟨(i 0).val, (i 0).isLt⟩ ⟨(i 1).val, (i 1).isLt⟩

end Cert.DqV

end
-- ==== Proof.Dq.Host.lean ====
module

public import proofs.«01_k».proof.Proof.Dq.FrameIdeal
public import proofs.«01_k».proof.Proof.Fox.Host

@[expose] public section

set_option maxRecDepth 16384

noncomputable section

namespace Cert.DqV

open Cert.FoxV Cert.Kernel28Ideal Cert.Kernel28Ideal.Gen Idealize.ShloMosaic Idealize.ShloMosaic.TcCoe Idealize.SL.Sem

variable {F : FTy → Type} [FloatOps F] [Named F]
variable (m : (ℓ : Loc nD τ sig) → Buf (Elt F) ℓ)

set_option maxHeartbeats 8000000

/-! What the host computes before the call. -/

variable (c : Dev nD)

theorem V38 : V m c main_v38 = hB (hL (F := F) (m ((c : Thread nD τ).loc main_arg0)) (m ((c : Thread nD τ).loc main_arg1))) := by
  simp only [V, List.flatten, List.append_eq, List.nil_append, List.cons_append, List.append_nil, StableHlo.TRef.nullary, StableHlo.TRef.ternary, StableHlo.TRef.unary, StableHlo.TRef.toBuf, StableHlo.TRef.ofBuf, cast_eq]
  after_results_simp
  unfold hB hL hE
  rfl

theorem V36 : V m c main_v36 = hB (F := F) (m ((c : Thread nD τ).loc main_arg1)) := by
  simp only [V, List.flatten, List.append_eq, List.nil_append, List.cons_append, List.append_nil, StableHlo.TRef.nullary, StableHlo.TRef.ternary, StableHlo.TRef.unary, StableHlo.TRef.toBuf, StableHlo.TRef.ofBuf, cast_eq]
  after_results_simp
  unfold hB
  rfl

theorem V34 : V m c main_v34 = hC (F := F) (m ((c : Thread nD τ).loc main_arg1)) := by
  simp only [V, List.flatten, List.append_eq, List.nil_append, List.cons_append, List.append_nil, StableHlo.TRef.nullary, StableHlo.TRef.ternary, StableHlo.TRef.unary, StableHlo.TRef.toBuf, StableHlo.TRef.ofBuf, cast_eq]
  after_results_simp
  unfold hC
  rfl

end Cert.DqV

end
-- ==== Proof.Dq.Index.lean ====
module

public import proofs.«01_k».proof.Proof.Dq.Base
public import proofs.«01_k».proof.Proof.Dq.Table
public import proofs.«01_k».proof.Proof.Dq.Host
public import proofs.«01_k».proof.Proof.Fox.Terms

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

/-! ## The steps and the fetched blocks, of the arguments -/

theorem t_lt (t : Fin (cfgM m hO).N) : t.val < 512 := Nat.lt_of_lt_of_eq t.isLt N_0
theorem co0 (t : Fin (cfgM m hO).N) : (grid0.coords t 0).val = t.val / 32 := by
  have e : (grid0.coords t 0).val = t.val / 32 % 16 := Pipeline.Grid.coords_val (G := grid0) t 0 (by decide) rfl
  have := t_lt m hO t
  omega
theorem co1 (t : Fin (cfgM m hO).N) : (grid0.coords t 1).val = t.val % 32 := by
  have e : (grid0.coords t 1).val = t.val / 1 % 32 := Pipeline.Grid.coords_val (G := grid0) t 1 (by decide) rfl
  omega
theorem one_iff (t : Fin (cfgM m hO).N) : One m hO t ↔ t.val % 32 < 16 ∧ t.val % 32 ≤ t.val / 32 := by
  have h := reach1 m (grid0.coords t) (k0_off1_inb _) (numel1_S1.symm ▸ Nat.one_pos)
  rwa [co0 m hO t, co1 m hO t] at h
theorem two_iff (t : Fin (cfgM m hO).N) : Two m hO t ↔ 16 ≤ t.val % 32 ∧ t.val % 32 - 16 ≤ t.val / 32 := by
  have h := reach2 m (grid0.coords t) (k0_off1_inb _) (numel1_S1.symm ▸ Nat.one_pos)
  rwa [co0 m hO t, co1 m hO t] at h

/-- The arguments, and the rows' log-sums that the host computes of them. -/
abbrev X0 : Vec Ideal S8192x6144 .f32 := m ((c : Thread nD τ).loc main_arg0)
abbrev X1 : Vec Ideal S6x8192 .f32 := m ((c : Thread nD τ).loc main_arg1)
abbrev X2 : Vec Ideal S8192x768 .f32 := m ((c : Thread nD τ).loc main_arg2)
abbrev XL : Vec Ideal S6x8192 .f32 := hL (F := Ideal) (X0 m c) (X1 m c)

/-- The query block and the key block of a step. -/
abbrev qi (t : Fin (cfgM m hO).N) : ℕ := t.val / 32
abbrev kj (t : Fin (cfgM m hO).N) : ℕ := t.val % 32 % 16

theorem qi_le (t : Fin (cfgM m hO).N) : qi m hO t ≤ 15 := by
  have := t_lt m hO t
  show t.val / 32 ≤ 15
  omega
theorem kj_le (t : Fin (cfgM m hO).N) : kj m hO t ≤ 15 := by
  show t.val % 32 % 16 ≤ 15
  omega

theorem tix0 (t : Fin (cfgM m hO).N) : ((cfgM m hO).win 0).index t = ![(BitVec.ofNat 32 (grid0.coords t 0).val).toNat, 4] := rfl
theorem wix0 (t : Fin (cfgM m hO).N) : ((cfgM m hO).win 0).index t = ![qi m hO t, 4] := by
  rw [tix0, co0 m hO t, BitVec.toNat_ofNat, Nat.mod_eq_of_lt (by have := t_lt m hO t; omega)]

theorem tix4 (t : Fin (cfgM m hO).N) : ((cfgM m hO).win 4).index t = ![0, (BitVec.ofNat 32 (grid0.coords t 0).val).toNat, 0] := rfl
theorem wix4 (t : Fin (cfgM m hO).N) : ((cfgM m hO).win 4).index t = ![0, qi m hO t, 0] := by
  rw [tix4, co0 m hO t, BitVec.toNat_ofNat, Nat.mod_eq_of_lt (by have := t_lt m hO t; omega)]

theorem tix5 (t : Fin (cfgM m hO).N) : ((cfgM m hO).win 5).index t = ![0, (BitVec.ofNat 32 (grid0.coords t 0).val).toNat, 0] := rfl
theorem wix5 (t : Fin (cfgM m hO).N) : ((cfgM m hO).win 5).index t = ![0, qi m hO t, 0] := by
  rw [tix5, co0 m hO t, BitVec.toNat_ofNat, Nat.mod_eq_of_lt (by have := t_lt m hO t; omega)]

theorem tix6 (t : Fin (cfgM m hO).N) : ((cfgM m hO).win 6).index t = ![(BitVec.ofNat 32 (grid0.coords t 0).val).toNat, 0] := rfl
theorem wix6 (t : Fin (cfgM m hO).N) : ((cfgM m hO).win 6).index t = ![qi m hO t, 0] := by
  rw [tix6, co0 m hO t, BitVec.toNat_ofNat, Nat.mod_eq_of_lt (by have := t_lt m hO t; omega)]

theorem tix7 (t : Fin (cfgM m hO).N) : ((cfgM m hO).win 7).index t = ![(BitVec.ofNat 32 (grid0.coords t 0).val).toNat, 0] := rfl
theorem wix7 (t : Fin (cfgM m hO).N) : ((cfgM m hO).win 7).index t = ![qi m hO t, 0] := by
  rw [tix7, co0 m hO t, BitVec.toNat_ofNat, Nat.mod_eq_of_lt (by have := t_lt m hO t; omega)]

theorem tix8 (t : Fin (cfgM m hO).N) : ((cfgM m hO).win 8).index t = ![0, (BitVec.ofNat 32 (grid0.coords t 0).val).toNat, 0] := rfl
theorem wix8 (t : Fin (cfgM m hO).N) : ((cfgM m hO).win 8).index t = ![0, qi m hO t, 0] := by
  rw [tix8, co0 m hO t, BitVec.toNat_ofNat, Nat.mod_eq_of_lt (by have := t_lt m hO t; omega)]

theorem tix1 (t : Fin (cfgM m hO).N) : ((cfgM m hO).win 1).index t = cc0_transform_1 k0_off1_inb numel1_S1 (tbl m) (grid0.coords t) := rfl
theorem wix1 (t : Fin (cfgM m hO).N) (hk : kj m hO t ≤ qi m hO t) : ((cfgM m hO).win 1).index t = ![kj m hO t, 5] := by
  rw [tix1, tr1, co0 m hO t, co1 m hO t, Nat.min_eq_left hk]

theorem tix2 (t : Fin (cfgM m hO).N) : ((cfgM m hO).win 2).index t = cc0_transform_2 k0_off1_inb numel1_S1 (tbl m) (grid0.coords t) := rfl
theorem wix2 (t : Fin (cfgM m hO).N) (hk : kj m hO t ≤ qi m hO t) : ((cfgM m hO).win 2).index t = ![kj m hO t, 6] := by
  rw [tix2, tr2, co0 m hO t, co1 m hO t, Nat.min_eq_left hk]

theorem tix3 (t : Fin (cfgM m hO).N) : ((cfgM m hO).win 3).index t = cc0_transform_3 k0_off1_inb numel1_S1 (tbl m) (grid0.coords t) := rfl
theorem wix3 (t : Fin (cfgM m hO).N) (hk : kj m hO t ≤ qi m hO t) : ((cfgM m hO).win 3).index t = ![0, kj m hO t] := by
  rw [tix3, tr3, co0 m hO t, co1 m hO t, Nat.min_eq_left hk]

theorem add_word (a b : Fin 16) : Scalar.addi (BitVec.ofNat 32 a.val) (BitVec.ofNat 32 b.val) = BitVec.ofNat 32 (a.val + b.val) := by
  revert a b
  decide +kernel

theorem wj_eq (t : Fin (cfgM m hO).N) : wj m hO t = BitVec.ofNat 32 (kj m hO t) := by
  have z : word (grid0.coords t) (tbl m 0) = 0#32 := word_eq m (grid0.coords t) (k0_off1_inb _) (numel1_S1.symm ▸ Nat.one_pos)
  have e : mw (BitVec.ofNat 32 (grid0.coords t 1).val) = BitVec.ofNat 32 (kj m hO t) := by
    rw [co1 m hO t]
    exact mw_eq ⟨t.val % 32, Nat.mod_lt _ (by decide)⟩
  have f : wj m hO t = Scalar.addi (word (grid0.coords t) (tbl m 0)) (mw (BitVec.ofNat 32 (grid0.coords t 1).val)) := rfl
  exact f.trans ((congrArg₂ Scalar.addi z e).trans ((add_word 0 ⟨kj m hO t, Nat.mod_lt _ (by decide)⟩).trans (congrArg (BitVec.ofNat 32) (Nat.zero_add _))))

theorem sees_rows (t : Fin (cfgM m hO).N) (hk : kj m hO t ≤ qi m hO t) (r s : Fin 512) :
    sees (wj m hO t) (wi m hO t) r s = 1 ↔ (rowOf (kj m hO t) s).val ≤ (rowOf (qi m hO t) r).val := by
  have hq := qi_le m hO t
  have e := sees_iff ⟨kj m hO t, Nat.mod_lt _ (by decide)⟩ ⟨qi m hO t - kj m hO t, by omega⟩ r s
  rw [add_word] at e
  have e2 : kj m hO t + (qi m hO t - kj m hO t) = qi m hO t := by omega
  simp only [e2] at e
  rw [rowOf_val _ (kj_le m hO t), rowOf_val _ hq, wj_eq]
  unfold wi
  rw [co0 m hO t]
  exact e

end Cert.DqV

end
-- ==== Proof.Dq.Blocks.lean ====
module

public import proofs.«01_k».proof.Proof.Dq.Index

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

theorem blk0 (t : Fin (cfgM m hO).N) (r : Fin 512) (d : Fin 768) :
    B0 m hO c t (ix2 r d) = X0 m c (ix2 (rowOf (qi m hO t) r) ⟨3072 + d.val, by omega⟩) := by
  unfold B0
  blk_simp [iblk]
  show (V m c main_arg0 : Vec Ideal S8192x6144 .f32) _ = _
  rw [V_main_arg0]
  refine congrArg _ (idx_ext2 ?_ ?_)
  · blk_simp [wix0 m hO t]
    rw [rowOf_val _ (qi_le m hO t)]
    omega
  · blk_simp [wix0 m hO t]

theorem blk1 (t : Fin (cfgM m hO).N) (hk : kj m hO t ≤ qi m hO t) (r : Fin 512) (d : Fin 768) :
    B1 m hO c t (ix2 r d) = X0 m c (ix2 (rowOf (kj m hO t) r) ⟨3840 + d.val, by omega⟩) := by
  unfold B1
  blk_simp [iblk]
  show (V m c main_arg0 : Vec Ideal S8192x6144 .f32) _ = _
  rw [V_main_arg0]
  refine congrArg _ (idx_ext2 ?_ ?_)
  · blk_simp [wix1 m hO t hk]
    rw [rowOf_val _ (kj_le m hO t)]
    omega
  · blk_simp [wix1 m hO t hk]

theorem blk2 (t : Fin (cfgM m hO).N) (hk : kj m hO t ≤ qi m hO t) (r : Fin 512) (d : Fin 768) :
    B2 m hO c t (ix2 r d) = X0 m c (ix2 (rowOf (kj m hO t) r) ⟨4608 + d.val, by omega⟩) := by
  unfold B2
  blk_simp [iblk]
  show (V m c main_arg0 : Vec Ideal S8192x6144 .f32) _ = _
  rw [V_main_arg0]
  refine congrArg _ (idx_ext2 ?_ ?_)
  · blk_simp [wix2 m hO t hk]
    rw [rowOf_val _ (kj_le m hO t)]
    omega
  · blk_simp [wix2 m hO t hk]

theorem blk6 (t : Fin (cfgM m hO).N) (r : Fin 512) (d : Fin 768) :
    B6 m hO c t (ix2 r d) = X2 m c (ix2 (rowOf (qi m hO t) r) d) := by
  unfold B6
  blk_simp [iblk]
  show (V m c main_arg2 : Vec Ideal S8192x768 .f32) _ = _
  rw [V_main_arg2]
  refine congrArg _ (idx_ext2 ?_ ?_)
  · blk_simp [wix6 m hO t]
    rw [rowOf_val _ (qi_le m hO t)]
    omega
  · blk_simp [wix6 m hO t]

theorem blk3 (t : Fin (cfgM m hO).N) (hk : kj m hO t ≤ qi m hO t) (h : Fin 6) (s : Fin 512) :
    B3 m hO c t (ix2 (up h) s) = X1 m c (ix2 h (rowOf (kj m hO t) s)) := by
  unfold B3
  blk_simp [iblk]
  show (V m c main_v34 : Vec Ideal S8x8192 .f32) _ = _
  rw [V34]
  refine Eq.trans (congrArg _ (idx_ext2 (i := up h) (j := rowOf (kj m hO t) s) ?_ ?_)) (hC_at _ _ _)
  · blk_simp [wix3 m hO t hk]
  · blk_simp [wix3 m hO t hk]
    rw [rowOf_val _ (kj_le m hO t)]
    omega

theorem em4 (t : Fin (cfgM m hO).N) (h : Fin 6) (r : Fin 512) (l : Fin 128) :
    ((((cfgM m hO).win 4).blk t).view.emb (ix3 h r l) : S6x8192x128.Idx) = ix3 h (rowOf (qi m hO t) r) l := by
  refine idx_ext3 ?_ ?_ ?_
  · blk_simp [wix4 m hO t]
  · blk_simp [wix4 m hO t]
    rw [rowOf_val _ (qi_le m hO t)]
    omega
  · blk_simp [wix4 m hO t]

theorem rd4 (t : Fin (cfgM m hO).N) (A : Vec Ideal S6x8192x128 .f32) (y : S6x512x128.Idx) :
    ((((cfgM m hO).win 4).blk t).view.read (Elt Ideal) A : Vec Ideal S6x512x128 .f32) y = A ((((cfgM m hO).win 4).blk t).view.emb y) := rfl

theorem wv4 (t : Fin (cfgM m hO).N) (W : (b : Ref sig .tc) → Buf (Elt Ideal) ((c : Thread nD τ).loc b)) :
    ((((cfgM m hO).win 4).blk t).view.read (Elt Ideal) (W (Pipeline.arrRef spec0 4)) : Vec Ideal S6x512x128 .f32) = (((cfgM m hO).win 4).blk t).view.read (Elt Ideal) (W main_v36) := rfl

theorem bv4 (t : Fin (cfgM m hO).N) : B4 m hO c t = (((cfgM m hO).win 4).blk t).view.read (Elt Ideal) (V m c main_v36) := by
  unfold B4 iblk
  exact wv4 m hO c t (V m c)

theorem at4 (t : Fin (cfgM m hO).N) (h : Fin 6) (r : Fin 512) (l : Fin 128) (A : Vec Ideal S6x8192x128 .f32) (L : Vec Ideal S6x8192 .f32)
    (hW : A = hB L) : ((((cfgM m hO).win 4).blk t).view.read (Elt Ideal) A : Vec Ideal S6x512x128 .f32) (ix3 h r l) = L (ix2 h (rowOf (qi m hO t) r)) := by
  refine (rd4 m hO t A _).trans ?_
  subst hW
  exact (congrArg (hB L) (em4 m hO t h r l)).trans (hB_at L h (rowOf (qi m hO t) r) l)

theorem blk4 (t : Fin (cfgM m hO).N) (h : Fin 6) (r : Fin 512) (l : Fin 128) :
    B4 m hO c t (ix3 h r l) = X1 m c (ix2 h (rowOf (qi m hO t) r)) :=
  (congrFun (bv4 m hO c t) (ix3 h r l)).trans (at4 m hO t h r l _ _ (V36 m c))

theorem em5 (t : Fin (cfgM m hO).N) (h : Fin 6) (r : Fin 512) (l : Fin 128) :
    ((((cfgM m hO).win 5).blk t).view.emb (ix3 h r l) : S6x8192x128.Idx) = ix3 h (rowOf (qi m hO t) r) l := by
  refine idx_ext3 ?_ ?_ ?_
  · blk_simp [wix5 m hO t]
  · blk_simp [wix5 m hO t]
    rw [rowOf_val _ (qi_le m hO t)]
    omega
  · blk_simp [wix5 m hO t]

theorem rd5 (t : Fin (cfgM m hO).N) (A : Vec Ideal S6x8192x128 .f32) (y : S6x512x128.Idx) :
    ((((cfgM m hO).win 5).blk t).view.read (Elt Ideal) A : Vec Ideal S6x512x128 .f32) y = A ((((cfgM m hO).win 5).blk t).view.emb y) := rfl

theorem wv5 (t : Fin (cfgM m hO).N) (W : (b : Ref sig .tc) → Buf (Elt Ideal) ((c : Thread nD τ).loc b)) :
    ((((cfgM m hO).win 5).blk t).view.read (Elt Ideal) (W (Pipeline.arrRef spec0 5)) : Vec Ideal S6x512x128 .f32) = (((cfgM m hO).win 5).blk t).view.read (Elt Ideal) (W main_v38) := rfl

theorem bv5 (t : Fin (cfgM m hO).N) : B5 m hO c t = (((cfgM m hO).win 5).blk t).view.read (Elt Ideal) (V m c main_v38) := by
  unfold B5 iblk
  exact wv5 m hO c t (V m c)

theorem at5 (t : Fin (cfgM m hO).N) (h : Fin 6) (r : Fin 512) (l : Fin 128) (A : Vec Ideal S6x8192x128 .f32) (L : Vec Ideal S6x8192 .f32)
    (hW : A = hB L) : ((((cfgM m hO).win 5).blk t).view.read (Elt Ideal) A : Vec Ideal S6x512x128 .f32) (ix3 h r l) = L (ix2 h (rowOf (qi m hO t) r)) := by
  refine (rd5 m hO t A _).trans ?_
  subst hW
  exact (congrArg (hB L) (em5 m hO t h r l)).trans (hB_at L h (rowOf (qi m hO t) r) l)

theorem blk5 (t : Fin (cfgM m hO).N) (h : Fin 6) (r : Fin 512) (l : Fin 128) :
    B5 m hO c t (ix3 h r l) = XL m c (ix2 h (rowOf (qi m hO t) r)) :=
  (congrFun (bv5 m hO c t) (ix3 h r l)).trans (at5 m hO t h r l _ _ (V38 m c))

end Cert.DqV

end
-- ==== Proof.Dq.Terms.lean ====
module

public import proofs.«01_k».proof.Proof.Dq.Blocks

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

/-! ## What a block of keys gives a query -/

section Rows

variable (x0 : Vec Ideal S8192x6144 .f32) (x1 : Vec Ideal S6x8192 .f32) (x2 : Vec Ideal S8192x768 .f32) (L : Vec Ideal S6x8192 .f32)

def uD (h : Fin 6) (p : Fin 8192) (b : ℕ) : EReal := ∑ s : Fin 512, wt x0 x1 L h p (rowOf b s) * dwt x0 x2 h p (rowOf b s)
def uS (h : Fin 6) (p : Fin 8192) (b : ℕ) : EReal := ∑ s : Fin 512, wt x0 x1 L h p (rowOf b s)
/-- The row's correction. -/
def uC (h : Fin 6) (p : Fin 8192) : EReal := Ideal.div (∑ b ∈ Finset.range 16, uD x0 x1 x2 L h p b) (∑ b ∈ Finset.range 16, uS x0 x1 L h p b)
def uQ (d : Fin 768) (p : Fin 8192) (b : ℕ) : EReal :=
  (∑ s : Fin 512, wt x0 x1 L (hd d) p (rowOf b s) * (dwt x0 x2 (hd d) p (rowOf b s) - uC x0 x1 x2 L (hd d) p) * x0 (ix2 (rowOf b s) (ck d))) * cs

theorem wt_beyond (h : Fin 6) (i b : ℕ) (hb : b ≤ 15) (hi : i < b) (r s : Fin 512) : wt x0 x1 L h (rowOf i r) (rowOf b s) = 0 :=
  wt_late x0 x1 L _ _ _ (row_late i b hb hi r s)

theorem uD_beyond (h : Fin 6) (i b : ℕ) (hb : b ≤ 15) (hi : i < b) (r : Fin 512) : uD x0 x1 x2 L h (rowOf i r) b = 0 :=
  Finset.sum_eq_zero fun s _ => by rw [wt_beyond x0 x1 L h i b hb hi r s, zero_mul]
theorem uS_beyond (h : Fin 6) (i b : ℕ) (hb : b ≤ 15) (hi : i < b) (r : Fin 512) : uS x0 x1 L h (rowOf i r) b = 0 :=
  Finset.sum_eq_zero fun s _ => wt_beyond x0 x1 L h i b hb hi r s
theorem uQ_beyond (d : Fin 768) (i b : ℕ) (hb : b ≤ 15) (hi : i < b) (r : Fin 512) : uQ x0 x1 x2 L d (rowOf i r) b = 0 := by
  unfold uQ
  rw [Finset.sum_eq_zero fun s _ => by rw [wt_beyond x0 x1 L _ i b hb hi r s, zero_mul, zero_mul], zero_mul]

end Rows

theorem tP_eq (t : Fin (cfgM m hO).N) (hk : kj m hO t ≤ qi m hO t) (h : Fin 6) (r s : Fin 512) :
    bP (wj m hO t) (wi m hO t) (B0 m hO c t) (B1 m hO c t) (B3 m hO c t) (B4 m hO c t) (B5 m hO c t) h r s
      = wt (X0 m c) (X1 m c) (XL m c) h (rowOf (qi m hO t) r) (rowOf (kj m hO t) s) :=
  bP_of _ _ _ _ _ _ _ _ _ _ h r s _ _ (fun d => blk0 m hO c t r d) (fun d => blk1 m hO c t hk s d) (blk3 m hO c t hk h s) (blk4 m hO c t h r 0) (blk5 m hO c t h r 0)
    (sees_rows m hO t hk r s)

theorem tG_eq (t : Fin (cfgM m hO).N) (hk : kj m hO t ≤ qi m hO t) (h : Fin 6) (r s : Fin 512) :
    bG (B2 m hO c t) (B6 m hO c t) h r s = dwt (X0 m c) (X2 m c) h (rowOf (qi m hO t) r) (rowOf (kj m hO t) s) := by
  unfold bG tG dwt
  exact Finset.sum_congr rfl fun x _ => congrArg₂ (· * ·) (blk6 m hO c t r (colOf h x)) (blk2 m hO c t hk s (colOf h x))

theorem oD_eq (t : Fin (cfgM m hO).N) (hk : kj m hO t ≤ qi m hO t) (o : Vec Ideal S6x512x1 .f32) (y : S6x512x1.Idx) :
    oD m hO c t o y = o y + uD (X0 m c) (X1 m c) (X2 m c) (XL m c) (y 0) (rowOf (qi m hO t) (y 1)) (kj m hO t) :=
  congrArg (o y + ·) (Finset.sum_congr rfl fun s _ => congrArg₂ (· * ·) (tP_eq m hO c t hk (y 0) (y 1) s) (tG_eq m hO c t hk (y 0) (y 1) s))

theorem oS_eq (t : Fin (cfgM m hO).N) (hk : kj m hO t ≤ qi m hO t) (o : Vec Ideal S6x512x1 .f32) (y : S6x512x1.Idx) :
    oS m hO c t o y = o y + uS (X0 m c) (X1 m c) (XL m c) (y 0) (rowOf (qi m hO t) (y 1)) (kj m hO t) :=
  congrArg (o y + ·) (Finset.sum_congr rfl fun s _ => tP_eq m hO c t hk (y 0) (y 1) s)

theorem oQ_eq (t : Fin (cfgM m hO).N) (hk : kj m hO t ≤ qi m hO t) (u w : Vec Ideal S6x512x1 .f32) (o : Vec Ideal S512x768 .f32) (y : S512x768.Idx)
    (hu : Ideal.div (u (ix3 (hd (y 1)) (y 0) 0)) (w (ix3 (hd (y 1)) (y 0) 0)) = uC (X0 m c) (X1 m c) (X2 m c) (XL m c) (hd (y 1)) (rowOf (qi m hO t) (y 0))) :
    oQ m hO c t u w o y = o y + uQ (X0 m c) (X1 m c) (X2 m c) (XL m c) (y 1) (rowOf (qi m hO t) (y 0)) (kj m hO t) := by
  refine congrArg (o y + ·) (congrArg (· * cs) (Finset.sum_congr rfl fun s _ => ?_))
  rw [hu]
  exact congrArg₂ (· * ·) (congrArg₂ (· * ·) (tP_eq m hO c t hk (hd (y 1)) (y 0) s) (congrArg (· - _) (tG_eq m hO c t hk (hd (y 1)) (y 0) s))) (blk1 m hO c t hk s (y 1))

end Cert.DqV

end
-- ==== Proof.Dq.CaseF1.lean ====
module

public import proofs.«01_k».proof.Proof.Dq.Base
public import Idealize.ShloMosaic.Lib.Pipeline.ReadBack
public import Idealize.ShloMosaic.Lib.Pipeline.ValueKit

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

theorem F_s1 {sg : RefSig} {κ : Kind} {sp : Space} (v : View sg κ sp S6x512x1 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S6x512x128 .f32) (harg11 : arg11.IsWhole) (arg12 : Memref sig .tc .vmem S512x768 .f32) (harg12 : arg12.IsWhole) (arg13 : Memref sig .tc .vmem S6x512x1 .f32) (harg13 : arg13.IsWhole) (arg14 : Memref sig .tc .vmem S6x512x1 .f32) (harg14 : arg14.IsWhole) (hc0 : ¬cond0_0 i) (hc3 : ¬cond0_3 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S512x768 .f32) (xt0 : TbBuf0 (F := Ideal) c tbM0_0) (xs0 : Vec Ideal S512x768 .f32) (xs1 : Vec Ideal S6x512x1 .f32) (xs2 : Vec Ideal S6x512x1 .f32) (hc1 : cond0_1 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_F c i arg3 harg3 arg4 harg4 arg5 harg5 arg6 harg6 arg7 harg7 arg8 harg8 arg9 harg9 arg10 harg10 arg11 harg11 arg12 harg12 arg13 harg13 arg14 harg14 hc0 hc3 x0 x1 x2 x3 x4 x5 x6 xt0 xs0 xs1 xs2 hc1 hc2).2.2.2.1) = gD (Scalar.addi (word i xt0) (md (BitVec.ofNat 32 ↑(i 1)))) (BitVec.ofNat 32 ↑(i 0)) x0 x1 x2 x6 x3 x4 x5 xs1 := by
  unfold kernelRun0_F
  frame_out
  simp only [lde0, lde1, lde2, lde3, lde4, lde5, ldq0, ldq1, ldq2, ldq3, ldq4, ldq5, ldt0, ldt1, ldt2, ldt3, ldt4, ldt5, ldr0, ldr1, ldr2, ldr3, ldr4, ldr5]
  refine heads6 _ _ _ _ _ _ _ _ _ _ _ _ _ _ _ _ ?_ ?_ ?_ ?_ ?_ ?_
  · intro r d; obtain rfl : d = 0 := Subsingleton.elim _ _; refine (qd0 ..).trans ?_; rfl
  · intro r d; obtain rfl : d = 0 := Subsingleton.elim _ _; refine (qd1 ..).trans ?_; rfl
  · intro r d; obtain rfl : d = 0 := Subsingleton.elim _ _; refine (qd2 ..).trans ?_; rfl
  · intro r d; obtain rfl : d = 0 := Subsingleton.elim _ _; refine (qd3 ..).trans ?_; rfl
  · intro r d; obtain rfl : d = 0 := Subsingleton.elim _ _; refine (qd4 ..).trans ?_; rfl
  · intro r d; obtain rfl : d = 0 := Subsingleton.elim _ _; refine (qd5 ..).trans ?_; rfl

theorem stF_s1 (t : Fin (cfgM m hO).N) (h0 : ¬cond0_0 (grid0.coords t)) (h3 : ¬cond0_3 (grid0.coords t)) (h1 : One m hO t) (h2 : ¬Two m hO t) (p : St Ideal) :
    (stF m hO c t h0 h3 h1 h2 p).2.2.2.1 = oD m hO c t p.2.2.2.1 :=
  F_s1 VS0_1 VS0_1.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) p.2.2.1 p.2.2.2.1 p.2.2.2.2 h1 h2
end Cert.DqV

end
-- ==== Proof.Dq.CaseF2.lean ====
module

public import proofs.«01_k».proof.Proof.Dq.Base
public import Idealize.ShloMosaic.Lib.Pipeline.ReadBack
public import Idealize.ShloMosaic.Lib.Pipeline.ValueKit

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

theorem F_s2 {sg : RefSig} {κ : Kind} {sp : Space} (v : View sg κ sp S6x512x1 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S6x512x128 .f32) (harg11 : arg11.IsWhole) (arg12 : Memref sig .tc .vmem S512x768 .f32) (harg12 : arg12.IsWhole) (arg13 : Memref sig .tc .vmem S6x512x1 .f32) (harg13 : arg13.IsWhole) (arg14 : Memref sig .tc .vmem S6x512x1 .f32) (harg14 : arg14.IsWhole) (hc0 : ¬cond0_0 i) (hc3 : ¬cond0_3 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S512x768 .f32) (xt0 : TbBuf0 (F := Ideal) c tbM0_0) (xs0 : Vec Ideal S512x768 .f32) (xs1 : Vec Ideal S6x512x1 .f32) (xs2 : Vec Ideal S6x512x1 .f32) (hc1 : cond0_1 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_F c i arg3 harg3 arg4 harg4 arg5 harg5 arg6 harg6 arg7 harg7 arg8 harg8 arg9 harg9 arg10 harg10 arg11 harg11 arg12 harg12 arg13 harg13 arg14 harg14 hc0 hc3 x0 x1 x2 x3 x4 x5 x6 xt0 xs0 xs1 xs2 hc1 hc2).2.2.2.2.1) = gS (Scalar.addi (word i xt0) (md (BitVec.ofNat 32 ↑(i 1)))) (BitVec.ofNat 32 ↑(i 0)) x0 x1 x3 x4 x5 xs2 := by
  unfold kernelRun0_F
  frame_out
  simp only [lde0, lde1, lde2, lde3, lde4, lde5, ldq0, ldq1, ldq2, ldq3, ldq4, ldq5, ldt0, ldt1, ldt2, ldt3, ldt4, ldt5, ldr0, ldr1, ldr2, ldr3, ldr4, ldr5]
  refine heads6 _ _ _ _ _ _ _ _ _ _ _ _ _ _ _ _ ?_ ?_ ?_ ?_ ?_ ?_
  · intro r d; obtain rfl : d = 0 := Subsingleton.elim _ _; refine (qs0 ..).trans ?_; rfl
  · intro r d; obtain rfl : d = 0 := Subsingleton.elim _ _; refine (qs1 ..).trans ?_; rfl
  · intro r d; obtain rfl : d = 0 := Subsingleton.elim _ _; refine (qs2 ..).trans ?_; rfl
  · intro r d; obtain rfl : d = 0 := Subsingleton.elim _ _; refine (qs3 ..).trans ?_; rfl
  · intro r d; obtain rfl : d = 0 := Subsingleton.elim _ _; refine (qs4 ..).trans ?_; rfl
  · intro r d; obtain rfl : d = 0 := Subsingleton.elim _ _; refine (qs5 ..).trans ?_; rfl

theorem stF_s2 (t : Fin (cfgM m hO).N) (h0 : ¬cond0_0 (grid0.coords t)) (h3 : ¬cond0_3 (grid0.coords t)) (h1 : One m hO t) (h2 : ¬Two m hO t) (p : St Ideal) :
    (stF m hO c t h0 h3 h1 h2 p).2.2.2.2 = oS m hO c t p.2.2.2.2 :=
  F_s2 VS0_2 VS0_2.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) p.2.2.1 p.2.2.2.1 p.2.2.2.2 h1 h2
end Cert.DqV

end
-- ==== Proof.Dq.CaseG.lean ====
module

public import proofs.«01_k».proof.Proof.Dq.Base
public import Idealize.ShloMosaic.Lib.Pipeline.ReadBack
public import Idealize.ShloMosaic.Lib.Pipeline.ValueKit

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

theorem G_s0 {sg : RefSig} {κ : Kind} {sp : Space} (v : View sg κ sp S512x768 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S6x512x128 .f32) (harg11 : arg11.IsWhole) (arg12 : Memref sig .tc .vmem S512x768 .f32) (harg12 : arg12.IsWhole) (arg13 : Memref sig .tc .vmem S6x512x1 .f32) (harg13 : arg13.IsWhole) (arg14 : Memref sig .tc .vmem S6x512x1 .f32) (harg14 : arg14.IsWhole) (hc0 : ¬cond0_0 i) (hc3 : ¬cond0_3 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S512x768 .f32) (xt0 : TbBuf0 (F := Ideal) c tbM0_0) (xs0 : Vec Ideal S512x768 .f32) (xs1 : Vec Ideal S6x512x1 .f32) (xs2 : Vec Ideal S6x512x1 .f32) (hc1 : ¬cond0_1 i (tbM0_0.view.readAt (Elt Ideal) (Rect.unit (s := S32) (k0_off1 i) S1.size (k0_off1_inb i)).toLoadRect xt0 (Shape.Idx.first (numel1_S1.symm ▸ Nat.one_pos)))) (hc2 : cond0_2 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_G c i arg3 harg3 arg4 harg4 arg5 harg5 arg6 harg6 arg7 harg7 arg8 harg8 arg9 harg9 arg10 harg10 arg11 harg11 arg12 harg12 arg13 harg13 arg14 harg14 hc0 hc3 x0 x1 x2 x3 x4 x5 x6 xt0 xs0 xs1 xs2 hc1 hc2).2.2.1) = gQ (Scalar.addi (word i xt0) (md (BitVec.ofNat 32 ↑(i 1)))) (BitVec.ofNat 32 ↑(i 0)) x0 x1 x2 x6 x3 x4 x5 xs1 xs2 xs0 := by
  unfold kernelRun0_G
  frame_out
  simp only [lde0, lde1, lde2, lde3, lde4, lde5, ldq0, ldq1, ldq2, ldq3, ldq4, ldq5, ldt0, ldt1, ldt2, ldt3, ldt4, ldt5, ldr0, ldr1, ldr2, ldr3, ldr4, ldr5]
  refine cols6 _ _ _ _ _ _ _ _ _ _ _ _ _ _ _ _ ?_ ?_ ?_ ?_ ?_ ?_
  · intro r d; refine (qa0 ..).trans ?_; simp only [gQ, bP, bG, ix2_0, ix2_1, hd_colOf]; rfl
  · intro r d; refine (qa1 ..).trans ?_; simp only [gQ, bP, bG, ix2_0, ix2_1, hd_colOf]; rfl
  · intro r d; refine (qa2 ..).trans ?_; simp only [gQ, bP, bG, ix2_0, ix2_1, hd_colOf]; rfl
  · intro r d; refine (qa3 ..).trans ?_; simp only [gQ, bP, bG, ix2_0, ix2_1, hd_colOf]; rfl
  · intro r d; refine (qa4 ..).trans ?_; simp only [gQ, bP, bG, ix2_0, ix2_1, hd_colOf]; rfl
  · intro r d; refine (qa5 ..).trans ?_; simp only [gQ, bP, bG, ix2_0, ix2_1, hd_colOf]; rfl

theorem stG_s0 (t : Fin (cfgM m hO).N) (h0 : ¬cond0_0 (grid0.coords t)) (h3 : ¬cond0_3 (grid0.coords t)) (h1 : ¬One m hO t) (h2 : Two m hO t) (p : St Ideal) :
    (stG m hO c t h0 h3 h1 h2 p).2.2.1 = oQ m hO c t p.2.2.2.1 p.2.2.2.2 p.2.2.1 :=
  G_s0 VS0_0 VS0_0.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) p.2.2.1 p.2.2.2.1 p.2.2.2.2 h1 h2
end Cert.DqV

end
-- ==== Proof.Dq.CaseK0.lean ====
module

public import proofs.«01_k».proof.Proof.Dq.Base
public import Idealize.ShloMosaic.Lib.Pipeline.ReadBack
public import Idealize.ShloMosaic.Lib.Pipeline.ValueKit

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

theorem K_s0 {sg : RefSig} {κ : Kind} {sp : Space} (v : View sg κ sp S512x768 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S6x512x128 .f32) (harg11 : arg11.IsWhole) (arg12 : Memref sig .tc .vmem S512x768 .f32) (harg12 : arg12.IsWhole) (arg13 : Memref sig .tc .vmem S6x512x1 .f32) (harg13 : arg13.IsWhole) (arg14 : Memref sig .tc .vmem S6x512x1 .f32) (harg14 : arg14.IsWhole) (hc0 : ¬cond0_0 i) (hc3 : cond0_3 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S512x768 .f32) (xt0 : TbBuf0 (F := Ideal) c tbM0_0) (xs0 : Vec Ideal S512x768 .f32) (xs1 : Vec Ideal S6x512x1 .f32) (xs2 : Vec Ideal S6x512x1 .f32) (hc1 : ¬cond0_1 i (tbM0_0.view.readAt (Elt Ideal) (Rect.unit (s := S32) (k0_off1 i) S1.size (k0_off1_inb i)).toLoadRect xt0 (Shape.Idx.first (numel1_S1.symm ▸ Nat.one_pos)))) (hc2 : cond0_2 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_K c i arg3 harg3 arg4 harg4 arg5 harg5 arg6 harg6 arg7 harg7 arg8 harg8 arg9 harg9 arg10 harg10 arg11 harg11 arg12 harg12 arg13 harg13 arg14 harg14 hc0 hc3 x0 x1 x2 x3 x4 x5 x6 xt0 xs0 xs1 xs2 hc1 hc2).2.2.1) = gQ (Scalar.addi (word i xt0) (md (BitVec.ofNat 32 ↑(i 1)))) (BitVec.ofNat 32 ↑(i 0)) x0 x1 x2 x6 x3 x4 x5 xs1 xs2 xs0 := by
  unfold kernelRun0_K
  frame_out
  simp only [lde0, lde1, lde2, lde3, lde4, lde5, ldq0, ldq1, ldq2, ldq3, ldq4, ldq5, ldt0, ldt1, ldt2, ldt3, ldt4, ldt5, ldr0, ldr1, ldr2, ldr3, ldr4, ldr5]
  refine cols6 _ _ _ _ _ _ _ _ _ _ _ _ _ _ _ _ ?_ ?_ ?_ ?_ ?_ ?_
  · intro r d; refine (qa0 ..).trans ?_; simp only [gQ, bP, bG, ix2_0, ix2_1, hd_colOf]; rfl
  · intro r d; refine (qa1 ..).trans ?_; simp only [gQ, bP, bG, ix2_0, ix2_1, hd_colOf]; rfl
  · intro r d; refine (qa2 ..).trans ?_; simp only [gQ, bP, bG, ix2_0, ix2_1, hd_colOf]; rfl
  · intro r d; refine (qa3 ..).trans ?_; simp only [gQ, bP, bG, ix2_0, ix2_1, hd_colOf]; rfl
  · intro r d; refine (qa4 ..).trans ?_; simp only [gQ, bP, bG, ix2_0, ix2_1, hd_colOf]; rfl
  · intro r d; refine (qa5 ..).trans ?_; simp only [gQ, bP, bG, ix2_0, ix2_1, hd_colOf]; rfl

theorem stK_s0 (t : Fin (cfgM m hO).N) (h0 : ¬cond0_0 (grid0.coords t)) (h3 : cond0_3 (grid0.coords t)) (h1 : ¬One m hO t) (h2 : Two m hO t) (p : St Ideal) :
    (stK m hO c t h0 h3 h1 h2 p).2.2.1 = oQ m hO c t p.2.2.2.1 p.2.2.2.2 p.2.2.1 :=
  K_s0 VS0_0 VS0_0.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) p.2.2.1 p.2.2.2.1 p.2.2.2.2 h1 h2
end Cert.DqV

end
-- ==== Proof.Dq.CaseB0.lean ====
module

public import proofs.«01_k».proof.Proof.Dq.Base
public import Idealize.ShloMosaic.Lib.Pipeline.ReadBack
public import Idealize.ShloMosaic.Lib.Pipeline.ValueKit

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

theorem B_s0 {sg : RefSig} {κ : Kind} {sp : Space} (v : View sg κ sp S512x768 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S6x512x128 .f32) (harg11 : arg11.IsWhole) (arg12 : Memref sig .tc .vmem S512x768 .f32) (harg12 : arg12.IsWhole) (arg13 : Memref sig .tc .vmem S6x512x1 .f32) (harg13 : arg13.IsWhole) (arg14 : Memref sig .tc .vmem S6x512x1 .f32) (harg14 : arg14.IsWhole) (hc0 : cond0_0 i) (hc3 : ¬cond0_3 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S512x768 .f32) (xt0 : TbBuf0 (F := Ideal) c tbM0_0) (hc1 : cond0_1 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_B c i arg3 harg3 arg4 harg4 arg5 harg5 arg6 harg6 arg7 harg7 arg8 harg8 arg9 harg9 arg10 harg10 arg11 harg11 arg12 harg12 arg13 harg13 arg14 harg14 hc0 hc3 x0 x1 x2 x3 x4 x5 x6 xt0 hc1 hc2).2.2.1) = z0 := by
  unfold kernelRun0_B
  frame_out
  exact (read_one ..).trans pay1_eq

theorem stB_s0 (t : Fin (cfgM m hO).N) (h0 : cond0_0 (grid0.coords t)) (h3 : ¬cond0_3 (grid0.coords t)) (h1 : One m hO t) (h2 : ¬Two m hO t) :
    (stB m hO c t h0 h3 h1 h2).2.2.1 = z0 :=
  B_s0 VS0_0 VS0_0.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) h1 h2

theorem D_s0 {sg : RefSig} {κ : Kind} {sp : Space} (v : View sg κ sp S512x768 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S6x512x128 .f32) (harg11 : arg11.IsWhole) (arg12 : Memref sig .tc .vmem S512x768 .f32) (harg12 : arg12.IsWhole) (arg13 : Memref sig .tc .vmem S6x512x1 .f32) (harg13 : arg13.IsWhole) (arg14 : Memref sig .tc .vmem S6x512x1 .f32) (harg14 : arg14.IsWhole) (hc0 : cond0_0 i) (hc3 : ¬cond0_3 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S512x768 .f32) (xt0 : TbBuf0 (F := Ideal) c tbM0_0) (hc1 : ¬cond0_1 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_D c i arg3 harg3 arg4 harg4 arg5 harg5 arg6 harg6 arg7 harg7 arg8 harg8 arg9 harg9 arg10 harg10 arg11 harg11 arg12 harg12 arg13 harg13 arg14 harg14 hc0 hc3 x0 x1 x2 x3 x4 x5 x6 xt0 hc1 hc2).2.2.1) = z0 := by
  unfold kernelRun0_D
  frame_out
  exact (read_one ..).trans pay1_eq

theorem stD_s0 (t : Fin (cfgM m hO).N) (h0 : cond0_0 (grid0.coords t)) (h3 : ¬cond0_3 (grid0.coords t)) (h1 : ¬One m hO t) (h2 : ¬Two m hO t) :
    (stD m hO c t h0 h3 h1 h2).2.2.1 = z0 :=
  D_s0 VS0_0 VS0_0.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) h1 h2

theorem D_s1 {sg : RefSig} {κ : Kind} {sp : Space} (v : View sg κ sp S6x512x1 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S6x512x128 .f32) (harg11 : arg11.IsWhole) (arg12 : Memref sig .tc .vmem S512x768 .f32) (harg12 : arg12.IsWhole) (arg13 : Memref sig .tc .vmem S6x512x1 .f32) (harg13 : arg13.IsWhole) (arg14 : Memref sig .tc .vmem S6x512x1 .f32) (harg14 : arg14.IsWhole) (hc0 : cond0_0 i) (hc3 : ¬cond0_3 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S512x768 .f32) (xt0 : TbBuf0 (F := Ideal) c tbM0_0) (hc1 : ¬cond0_1 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_D c i arg3 harg3 arg4 harg4 arg5 harg5 arg6 harg6 arg7 harg7 arg8 harg8 arg9 harg9 arg10 harg10 arg11 harg11 arg12 harg12 arg13 harg13 arg14 harg14 hc0 hc3 x0 x1 x2 x3 x4 x5 x6 xt0 hc1 hc2).2.2.2.1) = zr := by
  unfold kernelRun0_D
  frame_out
  exact (read_all ..).trans pay2_eq

theorem stD_s1 (t : Fin (cfgM m hO).N) (h0 : cond0_0 (grid0.coords t)) (h3 : ¬cond0_3 (grid0.coords t)) (h1 : ¬One m hO t) (h2 : ¬Two m hO t) :
    (stD m hO c t h0 h3 h1 h2).2.2.2.1 = zr :=
  D_s1 VS0_1 VS0_1.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) h1 h2

theorem D_s2 {sg : RefSig} {κ : Kind} {sp : Space} (v : View sg κ sp S6x512x1 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S6x512x128 .f32) (harg11 : arg11.IsWhole) (arg12 : Memref sig .tc .vmem S512x768 .f32) (harg12 : arg12.IsWhole) (arg13 : Memref sig .tc .vmem S6x512x1 .f32) (harg13 : arg13.IsWhole) (arg14 : Memref sig .tc .vmem S6x512x1 .f32) (harg14 : arg14.IsWhole) (hc0 : cond0_0 i) (hc3 : ¬cond0_3 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S512x768 .f32) (xt0 : TbBuf0 (F := Ideal) c tbM0_0) (hc1 : ¬cond0_1 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_D c i arg3 harg3 arg4 harg4 arg5 harg5 arg6 harg6 arg7 harg7 arg8 harg8 arg9 harg9 arg10 harg10 arg11 harg11 arg12 harg12 arg13 harg13 arg14 harg14 hc0 hc3 x0 x1 x2 x3 x4 x5 x6 xt0 hc1 hc2).2.2.2.2.1) = zr := by
  unfold kernelRun0_D
  frame_out
  exact (read_all ..).trans pay3_eq

theorem stD_s2 (t : Fin (cfgM m hO).N) (h0 : cond0_0 (grid0.coords t)) (h3 : ¬cond0_3 (grid0.coords t)) (h1 : ¬One m hO t) (h2 : ¬Two m hO t) :
    (stD m hO c t h0 h3 h1 h2).2.2.2.2 = zr :=
  D_s2 VS0_2 VS0_2.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) h1 h2
end Cert.DqV

end
-- ==== Proof.Dq.CaseB1.lean ====
module

public import proofs.«01_k».proof.Proof.Dq.Base
public import Idealize.ShloMosaic.Lib.Pipeline.ReadBack
public import Idealize.ShloMosaic.Lib.Pipeline.ValueKit

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

theorem B_s1 {sg : RefSig} {κ : Kind} {sp : Space} (v : View sg κ sp S6x512x1 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S6x512x128 .f32) (harg11 : arg11.IsWhole) (arg12 : Memref sig .tc .vmem S512x768 .f32) (harg12 : arg12.IsWhole) (arg13 : Memref sig .tc .vmem S6x512x1 .f32) (harg13 : arg13.IsWhole) (arg14 : Memref sig .tc .vmem S6x512x1 .f32) (harg14 : arg14.IsWhole) (hc0 : cond0_0 i) (hc3 : ¬cond0_3 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S512x768 .f32) (xt0 : TbBuf0 (F := Ideal) c tbM0_0) (hc1 : cond0_1 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_B c i arg3 harg3 arg4 harg4 arg5 harg5 arg6 harg6 arg7 harg7 arg8 harg8 arg9 harg9 arg10 harg10 arg11 harg11 arg12 harg12 arg13 harg13 arg14 harg14 hc0 hc3 x0 x1 x2 x3 x4 x5 x6 xt0 hc1 hc2).2.2.2.1) = gD (Scalar.addi (word i xt0) (md (BitVec.ofNat 32 ↑(i 1)))) (BitVec.ofNat 32 ↑(i 0)) x0 x1 x2 x6 x3 x4 x5 zr := by
  unfold kernelRun0_B
  frame_out
  simp (discharger := first | rfl | decide) only [↓View.readCov_skip, ↓View.readCov_fill]
  simp only [pay2_eq]
  simp only [lde0, lde1, lde2, lde3, lde4, lde5, ldq0, ldq1, ldq2, ldq3, ldq4, ldq5, ldt0, ldt1, ldt2, ldt3, ldt4, ldt5, ldr0, ldr1, ldr2, ldr3, ldr4, ldr5]
  refine heads6 _ _ _ _ _ _ _ _ _ _ _ _ _ _ _ _ ?_ ?_ ?_ ?_ ?_ ?_
  · intro r d; obtain rfl : d = 0 := Subsingleton.elim _ _; refine (qd0 ..).trans ?_; rfl
  · intro r d; obtain rfl : d = 0 := Subsingleton.elim _ _; refine (qd1 ..).trans ?_; rfl
  · intro r d; obtain rfl : d = 0 := Subsingleton.elim _ _; refine (qd2 ..).trans ?_; rfl
  · intro r d; obtain rfl : d = 0 := Subsingleton.elim _ _; refine (qd3 ..).trans ?_; rfl
  · intro r d; obtain rfl : d = 0 := Subsingleton.elim _ _; refine (qd4 ..).trans ?_; rfl
  · intro r d; obtain rfl : d = 0 := Subsingleton.elim _ _; refine (qd5 ..).trans ?_; rfl

theorem stB_s1 (t : Fin (cfgM m hO).N) (h0 : cond0_0 (grid0.coords t)) (h3 : ¬cond0_3 (grid0.coords t)) (h1 : One m hO t) (h2 : ¬Two m hO t) :
    (stB m hO c t h0 h3 h1 h2).2.2.2.1 = oD m hO c t zr :=
  B_s1 VS0_1 VS0_1.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) h1 h2
end Cert.DqV

end
-- ==== Proof.Dq.CaseB2.lean ====
module

public import proofs.«01_k».proof.Proof.Dq.Base
public import Idealize.ShloMosaic.Lib.Pipeline.ReadBack
public import Idealize.ShloMosaic.Lib.Pipeline.ValueKit

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

theorem B_s2 {sg : RefSig} {κ : Kind} {sp : Space} (v : View sg κ sp S6x512x1 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S6x512x128 .f32) (harg11 : arg11.IsWhole) (arg12 : Memref sig .tc .vmem S512x768 .f32) (harg12 : arg12.IsWhole) (arg13 : Memref sig .tc .vmem S6x512x1 .f32) (harg13 : arg13.IsWhole) (arg14 : Memref sig .tc .vmem S6x512x1 .f32) (harg14 : arg14.IsWhole) (hc0 : cond0_0 i) (hc3 : ¬cond0_3 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S512x768 .f32) (xt0 : TbBuf0 (F := Ideal) c tbM0_0) (hc1 : cond0_1 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_B c i arg3 harg3 arg4 harg4 arg5 harg5 arg6 harg6 arg7 harg7 arg8 harg8 arg9 harg9 arg10 harg10 arg11 harg11 arg12 harg12 arg13 harg13 arg14 harg14 hc0 hc3 x0 x1 x2 x3 x4 x5 x6 xt0 hc1 hc2).2.2.2.2.1) = gS (Scalar.addi (word i xt0) (md (BitVec.ofNat 32 ↑(i 1)))) (BitVec.ofNat 32 ↑(i 0)) x0 x1 x3 x4 x5 zr := by
  unfold kernelRun0_B
  frame_out
  simp (discharger := first | rfl | decide) only [↓View.readCov_skip, ↓View.readCov_fill]
  simp only [pay3_eq]
  simp only [lde0, lde1, lde2, lde3, lde4, lde5, ldq0, ldq1, ldq2, ldq3, ldq4, ldq5, ldt0, ldt1, ldt2, ldt3, ldt4, ldt5, ldr0, ldr1, ldr2, ldr3, ldr4, ldr5]
  refine heads6 _ _ _ _ _ _ _ _ _ _ _ _ _ _ _ _ ?_ ?_ ?_ ?_ ?_ ?_
  · intro r d; obtain rfl : d = 0 := Subsingleton.elim _ _; refine (qs0 ..).trans ?_; rfl
  · intro r d; obtain rfl : d = 0 := Subsingleton.elim _ _; refine (qs1 ..).trans ?_; rfl
  · intro r d; obtain rfl : d = 0 := Subsingleton.elim _ _; refine (qs2 ..).trans ?_; rfl
  · intro r d; obtain rfl : d = 0 := Subsingleton.elim _ _; refine (qs3 ..).trans ?_; rfl
  · intro r d; obtain rfl : d = 0 := Subsingleton.elim _ _; refine (qs4 ..).trans ?_; rfl
  · intro r d; obtain rfl : d = 0 := Subsingleton.elim _ _; refine (qs5 ..).trans ?_; rfl

theorem stB_s2 (t : Fin (cfgM m hO).N) (h0 : cond0_0 (grid0.coords t)) (h3 : ¬cond0_3 (grid0.coords t)) (h1 : One m hO t) (h2 : ¬Two m hO t) :
    (stB m hO c t h0 h3 h1 h2).2.2.2.2 = oS m hO c t zr :=
  B_s2 VS0_2 VS0_2.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) h1 h2
end Cert.DqV

end
-- ==== Proof.Dq.CaseK7.lean ====
module

public import proofs.«01_k».proof.Proof.Dq.Base
public import Idealize.ShloMosaic.Lib.Pipeline.ReadBack
public import Idealize.ShloMosaic.Lib.Pipeline.ValueKit

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

theorem K_o7 {sg : RefSig} {κ : Kind} {sp : Space} (v : View sg κ sp S512x768 .bf16) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S6x512x128 .f32) (harg11 : arg11.IsWhole) (arg12 : Memref sig .tc .vmem S512x768 .f32) (harg12 : arg12.IsWhole) (arg13 : Memref sig .tc .vmem S6x512x1 .f32) (harg13 : arg13.IsWhole) (arg14 : Memref sig .tc .vmem S6x512x1 .f32) (harg14 : arg14.IsWhole) (hc0 : ¬cond0_0 i) (hc3 : cond0_3 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S512x768 .f32) (xt0 : TbBuf0 (F := Ideal) c tbM0_0) (xs0 : Vec Ideal S512x768 .f32) (xs1 : Vec Ideal S6x512x1 .f32) (xs2 : Vec Ideal S6x512x1 .f32) (hc1 : ¬cond0_1 i (tbM0_0.view.readAt (Elt Ideal) (Rect.unit (s := S32) (k0_off1 i) S1.size (k0_off1_inb i)).toLoadRect xt0 (Shape.Idx.first (numel1_S1.symm ▸ Nat.one_pos)))) (hc2 : cond0_2 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_K c i arg3 harg3 arg4 harg4 arg5 harg5 arg6 harg6 arg7 harg7 arg8 harg8 arg9 harg9 arg10 harg10 arg11 harg11 arg12 harg12 arg13 harg13 arg14 harg14 hc0 hc3 x0 x1 x2 x3 x4 x5 x6 xt0 xs0 xs1 xs2 hc1 hc2).1) = gQ (Scalar.addi (word i xt0) (md (BitVec.ofNat 32 ↑(i 1)))) (BitVec.ofNat 32 ↑(i 0)) x0 x1 x2 x6 x3 x4 x5 xs1 xs2 xs0 := by
  unfold kernelRun0_K
  frame_out
  simp only [readCov_ld, ld_whole, pay53_eq]
  refine (read_one ..).trans ?_
  simp only [lde0, lde1, lde2, lde3, lde4, lde5, ldq0, ldq1, ldq2, ldq3, ldq4, ldq5, ldt0, ldt1, ldt2, ldt3, ldt4, ldt5, ldr0, ldr1, ldr2, ldr3, ldr4, ldr5]
  refine cols6 _ _ _ _ _ _ _ _ _ _ _ _ _ _ _ _ ?_ ?_ ?_ ?_ ?_ ?_
  · intro r d; refine (qa0 ..).trans ?_; simp only [gQ, bP, bG, ix2_0, ix2_1, hd_colOf]; rfl
  · intro r d; refine (qa1 ..).trans ?_; simp only [gQ, bP, bG, ix2_0, ix2_1, hd_colOf]; rfl
  · intro r d; refine (qa2 ..).trans ?_; simp only [gQ, bP, bG, ix2_0, ix2_1, hd_colOf]; rfl
  · intro r d; refine (qa3 ..).trans ?_; simp only [gQ, bP, bG, ix2_0, ix2_1, hd_colOf]; rfl
  · intro r d; refine (qa4 ..).trans ?_; simp only [gQ, bP, bG, ix2_0, ix2_1, hd_colOf]; rfl
  · intro r d; refine (qa5 ..).trans ?_; simp only [gQ, bP, bG, ix2_0, ix2_1, hd_colOf]; rfl

theorem stK_o7 (t : Fin (cfgM m hO).N) (h0 : ¬cond0_0 (grid0.coords t)) (h3 : cond0_3 (grid0.coords t)) (h1 : ¬One m hO t) (h2 : Two m hO t) (p : St Ideal) :
    (stK m hO c t h0 h3 h1 h2 p).1 = oQ m hO c t p.2.2.2.1 p.2.2.2.2 p.2.2.1 :=
  K_o7 VO0_7 VO0_7.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) p.2.2.1 p.2.2.2.1 p.2.2.2.2 h1 h2
end Cert.DqV

end
-- ==== Proof.Dq.CaseK8.lean ====
module

public import proofs.«01_k».proof.Proof.Dq.Base
public import Idealize.ShloMosaic.Lib.Pipeline.ReadBack
public import Idealize.ShloMosaic.Lib.Pipeline.ValueKit

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

theorem K_o8 {sg : RefSig} {κ : Kind} {sp : Space} (v : View sg κ sp S6x512x128 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S6x512x128 .f32) (harg11 : arg11.IsWhole) (arg12 : Memref sig .tc .vmem S512x768 .f32) (harg12 : arg12.IsWhole) (arg13 : Memref sig .tc .vmem S6x512x1 .f32) (harg13 : arg13.IsWhole) (arg14 : Memref sig .tc .vmem S6x512x1 .f32) (harg14 : arg14.IsWhole) (hc0 : ¬cond0_0 i) (hc3 : cond0_3 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S512x768 .f32) (xt0 : TbBuf0 (F := Ideal) c tbM0_0) (xs0 : Vec Ideal S512x768 .f32) (xs1 : Vec Ideal S6x512x1 .f32) (xs2 : Vec Ideal S6x512x1 .f32) (hc1 : ¬cond0_1 i (tbM0_0.view.readAt (Elt Ideal) (Rect.unit (s := S32) (k0_off1 i) S1.size (k0_off1_inb i)).toLoadRect xt0 (Shape.Idx.first (numel1_S1.symm ▸ Nat.one_pos)))) (hc2 : cond0_2 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_K c i arg3 harg3 arg4 harg4 arg5 harg5 arg6 harg6 arg7 harg7 arg8 harg8 arg9 harg9 arg10 harg10 arg11 harg11 arg12 harg12 arg13 harg13 arg14 harg14 hc0 hc3 x0 x1 x2 x3 x4 x5 x6 xt0 xs0 xs1 xs2 hc1 hc2).2.1) = gO xs1 xs2 := by
  unfold kernelRun0_K
  frame_out
  simp only [lde0, lde1, lde2, lde3, lde4, lde5, ldq0, ldq1, ldq2, ldq3, ldq4, ldq5, ldt0, ldt1, ldt2, ldt3, ldt4, ldt5, ldr0, ldr1, ldr2, ldr3, ldr4, ldr5]
  refine heads6 _ _ _ _ _ _ _ _ _ _ _ _ _ _ _ _ ?_ ?_ ?_ ?_ ?_ ?_
  · intro r d; refine (qo54 ..).trans ?_; rfl
  · intro r d; refine (qo55 ..).trans ?_; rfl
  · intro r d; refine (qo56 ..).trans ?_; rfl
  · intro r d; refine (qo58 ..).trans ?_; rfl
  · intro r d; refine (qo59 ..).trans ?_; rfl
  · intro r d; refine (qo60 ..).trans ?_; rfl

theorem stK_o8 (t : Fin (cfgM m hO).N) (h0 : ¬cond0_0 (grid0.coords t)) (h3 : cond0_3 (grid0.coords t)) (h1 : ¬One m hO t) (h2 : Two m hO t) (p : St Ideal) :
    (stK m hO c t h0 h3 h1 h2 p).2.1 = gO p.2.2.2.1 p.2.2.2.2 :=
  K_o8 VO0_8 VO0_8.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) p.2.2.1 p.2.2.2.1 p.2.2.2.2 h1 h2
end Cert.DqV

end
-- ==== Proof.Dq.CaseL.lean ====
module

public import proofs.«01_k».proof.Proof.Dq.Base
public import Idealize.ShloMosaic.Lib.Pipeline.ReadBack
public import Idealize.ShloMosaic.Lib.Pipeline.ValueKit

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

theorem L_o7 {sg : RefSig} {κ : Kind} {sp : Space} (v : View sg κ sp S512x768 .bf16) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S6x512x128 .f32) (harg11 : arg11.IsWhole) (arg12 : Memref sig .tc .vmem S512x768 .f32) (harg12 : arg12.IsWhole) (arg13 : Memref sig .tc .vmem S6x512x1 .f32) (harg13 : arg13.IsWhole) (arg14 : Memref sig .tc .vmem S6x512x1 .f32) (harg14 : arg14.IsWhole) (hc0 : ¬cond0_0 i) (hc3 : cond0_3 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S512x768 .f32) (xt0 : TbBuf0 (F := Ideal) c tbM0_0) (xs0 : Vec Ideal S512x768 .f32) (xs1 : Vec Ideal S6x512x1 .f32) (xs2 : Vec Ideal S6x512x1 .f32) (hc1 : ¬cond0_1 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_L c i arg3 harg3 arg4 harg4 arg5 harg5 arg6 harg6 arg7 harg7 arg8 harg8 arg9 harg9 arg10 harg10 arg11 harg11 arg12 harg12 arg13 harg13 arg14 harg14 hc0 hc3 x0 x1 x2 x3 x4 x5 x6 xt0 xs0 xs1 xs2 hc1 hc2).1) = xs0 := by
  unfold kernelRun0_L
  frame_out
  simp only [ld_whole, pay53_eq]
  exact read_one ..

theorem stL_o7 (t : Fin (cfgM m hO).N) (h0 : ¬cond0_0 (grid0.coords t)) (h3 : cond0_3 (grid0.coords t)) (h1 : ¬One m hO t) (h2 : ¬Two m hO t) (p : St Ideal) :
    (stL m hO c t h0 h3 h1 h2 p).1 = p.2.2.1 :=
  L_o7 VO0_7 VO0_7.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) p.2.2.1 p.2.2.2.1 p.2.2.2.2 h1 h2

theorem L_o8 {sg : RefSig} {κ : Kind} {sp : Space} (v : View sg κ sp S6x512x128 .f32) (f : v.ty.Contents (Elt Ideal))
    (c : Dev nD) (i : grid0.Coords) (arg3 : Memref sig .tc .vmem S512x768 .f32) (harg3 : arg3.IsWhole) (arg4 : Memref sig .tc .vmem S512x768 .f32) (harg4 : arg4.IsWhole) (arg5 : Memref sig .tc .vmem S512x768 .f32) (harg5 : arg5.IsWhole) (arg6 : Memref sig .tc .vmem S8x512 .f32) (harg6 : arg6.IsWhole) (arg7 : Memref sig .tc .vmem S6x512x128 .f32) (harg7 : arg7.IsWhole) (arg8 : Memref sig .tc .vmem S6x512x128 .f32) (harg8 : arg8.IsWhole) (arg9 : Memref sig .tc .vmem S512x768 .f32) (harg9 : arg9.IsWhole) (arg10 : Memref sig .tc .vmem S512x768 .bf16) (harg10 : arg10.IsWhole) (arg11 : Memref sig .tc .vmem S6x512x128 .f32) (harg11 : arg11.IsWhole) (arg12 : Memref sig .tc .vmem S512x768 .f32) (harg12 : arg12.IsWhole) (arg13 : Memref sig .tc .vmem S6x512x1 .f32) (harg13 : arg13.IsWhole) (arg14 : Memref sig .tc .vmem S6x512x1 .f32) (harg14 : arg14.IsWhole) (hc0 : ¬cond0_0 i) (hc3 : cond0_3 i) (x0 : Vec Ideal S512x768 .f32) (x1 : Vec Ideal S512x768 .f32) (x2 : Vec Ideal S512x768 .f32) (x3 : Vec Ideal S8x512 .f32) (x4 : Vec Ideal S6x512x128 .f32) (x5 : Vec Ideal S6x512x128 .f32) (x6 : Vec Ideal S512x768 .f32) (xt0 : TbBuf0 (F := Ideal) c tbM0_0) (xs0 : Vec Ideal S512x768 .f32) (xs1 : Vec Ideal S6x512x1 .f32) (xs2 : Vec Ideal S6x512x1 .f32) (hc1 : ¬cond0_1 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    v.read (Elt Ideal) (v.writes (Elt Ideal) f (kernelRun0_L c i arg3 harg3 arg4 harg4 arg5 harg5 arg6 harg6 arg7 harg7 arg8 harg8 arg9 harg9 arg10 harg10 arg11 harg11 arg12 harg12 arg13 harg13 arg14 harg14 hc0 hc3 x0 x1 x2 x3 x4 x5 x6 xt0 xs0 xs1 xs2 hc1 hc2).2.1) = gO xs1 xs2 := by
  unfold kernelRun0_L
  frame_out
  simp only [lde0, lde1, lde2, lde3, lde4, lde5, ldq0, ldq1, ldq2, ldq3, ldq4, ldq5, ldt0, ldt1, ldt2, ldt3, ldt4, ldt5, ldr0, ldr1, ldr2, ldr3, ldr4, ldr5]
  refine heads6 _ _ _ _ _ _ _ _ _ _ _ _ _ _ _ _ ?_ ?_ ?_ ?_ ?_ ?_
  · intro r d; refine (qo54 ..).trans ?_; rfl
  · intro r d; refine (qo55 ..).trans ?_; rfl
  · intro r d; refine (qo56 ..).trans ?_; rfl
  · intro r d; refine (qo58 ..).trans ?_; rfl
  · intro r d; refine (qo59 ..).trans ?_; rfl
  · intro r d; refine (qo60 ..).trans ?_; rfl

theorem stL_o8 (t : Fin (cfgM m hO).N) (h0 : ¬cond0_0 (grid0.coords t)) (h3 : cond0_3 (grid0.coords t)) (h1 : ¬One m hO t) (h2 : ¬Two m hO t) (p : St Ideal) :
    (stL m hO c t h0 h3 h1 h2 p).2.1 = gO p.2.2.2.1 p.2.2.2.2 :=
  L_o8 VO0_8 VO0_8.junk c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) h0 h3 (iblk m hO c 0 t) (iblk m hO c 1 t) (iblk m hO c 2 t) (iblk m hO c 3 t) (iblk m hO c 4 t) (iblk m hO c 5 t) (iblk m hO c 6 t) (tbl m 0) p.2.2.1 p.2.2.2.1 p.2.2.2.2 h1 h2
end Cert.DqV

end
-- ==== Proof.Dq.Acc.lean ====
module

public import proofs.«01_k».proof.Proof.Dq.Terms
public import proofs.«01_k».proof.Proof.Dq.CaseF1
public import proofs.«01_k».proof.Proof.Dq.CaseF2
public import proofs.«01_k».proof.Proof.Dq.CaseG
public import proofs.«01_k».proof.Proof.Dq.CaseK0
public import proofs.«01_k».proof.Proof.Dq.CaseB0
public import proofs.«01_k».proof.Proof.Dq.CaseB1
public import proofs.«01_k».proof.Proof.Dq.CaseB2
public import proofs.«01_k».proof.Proof.Dq.CaseK7
public import proofs.«01_k».proof.Proof.Dq.CaseK8
public import proofs.«01_k».proof.Proof.Dq.CaseL

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

/-! ## What the scratch buffers hold -/

theorem reset_s1 (t : Fin (cfgM m hO).N) (h : t.val % 32 = 0) (y : S6x512x1.Idx) :
    (outsAt m hO c t.val t.isLt).2.2.2.1 y = uD (X0 m c) (X1 m c) (X2 m c) (XL m c) (y 0) (rowOf (t.val / 32) (y 1)) 0 := by
  have h0 : cond0_0 (grid0.coords t) := (hcond0_0 t).mpr h
  have h3 : ¬cond0_3 (grid0.coords t) := fun e => by have := (hcond0_3 t).mp e; omega
  have h1 : One m hO t := (one_iff m hO t).mpr (by omega)
  have h2 : ¬Two m hO t := fun e => by have := (two_iff m hO t).mp e; omega
  have e : kj m hO t = 0 := by show t.val % 32 % 16 = 0; omega
  rw [outsAt_eq, step_B m hO c t h0 h3 h1 h2, stB_s1, oD_eq m hO c t (by omega), e]
  exact zero_add _

theorem mid_s1 (t : Fin (cfgM m hO).N) (h : t.val % 32 ≠ 0) (h' : t.val % 32 < 16) (y : S6x512x1.Idx) :
    (outsAt m hO c t.val t.isLt).2.2.2.1 y = (prev m hO c t).2.2.2.1 y + uD (X0 m c) (X1 m c) (X2 m c) (XL m c) (y 0) (rowOf (t.val / 32) (y 1)) (t.val % 32) := by
  have h0 : ¬cond0_0 (grid0.coords t) := fun e => h ((hcond0_0 t).mp e)
  have h3 : ¬cond0_3 (grid0.coords t) := fun e => by have := (hcond0_3 t).mp e; omega
  have h2 : ¬Two m hO t := fun e => by have := (two_iff m hO t).mp e; omega
  have e : kj m hO t = t.val % 32 := by show t.val % 32 % 16 = _; omega
  by_cases h1 : One m hO t
  · have g := (one_iff m hO t).mp h1
    rw [outsAt_eq, step_F m hO c t h0 h3 h1 h2, stF_s1, oD_eq m hO c t (by rw [e]; exact g.2), e]
  · have g : t.val / 32 < t.val % 32 := by
      by_contra g
      exact h1 ((one_iff m hO t).mpr (by omega))
    rw [outsAt_eq, step_H m hO c t h0 h3 h1 h2]
    exact (add_zero ((prev m hO c t).2.2.2.1 y)).symm.trans (congrArg ((prev m hO c t).2.2.2.1 y + ·) (uD_beyond (X0 m c) (X1 m c) (X2 m c) (XL m c) (y 0) _ _ (by omega) g (y 1)).symm)

theorem late_s1 (t : Fin (cfgM m hO).N) (h : 16 ≤ t.val % 32) (y : S6x512x1.Idx) :
    (outsAt m hO c t.val t.isLt).2.2.2.1 y = (prev m hO c t).2.2.2.1 y := by
  have h0 : ¬cond0_0 (grid0.coords t) := fun e => by have := (hcond0_0 t).mp e; omega
  have h1 : ¬One m hO t := fun e => by have := (one_iff m hO t).mp e; omega
  by_cases h3 : cond0_3 (grid0.coords t)
  · by_cases h2 : Two m hO t
    · rw [outsAt_eq, step_K m hO c t h0 h3 h1 h2]
      rfl
    · rw [outsAt_eq, step_L m hO c t h0 h3 h1 h2]
      rfl
  · by_cases h2 : Two m hO t
    · rw [outsAt_eq, step_G m hO c t h0 h3 h1 h2]
      rfl
    · rw [outsAt_eq, step_H m hO c t h0 h3 h1 h2]
      rfl

theorem reset_s2 (t : Fin (cfgM m hO).N) (h : t.val % 32 = 0) (y : S6x512x1.Idx) :
    (outsAt m hO c t.val t.isLt).2.2.2.2 y = uS (X0 m c) (X1 m c) (XL m c) (y 0) (rowOf (t.val / 32) (y 1)) 0 := by
  have h0 : cond0_0 (grid0.coords t) := (hcond0_0 t).mpr h
  have h3 : ¬cond0_3 (grid0.coords t) := fun e => by have := (hcond0_3 t).mp e; omega
  have h1 : One m hO t := (one_iff m hO t).mpr (by omega)
  have h2 : ¬Two m hO t := fun e => by have := (two_iff m hO t).mp e; omega
  have e : kj m hO t = 0 := by show t.val % 32 % 16 = 0; omega
  rw [outsAt_eq, step_B m hO c t h0 h3 h1 h2, stB_s2, oS_eq m hO c t (by omega), e]
  exact zero_add _

theorem mid_s2 (t : Fin (cfgM m hO).N) (h : t.val % 32 ≠ 0) (h' : t.val % 32 < 16) (y : S6x512x1.Idx) :
    (outsAt m hO c t.val t.isLt).2.2.2.2 y = (prev m hO c t).2.2.2.2 y + uS (X0 m c) (X1 m c) (XL m c) (y 0) (rowOf (t.val / 32) (y 1)) (t.val % 32) := by
  have h0 : ¬cond0_0 (grid0.coords t) := fun e => h ((hcond0_0 t).mp e)
  have h3 : ¬cond0_3 (grid0.coords t) := fun e => by have := (hcond0_3 t).mp e; omega
  have h2 : ¬Two m hO t := fun e => by have := (two_iff m hO t).mp e; omega
  have e : kj m hO t = t.val % 32 := by show t.val % 32 % 16 = _; omega
  by_cases h1 : One m hO t
  · have g := (one_iff m hO t).mp h1
    rw [outsAt_eq, step_F m hO c t h0 h3 h1 h2, stF_s2, oS_eq m hO c t (by rw [e]; exact g.2), e]
  · have g : t.val / 32 < t.val % 32 := by
      by_contra g
      exact h1 ((one_iff m hO t).mpr (by omega))
    rw [outsAt_eq, step_H m hO c t h0 h3 h1 h2]
    exact (add_zero ((prev m hO c t).2.2.2.2 y)).symm.trans (congrArg ((prev m hO c t).2.2.2.2 y + ·) (uS_beyond (X0 m c) (X1 m c) (XL m c) (y 0) _ _ (by omega) g (y 1)).symm)

theorem late_s2 (t : Fin (cfgM m hO).N) (h : 16 ≤ t.val % 32) (y : S6x512x1.Idx) :
    (outsAt m hO c t.val t.isLt).2.2.2.2 y = (prev m hO c t).2.2.2.2 y := by
  have h0 : ¬cond0_0 (grid0.coords t) := fun e => by have := (hcond0_0 t).mp e; omega
  have h1 : ¬One m hO t := fun e => by have := (one_iff m hO t).mp e; omega
  by_cases h3 : cond0_3 (grid0.coords t)
  · by_cases h2 : Two m hO t
    · rw [outsAt_eq, step_K m hO c t h0 h3 h1 h2]
      rfl
    · rw [outsAt_eq, step_L m hO c t h0 h3 h1 h2]
      rfl
  · by_cases h2 : Two m hO t
    · rw [outsAt_eq, step_G m hO c t h0 h3 h1 h2]
      rfl
    · rw [outsAt_eq, step_H m hO c t h0 h3 h1 h2]
      rfl

theorem reset_s0 (t : Fin (cfgM m hO).N) (h : t.val % 32 = 0) (y : S512x768.Idx) : (outsAt m hO c t.val t.isLt).2.2.1 y = 0 := by
  have h0 : cond0_0 (grid0.coords t) := (hcond0_0 t).mpr h
  have h3 : ¬cond0_3 (grid0.coords t) := fun e => by have := (hcond0_3 t).mp e; omega
  have h1 : One m hO t := (one_iff m hO t).mpr (by omega)
  have h2 : ¬Two m hO t := fun e => by have := (two_iff m hO t).mp e; omega
  rw [outsAt_eq, step_B m hO c t h0 h3 h1 h2, stB_s0]
  rfl

theorem mid_s0 (t : Fin (cfgM m hO).N) (h : t.val % 32 ≠ 0) (h' : t.val % 32 < 16) (y : S512x768.Idx) :
    (outsAt m hO c t.val t.isLt).2.2.1 y = (prev m hO c t).2.2.1 y := by
  have h0 : ¬cond0_0 (grid0.coords t) := fun e => h ((hcond0_0 t).mp e)
  have h3 : ¬cond0_3 (grid0.coords t) := fun e => by have := (hcond0_3 t).mp e; omega
  have h2 : ¬Two m hO t := fun e => by have := (two_iff m hO t).mp e; omega
  by_cases h1 : One m hO t
  · rw [outsAt_eq, step_F m hO c t h0 h3 h1 h2]
    rfl
  · rw [outsAt_eq, step_H m hO c t h0 h3 h1 h2]
    rfl

/-- Sums that start afresh every 32 steps and grow in the first 16. -/
theorem sum_first (N : ℕ) (f : ∀ n, n < N → EReal) (T : ℕ → ℕ → EReal) (hz : ∀ n hn, n % 32 = 0 → f n hn = T (n / 32) 0)
    (hs : ∀ n hn, (n + 1) % 32 ≠ 0 → (n + 1) % 32 < 16 → f (n + 1) hn = f n (Nat.lt_of_succ_lt hn) + T ((n + 1) / 32) ((n + 1) % 32))
    (hk : ∀ n hn, 16 ≤ (n + 1) % 32 → f (n + 1) hn = f n (Nat.lt_of_succ_lt hn)) (n : ℕ) (hn : n < N) :
    f n hn = ∑ b ∈ Finset.range (min (n % 32 + 1) 16), T (n / 32) b := by
  induction n with
  | zero => rw [hz 0 hn rfl]; exact (Finset.sum_range_one (T 0)).symm
  | succ n ih =>
    by_cases e : (n + 1) % 32 = 0
    · rw [hz _ hn e, e]
      exact (Finset.sum_range_one (T ((n + 1) / 32))).symm
    · have d : (n + 1) / 32 = n / 32 := by omega
      by_cases g : (n + 1) % 32 < 16
      · have e1 : min (n % 32 + 1) 16 = (n + 1) % 32 := by omega
        have e2 : min ((n + 1) % 32 + 1) 16 = (n + 1) % 32 + 1 := by omega
        rw [hs n hn e g, ih, d, e1, e2, Finset.sum_range_succ]
      · have e1 : min (n % 32 + 1) 16 = 16 := by omega
        have e2 : min ((n + 1) % 32 + 1) 16 = 16 := by omega
        rw [hk n hn (by omega), ih, d, e1, e2]

/-- Sums that start afresh every 32 steps and grow in the last 16. -/
theorem sum_last (N : ℕ) (f : ∀ n, n < N → EReal) (T : ℕ → ℕ → EReal) (hz : ∀ n hn, n % 32 = 0 → f n hn = 0)
    (hk : ∀ n hn, (n + 1) % 32 ≠ 0 → (n + 1) % 32 < 16 → f (n + 1) hn = f n (Nat.lt_of_succ_lt hn))
    (hs : ∀ n hn, 16 ≤ (n + 1) % 32 → f (n + 1) hn = f n (Nat.lt_of_succ_lt hn) + T ((n + 1) / 32) ((n + 1) % 32 - 16)) (n : ℕ) (hn : n < N) :
    f n hn = ∑ b ∈ Finset.range (n % 32 + 1 - 16), T (n / 32) b := by
  induction n with
  | zero => rw [hz 0 hn rfl]; rfl
  | succ n ih =>
    by_cases e : (n + 1) % 32 = 0
    · rw [hz _ hn e, e]
      rfl
    · have d : (n + 1) / 32 = n / 32 := by omega
      by_cases g : (n + 1) % 32 < 16
      · have e1 : n % 32 + 1 - 16 = 0 := by omega
        have e2 : (n + 1) % 32 + 1 - 16 = 0 := by omega
        rw [hk n hn e g, ih, d, e1, e2]
      · have e1 : n % 32 + 1 - 16 = (n + 1) % 32 - 16 := by omega
        have e2 : (n + 1) % 32 + 1 - 16 = (n + 1) % 32 - 16 + 1 := by omega
        rw [hs n hn (by omega), ih, d, e1, e2, Finset.sum_range_succ]

theorem prev_succ (n : ℕ) (hn : n + 1 < (cfgM m hO).N) : prev m hO c ⟨n + 1, hn⟩ = outsAt m hO c n (Nat.lt_of_succ_lt hn) :=
  prev_pos m hO c ⟨n + 1, hn⟩ (Nat.succ_ne_zero n)

theorem acc_s1 (y : S6x512x1.Idx) (n : ℕ) (hn : n < (cfgM m hO).N) :
    (outsAt m hO c n hn).2.2.2.1 y = ∑ b ∈ Finset.range (min (n % 32 + 1) 16), uD (X0 m c) (X1 m c) (X2 m c) (XL m c) (y 0) (rowOf (n / 32) (y 1)) b :=
  sum_first _ (fun n hn => (outsAt m hO c n hn).2.2.2.1 y) (fun i b => uD (X0 m c) (X1 m c) (X2 m c) (XL m c) (y 0) (rowOf i (y 1)) b)
    (fun n hn h => reset_s1 m hO c ⟨n, hn⟩ h y)
    (fun n hn h h' => (mid_s1 m hO c ⟨n + 1, hn⟩ h h' y).trans (congrArg (fun q => q.2.2.2.1 y + _) (prev_succ m hO c n hn)))
    (fun n hn h => (late_s1 m hO c ⟨n + 1, hn⟩ h y).trans (congrArg (fun q => q.2.2.2.1 y) (prev_succ m hO c n hn))) n hn

theorem acc_s2 (y : S6x512x1.Idx) (n : ℕ) (hn : n < (cfgM m hO).N) :
    (outsAt m hO c n hn).2.2.2.2 y = ∑ b ∈ Finset.range (min (n % 32 + 1) 16), uS (X0 m c) (X1 m c) (XL m c) (y 0) (rowOf (n / 32) (y 1)) b :=
  sum_first _ (fun n hn => (outsAt m hO c n hn).2.2.2.2 y) (fun i b => uS (X0 m c) (X1 m c) (XL m c) (y 0) (rowOf i (y 1)) b)
    (fun n hn h => reset_s2 m hO c ⟨n, hn⟩ h y)
    (fun n hn h h' => (mid_s2 m hO c ⟨n + 1, hn⟩ h h' y).trans (congrArg (fun q => q.2.2.2.2 y + _) (prev_succ m hO c n hn)))
    (fun n hn h => (late_s2 m hO c ⟨n + 1, hn⟩ h y).trans (congrArg (fun q => q.2.2.2.2 y) (prev_succ m hO c n hn))) n hn

theorem div_at (h : Fin 6) (r : Fin 512) (n : ℕ) (hn : n < (cfgM m hO).N) (h15 : 15 ≤ n % 32) :
    Ideal.div ((outsAt m hO c n hn).2.2.2.1 (ix3 h r 0)) ((outsAt m hO c n hn).2.2.2.2 (ix3 h r 0)) = uC (X0 m c) (X1 m c) (X2 m c) (XL m c) h (rowOf (n / 32) r) := by
  have e : min (n % 32 + 1) 16 = 16 := by omega
  rw [acc_s1, acc_s2, e]
  rfl

theorem prev_div (h : Fin 6) (r : Fin 512) (t : Fin (cfgM m hO).N) (h16 : 16 ≤ t.val % 32) :
    Ideal.div ((prev m hO c t).2.2.2.1 (ix3 h r 0)) ((prev m hO c t).2.2.2.2 (ix3 h r 0)) = uC (X0 m c) (X1 m c) (X2 m c) (XL m c) h (rowOf (t.val / 32) r) := by
  rw [prev_pos m hO c t (by omega), div_at m hO c h r (t.val - 1) _ (by omega)]
  rw [show (t.val - 1) / 32 = t.val / 32 by omega]

theorem two_s0 (t : Fin (cfgM m hO).N) (h2 : Two m hO t) (y : S512x768.Idx) :
    oQ m hO c t (prev m hO c t).2.2.2.1 (prev m hO c t).2.2.2.2 (prev m hO c t).2.2.1 y
      = (prev m hO c t).2.2.1 y + uQ (X0 m c) (X1 m c) (X2 m c) (XL m c) (y 1) (rowOf (t.val / 32) (y 0)) (t.val % 32 - 16) := by
  have g := (two_iff m hO t).mp h2
  have e : kj m hO t = t.val % 32 - 16 := by show t.val % 32 % 16 = _; omega
  rw [oQ_eq m hO c t (by rw [e]; exact g.2) _ _ _ y (prev_div m hO c (hd (y 1)) (y 0) t g.1), e]

theorem off_s0 (t : Fin (cfgM m hO).N) (h : 16 ≤ t.val % 32) (h2 : ¬Two m hO t) (d : Fin 768) (r : Fin 512) :
    uQ (X0 m c) (X1 m c) (X2 m c) (XL m c) d (rowOf (t.val / 32) r) (t.val % 32 - 16) = 0 := by
  have g : t.val / 32 < t.val % 32 - 16 := by
    by_contra g
    exact h2 ((two_iff m hO t).mpr (by omega))
  exact uQ_beyond (X0 m c) (X1 m c) (X2 m c) (XL m c) _ _ _ (by omega) g _

theorem late_s0 (t : Fin (cfgM m hO).N) (h : 16 ≤ t.val % 32) (y : S512x768.Idx) :
    (outsAt m hO c t.val t.isLt).2.2.1 y = (prev m hO c t).2.2.1 y + uQ (X0 m c) (X1 m c) (X2 m c) (XL m c) (y 1) (rowOf (t.val / 32) (y 0)) (t.val % 32 - 16) := by
  have h0 : ¬cond0_0 (grid0.coords t) := fun e => by have := (hcond0_0 t).mp e; omega
  have h1 : ¬One m hO t := fun e => by have := (one_iff m hO t).mp e; omega
  by_cases h3 : cond0_3 (grid0.coords t)
  · by_cases h2 : Two m hO t
    · rw [outsAt_eq, step_K m hO c t h0 h3 h1 h2]
      exact (congrFun (stK_s0 m hO c t h0 h3 h1 h2 _) y).trans (two_s0 m hO c t h2 y)
    · rw [outsAt_eq, step_L m hO c t h0 h3 h1 h2]
      exact (add_zero ((prev m hO c t).2.2.1 y)).symm.trans (congrArg ((prev m hO c t).2.2.1 y + ·) (off_s0 m hO c t h h2 (y 1) (y 0)).symm)
  · by_cases h2 : Two m hO t
    · rw [outsAt_eq, step_G m hO c t h0 h3 h1 h2]
      exact (congrFun (stG_s0 m hO c t h0 h3 h1 h2 _) y).trans (two_s0 m hO c t h2 y)
    · rw [outsAt_eq, step_H m hO c t h0 h3 h1 h2]
      exact (add_zero ((prev m hO c t).2.2.1 y)).symm.trans (congrArg ((prev m hO c t).2.2.1 y + ·) (off_s0 m hO c t h h2 (y 1) (y 0)).symm)

theorem acc_s0 (y : S512x768.Idx) (n : ℕ) (hn : n < (cfgM m hO).N) :
    (outsAt m hO c n hn).2.2.1 y = ∑ b ∈ Finset.range (n % 32 + 1 - 16), uQ (X0 m c) (X1 m c) (X2 m c) (XL m c) (y 1) (rowOf (n / 32) (y 0)) b :=
  sum_last _ (fun n hn => (outsAt m hO c n hn).2.2.1 y) (fun i b => uQ (X0 m c) (X1 m c) (X2 m c) (XL m c) (y 1) (rowOf i (y 0)) b)
    (fun n hn h => reset_s0 m hO c ⟨n, hn⟩ h y)
    (fun n hn h h' => (mid_s0 m hO c ⟨n + 1, hn⟩ h h' y).trans (congrArg (fun q => q.2.2.1 y) (prev_succ m hO c n hn)))
    (fun n hn h => (late_s0 m hO c ⟨n + 1, hn⟩ h y).trans (congrArg (fun q => q.2.2.1 y + _) (prev_succ m hO c n hn))) n hn

/-! ## What the last step of a block of rows writes -/

theorem out_7 (t : Fin (cfgM m hO).N) (h : t.val % 32 = 31) (y : S512x768.Idx) :
    (outsAt m hO c t.val t.isLt).1 y = ∑ b ∈ Finset.range 16, uQ (X0 m c) (X1 m c) (X2 m c) (XL m c) (y 1) (rowOf (t.val / 32) (y 0)) b := by
  have h0 : ¬cond0_0 (grid0.coords t) := fun e => by have := (hcond0_0 t).mp e; omega
  have h1 : ¬One m hO t := fun e => by have := (one_iff m hO t).mp e; omega
  have h3 : cond0_3 (grid0.coords t) := (hcond0_3 t).mpr h
  have g := acc_s0 m hO c y t.val t.isLt
  rw [show t.val % 32 + 1 - 16 = 16 by omega] at g
  rw [← g]
  by_cases h2 : Two m hO t
  · rw [outsAt_eq, step_K m hO c t h0 h3 h1 h2, stK_o7, stK_s0]
  · rw [outsAt_eq, step_L m hO c t h0 h3 h1 h2, stL_o7]
    rfl

theorem out_8 (t : Fin (cfgM m hO).N) (h : t.val % 32 = 31) (y : S6x512x128.Idx) :
    (outsAt m hO c t.val t.isLt).2.1 y = uC (X0 m c) (X1 m c) (X2 m c) (XL m c) (y 0) (rowOf (t.val / 32) (y 1)) := by
  have h0 : ¬cond0_0 (grid0.coords t) := fun e => by have := (hcond0_0 t).mp e; omega
  have h1 : ¬One m hO t := fun e => by have := (one_iff m hO t).mp e; omega
  have h3 : cond0_3 (grid0.coords t) := (hcond0_3 t).mpr h
  refine Eq.trans ?_ (prev_div m hO c (y 0) (y 1) t (by omega))
  by_cases h2 : Two m hO t
  · rw [outsAt_eq, step_K m hO c t h0 h3 h1 h2, stK_o8]
    rfl
  · rw [outsAt_eq, step_L m hO c t h0 h3 h1 h2, stL_o8]
    rfl

end Cert.DqV

end
-- ==== Proof.Dq.Arrays.lean ====
module

public import proofs.«01_k».proof.Proof.Dq.Acc
public import Idealize.ShloMosaic.Lib.Pipeline.ValueKit
public import Idealize.ShloMosaic.Lib.Pipeline.Covers

@[expose] public section

set_option maxRecDepth 16384

noncomputable section

namespace Cert.DqV

set_option maxHeartbeats 4000000

open Cert.Mem Cert.FoxV Cert.DqI Cert.Kernel28Ideal Cert.Kernel28Ideal.Gen Idealize.ShloMosaic Idealize.ShloMosaic.TcCoe Idealize.SL.Sem

variable (m : (ℓ : Loc nD τ sig) → Buf (Elt Ideal) ℓ) (hO : Ok m) (c : Dev nD)

/-! ## The two output arrays -/

theorem first_step (i : ℕ) (hi : i < 16) : ∃ t : Fin (cfgM m hO).N, qi m hO t = i :=
  ⟨⟨32 * i, Nat.lt_of_lt_of_eq (by omega : 32 * i < 512) N_0.symm⟩, by show 32 * i / 32 = i; omega⟩

theorem covers7 : ((cfgM m hO).win 7).Covers :=
  Pipeline.Window.covers_of_index_surj _ rfl (fun a => by match a with | ⟨0, _⟩ => exact (by decide : 0 < 512) | ⟨1, _⟩ => exact (by decide : 0 < 768)) fun β => by
    have h0 : (β (0 : Fin 2)).val < 16 := Nat.lt_of_lt_of_eq (show (β (0 : Fin 2)).val < (8192 + 512 - 1) / 512 from (β (0 : Fin 2)).isLt) (by decide)
    have h1 : (β (1 : Fin 2)).val < 1 := Nat.lt_of_lt_of_eq (show (β (1 : Fin 2)).val < (768 + 768 - 1) / 768 from (β (1 : Fin 2)).isLt) (by decide)
    obtain ⟨t, ht⟩ := first_step m hO (β (0 : Fin 2)).val h0
    refine ⟨t, fun a => ?_⟩
    rw [wix7]
    match a with
    | ⟨0, _⟩ => exact ht
    | ⟨1, _⟩ => show 0 = (β (1 : Fin 2)).val; omega

theorem covers8 : ((cfgM m hO).win 8).Covers :=
  Pipeline.Window.covers_of_index_surj _ rfl (fun a => by match a with | ⟨0, _⟩ => exact (by decide : 0 < 6) | ⟨1, _⟩ => exact (by decide : 0 < 512) | ⟨2, _⟩ => exact (by decide : 0 < 128)) fun β => by
    have h0 : (β (0 : Fin 3)).val < 1 := Nat.lt_of_lt_of_eq (show (β (0 : Fin 3)).val < (6 + 6 - 1) / 6 from (β (0 : Fin 3)).isLt) (by decide)
    have h1 : (β (1 : Fin 3)).val < 16 := Nat.lt_of_lt_of_eq (show (β (1 : Fin 3)).val < (8192 + 512 - 1) / 512 from (β (1 : Fin 3)).isLt) (by decide)
    have h2 : (β (2 : Fin 3)).val < 1 := Nat.lt_of_lt_of_eq (show (β (2 : Fin 3)).val < (128 + 128 - 1) / 128 from (β (2 : Fin 3)).isLt) (by decide)
    obtain ⟨t, ht⟩ := first_step m hO (β (1 : Fin 3)).val h1
    refine ⟨t, fun a => ?_⟩
    rw [wix8]
    match a with
    | ⟨0, _⟩ => show 0 = (β (0 : Fin 3)).val; omega
    | ⟨1, _⟩ => exact ht
    | ⟨2, _⟩ => show 0 = (β (2 : Fin 3)).val; omega

abbrev ODQ : Vec Ideal S8192x768 .bf16 := fun i => ∑ b ∈ Finset.range 16, uQ (X0 m c) (X1 m c) (X2 m c) (XL m c) (i 1) (i 0) b
abbrev ODD : Vec Ideal S6x8192x128 .f32 := fun i => uC (X0 m c) (X1 m c) (X2 m c) (XL m c) (i 0) (i 1)

theorem emb7 (t : Fin (cfgM m hO).N) (r : Fin 512) (d : Fin 768) :
    ((((cfgM m hO).win 7).blk t).view.emb (ix2 r d) : S8192x768.Idx) = ix2 (rowOf (qi m hO t) r) d := by
  have hk := qi_le m hO t
  refine idx_ext2 ?_ ?_
  · blk_simp [wix7 m hO t]
    rw [rowOf_val _ hk]
    omega
  · blk_simp [wix7 m hO t]

theorem arr7 : (dats m hO 0 c).arrAt 7 (cfgM m hO).N = ODQ m c := by
  refine (dats m hO 0 c).arrAt_eq_of_covers 7 _ (covers7 m hO) fun t hf (y : S512x768.Idx) => ?_
  obtain ⟨r, d, rfl⟩ : ∃ (r : Fin 512) (d : Fin 768), y = ix2 r d := ⟨y 0, y 1, eq_ix2 y⟩
  have ht : t.val % 32 = 31 := (flush0_7 _ t).mp hf
  refine Eq.trans ?_ (congrArg (ODQ m c) (emb7 m hO t r d)).symm
  refine Eq.trans ?_ (out_7 m hO c t ht (ix2 r d))
  exact congrFun (after0_7 m hO c t) (ix2 r d)

theorem emb8 (t : Fin (cfgM m hO).N) (h : Fin 6) (r : Fin 512) (l : Fin 128) :
    ((((cfgM m hO).win 8).blk t).view.emb (ix3 h r l) : S6x8192x128.Idx) = ix3 h (rowOf (qi m hO t) r) l := by
  have hk := qi_le m hO t
  refine idx_ext3 ?_ ?_ ?_
  · blk_simp [wix8 m hO t]
  · blk_simp [wix8 m hO t]
    rw [rowOf_val _ hk]
    omega
  · blk_simp [wix8 m hO t]

theorem arr8 : (dats m hO 0 c).arrAt 8 (cfgM m hO).N = ODD m c := by
  refine (dats m hO 0 c).arrAt_eq_of_covers 8 _ (covers8 m hO) fun t hf (y : S6x512x128.Idx) => ?_
  obtain ⟨h, r, l, rfl⟩ : ∃ (h : Fin 6) (r : Fin 512) (l : Fin 128), y = ix3 h r l := ⟨y 0, y 1, y 2, eq_ix3 y⟩
  have ht : t.val % 32 = 31 := (flush0_8 _ t).mp hf
  refine Eq.trans ?_ (congrArg (ODD m c) (emb8 m hO t h r l)).symm
  refine Eq.trans ?_ (out_8 m hO c t ht (ix3 h r l))
  exact congrFun (after0_8 m hO c t) (ix3 h r l)

end Cert.DqV

end
-- ==== Proof.Dq.Reference.lean ====
module

public import proofs.«01_k».proof.Proof.Fox.Results
public import proofs.«01_k».proof.Proof.Gen.Reference28Ideal.Read

@[expose] public section

set_option maxRecDepth 16384

noncomputable section

namespace Cert.DqV

set_option maxHeartbeats 1000000

open Cert.Mem Cert.FoxV Cert.Reference28Ideal Cert.Reference28Ideal.Gen Cert.Reference28Ideal.Read Idealize.ShloMosaic Idealize.ShloMosaic.TcCoe Idealize.SL.Sem

/-! ## The reference's arrays, at their entries -/

variable (x0 : Vec Ideal S8192x6144 .f32) (x1 : Vec Ideal S6x8192 .f32) (x2 : Vec Ideal S8192x768 .f32)

theorem v2_at (h : Fin 6) (q : Fin 8192) (x : Fin 128) : val_main_v2 (F := Ideal) x0 (ix3 h q x) = x0 (ix2 q (ck (colOf h x))) := by
  pointwise [val_main_v2, val_main_v1, val_main_v0, ck, colOf]
  exact congrArg x0 (congrArg (ix2 q) (Fin.ext (by show _ + (h.val * 128 + x.val) = _ + (128 * h.val + x.val); omega)))
theorem v5_at (h : Fin 6) (q : Fin 8192) (x : Fin 128) : val_main_v5 (F := Ideal) x0 (ix3 h q x) = x0 (ix2 q (cv (colOf h x))) := by
  pointwise [val_main_v5, val_main_v4, val_main_v3, cv, colOf]
  exact congrArg x0 (congrArg (ix2 q) (Fin.ext (by show _ + (h.val * 128 + x.val) = _ + (128 * h.val + x.val); omega)))
theorem v8_at (h : Fin 6) (q : Fin 8192) (x : Fin 128) : val_main_v8 (F := Ideal) x0 (ix3 h q x) = x0 (ix2 q (cq (colOf h x))) := by
  pointwise [val_main_v8, val_main_v7, val_main_v6, cq, colOf]
  exact congrArg x0 (congrArg (ix2 q) (Fin.ext (by show _ + (h.val * 128 + x.val) = _ + (128 * h.val + x.val); omega)))
theorem v55_at (h : Fin 6) (q : Fin 8192) (x : Fin 128) : val_main_v55 (F := Ideal) x2 (ix3 h q x) = x2 (ix2 q (colOf h x)) := by
  pointwise [val_main_v55, val_main_v54, colOf]
  exact congrArg x2 (congrArg (ix2 q) (Fin.ext (by show h.val * 128 + x.val = 128 * h.val + x.val; omega)))

theorem v18_at (h : Fin 6) (p q : Fin 8192) : val_main_v18 (F := Ideal) x0 x1 (ix3 h p q) = sraw x0 x1 h p q := by
  pointwise [val_main_v18, val_main_v12, val_main_v11, val_main_v10, val_main_cst, val_main_v17, val_main_v16, val_main_v15, val_main_v14, val_main_v13, v8_at, v2_at, sraw, cs]
theorem v56_at (h : Fin 6) (p q : Fin 8192) : val_main_v56 (F := Ideal) x0 x2 (ix3 h p q) = dwt x0 x2 h p q := by
  pointwise [val_main_v56, v55_at, v5_at, dwt]

/-- The mask. -/
theorem v24_1_at (h : Fin 6) (p q : Fin 8192) : val_main_v24_1 (F := Ideal) (ix3 h p q) = 1 ↔ q.val ≤ p.val := by
  have e : val_main_v24_1 (F := Ideal) (ix3 h p q) = IntOp.cmpi CmpIPredicate.sle (BitVec.ofNat 32 q.val) (BitVec.ofNat 32 p.val) := by
    pointwise [val_main_v24_1, val_main_v23, val_main_v22, val_main_v21, val_main_v20, val_main_v19, val_main_v9]
  rw [e]
  have e0 (n : Fin 8192) : (BitVec.ofNat 32 n.val).toInt = (n.val : ℤ) := by
    have := n.isLt
    rw [BitVec.toInt_eq_toNat_of_lt (by rw [BitVec.toNat_ofNat]; omega), BitVec.toNat_ofNat]
    omega
  show BitVec.ofBool (BitVec.sle _ _) = 1#1 ↔ _
  have e3 (b : Bool) : BitVec.ofBool b = 1#1 ↔ b = true := by cases b <;> decide
  rw [e3, BitVec.sle_iff_toInt_le, e0, e0]
  omega

theorem call0_v2_at (i : S6x8192x8192.Idx) : val_main_call0_v2 (F := Ideal) i = (⊥ : EReal) := (val_main_call0_v2_apply i).trans ofBits_neg_inf

theorem v24_at (h : Fin 6) (p q : Fin 8192) : val_main_v24_0 (F := Ideal) x0 x1 (ix3 h p q) = smask x0 x1 h p q := by
  rw [val_main_v24_0_apply, call0_v2_at, v18_at]
  unfold Scalar.select smask
  by_cases g : q.val ≤ p.val
  · rw [if_pos ((v24_1_at h p q).mpr g), if_pos g]
  · rw [if_neg fun e => g ((v24_1_at h p q).mp e), if_neg g]

theorem cst_1_at (i : S_.Idx) : val_main_cst_1 (F := Ideal) i = (⊥ : EReal) := ofBits_neg_inf

theorem v25_at (h : Fin 6) (p : Fin 8192) : val_main_v25 (F := Ideal) x0 x1 (ix2 h p) = tT x0 x1 h p := by
  unfold tT
  pointwise [val_main_v25, v24_at, cst_1_at]

theorem v31_at (i : S6x8192.Idx) : val_main_v31 (F := Ideal) i = (⊥ : EReal) := (val_main_v31_apply i).trans ofBits_neg_inf

theorem v32_at (h : Fin 6) (p : Fin 8192) : val_main_v32 (F := Ideal) x0 x1 (ix2 h p) = tT x0 x1 h p := by
  rw [val_main_v32_apply, v31_at, v25_at]
  exact max_eq_right bot_le

theorem v45_at (h : Fin 6) (p q : Fin 8192) : val_main_v45 (F := Ideal) x0 x1 (ix3 h p q) = tE x0 x1 h p q := by
  pointwise [val_main_v45, val_main_v44, val_main_v43, val_main_v42, v32_at, v24_at, tE]

theorem v46_at (h : Fin 6) (p : Fin 8192) : val_main_v46 (F := Ideal) x0 x1 (ix2 h p) = tN x0 x1 h p := by
  pointwise [val_main_v46, val_main_cst_9, v45_at, tN]

theorem v49_at (h : Fin 6) (p q : Fin 8192) : val_main_v49 (F := Ideal) x0 x1 (ix3 h p q) = Ideal.div (tE x0 x1 h p q) (tN x0 x1 h p) := by
  pointwise [val_main_v49, val_main_v48, val_main_v47, v46_at, v45_at]

theorem cst_10_at : val_main_cst_10 (F := Ideal) ix0 = (1 : EReal) := Ideal.ofBits_one_f32

theorem v60_at (h : Fin 6) (p : Fin 8192) : val_main_v60 (F := Ideal) x0 x1 x2 (ix2 h p) = tR x0 x1 x2 h p := by
  pointwise [val_main_v60, val_main_cst_11, val_main_v59, val_main_v58, val_main_v57, val_main_v52, val_main_v51, cst_10_at, val_main_v50, val_main_v47, v46_at, v45_at, v56_at, tR]

theorem v65_at (h : Fin 6) (p : Fin 8192) : val_main_v65 (F := Ideal) x0 x1 x2 (ix2 h p) = -tR x0 x1 x2 h p := by
  pointwise [val_main_v65, val_main_cst_12, val_main_v62, val_main_v61, v60_at, Finset.univ_unique, Finset.sum_singleton]

theorem v68_at (h : Fin 6) (p q : Fin 8192) : val_main_v68 (F := Ideal) x0 x1 x2 (ix3 h p q) = tG x0 x1 x2 h p q := by
  pointwise [val_main_v68, val_main_v67, val_main_v66, v65_at, val_main_v64, val_main_v63, val_main_v47, v46_at, v45_at, v56_at, tG]

theorem call1_v0_at (i : S6x8192x8192.Idx) : val_main_call1_v0 (F := Ideal) i = (0 : EReal) := by
  exact (val_main_call1_v0_apply i).trans Ideal.ofBits_zero_f32

theorem v69_at (h : Fin 6) (p q : Fin 8192) : val_main_v69 (F := Ideal) x0 x1 x2 (ix3 h p q) = tS x0 x1 x2 h p q := by
  rw [val_main_v69_apply, v68_at, call1_v0_at]
  unfold Scalar.select tS
  by_cases g : q.val ≤ p.val
  · rw [if_pos ((v24_1_at h p q).mpr g), if_pos g]
  · rw [if_neg fun e => g ((v24_1_at h p q).mp e), if_neg g]

/-! ## The results -/

theorem v74_at (h : Fin 6) (q : Fin 8192) (x : Fin 128) : val_main_v74 (F := Ideal) x2 (ix3 h q x) = x2 (ix2 q (colOf h x)) := by
  pointwise [val_main_v74, val_main_v73, colOf]
  exact congrArg x2 (congrArg (ix2 q) (Fin.ext (by show h.val * 128 + x.val = 128 * h.val + x.val; omega)))

theorem v53_at (h : Fin 6) (p : Fin 8192) (x : Fin 128) : val_main_v53 (F := Ideal) x0 x1 (ix3 h p x) = ∑ q, Ideal.div (tE x0 x1 h p q) (tN x0 x1 h p) * x0 (ix2 q (cv (colOf h x))) := by
  pointwise [val_main_v53, v49_at, v5_at]

theorem v76_at (h : Fin 6) (p : Fin 8192) : val_main_v76 (F := Ideal) x0 x1 x2 (ix2 h p) = ∑ x : Fin 128, x2 (ix2 p (colOf h x)) * val_main_v53 (F := Ideal) x0 x1 (ix3 h p x) := by
  pointwise [val_main_v76, val_main_cst_14, val_main_v75, v74_at]

theorem v81_at (h : Fin 6) (p : Fin 8192) (l : Fin 128) : val_main_v81 (F := Ideal) x0 x1 x2 (ix3 h p l) = ∑ x : Fin 128, x2 (ix2 p (colOf h x)) * ∑ q, Ideal.div (tE x0 x1 h p q) (tN x0 x1 h p) * x0 (ix2 q (cv (colOf h x))) := by
  have e : val_main_v81 (F := Ideal) x0 x1 x2 (ix3 h p l) = val_main_v76 (F := Ideal) x0 x1 x2 (ix2 h p) := by
    pointwise [val_main_v81, val_main_v80]
  rw [e, v76_at]
  exact Finset.sum_congr rfl fun x _ => congrArg (_ * ·) (v53_at x0 x1 h p x)

theorem v72_at (h : Fin 6) (p : Fin 8192) (x : Fin 128) : val_main_v72 (F := Ideal) x0 x1 x2 (ix3 h p x) = ∑ q, (tS x0 x1 x2 h p q * cs) * x0 (ix2 q (ck (colOf h x))) := by
  pointwise [val_main_v72, v2_at, val_main_v71, val_main_v70, val_main_cst_13, v69_at, cs]

theorem v79_eq (p : Fin 8192) (d : Fin 768) : val_main_v79 (F := Ideal) x0 x1 x2 (ix2 p d) = val_main_v72 (F := Ideal) x0 x1 x2 (ix3 (hd d) p (lo d)) := by
  pointwise [val_main_v79, val_main_v78, val_main_v77, hd, lo]

theorem v79_at (p : Fin 8192) (d : Fin 768) : val_main_v79 (F := Ideal) x0 x1 x2 (ix2 p d) = ∑ q, (tS x0 x1 x2 (hd d) p q * cs) * x0 (ix2 q (ck d)) := by
  rw [v79_eq, v72_at, colOf_hd]

end Cert.DqV

end
-- ==== Proof.Dq.Join.lean ====
module

public import proofs.«01_k».proof.Proof.Dq.Terms
public import proofs.«01_k».proof.Proof.Fox.Join

@[expose] public section

set_option maxRecDepth 16384

noncomputable section

namespace Cert.DqV

set_option maxHeartbeats 1000000

open Cert.Mem Cert.FoxV Cert.Kernel28Ideal Cert.Kernel28Ideal.Gen Idealize.ShloMosaic Idealize.ShloMosaic.TcCoe Idealize.SL.Sem

/-! ## The two forms of the queries' gradient, over reals -/

theorem sum_blocks (f : Fin 8192 → EReal) : ∑ b ∈ Finset.range 16, ∑ s : Fin 512, f (rowOf b s) = ∑ q, f q := by
  rw [sum_rows, Finset.sum_range]

section Rows

variable (x0 : Vec Ideal S8192x6144 .f32) (x1 : Vec Ideal S6x8192 .f32) (x2 : Vec Ideal S8192x768 .f32) (L : Vec Ideal S6x8192 .f32)

variable (hq : ∀ p d, ∃ r : ℝ, x0 (ix2 p (cq d)) = r) (hk : ∀ p d, ∃ r : ℝ, x0 (ix2 p (ck d)) = r) (hv : ∀ p d, ∃ r : ℝ, x0 (ix2 p (cv d)) = r)
  (hc : ∀ h p, ∃ r : ℝ, x1 (ix2 h p) = r) (ho : ∀ p d, ∃ r : ℝ, x2 (ix2 p d) = r)
  (hL : ∀ h p, L (ix2 h p) = tT x0 x1 h p + Ideal.log (tN x0 x1 h p))

include hq hk hc hL in
/-- The weights of a row add up to one. -/
theorem uS_tot (h : Fin 6) (p : Fin 8192) : ∑ b ∈ Finset.range 16, uS x0 x1 L h p b = 1 := by
  obtain ⟨e, N, hN, -, hs, -, -, hw⟩ := row_real x0 x1 L hq hk hc h p (hL h p)
  refine (sum_blocks fun q => wt x0 x1 L h p q).trans ?_
  rw [Finset.sum_congr rfl fun q _ => hw q, coe_sum, ← Finset.sum_mul, ← hs, mul_inv_cancel₀ hN.ne', EReal.coe_one]

include hq hk hc hL in
/-- So a row's correction is the sum of its weights against their cotangents. -/
theorem uC_eq (h : Fin 6) (p : Fin 8192) : uC x0 x1 x2 L h p = ∑ q, wt x0 x1 L h p q * dwt x0 x2 h p q := by
  unfold uC
  rw [uS_tot x0 x1 L hq hk hc hL h p, ← EReal.coe_one, div_real _ _ one_pos, inv_one, EReal.coe_one, mul_one]
  exact sum_blocks fun q => wt x0 x1 L h p q * dwt x0 x2 h p q

include hq hk hc hL in
theorem dq_join (p : Fin 8192) (d : Fin 768) :
    ∑ q, (tS x0 x1 x2 (hd d) p q * cs) * x0 (ix2 q (ck d)) = ∑ b ∈ Finset.range 16, uQ x0 x1 x2 L d p b := by
  obtain ⟨s, hs, hS⟩ := cs_real
  refine (sum_blocks fun q => (tS x0 x1 x2 (hd d) p q * cs) * x0 (ix2 q (ck d))).symm.trans (Finset.sum_congr rfl fun b _ => ?_)
  unfold uQ
  rw [hS, sum_mul_of_real _ _ _ hs]
  refine Finset.sum_congr rfl fun r _ => ?_
  have e : tS x0 x1 x2 (hd d) p (rowOf b r) = wt x0 x1 L (hd d) p (rowOf b r) * (dwt x0 x2 (hd d) p (rowOf b r) - uC x0 x1 x2 L (hd d) p) :=
    tS_eq x0 x1 x2 L (fun i => uC x0 x1 x2 L (i 0) (i 1)) hq hk hc hL (fun h p => uC_eq x0 x1 x2 L hq hk hc hL h p) (hd d) p (rowOf b r)
  rw [e, mul_assoc, mul_comm (s : EReal), ← mul_assoc]

include hq hk hv hc ho hL in
theorem delta_join (h : Fin 6) (p : Fin 8192) :
    ∑ x : Fin 128, x2 (ix2 p (colOf h x)) * ∑ q, Ideal.div (tE x0 x1 h p q) (tN x0 x1 h p) * x0 (ix2 q (cv (colOf h x))) = uC x0 x1 x2 L h p := by
  obtain ⟨e, N, hN, -, -, -, -, hw⟩ := row_real x0 x1 L hq hk hc h p (hL h p)
  choose a ha using fun x : Fin 128 => ho p (colOf h x)
  choose b hb using fun (q : Fin 8192) (x : Fin 128) => hv q (colOf h x)
  have l (x : Fin 128) : x2 (ix2 p (colOf h x)) * ∑ q, Ideal.div (tE x0 x1 h p q) (tN x0 x1 h p) * x0 (ix2 q (cv (colOf h x))) = ((a x * ∑ q, e q * N⁻¹ * b q x : ℝ) : EReal) := by
    rw [Finset.sum_congr rfl fun q _ => by rw [share_eq x0 x1 L hq hk hc hL, hw, hb, ← EReal.coe_mul], coe_sum, ha, ← EReal.coe_mul]
  have r (q : Fin 8192) : wt x0 x1 L h p q * dwt x0 x2 h p q = ((e q * N⁻¹ * ∑ x, a x * b q x : ℝ) : EReal) := by
    unfold dwt
    rw [Finset.sum_congr rfl fun x _ => by rw [ha, hb, ← EReal.coe_mul], coe_sum, hw, ← EReal.coe_mul]
  rw [uC_eq x0 x1 x2 L hq hk hc hL, Finset.sum_congr rfl fun x _ => l x, Finset.sum_congr rfl fun q _ => r q, coe_sum, coe_sum]
  refine congrArg _ ?_
  rw [Finset.sum_congr rfl fun x _ => Finset.mul_sum .., Finset.sum_congr rfl fun q _ => Finset.mul_sum .., Finset.sum_comm]
  exact Finset.sum_congr rfl fun q _ => Finset.sum_congr rfl fun x _ => by ring

end Rows

end Cert.DqV

end
-- ==== Proof.Dq.Final.lean ====
module

public import proofs.«01_k».proof.Defs
public import proofs.«01_k».proof.Proof.Gen.Kernel28
public import proofs.«01_k».proof.Proof.Gen.Kernel28Ideal
public import proofs.«01_k».proof.Proof.Gen.Reference28Ideal
public import proofs.«01_k».proof.Proof.Gen.Reference28Ideal.Run
public import proofs.«01_k».proof.Proof.Gen.Pre_finite27
public import proofs.«01_k».proof.Proof.Dq.FrameBits
public import proofs.«01_k».proof.Proof.Dq.TableBits
public import proofs.«01_k».proof.Proof.Dq.Arrays
public import proofs.«01_k».proof.Proof.Fox.HostAt
public import proofs.«01_k».proof.Proof.Dq.Reference
public import proofs.«01_k».proof.Proof.Dq.Join
public import proofs.«01_k».proof.Proof.Fox.Final
public import Idealize.ShloMosaic.Lib.KernelVsHost
public import Idealize.ShloMosaic.Lib.ReduceAll

@[expose] public section

set_option maxRecDepth 16384

noncomputable section

namespace Cert.Final28

open Idealize.ShloMosaic Idealize.ShloMosaic.TcCoe Idealize.SL.Sem Cert.Mem Cert.MemFinal Cert.FoxV Cert.DqV

theorem frame : Cert.quiescent_Kernel28 := fun m g _ => Cert.DqB.frame m g (Cert.DqB.ok m)
theorem frame_ideal : Cert.quiescent_Kernel28Ideal := fun m g _ => Cert.DqI.frame m g (Cert.DqV.ok m)
theorem frame_ideal_pre : Cert.quiescent_Kernel28Ideal_pre_finite27 := fun m g _ => Cert.DqI.frame m g (Cert.DqV.ok m)
theorem frame_ref : Cert.quiescent_Reference28Ideal := fun m g _ =>
  (θ_run Cert.Reference28Ideal.defs _ _).mono (fun r h => ⟨fun c => (h c).2.2, sem_eq_zero_of_no_sems (by decide) r.2⟩)
    (Cert.Reference28Ideal.Value.run (F := Ideal) m g)
theorem frame_ref_pre : Cert.quiescent_Reference28Ideal_pre_finite27 := fun m g _ => frame_ref m g trivial

theorem preserves : Cert.preserves_Kernel28_Kernel28Ideal := IdealRules.named_const.statement _ _ _ _ _ rfl

section Values

variable (m : (ℓ : Loc Cert.Kernel28Ideal.nD Cert.Kernel28Ideal.τ Cert.Kernel28Ideal.sig) → Buf (Elt Ideal) ℓ) (c : Dev Cert.Kernel28Ideal.nD)
  (hpre : Cert.Pre_finite27.fn (F := Ideal) (Cert.DqV.X0 m c) (Cert.DqV.X1 m c) (Cert.DqV.X2 m c) = fun _ => 1#1)

include hpre
theorem real_q (p : Fin 8192) (d : Fin 768) : ∃ r : ℝ, Cert.DqV.X0 m c (ix2 p (cq d)) = r := (Cert.Final27.pre_real _ _ _ hpre).1 p ⟨d.val, by omega⟩
theorem real_k (p : Fin 8192) (d : Fin 768) : ∃ r : ℝ, Cert.DqV.X0 m c (ix2 p (ck d)) = r := by
  obtain ⟨r, hr⟩ := (Cert.Final27.pre_real _ _ _ hpre).1 p ⟨768 + d.val, by omega⟩
  exact ⟨r, (congrArg (Cert.DqV.X0 m c) (congrArg (ix2 p) (Fin.ext (by show 3840 + d.val = 3072 + (768 + d.val); omega)))).trans hr⟩
theorem real_v (p : Fin 8192) (d : Fin 768) : ∃ r : ℝ, Cert.DqV.X0 m c (ix2 p (cv d)) = r := by
  obtain ⟨r, hr⟩ := (Cert.Final27.pre_real _ _ _ hpre).1 p ⟨1536 + d.val, by omega⟩
  exact ⟨r, (congrArg (Cert.DqV.X0 m c) (congrArg (ix2 p) (Fin.ext (by show 4608 + d.val = 3072 + (1536 + d.val); omega)))).trans hr⟩

theorem dq_eq : Cert.Reference28Ideal.Read.val_main_v79 (F := Ideal) (Cert.DqV.X0 m c) (Cert.DqV.X1 m c) (Cert.DqV.X2 m c) = Cert.DqV.ODQ m c := by
  funext i
  obtain ⟨p, d, rfl⟩ : ∃ (p : Fin 8192) (d : Fin 768), i = ix2 p d := ⟨i 0, i 1, eq_ix2 i⟩
  exact (Cert.DqV.v79_at _ _ _ p d).trans (dq_join _ _ _ _ (real_q m c hpre) (real_k m c hpre) (Cert.Final27.pre_real _ _ _ hpre).2.1 (hL_at _ _) p d)

theorem delta_eq : Cert.Reference28Ideal.Read.val_main_v81 (F := Ideal) (Cert.DqV.X0 m c) (Cert.DqV.X1 m c) (Cert.DqV.X2 m c) = Cert.DqV.ODD m c := by
  funext i
  obtain ⟨h, p, l, rfl⟩ : ∃ (h : Fin 6) (p : Fin 8192) (l : Fin 128), i = ix3 h p l := ⟨i 0, i 1, i 2, eq_ix3 i⟩
  exact (Cert.DqV.v81_at _ _ _ h p l).trans (delta_join _ _ _ _ (real_q m c hpre) (real_k m c hpre) (real_v m c hpre) (Cert.Final27.pre_real _ _ _ hpre).2.1 (Cert.Final27.pre_real _ _ _ hpre).2.2 (hL_at _ _) h p)

end Values

open Cert.Kernel28Ideal Cert.Kernel28Ideal.Gen in
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v39_0) = Cert.DqV.ODQ m c
      ∧ r.2.mem ((c.tc : Thread nD τ).loc main_v39_1) = Cert.DqV.ODD m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun r h c => ⟨((h.1 c).1 7).trans (Cert.DqV.arr7 m (Cert.DqV.ok m) c), ((h.1 c).1 8).trans (Cert.DqV.arr8 m (Cert.DqV.ok m) c), h.2 c⟩)
    (θ_run_and (Cert.DqI.run_main m g (Cert.DqV.ok m)) (Cert.DqI.unchanged m g (Cert.DqV.ok m)))

theorem algebraic : Cert.algebraic_Kernel28Ideal_Reference28Ideal_pre_finite27 := by
  intro m g m' g' hpre hagree
  refine ⟨fun c => Cert.DqV.ODQ m c, fun c => Cert.DqV.ODD m c, kernel_run m g, ?_⟩
  refine (θ_run Cert.Reference28Ideal.defs _ _).mono (fun r h c => ?_) (Cert.Reference28Ideal.Value.run (F := Ideal) m' g')
  obtain ⟨h79, h81, k⟩ := h c
  obtain ⟨e0, e1, e2⟩ := hagree c
  refine ⟨(h79.trans (Cert.Reference28Ideal.Read.val_main_v79_eq m' c)).trans ?_, (h81.trans (Cert.Reference28Ideal.Read.val_main_v81_eq m' c)).trans ?_, k⟩
  · rw [e0, e1, e2]; exact dq_eq m c (hpre c)
  · rw [e0, e1, e2]; exact delta_eq m c (hpre c)

end Cert.Final28

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Mem.Final
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Ffn.Dw
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Ffn.Down
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Ffn.DnU
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Ffn.Act
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Ffn.Up
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Mm.Proj
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Mm.Gate
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Mm.DwGate
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Mm.DunGate
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Mm.DwIn
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Mm.DunProj
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Mm.MixOut
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Mm.DMerged
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Mm.DwO
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Mm.HgrnOut
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Mm.FoxOut
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Mm.MemOut
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Mm.DOh
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Mm.DOm
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Mm.DwHgrn
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Mm.DwFox
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Mm.DwMem
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Mm.MemKv
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Mm.DwMemKv
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Mm.DMemn
public import proofs.«01_k».proof.Proof.Gen.Kernel27
public import proofs.«01_k».proof.Proof.Gen.Kernel27.Frame.RunF
public import proofs.«01_k».proof.Proof.Gen.Kernel27Ideal
public import proofs.«01_k».proof.Proof.Gen.Kernel27Ideal.Frame.RunF
public import proofs.«01_k».proof.Proof.Gen.Reference27Ideal
public import proofs.«01_k».proof.Proof.Gen.Reference27Ideal.Run
public import proofs.«01_k».proof.Proof.Gen.Reference27Ideal.Read
public import proofs.«01_k».proof.Proof.Gen.Pre_finite27
public import proofs.«01_k».proof.Proof.Fox.Final
public import proofs.«01_k».proof.Proof.Gen.Kernel28
public import proofs.«01_k».proof.Proof.Gen.Kernel28.Frame.RunL
public import proofs.«01_k».proof.Proof.Gen.Kernel28Ideal
public import proofs.«01_k».proof.Proof.Gen.Kernel28Ideal.Frame.RunL
public import proofs.«01_k».proof.Proof.Gen.Reference28Ideal
public import proofs.«01_k».proof.Proof.Gen.Reference28Ideal.Run
public import proofs.«01_k».proof.Proof.Gen.Reference28Ideal.Read
public import proofs.«01_k».proof.Proof.Dq.Final

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Pre_finite.Gen.facts, Cert.Pre_finite5.Gen.facts, Cert.Pre_finite27.Gen.facts,
    Cert.MemFinal.frame, Cert.MemFinal.frame_ideal, Cert.MemFinal.frame_ideal_pre, Cert.MemFinal.frame_ref, Cert.MemFinal.frame_ref_pre, Cert.Final2.frame, Cert.Final2.frame_ideal, Cert.Final2.frame_ref, Cert.Final3.frame, Cert.Final3.frame_ideal, Cert.Final3.frame_ref, Cert.Final4.frame, Cert.Final4.frame_ideal, Cert.Final4.frame_ref, Cert.Final5.frame, Cert.Final5.frame_ideal, Cert.Final5.frame_ideal_pre, Cert.Final5.frame_ref, Cert.Final5.frame_ref_pre, Cert.Final6.frame, Cert.Final6.frame_ideal, Cert.Final6.frame_ref, Cert.Final7.frame, Cert.Final7.frame_ideal, Cert.Final7.frame_ref, Cert.Final8.frame, Cert.Final8.frame_ideal, Cert.Final8.frame_ref, Cert.Final9.frame, Cert.Final9.frame_ideal, Cert.Final9.frame_ref, Cert.Final10.frame, Cert.Final10.frame_ideal, Cert.Final10.frame_ref, Cert.Final11.frame, Cert.Final11.frame_ideal, Cert.Final11.frame_ref, Cert.Final12.frame, Cert.Final12.frame_ideal, Cert.Final12.frame_ref, Cert.Final13.frame, Cert.Final13.frame_ideal, Cert.Final13.frame_ref, Cert.Final14.frame, Cert.Final14.frame_ideal, Cert.Final14.frame_ref, Cert.Final15.frame, Cert.Final15.frame_ideal, Cert.Final15.frame_ref, Cert.Final16.frame, Cert.Final16.frame_ideal, Cert.Final16.frame_ref, Cert.Final17.frame, Cert.Final17.frame_ideal, Cert.Final17.frame_ref, Cert.Final18.frame, Cert.Final18.frame_ideal, Cert.Final18.frame_ref, Cert.Final19.frame, Cert.Final19.frame_ideal, Cert.Final19.frame_ref, Cert.Final20.frame, Cert.Final20.frame_ideal, Cert.Final20.frame_ref, Cert.Final21.frame, Cert.Final21.frame_ideal, Cert.Final21.frame_ref, Cert.Final22.frame, Cert.Final22.frame_ideal, Cert.Final22.frame_ref, Cert.Final23.frame, Cert.Final23.frame_ideal, Cert.Final23.frame_ref, Cert.Final24.frame, Cert.Final24.frame_ideal, Cert.Final24.frame_ref, Cert.Final25.frame, Cert.Final25.frame_ideal, Cert.Final25.frame_ref, Cert.Final26.frame, Cert.Final26.frame_ideal, Cert.Final26.frame_ref, Cert.Final27.frame, Cert.Final27.frame_ideal, Cert.Final27.frame_ideal_pre, Cert.Final27.frame_ref, Cert.Final27.frame_ref_pre, Cert.Final28.frame, Cert.Final28.frame_ideal, Cert.Final28.frame_ideal_pre, Cert.Final28.frame_ref, Cert.Final28.frame_ref_pre,
    trivial, Cert.MemFinal.algebraic, trivial, Cert.Final2.algebraic, trivial, Cert.Final3.algebraic, trivial, Cert.Final4.algebraic, trivial, Cert.Final5.algebraic, trivial, Cert.Final6.algebraic, trivial, Cert.Final7.algebraic, trivial, Cert.Final8.algebraic, trivial, Cert.Final9.algebraic, trivial, Cert.Final10.algebraic, trivial, Cert.Final11.algebraic, trivial, Cert.Final12.algebraic, trivial, Cert.Final13.algebraic, trivial, Cert.Final14.algebraic, trivial, Cert.Final15.algebraic, trivial, Cert.Final16.algebraic, trivial, Cert.Final17.algebraic, trivial, Cert.Final18.algebraic, trivial, Cert.Final19.algebraic, trivial, Cert.Final20.algebraic, trivial, Cert.Final21.algebraic, trivial, Cert.Final22.algebraic, trivial, Cert.Final23.algebraic, trivial, Cert.Final24.algebraic, trivial, Cert.Final25.algebraic, trivial, Cert.Final26.algebraic, Cert.Final27.preserves, Cert.Final27.algebraic, Cert.Final28.preserves, Cert.Final28.algebraic⟩

end Cert.Proof

end
